-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2RefIdeal (m : (ℓ : Loc Cert.Dw2RefIdeal.nD Cert.Dw2RefIdeal.τ Cert.Dw2RefIdeal.sig) → Buf (Elt Ideal) ℓ) : Prop :=
  True

def Pre_Dw1 (m : (ℓ : Loc Cert.Dw1.nD Cert.Dw1.τ Cert.Dw1.sig) → Buf (Elt Bits) ℓ) : Prop :=
  True

def Pre_Dw1Ideal (m : (ℓ : Loc Cert.Dw1Ideal.nD Cert.Dw1Ideal.τ Cert.Dw1Ideal.sig) → Buf (Elt Ideal) ℓ) : Prop :=
  True

def Pre_Dw1RefIdeal (m : (ℓ : Loc Cert.Dw1RefIdeal.nD Cert.Dw1RefIdeal.τ Cert.Dw1RefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def Pre_DmixAtt (m : (ℓ : Loc Cert.DmixAtt.nD Cert.DmixAtt.τ Cert.DmixAtt.sig) → Buf (Elt Bits) ℓ) : Prop :=
  True

def Pre_DmixAttIdeal (m : (ℓ : Loc Cert.DmixAttIdeal.nD Cert.DmixAttIdeal.τ Cert.DmixAttIdeal.sig) → Buf (Elt Ideal) ℓ) : Prop :=
  True

def Pre_DmixAttRefIdeal (m : (ℓ : Loc Cert.DmixAttRefIdeal.nD Cert.DmixAttRefIdeal.τ Cert.DmixAttRefIdeal.sig) → Buf (Elt Ideal) ℓ) : Prop :=
  True

def Pre_DmixPool (m : (ℓ : Loc Cert.DmixPool.nD Cert.DmixPool.τ Cert.DmixPool.sig) → Buf (Elt Bits) ℓ) : Prop :=
  True

def Pre_DmixPoolIdeal (m : (ℓ : Loc Cert.DmixPoolIdeal.nD Cert.DmixPoolIdeal.τ Cert.DmixPoolIdeal.sig) → Buf (Elt Ideal) ℓ) : Prop :=
  True

def Pre_DmixPoolRefIdeal (m : (ℓ : Loc Cert.DmixPoolRefIdeal.nD Cert.DmixPoolRefIdeal.τ Cert.DmixPoolRefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1RefIdeal (m : (ℓ : Loc Cert.Ff1RefIdeal.nD Cert.Ff1RefIdeal.τ Cert.Ff1RefIdeal.sig) → Buf (Elt Ideal) ℓ) : Prop :=
  True

def Pre_Upool (m : (ℓ : Loc Cert.Upool.nD Cert.Upool.τ Cert.Upool.sig) → Buf (Elt Bits) ℓ) : Prop :=
  True

def Pre_UpoolIdeal (m : (ℓ : Loc Cert.UpoolIdeal.nD Cert.UpoolIdeal.τ Cert.UpoolIdeal.sig) → Buf (Elt Ideal) ℓ) : Prop :=
  True

def Pre_UpoolRefIdeal (m : (ℓ : Loc Cert.UpoolRefIdeal.nD Cert.UpoolRefIdeal.τ Cert.UpoolRefIdeal.sig) → Buf (Elt Ideal) ℓ) : Prop :=
  True

def Pre_Uqkv (m : (ℓ : Loc Cert.Uqkv.nD Cert.Uqkv.τ Cert.Uqkv.sig) → Buf (Elt Bits) ℓ) : Prop :=
  True

def Pre_UqkvIdeal (m : (ℓ : Loc Cert.UqkvIdeal.nD Cert.UqkvIdeal.τ Cert.UqkvIdeal.sig) → Buf (Elt Ideal) ℓ) : Prop :=
  True

def Pre_UqkvRefIdeal (m : (ℓ : Loc Cert.UqkvRefIdeal.nD Cert.UqkvRefIdeal.τ Cert.UqkvRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_LnIn (m : (ℓ : Loc Cert.LnIn.nD Cert.LnIn.τ Cert.LnIn.sig) → Buf (Elt Bits) ℓ) : Prop :=
  True

def Pre_LnInIdeal (m : (ℓ : Loc Cert.LnInIdeal.nD Cert.LnInIdeal.τ Cert.LnInIdeal.sig) → Buf (Elt Ideal) ℓ) : Prop :=
  True

def Pre_LnInRefIdeal (m : (ℓ : Loc Cert.LnInRefIdeal.nD Cert.LnInRefIdeal.τ Cert.LnInRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2Ideal_ff2_finite [hPre_ff2_finite : Cert.Pre_ff2_finite.Facts] (m : (ℓ : Loc Cert.Ff2Ideal.nD Cert.Ff2Ideal.τ Cert.Ff2Ideal.sig) → Buf (Elt Ideal) ℓ) : Prop :=
  ∀ c : Dev Cert.Ff2Ideal.nD,
    (Cert.Pre_ff2_finite.fn (F := Ideal) (m ((c.tc : Thread Cert.Ff2Ideal.nD Cert.Ff2Ideal.τ).loc Cert.Ff2Ideal.main_arg0)) (m ((c.tc : Thread Cert.Ff2Ideal.nD Cert.Ff2Ideal.τ).loc Cert.Ff2Ideal.main_arg1)) (m ((c.tc : Thread Cert.Ff2Ideal.nD Cert.Ff2Ideal.τ).loc Cert.Ff2Ideal.main_arg2)) (m ((c.tc : Thread Cert.Ff2Ideal.nD Cert.Ff2Ideal.τ).loc Cert.Ff2Ideal.main_arg3)) (m ((c.tc : Thread Cert.Ff2Ideal.nD Cert.Ff2Ideal.τ).loc Cert.Ff2Ideal.main_arg4)) (m ((c.tc : Thread Cert.Ff2Ideal.nD Cert.Ff2Ideal.τ).loc Cert.Ff2Ideal.main_arg5)) (m ((c.tc : Thread Cert.Ff2Ideal.nD Cert.Ff2Ideal.τ).loc Cert.Ff2Ideal.main_arg6))) = (fun _ => 1#1)

def Pre_Ff2RefIdeal (m : (ℓ : Loc Cert.Ff2RefIdeal.nD Cert.Ff2RefIdeal.τ Cert.Ff2RefIdeal.sig) → Buf (Elt Ideal) ℓ) : Prop :=
  True

def Pre_Ff2RefIdeal_ff2_finite [hPre_ff2_finite : Cert.Pre_ff2_finite.Facts] (m : (ℓ : Loc Cert.Ff2RefIdeal.nD Cert.Ff2RefIdeal.τ Cert.Ff2RefIdeal.sig) → Buf (Elt Ideal) ℓ) : Prop :=
  ∀ c : Dev Cert.Ff2RefIdeal.nD,
    (Cert.Pre_ff2_finite.fn (F := Ideal) (m ((c.tc : Thread Cert.Ff2RefIdeal.nD Cert.Ff2RefIdeal.τ).loc Cert.Ff2RefIdeal.main_arg0)) (m ((c.tc : Thread Cert.Ff2RefIdeal.nD Cert.Ff2RefIdeal.τ).loc Cert.Ff2RefIdeal.main_arg1)) (m ((c.tc : Thread Cert.Ff2RefIdeal.nD Cert.Ff2RefIdeal.τ).loc Cert.Ff2RefIdeal.main_arg2)) (m ((c.tc : Thread Cert.Ff2RefIdeal.nD Cert.Ff2RefIdeal.τ).loc Cert.Ff2RefIdeal.main_arg3)) (m ((c.tc : Thread Cert.Ff2RefIdeal.nD Cert.Ff2RefIdeal.τ).loc Cert.Ff2RefIdeal.main_arg4)) (m ((c.tc : Thread Cert.Ff2RefIdeal.nD Cert.Ff2RefIdeal.τ).loc Cert.Ff2RefIdeal.main_arg5)) (m ((c.tc : Thread Cert.Ff2RefIdeal.nD Cert.Ff2RefIdeal.τ).loc Cert.Ff2RefIdeal.main_arg6))) = (fun _ => 1#1)

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_Dh1Ideal_dh1_finite [hPre_dh1_finite : Cert.Pre_dh1_finite.Facts] (m : (ℓ : Loc Cert.Dh1Ideal.nD Cert.Dh1Ideal.τ Cert.Dh1Ideal.sig) → Buf (Elt Ideal) ℓ) : Prop :=
  ∀ c : Dev Cert.Dh1Ideal.nD,
    (Cert.Pre_dh1_finite.fn (F := Ideal) (m ((c.tc : Thread Cert.Dh1Ideal.nD Cert.Dh1Ideal.τ).loc Cert.Dh1Ideal.main_arg0)) (m ((c.tc : Thread Cert.Dh1Ideal.nD Cert.Dh1Ideal.τ).loc Cert.Dh1Ideal.main_arg1)) (m ((c.tc : Thread Cert.Dh1Ideal.nD Cert.Dh1Ideal.τ).loc Cert.Dh1Ideal.main_arg2)) (m ((c.tc : Thread Cert.Dh1Ideal.nD Cert.Dh1Ideal.τ).loc Cert.Dh1Ideal.main_arg3)) (m ((c.tc : Thread Cert.Dh1Ideal.nD Cert.Dh1Ideal.τ).loc Cert.Dh1Ideal.main_arg4))) = (fun _ => 1#1)

def Pre_Dh1RefIdeal (m : (ℓ : Loc Cert.Dh1RefIdeal.nD Cert.Dh1RefIdeal.τ Cert.Dh1RefIdeal.sig) → Buf (Elt Ideal) ℓ) : Prop :=
  True

def Pre_Dh1RefIdeal_dh1_finite [hPre_dh1_finite : Cert.Pre_dh1_finite.Facts] (m : (ℓ : Loc Cert.Dh1RefIdeal.nD Cert.Dh1RefIdeal.τ Cert.Dh1RefIdeal.sig) → Buf (Elt Ideal) ℓ) : Prop :=
  ∀ c : Dev Cert.Dh1RefIdeal.nD,
    (Cert.Pre_dh1_finite.fn (F := Ideal) (m ((c.tc : Thread Cert.Dh1RefIdeal.nD Cert.Dh1RefIdeal.τ).loc Cert.Dh1RefIdeal.main_arg0)) (m ((c.tc : Thread Cert.Dh1RefIdeal.nD Cert.Dh1RefIdeal.τ).loc Cert.Dh1RefIdeal.main_arg1)) (m ((c.tc : Thread Cert.Dh1RefIdeal.nD Cert.Dh1RefIdeal.τ).loc Cert.Dh1RefIdeal.main_arg2)) (m ((c.tc : Thread Cert.Dh1RefIdeal.nD Cert.Dh1RefIdeal.τ).loc Cert.Dh1RefIdeal.main_arg3)) (m ((c.tc : Thread Cert.Dh1RefIdeal.nD Cert.Dh1RefIdeal.τ).loc Cert.Dh1RefIdeal.main_arg4))) = (fun _ => 1#1)

def Pre_Dh0 (m : (ℓ : Loc Cert.Dh0.nD Cert.Dh0.τ Cert.Dh0.sig) → Buf (Elt Bits) ℓ) : Prop :=
  True

def Pre_Dh0Ideal (m : (ℓ : Loc Cert.Dh0Ideal.nD Cert.Dh0Ideal.τ Cert.Dh0Ideal.sig) → Buf (Elt Ideal) ℓ) : Prop :=
  True

def Pre_Dh0Ideal_dh0_finite [hPre_dh0_finite : Cert.Pre_dh0_finite.Facts] (m : (ℓ : Loc Cert.Dh0Ideal.nD Cert.Dh0Ideal.τ Cert.Dh0Ideal.sig) → Buf (Elt Ideal) ℓ) : Prop :=
  ∀ c : Dev Cert.Dh0Ideal.nD,
    (Cert.Pre_dh0_finite.fn (F := Ideal) (m ((c.tc : Thread Cert.Dh0Ideal.nD Cert.Dh0Ideal.τ).loc Cert.Dh0Ideal.main_arg0)) (m ((c.tc : Thread Cert.Dh0Ideal.nD Cert.Dh0Ideal.τ).loc Cert.Dh0Ideal.main_arg1)) (m ((c.tc : Thread Cert.Dh0Ideal.nD Cert.Dh0Ideal.τ).loc Cert.Dh0Ideal.main_arg2)) (m ((c.tc : Thread Cert.Dh0Ideal.nD Cert.Dh0Ideal.τ).loc Cert.Dh0Ideal.main_arg3)) (m ((c.tc : Thread Cert.Dh0Ideal.nD Cert.Dh0Ideal.τ).loc Cert.Dh0Ideal.main_arg4))) = (fun _ => 1#1)

def Pre_Dh0RefIdeal (m : (ℓ : Loc Cert.Dh0RefIdeal.nD Cert.Dh0RefIdeal.τ Cert.Dh0RefIdeal.sig) → Buf (Elt Ideal) ℓ) : Prop :=
  True

def Pre_Dh0RefIdeal_dh0_finite [hPre_dh0_finite : Cert.Pre_dh0_finite.Facts] (m : (ℓ : Loc Cert.Dh0RefIdeal.nD Cert.Dh0RefIdeal.τ Cert.Dh0RefIdeal.sig) → Buf (Elt Ideal) ℓ) : Prop :=
  ∀ c : Dev Cert.Dh0RefIdeal.nD,
    (Cert.Pre_dh0_finite.fn (F := Ideal) (m ((c.tc : Thread Cert.Dh0RefIdeal.nD Cert.Dh0RefIdeal.τ).loc Cert.Dh0RefIdeal.main_arg0)) (m ((c.tc : Thread Cert.Dh0RefIdeal.nD Cert.Dh0RefIdeal.τ).loc Cert.Dh0RefIdeal.main_arg1)) (m ((c.tc : Thread Cert.Dh0RefIdeal.nD Cert.Dh0RefIdeal.τ).loc Cert.Dh0RefIdeal.main_arg2)) (m ((c.tc : Thread Cert.Dh0RefIdeal.nD Cert.Dh0RefIdeal.τ).loc Cert.Dh0RefIdeal.main_arg3)) (m ((c.tc : Thread Cert.Dh0RefIdeal.nD Cert.Dh0RefIdeal.τ).loc Cert.Dh0RefIdeal.main_arg4))) = (fun _ => 1#1)

def Pre_RsFf1 [hPre_rs_ff1_slot : Cert.Pre_rs_ff1_slot.Facts] (m : (ℓ : Loc Cert.RsFf1.nD Cert.RsFf1.τ Cert.RsFf1.sig) → Buf (Elt Bits) ℓ) : Prop :=
  ∀ c : Dev Cert.RsFf1.nD,
    (Cert.Pre_rs_ff1_slot.fn (F := Bits) (m ((c.tc : Thread Cert.RsFf1.nD Cert.RsFf1.τ).loc Cert.RsFf1.main_arg0)) (m ((c.tc : Thread Cert.RsFf1.nD Cert.RsFf1.τ).loc Cert.RsFf1.main_arg1)) (m ((c.tc : Thread Cert.RsFf1.nD Cert.RsFf1.τ).loc Cert.RsFf1.main_arg2)) (m ((c.tc : Thread Cert.RsFf1.nD Cert.RsFf1.τ).loc Cert.RsFf1.main_arg3)) (m ((c.tc : Thread Cert.RsFf1.nD Cert.RsFf1.τ).loc Cert.RsFf1.main_arg4)) (m ((c.tc : Thread Cert.RsFf1.nD Cert.RsFf1.τ).loc Cert.RsFf1.main_arg5)) (m ((c.tc : Thread Cert.RsFf1.nD Cert.RsFf1.τ).loc Cert.RsFf1.main_arg6))) = (fun _ => 1#1)

def Pre_RsFf1Ideal [hPre_rs_ff1_slot : Cert.Pre_rs_ff1_slot.Facts] (m : (ℓ : Loc Cert.RsFf1Ideal.nD Cert.RsFf1Ideal.τ Cert.RsFf1Ideal.sig) → Buf (Elt Ideal) ℓ) : Prop :=
  ∀ c : Dev Cert.RsFf1Ideal.nD,
    (Cert.Pre_rs_ff1_slot.fn (F := Ideal) (m ((c.tc : Thread Cert.RsFf1Ideal.nD Cert.RsFf1Ideal.τ).loc Cert.RsFf1Ideal.main_arg0)) (m ((c.tc : Thread Cert.RsFf1Ideal.nD Cert.RsFf1Ideal.τ).loc Cert.RsFf1Ideal.main_arg1)) (m ((c.tc : Thread Cert.RsFf1Ideal.nD Cert.RsFf1Ideal.τ).loc Cert.RsFf1Ideal.main_arg2)) (m ((c.tc : Thread Cert.RsFf1Ideal.nD Cert.RsFf1Ideal.τ).loc Cert.RsFf1Ideal.main_arg3)) (m ((c.tc : Thread Cert.RsFf1Ideal.nD Cert.RsFf1Ideal.τ).loc Cert.RsFf1Ideal.main_arg4)) (m ((c.tc : Thread Cert.RsFf1Ideal.nD Cert.RsFf1Ideal.τ).loc Cert.RsFf1Ideal.main_arg5)) (m ((c.tc : Thread Cert.RsFf1Ideal.nD Cert.RsFf1Ideal.τ).loc Cert.RsFf1Ideal.main_arg6))) = (fun _ => 1#1)

def Pre_RsFf1RefIdeal (m : (ℓ : Loc Cert.RsFf1RefIdeal.nD Cert.RsFf1RefIdeal.τ Cert.RsFf1RefIdeal.sig) → Buf (Elt Ideal) ℓ) : Prop :=
  True

def Pre_RsFf1RefIdeal_rs_ff1_slot [hPre_rs_ff1_slot : Cert.Pre_rs_ff1_slot.Facts] (m : (ℓ : Loc Cert.RsFf1RefIdeal.nD Cert.RsFf1RefIdeal.τ Cert.RsFf1RefIdeal.sig) → Buf (Elt Ideal) ℓ) : Prop :=
  ∀ c : Dev Cert.RsFf1RefIdeal.nD,
    (Cert.Pre_rs_ff1_slot.fn (F := Ideal) (m ((c.tc : Thread Cert.RsFf1RefIdeal.nD Cert.RsFf1RefIdeal.τ).loc Cert.RsFf1RefIdeal.main_arg0)) (m ((c.tc : Thread Cert.RsFf1RefIdeal.nD Cert.RsFf1RefIdeal.τ).loc Cert.RsFf1RefIdeal.main_arg1)) (m ((c.tc : Thread Cert.RsFf1RefIdeal.nD Cert.RsFf1RefIdeal.τ).loc Cert.RsFf1RefIdeal.main_arg2)) (m ((c.tc : Thread Cert.RsFf1RefIdeal.nD Cert.RsFf1RefIdeal.τ).loc Cert.RsFf1RefIdeal.main_arg3)) (m ((c.tc : Thread Cert.RsFf1RefIdeal.nD Cert.RsFf1RefIdeal.τ).loc Cert.RsFf1RefIdeal.main_arg4)) (m ((c.tc : Thread Cert.RsFf1RefIdeal.nD Cert.RsFf1RefIdeal.τ).loc Cert.RsFf1RefIdeal.main_arg5)) (m ((c.tc : Thread Cert.RsFf1RefIdeal.nD Cert.RsFf1RefIdeal.τ).loc Cert.RsFf1RefIdeal.main_arg6))) = (fun _ => 1#1)

def Pre_RsFf2 [hPre_rs_ff2_slot : Cert.Pre_rs_ff2_slot.Facts] (m : (ℓ : Loc Cert.RsFf2.nD Cert.RsFf2.τ Cert.RsFf2.sig) → Buf (Elt Bits) ℓ) : Prop :=
  ∀ c : Dev Cert.RsFf2.nD,
    (Cert.Pre_rs_ff2_slot.fn (F := Bits) (m ((c.tc : Thread Cert.RsFf2.nD Cert.RsFf2.τ).loc Cert.RsFf2.main_arg0)) (m ((c.tc : Thread Cert.RsFf2.nD Cert.RsFf2.τ).loc Cert.RsFf2.main_arg1)) (m ((c.tc : Thread Cert.RsFf2.nD Cert.RsFf2.τ).loc Cert.RsFf2.main_arg2)) (m ((c.tc : Thread Cert.RsFf2.nD Cert.RsFf2.τ).loc Cert.RsFf2.main_arg3)) (m ((c.tc : Thread Cert.RsFf2.nD Cert.RsFf2.τ).loc Cert.RsFf2.main_arg4)) (m ((c.tc : Thread Cert.RsFf2.nD Cert.RsFf2.τ).loc Cert.RsFf2.main_arg5)) (m ((c.tc : Thread Cert.RsFf2.nD Cert.RsFf2.τ).loc Cert.RsFf2.main_arg6))) = (fun _ => 1#1)

def Pre_RsFf2Ideal [hPre_rs_ff2_slot : Cert.Pre_rs_ff2_slot.Facts] (m : (ℓ : Loc Cert.RsFf2Ideal.nD Cert.RsFf2Ideal.τ Cert.RsFf2Ideal.sig) → Buf (Elt Ideal) ℓ) : Prop :=
  ∀ c : Dev Cert.RsFf2Ideal.nD,
    (Cert.Pre_rs_ff2_slot.fn (F := Ideal) (m ((c.tc : Thread Cert.RsFf2Ideal.nD Cert.RsFf2Ideal.τ).loc Cert.RsFf2Ideal.main_arg0)) (m ((c.tc : Thread Cert.RsFf2Ideal.nD Cert.RsFf2Ideal.τ).loc Cert.RsFf2Ideal.main_arg1)) (m ((c.tc : Thread Cert.RsFf2Ideal.nD Cert.RsFf2Ideal.τ).loc Cert.RsFf2Ideal.main_arg2)) (m ((c.tc : Thread Cert.RsFf2Ideal.nD Cert.RsFf2Ideal.τ).loc Cert.RsFf2Ideal.main_arg3)) (m ((c.tc : Thread Cert.RsFf2Ideal.nD Cert.RsFf2Ideal.τ).loc Cert.RsFf2Ideal.main_arg4)) (m ((c.tc : Thread Cert.RsFf2Ideal.nD Cert.RsFf2Ideal.τ).loc Cert.RsFf2Ideal.main_arg5)) (m ((c.tc : Thread Cert.RsFf2Ideal.nD Cert.RsFf2Ideal.τ).loc Cert.RsFf2Ideal.main_arg6))) = (fun _ => 1#1)

def Pre_RsFf2RefIdeal (m : (ℓ : Loc Cert.RsFf2RefIdeal.nD Cert.RsFf2RefIdeal.τ Cert.RsFf2RefIdeal.sig) → Buf (Elt Ideal) ℓ) : Prop :=
  True

def Pre_RsFf2RefIdeal_rs_ff2_slot [hPre_rs_ff2_slot : Cert.Pre_rs_ff2_slot.Facts] (m : (ℓ : Loc Cert.RsFf2RefIdeal.nD Cert.RsFf2RefIdeal.τ Cert.RsFf2RefIdeal.sig) → Buf (Elt Ideal) ℓ) : Prop :=
  ∀ c : Dev Cert.RsFf2RefIdeal.nD,
    (Cert.Pre_rs_ff2_slot.fn (F := Ideal) (m ((c.tc : Thread Cert.RsFf2RefIdeal.nD Cert.RsFf2RefIdeal.τ).loc Cert.RsFf2RefIdeal.main_arg0)) (m ((c.tc : Thread Cert.RsFf2RefIdeal.nD Cert.RsFf2RefIdeal.τ).loc Cert.RsFf2RefIdeal.main_arg1)) (m ((c.tc : Thread Cert.RsFf2RefIdeal.nD Cert.RsFf2RefIdeal.τ).loc Cert.RsFf2RefIdeal.main_arg2)) (m ((c.tc : Thread Cert.RsFf2RefIdeal.nD Cert.RsFf2RefIdeal.τ).loc Cert.RsFf2RefIdeal.main_arg3)) (m ((c.tc : Thread Cert.RsFf2RefIdeal.nD Cert.RsFf2RefIdeal.τ).loc Cert.RsFf2RefIdeal.main_arg4)) (m ((c.tc : Thread Cert.RsFf2RefIdeal.nD Cert.RsFf2RefIdeal.τ).loc Cert.RsFf2RefIdeal.main_arg5)) (m ((c.tc : Thread Cert.RsFf2RefIdeal.nD Cert.RsFf2RefIdeal.τ).loc Cert.RsFf2RefIdeal.main_arg6))) = (fun _ => 1#1)

def Pre_RsOut [hPre_rs_out_slot : Cert.Pre_rs_out_slot.Facts] (m : (ℓ : Loc Cert.RsOut.nD Cert.RsOut.τ Cert.RsOut.sig) → Buf (Elt Bits) ℓ) : Prop :=
  ∀ c : Dev Cert.RsOut.nD,
    (Cert.Pre_rs_out_slot.fn (F := Bits) (m ((c.tc : Thread Cert.RsOut.nD Cert.RsOut.τ).loc Cert.RsOut.main_arg0)) (m ((c.tc : Thread Cert.RsOut.nD Cert.RsOut.τ).loc Cert.RsOut.main_arg1)) (m ((c.tc : Thread Cert.RsOut.nD Cert.RsOut.τ).loc Cert.RsOut.main_arg2)) (m ((c.tc : Thread Cert.RsOut.nD Cert.RsOut.τ).loc Cert.RsOut.main_arg3)) (m ((c.tc : Thread Cert.RsOut.nD Cert.RsOut.τ).loc Cert.RsOut.main_arg4)) (m ((c.tc : Thread Cert.RsOut.nD Cert.RsOut.τ).loc Cert.RsOut.main_arg5)) (m ((c.tc : Thread Cert.RsOut.nD Cert.RsOut.τ).loc Cert.RsOut.main_arg6))) = (fun _ => 1#1)

def Pre_RsOutIdeal [hPre_rs_out_slot : Cert.Pre_rs_out_slot.Facts] (m : (ℓ : Loc Cert.RsOutIdeal.nD Cert.RsOutIdeal.τ Cert.RsOutIdeal.sig) → Buf (Elt Ideal) ℓ) : Prop :=
  ∀ c : Dev Cert.RsOutIdeal.nD,
    (Cert.Pre_rs_out_slot.fn (F := Ideal) (m ((c.tc : Thread Cert.RsOutIdeal.nD Cert.RsOutIdeal.τ).loc Cert.RsOutIdeal.main_arg0)) (m ((c.tc : Thread Cert.RsOutIdeal.nD Cert.RsOutIdeal.τ).loc Cert.RsOutIdeal.main_arg1)) (m ((c.tc : Thread Cert.RsOutIdeal.nD Cert.RsOutIdeal.τ).loc Cert.RsOutIdeal.main_arg2)) (m ((c.tc : Thread Cert.RsOutIdeal.nD Cert.RsOutIdeal.τ).loc Cert.RsOutIdeal.main_arg3)) (m ((c.tc : Thread Cert.RsOutIdeal.nD Cert.RsOutIdeal.τ).loc Cert.RsOutIdeal.main_arg4)) (m ((c.tc : Thread Cert.RsOutIdeal.nD Cert.RsOutIdeal.τ).loc Cert.RsOutIdeal.main_arg5)) (m ((c.tc : Thread Cert.RsOutIdeal.nD Cert.RsOutIdeal.τ).loc Cert.RsOutIdeal.main_arg6))) = (fun _ => 1#1)

def Pre_RsOutRefIdeal (m : (ℓ : Loc Cert.RsOutRefIdeal.nD Cert.RsOutRefIdeal.τ Cert.RsOutRefIdeal.sig) → Buf (Elt Ideal) ℓ) : Prop :=
  True

def Pre_RsOutRefIdeal_rs_out_slot [hPre_rs_out_slot : Cert.Pre_rs_out_slot.Facts] (m : (ℓ : Loc Cert.RsOutRefIdeal.nD Cert.RsOutRefIdeal.τ Cert.RsOutRefIdeal.sig) → Buf (Elt Ideal) ℓ) : Prop :=
  ∀ c : Dev Cert.RsOutRefIdeal.nD,
    (Cert.Pre_rs_out_slot.fn (F := Ideal) (m ((c.tc : Thread Cert.RsOutRefIdeal.nD Cert.RsOutRefIdeal.τ).loc Cert.RsOutRefIdeal.main_arg0)) (m ((c.tc : Thread Cert.RsOutRefIdeal.nD Cert.RsOutRefIdeal.τ).loc Cert.RsOutRefIdeal.main_arg1)) (m ((c.tc : Thread Cert.RsOutRefIdeal.nD Cert.RsOutRefIdeal.τ).loc Cert.RsOutRefIdeal.main_arg2)) (m ((c.tc : Thread Cert.RsOutRefIdeal.nD Cert.RsOutRefIdeal.τ).loc Cert.RsOutRefIdeal.main_arg3)) (m ((c.tc : Thread Cert.RsOutRefIdeal.nD Cert.RsOutRefIdeal.τ).loc Cert.RsOutRefIdeal.main_arg4)) (m ((c.tc : Thread Cert.RsOutRefIdeal.nD Cert.RsOutRefIdeal.τ).loc Cert.RsOutRefIdeal.main_arg5)) (m ((c.tc : Thread Cert.RsOutRefIdeal.nD Cert.RsOutRefIdeal.τ).loc Cert.RsOutRefIdeal.main_arg6))) = (fun _ => 1#1)

def Pre_RsIn [hPre_rs_inp_slot : Cert.Pre_rs_inp_slot.Facts] (m : (ℓ : Loc Cert.RsIn.nD Cert.RsIn.τ Cert.RsIn.sig) → Buf (Elt Bits) ℓ) : Prop :=
  ∀ c : Dev Cert.RsIn.nD,
    (Cert.Pre_rs_inp_slot.fn (F := Bits) (m ((c.tc : Thread Cert.RsIn.nD Cert.RsIn.τ).loc Cert.RsIn.main_arg0)) (m ((c.tc : Thread Cert.RsIn.nD Cert.RsIn.τ).loc Cert.RsIn.main_arg1)) (m ((c.tc : Thread Cert.RsIn.nD Cert.RsIn.τ).loc Cert.RsIn.main_arg2)) (m ((c.tc : Thread Cert.RsIn.nD Cert.RsIn.τ).loc Cert.RsIn.main_arg3)) (m ((c.tc : Thread Cert.RsIn.nD Cert.RsIn.τ).loc Cert.RsIn.main_arg4)) (m ((c.tc : Thread Cert.RsIn.nD Cert.RsIn.τ).loc Cert.RsIn.main_arg5)) (m ((c.tc : Thread Cert.RsIn.nD Cert.RsIn.τ).loc Cert.RsIn.main_arg6))) = (fun _ => 1#1)

def Pre_RsInIdeal [hPre_rs_inp_slot : Cert.Pre_rs_inp_slot.Facts] (m : (ℓ : Loc Cert.RsInIdeal.nD Cert.RsInIdeal.τ Cert.RsInIdeal.sig) → Buf (Elt Ideal) ℓ) : Prop :=
  ∀ c : Dev Cert.RsInIdeal.nD,
    (Cert.Pre_rs_inp_slot.fn (F := Ideal) (m ((c.tc : Thread Cert.RsInIdeal.nD Cert.RsInIdeal.τ).loc Cert.RsInIdeal.main_arg0)) (m ((c.tc : Thread Cert.RsInIdeal.nD Cert.RsInIdeal.τ).loc Cert.RsInIdeal.main_arg1)) (m ((c.tc : Thread Cert.RsInIdeal.nD Cert.RsInIdeal.τ).loc Cert.RsInIdeal.main_arg2)) (m ((c.tc : Thread Cert.RsInIdeal.nD Cert.RsInIdeal.τ).loc Cert.RsInIdeal.main_arg3)) (m ((c.tc : Thread Cert.RsInIdeal.nD Cert.RsInIdeal.τ).loc Cert.RsInIdeal.main_arg4)) (m ((c.tc : Thread Cert.RsInIdeal.nD Cert.RsInIdeal.τ).loc Cert.RsInIdeal.main_arg5)) (m ((c.tc : Thread Cert.RsInIdeal.nD Cert.RsInIdeal.τ).loc Cert.RsInIdeal.main_arg6))) = (fun _ => 1#1)

def Pre_RsInRefIdeal (m : (ℓ : Loc Cert.RsInRefIdeal.nD Cert.RsInRefIdeal.τ Cert.RsInRefIdeal.sig) → Buf (Elt Ideal) ℓ) : Prop :=
  True

def Pre_RsInRefIdeal_rs_inp_slot [hPre_rs_inp_slot : Cert.Pre_rs_inp_slot.Facts] (m : (ℓ : Loc Cert.RsInRefIdeal.nD Cert.RsInRefIdeal.τ Cert.RsInRefIdeal.sig) → Buf (Elt Ideal) ℓ) : Prop :=
  ∀ c : Dev Cert.RsInRefIdeal.nD,
    (Cert.Pre_rs_inp_slot.fn (F := Ideal) (m ((c.tc : Thread Cert.RsInRefIdeal.nD Cert.RsInRefIdeal.τ).loc Cert.RsInRefIdeal.main_arg0)) (m ((c.tc : Thread Cert.RsInRefIdeal.nD Cert.RsInRefIdeal.τ).loc Cert.RsInRefIdeal.main_arg1)) (m ((c.tc : Thread Cert.RsInRefIdeal.nD Cert.RsInRefIdeal.τ).loc Cert.RsInRefIdeal.main_arg2)) (m ((c.tc : Thread Cert.RsInRefIdeal.nD Cert.RsInRefIdeal.τ).loc Cert.RsInRefIdeal.main_arg3)) (m ((c.tc : Thread Cert.RsInRefIdeal.nD Cert.RsInRefIdeal.τ).loc Cert.RsInRefIdeal.main_arg4)) (m ((c.tc : Thread Cert.RsInRefIdeal.nD Cert.RsInRefIdeal.τ).loc Cert.RsInRefIdeal.main_arg5)) (m ((c.tc : Thread Cert.RsInRefIdeal.nD Cert.RsInRefIdeal.τ).loc Cert.RsInRefIdeal.main_arg6))) = (fun _ => 1#1)

def Pre_RsPool [hPre_rs_pool_slot : Cert.Pre_rs_pool_slot.Facts] (m : (ℓ : Loc Cert.RsPool.nD Cert.RsPool.τ Cert.RsPool.sig) → Buf (Elt Bits) ℓ) : Prop :=
  ∀ c : Dev Cert.RsPool.nD,
    (Cert.Pre_rs_pool_slot.fn (F := Bits) (m ((c.tc : Thread Cert.RsPool.nD Cert.RsPool.τ).loc Cert.RsPool.main_arg0)) (m ((c.tc : Thread Cert.RsPool.nD Cert.RsPool.τ).loc Cert.RsPool.main_arg1)) (m ((c.tc : Thread Cert.RsPool.nD Cert.RsPool.τ).loc Cert.RsPool.main_arg2)) (m ((c.tc : Thread Cert.RsPool.nD Cert.RsPool.τ).loc Cert.RsPool.main_arg3)) (m ((c.tc : Thread Cert.RsPool.nD Cert.RsPool.τ).loc Cert.RsPool.main_arg4)) (m ((c.tc : Thread Cert.RsPool.nD Cert.RsPool.τ).loc Cert.RsPool.main_arg5)) (m ((c.tc : Thread Cert.RsPool.nD Cert.RsPool.τ).loc Cert.RsPool.main_arg6))) = (fun _ => 1#1)

def Pre_RsPoolIdeal [hPre_rs_pool_slot : Cert.Pre_rs_pool_slot.Facts] (m : (ℓ : Loc Cert.RsPoolIdeal.nD Cert.RsPoolIdeal.τ Cert.RsPoolIdeal.sig) → Buf (Elt Ideal) ℓ) : Prop :=
  ∀ c : Dev Cert.RsPoolIdeal.nD,
    (Cert.Pre_rs_pool_slot.fn (F := Ideal) (m ((c.tc : Thread Cert.RsPoolIdeal.nD Cert.RsPoolIdeal.τ).loc Cert.RsPoolIdeal.main_arg0)) (m ((c.tc : Thread Cert.RsPoolIdeal.nD Cert.RsPoolIdeal.τ).loc Cert.RsPoolIdeal.main_arg1)) (m ((c.tc : Thread Cert.RsPoolIdeal.nD Cert.RsPoolIdeal.τ).loc Cert.RsPoolIdeal.main_arg2)) (m ((c.tc : Thread Cert.RsPoolIdeal.nD Cert.RsPoolIdeal.τ).loc Cert.RsPoolIdeal.main_arg3)) (m ((c.tc : Thread Cert.RsPoolIdeal.nD Cert.RsPoolIdeal.τ).loc Cert.RsPoolIdeal.main_arg4)) (m ((c.tc : Thread Cert.RsPoolIdeal.nD Cert.RsPoolIdeal.τ).loc Cert.RsPoolIdeal.main_arg5)) (m ((c.tc : Thread Cert.RsPoolIdeal.nD Cert.RsPoolIdeal.τ).loc Cert.RsPoolIdeal.main_arg6))) = (fun _ => 1#1)

def Pre_RsPoolRefIdeal (m : (ℓ : Loc Cert.RsPoolRefIdeal.nD Cert.RsPoolRefIdeal.τ Cert.RsPoolRefIdeal.sig) → Buf (Elt Ideal) ℓ) : Prop :=
  True

def Pre_RsPoolRefIdeal_rs_pool_slot [hPre_rs_pool_slot : Cert.Pre_rs_pool_slot.Facts] (m : (ℓ : Loc Cert.RsPoolRefIdeal.nD Cert.RsPoolRefIdeal.τ Cert.RsPoolRefIdeal.sig) → Buf (Elt Ideal) ℓ) : Prop :=
  ∀ c : Dev Cert.RsPoolRefIdeal.nD,
    (Cert.Pre_rs_pool_slot.fn (F := Ideal) (m ((c.tc : Thread Cert.RsPoolRefIdeal.nD Cert.RsPoolRefIdeal.τ).loc Cert.RsPoolRefIdeal.main_arg0)) (m ((c.tc : Thread Cert.RsPoolRefIdeal.nD Cert.RsPoolRefIdeal.τ).loc Cert.RsPoolRefIdeal.main_arg1)) (m ((c.tc : Thread Cert.RsPoolRefIdeal.nD Cert.RsPoolRefIdeal.τ).loc Cert.RsPoolRefIdeal.main_arg2)) (m ((c.tc : Thread Cert.RsPoolRefIdeal.nD Cert.RsPoolRefIdeal.τ).loc Cert.RsPoolRefIdeal.main_arg3)) (m ((c.tc : Thread Cert.RsPoolRefIdeal.nD Cert.RsPoolRefIdeal.τ).loc Cert.RsPoolRefIdeal.main_arg4)) (m ((c.tc : Thread Cert.RsPoolRefIdeal.nD Cert.RsPoolRefIdeal.τ).loc Cert.RsPoolRefIdeal.main_arg5)) (m ((c.tc : Thread Cert.RsPoolRefIdeal.nD Cert.RsPoolRefIdeal.τ).loc Cert.RsPoolRefIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ r.2.sem = fun _ => 0)

def quiescent_Dw2RefIdeal [hDw2RefIdeal : Cert.Dw2RefIdeal.Facts] : Prop :=
  ∀ (m : (ℓ : Loc Cert.Dw2RefIdeal.nD Cert.Dw2RefIdeal.τ Cert.Dw2RefIdeal.sig) → Buf (Elt Ideal) ℓ) (g : Dev Cert.Dw2RefIdeal.nD → PrngReg), Pre_Dw2RefIdeal m →
    θ_run (Cert.Dw2RefIdeal.defs (F := Ideal)) (onTc (τ := Cert.Dw2RefIdeal.τ) (Cert.Dw2RefIdeal.main (F := Ideal))) ⟨m, fun _ => 0, g⟩ (fun r => (∀ c : Dev Cert.Dw2RefIdeal.nD,
      r.2.mem ((c.tc : Thread Cert.Dw2RefIdeal.nD Cert.Dw2RefIdeal.τ).loc Cert.Dw2RefIdeal.main_arg0) = m ((c.tc : Thread Cert.Dw2RefIdeal.nD Cert.Dw2RefIdeal.τ).loc Cert.Dw2RefIdeal.main_arg0)
      ∧ r.2.mem ((c.tc : Thread Cert.Dw2RefIdeal.nD Cert.Dw2RefIdeal.τ).loc Cert.Dw2RefIdeal.main_arg1) = m ((c.tc : Thread Cert.Dw2RefIdeal.nD Cert.Dw2RefIdeal.τ).loc Cert.Dw2RefIdeal.main_arg1))
      ∧ r.2.sem = fun _ => 0)

def quiescent_Dw1 [hDw1 : Cert.Dw1.Facts] : Prop :=
  ∀ (m : (ℓ : Loc Cert.Dw1.nD Cert.Dw1.τ Cert.Dw1.sig) → Buf (Elt Bits) ℓ) (g : Dev Cert.Dw1.nD → PrngReg), Pre_Dw1 m →
    θ_run (Cert.Dw1.defs (F := Bits)) (onTc (τ := Cert.Dw1.τ) (Cert.Dw1.main (F := Bits))) ⟨m, fun _ => 0, g⟩ (fun r => (∀ c : Dev Cert.Dw1.nD,
      r.2.mem ((c.tc : Thread Cert.Dw1.nD Cert.Dw1.τ).loc Cert.Dw1.main_arg0) = m ((c.tc : Thread Cert.Dw1.nD Cert.Dw1.τ).loc Cert.Dw1.main_arg0)
      ∧ r.2.mem ((c.tc : Thread Cert.Dw1.nD Cert.Dw1.τ).loc Cert.Dw1.main_arg1) = m ((c.tc : Thread Cert.Dw1.nD Cert.Dw1.τ).loc Cert.Dw1.main_arg1))
      ∧ r.2.sem = fun _ => 0)

def quiescent_Dw1Ideal [hDw1Ideal : Cert.Dw1Ideal.Facts] : Prop :=
  ∀ (m : (ℓ : Loc Cert.Dw1Ideal.nD Cert.Dw1Ideal.τ Cert.Dw1Ideal.sig) → Buf (Elt Ideal) ℓ) (g : Dev Cert.Dw1Ideal.nD → PrngReg), Pre_Dw1Ideal m →
    θ_run (Cert.Dw1Ideal.defs (F := Ideal)) (onTc (τ := Cert.Dw1Ideal.τ) (Cert.Dw1Ideal.main (F := Ideal))) ⟨m, fun _ => 0, g⟩ (fun r => (∀ c : Dev Cert.Dw1Ideal.nD,
      r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
      ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1))
      ∧ r.2.sem = fun _ => 0)

def quiescent_Dw1RefIdeal [hDw1RefIdeal : Cert.Dw1RefIdeal.Facts] : Prop :=
  ∀ (m : (ℓ : Loc Cert.Dw1RefIdeal.nD Cert.Dw1RefIdeal.τ Cert.Dw1RefIdeal.sig) → Buf (Elt Ideal) ℓ) (g : Dev Cert.Dw1RefIdeal.nD → PrngReg), Pre_Dw1RefIdeal m →
    θ_run (Cert.Dw1RefIdeal.defs (F := Ideal)) (onTc (τ := Cert.Dw1RefIdeal.τ) (Cert.Dw1RefIdeal.main (F := Ideal))) ⟨m, fun _ => 0, g⟩ (fun r => (∀ c : Dev Cert.Dw1RefIdeal.nD,
      r.2.mem ((c.tc : Thread Cert.Dw1RefIdeal.nD Cert.Dw1RefIdeal.τ).loc Cert.Dw1RefIdeal.main_arg0) = m ((c.tc : Thread Cert.Dw1RefIdeal.nD Cert.Dw1RefIdeal.τ).loc Cert.Dw1RefIdeal.main_arg0)
      ∧ r.2.mem ((c.tc : Thread Cert.Dw1RefIdeal.nD Cert.Dw1RefIdeal.τ).loc Cert.Dw1RefIdeal.main_arg1) = m ((c.tc : Thread Cert.Dw1RefIdeal.nD Cert.Dw1RefIdeal.τ).loc Cert.Dw1RefIdeal.main_arg1))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1))
      ∧ r.2.sem = fun _ => 0)

def quiescent_DmixAtt [hDmixAtt : Cert.DmixAtt.Facts] : Prop :=
  ∀ (m : (ℓ : Loc Cert.DmixAtt.nD Cert.DmixAtt.τ Cert.DmixAtt.sig) → Buf (Elt Bits) ℓ) (g : Dev Cert.DmixAtt.nD → PrngReg), Pre_DmixAtt m →
    θ_run (Cert.DmixAtt.defs (F := Bits)) (onTc (τ := Cert.DmixAtt.τ) (Cert.DmixAtt.main (F := Bits))) ⟨m, fun _ => 0, g⟩ (fun r => (∀ c : Dev Cert.DmixAtt.nD,
      r.2.mem ((c.tc : Thread Cert.DmixAtt.nD Cert.DmixAtt.τ).loc Cert.DmixAtt.main_arg0) = m ((c.tc : Thread Cert.DmixAtt.nD Cert.DmixAtt.τ).loc Cert.DmixAtt.main_arg0)
      ∧ r.2.mem ((c.tc : Thread Cert.DmixAtt.nD Cert.DmixAtt.τ).loc Cert.DmixAtt.main_arg1) = m ((c.tc : Thread Cert.DmixAtt.nD Cert.DmixAtt.τ).loc Cert.DmixAtt.main_arg1))
      ∧ r.2.sem = fun _ => 0)

def quiescent_DmixAttIdeal [hDmixAttIdeal : Cert.DmixAttIdeal.Facts] : Prop :=
  ∀ (m : (ℓ : Loc Cert.DmixAttIdeal.nD Cert.DmixAttIdeal.τ Cert.DmixAttIdeal.sig) → Buf (Elt Ideal) ℓ) (g : Dev Cert.DmixAttIdeal.nD → PrngReg), Pre_DmixAttIdeal m →
    θ_run (Cert.DmixAttIdeal.defs (F := Ideal)) (onTc (τ := Cert.DmixAttIdeal.τ) (Cert.DmixAttIdeal.main (F := Ideal))) ⟨m, fun _ => 0, g⟩ (fun r => (∀ c : Dev Cert.DmixAttIdeal.nD,
      r.2.mem ((c.tc : Thread Cert.DmixAttIdeal.nD Cert.DmixAttIdeal.τ).loc Cert.DmixAttIdeal.main_arg0) = m ((c.tc : Thread Cert.DmixAttIdeal.nD Cert.DmixAttIdeal.τ).loc Cert.DmixAttIdeal.main_arg0)
      ∧ r.2.mem ((c.tc : Thread Cert.DmixAttIdeal.nD Cert.DmixAttIdeal.τ).loc Cert.DmixAttIdeal.main_arg1) = m ((c.tc : Thread Cert.DmixAttIdeal.nD Cert.DmixAttIdeal.τ).loc Cert.DmixAttIdeal.main_arg1))
      ∧ r.2.sem = fun _ => 0)

def quiescent_DmixAttRefIdeal [hDmixAttRefIdeal : Cert.DmixAttRefIdeal.Facts] : Prop :=
  ∀ (m : (ℓ : Loc Cert.DmixAttRefIdeal.nD Cert.DmixAttRefIdeal.τ Cert.DmixAttRefIdeal.sig) → Buf (Elt Ideal) ℓ) (g : Dev Cert.DmixAttRefIdeal.nD → PrngReg), Pre_DmixAttRefIdeal m →
    θ_run (Cert.DmixAttRefIdeal.defs (F := Ideal)) (onTc (τ := Cert.DmixAttRefIdeal.τ) (Cert.DmixAttRefIdeal.main (F := Ideal))) ⟨m, fun _ => 0, g⟩ (fun r => (∀ c : Dev Cert.DmixAttRefIdeal.nD,
      r.2.mem ((c.tc : Thread Cert.DmixAttRefIdeal.nD Cert.DmixAttRefIdeal.τ).loc Cert.DmixAttRefIdeal.main_arg0) = m ((c.tc : Thread Cert.DmixAttRefIdeal.nD Cert.DmixAttRefIdeal.τ).loc Cert.DmixAttRefIdeal.main_arg0)
      ∧ r.2.mem ((c.tc : Thread Cert.DmixAttRefIdeal.nD Cert.DmixAttRefIdeal.τ).loc Cert.DmixAttRefIdeal.main_arg1) = m ((c.tc : Thread Cert.DmixAttRefIdeal.nD Cert.DmixAttRefIdeal.τ).loc Cert.DmixAttRefIdeal.main_arg1))
      ∧ r.2.sem = fun _ => 0)

def quiescent_DmixPool [hDmixPool : Cert.DmixPool.Facts] : Prop :=
  ∀ (m : (ℓ : Loc Cert.DmixPool.nD Cert.DmixPool.τ Cert.DmixPool.sig) → Buf (Elt Bits) ℓ) (g : Dev Cert.DmixPool.nD → PrngReg), Pre_DmixPool m →
    θ_run (Cert.DmixPool.defs (F := Bits)) (onTc (τ := Cert.DmixPool.τ) (Cert.DmixPool.main (F := Bits))) ⟨m, fun _ => 0, g⟩ (fun r => (∀ c : Dev Cert.DmixPool.nD,
      r.2.mem ((c.tc : Thread Cert.DmixPool.nD Cert.DmixPool.τ).loc Cert.DmixPool.main_arg0) = m ((c.tc : Thread Cert.DmixPool.nD Cert.DmixPool.τ).loc Cert.DmixPool.main_arg0)
      ∧ r.2.mem ((c.tc : Thread Cert.DmixPool.nD Cert.DmixPool.τ).loc Cert.DmixPool.main_arg1) = m ((c.tc : Thread Cert.DmixPool.nD Cert.DmixPool.τ).loc Cert.DmixPool.main_arg1))
      ∧ r.2.sem = fun _ => 0)

def quiescent_DmixPoolIdeal [hDmixPoolIdeal : Cert.DmixPoolIdeal.Facts] : Prop :=
  ∀ (m : (ℓ : Loc Cert.DmixPoolIdeal.nD Cert.DmixPoolIdeal.τ Cert.DmixPoolIdeal.sig) → Buf (Elt Ideal) ℓ) (g : Dev Cert.DmixPoolIdeal.nD → PrngReg), Pre_DmixPoolIdeal m →
    θ_run (Cert.DmixPoolIdeal.defs (F := Ideal)) (onTc (τ := Cert.DmixPoolIdeal.τ) (Cert.DmixPoolIdeal.main (F := Ideal))) ⟨m, fun _ => 0, g⟩ (fun r => (∀ c : Dev Cert.DmixPoolIdeal.nD,
      r.2.mem ((c.tc : Thread Cert.DmixPoolIdeal.nD Cert.DmixPoolIdeal.τ).loc Cert.DmixPoolIdeal.main_arg0) = m ((c.tc : Thread Cert.DmixPoolIdeal.nD Cert.DmixPoolIdeal.τ).loc Cert.DmixPoolIdeal.main_arg0)
      ∧ r.2.mem ((c.tc : Thread Cert.DmixPoolIdeal.nD Cert.DmixPoolIdeal.τ).loc Cert.DmixPoolIdeal.main_arg1) = m ((c.tc : Thread Cert.DmixPoolIdeal.nD Cert.DmixPoolIdeal.τ).loc Cert.DmixPoolIdeal.main_arg1))
      ∧ r.2.sem = fun _ => 0)

def quiescent_DmixPoolRefIdeal [hDmixPoolRefIdeal : Cert.DmixPoolRefIdeal.Facts] : Prop :=
  ∀ (m : (ℓ : Loc Cert.DmixPoolRefIdeal.nD Cert.DmixPoolRefIdeal.τ Cert.DmixPoolRefIdeal.sig) → Buf (Elt Ideal) ℓ) (g : Dev Cert.DmixPoolRefIdeal.nD → PrngReg), Pre_DmixPoolRefIdeal m →
    θ_run (Cert.DmixPoolRefIdeal.defs (F := Ideal)) (onTc (τ := Cert.DmixPoolRefIdeal.τ) (Cert.DmixPoolRefIdeal.main (F := Ideal))) ⟨m, fun _ => 0, g⟩ (fun r => (∀ c : Dev Cert.DmixPoolRefIdeal.nD,
      r.2.mem ((c.tc : Thread Cert.DmixPoolRefIdeal.nD Cert.DmixPoolRefIdeal.τ).loc Cert.DmixPoolRefIdeal.main_arg0) = m ((c.tc : Thread Cert.DmixPoolRefIdeal.nD Cert.DmixPoolRefIdeal.τ).loc Cert.DmixPoolRefIdeal.main_arg0)
      ∧ r.2.mem ((c.tc : Thread Cert.DmixPoolRefIdeal.nD Cert.DmixPoolRefIdeal.τ).loc Cert.DmixPoolRefIdeal.main_arg1) = m ((c.tc : Thread Cert.DmixPoolRefIdeal.nD Cert.DmixPoolRefIdeal.τ).loc Cert.DmixPoolRefIdeal.main_arg1))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1)
      ∧ r.2.mem ((c.tc : Thread Cert.Ff1.nD Cert.Ff1.τ).loc Cert.Ff1.main_arg2) = m ((c.tc : Thread Cert.Ff1.nD Cert.Ff1.τ).loc Cert.Ff1.main_arg2))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1)
      ∧ r.2.mem ((c.tc : Thread Cert.Ff1Ideal.nD Cert.Ff1Ideal.τ).loc Cert.Ff1Ideal.main_arg2) = m ((c.tc : Thread Cert.Ff1Ideal.nD Cert.Ff1Ideal.τ).loc Cert.Ff1Ideal.main_arg2))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1)
      ∧ r.2.mem ((c.tc : Thread Cert.Ff1RefIdeal.nD Cert.Ff1RefIdeal.τ).loc Cert.Ff1RefIdeal.main_arg2) = m ((c.tc : Thread Cert.Ff1RefIdeal.nD Cert.Ff1RefIdeal.τ).loc Cert.Ff1RefIdeal.main_arg2))
      ∧ r.2.sem = fun _ => 0)

def quiescent_Upool [hUpool : Cert.Upool.Facts] : Prop :=
  ∀ (m : (ℓ : Loc Cert.Upool.nD Cert.Upool.τ Cert.Upool.sig) → Buf (Elt Bits) ℓ) (g : Dev Cert.Upool.nD → PrngReg), Pre_Upool m →
    θ_run (Cert.Upool.defs (F := Bits)) (onTc (τ := Cert.Upool.τ) (Cert.Upool.main (F := Bits))) ⟨m, fun _ => 0, g⟩ (fun r => (∀ c : Dev Cert.Upool.nD,
      r.2.mem ((c.tc : Thread Cert.Upool.nD Cert.Upool.τ).loc Cert.Upool.main_arg0) = m ((c.tc : Thread Cert.Upool.nD Cert.Upool.τ).loc Cert.Upool.main_arg0)
      ∧ r.2.mem ((c.tc : Thread Cert.Upool.nD Cert.Upool.τ).loc Cert.Upool.main_arg1) = m ((c.tc : Thread Cert.Upool.nD Cert.Upool.τ).loc Cert.Upool.main_arg1))
      ∧ r.2.sem = fun _ => 0)

def quiescent_UpoolIdeal [hUpoolIdeal : Cert.UpoolIdeal.Facts] : Prop :=
  ∀ (m : (ℓ : Loc Cert.UpoolIdeal.nD Cert.UpoolIdeal.τ Cert.UpoolIdeal.sig) → Buf (Elt Ideal) ℓ) (g : Dev Cert.UpoolIdeal.nD → PrngReg), Pre_UpoolIdeal m →
    θ_run (Cert.UpoolIdeal.defs (F := Ideal)) (onTc (τ := Cert.UpoolIdeal.τ) (Cert.UpoolIdeal.main (F := Ideal))) ⟨m, fun _ => 0, g⟩ (fun r => (∀ c : Dev Cert.UpoolIdeal.nD,
      r.2.mem ((c.tc : Thread Cert.UpoolIdeal.nD Cert.UpoolIdeal.τ).loc Cert.UpoolIdeal.main_arg0) = m ((c.tc : Thread Cert.UpoolIdeal.nD Cert.UpoolIdeal.τ).loc Cert.UpoolIdeal.main_arg0)
      ∧ r.2.mem ((c.tc : Thread Cert.UpoolIdeal.nD Cert.UpoolIdeal.τ).loc Cert.UpoolIdeal.main_arg1) = m ((c.tc : Thread Cert.UpoolIdeal.nD Cert.UpoolIdeal.τ).loc Cert.UpoolIdeal.main_arg1))
      ∧ r.2.sem = fun _ => 0)

def quiescent_UpoolRefIdeal [hUpoolRefIdeal : Cert.UpoolRefIdeal.Facts] : Prop :=
  ∀ (m : (ℓ : Loc Cert.UpoolRefIdeal.nD Cert.UpoolRefIdeal.τ Cert.UpoolRefIdeal.sig) → Buf (Elt Ideal) ℓ) (g : Dev Cert.UpoolRefIdeal.nD → PrngReg), Pre_UpoolRefIdeal m →
    θ_run (Cert.UpoolRefIdeal.defs (F := Ideal)) (onTc (τ := Cert.UpoolRefIdeal.τ) (Cert.UpoolRefIdeal.main (F := Ideal))) ⟨m, fun _ => 0, g⟩ (fun r => (∀ c : Dev Cert.UpoolRefIdeal.nD,
      r.2.mem ((c.tc : Thread Cert.UpoolRefIdeal.nD Cert.UpoolRefIdeal.τ).loc Cert.UpoolRefIdeal.main_arg0) = m ((c.tc : Thread Cert.UpoolRefIdeal.nD Cert.UpoolRefIdeal.τ).loc Cert.UpoolRefIdeal.main_arg0)
      ∧ r.2.mem ((c.tc : Thread Cert.UpoolRefIdeal.nD Cert.UpoolRefIdeal.τ).loc Cert.UpoolRefIdeal.main_arg1) = m ((c.tc : Thread Cert.UpoolRefIdeal.nD Cert.UpoolRefIdeal.τ).loc Cert.UpoolRefIdeal.main_arg1))
      ∧ r.2.sem = fun _ => 0)

def quiescent_Uqkv [hUqkv : Cert.Uqkv.Facts] : Prop :=
  ∀ (m : (ℓ : Loc Cert.Uqkv.nD Cert.Uqkv.τ Cert.Uqkv.sig) → Buf (Elt Bits) ℓ) (g : Dev Cert.Uqkv.nD → PrngReg), Pre_Uqkv m →
    θ_run (Cert.Uqkv.defs (F := Bits)) (onTc (τ := Cert.Uqkv.τ) (Cert.Uqkv.main (F := Bits))) ⟨m, fun _ => 0, g⟩ (fun r => (∀ c : Dev Cert.Uqkv.nD,
      r.2.mem ((c.tc : Thread Cert.Uqkv.nD Cert.Uqkv.τ).loc Cert.Uqkv.main_arg0) = m ((c.tc : Thread Cert.Uqkv.nD Cert.Uqkv.τ).loc Cert.Uqkv.main_arg0)
      ∧ r.2.mem ((c.tc : Thread Cert.Uqkv.nD Cert.Uqkv.τ).loc Cert.Uqkv.main_arg1) = m ((c.tc : Thread Cert.Uqkv.nD Cert.Uqkv.τ).loc Cert.Uqkv.main_arg1))
      ∧ r.2.sem = fun _ => 0)

def quiescent_UqkvIdeal [hUqkvIdeal : Cert.UqkvIdeal.Facts] : Prop :=
  ∀ (m : (ℓ : Loc Cert.UqkvIdeal.nD Cert.UqkvIdeal.τ Cert.UqkvIdeal.sig) → Buf (Elt Ideal) ℓ) (g : Dev Cert.UqkvIdeal.nD → PrngReg), Pre_UqkvIdeal m →
    θ_run (Cert.UqkvIdeal.defs (F := Ideal)) (onTc (τ := Cert.UqkvIdeal.τ) (Cert.UqkvIdeal.main (F := Ideal))) ⟨m, fun _ => 0, g⟩ (fun r => (∀ c : Dev Cert.UqkvIdeal.nD,
      r.2.mem ((c.tc : Thread Cert.UqkvIdeal.nD Cert.UqkvIdeal.τ).loc Cert.UqkvIdeal.main_arg0) = m ((c.tc : Thread Cert.UqkvIdeal.nD Cert.UqkvIdeal.τ).loc Cert.UqkvIdeal.main_arg0)
      ∧ r.2.mem ((c.tc : Thread Cert.UqkvIdeal.nD Cert.UqkvIdeal.τ).loc Cert.UqkvIdeal.main_arg1) = m ((c.tc : Thread Cert.UqkvIdeal.nD Cert.UqkvIdeal.τ).loc Cert.UqkvIdeal.main_arg1))
      ∧ r.2.sem = fun _ => 0)

def quiescent_UqkvRefIdeal [hUqkvRefIdeal : Cert.UqkvRefIdeal.Facts] : Prop :=
  ∀ (m : (ℓ : Loc Cert.UqkvRefIdeal.nD Cert.UqkvRefIdeal.τ Cert.UqkvRefIdeal.sig) → Buf (Elt Ideal) ℓ) (g : Dev Cert.UqkvRefIdeal.nD → PrngReg), Pre_UqkvRefIdeal m →
    θ_run (Cert.UqkvRefIdeal.defs (F := Ideal)) (onTc (τ := Cert.UqkvRefIdeal.τ) (Cert.UqkvRefIdeal.main (F := Ideal))) ⟨m, fun _ => 0, g⟩ (fun r => (∀ c : Dev Cert.UqkvRefIdeal.nD,
      r.2.mem ((c.tc : Thread Cert.UqkvRefIdeal.nD Cert.UqkvRefIdeal.τ).loc Cert.UqkvRefIdeal.main_arg0) = m ((c.tc : Thread Cert.UqkvRefIdeal.nD Cert.UqkvRefIdeal.τ).loc Cert.UqkvRefIdeal.main_arg0)
      ∧ r.2.mem ((c.tc : Thread Cert.UqkvRefIdeal.nD Cert.UqkvRefIdeal.τ).loc Cert.UqkvRefIdeal.main_arg1) = m ((c.tc : Thread Cert.UqkvRefIdeal.nD Cert.UqkvRefIdeal.τ).loc Cert.UqkvRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_LnIn [hLnIn : Cert.LnIn.Facts] : Prop :=
  ∀ (m : (ℓ : Loc Cert.LnIn.nD Cert.LnIn.τ Cert.LnIn.sig) → Buf (Elt Bits) ℓ) (g : Dev Cert.LnIn.nD → PrngReg), Pre_LnIn m →
    θ_run (Cert.LnIn.defs (F := Bits)) (onTc (τ := Cert.LnIn.τ) (Cert.LnIn.main (F := Bits))) ⟨m, fun _ => 0, g⟩ (fun r => (∀ c : Dev Cert.LnIn.nD,
      r.2.mem ((c.tc : Thread Cert.LnIn.nD Cert.LnIn.τ).loc Cert.LnIn.main_arg0) = m ((c.tc : Thread Cert.LnIn.nD Cert.LnIn.τ).loc Cert.LnIn.main_arg0)
      ∧ r.2.mem ((c.tc : Thread Cert.LnIn.nD Cert.LnIn.τ).loc Cert.LnIn.main_arg1) = m ((c.tc : Thread Cert.LnIn.nD Cert.LnIn.τ).loc Cert.LnIn.main_arg1)
      ∧ r.2.mem ((c.tc : Thread Cert.LnIn.nD Cert.LnIn.τ).loc Cert.LnIn.main_arg2) = m ((c.tc : Thread Cert.LnIn.nD Cert.LnIn.τ).loc Cert.LnIn.main_arg2))
      ∧ r.2.sem = fun _ => 0)

def quiescent_LnInIdeal [hLnInIdeal : Cert.LnInIdeal.Facts] : Prop :=
  ∀ (m : (ℓ : Loc Cert.LnInIdeal.nD Cert.LnInIdeal.τ Cert.LnInIdeal.sig) → Buf (Elt Ideal) ℓ) (g : Dev Cert.LnInIdeal.nD → PrngReg), Pre_LnInIdeal m →
    θ_run (Cert.LnInIdeal.defs (F := Ideal)) (onTc (τ := Cert.LnInIdeal.τ) (Cert.LnInIdeal.main (F := Ideal))) ⟨m, fun _ => 0, g⟩ (fun r => (∀ c : Dev Cert.LnInIdeal.nD,
      r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
      ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
      ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2))
      ∧ r.2.sem = fun _ => 0)

def quiescent_LnInRefIdeal [hLnInRefIdeal : Cert.LnInRefIdeal.Facts] : Prop :=
  ∀ (m : (ℓ : Loc Cert.LnInRefIdeal.nD Cert.LnInRefIdeal.τ Cert.LnInRefIdeal.sig) → Buf (Elt Ideal) ℓ) (g : Dev Cert.LnInRefIdeal.nD → PrngReg), Pre_LnInRefIdeal m →
    θ_run (Cert.LnInRefIdeal.defs (F := Ideal)) (onTc (τ := Cert.LnInRefIdeal.τ) (Cert.LnInRefIdeal.main (F := Ideal))) ⟨m, fun _ => 0, g⟩ (fun r => (∀ c : Dev Cert.LnInRefIdeal.nD,
      r.2.mem ((c.tc : Thread Cert.LnInRefIdeal.nD Cert.LnInRefIdeal.τ).loc Cert.LnInRefIdeal.main_arg0) = m ((c.tc : Thread Cert.LnInRefIdeal.nD Cert.LnInRefIdeal.τ).loc Cert.LnInRefIdeal.main_arg0)
      ∧ r.2.mem ((c.tc : Thread Cert.LnInRefIdeal.nD Cert.LnInRefIdeal.τ).loc Cert.LnInRefIdeal.main_arg1) = m ((c.tc : Thread Cert.LnInRefIdeal.nD Cert.LnInRefIdeal.τ).loc Cert.LnInRefIdeal.main_arg1)
      ∧ r.2.mem ((c.tc : Thread Cert.LnInRefIdeal.nD Cert.LnInRefIdeal.τ).loc Cert.LnInRefIdeal.main_arg2) = m ((c.tc : Thread Cert.LnInRefIdeal.nD Cert.LnInRefIdeal.τ).loc Cert.LnInRefIdeal.main_arg2))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4)
      ∧ r.2.mem ((c.tc : Thread Cert.Small.nD Cert.Small.τ).loc Cert.Small.main_arg5) = m ((c.tc : Thread Cert.Small.nD Cert.Small.τ).loc Cert.Small.main_arg5)
      ∧ r.2.mem ((c.tc : Thread Cert.Small.nD Cert.Small.τ).loc Cert.Small.main_arg6) = m ((c.tc : Thread Cert.Small.nD Cert.Small.τ).loc Cert.Small.main_arg6)
      ∧ r.2.mem ((c.tc : Thread Cert.Small.nD Cert.Small.τ).loc Cert.Small.main_arg7) = m ((c.tc : Thread Cert.Small.nD Cert.Small.τ).loc Cert.Small.main_arg7)
      ∧ r.2.mem ((c.tc : Thread Cert.Small.nD Cert.Small.τ).loc Cert.Small.main_arg8) = m ((c.tc : Thread Cert.Small.nD Cert.Small.τ).loc Cert.Small.main_arg8)
      ∧ r.2.mem ((c.tc : Thread Cert.Small.nD Cert.Small.τ).loc Cert.Small.main_arg9) = m ((c.tc : Thread Cert.Small.nD Cert.Small.τ).loc Cert.Small.main_arg9)
      ∧ r.2.mem ((c.tc : Thread Cert.Small.nD Cert.Small.τ).loc Cert.Small.main_arg10) = m ((c.tc : Thread Cert.Small.nD Cert.Small.τ).loc Cert.Small.main_arg10)
      ∧ r.2.mem ((c.tc : Thread Cert.Small.nD Cert.Small.τ).loc Cert.Small.main_arg11) = m ((c.tc : Thread Cert.Small.nD Cert.Small.τ).loc Cert.Small.main_arg11)
      ∧ r.2.mem ((c.tc : Thread Cert.Small.nD Cert.Small.τ).loc Cert.Small.main_arg12) = m ((c.tc : Thread Cert.Small.nD Cert.Small.τ).loc Cert.Small.main_arg12)
      ∧ r.2.mem ((c.tc : Thread Cert.Small.nD Cert.Small.τ).loc Cert.Small.main_arg13) = m ((c.tc : Thread Cert.Small.nD Cert.Small.τ).loc Cert.Small.main_arg13)
      ∧ r.2.mem ((c.tc : Thread Cert.Small.nD Cert.Small.τ).loc Cert.Small.main_arg14) = m ((c.tc : Thread Cert.Small.nD Cert.Small.τ).loc Cert.Small.main_arg14)
      ∧ r.2.mem ((c.tc : Thread Cert.Small.nD Cert.Small.τ).loc Cert.Small.main_arg15) = m ((c.tc : Thread Cert.Small.nD Cert.Small.τ).loc Cert.Small.main_arg15)
      ∧ r.2.mem ((c.tc : Thread Cert.Small.nD Cert.Small.τ).loc Cert.Small.main_arg16) = m ((c.tc : Thread Cert.Small.nD Cert.Small.τ).loc Cert.Small.main_arg16)
      ∧ r.2.mem ((c.tc : Thread Cert.Small.nD Cert.Small.τ).loc Cert.Small.main_arg17) = m ((c.tc : Thread Cert.Small.nD Cert.Small.τ).loc Cert.Small.main_arg17)
      ∧ r.2.mem ((c.tc : Thread Cert.Small.nD Cert.Small.τ).loc Cert.Small.main_arg18) = m ((c.tc : Thread Cert.Small.nD Cert.Small.τ).loc Cert.Small.main_arg18)
      ∧ r.2.mem ((c.tc : Thread Cert.Small.nD Cert.Small.τ).loc Cert.Small.main_arg19) = m ((c.tc : Thread Cert.Small.nD Cert.Small.τ).loc Cert.Small.main_arg19)
      ∧ r.2.mem ((c.tc : Thread Cert.Small.nD Cert.Small.τ).loc Cert.Small.main_arg20) = m ((c.tc : Thread Cert.Small.nD Cert.Small.τ).loc Cert.Small.main_arg20)
      ∧ r.2.mem ((c.tc : Thread Cert.Small.nD Cert.Small.τ).loc Cert.Small.main_arg21) = m ((c.tc : Thread Cert.Small.nD Cert.Small.τ).loc Cert.Small.main_arg21)
      ∧ r.2.mem ((c.tc : Thread Cert.Small.nD Cert.Small.τ).loc Cert.Small.main_arg22) = m ((c.tc : Thread Cert.Small.nD Cert.Small.τ).loc Cert.Small.main_arg22)
      ∧ r.2.mem ((c.tc : Thread Cert.Small.nD Cert.Small.τ).loc Cert.Small.main_arg23) = m ((c.tc : Thread Cert.Small.nD Cert.Small.τ).loc Cert.Small.main_arg23)
      ∧ r.2.mem ((c.tc : Thread Cert.Small.nD Cert.Small.τ).loc Cert.Small.main_arg24) = m ((c.tc : Thread Cert.Small.nD Cert.Small.τ).loc Cert.Small.main_arg24)
      ∧ r.2.mem ((c.tc : Thread Cert.Small.nD Cert.Small.τ).loc Cert.Small.main_arg25) = m ((c.tc : Thread Cert.Small.nD Cert.Small.τ).loc Cert.Small.main_arg25)
      ∧ r.2.mem ((c.tc : Thread Cert.Small.nD Cert.Small.τ).loc Cert.Small.main_arg26) = m ((c.tc : Thread Cert.Small.nD Cert.Small.τ).loc Cert.Small.main_arg26)
      ∧ r.2.mem ((c.tc : Thread Cert.Small.nD Cert.Small.τ).loc Cert.Small.main_arg27) = m ((c.tc : Thread Cert.Small.nD Cert.Small.τ).loc Cert.Small.main_arg27)
      ∧ r.2.mem ((c.tc : Thread Cert.Small.nD Cert.Small.τ).loc Cert.Small.main_arg28) = m ((c.tc : Thread Cert.Small.nD Cert.Small.τ).loc Cert.Small.main_arg28)
      ∧ r.2.mem ((c.tc : Thread Cert.Small.nD Cert.Small.τ).loc Cert.Small.main_arg29) = m ((c.tc : Thread Cert.Small.nD Cert.Small.τ).loc Cert.Small.main_arg29)
      ∧ r.2.mem ((c.tc : Thread Cert.Small.nD Cert.Small.τ).loc Cert.Small.main_arg30) = m ((c.tc : Thread Cert.Small.nD Cert.Small.τ).loc Cert.Small.main_arg30)
      ∧ r.2.mem ((c.tc : Thread Cert.Small.nD Cert.Small.τ).loc Cert.Small.main_arg31) = m ((c.tc : Thread Cert.Small.nD Cert.Small.τ).loc Cert.Small.main_arg31)
      ∧ r.2.mem ((c.tc : Thread Cert.Small.nD Cert.Small.τ).loc Cert.Small.main_arg32) = m ((c.tc : Thread Cert.Small.nD Cert.Small.τ).loc Cert.Small.main_arg32)
      ∧ r.2.mem ((c.tc : Thread Cert.Small.nD Cert.Small.τ).loc Cert.Small.main_arg33) = m ((c.tc : Thread Cert.Small.nD Cert.Small.τ).loc Cert.Small.main_arg33)
      ∧ r.2.mem ((c.tc : Thread Cert.Small.nD Cert.Small.τ).loc Cert.Small.main_arg34) = m ((c.tc : Thread Cert.Small.nD Cert.Small.τ).loc Cert.Small.main_arg34)
      ∧ r.2.mem ((c.tc : Thread Cert.Small.nD Cert.Small.τ).loc Cert.Small.main_arg35) = m ((c.tc : Thread Cert.Small.nD Cert.Small.τ).loc Cert.Small.main_arg35))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
      ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
      ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
      ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
      ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
      ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
      ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
      ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
      ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
      ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
      ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
      ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
      ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
      ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20)
      ∧ r.2.mem ((c.tc : Thread Cert.SmallIdeal.nD Cert.SmallIdeal.τ).loc Cert.SmallIdeal.main_arg21) = m ((c.tc : Thread Cert.SmallIdeal.nD Cert.SmallIdeal.τ).loc Cert.SmallIdeal.main_arg21)
      ∧ r.2.mem ((c.tc : Thread Cert.SmallIdeal.nD Cert.SmallIdeal.τ).loc Cert.SmallIdeal.main_arg22) = m ((c.tc : Thread Cert.SmallIdeal.nD Cert.SmallIdeal.τ).loc Cert.SmallIdeal.main_arg22)
      ∧ r.2.mem ((c.tc : Thread Cert.SmallIdeal.nD Cert.SmallIdeal.τ).loc Cert.SmallIdeal.main_arg23) = m ((c.tc : Thread Cert.SmallIdeal.nD Cert.SmallIdeal.τ).loc Cert.SmallIdeal.main_arg23)
      ∧ r.2.mem ((c.tc : Thread Cert.SmallIdeal.nD Cert.SmallIdeal.τ).loc Cert.SmallIdeal.main_arg24) = m ((c.tc : Thread Cert.SmallIdeal.nD Cert.SmallIdeal.τ).loc Cert.SmallIdeal.main_arg24)
      ∧ r.2.mem ((c.tc : Thread Cert.SmallIdeal.nD Cert.SmallIdeal.τ).loc Cert.SmallIdeal.main_arg25) = m ((c.tc : Thread Cert.SmallIdeal.nD Cert.SmallIdeal.τ).loc Cert.SmallIdeal.main_arg25)
      ∧ r.2.mem ((c.tc : Thread Cert.SmallIdeal.nD Cert.SmallIdeal.τ).loc Cert.SmallIdeal.main_arg26) = m ((c.tc : Thread Cert.SmallIdeal.nD Cert.SmallIdeal.τ).loc Cert.SmallIdeal.main_arg26)
      ∧ r.2.mem ((c.tc : Thread Cert.SmallIdeal.nD Cert.SmallIdeal.τ).loc Cert.SmallIdeal.main_arg27) = m ((c.tc : Thread Cert.SmallIdeal.nD Cert.SmallIdeal.τ).loc Cert.SmallIdeal.main_arg27)
      ∧ r.2.mem ((c.tc : Thread Cert.SmallIdeal.nD Cert.SmallIdeal.τ).loc Cert.SmallIdeal.main_arg28) = m ((c.tc : Thread Cert.SmallIdeal.nD Cert.SmallIdeal.τ).loc Cert.SmallIdeal.main_arg28)
      ∧ r.2.mem ((c.tc : Thread Cert.SmallIdeal.nD Cert.SmallIdeal.τ).loc Cert.SmallIdeal.main_arg29) = m ((c.tc : Thread Cert.SmallIdeal.nD Cert.SmallIdeal.τ).loc Cert.SmallIdeal.main_arg29)
      ∧ r.2.mem ((c.tc : Thread Cert.SmallIdeal.nD Cert.SmallIdeal.τ).loc Cert.SmallIdeal.main_arg30) = m ((c.tc : Thread Cert.SmallIdeal.nD Cert.SmallIdeal.τ).loc Cert.SmallIdeal.main_arg30)
      ∧ r.2.mem ((c.tc : Thread Cert.SmallIdeal.nD Cert.SmallIdeal.τ).loc Cert.SmallIdeal.main_arg31) = m ((c.tc : Thread Cert.SmallIdeal.nD Cert.SmallIdeal.τ).loc Cert.SmallIdeal.main_arg31)
      ∧ r.2.mem ((c.tc : Thread Cert.SmallIdeal.nD Cert.SmallIdeal.τ).loc Cert.SmallIdeal.main_arg32) = m ((c.tc : Thread Cert.SmallIdeal.nD Cert.SmallIdeal.τ).loc Cert.SmallIdeal.main_arg32)
      ∧ r.2.mem ((c.tc : Thread Cert.SmallIdeal.nD Cert.SmallIdeal.τ).loc Cert.SmallIdeal.main_arg33) = m ((c.tc : Thread Cert.SmallIdeal.nD Cert.SmallIdeal.τ).loc Cert.SmallIdeal.main_arg33)
      ∧ r.2.mem ((c.tc : Thread Cert.SmallIdeal.nD Cert.SmallIdeal.τ).loc Cert.SmallIdeal.main_arg34) = m ((c.tc : Thread Cert.SmallIdeal.nD Cert.SmallIdeal.τ).loc Cert.SmallIdeal.main_arg34)
      ∧ r.2.mem ((c.tc : Thread Cert.SmallIdeal.nD Cert.SmallIdeal.τ).loc Cert.SmallIdeal.main_arg35) = m ((c.tc : Thread Cert.SmallIdeal.nD Cert.SmallIdeal.τ).loc Cert.SmallIdeal.main_arg35))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3)
      ∧ r.2.mem ((c.tc : Thread Cert.SmallRefIdeal.nD Cert.SmallRefIdeal.τ).loc Cert.SmallRefIdeal.main_arg4) = m ((c.tc : Thread Cert.SmallRefIdeal.nD Cert.SmallRefIdeal.τ).loc Cert.SmallRefIdeal.main_arg4)
      ∧ r.2.mem ((c.tc : Thread Cert.SmallRefIdeal.nD Cert.SmallRefIdeal.τ).loc Cert.SmallRefIdeal.main_arg5) = m ((c.tc : Thread Cert.SmallRefIdeal.nD Cert.SmallRefIdeal.τ).loc Cert.SmallRefIdeal.main_arg5)
      ∧ r.2.mem ((c.tc : Thread Cert.SmallRefIdeal.nD Cert.SmallRefIdeal.τ).loc Cert.SmallRefIdeal.main_arg6) = m ((c.tc : Thread Cert.SmallRefIdeal.nD Cert.SmallRefIdeal.τ).loc Cert.SmallRefIdeal.main_arg6)
      ∧ r.2.mem ((c.tc : Thread Cert.SmallRefIdeal.nD Cert.SmallRefIdeal.τ).loc Cert.SmallRefIdeal.main_arg7) = m ((c.tc : Thread Cert.SmallRefIdeal.nD Cert.SmallRefIdeal.τ).loc Cert.SmallRefIdeal.main_arg7)
      ∧ r.2.mem ((c.tc : Thread Cert.SmallRefIdeal.nD Cert.SmallRefIdeal.τ).loc Cert.SmallRefIdeal.main_arg8) = m ((c.tc : Thread Cert.SmallRefIdeal.nD Cert.SmallRefIdeal.τ).loc Cert.SmallRefIdeal.main_arg8)
      ∧ r.2.mem ((c.tc : Thread Cert.SmallRefIdeal.nD Cert.SmallRefIdeal.τ).loc Cert.SmallRefIdeal.main_arg9) = m ((c.tc : Thread Cert.SmallRefIdeal.nD Cert.SmallRefIdeal.τ).loc Cert.SmallRefIdeal.main_arg9)
      ∧ r.2.mem ((c.tc : Thread Cert.SmallRefIdeal.nD Cert.SmallRefIdeal.τ).loc Cert.SmallRefIdeal.main_arg10) = m ((c.tc : Thread Cert.SmallRefIdeal.nD Cert.SmallRefIdeal.τ).loc Cert.SmallRefIdeal.main_arg10)
      ∧ r.2.mem ((c.tc : Thread Cert.SmallRefIdeal.nD Cert.SmallRefIdeal.τ).loc Cert.SmallRefIdeal.main_arg11) = m ((c.tc : Thread Cert.SmallRefIdeal.nD Cert.SmallRefIdeal.τ).loc Cert.SmallRefIdeal.main_arg11)
      ∧ r.2.mem ((c.tc : Thread Cert.SmallRefIdeal.nD Cert.SmallRefIdeal.τ).loc Cert.SmallRefIdeal.main_arg12) = m ((c.tc : Thread Cert.SmallRefIdeal.nD Cert.SmallRefIdeal.τ).loc Cert.SmallRefIdeal.main_arg12)
      ∧ r.2.mem ((c.tc : Thread Cert.SmallRefIdeal.nD Cert.SmallRefIdeal.τ).loc Cert.SmallRefIdeal.main_arg13) = m ((c.tc : Thread Cert.SmallRefIdeal.nD Cert.SmallRefIdeal.τ).loc Cert.SmallRefIdeal.main_arg13)
      ∧ r.2.mem ((c.tc : Thread Cert.SmallRefIdeal.nD Cert.SmallRefIdeal.τ).loc Cert.SmallRefIdeal.main_arg14) = m ((c.tc : Thread Cert.SmallRefIdeal.nD Cert.SmallRefIdeal.τ).loc Cert.SmallRefIdeal.main_arg14)
      ∧ r.2.mem ((c.tc : Thread Cert.SmallRefIdeal.nD Cert.SmallRefIdeal.τ).loc Cert.SmallRefIdeal.main_arg15) = m ((c.tc : Thread Cert.SmallRefIdeal.nD Cert.SmallRefIdeal.τ).loc Cert.SmallRefIdeal.main_arg15)
      ∧ r.2.mem ((c.tc : Thread Cert.SmallRefIdeal.nD Cert.SmallRefIdeal.τ).loc Cert.SmallRefIdeal.main_arg16) = m ((c.tc : Thread Cert.SmallRefIdeal.nD Cert.SmallRefIdeal.τ).loc Cert.SmallRefIdeal.main_arg16)
      ∧ r.2.mem ((c.tc : Thread Cert.SmallRefIdeal.nD Cert.SmallRefIdeal.τ).loc Cert.SmallRefIdeal.main_arg17) = m ((c.tc : Thread Cert.SmallRefIdeal.nD Cert.SmallRefIdeal.τ).loc Cert.SmallRefIdeal.main_arg17)
      ∧ r.2.mem ((c.tc : Thread Cert.SmallRefIdeal.nD Cert.SmallRefIdeal.τ).loc Cert.SmallRefIdeal.main_arg18) = m ((c.tc : Thread Cert.SmallRefIdeal.nD Cert.SmallRefIdeal.τ).loc Cert.SmallRefIdeal.main_arg18)
      ∧ r.2.mem ((c.tc : Thread Cert.SmallRefIdeal.nD Cert.SmallRefIdeal.τ).loc Cert.SmallRefIdeal.main_arg19) = m ((c.tc : Thread Cert.SmallRefIdeal.nD Cert.SmallRefIdeal.τ).loc Cert.SmallRefIdeal.main_arg19)
      ∧ r.2.mem ((c.tc : Thread Cert.SmallRefIdeal.nD Cert.SmallRefIdeal.τ).loc Cert.SmallRefIdeal.main_arg20) = m ((c.tc : Thread Cert.SmallRefIdeal.nD Cert.SmallRefIdeal.τ).loc Cert.SmallRefIdeal.main_arg20)
      ∧ r.2.mem ((c.tc : Thread Cert.SmallRefIdeal.nD Cert.SmallRefIdeal.τ).loc Cert.SmallRefIdeal.main_arg21) = m ((c.tc : Thread Cert.SmallRefIdeal.nD Cert.SmallRefIdeal.τ).loc Cert.SmallRefIdeal.main_arg21)
      ∧ r.2.mem ((c.tc : Thread Cert.SmallRefIdeal.nD Cert.SmallRefIdeal.τ).loc Cert.SmallRefIdeal.main_arg22) = m ((c.tc : Thread Cert.SmallRefIdeal.nD Cert.SmallRefIdeal.τ).loc Cert.SmallRefIdeal.main_arg22)
      ∧ r.2.mem ((c.tc : Thread Cert.SmallRefIdeal.nD Cert.SmallRefIdeal.τ).loc Cert.SmallRefIdeal.main_arg23) = m ((c.tc : Thread Cert.SmallRefIdeal.nD Cert.SmallRefIdeal.τ).loc Cert.SmallRefIdeal.main_arg23)
      ∧ r.2.mem ((c.tc : Thread Cert.SmallRefIdeal.nD Cert.SmallRefIdeal.τ).loc Cert.SmallRefIdeal.main_arg24) = m ((c.tc : Thread Cert.SmallRefIdeal.nD Cert.SmallRefIdeal.τ).loc Cert.SmallRefIdeal.main_arg24)
      ∧ r.2.mem ((c.tc : Thread Cert.SmallRefIdeal.nD Cert.SmallRefIdeal.τ).loc Cert.SmallRefIdeal.main_arg25) = m ((c.tc : Thread Cert.SmallRefIdeal.nD Cert.SmallRefIdeal.τ).loc Cert.SmallRefIdeal.main_arg25)
      ∧ r.2.mem ((c.tc : Thread Cert.SmallRefIdeal.nD Cert.SmallRefIdeal.τ).loc Cert.SmallRefIdeal.main_arg26) = m ((c.tc : Thread Cert.SmallRefIdeal.nD Cert.SmallRefIdeal.τ).loc Cert.SmallRefIdeal.main_arg26)
      ∧ r.2.mem ((c.tc : Thread Cert.SmallRefIdeal.nD Cert.SmallRefIdeal.τ).loc Cert.SmallRefIdeal.main_arg27) = m ((c.tc : Thread Cert.SmallRefIdeal.nD Cert.SmallRefIdeal.τ).loc Cert.SmallRefIdeal.main_arg27)
      ∧ r.2.mem ((c.tc : Thread Cert.SmallRefIdeal.nD Cert.SmallRefIdeal.τ).loc Cert.SmallRefIdeal.main_arg28) = m ((c.tc : Thread Cert.SmallRefIdeal.nD Cert.SmallRefIdeal.τ).loc Cert.SmallRefIdeal.main_arg28)
      ∧ r.2.mem ((c.tc : Thread Cert.SmallRefIdeal.nD Cert.SmallRefIdeal.τ).loc Cert.SmallRefIdeal.main_arg29) = m ((c.tc : Thread Cert.SmallRefIdeal.nD Cert.SmallRefIdeal.τ).loc Cert.SmallRefIdeal.main_arg29)
      ∧ r.2.mem ((c.tc : Thread Cert.SmallRefIdeal.nD Cert.SmallRefIdeal.τ).loc Cert.SmallRefIdeal.main_arg30) = m ((c.tc : Thread Cert.SmallRefIdeal.nD Cert.SmallRefIdeal.τ).loc Cert.SmallRefIdeal.main_arg30)
      ∧ r.2.mem ((c.tc : Thread Cert.SmallRefIdeal.nD Cert.SmallRefIdeal.τ).loc Cert.SmallRefIdeal.main_arg31) = m ((c.tc : Thread Cert.SmallRefIdeal.nD Cert.SmallRefIdeal.τ).loc Cert.SmallRefIdeal.main_arg31)
      ∧ r.2.mem ((c.tc : Thread Cert.SmallRefIdeal.nD Cert.SmallRefIdeal.τ).loc Cert.SmallRefIdeal.main_arg32) = m ((c.tc : Thread Cert.SmallRefIdeal.nD Cert.SmallRefIdeal.τ).loc Cert.SmallRefIdeal.main_arg32)
      ∧ r.2.mem ((c.tc : Thread Cert.SmallRefIdeal.nD Cert.SmallRefIdeal.τ).loc Cert.SmallRefIdeal.main_arg33) = m ((c.tc : Thread Cert.SmallRefIdeal.nD Cert.SmallRefIdeal.τ).loc Cert.SmallRefIdeal.main_arg33)
      ∧ r.2.mem ((c.tc : Thread Cert.SmallRefIdeal.nD Cert.SmallRefIdeal.τ).loc Cert.SmallRefIdeal.main_arg34) = m ((c.tc : Thread Cert.SmallRefIdeal.nD Cert.SmallRefIdeal.τ).loc Cert.SmallRefIdeal.main_arg34)
      ∧ r.2.mem ((c.tc : Thread Cert.SmallRefIdeal.nD Cert.SmallRefIdeal.τ).loc Cert.SmallRefIdeal.main_arg35) = m ((c.tc : Thread Cert.SmallRefIdeal.nD Cert.SmallRefIdeal.τ).loc Cert.SmallRefIdeal.main_arg35))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1)
      ∧ r.2.mem ((c.tc : Thread Cert.Ff2.nD Cert.Ff2.τ).loc Cert.Ff2.main_arg2) = m ((c.tc : Thread Cert.Ff2.nD Cert.Ff2.τ).loc Cert.Ff2.main_arg2)
      ∧ r.2.mem ((c.tc : Thread Cert.Ff2.nD Cert.Ff2.τ).loc Cert.Ff2.main_arg3) = m ((c.tc : Thread Cert.Ff2.nD Cert.Ff2.τ).loc Cert.Ff2.main_arg3)
      ∧ r.2.mem ((c.tc : Thread Cert.Ff2.nD Cert.Ff2.τ).loc Cert.Ff2.main_arg4) = m ((c.tc : Thread Cert.Ff2.nD Cert.Ff2.τ).loc Cert.Ff2.main_arg4)
      ∧ r.2.mem ((c.tc : Thread Cert.Ff2.nD Cert.Ff2.τ).loc Cert.Ff2.main_arg5) = m ((c.tc : Thread Cert.Ff2.nD Cert.Ff2.τ).loc Cert.Ff2.main_arg5)
      ∧ r.2.mem ((c.tc : Thread Cert.Ff2.nD Cert.Ff2.τ).loc Cert.Ff2.main_arg6) = m ((c.tc : Thread Cert.Ff2.nD Cert.Ff2.τ).loc Cert.Ff2.main_arg6))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2)
      ∧ r.2.mem ((c.tc : Thread Cert.Ff2Ideal.nD Cert.Ff2Ideal.τ).loc Cert.Ff2Ideal.main_arg3) = m ((c.tc : Thread Cert.Ff2Ideal.nD Cert.Ff2Ideal.τ).loc Cert.Ff2Ideal.main_arg3)
      ∧ r.2.mem ((c.tc : Thread Cert.Ff2Ideal.nD Cert.Ff2Ideal.τ).loc Cert.Ff2Ideal.main_arg4) = m ((c.tc : Thread Cert.Ff2Ideal.nD Cert.Ff2Ideal.τ).loc Cert.Ff2Ideal.main_arg4)
      ∧ r.2.mem ((c.tc : Thread Cert.Ff2Ideal.nD Cert.Ff2Ideal.τ).loc Cert.Ff2Ideal.main_arg5) = m ((c.tc : Thread Cert.Ff2Ideal.nD Cert.Ff2Ideal.τ).loc Cert.Ff2Ideal.main_arg5)
      ∧ r.2.mem ((c.tc : Thread Cert.Ff2Ideal.nD Cert.Ff2Ideal.τ).loc Cert.Ff2Ideal.main_arg6) = m ((c.tc : Thread Cert.Ff2Ideal.nD Cert.Ff2Ideal.τ).loc Cert.Ff2Ideal.main_arg6))
      ∧ r.2.sem = fun _ => 0)

def quiescent_Ff2Ideal_pre_ff2_finite [hFf2Ideal : Cert.Ff2Ideal.Facts] [hPre_ff2_finite : Cert.Pre_ff2_finite.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal_ff2_finite m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2)
      ∧ r.2.mem ((c.tc : Thread Cert.Ff2Ideal.nD Cert.Ff2Ideal.τ).loc Cert.Ff2Ideal.main_arg3) = m ((c.tc : Thread Cert.Ff2Ideal.nD Cert.Ff2Ideal.τ).loc Cert.Ff2Ideal.main_arg3)
      ∧ r.2.mem ((c.tc : Thread Cert.Ff2Ideal.nD Cert.Ff2Ideal.τ).loc Cert.Ff2Ideal.main_arg4) = m ((c.tc : Thread Cert.Ff2Ideal.nD Cert.Ff2Ideal.τ).loc Cert.Ff2Ideal.main_arg4)
      ∧ r.2.mem ((c.tc : Thread Cert.Ff2Ideal.nD Cert.Ff2Ideal.τ).loc Cert.Ff2Ideal.main_arg5) = m ((c.tc : Thread Cert.Ff2Ideal.nD Cert.Ff2Ideal.τ).loc Cert.Ff2Ideal.main_arg5)
      ∧ r.2.mem ((c.tc : Thread Cert.Ff2Ideal.nD Cert.Ff2Ideal.τ).loc Cert.Ff2Ideal.main_arg6) = m ((c.tc : Thread Cert.Ff2Ideal.nD Cert.Ff2Ideal.τ).loc Cert.Ff2Ideal.main_arg6))
      ∧ r.2.sem = fun _ => 0)

def quiescent_Ff2RefIdeal [hFf2RefIdeal : Cert.Ff2RefIdeal.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1)
      ∧ r.2.mem ((c.tc : Thread Cert.Ff2RefIdeal.nD Cert.Ff2RefIdeal.τ).loc Cert.Ff2RefIdeal.main_arg2) = m ((c.tc : Thread Cert.Ff2RefIdeal.nD Cert.Ff2RefIdeal.τ).loc Cert.Ff2RefIdeal.main_arg2)
      ∧ r.2.mem ((c.tc : Thread Cert.Ff2RefIdeal.nD Cert.Ff2RefIdeal.τ).loc Cert.Ff2RefIdeal.main_arg3) = m ((c.tc : Thread Cert.Ff2RefIdeal.nD Cert.Ff2RefIdeal.τ).loc Cert.Ff2RefIdeal.main_arg3)
      ∧ r.2.mem ((c.tc : Thread Cert.Ff2RefIdeal.nD Cert.Ff2RefIdeal.τ).loc Cert.Ff2RefIdeal.main_arg4) = m ((c.tc : Thread Cert.Ff2RefIdeal.nD Cert.Ff2RefIdeal.τ).loc Cert.Ff2RefIdeal.main_arg4)
      ∧ r.2.mem ((c.tc : Thread Cert.Ff2RefIdeal.nD Cert.Ff2RefIdeal.τ).loc Cert.Ff2RefIdeal.main_arg5) = m ((c.tc : Thread Cert.Ff2RefIdeal.nD Cert.Ff2RefIdeal.τ).loc Cert.Ff2RefIdeal.main_arg5)
      ∧ r.2.mem ((c.tc : Thread Cert.Ff2RefIdeal.nD Cert.Ff2RefIdeal.τ).loc Cert.Ff2RefIdeal.main_arg6) = m ((c.tc : Thread Cert.Ff2RefIdeal.nD Cert.Ff2RefIdeal.τ).loc Cert.Ff2RefIdeal.main_arg6))
      ∧ r.2.sem = fun _ => 0)

def quiescent_Ff2RefIdeal_pre_ff2_finite [hFf2RefIdeal : Cert.Ff2RefIdeal.Facts] [hPre_ff2_finite : Cert.Pre_ff2_finite.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal_ff2_finite m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1)
      ∧ r.2.mem ((c.tc : Thread Cert.Ff2RefIdeal.nD Cert.Ff2RefIdeal.τ).loc Cert.Ff2RefIdeal.main_arg2) = m ((c.tc : Thread Cert.Ff2RefIdeal.nD Cert.Ff2RefIdeal.τ).loc Cert.Ff2RefIdeal.main_arg2)
      ∧ r.2.mem ((c.tc : Thread Cert.Ff2RefIdeal.nD Cert.Ff2RefIdeal.τ).loc Cert.Ff2RefIdeal.main_arg3) = m ((c.tc : Thread Cert.Ff2RefIdeal.nD Cert.Ff2RefIdeal.τ).loc Cert.Ff2RefIdeal.main_arg3)
      ∧ r.2.mem ((c.tc : Thread Cert.Ff2RefIdeal.nD Cert.Ff2RefIdeal.τ).loc Cert.Ff2RefIdeal.main_arg4) = m ((c.tc : Thread Cert.Ff2RefIdeal.nD Cert.Ff2RefIdeal.τ).loc Cert.Ff2RefIdeal.main_arg4)
      ∧ r.2.mem ((c.tc : Thread Cert.Ff2RefIdeal.nD Cert.Ff2RefIdeal.τ).loc Cert.Ff2RefIdeal.main_arg5) = m ((c.tc : Thread Cert.Ff2RefIdeal.nD Cert.Ff2RefIdeal.τ).loc Cert.Ff2RefIdeal.main_arg5)
      ∧ r.2.mem ((c.tc : Thread Cert.Ff2RefIdeal.nD Cert.Ff2RefIdeal.τ).loc Cert.Ff2RefIdeal.main_arg6) = m ((c.tc : Thread Cert.Ff2RefIdeal.nD Cert.Ff2RefIdeal.τ).loc Cert.Ff2RefIdeal.main_arg6))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1)
      ∧ r.2.mem ((c.tc : Thread Cert.Dh1.nD Cert.Dh1.τ).loc Cert.Dh1.main_arg2) = m ((c.tc : Thread Cert.Dh1.nD Cert.Dh1.τ).loc Cert.Dh1.main_arg2)
      ∧ r.2.mem ((c.tc : Thread Cert.Dh1.nD Cert.Dh1.τ).loc Cert.Dh1.main_arg3) = m ((c.tc : Thread Cert.Dh1.nD Cert.Dh1.τ).loc Cert.Dh1.main_arg3)
      ∧ r.2.mem ((c.tc : Thread Cert.Dh1.nD Cert.Dh1.τ).loc Cert.Dh1.main_arg4) = m ((c.tc : Thread Cert.Dh1.nD Cert.Dh1.τ).loc Cert.Dh1.main_arg4))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
      ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2)
      ∧ r.2.mem ((c.tc : Thread Cert.Dh1Ideal.nD Cert.Dh1Ideal.τ).loc Cert.Dh1Ideal.main_arg3) = m ((c.tc : Thread Cert.Dh1Ideal.nD Cert.Dh1Ideal.τ).loc Cert.Dh1Ideal.main_arg3)
      ∧ r.2.mem ((c.tc : Thread Cert.Dh1Ideal.nD Cert.Dh1Ideal.τ).loc Cert.Dh1Ideal.main_arg4) = m ((c.tc : Thread Cert.Dh1Ideal.nD Cert.Dh1Ideal.τ).loc Cert.Dh1Ideal.main_arg4))
      ∧ r.2.sem = fun _ => 0)

def quiescent_Dh1Ideal_pre_dh1_finite [hDh1Ideal : Cert.Dh1Ideal.Facts] [hPre_dh1_finite : Cert.Pre_dh1_finite.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal_dh1_finite m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
      ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2)
      ∧ r.2.mem ((c.tc : Thread Cert.Dh1Ideal.nD Cert.Dh1Ideal.τ).loc Cert.Dh1Ideal.main_arg3) = m ((c.tc : Thread Cert.Dh1Ideal.nD Cert.Dh1Ideal.τ).loc Cert.Dh1Ideal.main_arg3)
      ∧ r.2.mem ((c.tc : Thread Cert.Dh1Ideal.nD Cert.Dh1Ideal.τ).loc Cert.Dh1Ideal.main_arg4) = m ((c.tc : Thread Cert.Dh1Ideal.nD Cert.Dh1Ideal.τ).loc Cert.Dh1Ideal.main_arg4))
      ∧ r.2.sem = fun _ => 0)

def quiescent_Dh1RefIdeal [hDh1RefIdeal : Cert.Dh1RefIdeal.Facts] : Prop :=
  ∀ (m : (ℓ : Loc Cert.Dh1RefIdeal.nD Cert.Dh1RefIdeal.τ Cert.Dh1RefIdeal.sig) → Buf (Elt Ideal) ℓ) (g : Dev Cert.Dh1RefIdeal.nD → PrngReg), Pre_Dh1RefIdeal m →
    θ_run (Cert.Dh1RefIdeal.defs (F := Ideal)) (onTc (τ := Cert.Dh1RefIdeal.τ) (Cert.Dh1RefIdeal.main (F := Ideal))) ⟨m, fun _ => 0, g⟩ (fun r => (∀ c : Dev Cert.Dh1RefIdeal.nD,
      r.2.mem ((c.tc : Thread Cert.Dh1RefIdeal.nD Cert.Dh1RefIdeal.τ).loc Cert.Dh1RefIdeal.main_arg0) = m ((c.tc : Thread Cert.Dh1RefIdeal.nD Cert.Dh1RefIdeal.τ).loc Cert.Dh1RefIdeal.main_arg0)
      ∧ r.2.mem ((c.tc : Thread Cert.Dh1RefIdeal.nD Cert.Dh1RefIdeal.τ).loc Cert.Dh1RefIdeal.main_arg1) = m ((c.tc : Thread Cert.Dh1RefIdeal.nD Cert.Dh1RefIdeal.τ).loc Cert.Dh1RefIdeal.main_arg1)
      ∧ r.2.mem ((c.tc : Thread Cert.Dh1RefIdeal.nD Cert.Dh1RefIdeal.τ).loc Cert.Dh1RefIdeal.main_arg2) = m ((c.tc : Thread Cert.Dh1RefIdeal.nD Cert.Dh1RefIdeal.τ).loc Cert.Dh1RefIdeal.main_arg2)
      ∧ r.2.mem ((c.tc : Thread Cert.Dh1RefIdeal.nD Cert.Dh1RefIdeal.τ).loc Cert.Dh1RefIdeal.main_arg3) = m ((c.tc : Thread Cert.Dh1RefIdeal.nD Cert.Dh1RefIdeal.τ).loc Cert.Dh1RefIdeal.main_arg3)
      ∧ r.2.mem ((c.tc : Thread Cert.Dh1RefIdeal.nD Cert.Dh1RefIdeal.τ).loc Cert.Dh1RefIdeal.main_arg4) = m ((c.tc : Thread Cert.Dh1RefIdeal.nD Cert.Dh1RefIdeal.τ).loc Cert.Dh1RefIdeal.main_arg4))
      ∧ r.2.sem = fun _ => 0)

def quiescent_Dh1RefIdeal_pre_dh1_finite [hDh1RefIdeal : Cert.Dh1RefIdeal.Facts] [hPre_dh1_finite : Cert.Pre_dh1_finite.Facts] : Prop :=
  ∀ (m : (ℓ : Loc Cert.Dh1RefIdeal.nD Cert.Dh1RefIdeal.τ Cert.Dh1RefIdeal.sig) → Buf (Elt Ideal) ℓ) (g : Dev Cert.Dh1RefIdeal.nD → PrngReg), Pre_Dh1RefIdeal_dh1_finite m →
    θ_run (Cert.Dh1RefIdeal.defs (F := Ideal)) (onTc (τ := Cert.Dh1RefIdeal.τ) (Cert.Dh1RefIdeal.main (F := Ideal))) ⟨m, fun _ => 0, g⟩ (fun r => (∀ c : Dev Cert.Dh1RefIdeal.nD,
      r.2.mem ((c.tc : Thread Cert.Dh1RefIdeal.nD Cert.Dh1RefIdeal.τ).loc Cert.Dh1RefIdeal.main_arg0) = m ((c.tc : Thread Cert.Dh1RefIdeal.nD Cert.Dh1RefIdeal.τ).loc Cert.Dh1RefIdeal.main_arg0)
      ∧ r.2.mem ((c.tc : Thread Cert.Dh1RefIdeal.nD Cert.Dh1RefIdeal.τ).loc Cert.Dh1RefIdeal.main_arg1) = m ((c.tc : Thread Cert.Dh1RefIdeal.nD Cert.Dh1RefIdeal.τ).loc Cert.Dh1RefIdeal.main_arg1)
      ∧ r.2.mem ((c.tc : Thread Cert.Dh1RefIdeal.nD Cert.Dh1RefIdeal.τ).loc Cert.Dh1RefIdeal.main_arg2) = m ((c.tc : Thread Cert.Dh1RefIdeal.nD Cert.Dh1RefIdeal.τ).loc Cert.Dh1RefIdeal.main_arg2)
      ∧ r.2.mem ((c.tc : Thread Cert.Dh1RefIdeal.nD Cert.Dh1RefIdeal.τ).loc Cert.Dh1RefIdeal.main_arg3) = m ((c.tc : Thread Cert.Dh1RefIdeal.nD Cert.Dh1RefIdeal.τ).loc Cert.Dh1RefIdeal.main_arg3)
      ∧ r.2.mem ((c.tc : Thread Cert.Dh1RefIdeal.nD Cert.Dh1RefIdeal.τ).loc Cert.Dh1RefIdeal.main_arg4) = m ((c.tc : Thread Cert.Dh1RefIdeal.nD Cert.Dh1RefIdeal.τ).loc Cert.Dh1RefIdeal.main_arg4))
      ∧ r.2.sem = fun _ => 0)

def quiescent_Dh0 [hDh0 : Cert.Dh0.Facts] : Prop :=
  ∀ (m : (ℓ : Loc Cert.Dh0.nD Cert.Dh0.τ Cert.Dh0.sig) → Buf (Elt Bits) ℓ) (g : Dev Cert.Dh0.nD → PrngReg), Pre_Dh0 m →
    θ_run (Cert.Dh0.defs (F := Bits)) (onTc (τ := Cert.Dh0.τ) (Cert.Dh0.main (F := Bits))) ⟨m, fun _ => 0, g⟩ (fun r => (∀ c : Dev Cert.Dh0.nD,
      r.2.mem ((c.tc : Thread Cert.Dh0.nD Cert.Dh0.τ).loc Cert.Dh0.main_arg0) = m ((c.tc : Thread Cert.Dh0.nD Cert.Dh0.τ).loc Cert.Dh0.main_arg0)
      ∧ r.2.mem ((c.tc : Thread Cert.Dh0.nD Cert.Dh0.τ).loc Cert.Dh0.main_arg1) = m ((c.tc : Thread Cert.Dh0.nD Cert.Dh0.τ).loc Cert.Dh0.main_arg1)
      ∧ r.2.mem ((c.tc : Thread Cert.Dh0.nD Cert.Dh0.τ).loc Cert.Dh0.main_arg2) = m ((c.tc : Thread Cert.Dh0.nD Cert.Dh0.τ).loc Cert.Dh0.main_arg2)
      ∧ r.2.mem ((c.tc : Thread Cert.Dh0.nD Cert.Dh0.τ).loc Cert.Dh0.main_arg3) = m ((c.tc : Thread Cert.Dh0.nD Cert.Dh0.τ).loc Cert.Dh0.main_arg3)
      ∧ r.2.mem ((c.tc : Thread Cert.Dh0.nD Cert.Dh0.τ).loc Cert.Dh0.main_arg4) = m ((c.tc : Thread Cert.Dh0.nD Cert.Dh0.τ).loc Cert.Dh0.main_arg4))
      ∧ r.2.sem = fun _ => 0)

def quiescent_Dh0Ideal [hDh0Ideal : Cert.Dh0Ideal.Facts] : Prop :=
  ∀ (m : (ℓ : Loc Cert.Dh0Ideal.nD Cert.Dh0Ideal.τ Cert.Dh0Ideal.sig) → Buf (Elt Ideal) ℓ) (g : Dev Cert.Dh0Ideal.nD → PrngReg), Pre_Dh0Ideal m →
    θ_run (Cert.Dh0Ideal.defs (F := Ideal)) (onTc (τ := Cert.Dh0Ideal.τ) (Cert.Dh0Ideal.main (F := Ideal))) ⟨m, fun _ => 0, g⟩ (fun r => (∀ c : Dev Cert.Dh0Ideal.nD,
      r.2.mem ((c.tc : Thread Cert.Dh0Ideal.nD Cert.Dh0Ideal.τ).loc Cert.Dh0Ideal.main_arg0) = m ((c.tc : Thread Cert.Dh0Ideal.nD Cert.Dh0Ideal.τ).loc Cert.Dh0Ideal.main_arg0)
      ∧ r.2.mem ((c.tc : Thread Cert.Dh0Ideal.nD Cert.Dh0Ideal.τ).loc Cert.Dh0Ideal.main_arg1) = m ((c.tc : Thread Cert.Dh0Ideal.nD Cert.Dh0Ideal.τ).loc Cert.Dh0Ideal.main_arg1)
      ∧ r.2.mem ((c.tc : Thread Cert.Dh0Ideal.nD Cert.Dh0Ideal.τ).loc Cert.Dh0Ideal.main_arg2) = m ((c.tc : Thread Cert.Dh0Ideal.nD Cert.Dh0Ideal.τ).loc Cert.Dh0Ideal.main_arg2)
      ∧ r.2.mem ((c.tc : Thread Cert.Dh0Ideal.nD Cert.Dh0Ideal.τ).loc Cert.Dh0Ideal.main_arg3) = m ((c.tc : Thread Cert.Dh0Ideal.nD Cert.Dh0Ideal.τ).loc Cert.Dh0Ideal.main_arg3)
      ∧ r.2.mem ((c.tc : Thread Cert.Dh0Ideal.nD Cert.Dh0Ideal.τ).loc Cert.Dh0Ideal.main_arg4) = m ((c.tc : Thread Cert.Dh0Ideal.nD Cert.Dh0Ideal.τ).loc Cert.Dh0Ideal.main_arg4))
      ∧ r.2.sem = fun _ => 0)

def quiescent_Dh0Ideal_pre_dh0_finite [hDh0Ideal : Cert.Dh0Ideal.Facts] [hPre_dh0_finite : Cert.Pre_dh0_finite.Facts] : Prop :=
  ∀ (m : (ℓ : Loc Cert.Dh0Ideal.nD Cert.Dh0Ideal.τ Cert.Dh0Ideal.sig) → Buf (Elt Ideal) ℓ) (g : Dev Cert.Dh0Ideal.nD → PrngReg), Pre_Dh0Ideal_dh0_finite m →
    θ_run (Cert.Dh0Ideal.defs (F := Ideal)) (onTc (τ := Cert.Dh0Ideal.τ) (Cert.Dh0Ideal.main (F := Ideal))) ⟨m, fun _ => 0, g⟩ (fun r => (∀ c : Dev Cert.Dh0Ideal.nD,
      r.2.mem ((c.tc : Thread Cert.Dh0Ideal.nD Cert.Dh0Ideal.τ).loc Cert.Dh0Ideal.main_arg0) = m ((c.tc : Thread Cert.Dh0Ideal.nD Cert.Dh0Ideal.τ).loc Cert.Dh0Ideal.main_arg0)
      ∧ r.2.mem ((c.tc : Thread Cert.Dh0Ideal.nD Cert.Dh0Ideal.τ).loc Cert.Dh0Ideal.main_arg1) = m ((c.tc : Thread Cert.Dh0Ideal.nD Cert.Dh0Ideal.τ).loc Cert.Dh0Ideal.main_arg1)
      ∧ r.2.mem ((c.tc : Thread Cert.Dh0Ideal.nD Cert.Dh0Ideal.τ).loc Cert.Dh0Ideal.main_arg2) = m ((c.tc : Thread Cert.Dh0Ideal.nD Cert.Dh0Ideal.τ).loc Cert.Dh0Ideal.main_arg2)
      ∧ r.2.mem ((c.tc : Thread Cert.Dh0Ideal.nD Cert.Dh0Ideal.τ).loc Cert.Dh0Ideal.main_arg3) = m ((c.tc : Thread Cert.Dh0Ideal.nD Cert.Dh0Ideal.τ).loc Cert.Dh0Ideal.main_arg3)
      ∧ r.2.mem ((c.tc : Thread Cert.Dh0Ideal.nD Cert.Dh0Ideal.τ).loc Cert.Dh0Ideal.main_arg4) = m ((c.tc : Thread Cert.Dh0Ideal.nD Cert.Dh0Ideal.τ).loc Cert.Dh0Ideal.main_arg4))
      ∧ r.2.sem = fun _ => 0)

def quiescent_Dh0RefIdeal [hDh0RefIdeal : Cert.Dh0RefIdeal.Facts] : Prop :=
  ∀ (m : (ℓ : Loc Cert.Dh0RefIdeal.nD Cert.Dh0RefIdeal.τ Cert.Dh0RefIdeal.sig) → Buf (Elt Ideal) ℓ) (g : Dev Cert.Dh0RefIdeal.nD → PrngReg), Pre_Dh0RefIdeal m →
    θ_run (Cert.Dh0RefIdeal.defs (F := Ideal)) (onTc (τ := Cert.Dh0RefIdeal.τ) (Cert.Dh0RefIdeal.main (F := Ideal))) ⟨m, fun _ => 0, g⟩ (fun r => (∀ c : Dev Cert.Dh0RefIdeal.nD,
      r.2.mem ((c.tc : Thread Cert.Dh0RefIdeal.nD Cert.Dh0RefIdeal.τ).loc Cert.Dh0RefIdeal.main_arg0) = m ((c.tc : Thread Cert.Dh0RefIdeal.nD Cert.Dh0RefIdeal.τ).loc Cert.Dh0RefIdeal.main_arg0)
      ∧ r.2.mem ((c.tc : Thread Cert.Dh0RefIdeal.nD Cert.Dh0RefIdeal.τ).loc Cert.Dh0RefIdeal.main_arg1) = m ((c.tc : Thread Cert.Dh0RefIdeal.nD Cert.Dh0RefIdeal.τ).loc Cert.Dh0RefIdeal.main_arg1)
      ∧ r.2.mem ((c.tc : Thread Cert.Dh0RefIdeal.nD Cert.Dh0RefIdeal.τ).loc Cert.Dh0RefIdeal.main_arg2) = m ((c.tc : Thread Cert.Dh0RefIdeal.nD Cert.Dh0RefIdeal.τ).loc Cert.Dh0RefIdeal.main_arg2)
      ∧ r.2.mem ((c.tc : Thread Cert.Dh0RefIdeal.nD Cert.Dh0RefIdeal.τ).loc Cert.Dh0RefIdeal.main_arg3) = m ((c.tc : Thread Cert.Dh0RefIdeal.nD Cert.Dh0RefIdeal.τ).loc Cert.Dh0RefIdeal.main_arg3)
      ∧ r.2.mem ((c.tc : Thread Cert.Dh0RefIdeal.nD Cert.Dh0RefIdeal.τ).loc Cert.Dh0RefIdeal.main_arg4) = m ((c.tc : Thread Cert.Dh0RefIdeal.nD Cert.Dh0RefIdeal.τ).loc Cert.Dh0RefIdeal.main_arg4))
      ∧ r.2.sem = fun _ => 0)

def quiescent_Dh0RefIdeal_pre_dh0_finite [hDh0RefIdeal : Cert.Dh0RefIdeal.Facts] [hPre_dh0_finite : Cert.Pre_dh0_finite.Facts] : Prop :=
  ∀ (m : (ℓ : Loc Cert.Dh0RefIdeal.nD Cert.Dh0RefIdeal.τ Cert.Dh0RefIdeal.sig) → Buf (Elt Ideal) ℓ) (g : Dev Cert.Dh0RefIdeal.nD → PrngReg), Pre_Dh0RefIdeal_dh0_finite m →
    θ_run (Cert.Dh0RefIdeal.defs (F := Ideal)) (onTc (τ := Cert.Dh0RefIdeal.τ) (Cert.Dh0RefIdeal.main (F := Ideal))) ⟨m, fun _ => 0, g⟩ (fun r => (∀ c : Dev Cert.Dh0RefIdeal.nD,
      r.2.mem ((c.tc : Thread Cert.Dh0RefIdeal.nD Cert.Dh0RefIdeal.τ).loc Cert.Dh0RefIdeal.main_arg0) = m ((c.tc : Thread Cert.Dh0RefIdeal.nD Cert.Dh0RefIdeal.τ).loc Cert.Dh0RefIdeal.main_arg0)
      ∧ r.2.mem ((c.tc : Thread Cert.Dh0RefIdeal.nD Cert.Dh0RefIdeal.τ).loc Cert.Dh0RefIdeal.main_arg1) = m ((c.tc : Thread Cert.Dh0RefIdeal.nD Cert.Dh0RefIdeal.τ).loc Cert.Dh0RefIdeal.main_arg1)
      ∧ r.2.mem ((c.tc : Thread Cert.Dh0RefIdeal.nD Cert.Dh0RefIdeal.τ).loc Cert.Dh0RefIdeal.main_arg2) = m ((c.tc : Thread Cert.Dh0RefIdeal.nD Cert.Dh0RefIdeal.τ).loc Cert.Dh0RefIdeal.main_arg2)
      ∧ r.2.mem ((c.tc : Thread Cert.Dh0RefIdeal.nD Cert.Dh0RefIdeal.τ).loc Cert.Dh0RefIdeal.main_arg3) = m ((c.tc : Thread Cert.Dh0RefIdeal.nD Cert.Dh0RefIdeal.τ).loc Cert.Dh0RefIdeal.main_arg3)
      ∧ r.2.mem ((c.tc : Thread Cert.Dh0RefIdeal.nD Cert.Dh0RefIdeal.τ).loc Cert.Dh0RefIdeal.main_arg4) = m ((c.tc : Thread Cert.Dh0RefIdeal.nD Cert.Dh0RefIdeal.τ).loc Cert.Dh0RefIdeal.main_arg4))
      ∧ r.2.sem = fun _ => 0)

def quiescent_RsFf1 [hRsFf1 : Cert.RsFf1.Facts] [hPre_rs_ff1_slot : Cert.Pre_rs_ff1_slot.Facts] : Prop :=
  ∀ (m : (ℓ : Loc Cert.RsFf1.nD Cert.RsFf1.τ Cert.RsFf1.sig) → Buf (Elt Bits) ℓ) (g : Dev Cert.RsFf1.nD → PrngReg), Pre_RsFf1 m →
    θ_run (Cert.RsFf1.defs (F := Bits)) (onTc (τ := Cert.RsFf1.τ) (Cert.RsFf1.main (F := Bits))) ⟨m, fun _ => 0, g⟩ (fun r => (∀ c : Dev Cert.RsFf1.nD,
      r.2.mem ((c.tc : Thread Cert.RsFf1.nD Cert.RsFf1.τ).loc Cert.RsFf1.main_arg0) = m ((c.tc : Thread Cert.RsFf1.nD Cert.RsFf1.τ).loc Cert.RsFf1.main_arg0)
      ∧ r.2.mem ((c.tc : Thread Cert.RsFf1.nD Cert.RsFf1.τ).loc Cert.RsFf1.main_arg1) = m ((c.tc : Thread Cert.RsFf1.nD Cert.RsFf1.τ).loc Cert.RsFf1.main_arg1)
      ∧ r.2.mem ((c.tc : Thread Cert.RsFf1.nD Cert.RsFf1.τ).loc Cert.RsFf1.main_arg2) = m ((c.tc : Thread Cert.RsFf1.nD Cert.RsFf1.τ).loc Cert.RsFf1.main_arg2)
      ∧ r.2.mem ((c.tc : Thread Cert.RsFf1.nD Cert.RsFf1.τ).loc Cert.RsFf1.main_arg3) = m ((c.tc : Thread Cert.RsFf1.nD Cert.RsFf1.τ).loc Cert.RsFf1.main_arg3)
      ∧ r.2.mem ((c.tc : Thread Cert.RsFf1.nD Cert.RsFf1.τ).loc Cert.RsFf1.main_arg4) = m ((c.tc : Thread Cert.RsFf1.nD Cert.RsFf1.τ).loc Cert.RsFf1.main_arg4)
      ∧ r.2.mem ((c.tc : Thread Cert.RsFf1.nD Cert.RsFf1.τ).loc Cert.RsFf1.main_arg5) = m ((c.tc : Thread Cert.RsFf1.nD Cert.RsFf1.τ).loc Cert.RsFf1.main_arg5)
      ∧ r.2.mem ((c.tc : Thread Cert.RsFf1.nD Cert.RsFf1.τ).loc Cert.RsFf1.main_arg6) = m ((c.tc : Thread Cert.RsFf1.nD Cert.RsFf1.τ).loc Cert.RsFf1.main_arg6))
      ∧ r.2.sem = fun _ => 0)

def quiescent_RsFf1Ideal [hRsFf1Ideal : Cert.RsFf1Ideal.Facts] [hPre_rs_ff1_slot : Cert.Pre_rs_ff1_slot.Facts] : Prop :=
  ∀ (m : (ℓ : Loc Cert.RsFf1Ideal.nD Cert.RsFf1Ideal.τ Cert.RsFf1Ideal.sig) → Buf (Elt Ideal) ℓ) (g : Dev Cert.RsFf1Ideal.nD → PrngReg), Pre_RsFf1Ideal m →
    θ_run (Cert.RsFf1Ideal.defs (F := Ideal)) (onTc (τ := Cert.RsFf1Ideal.τ) (Cert.RsFf1Ideal.main (F := Ideal))) ⟨m, fun _ => 0, g⟩ (fun r => (∀ c : Dev Cert.RsFf1Ideal.nD,
      r.2.mem ((c.tc : Thread Cert.RsFf1Ideal.nD Cert.RsFf1Ideal.τ).loc Cert.RsFf1Ideal.main_arg0) = m ((c.tc : Thread Cert.RsFf1Ideal.nD Cert.RsFf1Ideal.τ).loc Cert.RsFf1Ideal.main_arg0)
      ∧ r.2.mem ((c.tc : Thread Cert.RsFf1Ideal.nD Cert.RsFf1Ideal.τ).loc Cert.RsFf1Ideal.main_arg1) = m ((c.tc : Thread Cert.RsFf1Ideal.nD Cert.RsFf1Ideal.τ).loc Cert.RsFf1Ideal.main_arg1)
      ∧ r.2.mem ((c.tc : Thread Cert.RsFf1Ideal.nD Cert.RsFf1Ideal.τ).loc Cert.RsFf1Ideal.main_arg2) = m ((c.tc : Thread Cert.RsFf1Ideal.nD Cert.RsFf1Ideal.τ).loc Cert.RsFf1Ideal.main_arg2)
      ∧ r.2.mem ((c.tc : Thread Cert.RsFf1Ideal.nD Cert.RsFf1Ideal.τ).loc Cert.RsFf1Ideal.main_arg3) = m ((c.tc : Thread Cert.RsFf1Ideal.nD Cert.RsFf1Ideal.τ).loc Cert.RsFf1Ideal.main_arg3)
      ∧ r.2.mem ((c.tc : Thread Cert.RsFf1Ideal.nD Cert.RsFf1Ideal.τ).loc Cert.RsFf1Ideal.main_arg4) = m ((c.tc : Thread Cert.RsFf1Ideal.nD Cert.RsFf1Ideal.τ).loc Cert.RsFf1Ideal.main_arg4)
      ∧ r.2.mem ((c.tc : Thread Cert.RsFf1Ideal.nD Cert.RsFf1Ideal.τ).loc Cert.RsFf1Ideal.main_arg5) = m ((c.tc : Thread Cert.RsFf1Ideal.nD Cert.RsFf1Ideal.τ).loc Cert.RsFf1Ideal.main_arg5)
      ∧ r.2.mem ((c.tc : Thread Cert.RsFf1Ideal.nD Cert.RsFf1Ideal.τ).loc Cert.RsFf1Ideal.main_arg6) = m ((c.tc : Thread Cert.RsFf1Ideal.nD Cert.RsFf1Ideal.τ).loc Cert.RsFf1Ideal.main_arg6))
      ∧ r.2.sem = fun _ => 0)

def quiescent_RsFf1RefIdeal [hRsFf1RefIdeal : Cert.RsFf1RefIdeal.Facts] : Prop :=
  ∀ (m : (ℓ : Loc Cert.RsFf1RefIdeal.nD Cert.RsFf1RefIdeal.τ Cert.RsFf1RefIdeal.sig) → Buf (Elt Ideal) ℓ) (g : Dev Cert.RsFf1RefIdeal.nD → PrngReg), Pre_RsFf1RefIdeal m →
    θ_run (Cert.RsFf1RefIdeal.defs (F := Ideal)) (onTc (τ := Cert.RsFf1RefIdeal.τ) (Cert.RsFf1RefIdeal.main (F := Ideal))) ⟨m, fun _ => 0, g⟩ (fun r => (∀ c : Dev Cert.RsFf1RefIdeal.nD,
      r.2.mem ((c.tc : Thread Cert.RsFf1RefIdeal.nD Cert.RsFf1RefIdeal.τ).loc Cert.RsFf1RefIdeal.main_arg0) = m ((c.tc : Thread Cert.RsFf1RefIdeal.nD Cert.RsFf1RefIdeal.τ).loc Cert.RsFf1RefIdeal.main_arg0)
      ∧ r.2.mem ((c.tc : Thread Cert.RsFf1RefIdeal.nD Cert.RsFf1RefIdeal.τ).loc Cert.RsFf1RefIdeal.main_arg1) = m ((c.tc : Thread Cert.RsFf1RefIdeal.nD Cert.RsFf1RefIdeal.τ).loc Cert.RsFf1RefIdeal.main_arg1)
      ∧ r.2.mem ((c.tc : Thread Cert.RsFf1RefIdeal.nD Cert.RsFf1RefIdeal.τ).loc Cert.RsFf1RefIdeal.main_arg2) = m ((c.tc : Thread Cert.RsFf1RefIdeal.nD Cert.RsFf1RefIdeal.τ).loc Cert.RsFf1RefIdeal.main_arg2)
      ∧ r.2.mem ((c.tc : Thread Cert.RsFf1RefIdeal.nD Cert.RsFf1RefIdeal.τ).loc Cert.RsFf1RefIdeal.main_arg3) = m ((c.tc : Thread Cert.RsFf1RefIdeal.nD Cert.RsFf1RefIdeal.τ).loc Cert.RsFf1RefIdeal.main_arg3)
      ∧ r.2.mem ((c.tc : Thread Cert.RsFf1RefIdeal.nD Cert.RsFf1RefIdeal.τ).loc Cert.RsFf1RefIdeal.main_arg4) = m ((c.tc : Thread Cert.RsFf1RefIdeal.nD Cert.RsFf1RefIdeal.τ).loc Cert.RsFf1RefIdeal.main_arg4)
      ∧ r.2.mem ((c.tc : Thread Cert.RsFf1RefIdeal.nD Cert.RsFf1RefIdeal.τ).loc Cert.RsFf1RefIdeal.main_arg5) = m ((c.tc : Thread Cert.RsFf1RefIdeal.nD Cert.RsFf1RefIdeal.τ).loc Cert.RsFf1RefIdeal.main_arg5)
      ∧ r.2.mem ((c.tc : Thread Cert.RsFf1RefIdeal.nD Cert.RsFf1RefIdeal.τ).loc Cert.RsFf1RefIdeal.main_arg6) = m ((c.tc : Thread Cert.RsFf1RefIdeal.nD Cert.RsFf1RefIdeal.τ).loc Cert.RsFf1RefIdeal.main_arg6))
      ∧ r.2.sem = fun _ => 0)

def quiescent_RsFf1RefIdeal_pre_rs_ff1_slot [hRsFf1RefIdeal : Cert.RsFf1RefIdeal.Facts] [hPre_rs_ff1_slot : Cert.Pre_rs_ff1_slot.Facts] : Prop :=
  ∀ (m : (ℓ : Loc Cert.RsFf1RefIdeal.nD Cert.RsFf1RefIdeal.τ Cert.RsFf1RefIdeal.sig) → Buf (Elt Ideal) ℓ) (g : Dev Cert.RsFf1RefIdeal.nD → PrngReg), Pre_RsFf1RefIdeal_rs_ff1_slot m →
    θ_run (Cert.RsFf1RefIdeal.defs (F := Ideal)) (onTc (τ := Cert.RsFf1RefIdeal.τ) (Cert.RsFf1RefIdeal.main (F := Ideal))) ⟨m, fun _ => 0, g⟩ (fun r => (∀ c : Dev Cert.RsFf1RefIdeal.nD,
      r.2.mem ((c.tc : Thread Cert.RsFf1RefIdeal.nD Cert.RsFf1RefIdeal.τ).loc Cert.RsFf1RefIdeal.main_arg0) = m ((c.tc : Thread Cert.RsFf1RefIdeal.nD Cert.RsFf1RefIdeal.τ).loc Cert.RsFf1RefIdeal.main_arg0)
      ∧ r.2.mem ((c.tc : Thread Cert.RsFf1RefIdeal.nD Cert.RsFf1RefIdeal.τ).loc Cert.RsFf1RefIdeal.main_arg1) = m ((c.tc : Thread Cert.RsFf1RefIdeal.nD Cert.RsFf1RefIdeal.τ).loc Cert.RsFf1RefIdeal.main_arg1)
      ∧ r.2.mem ((c.tc : Thread Cert.RsFf1RefIdeal.nD Cert.RsFf1RefIdeal.τ).loc Cert.RsFf1RefIdeal.main_arg2) = m ((c.tc : Thread Cert.RsFf1RefIdeal.nD Cert.RsFf1RefIdeal.τ).loc Cert.RsFf1RefIdeal.main_arg2)
      ∧ r.2.mem ((c.tc : Thread Cert.RsFf1RefIdeal.nD Cert.RsFf1RefIdeal.τ).loc Cert.RsFf1RefIdeal.main_arg3) = m ((c.tc : Thread Cert.RsFf1RefIdeal.nD Cert.RsFf1RefIdeal.τ).loc Cert.RsFf1RefIdeal.main_arg3)
      ∧ r.2.mem ((c.tc : Thread Cert.RsFf1RefIdeal.nD Cert.RsFf1RefIdeal.τ).loc Cert.RsFf1RefIdeal.main_arg4) = m ((c.tc : Thread Cert.RsFf1RefIdeal.nD Cert.RsFf1RefIdeal.τ).loc Cert.RsFf1RefIdeal.main_arg4)
      ∧ r.2.mem ((c.tc : Thread Cert.RsFf1RefIdeal.nD Cert.RsFf1RefIdeal.τ).loc Cert.RsFf1RefIdeal.main_arg5) = m ((c.tc : Thread Cert.RsFf1RefIdeal.nD Cert.RsFf1RefIdeal.τ).loc Cert.RsFf1RefIdeal.main_arg5)
      ∧ r.2.mem ((c.tc : Thread Cert.RsFf1RefIdeal.nD Cert.RsFf1RefIdeal.τ).loc Cert.RsFf1RefIdeal.main_arg6) = m ((c.tc : Thread Cert.RsFf1RefIdeal.nD Cert.RsFf1RefIdeal.τ).loc Cert.RsFf1RefIdeal.main_arg6))
      ∧ r.2.sem = fun _ => 0)

def quiescent_RsFf2 [hRsFf2 : Cert.RsFf2.Facts] [hPre_rs_ff2_slot : Cert.Pre_rs_ff2_slot.Facts] : Prop :=
  ∀ (m : (ℓ : Loc Cert.RsFf2.nD Cert.RsFf2.τ Cert.RsFf2.sig) → Buf (Elt Bits) ℓ) (g : Dev Cert.RsFf2.nD → PrngReg), Pre_RsFf2 m →
    θ_run (Cert.RsFf2.defs (F := Bits)) (onTc (τ := Cert.RsFf2.τ) (Cert.RsFf2.main (F := Bits))) ⟨m, fun _ => 0, g⟩ (fun r => (∀ c : Dev Cert.RsFf2.nD,
      r.2.mem ((c.tc : Thread Cert.RsFf2.nD Cert.RsFf2.τ).loc Cert.RsFf2.main_arg0) = m ((c.tc : Thread Cert.RsFf2.nD Cert.RsFf2.τ).loc Cert.RsFf2.main_arg0)
      ∧ r.2.mem ((c.tc : Thread Cert.RsFf2.nD Cert.RsFf2.τ).loc Cert.RsFf2.main_arg1) = m ((c.tc : Thread Cert.RsFf2.nD Cert.RsFf2.τ).loc Cert.RsFf2.main_arg1)
      ∧ r.2.mem ((c.tc : Thread Cert.RsFf2.nD Cert.RsFf2.τ).loc Cert.RsFf2.main_arg2) = m ((c.tc : Thread Cert.RsFf2.nD Cert.RsFf2.τ).loc Cert.RsFf2.main_arg2)
      ∧ r.2.mem ((c.tc : Thread Cert.RsFf2.nD Cert.RsFf2.τ).loc Cert.RsFf2.main_arg3) = m ((c.tc : Thread Cert.RsFf2.nD Cert.RsFf2.τ).loc Cert.RsFf2.main_arg3)
      ∧ r.2.mem ((c.tc : Thread Cert.RsFf2.nD Cert.RsFf2.τ).loc Cert.RsFf2.main_arg4) = m ((c.tc : Thread Cert.RsFf2.nD Cert.RsFf2.τ).loc Cert.RsFf2.main_arg4)
      ∧ r.2.mem ((c.tc : Thread Cert.RsFf2.nD Cert.RsFf2.τ).loc Cert.RsFf2.main_arg5) = m ((c.tc : Thread Cert.RsFf2.nD Cert.RsFf2.τ).loc Cert.RsFf2.main_arg5)
      ∧ r.2.mem ((c.tc : Thread Cert.RsFf2.nD Cert.RsFf2.τ).loc Cert.RsFf2.main_arg6) = m ((c.tc : Thread Cert.RsFf2.nD Cert.RsFf2.τ).loc Cert.RsFf2.main_arg6))
      ∧ r.2.sem = fun _ => 0)

def quiescent_RsFf2Ideal [hRsFf2Ideal : Cert.RsFf2Ideal.Facts] [hPre_rs_ff2_slot : Cert.Pre_rs_ff2_slot.Facts] : Prop :=
  ∀ (m : (ℓ : Loc Cert.RsFf2Ideal.nD Cert.RsFf2Ideal.τ Cert.RsFf2Ideal.sig) → Buf (Elt Ideal) ℓ) (g : Dev Cert.RsFf2Ideal.nD → PrngReg), Pre_RsFf2Ideal m →
    θ_run (Cert.RsFf2Ideal.defs (F := Ideal)) (onTc (τ := Cert.RsFf2Ideal.τ) (Cert.RsFf2Ideal.main (F := Ideal))) ⟨m, fun _ => 0, g⟩ (fun r => (∀ c : Dev Cert.RsFf2Ideal.nD,
      r.2.mem ((c.tc : Thread Cert.RsFf2Ideal.nD Cert.RsFf2Ideal.τ).loc Cert.RsFf2Ideal.main_arg0) = m ((c.tc : Thread Cert.RsFf2Ideal.nD Cert.RsFf2Ideal.τ).loc Cert.RsFf2Ideal.main_arg0)
      ∧ r.2.mem ((c.tc : Thread Cert.RsFf2Ideal.nD Cert.RsFf2Ideal.τ).loc Cert.RsFf2Ideal.main_arg1) = m ((c.tc : Thread Cert.RsFf2Ideal.nD Cert.RsFf2Ideal.τ).loc Cert.RsFf2Ideal.main_arg1)
      ∧ r.2.mem ((c.tc : Thread Cert.RsFf2Ideal.nD Cert.RsFf2Ideal.τ).loc Cert.RsFf2Ideal.main_arg2) = m ((c.tc : Thread Cert.RsFf2Ideal.nD Cert.RsFf2Ideal.τ).loc Cert.RsFf2Ideal.main_arg2)
      ∧ r.2.mem ((c.tc : Thread Cert.RsFf2Ideal.nD Cert.RsFf2Ideal.τ).loc Cert.RsFf2Ideal.main_arg3) = m ((c.tc : Thread Cert.RsFf2Ideal.nD Cert.RsFf2Ideal.τ).loc Cert.RsFf2Ideal.main_arg3)
      ∧ r.2.mem ((c.tc : Thread Cert.RsFf2Ideal.nD Cert.RsFf2Ideal.τ).loc Cert.RsFf2Ideal.main_arg4) = m ((c.tc : Thread Cert.RsFf2Ideal.nD Cert.RsFf2Ideal.τ).loc Cert.RsFf2Ideal.main_arg4)
      ∧ r.2.mem ((c.tc : Thread Cert.RsFf2Ideal.nD Cert.RsFf2Ideal.τ).loc Cert.RsFf2Ideal.main_arg5) = m ((c.tc : Thread Cert.RsFf2Ideal.nD Cert.RsFf2Ideal.τ).loc Cert.RsFf2Ideal.main_arg5)
      ∧ r.2.mem ((c.tc : Thread Cert.RsFf2Ideal.nD Cert.RsFf2Ideal.τ).loc Cert.RsFf2Ideal.main_arg6) = m ((c.tc : Thread Cert.RsFf2Ideal.nD Cert.RsFf2Ideal.τ).loc Cert.RsFf2Ideal.main_arg6))
      ∧ r.2.sem = fun _ => 0)

def quiescent_RsFf2RefIdeal [hRsFf2RefIdeal : Cert.RsFf2RefIdeal.Facts] : Prop :=
  ∀ (m : (ℓ : Loc Cert.RsFf2RefIdeal.nD Cert.RsFf2RefIdeal.τ Cert.RsFf2RefIdeal.sig) → Buf (Elt Ideal) ℓ) (g : Dev Cert.RsFf2RefIdeal.nD → PrngReg), Pre_RsFf2RefIdeal m →
    θ_run (Cert.RsFf2RefIdeal.defs (F := Ideal)) (onTc (τ := Cert.RsFf2RefIdeal.τ) (Cert.RsFf2RefIdeal.main (F := Ideal))) ⟨m, fun _ => 0, g⟩ (fun r => (∀ c : Dev Cert.RsFf2RefIdeal.nD,
      r.2.mem ((c.tc : Thread Cert.RsFf2RefIdeal.nD Cert.RsFf2RefIdeal.τ).loc Cert.RsFf2RefIdeal.main_arg0) = m ((c.tc : Thread Cert.RsFf2RefIdeal.nD Cert.RsFf2RefIdeal.τ).loc Cert.RsFf2RefIdeal.main_arg0)
      ∧ r.2.mem ((c.tc : Thread Cert.RsFf2RefIdeal.nD Cert.RsFf2RefIdeal.τ).loc Cert.RsFf2RefIdeal.main_arg1) = m ((c.tc : Thread Cert.RsFf2RefIdeal.nD Cert.RsFf2RefIdeal.τ).loc Cert.RsFf2RefIdeal.main_arg1)
      ∧ r.2.mem ((c.tc : Thread Cert.RsFf2RefIdeal.nD Cert.RsFf2RefIdeal.τ).loc Cert.RsFf2RefIdeal.main_arg2) = m ((c.tc : Thread Cert.RsFf2RefIdeal.nD Cert.RsFf2RefIdeal.τ).loc Cert.RsFf2RefIdeal.main_arg2)
      ∧ r.2.mem ((c.tc : Thread Cert.RsFf2RefIdeal.nD Cert.RsFf2RefIdeal.τ).loc Cert.RsFf2RefIdeal.main_arg3) = m ((c.tc : Thread Cert.RsFf2RefIdeal.nD Cert.RsFf2RefIdeal.τ).loc Cert.RsFf2RefIdeal.main_arg3)
      ∧ r.2.mem ((c.tc : Thread Cert.RsFf2RefIdeal.nD Cert.RsFf2RefIdeal.τ).loc Cert.RsFf2RefIdeal.main_arg4) = m ((c.tc : Thread Cert.RsFf2RefIdeal.nD Cert.RsFf2RefIdeal.τ).loc Cert.RsFf2RefIdeal.main_arg4)
      ∧ r.2.mem ((c.tc : Thread Cert.RsFf2RefIdeal.nD Cert.RsFf2RefIdeal.τ).loc Cert.RsFf2RefIdeal.main_arg5) = m ((c.tc : Thread Cert.RsFf2RefIdeal.nD Cert.RsFf2RefIdeal.τ).loc Cert.RsFf2RefIdeal.main_arg5)
      ∧ r.2.mem ((c.tc : Thread Cert.RsFf2RefIdeal.nD Cert.RsFf2RefIdeal.τ).loc Cert.RsFf2RefIdeal.main_arg6) = m ((c.tc : Thread Cert.RsFf2RefIdeal.nD Cert.RsFf2RefIdeal.τ).loc Cert.RsFf2RefIdeal.main_arg6))
      ∧ r.2.sem = fun _ => 0)

def quiescent_RsFf2RefIdeal_pre_rs_ff2_slot [hRsFf2RefIdeal : Cert.RsFf2RefIdeal.Facts] [hPre_rs_ff2_slot : Cert.Pre_rs_ff2_slot.Facts] : Prop :=
  ∀ (m : (ℓ : Loc Cert.RsFf2RefIdeal.nD Cert.RsFf2RefIdeal.τ Cert.RsFf2RefIdeal.sig) → Buf (Elt Ideal) ℓ) (g : Dev Cert.RsFf2RefIdeal.nD → PrngReg), Pre_RsFf2RefIdeal_rs_ff2_slot m →
    θ_run (Cert.RsFf2RefIdeal.defs (F := Ideal)) (onTc (τ := Cert.RsFf2RefIdeal.τ) (Cert.RsFf2RefIdeal.main (F := Ideal))) ⟨m, fun _ => 0, g⟩ (fun r => (∀ c : Dev Cert.RsFf2RefIdeal.nD,
      r.2.mem ((c.tc : Thread Cert.RsFf2RefIdeal.nD Cert.RsFf2RefIdeal.τ).loc Cert.RsFf2RefIdeal.main_arg0) = m ((c.tc : Thread Cert.RsFf2RefIdeal.nD Cert.RsFf2RefIdeal.τ).loc Cert.RsFf2RefIdeal.main_arg0)
      ∧ r.2.mem ((c.tc : Thread Cert.RsFf2RefIdeal.nD Cert.RsFf2RefIdeal.τ).loc Cert.RsFf2RefIdeal.main_arg1) = m ((c.tc : Thread Cert.RsFf2RefIdeal.nD Cert.RsFf2RefIdeal.τ).loc Cert.RsFf2RefIdeal.main_arg1)
      ∧ r.2.mem ((c.tc : Thread Cert.RsFf2RefIdeal.nD Cert.RsFf2RefIdeal.τ).loc Cert.RsFf2RefIdeal.main_arg2) = m ((c.tc : Thread Cert.RsFf2RefIdeal.nD Cert.RsFf2RefIdeal.τ).loc Cert.RsFf2RefIdeal.main_arg2)
      ∧ r.2.mem ((c.tc : Thread Cert.RsFf2RefIdeal.nD Cert.RsFf2RefIdeal.τ).loc Cert.RsFf2RefIdeal.main_arg3) = m ((c.tc : Thread Cert.RsFf2RefIdeal.nD Cert.RsFf2RefIdeal.τ).loc Cert.RsFf2RefIdeal.main_arg3)
      ∧ r.2.mem ((c.tc : Thread Cert.RsFf2RefIdeal.nD Cert.RsFf2RefIdeal.τ).loc Cert.RsFf2RefIdeal.main_arg4) = m ((c.tc : Thread Cert.RsFf2RefIdeal.nD Cert.RsFf2RefIdeal.τ).loc Cert.RsFf2RefIdeal.main_arg4)
      ∧ r.2.mem ((c.tc : Thread Cert.RsFf2RefIdeal.nD Cert.RsFf2RefIdeal.τ).loc Cert.RsFf2RefIdeal.main_arg5) = m ((c.tc : Thread Cert.RsFf2RefIdeal.nD Cert.RsFf2RefIdeal.τ).loc Cert.RsFf2RefIdeal.main_arg5)
      ∧ r.2.mem ((c.tc : Thread Cert.RsFf2RefIdeal.nD Cert.RsFf2RefIdeal.τ).loc Cert.RsFf2RefIdeal.main_arg6) = m ((c.tc : Thread Cert.RsFf2RefIdeal.nD Cert.RsFf2RefIdeal.τ).loc Cert.RsFf2RefIdeal.main_arg6))
      ∧ r.2.sem = fun _ => 0)

def quiescent_RsOut [hRsOut : Cert.RsOut.Facts] [hPre_rs_out_slot : Cert.Pre_rs_out_slot.Facts] : Prop :=
  ∀ (m : (ℓ : Loc Cert.RsOut.nD Cert.RsOut.τ Cert.RsOut.sig) → Buf (Elt Bits) ℓ) (g : Dev Cert.RsOut.nD → PrngReg), Pre_RsOut m →
    θ_run (Cert.RsOut.defs (F := Bits)) (onTc (τ := Cert.RsOut.τ) (Cert.RsOut.main (F := Bits))) ⟨m, fun _ => 0, g⟩ (fun r => (∀ c : Dev Cert.RsOut.nD,
      r.2.mem ((c.tc : Thread Cert.RsOut.nD Cert.RsOut.τ).loc Cert.RsOut.main_arg0) = m ((c.tc : Thread Cert.RsOut.nD Cert.RsOut.τ).loc Cert.RsOut.main_arg0)
      ∧ r.2.mem ((c.tc : Thread Cert.RsOut.nD Cert.RsOut.τ).loc Cert.RsOut.main_arg1) = m ((c.tc : Thread Cert.RsOut.nD Cert.RsOut.τ).loc Cert.RsOut.main_arg1)
      ∧ r.2.mem ((c.tc : Thread Cert.RsOut.nD Cert.RsOut.τ).loc Cert.RsOut.main_arg2) = m ((c.tc : Thread Cert.RsOut.nD Cert.RsOut.τ).loc Cert.RsOut.main_arg2)
      ∧ r.2.mem ((c.tc : Thread Cert.RsOut.nD Cert.RsOut.τ).loc Cert.RsOut.main_arg3) = m ((c.tc : Thread Cert.RsOut.nD Cert.RsOut.τ).loc Cert.RsOut.main_arg3)
      ∧ r.2.mem ((c.tc : Thread Cert.RsOut.nD Cert.RsOut.τ).loc Cert.RsOut.main_arg4) = m ((c.tc : Thread Cert.RsOut.nD Cert.RsOut.τ).loc Cert.RsOut.main_arg4)
      ∧ r.2.mem ((c.tc : Thread Cert.RsOut.nD Cert.RsOut.τ).loc Cert.RsOut.main_arg5) = m ((c.tc : Thread Cert.RsOut.nD Cert.RsOut.τ).loc Cert.RsOut.main_arg5)
      ∧ r.2.mem ((c.tc : Thread Cert.RsOut.nD Cert.RsOut.τ).loc Cert.RsOut.main_arg6) = m ((c.tc : Thread Cert.RsOut.nD Cert.RsOut.τ).loc Cert.RsOut.main_arg6))
      ∧ r.2.sem = fun _ => 0)

def quiescent_RsOutIdeal [hRsOutIdeal : Cert.RsOutIdeal.Facts] [hPre_rs_out_slot : Cert.Pre_rs_out_slot.Facts] : Prop :=
  ∀ (m : (ℓ : Loc Cert.RsOutIdeal.nD Cert.RsOutIdeal.τ Cert.RsOutIdeal.sig) → Buf (Elt Ideal) ℓ) (g : Dev Cert.RsOutIdeal.nD → PrngReg), Pre_RsOutIdeal m →
    θ_run (Cert.RsOutIdeal.defs (F := Ideal)) (onTc (τ := Cert.RsOutIdeal.τ) (Cert.RsOutIdeal.main (F := Ideal))) ⟨m, fun _ => 0, g⟩ (fun r => (∀ c : Dev Cert.RsOutIdeal.nD,
      r.2.mem ((c.tc : Thread Cert.RsOutIdeal.nD Cert.RsOutIdeal.τ).loc Cert.RsOutIdeal.main_arg0) = m ((c.tc : Thread Cert.RsOutIdeal.nD Cert.RsOutIdeal.τ).loc Cert.RsOutIdeal.main_arg0)
      ∧ r.2.mem ((c.tc : Thread Cert.RsOutIdeal.nD Cert.RsOutIdeal.τ).loc Cert.RsOutIdeal.main_arg1) = m ((c.tc : Thread Cert.RsOutIdeal.nD Cert.RsOutIdeal.τ).loc Cert.RsOutIdeal.main_arg1)
      ∧ r.2.mem ((c.tc : Thread Cert.RsOutIdeal.nD Cert.RsOutIdeal.τ).loc Cert.RsOutIdeal.main_arg2) = m ((c.tc : Thread Cert.RsOutIdeal.nD Cert.RsOutIdeal.τ).loc Cert.RsOutIdeal.main_arg2)
      ∧ r.2.mem ((c.tc : Thread Cert.RsOutIdeal.nD Cert.RsOutIdeal.τ).loc Cert.RsOutIdeal.main_arg3) = m ((c.tc : Thread Cert.RsOutIdeal.nD Cert.RsOutIdeal.τ).loc Cert.RsOutIdeal.main_arg3)
      ∧ r.2.mem ((c.tc : Thread Cert.RsOutIdeal.nD Cert.RsOutIdeal.τ).loc Cert.RsOutIdeal.main_arg4) = m ((c.tc : Thread Cert.RsOutIdeal.nD Cert.RsOutIdeal.τ).loc Cert.RsOutIdeal.main_arg4)
      ∧ r.2.mem ((c.tc : Thread Cert.RsOutIdeal.nD Cert.RsOutIdeal.τ).loc Cert.RsOutIdeal.main_arg5) = m ((c.tc : Thread Cert.RsOutIdeal.nD Cert.RsOutIdeal.τ).loc Cert.RsOutIdeal.main_arg5)
      ∧ r.2.mem ((c.tc : Thread Cert.RsOutIdeal.nD Cert.RsOutIdeal.τ).loc Cert.RsOutIdeal.main_arg6) = m ((c.tc : Thread Cert.RsOutIdeal.nD Cert.RsOutIdeal.τ).loc Cert.RsOutIdeal.main_arg6))
      ∧ r.2.sem = fun _ => 0)

def quiescent_RsOutRefIdeal [hRsOutRefIdeal : Cert.RsOutRefIdeal.Facts] : Prop :=
  ∀ (m : (ℓ : Loc Cert.RsOutRefIdeal.nD Cert.RsOutRefIdeal.τ Cert.RsOutRefIdeal.sig) → Buf (Elt Ideal) ℓ) (g : Dev Cert.RsOutRefIdeal.nD → PrngReg), Pre_RsOutRefIdeal m →
    θ_run (Cert.RsOutRefIdeal.defs (F := Ideal)) (onTc (τ := Cert.RsOutRefIdeal.τ) (Cert.RsOutRefIdeal.main (F := Ideal))) ⟨m, fun _ => 0, g⟩ (fun r => (∀ c : Dev Cert.RsOutRefIdeal.nD,
      r.2.mem ((c.tc : Thread Cert.RsOutRefIdeal.nD Cert.RsOutRefIdeal.τ).loc Cert.RsOutRefIdeal.main_arg0) = m ((c.tc : Thread Cert.RsOutRefIdeal.nD Cert.RsOutRefIdeal.τ).loc Cert.RsOutRefIdeal.main_arg0)
      ∧ r.2.mem ((c.tc : Thread Cert.RsOutRefIdeal.nD Cert.RsOutRefIdeal.τ).loc Cert.RsOutRefIdeal.main_arg1) = m ((c.tc : Thread Cert.RsOutRefIdeal.nD Cert.RsOutRefIdeal.τ).loc Cert.RsOutRefIdeal.main_arg1)
      ∧ r.2.mem ((c.tc : Thread Cert.RsOutRefIdeal.nD Cert.RsOutRefIdeal.τ).loc Cert.RsOutRefIdeal.main_arg2) = m ((c.tc : Thread Cert.RsOutRefIdeal.nD Cert.RsOutRefIdeal.τ).loc Cert.RsOutRefIdeal.main_arg2)
      ∧ r.2.mem ((c.tc : Thread Cert.RsOutRefIdeal.nD Cert.RsOutRefIdeal.τ).loc Cert.RsOutRefIdeal.main_arg3) = m ((c.tc : Thread Cert.RsOutRefIdeal.nD Cert.RsOutRefIdeal.τ).loc Cert.RsOutRefIdeal.main_arg3)
      ∧ r.2.mem ((c.tc : Thread Cert.RsOutRefIdeal.nD Cert.RsOutRefIdeal.τ).loc Cert.RsOutRefIdeal.main_arg4) = m ((c.tc : Thread Cert.RsOutRefIdeal.nD Cert.RsOutRefIdeal.τ).loc Cert.RsOutRefIdeal.main_arg4)
      ∧ r.2.mem ((c.tc : Thread Cert.RsOutRefIdeal.nD Cert.RsOutRefIdeal.τ).loc Cert.RsOutRefIdeal.main_arg5) = m ((c.tc : Thread Cert.RsOutRefIdeal.nD Cert.RsOutRefIdeal.τ).loc Cert.RsOutRefIdeal.main_arg5)
      ∧ r.2.mem ((c.tc : Thread Cert.RsOutRefIdeal.nD Cert.RsOutRefIdeal.τ).loc Cert.RsOutRefIdeal.main_arg6) = m ((c.tc : Thread Cert.RsOutRefIdeal.nD Cert.RsOutRefIdeal.τ).loc Cert.RsOutRefIdeal.main_arg6))
      ∧ r.2.sem = fun _ => 0)

def quiescent_RsOutRefIdeal_pre_rs_out_slot [hRsOutRefIdeal : Cert.RsOutRefIdeal.Facts] [hPre_rs_out_slot : Cert.Pre_rs_out_slot.Facts] : Prop :=
  ∀ (m : (ℓ : Loc Cert.RsOutRefIdeal.nD Cert.RsOutRefIdeal.τ Cert.RsOutRefIdeal.sig) → Buf (Elt Ideal) ℓ) (g : Dev Cert.RsOutRefIdeal.nD → PrngReg), Pre_RsOutRefIdeal_rs_out_slot m →
    θ_run (Cert.RsOutRefIdeal.defs (F := Ideal)) (onTc (τ := Cert.RsOutRefIdeal.τ) (Cert.RsOutRefIdeal.main (F := Ideal))) ⟨m, fun _ => 0, g⟩ (fun r => (∀ c : Dev Cert.RsOutRefIdeal.nD,
      r.2.mem ((c.tc : Thread Cert.RsOutRefIdeal.nD Cert.RsOutRefIdeal.τ).loc Cert.RsOutRefIdeal.main_arg0) = m ((c.tc : Thread Cert.RsOutRefIdeal.nD Cert.RsOutRefIdeal.τ).loc Cert.RsOutRefIdeal.main_arg0)
      ∧ r.2.mem ((c.tc : Thread Cert.RsOutRefIdeal.nD Cert.RsOutRefIdeal.τ).loc Cert.RsOutRefIdeal.main_arg1) = m ((c.tc : Thread Cert.RsOutRefIdeal.nD Cert.RsOutRefIdeal.τ).loc Cert.RsOutRefIdeal.main_arg1)
      ∧ r.2.mem ((c.tc : Thread Cert.RsOutRefIdeal.nD Cert.RsOutRefIdeal.τ).loc Cert.RsOutRefIdeal.main_arg2) = m ((c.tc : Thread Cert.RsOutRefIdeal.nD Cert.RsOutRefIdeal.τ).loc Cert.RsOutRefIdeal.main_arg2)
      ∧ r.2.mem ((c.tc : Thread Cert.RsOutRefIdeal.nD Cert.RsOutRefIdeal.τ).loc Cert.RsOutRefIdeal.main_arg3) = m ((c.tc : Thread Cert.RsOutRefIdeal.nD Cert.RsOutRefIdeal.τ).loc Cert.RsOutRefIdeal.main_arg3)
      ∧ r.2.mem ((c.tc : Thread Cert.RsOutRefIdeal.nD Cert.RsOutRefIdeal.τ).loc Cert.RsOutRefIdeal.main_arg4) = m ((c.tc : Thread Cert.RsOutRefIdeal.nD Cert.RsOutRefIdeal.τ).loc Cert.RsOutRefIdeal.main_arg4)
      ∧ r.2.mem ((c.tc : Thread Cert.RsOutRefIdeal.nD Cert.RsOutRefIdeal.τ).loc Cert.RsOutRefIdeal.main_arg5) = m ((c.tc : Thread Cert.RsOutRefIdeal.nD Cert.RsOutRefIdeal.τ).loc Cert.RsOutRefIdeal.main_arg5)
      ∧ r.2.mem ((c.tc : Thread Cert.RsOutRefIdeal.nD Cert.RsOutRefIdeal.τ).loc Cert.RsOutRefIdeal.main_arg6) = m ((c.tc : Thread Cert.RsOutRefIdeal.nD Cert.RsOutRefIdeal.τ).loc Cert.RsOutRefIdeal.main_arg6))
      ∧ r.2.sem = fun _ => 0)

def quiescent_RsIn [hRsIn : Cert.RsIn.Facts] [hPre_rs_inp_slot : Cert.Pre_rs_inp_slot.Facts] : Prop :=
  ∀ (m : (ℓ : Loc Cert.RsIn.nD Cert.RsIn.τ Cert.RsIn.sig) → Buf (Elt Bits) ℓ) (g : Dev Cert.RsIn.nD → PrngReg), Pre_RsIn m →
    θ_run (Cert.RsIn.defs (F := Bits)) (onTc (τ := Cert.RsIn.τ) (Cert.RsIn.main (F := Bits))) ⟨m, fun _ => 0, g⟩ (fun r => (∀ c : Dev Cert.RsIn.nD,
      r.2.mem ((c.tc : Thread Cert.RsIn.nD Cert.RsIn.τ).loc Cert.RsIn.main_arg0) = m ((c.tc : Thread Cert.RsIn.nD Cert.RsIn.τ).loc Cert.RsIn.main_arg0)
      ∧ r.2.mem ((c.tc : Thread Cert.RsIn.nD Cert.RsIn.τ).loc Cert.RsIn.main_arg1) = m ((c.tc : Thread Cert.RsIn.nD Cert.RsIn.τ).loc Cert.RsIn.main_arg1)
      ∧ r.2.mem ((c.tc : Thread Cert.RsIn.nD Cert.RsIn.τ).loc Cert.RsIn.main_arg2) = m ((c.tc : Thread Cert.RsIn.nD Cert.RsIn.τ).loc Cert.RsIn.main_arg2)
      ∧ r.2.mem ((c.tc : Thread Cert.RsIn.nD Cert.RsIn.τ).loc Cert.RsIn.main_arg3) = m ((c.tc : Thread Cert.RsIn.nD Cert.RsIn.τ).loc Cert.RsIn.main_arg3)
      ∧ r.2.mem ((c.tc : Thread Cert.RsIn.nD Cert.RsIn.τ).loc Cert.RsIn.main_arg4) = m ((c.tc : Thread Cert.RsIn.nD Cert.RsIn.τ).loc Cert.RsIn.main_arg4)
      ∧ r.2.mem ((c.tc : Thread Cert.RsIn.nD Cert.RsIn.τ).loc Cert.RsIn.main_arg5) = m ((c.tc : Thread Cert.RsIn.nD Cert.RsIn.τ).loc Cert.RsIn.main_arg5)
      ∧ r.2.mem ((c.tc : Thread Cert.RsIn.nD Cert.RsIn.τ).loc Cert.RsIn.main_arg6) = m ((c.tc : Thread Cert.RsIn.nD Cert.RsIn.τ).loc Cert.RsIn.main_arg6))
      ∧ r.2.sem = fun _ => 0)

def quiescent_RsInIdeal [hRsInIdeal : Cert.RsInIdeal.Facts] [hPre_rs_inp_slot : Cert.Pre_rs_inp_slot.Facts] : Prop :=
  ∀ (m : (ℓ : Loc Cert.RsInIdeal.nD Cert.RsInIdeal.τ Cert.RsInIdeal.sig) → Buf (Elt Ideal) ℓ) (g : Dev Cert.RsInIdeal.nD → PrngReg), Pre_RsInIdeal m →
    θ_run (Cert.RsInIdeal.defs (F := Ideal)) (onTc (τ := Cert.RsInIdeal.τ) (Cert.RsInIdeal.main (F := Ideal))) ⟨m, fun _ => 0, g⟩ (fun r => (∀ c : Dev Cert.RsInIdeal.nD,
      r.2.mem ((c.tc : Thread Cert.RsInIdeal.nD Cert.RsInIdeal.τ).loc Cert.RsInIdeal.main_arg0) = m ((c.tc : Thread Cert.RsInIdeal.nD Cert.RsInIdeal.τ).loc Cert.RsInIdeal.main_arg0)
      ∧ r.2.mem ((c.tc : Thread Cert.RsInIdeal.nD Cert.RsInIdeal.τ).loc Cert.RsInIdeal.main_arg1) = m ((c.tc : Thread Cert.RsInIdeal.nD Cert.RsInIdeal.τ).loc Cert.RsInIdeal.main_arg1)
      ∧ r.2.mem ((c.tc : Thread Cert.RsInIdeal.nD Cert.RsInIdeal.τ).loc Cert.RsInIdeal.main_arg2) = m ((c.tc : Thread Cert.RsInIdeal.nD Cert.RsInIdeal.τ).loc Cert.RsInIdeal.main_arg2)
      ∧ r.2.mem ((c.tc : Thread Cert.RsInIdeal.nD Cert.RsInIdeal.τ).loc Cert.RsInIdeal.main_arg3) = m ((c.tc : Thread Cert.RsInIdeal.nD Cert.RsInIdeal.τ).loc Cert.RsInIdeal.main_arg3)
      ∧ r.2.mem ((c.tc : Thread Cert.RsInIdeal.nD Cert.RsInIdeal.τ).loc Cert.RsInIdeal.main_arg4) = m ((c.tc : Thread Cert.RsInIdeal.nD Cert.RsInIdeal.τ).loc Cert.RsInIdeal.main_arg4)
      ∧ r.2.mem ((c.tc : Thread Cert.RsInIdeal.nD Cert.RsInIdeal.τ).loc Cert.RsInIdeal.main_arg5) = m ((c.tc : Thread Cert.RsInIdeal.nD Cert.RsInIdeal.τ).loc Cert.RsInIdeal.main_arg5)
      ∧ r.2.mem ((c.tc : Thread Cert.RsInIdeal.nD Cert.RsInIdeal.τ).loc Cert.RsInIdeal.main_arg6) = m ((c.tc : Thread Cert.RsInIdeal.nD Cert.RsInIdeal.τ).loc Cert.RsInIdeal.main_arg6))
      ∧ r.2.sem = fun _ => 0)

def quiescent_RsInRefIdeal [hRsInRefIdeal : Cert.RsInRefIdeal.Facts] : Prop :=
  ∀ (m : (ℓ : Loc Cert.RsInRefIdeal.nD Cert.RsInRefIdeal.τ Cert.RsInRefIdeal.sig) → Buf (Elt Ideal) ℓ) (g : Dev Cert.RsInRefIdeal.nD → PrngReg), Pre_RsInRefIdeal m →
    θ_run (Cert.RsInRefIdeal.defs (F := Ideal)) (onTc (τ := Cert.RsInRefIdeal.τ) (Cert.RsInRefIdeal.main (F := Ideal))) ⟨m, fun _ => 0, g⟩ (fun r => (∀ c : Dev Cert.RsInRefIdeal.nD,
      r.2.mem ((c.tc : Thread Cert.RsInRefIdeal.nD Cert.RsInRefIdeal.τ).loc Cert.RsInRefIdeal.main_arg0) = m ((c.tc : Thread Cert.RsInRefIdeal.nD Cert.RsInRefIdeal.τ).loc Cert.RsInRefIdeal.main_arg0)
      ∧ r.2.mem ((c.tc : Thread Cert.RsInRefIdeal.nD Cert.RsInRefIdeal.τ).loc Cert.RsInRefIdeal.main_arg1) = m ((c.tc : Thread Cert.RsInRefIdeal.nD Cert.RsInRefIdeal.τ).loc Cert.RsInRefIdeal.main_arg1)
      ∧ r.2.mem ((c.tc : Thread Cert.RsInRefIdeal.nD Cert.RsInRefIdeal.τ).loc Cert.RsInRefIdeal.main_arg2) = m ((c.tc : Thread Cert.RsInRefIdeal.nD Cert.RsInRefIdeal.τ).loc Cert.RsInRefIdeal.main_arg2)
      ∧ r.2.mem ((c.tc : Thread Cert.RsInRefIdeal.nD Cert.RsInRefIdeal.τ).loc Cert.RsInRefIdeal.main_arg3) = m ((c.tc : Thread Cert.RsInRefIdeal.nD Cert.RsInRefIdeal.τ).loc Cert.RsInRefIdeal.main_arg3)
      ∧ r.2.mem ((c.tc : Thread Cert.RsInRefIdeal.nD Cert.RsInRefIdeal.τ).loc Cert.RsInRefIdeal.main_arg4) = m ((c.tc : Thread Cert.RsInRefIdeal.nD Cert.RsInRefIdeal.τ).loc Cert.RsInRefIdeal.main_arg4)
      ∧ r.2.mem ((c.tc : Thread Cert.RsInRefIdeal.nD Cert.RsInRefIdeal.τ).loc Cert.RsInRefIdeal.main_arg5) = m ((c.tc : Thread Cert.RsInRefIdeal.nD Cert.RsInRefIdeal.τ).loc Cert.RsInRefIdeal.main_arg5)
      ∧ r.2.mem ((c.tc : Thread Cert.RsInRefIdeal.nD Cert.RsInRefIdeal.τ).loc Cert.RsInRefIdeal.main_arg6) = m ((c.tc : Thread Cert.RsInRefIdeal.nD Cert.RsInRefIdeal.τ).loc Cert.RsInRefIdeal.main_arg6))
      ∧ r.2.sem = fun _ => 0)

def quiescent_RsInRefIdeal_pre_rs_inp_slot [hRsInRefIdeal : Cert.RsInRefIdeal.Facts] [hPre_rs_inp_slot : Cert.Pre_rs_inp_slot.Facts] : Prop :=
  ∀ (m : (ℓ : Loc Cert.RsInRefIdeal.nD Cert.RsInRefIdeal.τ Cert.RsInRefIdeal.sig) → Buf (Elt Ideal) ℓ) (g : Dev Cert.RsInRefIdeal.nD → PrngReg), Pre_RsInRefIdeal_rs_inp_slot m →
    θ_run (Cert.RsInRefIdeal.defs (F := Ideal)) (onTc (τ := Cert.RsInRefIdeal.τ) (Cert.RsInRefIdeal.main (F := Ideal))) ⟨m, fun _ => 0, g⟩ (fun r => (∀ c : Dev Cert.RsInRefIdeal.nD,
      r.2.mem ((c.tc : Thread Cert.RsInRefIdeal.nD Cert.RsInRefIdeal.τ).loc Cert.RsInRefIdeal.main_arg0) = m ((c.tc : Thread Cert.RsInRefIdeal.nD Cert.RsInRefIdeal.τ).loc Cert.RsInRefIdeal.main_arg0)
      ∧ r.2.mem ((c.tc : Thread Cert.RsInRefIdeal.nD Cert.RsInRefIdeal.τ).loc Cert.RsInRefIdeal.main_arg1) = m ((c.tc : Thread Cert.RsInRefIdeal.nD Cert.RsInRefIdeal.τ).loc Cert.RsInRefIdeal.main_arg1)
      ∧ r.2.mem ((c.tc : Thread Cert.RsInRefIdeal.nD Cert.RsInRefIdeal.τ).loc Cert.RsInRefIdeal.main_arg2) = m ((c.tc : Thread Cert.RsInRefIdeal.nD Cert.RsInRefIdeal.τ).loc Cert.RsInRefIdeal.main_arg2)
      ∧ r.2.mem ((c.tc : Thread Cert.RsInRefIdeal.nD Cert.RsInRefIdeal.τ).loc Cert.RsInRefIdeal.main_arg3) = m ((c.tc : Thread Cert.RsInRefIdeal.nD Cert.RsInRefIdeal.τ).loc Cert.RsInRefIdeal.main_arg3)
      ∧ r.2.mem ((c.tc : Thread Cert.RsInRefIdeal.nD Cert.RsInRefIdeal.τ).loc Cert.RsInRefIdeal.main_arg4) = m ((c.tc : Thread Cert.RsInRefIdeal.nD Cert.RsInRefIdeal.τ).loc Cert.RsInRefIdeal.main_arg4)
      ∧ r.2.mem ((c.tc : Thread Cert.RsInRefIdeal.nD Cert.RsInRefIdeal.τ).loc Cert.RsInRefIdeal.main_arg5) = m ((c.tc : Thread Cert.RsInRefIdeal.nD Cert.RsInRefIdeal.τ).loc Cert.RsInRefIdeal.main_arg5)
      ∧ r.2.mem ((c.tc : Thread Cert.RsInRefIdeal.nD Cert.RsInRefIdeal.τ).loc Cert.RsInRefIdeal.main_arg6) = m ((c.tc : Thread Cert.RsInRefIdeal.nD Cert.RsInRefIdeal.τ).loc Cert.RsInRefIdeal.main_arg6))
      ∧ r.2.sem = fun _ => 0)

def quiescent_RsPool [hRsPool : Cert.RsPool.Facts] [hPre_rs_pool_slot : Cert.Pre_rs_pool_slot.Facts] : Prop :=
  ∀ (m : (ℓ : Loc Cert.RsPool.nD Cert.RsPool.τ Cert.RsPool.sig) → Buf (Elt Bits) ℓ) (g : Dev Cert.RsPool.nD → PrngReg), Pre_RsPool m →
    θ_run (Cert.RsPool.defs (F := Bits)) (onTc (τ := Cert.RsPool.τ) (Cert.RsPool.main (F := Bits))) ⟨m, fun _ => 0, g⟩ (fun r => (∀ c : Dev Cert.RsPool.nD,
      r.2.mem ((c.tc : Thread Cert.RsPool.nD Cert.RsPool.τ).loc Cert.RsPool.main_arg0) = m ((c.tc : Thread Cert.RsPool.nD Cert.RsPool.τ).loc Cert.RsPool.main_arg0)
      ∧ r.2.mem ((c.tc : Thread Cert.RsPool.nD Cert.RsPool.τ).loc Cert.RsPool.main_arg1) = m ((c.tc : Thread Cert.RsPool.nD Cert.RsPool.τ).loc Cert.RsPool.main_arg1)
      ∧ r.2.mem ((c.tc : Thread Cert.RsPool.nD Cert.RsPool.τ).loc Cert.RsPool.main_arg2) = m ((c.tc : Thread Cert.RsPool.nD Cert.RsPool.τ).loc Cert.RsPool.main_arg2)
      ∧ r.2.mem ((c.tc : Thread Cert.RsPool.nD Cert.RsPool.τ).loc Cert.RsPool.main_arg3) = m ((c.tc : Thread Cert.RsPool.nD Cert.RsPool.τ).loc Cert.RsPool.main_arg3)
      ∧ r.2.mem ((c.tc : Thread Cert.RsPool.nD Cert.RsPool.τ).loc Cert.RsPool.main_arg4) = m ((c.tc : Thread Cert.RsPool.nD Cert.RsPool.τ).loc Cert.RsPool.main_arg4)
      ∧ r.2.mem ((c.tc : Thread Cert.RsPool.nD Cert.RsPool.τ).loc Cert.RsPool.main_arg5) = m ((c.tc : Thread Cert.RsPool.nD Cert.RsPool.τ).loc Cert.RsPool.main_arg5)
      ∧ r.2.mem ((c.tc : Thread Cert.RsPool.nD Cert.RsPool.τ).loc Cert.RsPool.main_arg6) = m ((c.tc : Thread Cert.RsPool.nD Cert.RsPool.τ).loc Cert.RsPool.main_arg6))
      ∧ r.2.sem = fun _ => 0)

def quiescent_RsPoolIdeal [hRsPoolIdeal : Cert.RsPoolIdeal.Facts] [hPre_rs_pool_slot : Cert.Pre_rs_pool_slot.Facts] : Prop :=
  ∀ (m : (ℓ : Loc Cert.RsPoolIdeal.nD Cert.RsPoolIdeal.τ Cert.RsPoolIdeal.sig) → Buf (Elt Ideal) ℓ) (g : Dev Cert.RsPoolIdeal.nD → PrngReg), Pre_RsPoolIdeal m →
    θ_run (Cert.RsPoolIdeal.defs (F := Ideal)) (onTc (τ := Cert.RsPoolIdeal.τ) (Cert.RsPoolIdeal.main (F := Ideal))) ⟨m, fun _ => 0, g⟩ (fun r => (∀ c : Dev Cert.RsPoolIdeal.nD,
      r.2.mem ((c.tc : Thread Cert.RsPoolIdeal.nD Cert.RsPoolIdeal.τ).loc Cert.RsPoolIdeal.main_arg0) = m ((c.tc : Thread Cert.RsPoolIdeal.nD Cert.RsPoolIdeal.τ).loc Cert.RsPoolIdeal.main_arg0)
      ∧ r.2.mem ((c.tc : Thread Cert.RsPoolIdeal.nD Cert.RsPoolIdeal.τ).loc Cert.RsPoolIdeal.main_arg1) = m ((c.tc : Thread Cert.RsPoolIdeal.nD Cert.RsPoolIdeal.τ).loc Cert.RsPoolIdeal.main_arg1)
      ∧ r.2.mem ((c.tc : Thread Cert.RsPoolIdeal.nD Cert.RsPoolIdeal.τ).loc Cert.RsPoolIdeal.main_arg2) = m ((c.tc : Thread Cert.RsPoolIdeal.nD Cert.RsPoolIdeal.τ).loc Cert.RsPoolIdeal.main_arg2)
      ∧ r.2.mem ((c.tc : Thread Cert.RsPoolIdeal.nD Cert.RsPoolIdeal.τ).loc Cert.RsPoolIdeal.main_arg3) = m ((c.tc : Thread Cert.RsPoolIdeal.nD Cert.RsPoolIdeal.τ).loc Cert.RsPoolIdeal.main_arg3)
      ∧ r.2.mem ((c.tc : Thread Cert.RsPoolIdeal.nD Cert.RsPoolIdeal.τ).loc Cert.RsPoolIdeal.main_arg4) = m ((c.tc : Thread Cert.RsPoolIdeal.nD Cert.RsPoolIdeal.τ).loc Cert.RsPoolIdeal.main_arg4)
      ∧ r.2.mem ((c.tc : Thread Cert.RsPoolIdeal.nD Cert.RsPoolIdeal.τ).loc Cert.RsPoolIdeal.main_arg5) = m ((c.tc : Thread Cert.RsPoolIdeal.nD Cert.RsPoolIdeal.τ).loc Cert.RsPoolIdeal.main_arg5)
      ∧ r.2.mem ((c.tc : Thread Cert.RsPoolIdeal.nD Cert.RsPoolIdeal.τ).loc Cert.RsPoolIdeal.main_arg6) = m ((c.tc : Thread Cert.RsPoolIdeal.nD Cert.RsPoolIdeal.τ).loc Cert.RsPoolIdeal.main_arg6))
      ∧ r.2.sem = fun _ => 0)

def quiescent_RsPoolRefIdeal [hRsPoolRefIdeal : Cert.RsPoolRefIdeal.Facts] : Prop :=
  ∀ (m : (ℓ : Loc Cert.RsPoolRefIdeal.nD Cert.RsPoolRefIdeal.τ Cert.RsPoolRefIdeal.sig) → Buf (Elt Ideal) ℓ) (g : Dev Cert.RsPoolRefIdeal.nD → PrngReg), Pre_RsPoolRefIdeal m →
    θ_run (Cert.RsPoolRefIdeal.defs (F := Ideal)) (onTc (τ := Cert.RsPoolRefIdeal.τ) (Cert.RsPoolRefIdeal.main (F := Ideal))) ⟨m, fun _ => 0, g⟩ (fun r => (∀ c : Dev Cert.RsPoolRefIdeal.nD,
      r.2.mem ((c.tc : Thread Cert.RsPoolRefIdeal.nD Cert.RsPoolRefIdeal.τ).loc Cert.RsPoolRefIdeal.main_arg0) = m ((c.tc : Thread Cert.RsPoolRefIdeal.nD Cert.RsPoolRefIdeal.τ).loc Cert.RsPoolRefIdeal.main_arg0)
      ∧ r.2.mem ((c.tc : Thread Cert.RsPoolRefIdeal.nD Cert.RsPoolRefIdeal.τ).loc Cert.RsPoolRefIdeal.main_arg1) = m ((c.tc : Thread Cert.RsPoolRefIdeal.nD Cert.RsPoolRefIdeal.τ).loc Cert.RsPoolRefIdeal.main_arg1)
      ∧ r.2.mem ((c.tc : Thread Cert.RsPoolRefIdeal.nD Cert.RsPoolRefIdeal.τ).loc Cert.RsPoolRefIdeal.main_arg2) = m ((c.tc : Thread Cert.RsPoolRefIdeal.nD Cert.RsPoolRefIdeal.τ).loc Cert.RsPoolRefIdeal.main_arg2)
      ∧ r.2.mem ((c.tc : Thread Cert.RsPoolRefIdeal.nD Cert.RsPoolRefIdeal.τ).loc Cert.RsPoolRefIdeal.main_arg3) = m ((c.tc : Thread Cert.RsPoolRefIdeal.nD Cert.RsPoolRefIdeal.τ).loc Cert.RsPoolRefIdeal.main_arg3)
      ∧ r.2.mem ((c.tc : Thread Cert.RsPoolRefIdeal.nD Cert.RsPoolRefIdeal.τ).loc Cert.RsPoolRefIdeal.main_arg4) = m ((c.tc : Thread Cert.RsPoolRefIdeal.nD Cert.RsPoolRefIdeal.τ).loc Cert.RsPoolRefIdeal.main_arg4)
      ∧ r.2.mem ((c.tc : Thread Cert.RsPoolRefIdeal.nD Cert.RsPoolRefIdeal.τ).loc Cert.RsPoolRefIdeal.main_arg5) = m ((c.tc : Thread Cert.RsPoolRefIdeal.nD Cert.RsPoolRefIdeal.τ).loc Cert.RsPoolRefIdeal.main_arg5)
      ∧ r.2.mem ((c.tc : Thread Cert.RsPoolRefIdeal.nD Cert.RsPoolRefIdeal.τ).loc Cert.RsPoolRefIdeal.main_arg6) = m ((c.tc : Thread Cert.RsPoolRefIdeal.nD Cert.RsPoolRefIdeal.τ).loc Cert.RsPoolRefIdeal.main_arg6))
      ∧ r.2.sem = fun _ => 0)

def quiescent_RsPoolRefIdeal_pre_rs_pool_slot [hRsPoolRefIdeal : Cert.RsPoolRefIdeal.Facts] [hPre_rs_pool_slot : Cert.Pre_rs_pool_slot.Facts] : Prop :=
  ∀ (m : (ℓ : Loc Cert.RsPoolRefIdeal.nD Cert.RsPoolRefIdeal.τ Cert.RsPoolRefIdeal.sig) → Buf (Elt Ideal) ℓ) (g : Dev Cert.RsPoolRefIdeal.nD → PrngReg), Pre_RsPoolRefIdeal_rs_pool_slot m →
    θ_run (Cert.RsPoolRefIdeal.defs (F := Ideal)) (onTc (τ := Cert.RsPoolRefIdeal.τ) (Cert.RsPoolRefIdeal.main (F := Ideal))) ⟨m, fun _ => 0, g⟩ (fun r => (∀ c : Dev Cert.RsPoolRefIdeal.nD,
      r.2.mem ((c.tc : Thread Cert.RsPoolRefIdeal.nD Cert.RsPoolRefIdeal.τ).loc Cert.RsPoolRefIdeal.main_arg0) = m ((c.tc : Thread Cert.RsPoolRefIdeal.nD Cert.RsPoolRefIdeal.τ).loc Cert.RsPoolRefIdeal.main_arg0)
      ∧ r.2.mem ((c.tc : Thread Cert.RsPoolRefIdeal.nD Cert.RsPoolRefIdeal.τ).loc Cert.RsPoolRefIdeal.main_arg1) = m ((c.tc : Thread Cert.RsPoolRefIdeal.nD Cert.RsPoolRefIdeal.τ).loc Cert.RsPoolRefIdeal.main_arg1)
      ∧ r.2.mem ((c.tc : Thread Cert.RsPoolRefIdeal.nD Cert.RsPoolRefIdeal.τ).loc Cert.RsPoolRefIdeal.main_arg2) = m ((c.tc : Thread Cert.RsPoolRefIdeal.nD Cert.RsPoolRefIdeal.τ).loc Cert.RsPoolRefIdeal.main_arg2)
      ∧ r.2.mem ((c.tc : Thread Cert.RsPoolRefIdeal.nD Cert.RsPoolRefIdeal.τ).loc Cert.RsPoolRefIdeal.main_arg3) = m ((c.tc : Thread Cert.RsPoolRefIdeal.nD Cert.RsPoolRefIdeal.τ).loc Cert.RsPoolRefIdeal.main_arg3)
      ∧ r.2.mem ((c.tc : Thread Cert.RsPoolRefIdeal.nD Cert.RsPoolRefIdeal.τ).loc Cert.RsPoolRefIdeal.main_arg4) = m ((c.tc : Thread Cert.RsPoolRefIdeal.nD Cert.RsPoolRefIdeal.τ).loc Cert.RsPoolRefIdeal.main_arg4)
      ∧ r.2.mem ((c.tc : Thread Cert.RsPoolRefIdeal.nD Cert.RsPoolRefIdeal.τ).loc Cert.RsPoolRefIdeal.main_arg5) = m ((c.tc : Thread Cert.RsPoolRefIdeal.nD Cert.RsPoolRefIdeal.τ).loc Cert.RsPoolRefIdeal.main_arg5)
      ∧ r.2.mem ((c.tc : Thread Cert.RsPoolRefIdeal.nD Cert.RsPoolRefIdeal.τ).loc Cert.RsPoolRefIdeal.main_arg6) = m ((c.tc : Thread Cert.RsPoolRefIdeal.nD Cert.RsPoolRefIdeal.τ).loc Cert.RsPoolRefIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Dw2_Dw2Ideal : Prop :=
  True

def algebraic_Dw2Ideal_Dw2RefIdeal [hDw2Ideal : Cert.Dw2Ideal.Facts] [hDw2RefIdeal : Cert.Dw2RefIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2RefIdeal.nD Cert.Dw2RefIdeal.τ Cert.Dw2RefIdeal.sig) → Buf (Elt Ideal) ℓ) (g' : Dev Cert.Dw2RefIdeal.nD → PrngReg), Pre_Dw2Ideal m →
    (∀ c : Dev Cert.Dw2Ideal.nD,
      m' ((c.tc : Thread Cert.Dw2RefIdeal.nD Cert.Dw2RefIdeal.τ).loc Cert.Dw2RefIdeal.main_arg0) = m ((c.tc : Thread Cert.Dw2Ideal.nD Cert.Dw2Ideal.τ).loc Cert.Dw2Ideal.main_arg0)
      ∧ m' ((c.tc : Thread Cert.Dw2RefIdeal.nD Cert.Dw2RefIdeal.τ).loc Cert.Dw2RefIdeal.main_arg1) = m ((c.tc : Thread Cert.Dw2Ideal.nD Cert.Dw2Ideal.τ).loc Cert.Dw2Ideal.main_arg1)) →
    ∃ (v0 : (c : Dev Cert.Dw2Ideal.nD) → Buf (Elt Ideal) ((c.tc : Thread Cert.Dw2Ideal.nD Cert.Dw2Ideal.τ).loc Cert.Dw2Ideal.main_v2)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v2) = v0 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ θ_run (Cert.Dw2RefIdeal.defs (F := Ideal)) (onTc (τ := Cert.Dw2RefIdeal.τ) (Cert.Dw2RefIdeal.main (F := Ideal))) ⟨m', fun _ => 0, g'⟩ (fun r => ∀ c : Dev Cert.Dw2RefIdeal.nD,
          r.2.mem ((c.tc : Thread Cert.Dw2RefIdeal.nD Cert.Dw2RefIdeal.τ).loc Cert.Dw2RefIdeal.main_v4) = v0 c
          ∧ r.2.mem ((c.tc : Thread Cert.Dw2RefIdeal.nD Cert.Dw2RefIdeal.τ).loc Cert.Dw2RefIdeal.main_arg0) = m' ((c.tc : Thread Cert.Dw2RefIdeal.nD Cert.Dw2RefIdeal.τ).loc Cert.Dw2RefIdeal.main_arg0)
          ∧ r.2.mem ((c.tc : Thread Cert.Dw2RefIdeal.nD Cert.Dw2RefIdeal.τ).loc Cert.Dw2RefIdeal.main_arg1) = m' ((c.tc : Thread Cert.Dw2RefIdeal.nD Cert.Dw2RefIdeal.τ).loc Cert.Dw2RefIdeal.main_arg1))

def preserves_Dw1_Dw1Ideal : Prop :=
  True

def algebraic_Dw1Ideal_Dw1RefIdeal [hDw1Ideal : Cert.Dw1Ideal.Facts] [hDw1RefIdeal : Cert.Dw1RefIdeal.Facts] : Prop :=
  ∀ (m : (ℓ : Loc Cert.Dw1Ideal.nD Cert.Dw1Ideal.τ Cert.Dw1Ideal.sig) → Buf (Elt Ideal) ℓ) (g : Dev Cert.Dw1Ideal.nD → PrngReg)
    (m' : (ℓ : Loc Cert.Dw1RefIdeal.nD Cert.Dw1RefIdeal.τ Cert.Dw1RefIdeal.sig) → Buf (Elt Ideal) ℓ) (g' : Dev Cert.Dw1RefIdeal.nD → PrngReg), Pre_Dw1Ideal m →
    (∀ c : Dev Cert.Dw1Ideal.nD,
      m' ((c.tc : Thread Cert.Dw1RefIdeal.nD Cert.Dw1RefIdeal.τ).loc Cert.Dw1RefIdeal.main_arg0) = m ((c.tc : Thread Cert.Dw1Ideal.nD Cert.Dw1Ideal.τ).loc Cert.Dw1Ideal.main_arg0)
      ∧ m' ((c.tc : Thread Cert.Dw1RefIdeal.nD Cert.Dw1RefIdeal.τ).loc Cert.Dw1RefIdeal.main_arg1) = m ((c.tc : Thread Cert.Dw1Ideal.nD Cert.Dw1Ideal.τ).loc Cert.Dw1Ideal.main_arg1)) →
    ∃ (v0 : (c : Dev Cert.Dw1Ideal.nD) → Buf (Elt Ideal) ((c.tc : Thread Cert.Dw1Ideal.nD Cert.Dw1Ideal.τ).loc Cert.Dw1Ideal.main_v2)),
      θ_run (Cert.Dw1Ideal.defs (F := Ideal)) (onTc (τ := Cert.Dw1Ideal.τ) (Cert.Dw1Ideal.main (F := Ideal))) ⟨m, fun _ => 0, g⟩ (fun r => ∀ c : Dev Cert.Dw1Ideal.nD,
          r.2.mem ((c.tc : Thread Cert.Dw1Ideal.nD Cert.Dw1Ideal.τ).loc Cert.Dw1Ideal.main_v2) = v0 c
          ∧ r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
          ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1))
      ∧ θ_run (Cert.Dw1RefIdeal.defs (F := Ideal)) (onTc (τ := Cert.Dw1RefIdeal.τ) (Cert.Dw1RefIdeal.main (F := Ideal))) ⟨m', fun _ => 0, g'⟩ (fun r => ∀ c : Dev Cert.Dw1RefIdeal.nD,
          r.2.mem ((c.tc : Thread Cert.Dw1RefIdeal.nD Cert.Dw1RefIdeal.τ).loc Cert.Dw1RefIdeal.main_v5) = v0 c
          ∧ r.2.mem ((c.tc : Thread Cert.Dw1RefIdeal.nD Cert.Dw1RefIdeal.τ).loc Cert.Dw1RefIdeal.main_arg0) = m' ((c.tc : Thread Cert.Dw1RefIdeal.nD Cert.Dw1RefIdeal.τ).loc Cert.Dw1RefIdeal.main_arg0)
          ∧ r.2.mem ((c.tc : Thread Cert.Dw1RefIdeal.nD Cert.Dw1RefIdeal.τ).loc Cert.Dw1RefIdeal.main_arg1) = m' ((c.tc : Thread Cert.Dw1RefIdeal.nD Cert.Dw1RefIdeal.τ).loc Cert.Dw1RefIdeal.main_arg1))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v2)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v2) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v3) = v0 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1))

def preserves_DmixAtt_DmixAttIdeal : Prop :=
  True

def algebraic_DmixAttIdeal_DmixAttRefIdeal [hDmixAttIdeal : Cert.DmixAttIdeal.Facts] [hDmixAttRefIdeal : Cert.DmixAttRefIdeal.Facts] : Prop :=
  ∀ (m : (ℓ : Loc Cert.DmixAttIdeal.nD Cert.DmixAttIdeal.τ Cert.DmixAttIdeal.sig) → Buf (Elt Ideal) ℓ) (g : Dev Cert.DmixAttIdeal.nD → PrngReg)
    (m' : (ℓ : Loc Cert.DmixAttRefIdeal.nD Cert.DmixAttRefIdeal.τ Cert.DmixAttRefIdeal.sig) → Buf (Elt Ideal) ℓ) (g' : Dev Cert.DmixAttRefIdeal.nD → PrngReg), Pre_DmixAttIdeal m →
    (∀ c : Dev Cert.DmixAttIdeal.nD,
      m' ((c.tc : Thread Cert.DmixAttRefIdeal.nD Cert.DmixAttRefIdeal.τ).loc Cert.DmixAttRefIdeal.main_arg0) = m ((c.tc : Thread Cert.DmixAttIdeal.nD Cert.DmixAttIdeal.τ).loc Cert.DmixAttIdeal.main_arg0)
      ∧ m' ((c.tc : Thread Cert.DmixAttRefIdeal.nD Cert.DmixAttRefIdeal.τ).loc Cert.DmixAttRefIdeal.main_arg1) = m ((c.tc : Thread Cert.DmixAttIdeal.nD Cert.DmixAttIdeal.τ).loc Cert.DmixAttIdeal.main_arg1)) →
    ∃ (v0 : (c : Dev Cert.DmixAttIdeal.nD) → Buf (Elt Ideal) ((c.tc : Thread Cert.DmixAttIdeal.nD Cert.DmixAttIdeal.τ).loc Cert.DmixAttIdeal.main_v2)),
      θ_run (Cert.DmixAttIdeal.defs (F := Ideal)) (onTc (τ := Cert.DmixAttIdeal.τ) (Cert.DmixAttIdeal.main (F := Ideal))) ⟨m, fun _ => 0, g⟩ (fun r => ∀ c : Dev Cert.DmixAttIdeal.nD,
          r.2.mem ((c.tc : Thread Cert.DmixAttIdeal.nD Cert.DmixAttIdeal.τ).loc Cert.DmixAttIdeal.main_v2) = v0 c
          ∧ r.2.mem ((c.tc : Thread Cert.DmixAttIdeal.nD Cert.DmixAttIdeal.τ).loc Cert.DmixAttIdeal.main_arg0) = m ((c.tc : Thread Cert.DmixAttIdeal.nD Cert.DmixAttIdeal.τ).loc Cert.DmixAttIdeal.main_arg0)
          ∧ r.2.mem ((c.tc : Thread Cert.DmixAttIdeal.nD Cert.DmixAttIdeal.τ).loc Cert.DmixAttIdeal.main_arg1) = m ((c.tc : Thread Cert.DmixAttIdeal.nD Cert.DmixAttIdeal.τ).loc Cert.DmixAttIdeal.main_arg1))
      ∧ θ_run (Cert.DmixAttRefIdeal.defs (F := Ideal)) (onTc (τ := Cert.DmixAttRefIdeal.τ) (Cert.DmixAttRefIdeal.main (F := Ideal))) ⟨m', fun _ => 0, g'⟩ (fun r => ∀ c : Dev Cert.DmixAttRefIdeal.nD,
          r.2.mem ((c.tc : Thread Cert.DmixAttRefIdeal.nD Cert.DmixAttRefIdeal.τ).loc Cert.DmixAttRefIdeal.main_v4) = v0 c
          ∧ r.2.mem ((c.tc : Thread Cert.DmixAttRefIdeal.nD Cert.DmixAttRefIdeal.τ).loc Cert.DmixAttRefIdeal.main_arg0) = m' ((c.tc : Thread Cert.DmixAttRefIdeal.nD Cert.DmixAttRefIdeal.τ).loc Cert.DmixAttRefIdeal.main_arg0)
          ∧ r.2.mem ((c.tc : Thread Cert.DmixAttRefIdeal.nD Cert.DmixAttRefIdeal.τ).loc Cert.DmixAttRefIdeal.main_arg1) = m' ((c.tc : Thread Cert.DmixAttRefIdeal.nD Cert.DmixAttRefIdeal.τ).loc Cert.DmixAttRefIdeal.main_arg1))

def preserves_DmixPool_DmixPoolIdeal : Prop :=
  True

def algebraic_DmixPoolIdeal_DmixPoolRefIdeal [hDmixPoolIdeal : Cert.DmixPoolIdeal.Facts] [hDmixPoolRefIdeal : Cert.DmixPoolRefIdeal.Facts] : Prop :=
  ∀ (m : (ℓ : Loc Cert.DmixPoolIdeal.nD Cert.DmixPoolIdeal.τ Cert.DmixPoolIdeal.sig) → Buf (Elt Ideal) ℓ) (g : Dev Cert.DmixPoolIdeal.nD → PrngReg)
    (m' : (ℓ : Loc Cert.DmixPoolRefIdeal.nD Cert.DmixPoolRefIdeal.τ Cert.DmixPoolRefIdeal.sig) → Buf (Elt Ideal) ℓ) (g' : Dev Cert.DmixPoolRefIdeal.nD → PrngReg), Pre_DmixPoolIdeal m →
    (∀ c : Dev Cert.DmixPoolIdeal.nD,
      m' ((c.tc : Thread Cert.DmixPoolRefIdeal.nD Cert.DmixPoolRefIdeal.τ).loc Cert.DmixPoolRefIdeal.main_arg0) = m ((c.tc : Thread Cert.DmixPoolIdeal.nD Cert.DmixPoolIdeal.τ).loc Cert.DmixPoolIdeal.main_arg0)
      ∧ m' ((c.tc : Thread Cert.DmixPoolRefIdeal.nD Cert.DmixPoolRefIdeal.τ).loc Cert.DmixPoolRefIdeal.main_arg1) = m ((c.tc : Thread Cert.DmixPoolIdeal.nD Cert.DmixPoolIdeal.τ).loc Cert.DmixPoolIdeal.main_arg1)) →
    ∃ (v0 : (c : Dev Cert.DmixPoolIdeal.nD) → Buf (Elt Ideal) ((c.tc : Thread Cert.DmixPoolIdeal.nD Cert.DmixPoolIdeal.τ).loc Cert.DmixPoolIdeal.main_v2)),
      θ_run (Cert.DmixPoolIdeal.defs (F := Ideal)) (onTc (τ := Cert.DmixPoolIdeal.τ) (Cert.DmixPoolIdeal.main (F := Ideal))) ⟨m, fun _ => 0, g⟩ (fun r => ∀ c : Dev Cert.DmixPoolIdeal.nD,
          r.2.mem ((c.tc : Thread Cert.DmixPoolIdeal.nD Cert.DmixPoolIdeal.τ).loc Cert.DmixPoolIdeal.main_v2) = v0 c
          ∧ r.2.mem ((c.tc : Thread Cert.DmixPoolIdeal.nD Cert.DmixPoolIdeal.τ).loc Cert.DmixPoolIdeal.main_arg0) = m ((c.tc : Thread Cert.DmixPoolIdeal.nD Cert.DmixPoolIdeal.τ).loc Cert.DmixPoolIdeal.main_arg0)
          ∧ r.2.mem ((c.tc : Thread Cert.DmixPoolIdeal.nD Cert.DmixPoolIdeal.τ).loc Cert.DmixPoolIdeal.main_arg1) = m ((c.tc : Thread Cert.DmixPoolIdeal.nD Cert.DmixPoolIdeal.τ).loc Cert.DmixPoolIdeal.main_arg1))
      ∧ θ_run (Cert.DmixPoolRefIdeal.defs (F := Ideal)) (onTc (τ := Cert.DmixPoolRefIdeal.τ) (Cert.DmixPoolRefIdeal.main (F := Ideal))) ⟨m', fun _ => 0, g'⟩ (fun r => ∀ c : Dev Cert.DmixPoolRefIdeal.nD,
          r.2.mem ((c.tc : Thread Cert.DmixPoolRefIdeal.nD Cert.DmixPoolRefIdeal.τ).loc Cert.DmixPoolRefIdeal.main_v3) = v0 c
          ∧ r.2.mem ((c.tc : Thread Cert.DmixPoolRefIdeal.nD Cert.DmixPoolRefIdeal.τ).loc Cert.DmixPoolRefIdeal.main_arg0) = m' ((c.tc : Thread Cert.DmixPoolRefIdeal.nD Cert.DmixPoolRefIdeal.τ).loc Cert.DmixPoolRefIdeal.main_arg0)
          ∧ r.2.mem ((c.tc : Thread Cert.DmixPoolRefIdeal.nD Cert.DmixPoolRefIdeal.τ).loc Cert.DmixPoolRefIdeal.main_arg1) = m' ((c.tc : Thread Cert.DmixPoolRefIdeal.nD Cert.DmixPoolRefIdeal.τ).loc Cert.DmixPoolRefIdeal.main_arg1))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v11)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v11) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v5) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def preserves_Ff1_Ff1Ideal : Prop :=
  True

def algebraic_Ff1Ideal_Ff1RefIdeal [hFf1Ideal : Cert.Ff1Ideal.Facts] [hFf1RefIdeal : Cert.Ff1RefIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)
      ∧ m' ((c.tc : Thread Cert.Ff1RefIdeal.nD Cert.Ff1RefIdeal.τ).loc Cert.Ff1RefIdeal.main_arg2) = m ((c.tc : Thread Cert.Ff1Ideal.nD Cert.Ff1Ideal.τ).loc Cert.Ff1Ideal.main_arg2)) →
    ∃ (v0 : (c : Dev Cert.Ff1Ideal.nD) → Buf (Elt Ideal) ((c.tc : Thread Cert.Ff1Ideal.nD Cert.Ff1Ideal.τ).loc Cert.Ff1Ideal.main_v4_0)) (v1 : (c : Dev Cert.Ff1Ideal.nD) → Buf (Elt Ideal) ((c.tc : Thread Cert.Ff1Ideal.nD Cert.Ff1Ideal.τ).loc Cert.Ff1Ideal.main_v4_1)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v4_0) = v0 c
          ∧ r.2.mem ((c.tc : Thread Cert.Ff1Ideal.nD Cert.Ff1Ideal.τ).loc Cert.Ff1Ideal.main_v4_1) = v1 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1)
          ∧ r.2.mem ((c.tc : Thread Cert.Ff1Ideal.nD Cert.Ff1Ideal.τ).loc Cert.Ff1Ideal.main_arg2) = m ((c.tc : Thread Cert.Ff1Ideal.nD Cert.Ff1Ideal.τ).loc Cert.Ff1Ideal.main_arg2))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v4) = v0 c
          ∧ r.2.mem ((c.tc : Thread Cert.Ff1RefIdeal.nD Cert.Ff1RefIdeal.τ).loc Cert.Ff1RefIdeal.main_v7) = v1 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1)
          ∧ r.2.mem ((c.tc : Thread Cert.Ff1RefIdeal.nD Cert.Ff1RefIdeal.τ).loc Cert.Ff1RefIdeal.main_arg2) = m' ((c.tc : Thread Cert.Ff1RefIdeal.nD Cert.Ff1RefIdeal.τ).loc Cert.Ff1RefIdeal.main_arg2))

def preserves_Upool_UpoolIdeal : Prop :=
  True

def algebraic_UpoolIdeal_UpoolRefIdeal [hUpoolIdeal : Cert.UpoolIdeal.Facts] [hUpoolRefIdeal : Cert.UpoolRefIdeal.Facts] : Prop :=
  ∀ (m : (ℓ : Loc Cert.UpoolIdeal.nD Cert.UpoolIdeal.τ Cert.UpoolIdeal.sig) → Buf (Elt Ideal) ℓ) (g : Dev Cert.UpoolIdeal.nD → PrngReg)
    (m' : (ℓ : Loc Cert.UpoolRefIdeal.nD Cert.UpoolRefIdeal.τ Cert.UpoolRefIdeal.sig) → Buf (Elt Ideal) ℓ) (g' : Dev Cert.UpoolRefIdeal.nD → PrngReg), Pre_UpoolIdeal m →
    (∀ c : Dev Cert.UpoolIdeal.nD,
      m' ((c.tc : Thread Cert.UpoolRefIdeal.nD Cert.UpoolRefIdeal.τ).loc Cert.UpoolRefIdeal.main_arg0) = m ((c.tc : Thread Cert.UpoolIdeal.nD Cert.UpoolIdeal.τ).loc Cert.UpoolIdeal.main_arg0)
      ∧ m' ((c.tc : Thread Cert.UpoolRefIdeal.nD Cert.UpoolRefIdeal.τ).loc Cert.UpoolRefIdeal.main_arg1) = m ((c.tc : Thread Cert.UpoolIdeal.nD Cert.UpoolIdeal.τ).loc Cert.UpoolIdeal.main_arg1)) →
    ∃ (v0 : (c : Dev Cert.UpoolIdeal.nD) → Buf (Elt Ideal) ((c.tc : Thread Cert.UpoolIdeal.nD Cert.UpoolIdeal.τ).loc Cert.UpoolIdeal.main_v4)),
      θ_run (Cert.UpoolIdeal.defs (F := Ideal)) (onTc (τ := Cert.UpoolIdeal.τ) (Cert.UpoolIdeal.main (F := Ideal))) ⟨m, fun _ => 0, g⟩ (fun r => ∀ c : Dev Cert.UpoolIdeal.nD,
          r.2.mem ((c.tc : Thread Cert.UpoolIdeal.nD Cert.UpoolIdeal.τ).loc Cert.UpoolIdeal.main_v4) = v0 c
          ∧ r.2.mem ((c.tc : Thread Cert.UpoolIdeal.nD Cert.UpoolIdeal.τ).loc Cert.UpoolIdeal.main_arg0) = m ((c.tc : Thread Cert.UpoolIdeal.nD Cert.UpoolIdeal.τ).loc Cert.UpoolIdeal.main_arg0)
          ∧ r.2.mem ((c.tc : Thread Cert.UpoolIdeal.nD Cert.UpoolIdeal.τ).loc Cert.UpoolIdeal.main_arg1) = m ((c.tc : Thread Cert.UpoolIdeal.nD Cert.UpoolIdeal.τ).loc Cert.UpoolIdeal.main_arg1))
      ∧ θ_run (Cert.UpoolRefIdeal.defs (F := Ideal)) (onTc (τ := Cert.UpoolRefIdeal.τ) (Cert.UpoolRefIdeal.main (F := Ideal))) ⟨m', fun _ => 0, g'⟩ (fun r => ∀ c : Dev Cert.UpoolRefIdeal.nD,
          r.2.mem ((c.tc : Thread Cert.UpoolRefIdeal.nD Cert.UpoolRefIdeal.τ).loc Cert.UpoolRefIdeal.main_v1) = v0 c
          ∧ r.2.mem ((c.tc : Thread Cert.UpoolRefIdeal.nD Cert.UpoolRefIdeal.τ).loc Cert.UpoolRefIdeal.main_arg0) = m' ((c.tc : Thread Cert.UpoolRefIdeal.nD Cert.UpoolRefIdeal.τ).loc Cert.UpoolRefIdeal.main_arg0)
          ∧ r.2.mem ((c.tc : Thread Cert.UpoolRefIdeal.nD Cert.UpoolRefIdeal.τ).loc Cert.UpoolRefIdeal.main_arg1) = m' ((c.tc : Thread Cert.UpoolRefIdeal.nD Cert.UpoolRefIdeal.τ).loc Cert.UpoolRefIdeal.main_arg1))

def preserves_Uqkv_UqkvIdeal : Prop :=
  True

def algebraic_UqkvIdeal_UqkvRefIdeal [hUqkvIdeal : Cert.UqkvIdeal.Facts] [hUqkvRefIdeal : Cert.UqkvRefIdeal.Facts] : Prop :=
  ∀ (m : (ℓ : Loc Cert.UqkvIdeal.nD Cert.UqkvIdeal.τ Cert.UqkvIdeal.sig) → Buf (Elt Ideal) ℓ) (g : Dev Cert.UqkvIdeal.nD → PrngReg)
    (m' : (ℓ : Loc Cert.UqkvRefIdeal.nD Cert.UqkvRefIdeal.τ Cert.UqkvRefIdeal.sig) → Buf (Elt Ideal) ℓ) (g' : Dev Cert.UqkvRefIdeal.nD → PrngReg), Pre_UqkvIdeal m →
    (∀ c : Dev Cert.UqkvIdeal.nD,
      m' ((c.tc : Thread Cert.UqkvRefIdeal.nD Cert.UqkvRefIdeal.τ).loc Cert.UqkvRefIdeal.main_arg0) = m ((c.tc : Thread Cert.UqkvIdeal.nD Cert.UqkvIdeal.τ).loc Cert.UqkvIdeal.main_arg0)
      ∧ m' ((c.tc : Thread Cert.UqkvRefIdeal.nD Cert.UqkvRefIdeal.τ).loc Cert.UqkvRefIdeal.main_arg1) = m ((c.tc : Thread Cert.UqkvIdeal.nD Cert.UqkvIdeal.τ).loc Cert.UqkvIdeal.main_arg1)) →
    ∃ (v0 : (c : Dev Cert.UqkvIdeal.nD) → Buf (Elt Ideal) ((c.tc : Thread Cert.UqkvIdeal.nD Cert.UqkvIdeal.τ).loc Cert.UqkvIdeal.main_v4)),
      θ_run (Cert.UqkvIdeal.defs (F := Ideal)) (onTc (τ := Cert.UqkvIdeal.τ) (Cert.UqkvIdeal.main (F := Ideal))) ⟨m, fun _ => 0, g⟩ (fun r => ∀ c : Dev Cert.UqkvIdeal.nD,
          r.2.mem ((c.tc : Thread Cert.UqkvIdeal.nD Cert.UqkvIdeal.τ).loc Cert.UqkvIdeal.main_v4) = v0 c
          ∧ r.2.mem ((c.tc : Thread Cert.UqkvIdeal.nD Cert.UqkvIdeal.τ).loc Cert.UqkvIdeal.main_arg0) = m ((c.tc : Thread Cert.UqkvIdeal.nD Cert.UqkvIdeal.τ).loc Cert.UqkvIdeal.main_arg0)
          ∧ r.2.mem ((c.tc : Thread Cert.UqkvIdeal.nD Cert.UqkvIdeal.τ).loc Cert.UqkvIdeal.main_arg1) = m ((c.tc : Thread Cert.UqkvIdeal.nD Cert.UqkvIdeal.τ).loc Cert.UqkvIdeal.main_arg1))
      ∧ θ_run (Cert.UqkvRefIdeal.defs (F := Ideal)) (onTc (τ := Cert.UqkvRefIdeal.τ) (Cert.UqkvRefIdeal.main (F := Ideal))) ⟨m', fun _ => 0, g'⟩ (fun r => ∀ c : Dev Cert.UqkvRefIdeal.nD,
          r.2.mem ((c.tc : Thread Cert.UqkvRefIdeal.nD Cert.UqkvRefIdeal.τ).loc Cert.UqkvRefIdeal.main_v2) = v0 c
          ∧ r.2.mem ((c.tc : Thread Cert.UqkvRefIdeal.nD Cert.UqkvRefIdeal.τ).loc Cert.UqkvRefIdeal.main_arg0) = m' ((c.tc : Thread Cert.UqkvRefIdeal.nD Cert.UqkvRefIdeal.τ).loc Cert.UqkvRefIdeal.main_arg0)
          ∧ r.2.mem ((c.tc : Thread Cert.UqkvRefIdeal.nD Cert.UqkvRefIdeal.τ).loc Cert.UqkvRefIdeal.main_arg1) = m' ((c.tc : Thread Cert.UqkvRefIdeal.nD Cert.UqkvRefIdeal.τ).loc Cert.UqkvRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v2_0)) (v1 : (c : Dev Cert.MixIdeal.nD) → Buf (Elt Ideal) ((c.tc : Thread Cert.MixIdeal.nD Cert.MixIdeal.τ).loc Cert.MixIdeal.main_v2_1)) (v2 : (c : Dev Cert.MixIdeal.nD) → Buf (Elt Ideal) ((c.tc : Thread Cert.MixIdeal.nD Cert.MixIdeal.τ).loc Cert.MixIdeal.main_v2_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2_0) = v0 c
          ∧ r.2.mem ((c.tc : Thread Cert.MixIdeal.nD Cert.MixIdeal.τ).loc Cert.MixIdeal.main_v2_1) = v1 c
          ∧ r.2.mem ((c.tc : Thread Cert.MixIdeal.nD Cert.MixIdeal.τ).loc Cert.MixIdeal.main_v2_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v3) = v0 c
          ∧ r.2.mem ((c.tc : Thread Cert.MixRefIdeal.nD Cert.MixRefIdeal.τ).loc Cert.MixRefIdeal.main_v29) = v1 c
          ∧ r.2.mem ((c.tc : Thread Cert.MixRefIdeal.nD Cert.MixRefIdeal.τ).loc Cert.MixRefIdeal.main_v30) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_LnIn_LnInIdeal : Prop :=
  True

def algebraic_LnInIdeal_LnInRefIdeal [hLnInIdeal : Cert.LnInIdeal.Facts] [hLnInRefIdeal : Cert.LnInRefIdeal.Facts] : Prop :=
  ∀ (m : (ℓ : Loc Cert.LnInIdeal.nD Cert.LnInIdeal.τ Cert.LnInIdeal.sig) → Buf (Elt Ideal) ℓ) (g : Dev Cert.LnInIdeal.nD → PrngReg)
    (m' : (ℓ : Loc Cert.LnInRefIdeal.nD Cert.LnInRefIdeal.τ Cert.LnInRefIdeal.sig) → Buf (Elt Ideal) ℓ) (g' : Dev Cert.LnInRefIdeal.nD → PrngReg), Pre_LnInIdeal m →
    (∀ c : Dev Cert.LnInIdeal.nD,
      m' ((c.tc : Thread Cert.LnInRefIdeal.nD Cert.LnInRefIdeal.τ).loc Cert.LnInRefIdeal.main_arg0) = m ((c.tc : Thread Cert.LnInIdeal.nD Cert.LnInIdeal.τ).loc Cert.LnInIdeal.main_arg0)
      ∧ m' ((c.tc : Thread Cert.LnInRefIdeal.nD Cert.LnInRefIdeal.τ).loc Cert.LnInRefIdeal.main_arg1) = m ((c.tc : Thread Cert.LnInIdeal.nD Cert.LnInIdeal.τ).loc Cert.LnInIdeal.main_arg1)
      ∧ m' ((c.tc : Thread Cert.LnInRefIdeal.nD Cert.LnInRefIdeal.τ).loc Cert.LnInRefIdeal.main_arg2) = m ((c.tc : Thread Cert.LnInIdeal.nD Cert.LnInIdeal.τ).loc Cert.LnInIdeal.main_arg2)) →
    ∃ (v0 : (c : Dev Cert.LnInIdeal.nD) → Buf (Elt Ideal) ((c.tc : Thread Cert.LnInIdeal.nD Cert.LnInIdeal.τ).loc Cert.LnInIdeal.main_v2_0)) (v1 : (c : Dev Cert.LnInIdeal.nD) → Buf (Elt Ideal) ((c.tc : Thread Cert.LnInIdeal.nD Cert.LnInIdeal.τ).loc Cert.LnInIdeal.main_v2_1)),
      θ_run (Cert.LnInIdeal.defs (F := Ideal)) (onTc (τ := Cert.LnInIdeal.τ) (Cert.LnInIdeal.main (F := Ideal))) ⟨m, fun _ => 0, g⟩ (fun r => ∀ c : Dev Cert.LnInIdeal.nD,
          r.2.mem ((c.tc : Thread Cert.LnInIdeal.nD Cert.LnInIdeal.τ).loc Cert.LnInIdeal.main_v2_0) = v0 c
          ∧ r.2.mem ((c.tc : Thread Cert.LnInIdeal.nD Cert.LnInIdeal.τ).loc Cert.LnInIdeal.main_v2_1) = v1 c
          ∧ r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
          ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
          ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2))
      ∧ θ_run (Cert.LnInRefIdeal.defs (F := Ideal)) (onTc (τ := Cert.LnInRefIdeal.τ) (Cert.LnInRefIdeal.main (F := Ideal))) ⟨m', fun _ => 0, g'⟩ (fun r => ∀ c : Dev Cert.LnInRefIdeal.nD,
          r.2.mem ((c.tc : Thread Cert.LnInRefIdeal.nD Cert.LnInRefIdeal.τ).loc Cert.LnInRefIdeal.main_v23) = v0 c
          ∧ r.2.mem ((c.tc : Thread Cert.LnInRefIdeal.nD Cert.LnInRefIdeal.τ).loc Cert.LnInRefIdeal.main_v24) = v1 c
          ∧ r.2.mem ((c.tc : Thread Cert.LnInRefIdeal.nD Cert.LnInRefIdeal.τ).loc Cert.LnInRefIdeal.main_arg0) = m' ((c.tc : Thread Cert.LnInRefIdeal.nD Cert.LnInRefIdeal.τ).loc Cert.LnInRefIdeal.main_arg0)
          ∧ r.2.mem ((c.tc : Thread Cert.LnInRefIdeal.nD Cert.LnInRefIdeal.τ).loc Cert.LnInRefIdeal.main_arg1) = m' ((c.tc : Thread Cert.LnInRefIdeal.nD Cert.LnInRefIdeal.τ).loc Cert.LnInRefIdeal.main_arg1)
          ∧ r.2.mem ((c.tc : Thread Cert.LnInRefIdeal.nD Cert.LnInRefIdeal.τ).loc Cert.LnInRefIdeal.main_arg2) = m' ((c.tc : Thread Cert.LnInRefIdeal.nD Cert.LnInRefIdeal.τ).loc Cert.LnInRefIdeal.main_arg2))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)
      ∧ m' ((c.tc : Thread Cert.SmallRefIdeal.nD Cert.SmallRefIdeal.τ).loc Cert.SmallRefIdeal.main_arg4) = m ((c.tc : Thread Cert.SmallIdeal.nD Cert.SmallIdeal.τ).loc Cert.SmallIdeal.main_arg4)
      ∧ m' ((c.tc : Thread Cert.SmallRefIdeal.nD Cert.SmallRefIdeal.τ).loc Cert.SmallRefIdeal.main_arg5) = m ((c.tc : Thread Cert.SmallIdeal.nD Cert.SmallIdeal.τ).loc Cert.SmallIdeal.main_arg5)
      ∧ m' ((c.tc : Thread Cert.SmallRefIdeal.nD Cert.SmallRefIdeal.τ).loc Cert.SmallRefIdeal.main_arg6) = m ((c.tc : Thread Cert.SmallIdeal.nD Cert.SmallIdeal.τ).loc Cert.SmallIdeal.main_arg6)
      ∧ m' ((c.tc : Thread Cert.SmallRefIdeal.nD Cert.SmallRefIdeal.τ).loc Cert.SmallRefIdeal.main_arg7) = m ((c.tc : Thread Cert.SmallIdeal.nD Cert.SmallIdeal.τ).loc Cert.SmallIdeal.main_arg7)
      ∧ m' ((c.tc : Thread Cert.SmallRefIdeal.nD Cert.SmallRefIdeal.τ).loc Cert.SmallRefIdeal.main_arg8) = m ((c.tc : Thread Cert.SmallIdeal.nD Cert.SmallIdeal.τ).loc Cert.SmallIdeal.main_arg8)
      ∧ m' ((c.tc : Thread Cert.SmallRefIdeal.nD Cert.SmallRefIdeal.τ).loc Cert.SmallRefIdeal.main_arg9) = m ((c.tc : Thread Cert.SmallIdeal.nD Cert.SmallIdeal.τ).loc Cert.SmallIdeal.main_arg9)
      ∧ m' ((c.tc : Thread Cert.SmallRefIdeal.nD Cert.SmallRefIdeal.τ).loc Cert.SmallRefIdeal.main_arg10) = m ((c.tc : Thread Cert.SmallIdeal.nD Cert.SmallIdeal.τ).loc Cert.SmallIdeal.main_arg10)
      ∧ m' ((c.tc : Thread Cert.SmallRefIdeal.nD Cert.SmallRefIdeal.τ).loc Cert.SmallRefIdeal.main_arg11) = m ((c.tc : Thread Cert.SmallIdeal.nD Cert.SmallIdeal.τ).loc Cert.SmallIdeal.main_arg11)
      ∧ m' ((c.tc : Thread Cert.SmallRefIdeal.nD Cert.SmallRefIdeal.τ).loc Cert.SmallRefIdeal.main_arg12) = m ((c.tc : Thread Cert.SmallIdeal.nD Cert.SmallIdeal.τ).loc Cert.SmallIdeal.main_arg12)
      ∧ m' ((c.tc : Thread Cert.SmallRefIdeal.nD Cert.SmallRefIdeal.τ).loc Cert.SmallRefIdeal.main_arg13) = m ((c.tc : Thread Cert.SmallIdeal.nD Cert.SmallIdeal.τ).loc Cert.SmallIdeal.main_arg13)
      ∧ m' ((c.tc : Thread Cert.SmallRefIdeal.nD Cert.SmallRefIdeal.τ).loc Cert.SmallRefIdeal.main_arg14) = m ((c.tc : Thread Cert.SmallIdeal.nD Cert.SmallIdeal.τ).loc Cert.SmallIdeal.main_arg14)
      ∧ m' ((c.tc : Thread Cert.SmallRefIdeal.nD Cert.SmallRefIdeal.τ).loc Cert.SmallRefIdeal.main_arg15) = m ((c.tc : Thread Cert.SmallIdeal.nD Cert.SmallIdeal.τ).loc Cert.SmallIdeal.main_arg15)
      ∧ m' ((c.tc : Thread Cert.SmallRefIdeal.nD Cert.SmallRefIdeal.τ).loc Cert.SmallRefIdeal.main_arg16) = m ((c.tc : Thread Cert.SmallIdeal.nD Cert.SmallIdeal.τ).loc Cert.SmallIdeal.main_arg16)
      ∧ m' ((c.tc : Thread Cert.SmallRefIdeal.nD Cert.SmallRefIdeal.τ).loc Cert.SmallRefIdeal.main_arg17) = m ((c.tc : Thread Cert.SmallIdeal.nD Cert.SmallIdeal.τ).loc Cert.SmallIdeal.main_arg17)
      ∧ m' ((c.tc : Thread Cert.SmallRefIdeal.nD Cert.SmallRefIdeal.τ).loc Cert.SmallRefIdeal.main_arg18) = m ((c.tc : Thread Cert.SmallIdeal.nD Cert.SmallIdeal.τ).loc Cert.SmallIdeal.main_arg18)
      ∧ m' ((c.tc : Thread Cert.SmallRefIdeal.nD Cert.SmallRefIdeal.τ).loc Cert.SmallRefIdeal.main_arg19) = m ((c.tc : Thread Cert.SmallIdeal.nD Cert.SmallIdeal.τ).loc Cert.SmallIdeal.main_arg19)
      ∧ m' ((c.tc : Thread Cert.SmallRefIdeal.nD Cert.SmallRefIdeal.τ).loc Cert.SmallRefIdeal.main_arg20) = m ((c.tc : Thread Cert.SmallIdeal.nD Cert.SmallIdeal.τ).loc Cert.SmallIdeal.main_arg20)
      ∧ m' ((c.tc : Thread Cert.SmallRefIdeal.nD Cert.SmallRefIdeal.τ).loc Cert.SmallRefIdeal.main_arg21) = m ((c.tc : Thread Cert.SmallIdeal.nD Cert.SmallIdeal.τ).loc Cert.SmallIdeal.main_arg21)
      ∧ m' ((c.tc : Thread Cert.SmallRefIdeal.nD Cert.SmallRefIdeal.τ).loc Cert.SmallRefIdeal.main_arg22) = m ((c.tc : Thread Cert.SmallIdeal.nD Cert.SmallIdeal.τ).loc Cert.SmallIdeal.main_arg22)
      ∧ m' ((c.tc : Thread Cert.SmallRefIdeal.nD Cert.SmallRefIdeal.τ).loc Cert.SmallRefIdeal.main_arg23) = m ((c.tc : Thread Cert.SmallIdeal.nD Cert.SmallIdeal.τ).loc Cert.SmallIdeal.main_arg23)
      ∧ m' ((c.tc : Thread Cert.SmallRefIdeal.nD Cert.SmallRefIdeal.τ).loc Cert.SmallRefIdeal.main_arg24) = m ((c.tc : Thread Cert.SmallIdeal.nD Cert.SmallIdeal.τ).loc Cert.SmallIdeal.main_arg24)
      ∧ m' ((c.tc : Thread Cert.SmallRefIdeal.nD Cert.SmallRefIdeal.τ).loc Cert.SmallRefIdeal.main_arg25) = m ((c.tc : Thread Cert.SmallIdeal.nD Cert.SmallIdeal.τ).loc Cert.SmallIdeal.main_arg25)
      ∧ m' ((c.tc : Thread Cert.SmallRefIdeal.nD Cert.SmallRefIdeal.τ).loc Cert.SmallRefIdeal.main_arg26) = m ((c.tc : Thread Cert.SmallIdeal.nD Cert.SmallIdeal.τ).loc Cert.SmallIdeal.main_arg26)
      ∧ m' ((c.tc : Thread Cert.SmallRefIdeal.nD Cert.SmallRefIdeal.τ).loc Cert.SmallRefIdeal.main_arg27) = m ((c.tc : Thread Cert.SmallIdeal.nD Cert.SmallIdeal.τ).loc Cert.SmallIdeal.main_arg27)
      ∧ m' ((c.tc : Thread Cert.SmallRefIdeal.nD Cert.SmallRefIdeal.τ).loc Cert.SmallRefIdeal.main_arg28) = m ((c.tc : Thread Cert.SmallIdeal.nD Cert.SmallIdeal.τ).loc Cert.SmallIdeal.main_arg28)
      ∧ m' ((c.tc : Thread Cert.SmallRefIdeal.nD Cert.SmallRefIdeal.τ).loc Cert.SmallRefIdeal.main_arg29) = m ((c.tc : Thread Cert.SmallIdeal.nD Cert.SmallIdeal.τ).loc Cert.SmallIdeal.main_arg29)
      ∧ m' ((c.tc : Thread Cert.SmallRefIdeal.nD Cert.SmallRefIdeal.τ).loc Cert.SmallRefIdeal.main_arg30) = m ((c.tc : Thread Cert.SmallIdeal.nD Cert.SmallIdeal.τ).loc Cert.SmallIdeal.main_arg30)
      ∧ m' ((c.tc : Thread Cert.SmallRefIdeal.nD Cert.SmallRefIdeal.τ).loc Cert.SmallRefIdeal.main_arg31) = m ((c.tc : Thread Cert.SmallIdeal.nD Cert.SmallIdeal.τ).loc Cert.SmallIdeal.main_arg31)
      ∧ m' ((c.tc : Thread Cert.SmallRefIdeal.nD Cert.SmallRefIdeal.τ).loc Cert.SmallRefIdeal.main_arg32) = m ((c.tc : Thread Cert.SmallIdeal.nD Cert.SmallIdeal.τ).loc Cert.SmallIdeal.main_arg32)
      ∧ m' ((c.tc : Thread Cert.SmallRefIdeal.nD Cert.SmallRefIdeal.τ).loc Cert.SmallRefIdeal.main_arg33) = m ((c.tc : Thread Cert.SmallIdeal.nD Cert.SmallIdeal.τ).loc Cert.SmallIdeal.main_arg33)
      ∧ m' ((c.tc : Thread Cert.SmallRefIdeal.nD Cert.SmallRefIdeal.τ).loc Cert.SmallRefIdeal.main_arg34) = m ((c.tc : Thread Cert.SmallIdeal.nD Cert.SmallIdeal.τ).loc Cert.SmallIdeal.main_arg34)
      ∧ m' ((c.tc : Thread Cert.SmallRefIdeal.nD Cert.SmallRefIdeal.τ).loc Cert.SmallRefIdeal.main_arg35) = m ((c.tc : Thread Cert.SmallIdeal.nD Cert.SmallIdeal.τ).loc Cert.SmallIdeal.main_arg35)) →
    ∃ (v0 : (c : Dev Cert.SmallIdeal.nD) → Buf (Elt Ideal) ((c.tc : Thread Cert.SmallIdeal.nD Cert.SmallIdeal.τ).loc Cert.SmallIdeal.main_v37)) (v1 : (c : Dev Cert.SmallIdeal.nD) → Buf (Elt Ideal) ((c.tc : Thread Cert.SmallIdeal.nD Cert.SmallIdeal.τ).loc Cert.SmallIdeal.main_v39)) (v2 : (c : Dev Cert.SmallIdeal.nD) → Buf (Elt Ideal) ((c.tc : Thread Cert.SmallIdeal.nD Cert.SmallIdeal.τ).loc Cert.SmallIdeal.main_v35)) (v3 : (c : Dev Cert.SmallIdeal.nD) → Buf (Elt Ideal) ((c.tc : Thread Cert.SmallIdeal.nD Cert.SmallIdeal.τ).loc Cert.SmallIdeal.main_v40)) (v4 : (c : Dev Cert.SmallIdeal.nD) → Buf (Elt Ideal) ((c.tc : Thread Cert.SmallIdeal.nD Cert.SmallIdeal.τ).loc Cert.SmallIdeal.main_v41)) (v5 : (c : Dev Cert.SmallIdeal.nD) → Buf (Elt Ideal) ((c.tc : Thread Cert.SmallIdeal.nD Cert.SmallIdeal.τ).loc Cert.SmallIdeal.main_v46)) (v6 : (c : Dev Cert.SmallIdeal.nD) → Buf (Elt Ideal) ((c.tc : Thread Cert.SmallIdeal.nD Cert.SmallIdeal.τ).loc Cert.SmallIdeal.main_v42)) (v7 : (c : Dev Cert.SmallIdeal.nD) → Buf (Elt Ideal) ((c.tc : Thread Cert.SmallIdeal.nD Cert.SmallIdeal.τ).loc Cert.SmallIdeal.main_v43)) (v8 : (c : Dev Cert.SmallIdeal.nD) → Buf (Elt Ideal) ((c.tc : Thread Cert.SmallIdeal.nD Cert.SmallIdeal.τ).loc Cert.SmallIdeal.main_v44)) (v9 : (c : Dev Cert.SmallIdeal.nD) → Buf (Elt Ideal) ((c.tc : Thread Cert.SmallIdeal.nD Cert.SmallIdeal.τ).loc Cert.SmallIdeal.main_v51)) (v10 : (c : Dev Cert.SmallIdeal.nD) → Buf (Elt Ideal) ((c.tc : Thread Cert.SmallIdeal.nD Cert.SmallIdeal.τ).loc Cert.SmallIdeal.main_v53)) (v11 : (c : Dev Cert.SmallIdeal.nD) → Buf (Elt Ideal) ((c.tc : Thread Cert.SmallIdeal.nD Cert.SmallIdeal.τ).loc Cert.SmallIdeal.main_v49)) (v12 : (c : Dev Cert.SmallIdeal.nD) → Buf (Elt Ideal) ((c.tc : Thread Cert.SmallIdeal.nD Cert.SmallIdeal.τ).loc Cert.SmallIdeal.main_v54)) (v13 : (c : Dev Cert.SmallIdeal.nD) → Buf (Elt Ideal) ((c.tc : Thread Cert.SmallIdeal.nD Cert.SmallIdeal.τ).loc Cert.SmallIdeal.main_v55)) (v14 : (c : Dev Cert.SmallIdeal.nD) → Buf (Elt Ideal) ((c.tc : Thread Cert.SmallIdeal.nD Cert.SmallIdeal.τ).loc Cert.SmallIdeal.main_v60)) (v15 : (c : Dev Cert.SmallIdeal.nD) → Buf (Elt Ideal) ((c.tc : Thread Cert.SmallIdeal.nD Cert.SmallIdeal.τ).loc Cert.SmallIdeal.main_v56)) (v16 : (c : Dev Cert.SmallIdeal.nD) → Buf (Elt Ideal) ((c.tc : Thread Cert.SmallIdeal.nD Cert.SmallIdeal.τ).loc Cert.SmallIdeal.main_v57)) (v17 : (c : Dev Cert.SmallIdeal.nD) → Buf (Elt Ideal) ((c.tc : Thread Cert.SmallIdeal.nD Cert.SmallIdeal.τ).loc Cert.SmallIdeal.main_v58)) (v18 : (c : Dev Cert.SmallIdeal.nD) → Buf (Elt Ideal) ((c.tc : Thread Cert.SmallIdeal.nD Cert.SmallIdeal.τ).loc Cert.SmallIdeal.main_v65)) (v19 : (c : Dev Cert.SmallIdeal.nD) → Buf (Elt Ideal) ((c.tc : Thread Cert.SmallIdeal.nD Cert.SmallIdeal.τ).loc Cert.SmallIdeal.main_v67)) (v20 : (c : Dev Cert.SmallIdeal.nD) → Buf (Elt Ideal) ((c.tc : Thread Cert.SmallIdeal.nD Cert.SmallIdeal.τ).loc Cert.SmallIdeal.main_v63)) (v21 : (c : Dev Cert.SmallIdeal.nD) → Buf (Elt Ideal) ((c.tc : Thread Cert.SmallIdeal.nD Cert.SmallIdeal.τ).loc Cert.SmallIdeal.main_v68)) (v22 : (c : Dev Cert.SmallIdeal.nD) → Buf (Elt Ideal) ((c.tc : Thread Cert.SmallIdeal.nD Cert.SmallIdeal.τ).loc Cert.SmallIdeal.main_v69)) (v23 : (c : Dev Cert.SmallIdeal.nD) → Buf (Elt Ideal) ((c.tc : Thread Cert.SmallIdeal.nD Cert.SmallIdeal.τ).loc Cert.SmallIdeal.main_v74)) (v24 : (c : Dev Cert.SmallIdeal.nD) → Buf (Elt Ideal) ((c.tc : Thread Cert.SmallIdeal.nD Cert.SmallIdeal.τ).loc Cert.SmallIdeal.main_v70)) (v25 : (c : Dev Cert.SmallIdeal.nD) → Buf (Elt Ideal) ((c.tc : Thread Cert.SmallIdeal.nD Cert.SmallIdeal.τ).loc Cert.SmallIdeal.main_v71)) (v26 : (c : Dev Cert.SmallIdeal.nD) → Buf (Elt Ideal) ((c.tc : Thread Cert.SmallIdeal.nD Cert.SmallIdeal.τ).loc Cert.SmallIdeal.main_v72)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v37) = v0 c
          ∧ r.2.mem ((c.tc : Thread Cert.SmallIdeal.nD Cert.SmallIdeal.τ).loc Cert.SmallIdeal.main_v39) = v1 c
          ∧ r.2.mem ((c.tc : Thread Cert.SmallIdeal.nD Cert.SmallIdeal.τ).loc Cert.SmallIdeal.main_v35) = v2 c
          ∧ r.2.mem ((c.tc : Thread Cert.SmallIdeal.nD Cert.SmallIdeal.τ).loc Cert.SmallIdeal.main_v40) = v3 c
          ∧ r.2.mem ((c.tc : Thread Cert.SmallIdeal.nD Cert.SmallIdeal.τ).loc Cert.SmallIdeal.main_v41) = v4 c
          ∧ r.2.mem ((c.tc : Thread Cert.SmallIdeal.nD Cert.SmallIdeal.τ).loc Cert.SmallIdeal.main_v46) = v5 c
          ∧ r.2.mem ((c.tc : Thread Cert.SmallIdeal.nD Cert.SmallIdeal.τ).loc Cert.SmallIdeal.main_v42) = v6 c
          ∧ r.2.mem ((c.tc : Thread Cert.SmallIdeal.nD Cert.SmallIdeal.τ).loc Cert.SmallIdeal.main_v43) = v7 c
          ∧ r.2.mem ((c.tc : Thread Cert.SmallIdeal.nD Cert.SmallIdeal.τ).loc Cert.SmallIdeal.main_v44) = v8 c
          ∧ r.2.mem ((c.tc : Thread Cert.SmallIdeal.nD Cert.SmallIdeal.τ).loc Cert.SmallIdeal.main_v51) = v9 c
          ∧ r.2.mem ((c.tc : Thread Cert.SmallIdeal.nD Cert.SmallIdeal.τ).loc Cert.SmallIdeal.main_v53) = v10 c
          ∧ r.2.mem ((c.tc : Thread Cert.SmallIdeal.nD Cert.SmallIdeal.τ).loc Cert.SmallIdeal.main_v49) = v11 c
          ∧ r.2.mem ((c.tc : Thread Cert.SmallIdeal.nD Cert.SmallIdeal.τ).loc Cert.SmallIdeal.main_v54) = v12 c
          ∧ r.2.mem ((c.tc : Thread Cert.SmallIdeal.nD Cert.SmallIdeal.τ).loc Cert.SmallIdeal.main_v55) = v13 c
          ∧ r.2.mem ((c.tc : Thread Cert.SmallIdeal.nD Cert.SmallIdeal.τ).loc Cert.SmallIdeal.main_v60) = v14 c
          ∧ r.2.mem ((c.tc : Thread Cert.SmallIdeal.nD Cert.SmallIdeal.τ).loc Cert.SmallIdeal.main_v56) = v15 c
          ∧ r.2.mem ((c.tc : Thread Cert.SmallIdeal.nD Cert.SmallIdeal.τ).loc Cert.SmallIdeal.main_v57) = v16 c
          ∧ r.2.mem ((c.tc : Thread Cert.SmallIdeal.nD Cert.SmallIdeal.τ).loc Cert.SmallIdeal.main_v58) = v17 c
          ∧ r.2.mem ((c.tc : Thread Cert.SmallIdeal.nD Cert.SmallIdeal.τ).loc Cert.SmallIdeal.main_v65) = v18 c
          ∧ r.2.mem ((c.tc : Thread Cert.SmallIdeal.nD Cert.SmallIdeal.τ).loc Cert.SmallIdeal.main_v67) = v19 c
          ∧ r.2.mem ((c.tc : Thread Cert.SmallIdeal.nD Cert.SmallIdeal.τ).loc Cert.SmallIdeal.main_v63) = v20 c
          ∧ r.2.mem ((c.tc : Thread Cert.SmallIdeal.nD Cert.SmallIdeal.τ).loc Cert.SmallIdeal.main_v68) = v21 c
          ∧ r.2.mem ((c.tc : Thread Cert.SmallIdeal.nD Cert.SmallIdeal.τ).loc Cert.SmallIdeal.main_v69) = v22 c
          ∧ r.2.mem ((c.tc : Thread Cert.SmallIdeal.nD Cert.SmallIdeal.τ).loc Cert.SmallIdeal.main_v74) = v23 c
          ∧ r.2.mem ((c.tc : Thread Cert.SmallIdeal.nD Cert.SmallIdeal.τ).loc Cert.SmallIdeal.main_v70) = v24 c
          ∧ r.2.mem ((c.tc : Thread Cert.SmallIdeal.nD Cert.SmallIdeal.τ).loc Cert.SmallIdeal.main_v71) = v25 c
          ∧ r.2.mem ((c.tc : Thread Cert.SmallIdeal.nD Cert.SmallIdeal.τ).loc Cert.SmallIdeal.main_v72) = v26 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
          ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
          ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
          ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
          ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
          ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
          ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
          ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
          ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
          ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
          ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
          ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
          ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
          ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
          ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
          ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
          ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20)
          ∧ r.2.mem ((c.tc : Thread Cert.SmallIdeal.nD Cert.SmallIdeal.τ).loc Cert.SmallIdeal.main_arg21) = m ((c.tc : Thread Cert.SmallIdeal.nD Cert.SmallIdeal.τ).loc Cert.SmallIdeal.main_arg21)
          ∧ r.2.mem ((c.tc : Thread Cert.SmallIdeal.nD Cert.SmallIdeal.τ).loc Cert.SmallIdeal.main_arg22) = m ((c.tc : Thread Cert.SmallIdeal.nD Cert.SmallIdeal.τ).loc Cert.SmallIdeal.main_arg22)
          ∧ r.2.mem ((c.tc : Thread Cert.SmallIdeal.nD Cert.SmallIdeal.τ).loc Cert.SmallIdeal.main_arg23) = m ((c.tc : Thread Cert.SmallIdeal.nD Cert.SmallIdeal.τ).loc Cert.SmallIdeal.main_arg23)
          ∧ r.2.mem ((c.tc : Thread Cert.SmallIdeal.nD Cert.SmallIdeal.τ).loc Cert.SmallIdeal.main_arg24) = m ((c.tc : Thread Cert.SmallIdeal.nD Cert.SmallIdeal.τ).loc Cert.SmallIdeal.main_arg24)
          ∧ r.2.mem ((c.tc : Thread Cert.SmallIdeal.nD Cert.SmallIdeal.τ).loc Cert.SmallIdeal.main_arg25) = m ((c.tc : Thread Cert.SmallIdeal.nD Cert.SmallIdeal.τ).loc Cert.SmallIdeal.main_arg25)
          ∧ r.2.mem ((c.tc : Thread Cert.SmallIdeal.nD Cert.SmallIdeal.τ).loc Cert.SmallIdeal.main_arg26) = m ((c.tc : Thread Cert.SmallIdeal.nD Cert.SmallIdeal.τ).loc Cert.SmallIdeal.main_arg26)
          ∧ r.2.mem ((c.tc : Thread Cert.SmallIdeal.nD Cert.SmallIdeal.τ).loc Cert.SmallIdeal.main_arg27) = m ((c.tc : Thread Cert.SmallIdeal.nD Cert.SmallIdeal.τ).loc Cert.SmallIdeal.main_arg27)
          ∧ r.2.mem ((c.tc : Thread Cert.SmallIdeal.nD Cert.SmallIdeal.τ).loc Cert.SmallIdeal.main_arg28) = m ((c.tc : Thread Cert.SmallIdeal.nD Cert.SmallIdeal.τ).loc Cert.SmallIdeal.main_arg28)
          ∧ r.2.mem ((c.tc : Thread Cert.SmallIdeal.nD Cert.SmallIdeal.τ).loc Cert.SmallIdeal.main_arg29) = m ((c.tc : Thread Cert.SmallIdeal.nD Cert.SmallIdeal.τ).loc Cert.SmallIdeal.main_arg29)
          ∧ r.2.mem ((c.tc : Thread Cert.SmallIdeal.nD Cert.SmallIdeal.τ).loc Cert.SmallIdeal.main_arg30) = m ((c.tc : Thread Cert.SmallIdeal.nD Cert.SmallIdeal.τ).loc Cert.SmallIdeal.main_arg30)
          ∧ r.2.mem ((c.tc : Thread Cert.SmallIdeal.nD Cert.SmallIdeal.τ).loc Cert.SmallIdeal.main_arg31) = m ((c.tc : Thread Cert.SmallIdeal.nD Cert.SmallIdeal.τ).loc Cert.SmallIdeal.main_arg31)
          ∧ r.2.mem ((c.tc : Thread Cert.SmallIdeal.nD Cert.SmallIdeal.τ).loc Cert.SmallIdeal.main_arg32) = m ((c.tc : Thread Cert.SmallIdeal.nD Cert.SmallIdeal.τ).loc Cert.SmallIdeal.main_arg32)
          ∧ r.2.mem ((c.tc : Thread Cert.SmallIdeal.nD Cert.SmallIdeal.τ).loc Cert.SmallIdeal.main_arg33) = m ((c.tc : Thread Cert.SmallIdeal.nD Cert.SmallIdeal.τ).loc Cert.SmallIdeal.main_arg33)
          ∧ r.2.mem ((c.tc : Thread Cert.SmallIdeal.nD Cert.SmallIdeal.τ).loc Cert.SmallIdeal.main_arg34) = m ((c.tc : Thread Cert.SmallIdeal.nD Cert.SmallIdeal.τ).loc Cert.SmallIdeal.main_arg34)
          ∧ r.2.mem ((c.tc : Thread Cert.SmallIdeal.nD Cert.SmallIdeal.τ).loc Cert.SmallIdeal.main_arg35) = m ((c.tc : Thread Cert.SmallIdeal.nD Cert.SmallIdeal.τ).loc Cert.SmallIdeal.main_arg35))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v23) = v0 c
          ∧ r.2.mem ((c.tc : Thread Cert.SmallRefIdeal.nD Cert.SmallRefIdeal.τ).loc Cert.SmallRefIdeal.main_v47) = v1 c
          ∧ r.2.mem ((c.tc : Thread Cert.SmallRefIdeal.nD Cert.SmallRefIdeal.τ).loc Cert.SmallRefIdeal.main_v71) = v2 c
          ∧ r.2.mem ((c.tc : Thread Cert.SmallRefIdeal.nD Cert.SmallRefIdeal.τ).loc Cert.SmallRefIdeal.main_v95) = v3 c
          ∧ r.2.mem ((c.tc : Thread Cert.SmallRefIdeal.nD Cert.SmallRefIdeal.τ).loc Cert.SmallRefIdeal.main_v119) = v4 c
          ∧ r.2.mem ((c.tc : Thread Cert.SmallRefIdeal.nD Cert.SmallRefIdeal.τ).loc Cert.SmallRefIdeal.main_v143) = v5 c
          ∧ r.2.mem ((c.tc : Thread Cert.SmallRefIdeal.nD Cert.SmallRefIdeal.τ).loc Cert.SmallRefIdeal.main_v167) = v6 c
          ∧ r.2.mem ((c.tc : Thread Cert.SmallRefIdeal.nD Cert.SmallRefIdeal.τ).loc Cert.SmallRefIdeal.main_v191) = v7 c
          ∧ r.2.mem ((c.tc : Thread Cert.SmallRefIdeal.nD Cert.SmallRefIdeal.τ).loc Cert.SmallRefIdeal.main_v215) = v8 c
          ∧ r.2.mem ((c.tc : Thread Cert.SmallRefIdeal.nD Cert.SmallRefIdeal.τ).loc Cert.SmallRefIdeal.main_v4) = v9 c
          ∧ r.2.mem ((c.tc : Thread Cert.SmallRefIdeal.nD Cert.SmallRefIdeal.τ).loc Cert.SmallRefIdeal.main_v28) = v10 c
          ∧ r.2.mem ((c.tc : Thread Cert.SmallRefIdeal.nD Cert.SmallRefIdeal.τ).loc Cert.SmallRefIdeal.main_v52) = v11 c
          ∧ r.2.mem ((c.tc : Thread Cert.SmallRefIdeal.nD Cert.SmallRefIdeal.τ).loc Cert.SmallRefIdeal.main_v76) = v12 c
          ∧ r.2.mem ((c.tc : Thread Cert.SmallRefIdeal.nD Cert.SmallRefIdeal.τ).loc Cert.SmallRefIdeal.main_v100) = v13 c
          ∧ r.2.mem ((c.tc : Thread Cert.SmallRefIdeal.nD Cert.SmallRefIdeal.τ).loc Cert.SmallRefIdeal.main_v124) = v14 c
          ∧ r.2.mem ((c.tc : Thread Cert.SmallRefIdeal.nD Cert.SmallRefIdeal.τ).loc Cert.SmallRefIdeal.main_v148) = v15 c
          ∧ r.2.mem ((c.tc : Thread Cert.SmallRefIdeal.nD Cert.SmallRefIdeal.τ).loc Cert.SmallRefIdeal.main_v172) = v16 c
          ∧ r.2.mem ((c.tc : Thread Cert.SmallRefIdeal.nD Cert.SmallRefIdeal.τ).loc Cert.SmallRefIdeal.main_v196) = v17 c
          ∧ r.2.mem ((c.tc : Thread Cert.SmallRefIdeal.nD Cert.SmallRefIdeal.τ).loc Cert.SmallRefIdeal.main_v10) = v18 c
          ∧ r.2.mem ((c.tc : Thread Cert.SmallRefIdeal.nD Cert.SmallRefIdeal.τ).loc Cert.SmallRefIdeal.main_v34) = v19 c
          ∧ r.2.mem ((c.tc : Thread Cert.SmallRefIdeal.nD Cert.SmallRefIdeal.τ).loc Cert.SmallRefIdeal.main_v58) = v20 c
          ∧ r.2.mem ((c.tc : Thread Cert.SmallRefIdeal.nD Cert.SmallRefIdeal.τ).loc Cert.SmallRefIdeal.main_v82) = v21 c
          ∧ r.2.mem ((c.tc : Thread Cert.SmallRefIdeal.nD Cert.SmallRefIdeal.τ).loc Cert.SmallRefIdeal.main_v106) = v22 c
          ∧ r.2.mem ((c.tc : Thread Cert.SmallRefIdeal.nD Cert.SmallRefIdeal.τ).loc Cert.SmallRefIdeal.main_v130) = v23 c
          ∧ r.2.mem ((c.tc : Thread Cert.SmallRefIdeal.nD Cert.SmallRefIdeal.τ).loc Cert.SmallRefIdeal.main_v154) = v24 c
          ∧ r.2.mem ((c.tc : Thread Cert.SmallRefIdeal.nD Cert.SmallRefIdeal.τ).loc Cert.SmallRefIdeal.main_v178) = v25 c
          ∧ r.2.mem ((c.tc : Thread Cert.SmallRefIdeal.nD Cert.SmallRefIdeal.τ).loc Cert.SmallRefIdeal.main_v202) = v26 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3)
          ∧ r.2.mem ((c.tc : Thread Cert.SmallRefIdeal.nD Cert.SmallRefIdeal.τ).loc Cert.SmallRefIdeal.main_arg4) = m' ((c.tc : Thread Cert.SmallRefIdeal.nD Cert.SmallRefIdeal.τ).loc Cert.SmallRefIdeal.main_arg4)
          ∧ r.2.mem ((c.tc : Thread Cert.SmallRefIdeal.nD Cert.SmallRefIdeal.τ).loc Cert.SmallRefIdeal.main_arg5) = m' ((c.tc : Thread Cert.SmallRefIdeal.nD Cert.SmallRefIdeal.τ).loc Cert.SmallRefIdeal.main_arg5)
          ∧ r.2.mem ((c.tc : Thread Cert.SmallRefIdeal.nD Cert.SmallRefIdeal.τ).loc Cert.SmallRefIdeal.main_arg6) = m' ((c.tc : Thread Cert.SmallRefIdeal.nD Cert.SmallRefIdeal.τ).loc Cert.SmallRefIdeal.main_arg6)
          ∧ r.2.mem ((c.tc : Thread Cert.SmallRefIdeal.nD Cert.SmallRefIdeal.τ).loc Cert.SmallRefIdeal.main_arg7) = m' ((c.tc : Thread Cert.SmallRefIdeal.nD Cert.SmallRefIdeal.τ).loc Cert.SmallRefIdeal.main_arg7)
          ∧ r.2.mem ((c.tc : Thread Cert.SmallRefIdeal.nD Cert.SmallRefIdeal.τ).loc Cert.SmallRefIdeal.main_arg8) = m' ((c.tc : Thread Cert.SmallRefIdeal.nD Cert.SmallRefIdeal.τ).loc Cert.SmallRefIdeal.main_arg8)
          ∧ r.2.mem ((c.tc : Thread Cert.SmallRefIdeal.nD Cert.SmallRefIdeal.τ).loc Cert.SmallRefIdeal.main_arg9) = m' ((c.tc : Thread Cert.SmallRefIdeal.nD Cert.SmallRefIdeal.τ).loc Cert.SmallRefIdeal.main_arg9)
          ∧ r.2.mem ((c.tc : Thread Cert.SmallRefIdeal.nD Cert.SmallRefIdeal.τ).loc Cert.SmallRefIdeal.main_arg10) = m' ((c.tc : Thread Cert.SmallRefIdeal.nD Cert.SmallRefIdeal.τ).loc Cert.SmallRefIdeal.main_arg10)
          ∧ r.2.mem ((c.tc : Thread Cert.SmallRefIdeal.nD Cert.SmallRefIdeal.τ).loc Cert.SmallRefIdeal.main_arg11) = m' ((c.tc : Thread Cert.SmallRefIdeal.nD Cert.SmallRefIdeal.τ).loc Cert.SmallRefIdeal.main_arg11)
          ∧ r.2.mem ((c.tc : Thread Cert.SmallRefIdeal.nD Cert.SmallRefIdeal.τ).loc Cert.SmallRefIdeal.main_arg12) = m' ((c.tc : Thread Cert.SmallRefIdeal.nD Cert.SmallRefIdeal.τ).loc Cert.SmallRefIdeal.main_arg12)
          ∧ r.2.mem ((c.tc : Thread Cert.SmallRefIdeal.nD Cert.SmallRefIdeal.τ).loc Cert.SmallRefIdeal.main_arg13) = m' ((c.tc : Thread Cert.SmallRefIdeal.nD Cert.SmallRefIdeal.τ).loc Cert.SmallRefIdeal.main_arg13)
          ∧ r.2.mem ((c.tc : Thread Cert.SmallRefIdeal.nD Cert.SmallRefIdeal.τ).loc Cert.SmallRefIdeal.main_arg14) = m' ((c.tc : Thread Cert.SmallRefIdeal.nD Cert.SmallRefIdeal.τ).loc Cert.SmallRefIdeal.main_arg14)
          ∧ r.2.mem ((c.tc : Thread Cert.SmallRefIdeal.nD Cert.SmallRefIdeal.τ).loc Cert.SmallRefIdeal.main_arg15) = m' ((c.tc : Thread Cert.SmallRefIdeal.nD Cert.SmallRefIdeal.τ).loc Cert.SmallRefIdeal.main_arg15)
          ∧ r.2.mem ((c.tc : Thread Cert.SmallRefIdeal.nD Cert.SmallRefIdeal.τ).loc Cert.SmallRefIdeal.main_arg16) = m' ((c.tc : Thread Cert.SmallRefIdeal.nD Cert.SmallRefIdeal.τ).loc Cert.SmallRefIdeal.main_arg16)
          ∧ r.2.mem ((c.tc : Thread Cert.SmallRefIdeal.nD Cert.SmallRefIdeal.τ).loc Cert.SmallRefIdeal.main_arg17) = m' ((c.tc : Thread Cert.SmallRefIdeal.nD Cert.SmallRefIdeal.τ).loc Cert.SmallRefIdeal.main_arg17)
          ∧ r.2.mem ((c.tc : Thread Cert.SmallRefIdeal.nD Cert.SmallRefIdeal.τ).loc Cert.SmallRefIdeal.main_arg18) = m' ((c.tc : Thread Cert.SmallRefIdeal.nD Cert.SmallRefIdeal.τ).loc Cert.SmallRefIdeal.main_arg18)
          ∧ r.2.mem ((c.tc : Thread Cert.SmallRefIdeal.nD Cert.SmallRefIdeal.τ).loc Cert.SmallRefIdeal.main_arg19) = m' ((c.tc : Thread Cert.SmallRefIdeal.nD Cert.SmallRefIdeal.τ).loc Cert.SmallRefIdeal.main_arg19)
          ∧ r.2.mem ((c.tc : Thread Cert.SmallRefIdeal.nD Cert.SmallRefIdeal.τ).loc Cert.SmallRefIdeal.main_arg20) = m' ((c.tc : Thread Cert.SmallRefIdeal.nD Cert.SmallRefIdeal.τ).loc Cert.SmallRefIdeal.main_arg20)
          ∧ r.2.mem ((c.tc : Thread Cert.SmallRefIdeal.nD Cert.SmallRefIdeal.τ).loc Cert.SmallRefIdeal.main_arg21) = m' ((c.tc : Thread Cert.SmallRefIdeal.nD Cert.SmallRefIdeal.τ).loc Cert.SmallRefIdeal.main_arg21)
          ∧ r.2.mem ((c.tc : Thread Cert.SmallRefIdeal.nD Cert.SmallRefIdeal.τ).loc Cert.SmallRefIdeal.main_arg22) = m' ((c.tc : Thread Cert.SmallRefIdeal.nD Cert.SmallRefIdeal.τ).loc Cert.SmallRefIdeal.main_arg22)
          ∧ r.2.mem ((c.tc : Thread Cert.SmallRefIdeal.nD Cert.SmallRefIdeal.τ).loc Cert.SmallRefIdeal.main_arg23) = m' ((c.tc : Thread Cert.SmallRefIdeal.nD Cert.SmallRefIdeal.τ).loc Cert.SmallRefIdeal.main_arg23)
          ∧ r.2.mem ((c.tc : Thread Cert.SmallRefIdeal.nD Cert.SmallRefIdeal.τ).loc Cert.SmallRefIdeal.main_arg24) = m' ((c.tc : Thread Cert.SmallRefIdeal.nD Cert.SmallRefIdeal.τ).loc Cert.SmallRefIdeal.main_arg24)
          ∧ r.2.mem ((c.tc : Thread Cert.SmallRefIdeal.nD Cert.SmallRefIdeal.τ).loc Cert.SmallRefIdeal.main_arg25) = m' ((c.tc : Thread Cert.SmallRefIdeal.nD Cert.SmallRefIdeal.τ).loc Cert.SmallRefIdeal.main_arg25)
          ∧ r.2.mem ((c.tc : Thread Cert.SmallRefIdeal.nD Cert.SmallRefIdeal.τ).loc Cert.SmallRefIdeal.main_arg26) = m' ((c.tc : Thread Cert.SmallRefIdeal.nD Cert.SmallRefIdeal.τ).loc Cert.SmallRefIdeal.main_arg26)
          ∧ r.2.mem ((c.tc : Thread Cert.SmallRefIdeal.nD Cert.SmallRefIdeal.τ).loc Cert.SmallRefIdeal.main_arg27) = m' ((c.tc : Thread Cert.SmallRefIdeal.nD Cert.SmallRefIdeal.τ).loc Cert.SmallRefIdeal.main_arg27)
          ∧ r.2.mem ((c.tc : Thread Cert.SmallRefIdeal.nD Cert.SmallRefIdeal.τ).loc Cert.SmallRefIdeal.main_arg28) = m' ((c.tc : Thread Cert.SmallRefIdeal.nD Cert.SmallRefIdeal.τ).loc Cert.SmallRefIdeal.main_arg28)
          ∧ r.2.mem ((c.tc : Thread Cert.SmallRefIdeal.nD Cert.SmallRefIdeal.τ).loc Cert.SmallRefIdeal.main_arg29) = m' ((c.tc : Thread Cert.SmallRefIdeal.nD Cert.SmallRefIdeal.τ).loc Cert.SmallRefIdeal.main_arg29)
          ∧ r.2.mem ((c.tc : Thread Cert.SmallRefIdeal.nD Cert.SmallRefIdeal.τ).loc Cert.SmallRefIdeal.main_arg30) = m' ((c.tc : Thread Cert.SmallRefIdeal.nD Cert.SmallRefIdeal.τ).loc Cert.SmallRefIdeal.main_arg30)
          ∧ r.2.mem ((c.tc : Thread Cert.SmallRefIdeal.nD Cert.SmallRefIdeal.τ).loc Cert.SmallRefIdeal.main_arg31) = m' ((c.tc : Thread Cert.SmallRefIdeal.nD Cert.SmallRefIdeal.τ).loc Cert.SmallRefIdeal.main_arg31)
          ∧ r.2.mem ((c.tc : Thread Cert.SmallRefIdeal.nD Cert.SmallRefIdeal.τ).loc Cert.SmallRefIdeal.main_arg32) = m' ((c.tc : Thread Cert.SmallRefIdeal.nD Cert.SmallRefIdeal.τ).loc Cert.SmallRefIdeal.main_arg32)
          ∧ r.2.mem ((c.tc : Thread Cert.SmallRefIdeal.nD Cert.SmallRefIdeal.τ).loc Cert.SmallRefIdeal.main_arg33) = m' ((c.tc : Thread Cert.SmallRefIdeal.nD Cert.SmallRefIdeal.τ).loc Cert.SmallRefIdeal.main_arg33)
          ∧ r.2.mem ((c.tc : Thread Cert.SmallRefIdeal.nD Cert.SmallRefIdeal.τ).loc Cert.SmallRefIdeal.main_arg34) = m' ((c.tc : Thread Cert.SmallRefIdeal.nD Cert.SmallRefIdeal.τ).loc Cert.SmallRefIdeal.main_arg34)
          ∧ r.2.mem ((c.tc : Thread Cert.SmallRefIdeal.nD Cert.SmallRefIdeal.τ).loc Cert.SmallRefIdeal.main_arg35) = m' ((c.tc : Thread Cert.SmallRefIdeal.nD Cert.SmallRefIdeal.τ).loc Cert.SmallRefIdeal.main_arg35))

def preserves_Ff2_Ff2Ideal : Prop :=
  True

def algebraic_Ff2Ideal_Ff2RefIdeal_pre_ff2_finite [hFf2Ideal : Cert.Ff2Ideal.Facts] [hFf2RefIdeal : Cert.Ff2RefIdeal.Facts] [hPre_ff2_finite : Cert.Pre_ff2_finite.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2RefIdeal.nD Cert.Ff2RefIdeal.τ Cert.Ff2RefIdeal.sig) → Buf (Elt Ideal) ℓ) (g' : Dev Cert.Ff2RefIdeal.nD → PrngReg), Pre_Ff2Ideal_ff2_finite m →
    (∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)
      ∧ m' ((c.tc : Thread Cert.Ff2RefIdeal.nD Cert.Ff2RefIdeal.τ).loc Cert.Ff2RefIdeal.main_arg2) = m ((c.tc : Thread Cert.Ff2Ideal.nD Cert.Ff2Ideal.τ).loc Cert.Ff2Ideal.main_arg2)
      ∧ m' ((c.tc : Thread Cert.Ff2RefIdeal.nD Cert.Ff2RefIdeal.τ).loc Cert.Ff2RefIdeal.main_arg3) = m ((c.tc : Thread Cert.Ff2Ideal.nD Cert.Ff2Ideal.τ).loc Cert.Ff2Ideal.main_arg3)
      ∧ m' ((c.tc : Thread Cert.Ff2RefIdeal.nD Cert.Ff2RefIdeal.τ).loc Cert.Ff2RefIdeal.main_arg4) = m ((c.tc : Thread Cert.Ff2Ideal.nD Cert.Ff2Ideal.τ).loc Cert.Ff2Ideal.main_arg4)
      ∧ m' ((c.tc : Thread Cert.Ff2RefIdeal.nD Cert.Ff2RefIdeal.τ).loc Cert.Ff2RefIdeal.main_arg5) = m ((c.tc : Thread Cert.Ff2Ideal.nD Cert.Ff2Ideal.τ).loc Cert.Ff2Ideal.main_arg5)
      ∧ m' ((c.tc : Thread Cert.Ff2RefIdeal.nD Cert.Ff2RefIdeal.τ).loc Cert.Ff2RefIdeal.main_arg6) = m ((c.tc : Thread Cert.Ff2Ideal.nD Cert.Ff2Ideal.τ).loc Cert.Ff2Ideal.main_arg6)) →
    ∃ (v0 : (c : Dev Cert.Ff2Ideal.nD) → Buf (Elt Ideal) ((c.tc : Thread Cert.Ff2Ideal.nD Cert.Ff2Ideal.τ).loc Cert.Ff2Ideal.main_v3_0)) (v1 : (c : Dev Cert.Ff2Ideal.nD) → Buf (Elt Ideal) ((c.tc : Thread Cert.Ff2Ideal.nD Cert.Ff2Ideal.τ).loc Cert.Ff2Ideal.main_v3_1)) (v2 : (c : Dev Cert.Ff2Ideal.nD) → Buf (Elt Ideal) ((c.tc : Thread Cert.Ff2Ideal.nD Cert.Ff2Ideal.τ).loc Cert.Ff2Ideal.main_v3_2)) (v3 : (c : Dev Cert.Ff2Ideal.nD) → Buf (Elt Ideal) ((c.tc : Thread Cert.Ff2Ideal.nD Cert.Ff2Ideal.τ).loc Cert.Ff2Ideal.main_v3_3)) (v4 : (c : Dev Cert.Ff2Ideal.nD) → Buf (Elt Ideal) ((c.tc : Thread Cert.Ff2Ideal.nD Cert.Ff2Ideal.τ).loc Cert.Ff2Ideal.main_v3_4)) (v5 : (c : Dev Cert.Ff2Ideal.nD) → Buf (Elt Ideal) ((c.tc : Thread Cert.Ff2Ideal.nD Cert.Ff2Ideal.τ).loc Cert.Ff2Ideal.main_v3_5)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v3_0) = v0 c
          ∧ r.2.mem ((c.tc : Thread Cert.Ff2Ideal.nD Cert.Ff2Ideal.τ).loc Cert.Ff2Ideal.main_v3_1) = v1 c
          ∧ r.2.mem ((c.tc : Thread Cert.Ff2Ideal.nD Cert.Ff2Ideal.τ).loc Cert.Ff2Ideal.main_v3_2) = v2 c
          ∧ r.2.mem ((c.tc : Thread Cert.Ff2Ideal.nD Cert.Ff2Ideal.τ).loc Cert.Ff2Ideal.main_v3_3) = v3 c
          ∧ r.2.mem ((c.tc : Thread Cert.Ff2Ideal.nD Cert.Ff2Ideal.τ).loc Cert.Ff2Ideal.main_v3_4) = v4 c
          ∧ r.2.mem ((c.tc : Thread Cert.Ff2Ideal.nD Cert.Ff2Ideal.τ).loc Cert.Ff2Ideal.main_v3_5) = v5 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
          ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2)
          ∧ r.2.mem ((c.tc : Thread Cert.Ff2Ideal.nD Cert.Ff2Ideal.τ).loc Cert.Ff2Ideal.main_arg3) = m ((c.tc : Thread Cert.Ff2Ideal.nD Cert.Ff2Ideal.τ).loc Cert.Ff2Ideal.main_arg3)
          ∧ r.2.mem ((c.tc : Thread Cert.Ff2Ideal.nD Cert.Ff2Ideal.τ).loc Cert.Ff2Ideal.main_arg4) = m ((c.tc : Thread Cert.Ff2Ideal.nD Cert.Ff2Ideal.τ).loc Cert.Ff2Ideal.main_arg4)
          ∧ r.2.mem ((c.tc : Thread Cert.Ff2Ideal.nD Cert.Ff2Ideal.τ).loc Cert.Ff2Ideal.main_arg5) = m ((c.tc : Thread Cert.Ff2Ideal.nD Cert.Ff2Ideal.τ).loc Cert.Ff2Ideal.main_arg5)
          ∧ r.2.mem ((c.tc : Thread Cert.Ff2Ideal.nD Cert.Ff2Ideal.τ).loc Cert.Ff2Ideal.main_arg6) = m ((c.tc : Thread Cert.Ff2Ideal.nD Cert.Ff2Ideal.τ).loc Cert.Ff2Ideal.main_arg6))
      ∧ θ_run (Cert.Ff2RefIdeal.defs (F := Ideal)) (onTc (τ := Cert.Ff2RefIdeal.τ) (Cert.Ff2RefIdeal.main (F := Ideal))) ⟨m', fun _ => 0, g'⟩ (fun r => ∀ c : Dev Cert.Ff2RefIdeal.nD,
          r.2.mem ((c.tc : Thread Cert.Ff2RefIdeal.nD Cert.Ff2RefIdeal.τ).loc Cert.Ff2RefIdeal.main_v84) = v0 c
          ∧ r.2.mem ((c.tc : Thread Cert.Ff2RefIdeal.nD Cert.Ff2RefIdeal.τ).loc Cert.Ff2RefIdeal.main_v125) = v1 c
          ∧ r.2.mem ((c.tc : Thread Cert.Ff2RefIdeal.nD Cert.Ff2RefIdeal.τ).loc Cert.Ff2RefIdeal.main_v86) = v2 c
          ∧ r.2.mem ((c.tc : Thread Cert.Ff2RefIdeal.nD Cert.Ff2RefIdeal.τ).loc Cert.Ff2RefIdeal.main_v85) = v3 c
          ∧ r.2.mem ((c.tc : Thread Cert.Ff2RefIdeal.nD Cert.Ff2RefIdeal.τ).loc Cert.Ff2RefIdeal.main_v90) = v4 c
          ∧ r.2.mem ((c.tc : Thread Cert.Ff2RefIdeal.nD Cert.Ff2RefIdeal.τ).loc Cert.Ff2RefIdeal.main_v124) = v5 c
          ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
          ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1)
          ∧ r.2.mem ((c.tc : Thread Cert.Ff2RefIdeal.nD Cert.Ff2RefIdeal.τ).loc Cert.Ff2RefIdeal.main_arg2) = m' ((c.tc : Thread Cert.Ff2RefIdeal.nD Cert.Ff2RefIdeal.τ).loc Cert.Ff2RefIdeal.main_arg2)
          ∧ r.2.mem ((c.tc : Thread Cert.Ff2RefIdeal.nD Cert.Ff2RefIdeal.τ).loc Cert.Ff2RefIdeal.main_arg3) = m' ((c.tc : Thread Cert.Ff2RefIdeal.nD Cert.Ff2RefIdeal.τ).loc Cert.Ff2RefIdeal.main_arg3)
          ∧ r.2.mem ((c.tc : Thread Cert.Ff2RefIdeal.nD Cert.Ff2RefIdeal.τ).loc Cert.Ff2RefIdeal.main_arg4) = m' ((c.tc : Thread Cert.Ff2RefIdeal.nD Cert.Ff2RefIdeal.τ).loc Cert.Ff2RefIdeal.main_arg4)
          ∧ r.2.mem ((c.tc : Thread Cert.Ff2RefIdeal.nD Cert.Ff2RefIdeal.τ).loc Cert.Ff2RefIdeal.main_arg5) = m' ((c.tc : Thread Cert.Ff2RefIdeal.nD Cert.Ff2RefIdeal.τ).loc Cert.Ff2RefIdeal.main_arg5)
          ∧ r.2.mem ((c.tc : Thread Cert.Ff2RefIdeal.nD Cert.Ff2RefIdeal.τ).loc Cert.Ff2RefIdeal.main_arg6) = m' ((c.tc : Thread Cert.Ff2RefIdeal.nD Cert.Ff2RefIdeal.τ).loc Cert.Ff2RefIdeal.main_arg6))

def preserves_Dh1_Dh1Ideal : Prop :=
  True

def algebraic_Dh1Ideal_Dh1RefIdeal_pre_dh1_finite [hDh1Ideal : Cert.Dh1Ideal.Facts] [hDh1RefIdeal : Cert.Dh1RefIdeal.Facts] [hPre_dh1_finite : Cert.Pre_dh1_finite.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.Dh1RefIdeal.nD Cert.Dh1RefIdeal.τ Cert.Dh1RefIdeal.sig) → Buf (Elt Ideal) ℓ) (g' : Dev Cert.Dh1RefIdeal.nD → PrngReg), Pre_Dh1Ideal_dh1_finite m →
    (∀ c : Dev Cert.Dh1Ideal.nD,
      m' ((c.tc : Thread Cert.Dh1RefIdeal.nD Cert.Dh1RefIdeal.τ).loc Cert.Dh1RefIdeal.main_arg0) = m ((c.tc : Thread Cert.Dh1Ideal.nD Cert.Dh1Ideal.τ).loc Cert.Dh1Ideal.main_arg0)
      ∧ m' ((c.tc : Thread Cert.Dh1RefIdeal.nD Cert.Dh1RefIdeal.τ).loc Cert.Dh1RefIdeal.main_arg1) = m ((c.tc : Thread Cert.Dh1Ideal.nD Cert.Dh1Ideal.τ).loc Cert.Dh1Ideal.main_arg1)
      ∧ m' ((c.tc : Thread Cert.Dh1RefIdeal.nD Cert.Dh1RefIdeal.τ).loc Cert.Dh1RefIdeal.main_arg2) = m ((c.tc : Thread Cert.Dh1Ideal.nD Cert.Dh1Ideal.τ).loc Cert.Dh1Ideal.main_arg2)
      ∧ m' ((c.tc : Thread Cert.Dh1RefIdeal.nD Cert.Dh1RefIdeal.τ).loc Cert.Dh1RefIdeal.main_arg3) = m ((c.tc : Thread Cert.Dh1Ideal.nD Cert.Dh1Ideal.τ).loc Cert.Dh1Ideal.main_arg3)
      ∧ m' ((c.tc : Thread Cert.Dh1RefIdeal.nD Cert.Dh1RefIdeal.τ).loc Cert.Dh1RefIdeal.main_arg4) = m ((c.tc : Thread Cert.Dh1Ideal.nD Cert.Dh1Ideal.τ).loc Cert.Dh1Ideal.main_arg4)) →
    ∃ (v0 : (c : Dev Cert.Dh1Ideal.nD) → Buf (Elt Ideal) ((c.tc : Thread Cert.Dh1Ideal.nD Cert.Dh1Ideal.τ).loc Cert.Dh1Ideal.main_v4_0)) (v1 : (c : Dev Cert.Dh1Ideal.nD) → Buf (Elt Ideal) ((c.tc : Thread Cert.Dh1Ideal.nD Cert.Dh1Ideal.τ).loc Cert.Dh1Ideal.main_v4_1)) (v2 : (c : Dev Cert.Dh1Ideal.nD) → Buf (Elt Ideal) ((c.tc : Thread Cert.Dh1Ideal.nD Cert.Dh1Ideal.τ).loc Cert.Dh1Ideal.main_v4_2)) (v3 : (c : Dev Cert.Dh1Ideal.nD) → Buf (Elt Ideal) ((c.tc : Thread Cert.Dh1Ideal.nD Cert.Dh1Ideal.τ).loc Cert.Dh1Ideal.main_v4_3)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v4_0) = v0 c
          ∧ r.2.mem ((c.tc : Thread Cert.Dh1Ideal.nD Cert.Dh1Ideal.τ).loc Cert.Dh1Ideal.main_v4_1) = v1 c
          ∧ r.2.mem ((c.tc : Thread Cert.Dh1Ideal.nD Cert.Dh1Ideal.τ).loc Cert.Dh1Ideal.main_v4_2) = v2 c
          ∧ r.2.mem ((c.tc : Thread Cert.Dh1Ideal.nD Cert.Dh1Ideal.τ).loc Cert.Dh1Ideal.main_v4_3) = v3 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
          ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2)
          ∧ r.2.mem ((c.tc : Thread Cert.Dh1Ideal.nD Cert.Dh1Ideal.τ).loc Cert.Dh1Ideal.main_arg3) = m ((c.tc : Thread Cert.Dh1Ideal.nD Cert.Dh1Ideal.τ).loc Cert.Dh1Ideal.main_arg3)
          ∧ r.2.mem ((c.tc : Thread Cert.Dh1Ideal.nD Cert.Dh1Ideal.τ).loc Cert.Dh1Ideal.main_arg4) = m ((c.tc : Thread Cert.Dh1Ideal.nD Cert.Dh1Ideal.τ).loc Cert.Dh1Ideal.main_arg4))
      ∧ θ_run (Cert.Dh1RefIdeal.defs (F := Ideal)) (onTc (τ := Cert.Dh1RefIdeal.τ) (Cert.Dh1RefIdeal.main (F := Ideal))) ⟨m', fun _ => 0, g'⟩ (fun r => ∀ c : Dev Cert.Dh1RefIdeal.nD,
          r.2.mem ((c.tc : Thread Cert.Dh1RefIdeal.nD Cert.Dh1RefIdeal.τ).loc Cert.Dh1RefIdeal.main_v71) = v0 c
          ∧ r.2.mem ((c.tc : Thread Cert.Dh1RefIdeal.nD Cert.Dh1RefIdeal.τ).loc Cert.Dh1RefIdeal.main_v74) = v1 c
          ∧ r.2.mem ((c.tc : Thread Cert.Dh1RefIdeal.nD Cert.Dh1RefIdeal.τ).loc Cert.Dh1RefIdeal.main_v73) = v2 c
          ∧ r.2.mem ((c.tc : Thread Cert.Dh1RefIdeal.nD Cert.Dh1RefIdeal.τ).loc Cert.Dh1RefIdeal.main_v72) = v3 c
          ∧ r.2.mem ((c.tc : Thread Cert.Dh1RefIdeal.nD Cert.Dh1RefIdeal.τ).loc Cert.Dh1RefIdeal.main_arg0) = m' ((c.tc : Thread Cert.Dh1RefIdeal.nD Cert.Dh1RefIdeal.τ).loc Cert.Dh1RefIdeal.main_arg0)
          ∧ r.2.mem ((c.tc : Thread Cert.Dh1RefIdeal.nD Cert.Dh1RefIdeal.τ).loc Cert.Dh1RefIdeal.main_arg1) = m' ((c.tc : Thread Cert.Dh1RefIdeal.nD Cert.Dh1RefIdeal.τ).loc Cert.Dh1RefIdeal.main_arg1)
          ∧ r.2.mem ((c.tc : Thread Cert.Dh1RefIdeal.nD Cert.Dh1RefIdeal.τ).loc Cert.Dh1RefIdeal.main_arg2) = m' ((c.tc : Thread Cert.Dh1RefIdeal.nD Cert.Dh1RefIdeal.τ).loc Cert.Dh1RefIdeal.main_arg2)
          ∧ r.2.mem ((c.tc : Thread Cert.Dh1RefIdeal.nD Cert.Dh1RefIdeal.τ).loc Cert.Dh1RefIdeal.main_arg3) = m' ((c.tc : Thread Cert.Dh1RefIdeal.nD Cert.Dh1RefIdeal.τ).loc Cert.Dh1RefIdeal.main_arg3)
          ∧ r.2.mem ((c.tc : Thread Cert.Dh1RefIdeal.nD Cert.Dh1RefIdeal.τ).loc Cert.Dh1RefIdeal.main_arg4) = m' ((c.tc : Thread Cert.Dh1RefIdeal.nD Cert.Dh1RefIdeal.τ).loc Cert.Dh1RefIdeal.main_arg4))

def preserves_Dh0_Dh0Ideal : Prop :=
  True

def algebraic_Dh0Ideal_Dh0RefIdeal_pre_dh0_finite [hDh0Ideal : Cert.Dh0Ideal.Facts] [hDh0RefIdeal : Cert.Dh0RefIdeal.Facts] [hPre_dh0_finite : Cert.Pre_dh0_finite.Facts] : Prop :=
  ∀ (m : (ℓ : Loc Cert.Dh0Ideal.nD Cert.Dh0Ideal.τ Cert.Dh0Ideal.sig) → Buf (Elt Ideal) ℓ) (g : Dev Cert.Dh0Ideal.nD → PrngReg)
    (m' : (ℓ : Loc Cert.Dh0RefIdeal.nD Cert.Dh0RefIdeal.τ Cert.Dh0RefIdeal.sig) → Buf (Elt Ideal) ℓ) (g' : Dev Cert.Dh0RefIdeal.nD → PrngReg), Pre_Dh0Ideal_dh0_finite m →
    (∀ c : Dev Cert.Dh0Ideal.nD,
      m' ((c.tc : Thread Cert.Dh0RefIdeal.nD Cert.Dh0RefIdeal.τ).loc Cert.Dh0RefIdeal.main_arg0) = m ((c.tc : Thread Cert.Dh0Ideal.nD Cert.Dh0Ideal.τ).loc Cert.Dh0Ideal.main_arg0)
      ∧ m' ((c.tc : Thread Cert.Dh0RefIdeal.nD Cert.Dh0RefIdeal.τ).loc Cert.Dh0RefIdeal.main_arg1) = m ((c.tc : Thread Cert.Dh0Ideal.nD Cert.Dh0Ideal.τ).loc Cert.Dh0Ideal.main_arg1)
      ∧ m' ((c.tc : Thread Cert.Dh0RefIdeal.nD Cert.Dh0RefIdeal.τ).loc Cert.Dh0RefIdeal.main_arg2) = m ((c.tc : Thread Cert.Dh0Ideal.nD Cert.Dh0Ideal.τ).loc Cert.Dh0Ideal.main_arg2)
      ∧ m' ((c.tc : Thread Cert.Dh0RefIdeal.nD Cert.Dh0RefIdeal.τ).loc Cert.Dh0RefIdeal.main_arg3) = m ((c.tc : Thread Cert.Dh0Ideal.nD Cert.Dh0Ideal.τ).loc Cert.Dh0Ideal.main_arg3)
      ∧ m' ((c.tc : Thread Cert.Dh0RefIdeal.nD Cert.Dh0RefIdeal.τ).loc Cert.Dh0RefIdeal.main_arg4) = m ((c.tc : Thread Cert.Dh0Ideal.nD Cert.Dh0Ideal.τ).loc Cert.Dh0Ideal.main_arg4)) →
    ∃ (v0 : (c : Dev Cert.Dh0Ideal.nD) → Buf (Elt Ideal) ((c.tc : Thread Cert.Dh0Ideal.nD Cert.Dh0Ideal.τ).loc Cert.Dh0Ideal.main_v14_0)) (v1 : (c : Dev Cert.Dh0Ideal.nD) → Buf (Elt Ideal) ((c.tc : Thread Cert.Dh0Ideal.nD Cert.Dh0Ideal.τ).loc Cert.Dh0Ideal.main_v14_1)) (v2 : (c : Dev Cert.Dh0Ideal.nD) → Buf (Elt Ideal) ((c.tc : Thread Cert.Dh0Ideal.nD Cert.Dh0Ideal.τ).loc Cert.Dh0Ideal.main_v14_2)),
      θ_run (Cert.Dh0Ideal.defs (F := Ideal)) (onTc (τ := Cert.Dh0Ideal.τ) (Cert.Dh0Ideal.main (F := Ideal))) ⟨m, fun _ => 0, g⟩ (fun r => ∀ c : Dev Cert.Dh0Ideal.nD,
          r.2.mem ((c.tc : Thread Cert.Dh0Ideal.nD Cert.Dh0Ideal.τ).loc Cert.Dh0Ideal.main_v14_0) = v0 c
          ∧ r.2.mem ((c.tc : Thread Cert.Dh0Ideal.nD Cert.Dh0Ideal.τ).loc Cert.Dh0Ideal.main_v14_1) = v1 c
          ∧ r.2.mem ((c.tc : Thread Cert.Dh0Ideal.nD Cert.Dh0Ideal.τ).loc Cert.Dh0Ideal.main_v14_2) = v2 c
          ∧ r.2.mem ((c.tc : Thread Cert.Dh0Ideal.nD Cert.Dh0Ideal.τ).loc Cert.Dh0Ideal.main_arg0) = m ((c.tc : Thread Cert.Dh0Ideal.nD Cert.Dh0Ideal.τ).loc Cert.Dh0Ideal.main_arg0)
          ∧ r.2.mem ((c.tc : Thread Cert.Dh0Ideal.nD Cert.Dh0Ideal.τ).loc Cert.Dh0Ideal.main_arg1) = m ((c.tc : Thread Cert.Dh0Ideal.nD Cert.Dh0Ideal.τ).loc Cert.Dh0Ideal.main_arg1)
          ∧ r.2.mem ((c.tc : Thread Cert.Dh0Ideal.nD Cert.Dh0Ideal.τ).loc Cert.Dh0Ideal.main_arg2) = m ((c.tc : Thread Cert.Dh0Ideal.nD Cert.Dh0Ideal.τ).loc Cert.Dh0Ideal.main_arg2)
          ∧ r.2.mem ((c.tc : Thread Cert.Dh0Ideal.nD Cert.Dh0Ideal.τ).loc Cert.Dh0Ideal.main_arg3) = m ((c.tc : Thread Cert.Dh0Ideal.nD Cert.Dh0Ideal.τ).loc Cert.Dh0Ideal.main_arg3)
          ∧ r.2.mem ((c.tc : Thread Cert.Dh0Ideal.nD Cert.Dh0Ideal.τ).loc Cert.Dh0Ideal.main_arg4) = m ((c.tc : Thread Cert.Dh0Ideal.nD Cert.Dh0Ideal.τ).loc Cert.Dh0Ideal.main_arg4))
      ∧ θ_run (Cert.Dh0RefIdeal.defs (F := Ideal)) (onTc (τ := Cert.Dh0RefIdeal.τ) (Cert.Dh0RefIdeal.main (F := Ideal))) ⟨m', fun _ => 0, g'⟩ (fun r => ∀ c : Dev Cert.Dh0RefIdeal.nD,
          r.2.mem ((c.tc : Thread Cert.Dh0RefIdeal.nD Cert.Dh0RefIdeal.τ).loc Cert.Dh0RefIdeal.main_v69) = v0 c
          ∧ r.2.mem ((c.tc : Thread Cert.Dh0RefIdeal.nD Cert.Dh0RefIdeal.τ).loc Cert.Dh0RefIdeal.main_v70) = v1 c
          ∧ r.2.mem ((c.tc : Thread Cert.Dh0RefIdeal.nD Cert.Dh0RefIdeal.τ).loc Cert.Dh0RefIdeal.main_v71) = v2 c
          ∧ r.2.mem ((c.tc : Thread Cert.Dh0RefIdeal.nD Cert.Dh0RefIdeal.τ).loc Cert.Dh0RefIdeal.main_arg0) = m' ((c.tc : Thread Cert.Dh0RefIdeal.nD Cert.Dh0RefIdeal.τ).loc Cert.Dh0RefIdeal.main_arg0)
          ∧ r.2.mem ((c.tc : Thread Cert.Dh0RefIdeal.nD Cert.Dh0RefIdeal.τ).loc Cert.Dh0RefIdeal.main_arg1) = m' ((c.tc : Thread Cert.Dh0RefIdeal.nD Cert.Dh0RefIdeal.τ).loc Cert.Dh0RefIdeal.main_arg1)
          ∧ r.2.mem ((c.tc : Thread Cert.Dh0RefIdeal.nD Cert.Dh0RefIdeal.τ).loc Cert.Dh0RefIdeal.main_arg2) = m' ((c.tc : Thread Cert.Dh0RefIdeal.nD Cert.Dh0RefIdeal.τ).loc Cert.Dh0RefIdeal.main_arg2)
          ∧ r.2.mem ((c.tc : Thread Cert.Dh0RefIdeal.nD Cert.Dh0RefIdeal.τ).loc Cert.Dh0RefIdeal.main_arg3) = m' ((c.tc : Thread Cert.Dh0RefIdeal.nD Cert.Dh0RefIdeal.τ).loc Cert.Dh0RefIdeal.main_arg3)
          ∧ r.2.mem ((c.tc : Thread Cert.Dh0RefIdeal.nD Cert.Dh0RefIdeal.τ).loc Cert.Dh0RefIdeal.main_arg4) = m' ((c.tc : Thread Cert.Dh0RefIdeal.nD Cert.Dh0RefIdeal.τ).loc Cert.Dh0RefIdeal.main_arg4))

def preserves_RsFf1_RsFf1Ideal : Prop :=
  True

def algebraic_RsFf1Ideal_RsFf1RefIdeal [hRsFf1Ideal : Cert.RsFf1Ideal.Facts] [hRsFf1RefIdeal : Cert.RsFf1RefIdeal.Facts] [hPre_rs_ff1_slot : Cert.Pre_rs_ff1_slot.Facts] : Prop :=
  ∀ (m : (ℓ : Loc Cert.RsFf1Ideal.nD Cert.RsFf1Ideal.τ Cert.RsFf1Ideal.sig) → Buf (Elt Ideal) ℓ) (g : Dev Cert.RsFf1Ideal.nD → PrngReg)
    (m' : (ℓ : Loc Cert.RsFf1RefIdeal.nD Cert.RsFf1RefIdeal.τ Cert.RsFf1RefIdeal.sig) → Buf (Elt Ideal) ℓ) (g' : Dev Cert.RsFf1RefIdeal.nD → PrngReg), Pre_RsFf1Ideal m →
    (∀ c : Dev Cert.RsFf1Ideal.nD,
      m' ((c.tc : Thread Cert.RsFf1RefIdeal.nD Cert.RsFf1RefIdeal.τ).loc Cert.RsFf1RefIdeal.main_arg0) = m ((c.tc : Thread Cert.RsFf1Ideal.nD Cert.RsFf1Ideal.τ).loc Cert.RsFf1Ideal.main_arg0)
      ∧ m' ((c.tc : Thread Cert.RsFf1RefIdeal.nD Cert.RsFf1RefIdeal.τ).loc Cert.RsFf1RefIdeal.main_arg1) = m ((c.tc : Thread Cert.RsFf1Ideal.nD Cert.RsFf1Ideal.τ).loc Cert.RsFf1Ideal.main_arg1)
      ∧ m' ((c.tc : Thread Cert.RsFf1RefIdeal.nD Cert.RsFf1RefIdeal.τ).loc Cert.RsFf1RefIdeal.main_arg2) = m ((c.tc : Thread Cert.RsFf1Ideal.nD Cert.RsFf1Ideal.τ).loc Cert.RsFf1Ideal.main_arg2)
      ∧ m' ((c.tc : Thread Cert.RsFf1RefIdeal.nD Cert.RsFf1RefIdeal.τ).loc Cert.RsFf1RefIdeal.main_arg3) = m ((c.tc : Thread Cert.RsFf1Ideal.nD Cert.RsFf1Ideal.τ).loc Cert.RsFf1Ideal.main_arg3)
      ∧ m' ((c.tc : Thread Cert.RsFf1RefIdeal.nD Cert.RsFf1RefIdeal.τ).loc Cert.RsFf1RefIdeal.main_arg4) = m ((c.tc : Thread Cert.RsFf1Ideal.nD Cert.RsFf1Ideal.τ).loc Cert.RsFf1Ideal.main_arg4)
      ∧ m' ((c.tc : Thread Cert.RsFf1RefIdeal.nD Cert.RsFf1RefIdeal.τ).loc Cert.RsFf1RefIdeal.main_arg5) = m ((c.tc : Thread Cert.RsFf1Ideal.nD Cert.RsFf1Ideal.τ).loc Cert.RsFf1Ideal.main_arg5)
      ∧ m' ((c.tc : Thread Cert.RsFf1RefIdeal.nD Cert.RsFf1RefIdeal.τ).loc Cert.RsFf1RefIdeal.main_arg6) = m ((c.tc : Thread Cert.RsFf1Ideal.nD Cert.RsFf1Ideal.τ).loc Cert.RsFf1Ideal.main_arg6)) →
    ∃ (v0 : (c : Dev Cert.RsFf1Ideal.nD) → Buf (Elt Ideal) ((c.tc : Thread Cert.RsFf1Ideal.nD Cert.RsFf1Ideal.τ).loc Cert.RsFf1Ideal.main_v0_0)) (v1 : (c : Dev Cert.RsFf1Ideal.nD) → Buf (Elt Ideal) ((c.tc : Thread Cert.RsFf1Ideal.nD Cert.RsFf1Ideal.τ).loc Cert.RsFf1Ideal.main_v0_1)) (v2 : (c : Dev Cert.RsFf1Ideal.nD) → Buf (Elt Ideal) ((c.tc : Thread Cert.RsFf1Ideal.nD Cert.RsFf1Ideal.τ).loc Cert.RsFf1Ideal.main_v0_2)) (v3 : (c : Dev Cert.RsFf1Ideal.nD) → Buf (Elt Ideal) ((c.tc : Thread Cert.RsFf1Ideal.nD Cert.RsFf1Ideal.τ).loc Cert.RsFf1Ideal.main_v0_3)),
      θ_run (Cert.RsFf1Ideal.defs (F := Ideal)) (onTc (τ := Cert.RsFf1Ideal.τ) (Cert.RsFf1Ideal.main (F := Ideal))) ⟨m, fun _ => 0, g⟩ (fun r => ∀ c : Dev Cert.RsFf1Ideal.nD,
          r.2.mem ((c.tc : Thread Cert.RsFf1Ideal.nD Cert.RsFf1Ideal.τ).loc Cert.RsFf1Ideal.main_v0_0) = v0 c
          ∧ r.2.mem ((c.tc : Thread Cert.RsFf1Ideal.nD Cert.RsFf1Ideal.τ).loc Cert.RsFf1Ideal.main_v0_1) = v1 c
          ∧ r.2.mem ((c.tc : Thread Cert.RsFf1Ideal.nD Cert.RsFf1Ideal.τ).loc Cert.RsFf1Ideal.main_v0_2) = v2 c
          ∧ r.2.mem ((c.tc : Thread Cert.RsFf1Ideal.nD Cert.RsFf1Ideal.τ).loc Cert.RsFf1Ideal.main_v0_3) = v3 c
          ∧ r.2.mem ((c.tc : Thread Cert.RsFf1Ideal.nD Cert.RsFf1Ideal.τ).loc Cert.RsFf1Ideal.main_arg0) = m ((c.tc : Thread Cert.RsFf1Ideal.nD Cert.RsFf1Ideal.τ).loc Cert.RsFf1Ideal.main_arg0)
          ∧ r.2.mem ((c.tc : Thread Cert.RsFf1Ideal.nD Cert.RsFf1Ideal.τ).loc Cert.RsFf1Ideal.main_arg1) = m ((c.tc : Thread Cert.RsFf1Ideal.nD Cert.RsFf1Ideal.τ).loc Cert.RsFf1Ideal.main_arg1)
          ∧ r.2.mem ((c.tc : Thread Cert.RsFf1Ideal.nD Cert.RsFf1Ideal.τ).loc Cert.RsFf1Ideal.main_arg2) = m ((c.tc : Thread Cert.RsFf1Ideal.nD Cert.RsFf1Ideal.τ).loc Cert.RsFf1Ideal.main_arg2)
          ∧ r.2.mem ((c.tc : Thread Cert.RsFf1Ideal.nD Cert.RsFf1Ideal.τ).loc Cert.RsFf1Ideal.main_arg3) = m ((c.tc : Thread Cert.RsFf1Ideal.nD Cert.RsFf1Ideal.τ).loc Cert.RsFf1Ideal.main_arg3)
          ∧ r.2.mem ((c.tc : Thread Cert.RsFf1Ideal.nD Cert.RsFf1Ideal.τ).loc Cert.RsFf1Ideal.main_arg4) = m ((c.tc : Thread Cert.RsFf1Ideal.nD Cert.RsFf1Ideal.τ).loc Cert.RsFf1Ideal.main_arg4)
          ∧ r.2.mem ((c.tc : Thread Cert.RsFf1Ideal.nD Cert.RsFf1Ideal.τ).loc Cert.RsFf1Ideal.main_arg5) = m ((c.tc : Thread Cert.RsFf1Ideal.nD Cert.RsFf1Ideal.τ).loc Cert.RsFf1Ideal.main_arg5)
          ∧ r.2.mem ((c.tc : Thread Cert.RsFf1Ideal.nD Cert.RsFf1Ideal.τ).loc Cert.RsFf1Ideal.main_arg6) = m ((c.tc : Thread Cert.RsFf1Ideal.nD Cert.RsFf1Ideal.τ).loc Cert.RsFf1Ideal.main_arg6))
      ∧ θ_run (Cert.RsFf1RefIdeal.defs (F := Ideal)) (onTc (τ := Cert.RsFf1RefIdeal.τ) (Cert.RsFf1RefIdeal.main (F := Ideal))) ⟨m', fun _ => 0, g'⟩ (fun r => ∀ c : Dev Cert.RsFf1RefIdeal.nD,
          r.2.mem ((c.tc : Thread Cert.RsFf1RefIdeal.nD Cert.RsFf1RefIdeal.τ).loc Cert.RsFf1RefIdeal.main_v22) = v0 c
          ∧ r.2.mem ((c.tc : Thread Cert.RsFf1RefIdeal.nD Cert.RsFf1RefIdeal.τ).loc Cert.RsFf1RefIdeal.main_v46) = v1 c
          ∧ r.2.mem ((c.tc : Thread Cert.RsFf1RefIdeal.nD Cert.RsFf1RefIdeal.τ).loc Cert.RsFf1RefIdeal.main_v27) = v2 c
          ∧ r.2.mem ((c.tc : Thread Cert.RsFf1RefIdeal.nD Cert.RsFf1RefIdeal.τ).loc Cert.RsFf1RefIdeal.main_v33) = v3 c
          ∧ r.2.mem ((c.tc : Thread Cert.RsFf1RefIdeal.nD Cert.RsFf1RefIdeal.τ).loc Cert.RsFf1RefIdeal.main_arg0) = m' ((c.tc : Thread Cert.RsFf1RefIdeal.nD Cert.RsFf1RefIdeal.τ).loc Cert.RsFf1RefIdeal.main_arg0)
          ∧ r.2.mem ((c.tc : Thread Cert.RsFf1RefIdeal.nD Cert.RsFf1RefIdeal.τ).loc Cert.RsFf1RefIdeal.main_arg1) = m' ((c.tc : Thread Cert.RsFf1RefIdeal.nD Cert.RsFf1RefIdeal.τ).loc Cert.RsFf1RefIdeal.main_arg1)
          ∧ r.2.mem ((c.tc : Thread Cert.RsFf1RefIdeal.nD Cert.RsFf1RefIdeal.τ).loc Cert.RsFf1RefIdeal.main_arg2) = m' ((c.tc : Thread Cert.RsFf1RefIdeal.nD Cert.RsFf1RefIdeal.τ).loc Cert.RsFf1RefIdeal.main_arg2)
          ∧ r.2.mem ((c.tc : Thread Cert.RsFf1RefIdeal.nD Cert.RsFf1RefIdeal.τ).loc Cert.RsFf1RefIdeal.main_arg3) = m' ((c.tc : Thread Cert.RsFf1RefIdeal.nD Cert.RsFf1RefIdeal.τ).loc Cert.RsFf1RefIdeal.main_arg3)
          ∧ r.2.mem ((c.tc : Thread Cert.RsFf1RefIdeal.nD Cert.RsFf1RefIdeal.τ).loc Cert.RsFf1RefIdeal.main_arg4) = m' ((c.tc : Thread Cert.RsFf1RefIdeal.nD Cert.RsFf1RefIdeal.τ).loc Cert.RsFf1RefIdeal.main_arg4)
          ∧ r.2.mem ((c.tc : Thread Cert.RsFf1RefIdeal.nD Cert.RsFf1RefIdeal.τ).loc Cert.RsFf1RefIdeal.main_arg5) = m' ((c.tc : Thread Cert.RsFf1RefIdeal.nD Cert.RsFf1RefIdeal.τ).loc Cert.RsFf1RefIdeal.main_arg5)
          ∧ r.2.mem ((c.tc : Thread Cert.RsFf1RefIdeal.nD Cert.RsFf1RefIdeal.τ).loc Cert.RsFf1RefIdeal.main_arg6) = m' ((c.tc : Thread Cert.RsFf1RefIdeal.nD Cert.RsFf1RefIdeal.τ).loc Cert.RsFf1RefIdeal.main_arg6))

def preserves_RsFf2_RsFf2Ideal : Prop :=
  True

def algebraic_RsFf2Ideal_RsFf2RefIdeal [hRsFf2Ideal : Cert.RsFf2Ideal.Facts] [hRsFf2RefIdeal : Cert.RsFf2RefIdeal.Facts] [hPre_rs_ff2_slot : Cert.Pre_rs_ff2_slot.Facts] : Prop :=
  ∀ (m : (ℓ : Loc Cert.RsFf2Ideal.nD Cert.RsFf2Ideal.τ Cert.RsFf2Ideal.sig) → Buf (Elt Ideal) ℓ) (g : Dev Cert.RsFf2Ideal.nD → PrngReg)
    (m' : (ℓ : Loc Cert.RsFf2RefIdeal.nD Cert.RsFf2RefIdeal.τ Cert.RsFf2RefIdeal.sig) → Buf (Elt Ideal) ℓ) (g' : Dev Cert.RsFf2RefIdeal.nD → PrngReg), Pre_RsFf2Ideal m →
    (∀ c : Dev Cert.RsFf2Ideal.nD,
      m' ((c.tc : Thread Cert.RsFf2RefIdeal.nD Cert.RsFf2RefIdeal.τ).loc Cert.RsFf2RefIdeal.main_arg0) = m ((c.tc : Thread Cert.RsFf2Ideal.nD Cert.RsFf2Ideal.τ).loc Cert.RsFf2Ideal.main_arg0)
      ∧ m' ((c.tc : Thread Cert.RsFf2RefIdeal.nD Cert.RsFf2RefIdeal.τ).loc Cert.RsFf2RefIdeal.main_arg1) = m ((c.tc : Thread Cert.RsFf2Ideal.nD Cert.RsFf2Ideal.τ).loc Cert.RsFf2Ideal.main_arg1)
      ∧ m' ((c.tc : Thread Cert.RsFf2RefIdeal.nD Cert.RsFf2RefIdeal.τ).loc Cert.RsFf2RefIdeal.main_arg2) = m ((c.tc : Thread Cert.RsFf2Ideal.nD Cert.RsFf2Ideal.τ).loc Cert.RsFf2Ideal.main_arg2)
      ∧ m' ((c.tc : Thread Cert.RsFf2RefIdeal.nD Cert.RsFf2RefIdeal.τ).loc Cert.RsFf2RefIdeal.main_arg3) = m ((c.tc : Thread Cert.RsFf2Ideal.nD Cert.RsFf2Ideal.τ).loc Cert.RsFf2Ideal.main_arg3)
      ∧ m' ((c.tc : Thread Cert.RsFf2RefIdeal.nD Cert.RsFf2RefIdeal.τ).loc Cert.RsFf2RefIdeal.main_arg4) = m ((c.tc : Thread Cert.RsFf2Ideal.nD Cert.RsFf2Ideal.τ).loc Cert.RsFf2Ideal.main_arg4)
      ∧ m' ((c.tc : Thread Cert.RsFf2RefIdeal.nD Cert.RsFf2RefIdeal.τ).loc Cert.RsFf2RefIdeal.main_arg5) = m ((c.tc : Thread Cert.RsFf2Ideal.nD Cert.RsFf2Ideal.τ).loc Cert.RsFf2Ideal.main_arg5)
      ∧ m' ((c.tc : Thread Cert.RsFf2RefIdeal.nD Cert.RsFf2RefIdeal.τ).loc Cert.RsFf2RefIdeal.main_arg6) = m ((c.tc : Thread Cert.RsFf2Ideal.nD Cert.RsFf2Ideal.τ).loc Cert.RsFf2Ideal.main_arg6)) →
    ∃ (v0 : (c : Dev Cert.RsFf2Ideal.nD) → Buf (Elt Ideal) ((c.tc : Thread Cert.RsFf2Ideal.nD Cert.RsFf2Ideal.τ).loc Cert.RsFf2Ideal.main_v0_0)) (v1 : (c : Dev Cert.RsFf2Ideal.nD) → Buf (Elt Ideal) ((c.tc : Thread Cert.RsFf2Ideal.nD Cert.RsFf2Ideal.τ).loc Cert.RsFf2Ideal.main_v0_1)) (v2 : (c : Dev Cert.RsFf2Ideal.nD) → Buf (Elt Ideal) ((c.tc : Thread Cert.RsFf2Ideal.nD Cert.RsFf2Ideal.τ).loc Cert.RsFf2Ideal.main_v0_2)) (v3 : (c : Dev Cert.RsFf2Ideal.nD) → Buf (Elt Ideal) ((c.tc : Thread Cert.RsFf2Ideal.nD Cert.RsFf2Ideal.τ).loc Cert.RsFf2Ideal.main_v0_3)),
      θ_run (Cert.RsFf2Ideal.defs (F := Ideal)) (onTc (τ := Cert.RsFf2Ideal.τ) (Cert.RsFf2Ideal.main (F := Ideal))) ⟨m, fun _ => 0, g⟩ (fun r => ∀ c : Dev Cert.RsFf2Ideal.nD,
          r.2.mem ((c.tc : Thread Cert.RsFf2Ideal.nD Cert.RsFf2Ideal.τ).loc Cert.RsFf2Ideal.main_v0_0) = v0 c
          ∧ r.2.mem ((c.tc : Thread Cert.RsFf2Ideal.nD Cert.RsFf2Ideal.τ).loc Cert.RsFf2Ideal.main_v0_1) = v1 c
          ∧ r.2.mem ((c.tc : Thread Cert.RsFf2Ideal.nD Cert.RsFf2Ideal.τ).loc Cert.RsFf2Ideal.main_v0_2) = v2 c
          ∧ r.2.mem ((c.tc : Thread Cert.RsFf2Ideal.nD Cert.RsFf2Ideal.τ).loc Cert.RsFf2Ideal.main_v0_3) = v3 c
          ∧ r.2.mem ((c.tc : Thread Cert.RsFf2Ideal.nD Cert.RsFf2Ideal.τ).loc Cert.RsFf2Ideal.main_arg0) = m ((c.tc : Thread Cert.RsFf2Ideal.nD Cert.RsFf2Ideal.τ).loc Cert.RsFf2Ideal.main_arg0)
          ∧ r.2.mem ((c.tc : Thread Cert.RsFf2Ideal.nD Cert.RsFf2Ideal.τ).loc Cert.RsFf2Ideal.main_arg1) = m ((c.tc : Thread Cert.RsFf2Ideal.nD Cert.RsFf2Ideal.τ).loc Cert.RsFf2Ideal.main_arg1)
          ∧ r.2.mem ((c.tc : Thread Cert.RsFf2Ideal.nD Cert.RsFf2Ideal.τ).loc Cert.RsFf2Ideal.main_arg2) = m ((c.tc : Thread Cert.RsFf2Ideal.nD Cert.RsFf2Ideal.τ).loc Cert.RsFf2Ideal.main_arg2)
          ∧ r.2.mem ((c.tc : Thread Cert.RsFf2Ideal.nD Cert.RsFf2Ideal.τ).loc Cert.RsFf2Ideal.main_arg3) = m ((c.tc : Thread Cert.RsFf2Ideal.nD Cert.RsFf2Ideal.τ).loc Cert.RsFf2Ideal.main_arg3)
          ∧ r.2.mem ((c.tc : Thread Cert.RsFf2Ideal.nD Cert.RsFf2Ideal.τ).loc Cert.RsFf2Ideal.main_arg4) = m ((c.tc : Thread Cert.RsFf2Ideal.nD Cert.RsFf2Ideal.τ).loc Cert.RsFf2Ideal.main_arg4)
          ∧ r.2.mem ((c.tc : Thread Cert.RsFf2Ideal.nD Cert.RsFf2Ideal.τ).loc Cert.RsFf2Ideal.main_arg5) = m ((c.tc : Thread Cert.RsFf2Ideal.nD Cert.RsFf2Ideal.τ).loc Cert.RsFf2Ideal.main_arg5)
          ∧ r.2.mem ((c.tc : Thread Cert.RsFf2Ideal.nD Cert.RsFf2Ideal.τ).loc Cert.RsFf2Ideal.main_arg6) = m ((c.tc : Thread Cert.RsFf2Ideal.nD Cert.RsFf2Ideal.τ).loc Cert.RsFf2Ideal.main_arg6))
      ∧ θ_run (Cert.RsFf2RefIdeal.defs (F := Ideal)) (onTc (τ := Cert.RsFf2RefIdeal.τ) (Cert.RsFf2RefIdeal.main (F := Ideal))) ⟨m', fun _ => 0, g'⟩ (fun r => ∀ c : Dev Cert.RsFf2RefIdeal.nD,
          r.2.mem ((c.tc : Thread Cert.RsFf2RefIdeal.nD Cert.RsFf2RefIdeal.τ).loc Cert.RsFf2RefIdeal.main_v22) = v0 c
          ∧ r.2.mem ((c.tc : Thread Cert.RsFf2RefIdeal.nD Cert.RsFf2RefIdeal.τ).loc Cert.RsFf2RefIdeal.main_v46) = v1 c
          ∧ r.2.mem ((c.tc : Thread Cert.RsFf2RefIdeal.nD Cert.RsFf2RefIdeal.τ).loc Cert.RsFf2RefIdeal.main_v27) = v2 c
          ∧ r.2.mem ((c.tc : Thread Cert.RsFf2RefIdeal.nD Cert.RsFf2RefIdeal.τ).loc Cert.RsFf2RefIdeal.main_v33) = v3 c
          ∧ r.2.mem ((c.tc : Thread Cert.RsFf2RefIdeal.nD Cert.RsFf2RefIdeal.τ).loc Cert.RsFf2RefIdeal.main_arg0) = m' ((c.tc : Thread Cert.RsFf2RefIdeal.nD Cert.RsFf2RefIdeal.τ).loc Cert.RsFf2RefIdeal.main_arg0)
          ∧ r.2.mem ((c.tc : Thread Cert.RsFf2RefIdeal.nD Cert.RsFf2RefIdeal.τ).loc Cert.RsFf2RefIdeal.main_arg1) = m' ((c.tc : Thread Cert.RsFf2RefIdeal.nD Cert.RsFf2RefIdeal.τ).loc Cert.RsFf2RefIdeal.main_arg1)
          ∧ r.2.mem ((c.tc : Thread Cert.RsFf2RefIdeal.nD Cert.RsFf2RefIdeal.τ).loc Cert.RsFf2RefIdeal.main_arg2) = m' ((c.tc : Thread Cert.RsFf2RefIdeal.nD Cert.RsFf2RefIdeal.τ).loc Cert.RsFf2RefIdeal.main_arg2)
          ∧ r.2.mem ((c.tc : Thread Cert.RsFf2RefIdeal.nD Cert.RsFf2RefIdeal.τ).loc Cert.RsFf2RefIdeal.main_arg3) = m' ((c.tc : Thread Cert.RsFf2RefIdeal.nD Cert.RsFf2RefIdeal.τ).loc Cert.RsFf2RefIdeal.main_arg3)
          ∧ r.2.mem ((c.tc : Thread Cert.RsFf2RefIdeal.nD Cert.RsFf2RefIdeal.τ).loc Cert.RsFf2RefIdeal.main_arg4) = m' ((c.tc : Thread Cert.RsFf2RefIdeal.nD Cert.RsFf2RefIdeal.τ).loc Cert.RsFf2RefIdeal.main_arg4)
          ∧ r.2.mem ((c.tc : Thread Cert.RsFf2RefIdeal.nD Cert.RsFf2RefIdeal.τ).loc Cert.RsFf2RefIdeal.main_arg5) = m' ((c.tc : Thread Cert.RsFf2RefIdeal.nD Cert.RsFf2RefIdeal.τ).loc Cert.RsFf2RefIdeal.main_arg5)
          ∧ r.2.mem ((c.tc : Thread Cert.RsFf2RefIdeal.nD Cert.RsFf2RefIdeal.τ).loc Cert.RsFf2RefIdeal.main_arg6) = m' ((c.tc : Thread Cert.RsFf2RefIdeal.nD Cert.RsFf2RefIdeal.τ).loc Cert.RsFf2RefIdeal.main_arg6))

def preserves_RsOut_RsOutIdeal : Prop :=
  True

def algebraic_RsOutIdeal_RsOutRefIdeal [hRsOutIdeal : Cert.RsOutIdeal.Facts] [hRsOutRefIdeal : Cert.RsOutRefIdeal.Facts] [hPre_rs_out_slot : Cert.Pre_rs_out_slot.Facts] : Prop :=
  ∀ (m : (ℓ : Loc Cert.RsOutIdeal.nD Cert.RsOutIdeal.τ Cert.RsOutIdeal.sig) → Buf (Elt Ideal) ℓ) (g : Dev Cert.RsOutIdeal.nD → PrngReg)
    (m' : (ℓ : Loc Cert.RsOutRefIdeal.nD Cert.RsOutRefIdeal.τ Cert.RsOutRefIdeal.sig) → Buf (Elt Ideal) ℓ) (g' : Dev Cert.RsOutRefIdeal.nD → PrngReg), Pre_RsOutIdeal m →
    (∀ c : Dev Cert.RsOutIdeal.nD,
      m' ((c.tc : Thread Cert.RsOutRefIdeal.nD Cert.RsOutRefIdeal.τ).loc Cert.RsOutRefIdeal.main_arg0) = m ((c.tc : Thread Cert.RsOutIdeal.nD Cert.RsOutIdeal.τ).loc Cert.RsOutIdeal.main_arg0)
      ∧ m' ((c.tc : Thread Cert.RsOutRefIdeal.nD Cert.RsOutRefIdeal.τ).loc Cert.RsOutRefIdeal.main_arg1) = m ((c.tc : Thread Cert.RsOutIdeal.nD Cert.RsOutIdeal.τ).loc Cert.RsOutIdeal.main_arg1)
      ∧ m' ((c.tc : Thread Cert.RsOutRefIdeal.nD Cert.RsOutRefIdeal.τ).loc Cert.RsOutRefIdeal.main_arg2) = m ((c.tc : Thread Cert.RsOutIdeal.nD Cert.RsOutIdeal.τ).loc Cert.RsOutIdeal.main_arg2)
      ∧ m' ((c.tc : Thread Cert.RsOutRefIdeal.nD Cert.RsOutRefIdeal.τ).loc Cert.RsOutRefIdeal.main_arg3) = m ((c.tc : Thread Cert.RsOutIdeal.nD Cert.RsOutIdeal.τ).loc Cert.RsOutIdeal.main_arg3)
      ∧ m' ((c.tc : Thread Cert.RsOutRefIdeal.nD Cert.RsOutRefIdeal.τ).loc Cert.RsOutRefIdeal.main_arg4) = m ((c.tc : Thread Cert.RsOutIdeal.nD Cert.RsOutIdeal.τ).loc Cert.RsOutIdeal.main_arg4)
      ∧ m' ((c.tc : Thread Cert.RsOutRefIdeal.nD Cert.RsOutRefIdeal.τ).loc Cert.RsOutRefIdeal.main_arg5) = m ((c.tc : Thread Cert.RsOutIdeal.nD Cert.RsOutIdeal.τ).loc Cert.RsOutIdeal.main_arg5)
      ∧ m' ((c.tc : Thread Cert.RsOutRefIdeal.nD Cert.RsOutRefIdeal.τ).loc Cert.RsOutRefIdeal.main_arg6) = m ((c.tc : Thread Cert.RsOutIdeal.nD Cert.RsOutIdeal.τ).loc Cert.RsOutIdeal.main_arg6)) →
    ∃ (v0 : (c : Dev Cert.RsOutIdeal.nD) → Buf (Elt Ideal) ((c.tc : Thread Cert.RsOutIdeal.nD Cert.RsOutIdeal.τ).loc Cert.RsOutIdeal.main_v0_0)) (v1 : (c : Dev Cert.RsOutIdeal.nD) → Buf (Elt Ideal) ((c.tc : Thread Cert.RsOutIdeal.nD Cert.RsOutIdeal.τ).loc Cert.RsOutIdeal.main_v0_1)) (v2 : (c : Dev Cert.RsOutIdeal.nD) → Buf (Elt Ideal) ((c.tc : Thread Cert.RsOutIdeal.nD Cert.RsOutIdeal.τ).loc Cert.RsOutIdeal.main_v0_2)) (v3 : (c : Dev Cert.RsOutIdeal.nD) → Buf (Elt Ideal) ((c.tc : Thread Cert.RsOutIdeal.nD Cert.RsOutIdeal.τ).loc Cert.RsOutIdeal.main_v0_3)),
      θ_run (Cert.RsOutIdeal.defs (F := Ideal)) (onTc (τ := Cert.RsOutIdeal.τ) (Cert.RsOutIdeal.main (F := Ideal))) ⟨m, fun _ => 0, g⟩ (fun r => ∀ c : Dev Cert.RsOutIdeal.nD,
          r.2.mem ((c.tc : Thread Cert.RsOutIdeal.nD Cert.RsOutIdeal.τ).loc Cert.RsOutIdeal.main_v0_0) = v0 c
          ∧ r.2.mem ((c.tc : Thread Cert.RsOutIdeal.nD Cert.RsOutIdeal.τ).loc Cert.RsOutIdeal.main_v0_1) = v1 c
          ∧ r.2.mem ((c.tc : Thread Cert.RsOutIdeal.nD Cert.RsOutIdeal.τ).loc Cert.RsOutIdeal.main_v0_2) = v2 c
          ∧ r.2.mem ((c.tc : Thread Cert.RsOutIdeal.nD Cert.RsOutIdeal.τ).loc Cert.RsOutIdeal.main_v0_3) = v3 c
          ∧ r.2.mem ((c.tc : Thread Cert.RsOutIdeal.nD Cert.RsOutIdeal.τ).loc Cert.RsOutIdeal.main_arg0) = m ((c.tc : Thread Cert.RsOutIdeal.nD Cert.RsOutIdeal.τ).loc Cert.RsOutIdeal.main_arg0)
          ∧ r.2.mem ((c.tc : Thread Cert.RsOutIdeal.nD Cert.RsOutIdeal.τ).loc Cert.RsOutIdeal.main_arg1) = m ((c.tc : Thread Cert.RsOutIdeal.nD Cert.RsOutIdeal.τ).loc Cert.RsOutIdeal.main_arg1)
          ∧ r.2.mem ((c.tc : Thread Cert.RsOutIdeal.nD Cert.RsOutIdeal.τ).loc Cert.RsOutIdeal.main_arg2) = m ((c.tc : Thread Cert.RsOutIdeal.nD Cert.RsOutIdeal.τ).loc Cert.RsOutIdeal.main_arg2)
          ∧ r.2.mem ((c.tc : Thread Cert.RsOutIdeal.nD Cert.RsOutIdeal.τ).loc Cert.RsOutIdeal.main_arg3) = m ((c.tc : Thread Cert.RsOutIdeal.nD Cert.RsOutIdeal.τ).loc Cert.RsOutIdeal.main_arg3)
          ∧ r.2.mem ((c.tc : Thread Cert.RsOutIdeal.nD Cert.RsOutIdeal.τ).loc Cert.RsOutIdeal.main_arg4) = m ((c.tc : Thread Cert.RsOutIdeal.nD Cert.RsOutIdeal.τ).loc Cert.RsOutIdeal.main_arg4)
          ∧ r.2.mem ((c.tc : Thread Cert.RsOutIdeal.nD Cert.RsOutIdeal.τ).loc Cert.RsOutIdeal.main_arg5) = m ((c.tc : Thread Cert.RsOutIdeal.nD Cert.RsOutIdeal.τ).loc Cert.RsOutIdeal.main_arg5)
          ∧ r.2.mem ((c.tc : Thread Cert.RsOutIdeal.nD Cert.RsOutIdeal.τ).loc Cert.RsOutIdeal.main_arg6) = m ((c.tc : Thread Cert.RsOutIdeal.nD Cert.RsOutIdeal.τ).loc Cert.RsOutIdeal.main_arg6))
      ∧ θ_run (Cert.RsOutRefIdeal.defs (F := Ideal)) (onTc (τ := Cert.RsOutRefIdeal.τ) (Cert.RsOutRefIdeal.main (F := Ideal))) ⟨m', fun _ => 0, g'⟩ (fun r => ∀ c : Dev Cert.RsOutRefIdeal.nD,
          r.2.mem ((c.tc : Thread Cert.RsOutRefIdeal.nD Cert.RsOutRefIdeal.τ).loc Cert.RsOutRefIdeal.main_v22) = v0 c
          ∧ r.2.mem ((c.tc : Thread Cert.RsOutRefIdeal.nD Cert.RsOutRefIdeal.τ).loc Cert.RsOutRefIdeal.main_v46) = v1 c
          ∧ r.2.mem ((c.tc : Thread Cert.RsOutRefIdeal.nD Cert.RsOutRefIdeal.τ).loc Cert.RsOutRefIdeal.main_v27) = v2 c
          ∧ r.2.mem ((c.tc : Thread Cert.RsOutRefIdeal.nD Cert.RsOutRefIdeal.τ).loc Cert.RsOutRefIdeal.main_v33) = v3 c
          ∧ r.2.mem ((c.tc : Thread Cert.RsOutRefIdeal.nD Cert.RsOutRefIdeal.τ).loc Cert.RsOutRefIdeal.main_arg0) = m' ((c.tc : Thread Cert.RsOutRefIdeal.nD Cert.RsOutRefIdeal.τ).loc Cert.RsOutRefIdeal.main_arg0)
          ∧ r.2.mem ((c.tc : Thread Cert.RsOutRefIdeal.nD Cert.RsOutRefIdeal.τ).loc Cert.RsOutRefIdeal.main_arg1) = m' ((c.tc : Thread Cert.RsOutRefIdeal.nD Cert.RsOutRefIdeal.τ).loc Cert.RsOutRefIdeal.main_arg1)
          ∧ r.2.mem ((c.tc : Thread Cert.RsOutRefIdeal.nD Cert.RsOutRefIdeal.τ).loc Cert.RsOutRefIdeal.main_arg2) = m' ((c.tc : Thread Cert.RsOutRefIdeal.nD Cert.RsOutRefIdeal.τ).loc Cert.RsOutRefIdeal.main_arg2)
          ∧ r.2.mem ((c.tc : Thread Cert.RsOutRefIdeal.nD Cert.RsOutRefIdeal.τ).loc Cert.RsOutRefIdeal.main_arg3) = m' ((c.tc : Thread Cert.RsOutRefIdeal.nD Cert.RsOutRefIdeal.τ).loc Cert.RsOutRefIdeal.main_arg3)
          ∧ r.2.mem ((c.tc : Thread Cert.RsOutRefIdeal.nD Cert.RsOutRefIdeal.τ).loc Cert.RsOutRefIdeal.main_arg4) = m' ((c.tc : Thread Cert.RsOutRefIdeal.nD Cert.RsOutRefIdeal.τ).loc Cert.RsOutRefIdeal.main_arg4)
          ∧ r.2.mem ((c.tc : Thread Cert.RsOutRefIdeal.nD Cert.RsOutRefIdeal.τ).loc Cert.RsOutRefIdeal.main_arg5) = m' ((c.tc : Thread Cert.RsOutRefIdeal.nD Cert.RsOutRefIdeal.τ).loc Cert.RsOutRefIdeal.main_arg5)
          ∧ r.2.mem ((c.tc : Thread Cert.RsOutRefIdeal.nD Cert.RsOutRefIdeal.τ).loc Cert.RsOutRefIdeal.main_arg6) = m' ((c.tc : Thread Cert.RsOutRefIdeal.nD Cert.RsOutRefIdeal.τ).loc Cert.RsOutRefIdeal.main_arg6))

def preserves_RsIn_RsInIdeal : Prop :=
  True

def algebraic_RsInIdeal_RsInRefIdeal [hRsInIdeal : Cert.RsInIdeal.Facts] [hRsInRefIdeal : Cert.RsInRefIdeal.Facts] [hPre_rs_inp_slot : Cert.Pre_rs_inp_slot.Facts] : Prop :=
  ∀ (m : (ℓ : Loc Cert.RsInIdeal.nD Cert.RsInIdeal.τ Cert.RsInIdeal.sig) → Buf (Elt Ideal) ℓ) (g : Dev Cert.RsInIdeal.nD → PrngReg)
    (m' : (ℓ : Loc Cert.RsInRefIdeal.nD Cert.RsInRefIdeal.τ Cert.RsInRefIdeal.sig) → Buf (Elt Ideal) ℓ) (g' : Dev Cert.RsInRefIdeal.nD → PrngReg), Pre_RsInIdeal m →
    (∀ c : Dev Cert.RsInIdeal.nD,
      m' ((c.tc : Thread Cert.RsInRefIdeal.nD Cert.RsInRefIdeal.τ).loc Cert.RsInRefIdeal.main_arg0) = m ((c.tc : Thread Cert.RsInIdeal.nD Cert.RsInIdeal.τ).loc Cert.RsInIdeal.main_arg0)
      ∧ m' ((c.tc : Thread Cert.RsInRefIdeal.nD Cert.RsInRefIdeal.τ).loc Cert.RsInRefIdeal.main_arg1) = m ((c.tc : Thread Cert.RsInIdeal.nD Cert.RsInIdeal.τ).loc Cert.RsInIdeal.main_arg1)
      ∧ m' ((c.tc : Thread Cert.RsInRefIdeal.nD Cert.RsInRefIdeal.τ).loc Cert.RsInRefIdeal.main_arg2) = m ((c.tc : Thread Cert.RsInIdeal.nD Cert.RsInIdeal.τ).loc Cert.RsInIdeal.main_arg2)
      ∧ m' ((c.tc : Thread Cert.RsInRefIdeal.nD Cert.RsInRefIdeal.τ).loc Cert.RsInRefIdeal.main_arg3) = m ((c.tc : Thread Cert.RsInIdeal.nD Cert.RsInIdeal.τ).loc Cert.RsInIdeal.main_arg3)
      ∧ m' ((c.tc : Thread Cert.RsInRefIdeal.nD Cert.RsInRefIdeal.τ).loc Cert.RsInRefIdeal.main_arg4) = m ((c.tc : Thread Cert.RsInIdeal.nD Cert.RsInIdeal.τ).loc Cert.RsInIdeal.main_arg4)
      ∧ m' ((c.tc : Thread Cert.RsInRefIdeal.nD Cert.RsInRefIdeal.τ).loc Cert.RsInRefIdeal.main_arg5) = m ((c.tc : Thread Cert.RsInIdeal.nD Cert.RsInIdeal.τ).loc Cert.RsInIdeal.main_arg5)
      ∧ m' ((c.tc : Thread Cert.RsInRefIdeal.nD Cert.RsInRefIdeal.τ).loc Cert.RsInRefIdeal.main_arg6) = m ((c.tc : Thread Cert.RsInIdeal.nD Cert.RsInIdeal.τ).loc Cert.RsInIdeal.main_arg6)) →
    ∃ (v0 : (c : Dev Cert.RsInIdeal.nD) → Buf (Elt Ideal) ((c.tc : Thread Cert.RsInIdeal.nD Cert.RsInIdeal.τ).loc Cert.RsInIdeal.main_v0_0)) (v1 : (c : Dev Cert.RsInIdeal.nD) → Buf (Elt Ideal) ((c.tc : Thread Cert.RsInIdeal.nD Cert.RsInIdeal.τ).loc Cert.RsInIdeal.main_v0_1)) (v2 : (c : Dev Cert.RsInIdeal.nD) → Buf (Elt Ideal) ((c.tc : Thread Cert.RsInIdeal.nD Cert.RsInIdeal.τ).loc Cert.RsInIdeal.main_v0_2)) (v3 : (c : Dev Cert.RsInIdeal.nD) → Buf (Elt Ideal) ((c.tc : Thread Cert.RsInIdeal.nD Cert.RsInIdeal.τ).loc Cert.RsInIdeal.main_v0_3)),
      θ_run (Cert.RsInIdeal.defs (F := Ideal)) (onTc (τ := Cert.RsInIdeal.τ) (Cert.RsInIdeal.main (F := Ideal))) ⟨m, fun _ => 0, g⟩ (fun r => ∀ c : Dev Cert.RsInIdeal.nD,
          r.2.mem ((c.tc : Thread Cert.RsInIdeal.nD Cert.RsInIdeal.τ).loc Cert.RsInIdeal.main_v0_0) = v0 c
          ∧ r.2.mem ((c.tc : Thread Cert.RsInIdeal.nD Cert.RsInIdeal.τ).loc Cert.RsInIdeal.main_v0_1) = v1 c
          ∧ r.2.mem ((c.tc : Thread Cert.RsInIdeal.nD Cert.RsInIdeal.τ).loc Cert.RsInIdeal.main_v0_2) = v2 c
          ∧ r.2.mem ((c.tc : Thread Cert.RsInIdeal.nD Cert.RsInIdeal.τ).loc Cert.RsInIdeal.main_v0_3) = v3 c
          ∧ r.2.mem ((c.tc : Thread Cert.RsInIdeal.nD Cert.RsInIdeal.τ).loc Cert.RsInIdeal.main_arg0) = m ((c.tc : Thread Cert.RsInIdeal.nD Cert.RsInIdeal.τ).loc Cert.RsInIdeal.main_arg0)
          ∧ r.2.mem ((c.tc : Thread Cert.RsInIdeal.nD Cert.RsInIdeal.τ).loc Cert.RsInIdeal.main_arg1) = m ((c.tc : Thread Cert.RsInIdeal.nD Cert.RsInIdeal.τ).loc Cert.RsInIdeal.main_arg1)
          ∧ r.2.mem ((c.tc : Thread Cert.RsInIdeal.nD Cert.RsInIdeal.τ).loc Cert.RsInIdeal.main_arg2) = m ((c.tc : Thread Cert.RsInIdeal.nD Cert.RsInIdeal.τ).loc Cert.RsInIdeal.main_arg2)
          ∧ r.2.mem ((c.tc : Thread Cert.RsInIdeal.nD Cert.RsInIdeal.τ).loc Cert.RsInIdeal.main_arg3) = m ((c.tc : Thread Cert.RsInIdeal.nD Cert.RsInIdeal.τ).loc Cert.RsInIdeal.main_arg3)
          ∧ r.2.mem ((c.tc : Thread Cert.RsInIdeal.nD Cert.RsInIdeal.τ).loc Cert.RsInIdeal.main_arg4) = m ((c.tc : Thread Cert.RsInIdeal.nD Cert.RsInIdeal.τ).loc Cert.RsInIdeal.main_arg4)
          ∧ r.2.mem ((c.tc : Thread Cert.RsInIdeal.nD Cert.RsInIdeal.τ).loc Cert.RsInIdeal.main_arg5) = m ((c.tc : Thread Cert.RsInIdeal.nD Cert.RsInIdeal.τ).loc Cert.RsInIdeal.main_arg5)
          ∧ r.2.mem ((c.tc : Thread Cert.RsInIdeal.nD Cert.RsInIdeal.τ).loc Cert.RsInIdeal.main_arg6) = m ((c.tc : Thread Cert.RsInIdeal.nD Cert.RsInIdeal.τ).loc Cert.RsInIdeal.main_arg6))
      ∧ θ_run (Cert.RsInRefIdeal.defs (F := Ideal)) (onTc (τ := Cert.RsInRefIdeal.τ) (Cert.RsInRefIdeal.main (F := Ideal))) ⟨m', fun _ => 0, g'⟩ (fun r => ∀ c : Dev Cert.RsInRefIdeal.nD,
          r.2.mem ((c.tc : Thread Cert.RsInRefIdeal.nD Cert.RsInRefIdeal.τ).loc Cert.RsInRefIdeal.main_v22) = v0 c
          ∧ r.2.mem ((c.tc : Thread Cert.RsInRefIdeal.nD Cert.RsInRefIdeal.τ).loc Cert.RsInRefIdeal.main_v46) = v1 c
          ∧ r.2.mem ((c.tc : Thread Cert.RsInRefIdeal.nD Cert.RsInRefIdeal.τ).loc Cert.RsInRefIdeal.main_v27) = v2 c
          ∧ r.2.mem ((c.tc : Thread Cert.RsInRefIdeal.nD Cert.RsInRefIdeal.τ).loc Cert.RsInRefIdeal.main_v33) = v3 c
          ∧ r.2.mem ((c.tc : Thread Cert.RsInRefIdeal.nD Cert.RsInRefIdeal.τ).loc Cert.RsInRefIdeal.main_arg0) = m' ((c.tc : Thread Cert.RsInRefIdeal.nD Cert.RsInRefIdeal.τ).loc Cert.RsInRefIdeal.main_arg0)
          ∧ r.2.mem ((c.tc : Thread Cert.RsInRefIdeal.nD Cert.RsInRefIdeal.τ).loc Cert.RsInRefIdeal.main_arg1) = m' ((c.tc : Thread Cert.RsInRefIdeal.nD Cert.RsInRefIdeal.τ).loc Cert.RsInRefIdeal.main_arg1)
          ∧ r.2.mem ((c.tc : Thread Cert.RsInRefIdeal.nD Cert.RsInRefIdeal.τ).loc Cert.RsInRefIdeal.main_arg2) = m' ((c.tc : Thread Cert.RsInRefIdeal.nD Cert.RsInRefIdeal.τ).loc Cert.RsInRefIdeal.main_arg2)
          ∧ r.2.mem ((c.tc : Thread Cert.RsInRefIdeal.nD Cert.RsInRefIdeal.τ).loc Cert.RsInRefIdeal.main_arg3) = m' ((c.tc : Thread Cert.RsInRefIdeal.nD Cert.RsInRefIdeal.τ).loc Cert.RsInRefIdeal.main_arg3)
          ∧ r.2.mem ((c.tc : Thread Cert.RsInRefIdeal.nD Cert.RsInRefIdeal.τ).loc Cert.RsInRefIdeal.main_arg4) = m' ((c.tc : Thread Cert.RsInRefIdeal.nD Cert.RsInRefIdeal.τ).loc Cert.RsInRefIdeal.main_arg4)
          ∧ r.2.mem ((c.tc : Thread Cert.RsInRefIdeal.nD Cert.RsInRefIdeal.τ).loc Cert.RsInRefIdeal.main_arg5) = m' ((c.tc : Thread Cert.RsInRefIdeal.nD Cert.RsInRefIdeal.τ).loc Cert.RsInRefIdeal.main_arg5)
          ∧ r.2.mem ((c.tc : Thread Cert.RsInRefIdeal.nD Cert.RsInRefIdeal.τ).loc Cert.RsInRefIdeal.main_arg6) = m' ((c.tc : Thread Cert.RsInRefIdeal.nD Cert.RsInRefIdeal.τ).loc Cert.RsInRefIdeal.main_arg6))

def preserves_RsPool_RsPoolIdeal : Prop :=
  True

def algebraic_RsPoolIdeal_RsPoolRefIdeal [hRsPoolIdeal : Cert.RsPoolIdeal.Facts] [hRsPoolRefIdeal : Cert.RsPoolRefIdeal.Facts] [hPre_rs_pool_slot : Cert.Pre_rs_pool_slot.Facts] : Prop :=
  ∀ (m : (ℓ : Loc Cert.RsPoolIdeal.nD Cert.RsPoolIdeal.τ Cert.RsPoolIdeal.sig) → Buf (Elt Ideal) ℓ) (g : Dev Cert.RsPoolIdeal.nD → PrngReg)
    (m' : (ℓ : Loc Cert.RsPoolRefIdeal.nD Cert.RsPoolRefIdeal.τ Cert.RsPoolRefIdeal.sig) → Buf (Elt Ideal) ℓ) (g' : Dev Cert.RsPoolRefIdeal.nD → PrngReg), Pre_RsPoolIdeal m →
    (∀ c : Dev Cert.RsPoolIdeal.nD,
      m' ((c.tc : Thread Cert.RsPoolRefIdeal.nD Cert.RsPoolRefIdeal.τ).loc Cert.RsPoolRefIdeal.main_arg0) = m ((c.tc : Thread Cert.RsPoolIdeal.nD Cert.RsPoolIdeal.τ).loc Cert.RsPoolIdeal.main_arg0)
      ∧ m' ((c.tc : Thread Cert.RsPoolRefIdeal.nD Cert.RsPoolRefIdeal.τ).loc Cert.RsPoolRefIdeal.main_arg1) = m ((c.tc : Thread Cert.RsPoolIdeal.nD Cert.RsPoolIdeal.τ).loc Cert.RsPoolIdeal.main_arg1)
      ∧ m' ((c.tc : Thread Cert.RsPoolRefIdeal.nD Cert.RsPoolRefIdeal.τ).loc Cert.RsPoolRefIdeal.main_arg2) = m ((c.tc : Thread Cert.RsPoolIdeal.nD Cert.RsPoolIdeal.τ).loc Cert.RsPoolIdeal.main_arg2)
      ∧ m' ((c.tc : Thread Cert.RsPoolRefIdeal.nD Cert.RsPoolRefIdeal.τ).loc Cert.RsPoolRefIdeal.main_arg3) = m ((c.tc : Thread Cert.RsPoolIdeal.nD Cert.RsPoolIdeal.τ).loc Cert.RsPoolIdeal.main_arg3)
      ∧ m' ((c.tc : Thread Cert.RsPoolRefIdeal.nD Cert.RsPoolRefIdeal.τ).loc Cert.RsPoolRefIdeal.main_arg4) = m ((c.tc : Thread Cert.RsPoolIdeal.nD Cert.RsPoolIdeal.τ).loc Cert.RsPoolIdeal.main_arg4)
      ∧ m' ((c.tc : Thread Cert.RsPoolRefIdeal.nD Cert.RsPoolRefIdeal.τ).loc Cert.RsPoolRefIdeal.main_arg5) = m ((c.tc : Thread Cert.RsPoolIdeal.nD Cert.RsPoolIdeal.τ).loc Cert.RsPoolIdeal.main_arg5)
      ∧ m' ((c.tc : Thread Cert.RsPoolRefIdeal.nD Cert.RsPoolRefIdeal.τ).loc Cert.RsPoolRefIdeal.main_arg6) = m ((c.tc : Thread Cert.RsPoolIdeal.nD Cert.RsPoolIdeal.τ).loc Cert.RsPoolIdeal.main_arg6)) →
    ∃ (v0 : (c : Dev Cert.RsPoolIdeal.nD) → Buf (Elt Ideal) ((c.tc : Thread Cert.RsPoolIdeal.nD Cert.RsPoolIdeal.τ).loc Cert.RsPoolIdeal.main_v0_0)) (v1 : (c : Dev Cert.RsPoolIdeal.nD) → Buf (Elt Ideal) ((c.tc : Thread Cert.RsPoolIdeal.nD Cert.RsPoolIdeal.τ).loc Cert.RsPoolIdeal.main_v0_1)) (v2 : (c : Dev Cert.RsPoolIdeal.nD) → Buf (Elt Ideal) ((c.tc : Thread Cert.RsPoolIdeal.nD Cert.RsPoolIdeal.τ).loc Cert.RsPoolIdeal.main_v0_2)) (v3 : (c : Dev Cert.RsPoolIdeal.nD) → Buf (Elt Ideal) ((c.tc : Thread Cert.RsPoolIdeal.nD Cert.RsPoolIdeal.τ).loc Cert.RsPoolIdeal.main_v0_3)),
      θ_run (Cert.RsPoolIdeal.defs (F := Ideal)) (onTc (τ := Cert.RsPoolIdeal.τ) (Cert.RsPoolIdeal.main (F := Ideal))) ⟨m, fun _ => 0, g⟩ (fun r => ∀ c : Dev Cert.RsPoolIdeal.nD,
          r.2.mem ((c.tc : Thread Cert.RsPoolIdeal.nD Cert.RsPoolIdeal.τ).loc Cert.RsPoolIdeal.main_v0_0) = v0 c
          ∧ r.2.mem ((c.tc : Thread Cert.RsPoolIdeal.nD Cert.RsPoolIdeal.τ).loc Cert.RsPoolIdeal.main_v0_1) = v1 c
          ∧ r.2.mem ((c.tc : Thread Cert.RsPoolIdeal.nD Cert.RsPoolIdeal.τ).loc Cert.RsPoolIdeal.main_v0_2) = v2 c
          ∧ r.2.mem ((c.tc : Thread Cert.RsPoolIdeal.nD Cert.RsPoolIdeal.τ).loc Cert.RsPoolIdeal.main_v0_3) = v3 c
          ∧ r.2.mem ((c.tc : Thread Cert.RsPoolIdeal.nD Cert.RsPoolIdeal.τ).loc Cert.RsPoolIdeal.main_arg0) = m ((c.tc : Thread Cert.RsPoolIdeal.nD Cert.RsPoolIdeal.τ).loc Cert.RsPoolIdeal.main_arg0)
          ∧ r.2.mem ((c.tc : Thread Cert.RsPoolIdeal.nD Cert.RsPoolIdeal.τ).loc Cert.RsPoolIdeal.main_arg1) = m ((c.tc : Thread Cert.RsPoolIdeal.nD Cert.RsPoolIdeal.τ).loc Cert.RsPoolIdeal.main_arg1)
          ∧ r.2.mem ((c.tc : Thread Cert.RsPoolIdeal.nD Cert.RsPoolIdeal.τ).loc Cert.RsPoolIdeal.main_arg2) = m ((c.tc : Thread Cert.RsPoolIdeal.nD Cert.RsPoolIdeal.τ).loc Cert.RsPoolIdeal.main_arg2)
          ∧ r.2.mem ((c.tc : Thread Cert.RsPoolIdeal.nD Cert.RsPoolIdeal.τ).loc Cert.RsPoolIdeal.main_arg3) = m ((c.tc : Thread Cert.RsPoolIdeal.nD Cert.RsPoolIdeal.τ).loc Cert.RsPoolIdeal.main_arg3)
          ∧ r.2.mem ((c.tc : Thread Cert.RsPoolIdeal.nD Cert.RsPoolIdeal.τ).loc Cert.RsPoolIdeal.main_arg4) = m ((c.tc : Thread Cert.RsPoolIdeal.nD Cert.RsPoolIdeal.τ).loc Cert.RsPoolIdeal.main_arg4)
          ∧ r.2.mem ((c.tc : Thread Cert.RsPoolIdeal.nD Cert.RsPoolIdeal.τ).loc Cert.RsPoolIdeal.main_arg5) = m ((c.tc : Thread Cert.RsPoolIdeal.nD Cert.RsPoolIdeal.τ).loc Cert.RsPoolIdeal.main_arg5)
          ∧ r.2.mem ((c.tc : Thread Cert.RsPoolIdeal.nD Cert.RsPoolIdeal.τ).loc Cert.RsPoolIdeal.main_arg6) = m ((c.tc : Thread Cert.RsPoolIdeal.nD Cert.RsPoolIdeal.τ).loc Cert.RsPoolIdeal.main_arg6))
      ∧ θ_run (Cert.RsPoolRefIdeal.defs (F := Ideal)) (onTc (τ := Cert.RsPoolRefIdeal.τ) (Cert.RsPoolRefIdeal.main (F := Ideal))) ⟨m', fun _ => 0, g'⟩ (fun r => ∀ c : Dev Cert.RsPoolRefIdeal.nD,
          r.2.mem ((c.tc : Thread Cert.RsPoolRefIdeal.nD Cert.RsPoolRefIdeal.τ).loc Cert.RsPoolRefIdeal.main_v22) = v0 c
          ∧ r.2.mem ((c.tc : Thread Cert.RsPoolRefIdeal.nD Cert.RsPoolRefIdeal.τ).loc Cert.RsPoolRefIdeal.main_v46) = v1 c
          ∧ r.2.mem ((c.tc : Thread Cert.RsPoolRefIdeal.nD Cert.RsPoolRefIdeal.τ).loc Cert.RsPoolRefIdeal.main_v27) = v2 c
          ∧ r.2.mem ((c.tc : Thread Cert.RsPoolRefIdeal.nD Cert.RsPoolRefIdeal.τ).loc Cert.RsPoolRefIdeal.main_v33) = v3 c
          ∧ r.2.mem ((c.tc : Thread Cert.RsPoolRefIdeal.nD Cert.RsPoolRefIdeal.τ).loc Cert.RsPoolRefIdeal.main_arg0) = m' ((c.tc : Thread Cert.RsPoolRefIdeal.nD Cert.RsPoolRefIdeal.τ).loc Cert.RsPoolRefIdeal.main_arg0)
          ∧ r.2.mem ((c.tc : Thread Cert.RsPoolRefIdeal.nD Cert.RsPoolRefIdeal.τ).loc Cert.RsPoolRefIdeal.main_arg1) = m' ((c.tc : Thread Cert.RsPoolRefIdeal.nD Cert.RsPoolRefIdeal.τ).loc Cert.RsPoolRefIdeal.main_arg1)
          ∧ r.2.mem ((c.tc : Thread Cert.RsPoolRefIdeal.nD Cert.RsPoolRefIdeal.τ).loc Cert.RsPoolRefIdeal.main_arg2) = m' ((c.tc : Thread Cert.RsPoolRefIdeal.nD Cert.RsPoolRefIdeal.τ).loc Cert.RsPoolRefIdeal.main_arg2)
          ∧ r.2.mem ((c.tc : Thread Cert.RsPoolRefIdeal.nD Cert.RsPoolRefIdeal.τ).loc Cert.RsPoolRefIdeal.main_arg3) = m' ((c.tc : Thread Cert.RsPoolRefIdeal.nD Cert.RsPoolRefIdeal.τ).loc Cert.RsPoolRefIdeal.main_arg3)
          ∧ r.2.mem ((c.tc : Thread Cert.RsPoolRefIdeal.nD Cert.RsPoolRefIdeal.τ).loc Cert.RsPoolRefIdeal.main_arg4) = m' ((c.tc : Thread Cert.RsPoolRefIdeal.nD Cert.RsPoolRefIdeal.τ).loc Cert.RsPoolRefIdeal.main_arg4)
          ∧ r.2.mem ((c.tc : Thread Cert.RsPoolRefIdeal.nD Cert.RsPoolRefIdeal.τ).loc Cert.RsPoolRefIdeal.main_arg5) = m' ((c.tc : Thread Cert.RsPoolRefIdeal.nD Cert.RsPoolRefIdeal.τ).loc Cert.RsPoolRefIdeal.main_arg5)
          ∧ r.2.mem ((c.tc : Thread Cert.RsPoolRefIdeal.nD Cert.RsPoolRefIdeal.τ).loc Cert.RsPoolRefIdeal.main_arg6) = m' ((c.tc : Thread Cert.RsPoolRefIdeal.nD Cert.RsPoolRefIdeal.τ).loc Cert.RsPoolRefIdeal.main_arg6))

def Claim : Prop :=
  ∃ (hKernel : Cert.Kernel.Facts) (hKernelIdeal : Cert.KernelIdeal.Facts) (hReferenceIdeal : Cert.ReferenceIdeal.Facts) (hDw2 : Cert.Dw2.Facts) (hDw2Ideal : Cert.Dw2Ideal.Facts) (hDw2RefIdeal : Cert.Dw2RefIdeal.Facts) (hDw1 : Cert.Dw1.Facts) (hDw1Ideal : Cert.Dw1Ideal.Facts) (hDw1RefIdeal : Cert.Dw1RefIdeal.Facts) (hDwout : Cert.Dwout.Facts) (hDwoutIdeal : Cert.DwoutIdeal.Facts) (hDwoutRefIdeal : Cert.DwoutRefIdeal.Facts) (hDmixAtt : Cert.DmixAtt.Facts) (hDmixAttIdeal : Cert.DmixAttIdeal.Facts) (hDmixAttRefIdeal : Cert.DmixAttRefIdeal.Facts) (hDmixPool : Cert.DmixPool.Facts) (hDmixPoolIdeal : Cert.DmixPoolIdeal.Facts) (hDmixPoolRefIdeal : Cert.DmixPoolRefIdeal.Facts) (hDwin : Cert.Dwin.Facts) (hDwinIdeal : Cert.DwinIdeal.Facts) (hDwinRefIdeal : Cert.DwinRefIdeal.Facts) (hFf1 : Cert.Ff1.Facts) (hFf1Ideal : Cert.Ff1Ideal.Facts) (hFf1RefIdeal : Cert.Ff1RefIdeal.Facts) (hUpool : Cert.Upool.Facts) (hUpoolIdeal : Cert.UpoolIdeal.Facts) (hUpoolRefIdeal : Cert.UpoolRefIdeal.Facts) (hUqkv : Cert.Uqkv.Facts) (hUqkvIdeal : Cert.UqkvIdeal.Facts) (hUqkvRefIdeal : Cert.UqkvRefIdeal.Facts) (hMix : Cert.Mix.Facts) (hMixIdeal : Cert.MixIdeal.Facts) (hMixRefIdeal : Cert.MixRefIdeal.Facts) (hLnIn : Cert.LnIn.Facts) (hLnInIdeal : Cert.LnInIdeal.Facts) (hLnInRefIdeal : Cert.LnInRefIdeal.Facts) (hSmall : Cert.Small.Facts) (hSmallIdeal : Cert.SmallIdeal.Facts) (hSmallRefIdeal : Cert.SmallRefIdeal.Facts) (hFf2 : Cert.Ff2.Facts) (hFf2Ideal : Cert.Ff2Ideal.Facts) (hFf2RefIdeal : Cert.Ff2RefIdeal.Facts) (hDh1 : Cert.Dh1.Facts) (hDh1Ideal : Cert.Dh1Ideal.Facts) (hDh1RefIdeal : Cert.Dh1RefIdeal.Facts) (hDh0 : Cert.Dh0.Facts) (hDh0Ideal : Cert.Dh0Ideal.Facts) (hDh0RefIdeal : Cert.Dh0RefIdeal.Facts) (hRsFf1 : Cert.RsFf1.Facts) (hRsFf1Ideal : Cert.RsFf1Ideal.Facts) (hRsFf1RefIdeal : Cert.RsFf1RefIdeal.Facts) (hRsFf2 : Cert.RsFf2.Facts) (hRsFf2Ideal : Cert.RsFf2Ideal.Facts) (hRsFf2RefIdeal : Cert.RsFf2RefIdeal.Facts) (hRsOut : Cert.RsOut.Facts) (hRsOutIdeal : Cert.RsOutIdeal.Facts) (hRsOutRefIdeal : Cert.RsOutRefIdeal.Facts) (hRsIn : Cert.RsIn.Facts) (hRsInIdeal : Cert.RsInIdeal.Facts) (hRsInRefIdeal : Cert.RsInRefIdeal.Facts) (hRsPool : Cert.RsPool.Facts) (hRsPoolIdeal : Cert.RsPoolIdeal.Facts) (hRsPoolRefIdeal : Cert.RsPoolRefIdeal.Facts) (hPre_ff2_finite : Cert.Pre_ff2_finite.Facts) (hPre_dh1_finite : Cert.Pre_dh1_finite.Facts) (hPre_dh0_finite : Cert.Pre_dh0_finite.Facts) (hPre_rs_ff1_slot : Cert.Pre_rs_ff1_slot.Facts) (hPre_rs_ff2_slot : Cert.Pre_rs_ff2_slot.Facts) (hPre_rs_out_slot : Cert.Pre_rs_out_slot.Facts) (hPre_rs_inp_slot : Cert.Pre_rs_inp_slot.Facts) (hPre_rs_pool_slot : Cert.Pre_rs_pool_slot.Facts),
    quiescent_Kernel (hKernel := hKernel)
    ∧ quiescent_KernelIdeal (hKernelIdeal := hKernelIdeal)
    ∧ quiescent_ReferenceIdeal (hReferenceIdeal := hReferenceIdeal)
    ∧ quiescent_Dw2 (hDw2 := hDw2)
    ∧ quiescent_Dw2Ideal (hDw2Ideal := hDw2Ideal)
    ∧ quiescent_Dw2RefIdeal (hDw2RefIdeal := hDw2RefIdeal)
    ∧ quiescent_Dw1 (hDw1 := hDw1)
    ∧ quiescent_Dw1Ideal (hDw1Ideal := hDw1Ideal)
    ∧ quiescent_Dw1RefIdeal (hDw1RefIdeal := hDw1RefIdeal)
    ∧ quiescent_Dwout (hDwout := hDwout)
    ∧ quiescent_DwoutIdeal (hDwoutIdeal := hDwoutIdeal)
    ∧ quiescent_DwoutRefIdeal (hDwoutRefIdeal := hDwoutRefIdeal)
    ∧ quiescent_DmixAtt (hDmixAtt := hDmixAtt)
    ∧ quiescent_DmixAttIdeal (hDmixAttIdeal := hDmixAttIdeal)
    ∧ quiescent_DmixAttRefIdeal (hDmixAttRefIdeal := hDmixAttRefIdeal)
    ∧ quiescent_DmixPool (hDmixPool := hDmixPool)
    ∧ quiescent_DmixPoolIdeal (hDmixPoolIdeal := hDmixPoolIdeal)
    ∧ quiescent_DmixPoolRefIdeal (hDmixPoolRefIdeal := hDmixPoolRefIdeal)
    ∧ quiescent_Dwin (hDwin := hDwin)
    ∧ quiescent_DwinIdeal (hDwinIdeal := hDwinIdeal)
    ∧ quiescent_DwinRefIdeal (hDwinRefIdeal := hDwinRefIdeal)
    ∧ quiescent_Ff1 (hFf1 := hFf1)
    ∧ quiescent_Ff1Ideal (hFf1Ideal := hFf1Ideal)
    ∧ quiescent_Ff1RefIdeal (hFf1RefIdeal := hFf1RefIdeal)
    ∧ quiescent_Upool (hUpool := hUpool)
    ∧ quiescent_UpoolIdeal (hUpoolIdeal := hUpoolIdeal)
    ∧ quiescent_UpoolRefIdeal (hUpoolRefIdeal := hUpoolRefIdeal)
    ∧ quiescent_Uqkv (hUqkv := hUqkv)
    ∧ quiescent_UqkvIdeal (hUqkvIdeal := hUqkvIdeal)
    ∧ quiescent_UqkvRefIdeal (hUqkvRefIdeal := hUqkvRefIdeal)
    ∧ quiescent_Mix (hMix := hMix)
    ∧ quiescent_MixIdeal (hMixIdeal := hMixIdeal)
    ∧ quiescent_MixRefIdeal (hMixRefIdeal := hMixRefIdeal)
    ∧ quiescent_LnIn (hLnIn := hLnIn)
    ∧ quiescent_LnInIdeal (hLnInIdeal := hLnInIdeal)
    ∧ quiescent_LnInRefIdeal (hLnInRefIdeal := hLnInRefIdeal)
    ∧ quiescent_Small (hSmall := hSmall)
    ∧ quiescent_SmallIdeal (hSmallIdeal := hSmallIdeal)
    ∧ quiescent_SmallRefIdeal (hSmallRefIdeal := hSmallRefIdeal)
    ∧ quiescent_Ff2 (hFf2 := hFf2)
    ∧ quiescent_Ff2Ideal (hFf2Ideal := hFf2Ideal)
    ∧ quiescent_Ff2Ideal_pre_ff2_finite (hFf2Ideal := hFf2Ideal) (hPre_ff2_finite := hPre_ff2_finite)
    ∧ quiescent_Ff2RefIdeal (hFf2RefIdeal := hFf2RefIdeal)
    ∧ quiescent_Ff2RefIdeal_pre_ff2_finite (hFf2RefIdeal := hFf2RefIdeal) (hPre_ff2_finite := hPre_ff2_finite)
    ∧ quiescent_Dh1 (hDh1 := hDh1)
    ∧ quiescent_Dh1Ideal (hDh1Ideal := hDh1Ideal)
    ∧ quiescent_Dh1Ideal_pre_dh1_finite (hDh1Ideal := hDh1Ideal) (hPre_dh1_finite := hPre_dh1_finite)
    ∧ quiescent_Dh1RefIdeal (hDh1RefIdeal := hDh1RefIdeal)
    ∧ quiescent_Dh1RefIdeal_pre_dh1_finite (hDh1RefIdeal := hDh1RefIdeal) (hPre_dh1_finite := hPre_dh1_finite)
    ∧ quiescent_Dh0 (hDh0 := hDh0)
    ∧ quiescent_Dh0Ideal (hDh0Ideal := hDh0Ideal)
    ∧ quiescent_Dh0Ideal_pre_dh0_finite (hDh0Ideal := hDh0Ideal) (hPre_dh0_finite := hPre_dh0_finite)
    ∧ quiescent_Dh0RefIdeal (hDh0RefIdeal := hDh0RefIdeal)
    ∧ quiescent_Dh0RefIdeal_pre_dh0_finite (hDh0RefIdeal := hDh0RefIdeal) (hPre_dh0_finite := hPre_dh0_finite)
    ∧ quiescent_RsFf1 (hRsFf1 := hRsFf1) (hPre_rs_ff1_slot := hPre_rs_ff1_slot)
    ∧ quiescent_RsFf1Ideal (hRsFf1Ideal := hRsFf1Ideal) (hPre_rs_ff1_slot := hPre_rs_ff1_slot)
    ∧ quiescent_RsFf1RefIdeal (hRsFf1RefIdeal := hRsFf1RefIdeal)
    ∧ quiescent_RsFf1RefIdeal_pre_rs_ff1_slot (hRsFf1RefIdeal := hRsFf1RefIdeal) (hPre_rs_ff1_slot := hPre_rs_ff1_slot)
    ∧ quiescent_RsFf2 (hRsFf2 := hRsFf2) (hPre_rs_ff2_slot := hPre_rs_ff2_slot)
    ∧ quiescent_RsFf2Ideal (hRsFf2Ideal := hRsFf2Ideal) (hPre_rs_ff2_slot := hPre_rs_ff2_slot)
    ∧ quiescent_RsFf2RefIdeal (hRsFf2RefIdeal := hRsFf2RefIdeal)
    ∧ quiescent_RsFf2RefIdeal_pre_rs_ff2_slot (hRsFf2RefIdeal := hRsFf2RefIdeal) (hPre_rs_ff2_slot := hPre_rs_ff2_slot)
    ∧ quiescent_RsOut (hRsOut := hRsOut) (hPre_rs_out_slot := hPre_rs_out_slot)
    ∧ quiescent_RsOutIdeal (hRsOutIdeal := hRsOutIdeal) (hPre_rs_out_slot := hPre_rs_out_slot)
    ∧ quiescent_RsOutRefIdeal (hRsOutRefIdeal := hRsOutRefIdeal)
    ∧ quiescent_RsOutRefIdeal_pre_rs_out_slot (hRsOutRefIdeal := hRsOutRefIdeal) (hPre_rs_out_slot := hPre_rs_out_slot)
    ∧ quiescent_RsIn (hRsIn := hRsIn) (hPre_rs_inp_slot := hPre_rs_inp_slot)
    ∧ quiescent_RsInIdeal (hRsInIdeal := hRsInIdeal) (hPre_rs_inp_slot := hPre_rs_inp_slot)
    ∧ quiescent_RsInRefIdeal (hRsInRefIdeal := hRsInRefIdeal)
    ∧ quiescent_RsInRefIdeal_pre_rs_inp_slot (hRsInRefIdeal := hRsInRefIdeal) (hPre_rs_inp_slot := hPre_rs_inp_slot)
    ∧ quiescent_RsPool (hRsPool := hRsPool) (hPre_rs_pool_slot := hPre_rs_pool_slot)
    ∧ quiescent_RsPoolIdeal (hRsPoolIdeal := hRsPoolIdeal) (hPre_rs_pool_slot := hPre_rs_pool_slot)
    ∧ quiescent_RsPoolRefIdeal (hRsPoolRefIdeal := hRsPoolRefIdeal)
    ∧ quiescent_RsPoolRefIdeal_pre_rs_pool_slot (hRsPoolRefIdeal := hRsPoolRefIdeal) (hPre_rs_pool_slot := hPre_rs_pool_slot)
    ∧ preserves_Kernel_KernelIdeal
    ∧ algebraic_KernelIdeal_ReferenceIdeal (hKernelIdeal := hKernelIdeal) (hReferenceIdeal := hReferenceIdeal)
    ∧ preserves_Dw2_Dw2Ideal
    ∧ algebraic_Dw2Ideal_Dw2RefIdeal (hDw2Ideal := hDw2Ideal) (hDw2RefIdeal := hDw2RefIdeal)
    ∧ preserves_Dw1_Dw1Ideal
    ∧ algebraic_Dw1Ideal_Dw1RefIdeal (hDw1Ideal := hDw1Ideal) (hDw1RefIdeal := hDw1RefIdeal)
    ∧ preserves_Dwout_DwoutIdeal
    ∧ algebraic_DwoutIdeal_DwoutRefIdeal (hDwoutIdeal := hDwoutIdeal) (hDwoutRefIdeal := hDwoutRefIdeal)
    ∧ preserves_DmixAtt_DmixAttIdeal
    ∧ algebraic_DmixAttIdeal_DmixAttRefIdeal (hDmixAttIdeal := hDmixAttIdeal) (hDmixAttRefIdeal := hDmixAttRefIdeal)
    ∧ preserves_DmixPool_DmixPoolIdeal
    ∧ algebraic_DmixPoolIdeal_DmixPoolRefIdeal (hDmixPoolIdeal := hDmixPoolIdeal) (hDmixPoolRefIdeal := hDmixPoolRefIdeal)
    ∧ preserves_Dwin_DwinIdeal
    ∧ algebraic_DwinIdeal_DwinRefIdeal (hDwinIdeal := hDwinIdeal) (hDwinRefIdeal := hDwinRefIdeal)
    ∧ preserves_Ff1_Ff1Ideal
    ∧ algebraic_Ff1Ideal_Ff1RefIdeal (hFf1Ideal := hFf1Ideal) (hFf1RefIdeal := hFf1RefIdeal)
    ∧ preserves_Upool_UpoolIdeal
    ∧ algebraic_UpoolIdeal_UpoolRefIdeal (hUpoolIdeal := hUpoolIdeal) (hUpoolRefIdeal := hUpoolRefIdeal)
    ∧ preserves_Uqkv_UqkvIdeal
    ∧ algebraic_UqkvIdeal_UqkvRefIdeal (hUqkvIdeal := hUqkvIdeal) (hUqkvRefIdeal := hUqkvRefIdeal)
    ∧ preserves_Mix_MixIdeal
    ∧ algebraic_MixIdeal_MixRefIdeal (hMixIdeal := hMixIdeal) (hMixRefIdeal := hMixRefIdeal)
    ∧ preserves_LnIn_LnInIdeal
    ∧ algebraic_LnInIdeal_LnInRefIdeal (hLnInIdeal := hLnInIdeal) (hLnInRefIdeal := hLnInRefIdeal)
    ∧ preserves_Small_SmallIdeal
    ∧ algebraic_SmallIdeal_SmallRefIdeal (hSmallIdeal := hSmallIdeal) (hSmallRefIdeal := hSmallRefIdeal)
    ∧ preserves_Ff2_Ff2Ideal
    ∧ algebraic_Ff2Ideal_Ff2RefIdeal_pre_ff2_finite (hFf2Ideal := hFf2Ideal) (hFf2RefIdeal := hFf2RefIdeal) (hPre_ff2_finite := hPre_ff2_finite)
    ∧ preserves_Dh1_Dh1Ideal
    ∧ algebraic_Dh1Ideal_Dh1RefIdeal_pre_dh1_finite (hDh1Ideal := hDh1Ideal) (hDh1RefIdeal := hDh1RefIdeal) (hPre_dh1_finite := hPre_dh1_finite)
    ∧ preserves_Dh0_Dh0Ideal
    ∧ algebraic_Dh0Ideal_Dh0RefIdeal_pre_dh0_finite (hDh0Ideal := hDh0Ideal) (hDh0RefIdeal := hDh0RefIdeal) (hPre_dh0_finite := hPre_dh0_finite)
    ∧ preserves_RsFf1_RsFf1Ideal
    ∧ algebraic_RsFf1Ideal_RsFf1RefIdeal (hRsFf1Ideal := hRsFf1Ideal) (hRsFf1RefIdeal := hRsFf1RefIdeal) (hPre_rs_ff1_slot := hPre_rs_ff1_slot)
    ∧ preserves_RsFf2_RsFf2Ideal
    ∧ algebraic_RsFf2Ideal_RsFf2RefIdeal (hRsFf2Ideal := hRsFf2Ideal) (hRsFf2RefIdeal := hRsFf2RefIdeal) (hPre_rs_ff2_slot := hPre_rs_ff2_slot)
    ∧ preserves_RsOut_RsOutIdeal
    ∧ algebraic_RsOutIdeal_RsOutRefIdeal (hRsOutIdeal := hRsOutIdeal) (hRsOutRefIdeal := hRsOutRefIdeal) (hPre_rs_out_slot := hPre_rs_out_slot)
    ∧ preserves_RsIn_RsInIdeal
    ∧ algebraic_RsInIdeal_RsInRefIdeal (hRsInIdeal := hRsInIdeal) (hRsInRefIdeal := hRsInRefIdeal) (hPre_rs_inp_slot := hPre_rs_inp_slot)
    ∧ preserves_RsPool_RsPoolIdeal
    ∧ algebraic_RsPoolIdeal_RsPoolRefIdeal (hRsPoolIdeal := hRsPoolIdeal) (hRsPoolRefIdeal := hRsPoolRefIdeal) (hPre_rs_pool_slot := hPre_rs_pool_slot)
-- ==== Pre_dh0_finite.lean ====
abbrev S4096x4096 : Shape := ⟨2, ![4096, 4096]⟩
abbrev S2048x4096 : Shape := ⟨2, ![2048, 4096]⟩
abbrev S4096x2048 : Shape := ⟨2, ![4096, 2048]⟩
abbrev S2048 : Shape := ⟨1, ![2048]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v3 : IVec S_ 1) (main_v7 : IVec S_ 1) (main_v11 : IVec S_ 1) (main_v15 : IVec S_ 1) : IVec S_ 1 :=
  let main_v16 : FVec F S2048 .f32 := Host.absf main_arg4
  let main_cst_6 : FVec F S_ .f32 := constant S_ .f32 0x7F800000#32
  let main_v17 : FVec F S2048 .f32 := broadcastInDim S2048 ![] bcast_S_S2048 main_cst_6
  let main_v18 : IVec S2048 1 := cmpf .olt main_v16 main_v17
  let main_c_7 : IVec S_ 1 := constantI S_ 1 1#1
  let main_v19 : IVec S_ 1 := (fun x v => Host.reduce IntOp.andi x v reducesTo_S2048_S_d0 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x4096 .f32) (main_arg1 : FVec F S2048x4096 .f32) (main_arg2 : FVec F S4096x2048 .f32) (main_arg3 : FVec F S4096x2048 .f32) (main_arg4 : FVec F S2048 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : FVec F S4096x2048 .f32 := Host.absf main_arg2
  let main_cst_2 : FVec F S_ .f32 := constant S_ .f32 0x7F800000#32
  let main_v9 : FVec F S4096x2048 .f32 := broadcastInDim S4096x2048 ![] bcast_S_S4096x2048 main_cst_2
  let main_v10 : IVec S4096x2048 1 := cmpf .olt main_v8 main_v9
  let main_c_3 : IVec S_ 1 := constantI S_ 1 1#1
  let main_v11 : IVec S_ 1 := (fun x v => Host.reduce IntOp.andi x v reducesTo_S4096x2048_S_d0_1 h_S_) main_v10 main_c_3
  let main_v12 : FVec F S4096x2048 .f32 := Host.absf main_arg3
  let main_cst_4 : FVec F S_ .f32 := constant S_ .f32 0x7F800000#32
  let main_v13 : FVec F S4096x2048 .f32 := broadcastInDim S4096x2048 ![] bcast_S_S4096x2048 main_cst_4
  let main_v14 : IVec S4096x2048 1 := cmpf .olt main_v12 main_v13
  let main_c_5 : IVec S_ 1 := constantI S_ 1 1#1
  let main_v15 : IVec S_ 1 := (fun x v => Host.reduce IntOp.andi x v reducesTo_S4096x2048_S_d0_1 h_S_) main_v14 main_c_5
  fn_part1 (F := F) main_arg4 main_v3 main_v7 main_v11 main_v15
-- ==== Pre_dh1_finite.lean ====
abbrev S4096x8192 : Shape := ⟨2, ![4096, 8192]⟩
abbrev S2048x8192 : Shape := ⟨2, ![2048, 8192]⟩
abbrev S4096x2048 : Shape := ⟨2, ![4096, 2048]⟩
abbrev S1x2048 : Shape := ⟨2, ![1, 2048]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x2048 .f32) (main_v3 : IVec S_ 1) (main_v7 : IVec S_ 1) (main_v11 : IVec S_ 1) (main_v15 : IVec S_ 1) : IVec S_ 1 :=
  let main_v16 : FVec F S1x2048 .f32 := Host.absf main_arg4
  let main_cst_6 : FVec F S_ .f32 := constant S_ .f32 0x7F800000#32
  let main_v17 : FVec F S1x2048 .f32 := broadcastInDim S1x2048 ![] bcast_S_S1x2048 main_cst_6
  let main_v18 : IVec S1x2048 1 := cmpf .olt main_v16 main_v17
  let main_c_7 : IVec S_ 1 := constantI S_ 1 1#1
  let main_v19 : IVec S_ 1 := (fun x v => Host.reduce IntOp.andi x v reducesTo_S1x2048_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x8192 .f32) (main_arg1 : FVec F S2048x8192 .f32) (main_arg2 : FVec F S4096x2048 .f32) (main_arg3 : FVec F S4096x2048 .f32) (main_arg4 : FVec F S1x2048 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : FVec F S4096x2048 .f32 := Host.absf main_arg2
  let main_cst_2 : FVec F S_ .f32 := constant S_ .f32 0x7F800000#32
  let main_v9 : FVec F S4096x2048 .f32 := broadcastInDim S4096x2048 ![] bcast_S_S4096x2048 main_cst_2
  let main_v10 : IVec S4096x2048 1 := cmpf .olt main_v8 main_v9
  let main_c_3 : IVec S_ 1 := constantI S_ 1 1#1
  let main_v11 : IVec S_ 1 := (fun x v => Host.reduce IntOp.andi x v reducesTo_S4096x2048_S_d0_1 h_S_) main_v10 main_c_3
  let main_v12 : FVec F S4096x2048 .f32 := Host.absf main_arg3
  let main_cst_4 : FVec F S_ .f32 := constant S_ .f32 0x7F800000#32
  let main_v13 : FVec F S4096x2048 .f32 := broadcastInDim S4096x2048 ![] bcast_S_S4096x2048 main_cst_4
  let main_v14 : IVec S4096x2048 1 := cmpf .olt main_v12 main_v13
  let main_c_5 : IVec S_ 1 := constantI S_ 1 1#1
  let main_v15 : IVec S_ 1 := (fun x v => Host.reduce IntOp.andi x v reducesTo_S4096x2048_S_d0_1 h_S_) main_v14 main_c_5
  fn_part1 (F := F) main_arg4 main_v3 main_v7 main_v11 main_v15
-- ==== Pre_ff2_finite.lean ====
abbrev S4096x8192 : Shape := ⟨2, ![4096, 8192]⟩
abbrev S8192x2048 : Shape := ⟨2, ![8192, 2048]⟩
abbrev S4096x2048 : Shape := ⟨2, ![4096, 2048]⟩
abbrev S1x2048 : Shape := ⟨2, ![1, 2048]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x2048 .f32) (main_arg5 : FVec F S1x2048 .f32) (main_arg6 : FVec F S1x2048 .f32) (main_v3 : IVec S_ 1) (main_v7 : IVec S_ 1) (main_v11 : IVec S_ 1) (main_v15 : IVec S_ 1) : IVec S_ 1 :=
  let main_v16 : FVec F S1x2048 .f32 := Host.absf main_arg4
  let main_cst_6 : FVec F S_ .f32 := constant S_ .f32 0x7F800000#32
  let main_v17 : FVec F S1x2048 .f32 := broadcastInDim S1x2048 ![] bcast_S_S1x2048 main_cst_6
  let main_v18 : IVec S1x2048 1 := cmpf .olt main_v16 main_v17
  let main_c_7 : IVec S_ 1 := constantI S_ 1 1#1
  let main_v19 : IVec S_ 1 := (fun x v => Host.reduce IntOp.andi x v reducesTo_S1x2048_S_d0_1 h_S_) main_v18 main_c_7
  let main_v20 : FVec F S1x2048 .f32 := Host.absf main_arg5
  let main_cst_8 : FVec F S_ .f32 := constant S_ .f32 0x7F800000#32
  let main_v21 : FVec F S1x2048 .f32 := broadcastInDim S1x2048 ![] bcast_S_S1x2048 main_cst_8
  let main_v22 : IVec S1x2048 1 := cmpf .olt main_v20 main_v21
  let main_c_9 : IVec S_ 1 := constantI S_ 1 1#1
  let main_v23 : IVec S_ 1 := (fun x v => Host.reduce IntOp.andi x v reducesTo_S1x2048_S_d0_1 h_S_) main_v22 main_c_9
  let main_v24 : FVec F S1x2048 .f32 := Host.absf main_arg6
  let main_cst_10 : FVec F S_ .f32 := constant S_ .f32 0x7F800000#32
  let main_v25 : FVec F S1x2048 .f32 := broadcastInDim S1x2048 ![] bcast_S_S1x2048 main_cst_10
  let main_v26 : IVec S1x2048 1 := cmpf .olt main_v24 main_v25
  let main_c_11 : IVec S_ 1 := constantI S_ 1 1#1
  let main_v27 : IVec S_ 1 := (fun x v => Host.reduce IntOp.andi x v reducesTo_S1x2048_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S4096x8192 .f32) (main_arg1 : FVec F S8192x2048 .f32) (main_arg2 : FVec F S4096x2048 .f32) (main_arg3 : FVec F S4096x2048 .f32) (main_arg4 : FVec F S1x2048 .f32) (main_arg5 : FVec F S1x2048 .f32) (main_arg6 : FVec F S1x2048 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : FVec F S4096x2048 .f32 := Host.absf main_arg2
  let main_cst_2 : FVec F S_ .f32 := constant S_ .f32 0x7F800000#32
  let main_v9 : FVec F S4096x2048 .f32 := broadcastInDim S4096x2048 ![] bcast_S_S4096x2048 main_cst_2
  let main_v10 : IVec S4096x2048 1 := cmpf .olt main_v8 main_v9
  let main_c_3 : IVec S_ 1 := constantI S_ 1 1#1
  let main_v11 : IVec S_ 1 := (fun x v => Host.reduce IntOp.andi x v reducesTo_S4096x2048_S_d0_1 h_S_) main_v10 main_c_3
  let main_v12 : FVec F S4096x2048 .f32 := Host.absf main_arg3
  let main_cst_4 : FVec F S_ .f32 := constant S_ .f32 0x7F800000#32
  let main_v13 : FVec F S4096x2048 .f32 := broadcastInDim S4096x2048 ![] bcast_S_S4096x2048 main_cst_4
  let main_v14 : IVec S4096x2048 1 := cmpf .olt main_v12 main_v13
  let main_c_5 : IVec S_ 1 := constantI S_ 1 1#1
  let main_v15 : IVec S_ 1 := (fun x v => Host.reduce IntOp.andi x v reducesTo_S4096x2048_S_d0_1 h_S_) main_v14 main_c_5
  fn_part1 (F := F) main_arg4 main_arg5 main_arg6 main_v3 main_v7 main_v11 main_v15
-- ==== Pre_rs_ff1_slot.lean ====
abbrev S4 : Shape := ⟨1, ![4]⟩
abbrev S8x2048x1024 : Shape := ⟨3, ![8, 2048, 1024]⟩
abbrev S4x2048x1024 : Shape := ⟨3, ![4, 2048, 1024]⟩
abbrev S2048x1024 : Shape := ⟨2, ![2048, 1024]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)

variable [Facts]

def fn {F : FTy → Type} [FloatOps F] (main_arg0 : IVec S4 32) (main_arg1 : FVec F S8x2048x1024 .f32) (main_arg2 : FVec F S4x2048x1024 .f32) (main_arg3 : FVec F S4x2048x1024 .bf16) (main_arg4 : FVec F S2048x1024 .f32) (main_arg5 : FVec F S2048x1024 .f32) (main_arg6 : FVec F S2048x1024 .f32) : IVec S1 1 :=
  let main_v0 : IVec S1 32 := (extractStridedSlice S1 ![0] · slices_S4_S1_0) main_arg0
  let main_c : IVec S_ 32 := constantI S_ 32 0#32
  let main_v1 : IVec S1 32 := broadcastInDim S1 ![] bcast_S_S1 main_c
  let main_v2 : IVec S1 1 := cmpi .sge main_v0 main_v1
  let main_c_0 : IVec S_ 32 := constantI S_ 32 8#32
  let main_v3 : IVec S1 32 := broadcastInDim S1 ![] bcast_S_S1 main_c_0
  let main_v4 : IVec S1 1 := cmpi .slt main_v0 main_v3
  let main_v5 : IVec S1 1 := andi main_v2 main_v4
  main_v5
-- ==== Pre_rs_ff2_slot.lean ====
abbrev S4 : Shape := ⟨1, ![4]⟩
abbrev S8x1024x2048 : Shape := ⟨3, ![8, 1024, 2048]⟩
abbrev S4x1024x2048 : Shape := ⟨3, ![4, 1024, 2048]⟩
abbrev S1024x2048 : Shape := ⟨2, ![1024, 2048]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)

variable [Facts]

def fn {F : FTy → Type} [FloatOps F] (main_arg0 : IVec S4 32) (main_arg1 : FVec F S8x1024x2048 .f32) (main_arg2 : FVec F S4x1024x2048 .f32) (main_arg3 : FVec F S4x1024x2048 .bf16) (main_arg4 : FVec F S1024x2048 .f32) (main_arg5 : FVec F S1024x2048 .f32) (main_arg6 : FVec F S1024x2048 .f32) : IVec S1 1 :=
  let main_v0 : IVec S1 32 := (extractStridedSlice S1 ![0] · slices_S4_S1_0) main_arg0
  let main_c : IVec S_ 32 := constantI S_ 32 0#32
  let main_v1 : IVec S1 32 := broadcastInDim S1 ![] bcast_S_S1 main_c
  let main_v2 : IVec S1 1 := cmpi .sge main_v0 main_v1
  let main_c_0 : IVec S_ 32 := constantI S_ 32 8#32
  let main_v3 : IVec S1 32 := broadcastInDim S1 ![] bcast_S_S1 main_c_0
  let main_v4 : IVec S1 1 := cmpi .slt main_v0 main_v3
  let main_v5 : IVec S1 1 := andi main_v2 main_v4
  main_v5
-- ==== Pre_rs_inp_slot.lean ====
abbrev S4 : Shape := ⟨1, ![4]⟩
abbrev S8x2048x512 : Shape := ⟨3, ![8, 2048, 512]⟩
abbrev S4x2048x512 : Shape := ⟨3, ![4, 2048, 512]⟩
abbrev S2048x512 : Shape := ⟨2, ![2048, 512]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)

variable [Facts]

def fn {F : FTy → Type} [FloatOps F] (main_arg0 : IVec S4 32) (main_arg1 : FVec F S8x2048x512 .f32) (main_arg2 : FVec F S4x2048x512 .f32) (main_arg3 : FVec F S4x2048x512 .bf16) (main_arg4 : FVec F S2048x512 .f32) (main_arg5 : FVec F S2048x512 .f32) (main_arg6 : FVec F S2048x512 .f32) : IVec S1 1 :=
  let main_v0 : IVec S1 32 := (extractStridedSlice S1 ![0] · slices_S4_S1_0) main_arg0
  let main_c : IVec S_ 32 := constantI S_ 32 0#32
  let main_v1 : IVec S1 32 := broadcastInDim S1 ![] bcast_S_S1 main_c
  let main_v2 : IVec S1 1 := cmpi .sge main_v0 main_v1
  let main_c_0 : IVec S_ 32 := constantI S_ 32 8#32
  let main_v3 : IVec S1 32 := broadcastInDim S1 ![] bcast_S_S1 main_c_0
  let main_v4 : IVec S1 1 := cmpi .slt main_v0 main_v3
  let main_v5 : IVec S1 1 := andi main_v2 main_v4
  main_v5
-- ==== Pre_rs_out_slot.lean ====
abbrev S4 : Shape := ⟨1, ![4]⟩
abbrev S8x256x2048 : Shape := ⟨3, ![8, 256, 2048]⟩
abbrev S4x256x2048 : Shape := ⟨3, ![4, 256, 2048]⟩
abbrev S256x2048 : Shape := ⟨2, ![256, 2048]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)

variable [Facts]

def fn {F : FTy → Type} [FloatOps F] (main_arg0 : IVec S4 32) (main_arg1 : FVec F S8x256x2048 .f32) (main_arg2 : FVec F S4x256x2048 .f32) (main_arg3 : FVec F S4x256x2048 .bf16) (main_arg4 : FVec F S256x2048 .f32) (main_arg5 : FVec F S256x2048 .f32) (main_arg6 : FVec F S256x2048 .f32) : IVec S1 1 :=
  let main_v0 : IVec S1 32 := (extractStridedSlice S1 ![0] · slices_S4_S1_0) main_arg0
  let main_c : IVec S_ 32 := constantI S_ 32 0#32
  let main_v1 : IVec S1 32 := broadcastInDim S1 ![] bcast_S_S1 main_c
  let main_v2 : IVec S1 1 := cmpi .sge main_v0 main_v1
  let main_c_0 : IVec S_ 32 := constantI S_ 32 8#32
  let main_v3 : IVec S1 32 := broadcastInDim S1 ![] bcast_S_S1 main_c_0
  let main_v4 : IVec S1 1 := cmpi .slt main_v0 main_v3
  let main_v5 : IVec S1 1 := andi main_v2 main_v4
  main_v5
-- ==== Pre_rs_pool_slot.lean ====
abbrev S4 : Shape := ⟨1, ![4]⟩
abbrev S8x128x256 : Shape := ⟨3, ![8, 128, 256]⟩
abbrev S4x128x256 : Shape := ⟨3, ![4, 128, 256]⟩
abbrev S128x256 : Shape := ⟨2, ![128, 256]⟩
abbrev S1 : Shape := ⟨1, ![1]⟩
abbrev S_ : Shape := ⟨0, ![]⟩

class Facts : Prop where
  slices_S4_S1_0 : S4.Slices ![0] S1
  bcast_S_S1 : S_.BroadcastsInDim S1 (![] : Fin 0 → Fin S1.rank)

variable [Facts]

def fn {F : FTy → Type} [FloatOps F] (main_arg0 : IVec S4 32) (main_arg1 : FVec F S8x128x256 .f32) (main_arg2 : FVec F S4x128x256 .f32) (main_arg3 : FVec F S4x128x256 .bf16) (main_arg4 : FVec F S128x256 .f32) (main_arg5 : FVec F S128x256 .f32) (main_arg6 : FVec F S128x256 .f32) : IVec S1 1 :=
  let main_v0 : IVec S1 32 := (extractStridedSlice S1 ![0] · slices_S4_S1_0) main_arg0
  let main_c : IVec S_ 32 := constantI S_ 32 0#32
  let main_v1 : IVec S1 32 := broadcastInDim S1 ![] bcast_S_S1 main_c
  let main_v2 : IVec S1 1 := cmpi .sge main_v0 main_v1
  let main_c_0 : IVec S_ 32 := constantI S_ 32 8#32
  let main_v3 : IVec S1 32 := broadcastInDim S1 ![] bcast_S_S1 main_c_0
  let main_v4 : IVec S1 1 := cmpi .slt main_v0 main_v3
  let main_v5 : IVec S1 1 := andi main_v2 main_v4
  main_v5
-- ==== Kernel.lean ====
abbrev S4096x2048 : Shape := ⟨2, ![4096, 2048]⟩
abbrev S8192x2048 : Shape := ⟨2, ![8192, 2048]⟩
abbrev S4096x8192 : Shape := ⟨2, ![4096, 8192]⟩
abbrev S8192 : Shape := ⟨1, ![8192]⟩
abbrev S1x8192 : Shape := ⟨2, ![1, 8192]⟩
abbrev S8x1024x2048 : Shape := ⟨3, ![8, 1024, 2048]⟩
abbrev S1024x2048 : Shape := ⟨2, ![1024, 2048]⟩
abbrev S1x1024x2048 : Shape := ⟨3, ![1, 1024, 2048]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 12
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S4096x8192, .f32⟩
  | .hbm, ⟨3, _⟩ => ⟨S8192, .f32⟩
  | .hbm, ⟨4, _⟩ => ⟨S1x8192, .f32⟩
  | .hbm, ⟨5, _⟩ => ⟨S4096x8192, .f32⟩
  | .hbm, ⟨6, _⟩ => ⟨S4096x8192, .f32⟩
  | .hbm, ⟨7, _⟩ => ⟨S4096x2048, .bf16⟩
  | .hbm, ⟨8, _⟩ => ⟨S8192x2048, .bf16⟩
  | .hbm, ⟨9, _⟩ => ⟨S8x1024x2048, .bf16⟩
  | .hbm, ⟨10, _⟩ => ⟨S4096x8192, .bf16⟩
  | .hbm, ⟨11, _⟩ => ⟨S1x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 1], ![false, false, false]⟩

def k0_cond1 (i : grid0.Coords) : BitVec 1 :=
  let arg1 : BitVec 32 := BitVec.ofNat 32 (i 1).val
  let c0_i32 : BitVec 32 := 0#32
  let v14 : BitVec 1 := Scalar.cmpi .eq arg1 c0_i32
  let v17 : BitVec 32 := Scalar.extui v14
  let c0_i32_11 : BitVec 32 := 0#32
  let v18 : BitVec 1 := Scalar.cmpi .ne v17 c0_i32_11
  v18

def k0_cond2 (i : grid0.Coords) : BitVec 1 :=
  let arg1 : BitVec 32 := BitVec.ofNat 32 (i 1).val
  let c0_i32 : BitVec 32 := 0#32
  let v14 : BitVec 1 := Scalar.cmpi .eq arg1 c0_i32
  let v_true : BitVec 1 := 1#1
  let v19 : BitVec 1 := Scalar.xori v14 v_true
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== ReferenceIdeal.lean ====
abbrev S4096x2048 : Shape := ⟨2, ![4096, 2048]⟩
abbrev S8192x2048 : Shape := ⟨2, ![8192, 2048]⟩
abbrev S4096x8192 : Shape := ⟨2, ![4096, 8192]⟩
abbrev S8192 : Shape := ⟨1, ![8192]⟩
abbrev S1x8192 : Shape := ⟨2, ![1, 8192]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S4096x8192, .f32⟩
  | .hbm, ⟨3, _⟩ => ⟨S8192, .f32⟩
  | .hbm, ⟨4, _⟩ => ⟨S1x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .i1⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x2048, .f32⟩
  | .hbm, ⟨20, _⟩ => ⟨S4096x8192, .f32⟩
  | .hbm, ⟨21, _⟩ => ⟨S4096x8192, .f32⟩
  | .hbm, ⟨22, _⟩ => ⟨S_, .f32⟩
  | .hbm, ⟨23, _⟩ => ⟨S4096x8192, .f32⟩
  | .hbm, ⟨24, _⟩ => ⟨S4096x8192, .f32⟩
  | .hbm, ⟨25, _⟩ => ⟨S_, .f32⟩
  | .hbm, ⟨26, _⟩ => ⟨S8192, .f32⟩
  | .hbm, ⟨27, _⟩ => ⟨S1x8192, .f32⟩
  | .hbm, ⟨28, _⟩ => ⟨S_, .f32⟩
  | .hbm, ⟨29, _⟩ => ⟨S8192, .f32⟩
  | .hbm, ⟨30, _⟩ => ⟨S4096x8192, .bf16⟩
  | .hbm, ⟨31, _⟩ => ⟨S1x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== Dw2.lean ====
abbrev S4096x8192 : Shape := ⟨2, ![4096, 8192]⟩
abbrev S4096x2048 : Shape := ⟨2, ![4096, 2048]⟩
abbrev S8x1024x2048 : Shape := ⟨3, ![8, 1024, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S4096x8192, .bf16⟩
  | .hbm, ⟨3, _⟩ => ⟨S4096x2048, .bf16⟩
  | .hbm, ⟨4, _⟩ => ⟨S8x1024x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw2RefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩
abbrev S8x1024x2048 : Shape := ⟨3, ![8, 1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S_, .f32⟩
  | .hbm, ⟨3, _⟩ => ⟨S8192x2048, .f32⟩
  | .hbm, ⟨4, _⟩ => ⟨S4096x2048, .f32⟩
  | .hbm, ⟨5, _⟩ => ⟨S2048x8192, .f32⟩
  | .hbm, ⟨6, _⟩ => ⟨S8192x2048, .f32⟩
  | .hbm, ⟨7, _⟩ => ⟨S8x1024x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dw1.lean ====
abbrev S4096x2048 : Shape := ⟨2, ![4096, 2048]⟩
abbrev S4096x8192 : Shape := ⟨2, ![4096, 8192]⟩
abbrev S8x2048x1024 : Shape := ⟨3, ![8, 2048, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S4096x2048, .bf16⟩
  | .hbm, ⟨3, _⟩ => ⟨S4096x8192, .bf16⟩
  | .hbm, ⟨4, _⟩ => ⟨S8x2048x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw1RefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S_, .f32⟩
  | .hbm, ⟨3, _⟩ => ⟨S2048x8192, .f32⟩
  | .hbm, ⟨4, _⟩ => ⟨S4096x8192, .f32⟩
  | .hbm, ⟨5, _⟩ => ⟨S8192x2048, .f32⟩
  | .hbm, ⟨6, _⟩ => ⟨S2048x8192, .f32⟩
  | .hbm, ⟨7, _⟩ => ⟨S2048x8x1024, .f32⟩
  | .hbm, ⟨8, _⟩ => ⟨S8x2048x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwout.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoutRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DmixAtt.lean ====
abbrev S4096x2048 : Shape := ⟨2, ![4096, 2048]⟩
abbrev S2048x2048 : Shape := ⟨2, ![2048, 2048]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmixAttRefIdeal.lean ====
abbrev S4096x2048 : Shape := ⟨2, ![4096, 2048]⟩
abbrev S2048x2048 : Shape := ⟨2, ![2048, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x1024, .f32⟩
  | .hbm, ⟨7, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DmixPool.lean ====
abbrev S4096x2048 : Shape := ⟨2, ![4096, 2048]⟩
abbrev S2048x2048 : Shape := ⟨2, ![2048, 2048]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmixPoolRefIdeal.lean ====
abbrev S4096x2048 : Shape := ⟨2, ![4096, 2048]⟩
abbrev S2048x2048 : Shape := ⟨2, ![2048, 2048]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dwin.lean ====
abbrev S4096x2048 : Shape := ⟨2, ![4096, 2048]⟩
abbrev S4096x4096 : Shape := ⟨2, ![4096, 4096]⟩
abbrev S4096x1024 : Shape := ⟨2, ![4096, 1024]⟩
abbrev S1x4096x1024 : Shape := ⟨3, ![1, 4096, 1024]⟩
abbrev S4x4096x1024 : Shape := ⟨3, ![4, 4096, 1024]⟩
abbrev S8x2048x512 : Shape := ⟨3, ![8, 2048, 512]⟩
abbrev S1x4096x512 : Shape := ⟨3, ![1, 4096, 512]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 14
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096x4096, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S1x4096x1024, .bf16⟩
  | .hbm, ⟨8, _⟩ => ⟨S1x4096x1024, .bf16⟩
  | .hbm, ⟨9, _⟩ => ⟨S1x4096x1024, .bf16⟩
  | .hbm, ⟨10, _⟩ => ⟨S1x4096x1024, .bf16⟩
  | .hbm, ⟨11, _⟩ => ⟨S4x4096x1024, .bf16⟩
  | .hbm, ⟨12, _⟩ => ⟨S4096x2048, .bf16⟩
  | .hbm, ⟨13, _⟩ => ⟨S8x2048x512, .f32⟩
  | .local _ .vmem, ⟨0, _⟩ => ⟨S4096x1024, .bf16⟩
  | .local _ .vmem, ⟨1, _⟩ => ⟨S4096x1024, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1024x512, .f32⟩
  | .local _ .vmem, ⟨5, _⟩ => ⟨S1x1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.addi v16 c3_i32
  let c4_i32 : BitVec 32 := 4#32
  let c0_i32_4 : BitVec 32 := 0#32
  let v18 : BitVec 1 := Scalar.cmpi .eq c4_i32 c0_i32_4
  let c1_i32_5 : BitVec 32 := 1#32
  let v19 : BitVec 32 := Scalar.select v18 c1_i32_5 c4_i32
  let v20 : BitVec 32 := Scalar.remsi v17 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c2_i32_9 : BitVec 32 := 2#32
  let c0_i32_10 : BitVec 32 := 0#32
  let v28 : BitVec 1 := Scalar.cmpi .eq c2_i32_9 c0_i32_10
  let c1_i32_11 : BitVec 32 := 1#32
  let v29 : BitVec 32 := Scalar.select v28 c1_i32_11 c2_i32_9
  let v30 : BitVec 32 := Scalar.remsi arg1 v29
  let c0_i32_12 : BitVec 32 := 0#32
  let v31 : BitVec 1 := Scalar.cmpi .ne v30 c0_i32_12
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let v35 : BitVec 1 := Scalar.andi v34 v31
  let v36 : BitVec 32 := Scalar.addi v30 v29
  let v37 : BitVec 32 := Scalar.select v35 v36 v30
  let c0_i32_15 : BitVec 32 := 0#32
  ![v27.toNat, arg2.toNat, v37.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinRefIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩
abbrev S2048x8x512 : Shape := ⟨3, ![2048, 8, 512]⟩
abbrev S8x2048x512 : Shape := ⟨3, ![8, 2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S_, .f32⟩
  | .hbm, ⟨3, _⟩ => ⟨S2048x4096, .f32⟩
  | .hbm, ⟨4, _⟩ => ⟨S4096x4096, .f32⟩
  | .hbm, ⟨5, _⟩ => ⟨S4096x2048, .f32⟩
  | .hbm, ⟨6, _⟩ => ⟨S2048x4096, .f32⟩
  | .hbm, ⟨7, _⟩ => ⟨S2048x8x512, .f32⟩
  | .hbm, ⟨8, _⟩ => ⟨S8x2048x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Ff1.lean ====
abbrev S4096x2048 : Shape := ⟨2, ![4096, 2048]⟩
abbrev S2048x8192 : Shape := ⟨2, ![2048, 8192]⟩
abbrev S1x8192 : Shape := ⟨2, ![1, 8192]⟩
abbrev S2048x8x1024 : Shape := ⟨3, ![2048, 8, 1024]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x512 : Shape := ⟨3, ![1, 2048, 512]⟩
abbrev S1x512 : Shape := ⟨2, ![1, 512]⟩
abbrev S1024x512 : Shape := ⟨2, ![1024, 512]⟩
abbrev S2048x512 : Shape := ⟨2, ![2048, 512]⟩

abbrev nBuf : Space → Nat
  | .hbm => 9
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S1x8192, .f32⟩
  | .hbm, ⟨3, _⟩ => ⟨S2048x8192, .bf16⟩
  | .hbm, ⟨4, _⟩ => ⟨S2048x8x1024, .bf16⟩
  | .hbm, ⟨5, _⟩ => ⟨S8x2048x1024, .bf16⟩
  | .hbm, ⟨6, _⟩ => ⟨S4096x2048, .bf16⟩
  | .hbm, ⟨7, _⟩ => ⟨S4096x8192, .f32⟩
  | .hbm, ⟨8, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Ff1RefIdeal.lean ====
abbrev S4096x2048 : Shape := ⟨2, ![4096, 2048]⟩
abbrev S2048x8192 : Shape := ⟨2, ![2048, 8192]⟩
abbrev S1x8192 : Shape := ⟨2, ![1, 8192]⟩
abbrev S4096x8192 : Shape := ⟨2, ![4096, 8192]⟩
abbrev S8192 : Shape := ⟨1, ![8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S1x8192, .f32⟩
  | .hbm, ⟨3, _⟩ => ⟨S4096x8192, .f32⟩
  | .hbm, ⟨4, _⟩ => ⟨S8192, .f32⟩
  | .hbm, ⟨5, _⟩ => ⟨S1x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Upool.lean ====
abbrev S4096x2048 : Shape := ⟨2, ![4096, 2048]⟩
abbrev S2048x4096 : Shape := ⟨2, ![2048, 4096]⟩
abbrev S2048x8x512 : Shape := ⟨3, ![2048, 8, 512]⟩
abbrev S8x2048x512 : Shape := ⟨3, ![8, 2048, 512]⟩
abbrev S4096x1024 : Shape := ⟨2, ![4096, 1024]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S2048x4096, .bf16⟩
  | .hbm, ⟨3, _⟩ => ⟨S2048x8x512, .bf16⟩
  | .hbm, ⟨4, _⟩ => ⟨S8x2048x512, .bf16⟩
  | .hbm, ⟨5, _⟩ => ⟨S4096x2048, .bf16⟩
  | .hbm, ⟨6, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpoolRefIdeal.lean ====
abbrev S4096x2048 : Shape := ⟨2, ![4096, 2048]⟩
abbrev S2048x4096 : Shape := ⟨2, ![2048, 4096]⟩
abbrev S4096x4096 : Shape := ⟨2, ![4096, 4096]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x4096, .f32⟩
  | .hbm, ⟨3, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Uqkv.lean ====
abbrev S4096x2048 : Shape := ⟨2, ![4096, 2048]⟩
abbrev S2048x4096 : Shape := ⟨2, ![2048, 4096]⟩
abbrev S2048x8x512 : Shape := ⟨3, ![2048, 8, 512]⟩
abbrev S8x2048x512 : Shape := ⟨3, ![8, 2048, 512]⟩
abbrev S4096x3072 : Shape := ⟨2, ![4096, 3072]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S2048x4096, .bf16⟩
  | .hbm, ⟨3, _⟩ => ⟨S2048x8x512, .bf16⟩
  | .hbm, ⟨4, _⟩ => ⟨S8x2048x512, .bf16⟩
  | .hbm, ⟨5, _⟩ => ⟨S4096x2048, .bf16⟩
  | .hbm, ⟨6, _⟩ => ⟨S4096x3072, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .bf16⟩
  | .local _ .vmem, ⟨5, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqkvRefIdeal.lean ====
abbrev S4096x2048 : Shape := ⟨2, ![4096, 2048]⟩
abbrev S2048x4096 : Shape := ⟨2, ![2048, 4096]⟩
abbrev S4096x4096 : Shape := ⟨2, ![4096, 4096]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x4096, .f32⟩
  | .hbm, ⟨3, _⟩ => ⟨S4096x3072, .f32⟩
  | .hbm, ⟨4, _⟩ => ⟨S4096x3072, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mix.lean ====
abbrev S4096x2048 : Shape := ⟨2, ![4096, 2048]⟩
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .bf16⟩
  | .hbm, ⟨6, _⟩ => ⟨S2048x2048, .bf16⟩
  | .hbm, ⟨7, _⟩ => ⟨S4096x2048, .f32⟩
  | .hbm, ⟨8, _⟩ => ⟨S4096x2048, .f32⟩
  | .hbm, ⟨9, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== MixRefIdeal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S4096 : Shape := ⟨1, ![4096]⟩
abbrev S4096x1 : Shape := ⟨2, ![4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S1x2048, .f32⟩
  | .hbm, ⟨36, _⟩ => ⟨S4096x2048, .f32⟩
  | .hbm, ⟨37, _⟩ => ⟨S4096x2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== LnIn.lean ====
abbrev S4096x2048 : Shape := ⟨2, ![4096, 2048]⟩
abbrev S2048 : Shape := ⟨1, ![2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .bf16⟩
  | .local _ .vmem, ⟨7, _⟩ => ⟨S1024x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnInRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Small.lean ====
abbrev S2048 : Shape := ⟨1, ![2048]⟩
abbrev S1x4x32 : Shape := ⟨3, ![1, 4, 32]⟩
abbrev S1x2048 : Shape := ⟨2, ![1, 2048]⟩
abbrev S1x8192 : Shape := ⟨2, ![1, 8192]⟩
abbrev S_ : Shape := ⟨0, ![]⟩
abbrev S4x2048 : Shape := ⟨2, ![4, 2048]⟩
abbrev S1x128 : Shape := ⟨2, ![1, 128]⟩
abbrev S3x2048 : Shape := ⟨2, ![3, 2048]⟩
abbrev S16x2048 : Shape := ⟨2, ![16, 2048]⟩
abbrev S128 : Shape := ⟨1, ![128]⟩

abbrev nBuf : Space → Nat
  | .hbm => 129
  | .vmem => 7
  | .smem => 0
  | _ => 0

abbrev hbmTy0_0 (i : Nat) : BufTy := match i % 128 with
  | 0 => ⟨S2048, .f32⟩
  | 1 => ⟨S2048, .f32⟩
  | 2 => ⟨S1x4x32, .f32⟩
  | 3 => ⟨S1x2048, .f32⟩
  | 4 => ⟨S1x2048, .f32⟩
  | 5 => ⟨S1x8192, .f32⟩
  | 6 => ⟨S1x2048, .f32⟩
  | 7 => ⟨S1x2048, .f32⟩
  | 8 => ⟨S1x2048, .f32⟩
  | 9 => ⟨S2048, .f32⟩
  | 10 => ⟨S2048, .f32⟩
  | 11 => ⟨S1x4x32, .f32⟩
  | 12 => ⟨S1x2048, .f32⟩
  | 13 => ⟨S1x2048, .f32⟩
  | 14 => ⟨S1x8192, .f32⟩
  | 15 => ⟨S1x2048, .f32⟩
  | 16 => ⟨S1x2048, .f32⟩
  | 17 => ⟨S1x2048, .f32⟩
  | 18 => ⟨S2048, .f32⟩
  | 19 => ⟨S2048, .f32⟩
  | 20 => ⟨S1x4x32, .f32⟩
  | 21 => ⟨S1x2048, .f32⟩
  | 22 => ⟨S1x2048, .f32⟩
  | 23 => ⟨S1x8192, .f32⟩
  | 24 => ⟨S1x2048, .f32⟩
  | 25 => ⟨S1x2048, .f32⟩
  | 26 => ⟨S1x2048, .f32⟩
  | 27 => ⟨S2048, .f32⟩
  | 28 => ⟨S2048, .f32⟩
  | 29 => ⟨S1x4x32, .f32⟩
  | 30 => ⟨S1x2048, .f32⟩
  | 31 => ⟨S1x2048, .f32⟩
  | 32 => ⟨S1x8192, .f32⟩
  | 33 => ⟨S1x2048, .f32⟩
  | 34 => ⟨S1x2048, .f32⟩
  | 35 => ⟨S1x2048, .f32⟩
  | 36 => ⟨S_, .f32⟩
  | 37 => ⟨S1x2048, .f32⟩
  | 38 => ⟨S1x2048, .f32⟩
  | 39 => ⟨S1x2048, .f32⟩
  | 40 => ⟨S4x2048, .f32⟩
  | 41 => ⟨S1x128, .f32⟩
  | 42 => ⟨S_, .i32⟩
  | 43 => ⟨S_, .f32⟩
  | 44 => ⟨S1x2048, .f32⟩
  | 45 => ⟨S_, .f32⟩
  | 46 => ⟨S3x2048, .f32⟩
  | 47 => ⟨S16x2048, .f32⟩
  | 48 => ⟨S_, .f32⟩
  | 49 => ⟨S1x2048, .f32⟩
  | 50 => ⟨S1x2048, .f32⟩
  | 51 => ⟨S1x2048, .f32⟩
  | 52 => ⟨S4x2048, .f32⟩
  | 53 => ⟨S1x128, .f32⟩
  | 54 => ⟨S_, .i32⟩
  | 55 => ⟨S_, .f32⟩
  | 56 => ⟨S1x2048, .f32⟩
  | 57 => ⟨S_, .f32⟩
  | 58 => ⟨S3x2048, .f32⟩
  | 59 => ⟨S16x2048, .f32⟩
  | 60 => ⟨S_, .f32⟩
  | 61 => ⟨S1x2048, .f32⟩
  | 62 => ⟨S1x2048, .f32⟩
  | 63 => ⟨S1x2048, .f32⟩
  | 64 => ⟨S4x2048, .f32⟩
  | 65 => ⟨S1x128, .f32⟩
  | 66 => ⟨S_, .i32⟩
  | 67 => ⟨S_, .f32⟩
  | 68 => ⟨S1x2048, .f32⟩
  | 69 => ⟨S_, .f32⟩
  | 70 => ⟨S3x2048, .f32⟩
  | 71 => ⟨S16x2048, .f32⟩
  | 72 => ⟨S_, .f32⟩
  | 73 => ⟨S1x2048, .f32⟩
  | 74 => ⟨S1x2048, .f32⟩
  | 75 => ⟨S1x2048, .f32⟩
  | 76 => ⟨S4x2048, .f32⟩
  | 77 => ⟨S1x128, .f32⟩
  | 78 => ⟨S_, .i32⟩
  | 79 => ⟨S_, .f32⟩
  | 80 => ⟨S1x2048, .f32⟩
  | 81 => ⟨S_, .f32⟩
  | 82 => ⟨S3x2048, .f32⟩
  | 83 => ⟨S16x2048, .f32⟩
  | 84 => ⟨S16x2048, .f32⟩
  | 85 => ⟨S16x2048, .f32⟩
  | 86 => ⟨S16x2048, .f32⟩
  | 87 => ⟨S1x128, .f32⟩
  | 88 => ⟨S128, .f32⟩
  | 89 => ⟨S1x4x32, .f32⟩
  | 90 => ⟨S1x2048, .f32⟩
  | 91 => ⟨S2048, .f32⟩
  | 92 => ⟨S1x2048, .f32⟩
  | 93 => ⟨S2048, .f32⟩
  | 94 => ⟨S1x2048, .f32⟩
  | 95 => ⟨S1x2048, .f32⟩
  | 96 => ⟨S1x2048, .f32⟩
  | 97 => ⟨S1x2048, .f32⟩
  | 98 => ⟨S1x2048, .f32⟩
  | 99 => ⟨S4x2048, .f32⟩
  | 100 => ⟨S1x8192, .f32⟩
  | 101 => ⟨S1x128, .f32⟩
  | 102 => ⟨S128, .f32⟩
  | 103 => ⟨S1x4x32, .f32⟩
  | 104 => ⟨S1x2048, .f32⟩
  | 105 => ⟨S2048, .f32⟩
  | 106 => ⟨S1x2048, .f32⟩
  | 107 => ⟨S2048, .f32⟩
  | 108 => ⟨S1x2048, .f32⟩
  | 109 => ⟨S1x2048, .f32⟩
  | 110 => ⟨S1x2048, .f32⟩
  | 111 => ⟨S1x2048, .f32⟩
  | 112 => ⟨S1x2048, .f32⟩
  | 113 => ⟨S4x2048, .f32⟩
  | 114 => ⟨S1x8192, .f32⟩
  | 115 => ⟨S1x128, .f32⟩
  | 116 => ⟨S128, .f32⟩
  | 117 => ⟨S1x4x32, .f32⟩
  | 118 => ⟨S1x2048, .f32⟩
  | 119 => ⟨S2048, .f32⟩
  | 120 => ⟨S1x2048, .f32⟩
  | 121 => ⟨S2048, .f32⟩
  | 122 => ⟨S1x2048, .f32⟩
  | 123 => ⟨S1x2048, .f32⟩
  | 124 => ⟨S1x2048, .f32⟩
  | 125 => ⟨S1x2048, .f32⟩
  | 126 => ⟨S1x2048, .f32⟩
  | 127 => ⟨S4x2048, .f32⟩
  | _ => ⟨S2048, .f32⟩

abbrev hbmTy0_1 (i : Nat) : BufTy := match i % 128 with
  | 0 => ⟨S1x8192, .f32⟩
  | _ => ⟨S2048, .f32⟩

abbrev hbmTy (i : Nat) : BufTy := match i / 128 with
  | 0 => hbmTy0_0 i
  | 1 => hbmTy0_1 i
  | _ => ⟨S2048, .f32⟩

abbrev bufTy : (tb : Table) → Fin (tcTables nBuf tb) → BufTy
  | .hbm, ⟨i, _⟩ => hbmTy i
  | .local _ .vmem, ⟨0, _⟩ => ⟨S16x2048, .f32⟩
  | .local _ .vmem, ⟨1, _⟩ => ⟨S16x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S16x2048, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_c : Ref sig .tc := ⟨.hbm, 42, rfl⟩
abbrev main_call0_v0 : Ref sig .tc := ⟨.hbm, 43, rfl⟩
abbrev main_v5 : Ref sig .tc := ⟨.hbm, 44, rfl⟩
abbrev main_cst_0 : Ref sig .tc := ⟨.hbm, 45, rfl⟩
abbrev main_v6 : Ref sig .tc := ⟨.hbm, 46, rfl⟩
abbrev main_v7 : Ref sig .tc := ⟨.hbm, 47, rfl⟩
abbrev main_cst_1 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_c_2 : Ref sig .tc := ⟨.hbm, 54, rfl⟩
abbrev main_call1_v0 : Ref sig .tc := ⟨.hbm, 55, rfl⟩
abbrev main_v13 : Ref sig .tc := ⟨.hbm, 56, rfl⟩
abbrev main_cst_3 : Ref sig .tc := ⟨.hbm, 57, rfl⟩
abbrev main_v14 : Ref sig .tc := ⟨.hbm, 58, rfl⟩
abbrev main_v15 : Ref sig .tc := ⟨.hbm, 59, rfl⟩
abbrev main_cst_4 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_5 : Ref sig .tc := ⟨.hbm, 66, rfl⟩
abbrev main_call2_v0 : Ref sig .tc := ⟨.hbm, 67, rfl⟩
abbrev main_v21 : Ref sig .tc := ⟨.hbm, 68, rfl⟩
abbrev main_cst_6 : Ref sig .tc := ⟨.hbm, 69, rfl⟩
abbrev main_v22 : Ref sig .tc := ⟨.hbm, 70, rfl⟩
abbrev main_v23 : Ref sig .tc := ⟨.hbm, 71, rfl⟩
abbrev main_cst_7 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_c_8 : Ref sig .tc := ⟨.hbm, 78, rfl⟩
abbrev main_call3_v0 : Ref sig .tc := ⟨.hbm, 79, rfl⟩
abbrev main_v29 : Ref sig .tc := ⟨.hbm, 80, rfl⟩
abbrev main_cst_9 : Ref sig .tc := ⟨.hbm, 81, rfl⟩
abbrev main_v30 : Ref sig .tc := ⟨.hbm, 82, rfl⟩
abbrev main_v31 : Ref sig .tc := ⟨.hbm, 83, rfl⟩
abbrev main_v32_0 : Ref sig .tc := ⟨.hbm, 84, rfl⟩
abbrev main_v32_1 : Ref sig .tc := ⟨.hbm, 85, rfl⟩
abbrev main_v32_2 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== SmallRefIdeal.lean ====
abbrev S2048 : Shape := ⟨1, ![2048]⟩
abbrev S1x4x32 : Shape := ⟨3, ![1, 4, 32]⟩
abbrev S1x2048 : Shape := ⟨2, ![1, 2048]⟩
abbrev S1x8192 : Shape := ⟨2, ![1, 8192]⟩
abbrev S_ : Shape := ⟨0, ![]⟩

abbrev nBuf : Space → Nat
  | .hbm => 333
  | .vmem => 0
  | .smem => 0
  | _ => 0

abbrev hbmTy0_0 (i : Nat) : BufTy := match i % 128 with
  | 0 => ⟨S2048, .f32⟩
  | 1 => ⟨S2048, .f32⟩
  | 2 => ⟨S1x4x32, .f32⟩
  | 3 => ⟨S1x2048, .f32⟩
  | 4 => ⟨S1x2048, .f32⟩
  | 5 => ⟨S1x8192, .f32⟩
  | 6 => ⟨S1x2048, .f32⟩
  | 7 => ⟨S1x2048, .f32⟩
  | 8 => ⟨S1x2048, .f32⟩
  | 9 => ⟨S2048, .f32⟩
  | 10 => ⟨S2048, .f32⟩
  | 11 => ⟨S1x4x32, .f32⟩
  | 12 => ⟨S1x2048, .f32⟩
  | 13 => ⟨S1x2048, .f32⟩
  | 14 => ⟨S1x8192, .f32⟩
  | 15 => ⟨S1x2048, .f32⟩
  | 16 => ⟨S1x2048, .f32⟩
  | 17 => ⟨S1x2048, .f32⟩
  | 18 => ⟨S2048, .f32⟩
  | 19 => ⟨S2048, .f32⟩
  | 20 => ⟨S1x4x32, .f32⟩
  | 21 => ⟨S1x2048, .f32⟩
  | 22 => ⟨S1x2048, .f32⟩
  | 23 => ⟨S1x8192, .f32⟩
  | 24 => ⟨S1x2048, .f32⟩
  | 25 => ⟨S1x2048, .f32⟩
  | 26 => ⟨S1x2048, .f32⟩
  | 27 => ⟨S2048, .f32⟩
  | 28 => ⟨S2048, .f32⟩
  | 29 => ⟨S1x4x32, .f32⟩
  | 30 => ⟨S1x2048, .f32⟩
  | 31 => ⟨S1x2048, .f32⟩
  | 32 => ⟨S1x8192, .f32⟩
  | 33 => ⟨S1x2048, .f32⟩
  | 34 => ⟨S1x2048, .f32⟩
  | 35 => ⟨S1x2048, .f32⟩
  | 36 => ⟨S_, .f32⟩
  | 37 => ⟨S2048, .f32⟩
  | 38 => ⟨S2048, .f32⟩
  | 39 => ⟨S_, .f32⟩
  | 40 => ⟨S2048, .f32⟩
  | 41 => ⟨S2048, .f32⟩
  | 42 => ⟨S2048, .f32⟩
  | 43 => ⟨S_, .f32⟩
  | 44 => ⟨S2048, .f32⟩
  | 45 => ⟨S2048, .f32⟩
  | 46 => ⟨S2048, .f32⟩
  | 47 => ⟨S_, .f32⟩
  | 48 => ⟨S2048, .f32⟩
  | 49 => ⟨S2048, .f32⟩
  | 50 => ⟨S2048, .f32⟩
  | 51 => ⟨S_, .f32⟩
  | 52 => ⟨S2048, .f32⟩
  | 53 => ⟨S2048, .f32⟩
  | 54 => ⟨S_, .f32⟩
  | 55 => ⟨S2048, .f32⟩
  | 56 => ⟨S2048, .f32⟩
  | 57 => ⟨S2048, .f32⟩
  | 58 => ⟨S_, .f32⟩
  | 59 => ⟨S2048, .f32⟩
  | 60 => ⟨S2048, .f32⟩
  | 61 => ⟨S2048, .f32⟩
  | 62 => ⟨S_, .f32⟩
  | 63 => ⟨S2048, .f32⟩
  | 64 => ⟨S2048, .f32⟩
  | 65 => ⟨S2048, .f32⟩
  | 66 => ⟨S_, .f32⟩
  | 67 => ⟨S2048, .f32⟩
  | 68 => ⟨S2048, .f32⟩
  | 69 => ⟨S_, .f32⟩
  | 70 => ⟨S2048, .f32⟩
  | 71 => ⟨S2048, .f32⟩
  | 72 => ⟨S_, .f32⟩
  | 73 => ⟨S2048, .f32⟩
  | 74 => ⟨S2048, .f32⟩
  | 75 => ⟨S2048, .f32⟩
  | 76 => ⟨S_, .f32⟩
  | 77 => ⟨S2048, .f32⟩
  | 78 => ⟨S2048, .f32⟩
  | 79 => ⟨S2048, .f32⟩
  | 80 => ⟨S_, .f32⟩
  | 81 => ⟨S2048, .f32⟩
  | 82 => ⟨S2048, .f32⟩
  | 83 => ⟨S2048, .f32⟩
  | 84 => ⟨S_, .f32⟩
  | 85 => ⟨S2048, .f32⟩
  | 86 => ⟨S2048, .f32⟩
  | 87 => ⟨S_, .f32⟩
  | 88 => ⟨S2048, .f32⟩
  | 89 => ⟨S2048, .f32⟩
  | 90 => ⟨S2048, .f32⟩
  | 91 => ⟨S_, .f32⟩
  | 92 => ⟨S2048, .f32⟩
  | 93 => ⟨S2048, .f32⟩
  | 94 => ⟨S2048, .f32⟩
  | 95 => ⟨S_, .f32⟩
  | 96 => ⟨S2048, .f32⟩
  | 97 => ⟨S2048, .f32⟩
  | 98 => ⟨S2048, .f32⟩
  | 99 => ⟨S_, .f32⟩
  | 100 => ⟨S2048, .f32⟩
  | 101 => ⟨S2048, .f32⟩
  | 102 => ⟨S_, .f32⟩
  | 103 => ⟨S1x4x32, .f32⟩
  | 104 => ⟨S1x4x32, .f32⟩
  | 105 => ⟨S_, .f32⟩
  | 106 => ⟨S1x4x32, .f32⟩
  | 107 => ⟨S1x4x32, .f32⟩
  | 108 => ⟨S1x4x32, .f32⟩
  | 109 => ⟨S_, .f32⟩
  | 110 => ⟨S1x4x32, .f32⟩
  | 111 => ⟨S1x4x32, .f32⟩
  | 112 => ⟨S1x4x32, .f32⟩
  | 113 => ⟨S_, .f32⟩
  | 114 => ⟨S1x4x32, .f32⟩
  | 115 => ⟨S1x4x32, .f32⟩
  | 116 => ⟨S1x4x32, .f32⟩
  | 117 => ⟨S_, .f32⟩
  | 118 => ⟨S1x4x32, .f32⟩
  | 119 => ⟨S1x4x32, .f32⟩
  | 120 => ⟨S_, .f32⟩
  | 121 => ⟨S1x4x32, .f32⟩
  | 122 => ⟨S1x4x32, .f32⟩
  | 123 => ⟨S1x4x32, .f32⟩
  | 124 => ⟨S_, .f32⟩
  | 125 => ⟨S1x4x32, .f32⟩
  | 126 => ⟨S1x4x32, .f32⟩
  | 127 => ⟨S1x4x32, .f32⟩
  | _ => ⟨S2048, .f32⟩

abbrev hbmTy0_1 (i : Nat) : BufTy := match i % 128 with
  | 0 => ⟨S_, .f32⟩
  | 1 => ⟨S1x4x32, .f32⟩
  | 2 => ⟨S1x4x32, .f32⟩
  | 3 => ⟨S1x4x32, .f32⟩
  | 4 => ⟨S_, .f32⟩
  | 5 => ⟨S1x4x32, .f32⟩
  | 6 => ⟨S1x4x32, .f32⟩
  | 7 => ⟨S_, .f32⟩
  | 8 => ⟨S1x2048, .f32⟩
  | 9 => ⟨S1x2048, .f32⟩
  | 10 => ⟨S_, .f32⟩
  | 11 => ⟨S1x2048, .f32⟩
  | 12 => ⟨S1x2048, .f32⟩
  | 13 => ⟨S1x2048, .f32⟩
  | 14 => ⟨S_, .f32⟩
  | 15 => ⟨S1x2048, .f32⟩
  | 16 => ⟨S1x2048, .f32⟩
  | 17 => ⟨S1x2048, .f32⟩
  | 18 => ⟨S_, .f32⟩
  | 19 => ⟨S1x2048, .f32⟩
  | 20 => ⟨S1x2048, .f32⟩
  | 21 => ⟨S1x2048, .f32⟩
  | 22 => ⟨S_, .f32⟩
  | 23 => ⟨S1x2048, .f32⟩
  | 24 => ⟨S1x2048, .f32⟩
  | 25 => ⟨S_, .f32⟩
  | 26 => ⟨S1x2048, .f32⟩
  | 27 => ⟨S1x2048, .f32⟩
  | 28 => ⟨S1x2048, .f32⟩
  | 29 => ⟨S_, .f32⟩
  | 30 => ⟨S1x2048, .f32⟩
  | 31 => ⟨S1x2048, .f32⟩
  | 32 => ⟨S1x2048, .f32⟩
  | 33 => ⟨S_, .f32⟩
  | 34 => ⟨S1x2048, .f32⟩
  | 35 => ⟨S1x2048, .f32⟩
  | 36 => ⟨S1x2048, .f32⟩
  | 37 => ⟨S_, .f32⟩
  | 38 => ⟨S1x2048, .f32⟩
  | 39 => ⟨S1x2048, .f32⟩
  | 40 => ⟨S_, .f32⟩
  | 41 => ⟨S1x2048, .f32⟩
  | 42 => ⟨S1x2048, .f32⟩
  | 43 => ⟨S_, .f32⟩
  | 44 => ⟨S1x2048, .f32⟩
  | 45 => ⟨S1x2048, .f32⟩
  | 46 => ⟨S1x2048, .f32⟩
  | 47 => ⟨S_, .f32⟩
  | 48 => ⟨S1x2048, .f32⟩
  | 49 => ⟨S1x2048, .f32⟩
  | 50 => ⟨S1x2048, .f32⟩
  | 51 => ⟨S_, .f32⟩
  | 52 => ⟨S1x2048, .f32⟩
  | 53 => ⟨S1x2048, .f32⟩
  | 54 => ⟨S1x2048, .f32⟩
  | 55 => ⟨S_, .f32⟩
  | 56 => ⟨S1x2048, .f32⟩
  | 57 => ⟨S1x2048, .f32⟩
  | 58 => ⟨S_, .f32⟩
  | 59 => ⟨S1x2048, .f32⟩
  | 60 => ⟨S1x2048, .f32⟩
  | 61 => ⟨S1x2048, .f32⟩
  | 62 => ⟨S_, .f32⟩
  | 63 => ⟨S1x2048, .f32⟩
  | 64 => ⟨S1x2048, .f32⟩
  | 65 => ⟨S1x2048, .f32⟩
  | 66 => ⟨S_, .f32⟩
  | 67 => ⟨S1x2048, .f32⟩
  | 68 => ⟨S1x2048, .f32⟩
  | 69 => ⟨S1x2048, .f32⟩
  | 70 => ⟨S_, .f32⟩
  | 71 => ⟨S1x2048, .f32⟩
  | 72 => ⟨S1x2048, .f32⟩
  | 73 => ⟨S_, .f32⟩
  | 74 => ⟨S1x8192, .f32⟩
  | 75 => ⟨S1x8192, .f32⟩
  | 76 => ⟨S_, .f32⟩
  | 77 => ⟨S1x8192, .f32⟩
  | 78 => ⟨S1x8192, .f32⟩
  | 79 => ⟨S1x8192, .f32⟩
  | 80 => ⟨S_, .f32⟩
  | 81 => ⟨S1x8192, .f32⟩
  | 82 => ⟨S1x8192, .f32⟩
  | 83 => ⟨S1x8192, .f32⟩
  | 84 => ⟨S_, .f32⟩
  | 85 => ⟨S1x8192, .f32⟩
  | 86 => ⟨S1x8192, .f32⟩
  | 87 => ⟨S1x8192, .f32⟩
  | 88 => ⟨S_, .f32⟩
  | 89 => ⟨S1x8192, .f32⟩
  | 90 => ⟨S1x8192, .f32⟩
  | 91 => ⟨S_, .f32⟩
  | 92 => ⟨S1x8192, .f32⟩
  | 93 => ⟨S1x8192, .f32⟩
  | 94 => ⟨S1x8192, .f32⟩
  | 95 => ⟨S_, .f32⟩
  | 96 => ⟨S1x8192, .f32⟩
  | 97 => ⟨S1x8192, .f32⟩
  | 98 => ⟨S1x8192, .f32⟩
  | 99 => ⟨S_, .f32⟩
  | 100 => ⟨S1x8192, .f32⟩
  | 101 => ⟨S1x8192, .f32⟩
  | 102 => ⟨S1x8192, .f32⟩
  | 103 => ⟨S_, .f32⟩
  | 104 => ⟨S1x8192, .f32⟩
  | 105 => ⟨S1x8192, .f32⟩
  | 106 => ⟨S_, .f32⟩
  | 107 => ⟨S1x2048, .f32⟩
  | 108 => ⟨S1x2048, .f32⟩
  | 109 => ⟨S_, .f32⟩
  | 110 => ⟨S1x2048, .f32⟩
  | 111 => ⟨S1x2048, .f32⟩
  | 112 => ⟨S1x2048, .f32⟩
  | 113 => ⟨S_, .f32⟩
  | 114 => ⟨S1x2048, .f32⟩
  | 115 => ⟨S1x2048, .f32⟩
  | 116 => ⟨S1x2048, .f32⟩
  | 117 => ⟨S_, .f32⟩
  | 118 => ⟨S1x2048, .f32⟩
  | 119 => ⟨S1x2048, .f32⟩
  | 120 => ⟨S1x2048, .f32⟩
  | 121 => ⟨S_, .f32⟩
  | 122 => ⟨S1x2048, .f32⟩
  | 123 => ⟨S1x2048, .f32⟩
  | 124 => ⟨S_, .f32⟩
  | 125 => ⟨S1x2048, .f32⟩
  | 126 => ⟨S1x2048, .f32⟩
  | 127 => ⟨S1x2048, .f32⟩
  | _ => ⟨S2048, .f32⟩

abbrev hbmTy0_2 (i : Nat) : BufTy := match i % 128 with
  | 0 => ⟨S_, .f32⟩
  | 1 => ⟨S1x2048, .f32⟩
  | 2 => ⟨S1x2048, .f32⟩
  | 3 => ⟨S1x2048, .f32⟩
  | 4 => ⟨S_, .f32⟩
  | 5 => ⟨S1x2048, .f32⟩
  | 6 => ⟨S1x2048, .f32⟩
  | 7 => ⟨S1x2048, .f32⟩
  | 8 => ⟨S_, .f32⟩
  | 9 => ⟨S1x2048, .f32⟩
  | 10 => ⟨S1x2048, .f32⟩
  | 11 => ⟨S_, .f32⟩
  | 12 => ⟨S1x2048, .f32⟩
  | 13 => ⟨S1x2048, .f32⟩
  | 14 => ⟨S_, .f32⟩
  | 15 => ⟨S1x2048, .f32⟩
  | 16 => ⟨S1x2048, .f32⟩
  | 17 => ⟨S1x2048, .f32⟩
  | 18 => ⟨S_, .f32⟩
  | 19 => ⟨S1x2048, .f32⟩
  | 20 => ⟨S1x2048, .f32⟩
  | 21 => ⟨S1x2048, .f32⟩
  | 22 => ⟨S_, .f32⟩
  | 23 => ⟨S1x2048, .f32⟩
  | 24 => ⟨S1x2048, .f32⟩
  | 25 => ⟨S1x2048, .f32⟩
  | 26 => ⟨S_, .f32⟩
  | 27 => ⟨S1x2048, .f32⟩
  | 28 => ⟨S1x2048, .f32⟩
  | 29 => ⟨S_, .f32⟩
  | 30 => ⟨S1x2048, .f32⟩
  | 31 => ⟨S1x2048, .f32⟩
  | 32 => ⟨S1x2048, .f32⟩
  | 33 => ⟨S_, .f32⟩
  | 34 => ⟨S1x2048, .f32⟩
  | 35 => ⟨S1x2048, .f32⟩
  | 36 => ⟨S1x2048, .f32⟩
  | 37 => ⟨S_, .f32⟩
  | 38 => ⟨S1x2048, .f32⟩
  | 39 => ⟨S1x2048, .f32⟩
  | 40 => ⟨S1x2048, .f32⟩
  | 41 => ⟨S_, .f32⟩
  | 42 => ⟨S1x2048, .f32⟩
  | 43 => ⟨S1x2048, .f32⟩
  | 44 => ⟨S_, .f32⟩
  | 45 => ⟨S1x2048, .f32⟩
  | 46 => ⟨S1x2048, .f32⟩
  | 47 => ⟨S_, .f32⟩
  | 48 => ⟨S1x2048, .f32⟩
  | 49 => ⟨S1x2048, .f32⟩
  | 50 => ⟨S1x2048, .f32⟩
  | 51 => ⟨S_, .f32⟩
  | 52 => ⟨S1x2048, .f32⟩
  | 53 => ⟨S1x2048, .f32⟩
  | 54 => ⟨S1x2048, .f32⟩
  | 55 => ⟨S_, .f32⟩
  | 56 => ⟨S1x2048, .f32⟩
  | 57 => ⟨S1x2048, .f32⟩
  | 58 => ⟨S1x2048, .f32⟩
  | 59 => ⟨S_, .f32⟩
  | 60 => ⟨S1x2048, .f32⟩
  | 61 => ⟨S1x2048, .f32⟩
  | 62 => ⟨S_, .f32⟩
  | 63 => ⟨S1x2048, .f32⟩
  | 64 => ⟨S1x2048, .f32⟩
  | 65 => ⟨S1x2048, .f32⟩
  | 66 => ⟨S_, .f32⟩
  | 67 => ⟨S1x2048, .f32⟩
  | 68 => ⟨S1x2048, .f32⟩
  | 69 => ⟨S1x2048, .f32⟩
  | 70 => ⟨S_, .f32⟩
  | 71 => ⟨S1x2048, .f32⟩
  | 72 => ⟨S1x2048, .f32⟩
  | 73 => ⟨S1x2048, .f32⟩
  | 74 => ⟨S_, .f32⟩
  | 75 => ⟨S1x2048, .f32⟩
  | 76 => ⟨S1x2048, .f32⟩
  | _ => ⟨S2048, .f32⟩

abbrev hbmTy (i : Nat) : BufTy := match i / 128 with
  | 0 => hbmTy0_0 i
  | 1 => hbmTy0_1 i
  | 2 => hbmTy0_2 i
  | _ => ⟨S2048, .f32⟩

abbrev bufTy : (tb : Table) → Fin (tcTables nBuf tb) → BufTy
  | .hbm, ⟨i, _⟩ => hbmTy i
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_cst_9 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_11 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_12 : Ref sig .tc := ⟨.hbm, 84, rfl⟩
abbrev main_v35 : Ref sig .tc := ⟨.hbm, 85, rfl⟩
abbrev main_v36 : Ref sig .tc := ⟨.hbm, 86, rfl⟩
abbrev main_cst_13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_14 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_16 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_20 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_21 : Ref sig .tc := ⟨.hbm, 117, rfl⟩
abbrev main_v59 : Ref sig .tc := ⟨.hbm, 118, rfl⟩
abbrev main_v60 : Ref sig .tc := ⟨.hbm, 119, rfl⟩
abbrev main_cst_22 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_23 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_25 : Ref sig .tc := ⟨.hbm, 132, rfl⟩
abbrev main_v70 : Ref sig .tc := ⟨.hbm, 133, rfl⟩
abbrev main_v71 : Ref sig .tc := ⟨.hbm, 134, rfl⟩
abbrev main_cst_26 : Ref sig .tc := ⟨.hbm, 135, rfl⟩
abbrev main_v72 : Ref sig .tc := ⟨.hbm, 136, rfl⟩
abbrev main_v73 : Ref sig .tc := ⟨.hbm, 137, rfl⟩
abbrev main_cst_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_29 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_30 : Ref sig .tc := ⟨.hbm, 150, rfl⟩
abbrev main_v83 : Ref sig .tc := ⟨.hbm, 151, rfl⟩
abbrev main_v84 : Ref sig .tc := ⟨.hbm, 152, rfl⟩
abbrev main_cst_31 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_32 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_33 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_34 : Ref sig .tc := ⟨.hbm, 165, rfl⟩
abbrev main_v94 : Ref sig .tc := ⟨.hbm, 166, rfl⟩
abbrev main_v95 : Ref sig .tc := ⟨.hbm, 167, rfl⟩
abbrev main_cst_35 : Ref sig .tc := ⟨.hbm, 168, rfl⟩
abbrev main_v96 : Ref sig .tc := ⟨.hbm, 169, rfl⟩
abbrev main_v97 : Ref sig .tc := ⟨.hbm, 170, rfl⟩
abbrev main_cst_36 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_37 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_38 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_39 : Ref sig .tc := ⟨.hbm, 183, rfl⟩
abbrev main_v107 : Ref sig .tc := ⟨.hbm, 184, rfl⟩
abbrev main_v108 : Ref sig .tc := ⟨.hbm, 185, rfl⟩
abbrev main_cst_40 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_41 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_42 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_43 : Ref sig .tc := ⟨.hbm, 198, rfl⟩
abbrev main_v118 : Ref sig .tc := ⟨.hbm, 199, rfl⟩
abbrev main_v119 : Ref sig .tc := ⟨.hbm, 200, rfl⟩
abbrev main_cst_44 : Ref sig .tc := ⟨.hbm, 201, rfl⟩
abbrev main_v120 : Ref sig .tc := ⟨.hbm, 202, rfl⟩
abbrev main_v121 : Ref sig .tc := ⟨.hbm, 203, rfl⟩
abbrev main_cst_45 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_46 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_47 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_48 : Ref sig .tc := ⟨.hbm, 216, rfl⟩
abbrev main_v131 : Ref sig .tc := ⟨.hbm, 217, rfl⟩
abbrev main_v132 : Ref sig .tc := ⟨.hbm, 218, rfl⟩
abbrev main_cst_49 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_cst_50 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_51 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_52 : Ref sig .tc := ⟨.hbm, 231, rfl⟩
abbrev main_v142 : Ref sig .tc := ⟨.hbm, 232, rfl⟩
abbrev main_v143 : Ref sig .tc := ⟨.hbm, 233, rfl⟩
abbrev main_cst_53 : Ref sig .tc := ⟨.hbm, 234, rfl⟩
abbrev main_v144 : Ref sig .tc := ⟨.hbm, 235, rfl⟩
abbrev main_v145 : Ref sig .tc := ⟨.hbm, 236, rfl⟩
abbrev main_cst_54 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_55 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_56 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_57 : Ref sig .tc := ⟨.hbm, 249, rfl⟩
abbrev main_v155 : Ref sig .tc := ⟨.hbm, 250, rfl⟩
abbrev main_v156 : Ref sig .tc := ⟨.hbm, 251, rfl⟩
abbrev main_cst_58 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_59 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_60 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_61 : Ref sig .tc := ⟨.hbm, 264, rfl⟩
abbrev main_v166 : Ref sig .tc := ⟨.hbm, 265, rfl⟩
abbrev main_v167 : Ref sig .tc := ⟨.hbm, 266, rfl⟩
abbrev main_cst_62 : Ref sig .tc := ⟨.hbm, 267, rfl⟩
abbrev main_v168 : Ref sig .tc := ⟨.hbm, 268, rfl⟩
abbrev main_v169 : Ref sig .tc := ⟨.hbm, 269, rfl⟩
abbrev main_cst_63 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_cst_64 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_65 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_cst_66 : Ref sig .tc := ⟨.hbm, 282, rfl⟩
abbrev main_v179 : Ref sig .tc := ⟨.hbm, 283, rfl⟩
abbrev main_v180 : Ref sig .tc := ⟨.hbm, 284, rfl⟩
abbrev main_cst_67 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_cst_68 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_69 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_70 : Ref sig .tc := ⟨.hbm, 297, rfl⟩
abbrev main_v190 : Ref sig .tc := ⟨.hbm, 298, rfl⟩
abbrev main_v191 : Ref sig .tc := ⟨.hbm, 299, rfl⟩
abbrev main_cst_71 : Ref sig .tc := ⟨.hbm, 300, rfl⟩
abbrev main_v192 : Ref sig .tc := ⟨.hbm, 301, rfl⟩
abbrev main_v193 : Ref sig .tc := ⟨.hbm, 302, rfl⟩
abbrev main_cst_72 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_73 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_74 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_75 : Ref sig .tc := ⟨.hbm, 315, rfl⟩
abbrev main_v203 : Ref sig .tc := ⟨.hbm, 316, rfl⟩
abbrev main_v204 : Ref sig .tc := ⟨.hbm, 317, rfl⟩
abbrev main_cst_76 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_77 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_78 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_cst_79 : Ref sig .tc := ⟨.hbm, 330, rfl⟩
abbrev main_v214 : Ref sig .tc := ⟨.hbm, 331, rfl⟩
abbrev main_v215 : Ref sig .tc := ⟨.hbm, 332, rfl⟩

abbrev nD : Nat := 1
abbrev τ : Topo := Topo.v7x

variable {F : FTy → Type} [FloatOps F]
-- ==== Ff2.lean ====
abbrev S4096x8192 : Shape := ⟨2, ![4096, 8192]⟩
abbrev S8192x2048 : Shape := ⟨2, ![8192, 2048]⟩
abbrev S4096x2048 : Shape := ⟨2, ![4096, 2048]⟩
abbrev S1x2048 : Shape := ⟨2, ![1, 2048]⟩
abbrev S8x1024x2048 : Shape := ⟨3, ![8, 1024, 2048]⟩
abbrev S512x1024 : Shape := ⟨2, ![512, 1024]⟩
abbrev S1x1024x2048 : Shape := ⟨3, ![1, 1024, 2048]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩
abbrev S2048 : Shape := ⟨1, ![2048]⟩

abbrev nBuf : Space → Nat
  | .hbm => 16
  | .vmem => 20
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x8192, .bf16⟩
  | .hbm, ⟨8, _⟩ => ⟨S8192x2048, .bf16⟩
  | .hbm, ⟨9, _⟩ => ⟨S8x1024x2048, .bf16⟩
  | .hbm, ⟨10, _⟩ => ⟨S4096x2048, .f32⟩
  | .hbm, ⟨11, _⟩ => ⟨S4096x2048, .bf16⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S512x2048, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c0_i32_12 : BitVec 32 := 0#32
  let v17 : BitVec 1 := Scalar.cmpi .eq arg0 c0_i32_12
  let v78 : BitVec 32 := Scalar.extui v17
  let c0_i32_42 : BitVec 32 := 0#32
  let v79 : BitVec 1 := Scalar.cmpi .ne v78 c0_i32_42
  v79

def k0_cond4 (i : grid0.Coords) : BitVec 1 :=
  let arg0 : BitVec 32 := BitVec.ofNat 32 (i 0).val
  let c0_i32_12 : BitVec 32 := 0#32
  let v17 : BitVec 1 := Scalar.cmpi .eq arg0 c0_i32_12
  let v_true : BitVec 1 := 1#1
  let v80 : BitVec 1 := Scalar.xori v17 v_true
  let v81 : BitVec 32 := Scalar.extui v80
  let c0_i32_43 : BitVec 32 := 0#32
  let v82 : BitVec 1 := Scalar.cmpi .ne v81 c0_i32_43
  v82

def k0_cond5 (i : grid0.Coords) : BitVec 1 :=
  let arg0 : BitVec 32 := BitVec.ofNat 32 (i 0).val
  let c0_i32_12 : BitVec 32 := 0#32
  let v17 : BitVec 1 := Scalar.cmpi .eq arg0 c0_i32_12
  let v83 : BitVec 32 := Scalar.extui v17
  let c0_i32_44 : BitVec 32 := 0#32
  let v84 : BitVec 1 := Scalar.cmpi .ne v83 c0_i32_44
  v84

def k0_cond6 (i : grid0.Coords) : BitVec 1 :=
  let arg0 : BitVec 32 := BitVec.ofNat 32 (i 0).val
  let c0_i32_12 : BitVec 32 := 0#32
  let v17 : BitVec 1 := Scalar.cmpi .eq arg0 c0_i32_12
  let true_45 : BitVec 1 := 1#1
  let v85 : BitVec 1 := Scalar.xori v17 true_45
  let v86 : BitVec 32 := Scalar.extui v85
  let c0_i32_46 : BitVec 32 := 0#32
  let v87 : BitVec 1 := Scalar.cmpi .ne v86 c0_i32_46
  v87

def k0_cond7 (i : grid0.Coords) : BitVec 1 :=
  let arg0 : BitVec 32 := BitVec.ofNat 32 (i 0).val
  let c0_i32_12 : BitVec 32 := 0#32
  let v17 : BitVec 1 := Scalar.cmpi .eq arg0 c0_i32_12
  let v90 : BitVec 32 := Scalar.extui v17
  let c0_i32_48 : BitVec 32 := 0#32
  let v91 : BitVec 1 := Scalar.cmpi .ne v90 c0_i32_48
  v91

def k0_cond8 (i : grid0.Coords) : BitVec 1 :=
  let arg0 : BitVec 32 := BitVec.ofNat 32 (i 0).val
  let c0_i32_12 : BitVec 32 := 0#32
  let v17 : BitVec 1 := Scalar.cmpi .eq arg0 c0_i32_12
  let true_49 : BitVec 1 := 1#1
  let v92 : BitVec 1 := Scalar.xori v17 true_49
  let v93 : BitVec 32 := Scalar.extui v92
  let c0_i32_50 : BitVec 32 := 0#32
  let v94 : BitVec 1 := Scalar.cmpi .ne v93 c0_i32_50
  v94

def k0_cond9 (i : grid0.Coords) : BitVec 1 :=
  let arg0 : BitVec 32 := BitVec.ofNat 32 (i 0).val
  let c0_i32_12 : BitVec 32 := 0#32
  let v17 : BitVec 1 := Scalar.cmpi .eq arg0 c0_i32_12
  let v100 : BitVec 32 := Scalar.extui v17
  let c0_i32_53 : BitVec 32 := 0#32
  let v101 : BitVec 1 := Scalar.cmpi .ne v100 c0_i32_53
  v101

def k0_cond10 (i : grid0.Coords) : BitVec 1 :=
  let arg0 : BitVec 32 := BitVec.ofNat 32 (i 0).val
  let c0_i32_12 : BitVec 32 := 0#32
  let v17 : BitVec 1 := Scalar.cmpi .eq arg0 c0_i32_12
  let true_54 : BitVec 1 := 1#1
  let v102 : BitVec 1 := Scalar.xori v17 true_54
  let v103 : BitVec 32 := Scalar.extui v102
  let c0_i32_55 : BitVec 32 := 0#32
  let v104 : BitVec 1 := Scalar.cmpi .ne v103 c0_i32_55
  v104

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]
-- ==== Ff2RefIdeal.lean ====
abbrev S4096x8192 : Shape := ⟨2, ![4096, 8192]⟩
abbrev S8192x2048 : Shape := ⟨2, ![8192, 2048]⟩
abbrev S4096x2048 : Shape := ⟨2, ![4096, 2048]⟩
abbrev S1x2048 : Shape := ⟨2, ![1, 2048]⟩
abbrev S_ : Shape := ⟨0, ![]⟩
abbrev S2048 : Shape := ⟨1, ![2048]⟩
abbrev S4096 : Shape := ⟨1, ![4096]⟩
abbrev S4096x1 : Shape := ⟨2, ![4096, 1]⟩

abbrev nBuf : Space → Nat
  | .hbm => 169
  | .vmem => 0
  | .smem => 0
  | _ => 0

abbrev hbmTy0_0 (i : Nat) : BufTy := match i % 128 with
  | 0 => ⟨S4096x8192, .f32⟩
  | 1 => ⟨S8192x2048, .f32⟩
  | 2 => ⟨S4096x2048, .f32⟩
  | 3 => ⟨S4096x2048, .f32⟩
  | 4 => ⟨S1x2048, .f32⟩
  | 5 => ⟨S1x2048, .f32⟩
  | 6 => ⟨S1x2048, .f32⟩
  | 7 => ⟨S4096x2048, .f32⟩
  | 8 => ⟨S_, .f32⟩
  | 9 => ⟨S4096x2048, .f32⟩
  | 10 => ⟨S4096x2048, .f32⟩
  | 11 => ⟨S4096x2048, .f32⟩
  | 12 => ⟨S4096x2048, .f32⟩
  | 13 => ⟨S4096x2048, .f32⟩
  | 14 => ⟨S2048, .f32⟩
  | 15 => ⟨S2048, .f32⟩
  | 16 => ⟨S_, .f32⟩
  | 17 => ⟨S4096, .f32⟩
  | 18 => ⟨S4096x1, .f32⟩
  | 19 => ⟨S_, .f32⟩
  | 20 => ⟨S4096x1, .f32⟩
  | 21 => ⟨S4096x1, .f32⟩
  | 22 => ⟨S4096x2048, .f32⟩
  | 23 => ⟨S4096x2048, .f32⟩
  | 24 => ⟨S4096x2048, .f32⟩
  | 25 => ⟨S_, .f32⟩
  | 26 => ⟨S4096x2048, .f32⟩
  | 27 => ⟨S4096x2048, .f32⟩
  | 28 => ⟨S_, .f32⟩
  | 29 => ⟨S4096, .f32⟩
  | 30 => ⟨S4096x1, .f32⟩
  | 31 => ⟨S_, .f32⟩
  | 32 => ⟨S4096x1, .f32⟩
  | 33 => ⟨S4096x1, .f32⟩
  | 34 => ⟨S4096x2048, .f32⟩
  | 35 => ⟨S4096x2048, .f32⟩
  | 36 => ⟨S_, .f32⟩
  | 37 => ⟨S4096x1, .f32⟩
  | 38 => ⟨S4096x1, .f32⟩
  | 39 => ⟨S4096x1, .f32⟩
  | 40 => ⟨S4096x1, .f32⟩
  | 41 => ⟨S_, .f32⟩
  | 42 => ⟨S4096x1, .f32⟩
  | 43 => ⟨S4096x1, .f32⟩
  | 44 => ⟨S4096x2048, .f32⟩
  | 45 => ⟨S4096x2048, .f32⟩
  | 46 => ⟨S1x2048, .f32⟩
  | 47 => ⟨S4096x2048, .f32⟩
  | 48 => ⟨S4096x2048, .f32⟩
  | 49 => ⟨S1x2048, .f32⟩
  | 50 => ⟨S4096x2048, .f32⟩
  | 51 => ⟨S4096x2048, .f32⟩
  | 52 => ⟨S4096x2048, .f32⟩
  | 53 => ⟨S4096x2048, .f32⟩
  | 54 => ⟨S_, .f32⟩
  | 55 => ⟨S4096x2048, .f32⟩
  | 56 => ⟨S4096x2048, .f32⟩
  | 57 => ⟨S_, .f32⟩
  | 58 => ⟨S4096, .f32⟩
  | 59 => ⟨S_, .f32⟩
  | 60 => ⟨S4096, .f32⟩
  | 61 => ⟨S4096, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S4096, .f32⟩
  | 70 => ⟨S_, .f32⟩
  | 71 => ⟨S4096, .f32⟩
  | 72 => ⟨S4096, .f32⟩
  | 73 => ⟨S4096x2048, .f32⟩
  | 74 => ⟨S4096x2048, .f32⟩
  | 75 => ⟨S_, .f32⟩
  | 76 => ⟨S2048, .f32⟩
  | 77 => ⟨S1x2048, .f32⟩
  | 78 => ⟨S_, .f32⟩
  | 79 => ⟨S2048, .f32⟩
  | 80 => ⟨S4096x2048, .f32⟩
  | 81 => ⟨S_, .f32⟩
  | 82 => ⟨S2048, .f32⟩
  | 83 => ⟨S1x2048, .f32⟩
  | 84 => ⟨S4096x2048, .f32⟩
  | 85 => ⟨S4096x2048, .f32⟩
  | 86 => ⟨S_, .f32⟩
  | 87 => ⟨S2048, .f32⟩
  | 88 => ⟨S4096x2048, .f32⟩
  | 89 => ⟨S_, .f32⟩
  | 90 => ⟨S4096, .f32⟩
  | 91 => ⟨S4096x1, .f32⟩
  | 92 => ⟨S4096x2048, .f32⟩
  | 93 => ⟨S4096x2048, .f32⟩
  | 94 => ⟨S4096x1, .f32⟩
  | 95 => ⟨S4096x2048, .f32⟩
  | 96 => ⟨S_, .f32⟩
  | 97 => ⟨S4096, .f32⟩
  | 98 => ⟨S4096x1, .f32⟩
  | 99 => ⟨S_, .f32⟩
  | 100 => ⟨S4096x1, .f32⟩
  | 101 => ⟨S4096x1, .f32⟩
  | 102 => ⟨S_, .f32⟩
  | 103 => ⟨S4096, .f32⟩
  | 104 => ⟨S4096x2048, .f32⟩
  | 105 => ⟨S4096x2048, .f32⟩
  | 106 => ⟨S4096x2048, .f32⟩
  | 107 => ⟨S_, .f32⟩
  | 108 => ⟨S4096, .f32⟩
  | 109 => ⟨S4096x1, .f32⟩
  | 110 => ⟨S4096x2048, .f32⟩
  | 111 => ⟨S4096x1, .f32⟩
  | 112 => ⟨S_, .f32⟩
  | 113 => ⟨S4096x1, .f32⟩
  | 114 => ⟨S4096x1, .f32⟩
  | 115 => ⟨S_, .f32⟩
  | 116 => ⟨S4096, .f32⟩
  | 117 => ⟨S4096x2048, .f32⟩
  | 118 => ⟨S4096x2048, .f32⟩
  | 119 => ⟨S1x2048, .f32⟩
  | 120 => ⟨S1x2048, .f32⟩
  | 121 => ⟨S4096x2048, .f32⟩
  | 122 => ⟨S4096x2048, .f32⟩
  | 123 => ⟨S_, .f32⟩
  | 124 => ⟨S2048, .f32⟩
  | 125 => ⟨S1x2048, .f32⟩
  | 126 => ⟨S2048, .f32⟩
  | 127 => ⟨S2048, .f32⟩
  | _ => ⟨S4096x8192, .f32⟩

abbrev hbmTy0_1 (i : Nat) : BufTy := match i % 128 with
  | 0 => ⟨S_, .f32⟩
  | 1 => ⟨S4096, .f32⟩
  | 2 => ⟨S4096x1, .f32⟩
  | 3 => ⟨S_, .f32⟩
  | 4 => ⟨S4096x1, .f32⟩
  | 5 => ⟨S4096x1, .f32⟩
  | 6 => ⟨S4096x2048, .f32⟩
  | 7 => ⟨S4096x2048, .f32⟩
  | 8 => ⟨S4096x2048, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S4096x2048, .f32⟩
  | 16 => ⟨S4096x2048, .f32⟩
  | 17 => ⟨S_, .f32⟩
  | 18 => ⟨S4096x1, .f32⟩
  | 19 => ⟨S4096x1, .f32⟩
  | 20 => ⟨S4096x1, .f32⟩
  | 21 => ⟨S4096x2048, .f32⟩
  | 22 => ⟨S4096x2048, .f32⟩
  | 23 => ⟨S1x2048, .f32⟩
  | 24 => ⟨S4096x2048, .f32⟩
  | 25 => ⟨S4096x2048, .f32⟩
  | 26 => ⟨S1x2048, .f32⟩
  | 27 => ⟨S4096x2048, .f32⟩
  | 28 => ⟨S4096x2048, .f32⟩
  | 29 => ⟨S4096x2048, .f32⟩
  | 30 => ⟨S4096x2048, .f32⟩
  | 31 => ⟨S_, .f32⟩
  | 32 => ⟨S2048, .f32⟩
  | 33 => ⟨S1x2048, .f32⟩
  | 34 => ⟨S_, .f32⟩
  | 35 => ⟨S1x2048, .f32⟩
  | 36 => ⟨S1x2048, .f32⟩
  | 37 => ⟨S_, .f32⟩
  | 38 => ⟨S1x2048, .f32⟩
  | 39 => ⟨S1x2048, .f32⟩
  | 40 => ⟨S4096x2048, .bf16⟩
  | _ => ⟨S4096x8192, .f32⟩

abbrev hbmTy (i : Nat) : BufTy := match i / 128 with
  | 0 => hbmTy0_0 i
  | 1 => hbmTy0_1 i
  | _ => ⟨S4096x8192, .f32⟩

abbrev bufTy : (tb : Table) → Fin (tcTables nBuf tb) → BufTy
  | .hbm, ⟨i, _⟩ => hbmTy i
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_cst_12 : Ref sig .tc := ⟨.hbm, 66, rfl⟩
abbrev main_cst_13 : Ref sig .tc := ⟨.hbm, 67, rfl⟩
abbrev main_v46 : Ref sig .tc := ⟨.hbm, 68, rfl⟩
abbrev main_v47 : Ref sig .tc := ⟨.hbm, 69, rfl⟩
abbrev main_cst_14 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_15 : Ref sig .tc := ⟨.hbm, 75, rfl⟩
abbrev main_v52 : Ref sig .tc := ⟨.hbm, 76, rfl⟩
abbrev main_v53 : Ref sig .tc := ⟨.hbm, 77, rfl⟩
abbrev main_cst_16 : Ref sig .tc := ⟨.hbm, 78, rfl⟩
abbrev main_v54 : Ref sig .tc := ⟨.hbm, 79, rfl⟩
abbrev main_v55 : Ref sig .tc := ⟨.hbm, 80, rfl⟩
abbrev main_cst_17 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_18 : Ref sig .tc := ⟨.hbm, 86, rfl⟩
abbrev main_v60 : Ref sig .tc := ⟨.hbm, 87, rfl⟩
abbrev main_v61 : Ref sig .tc := ⟨.hbm, 88, rfl⟩
abbrev main_cst_19 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_20 : Ref sig .tc := ⟨.hbm, 96, rfl⟩
abbrev main_v68 : Ref sig .tc := ⟨.hbm, 97, rfl⟩
abbrev main_v69 : Ref sig .tc := ⟨.hbm, 98, rfl⟩
abbrev main_cst_21 : Ref sig .tc := ⟨.hbm, 99, rfl⟩
abbrev main_v70 : Ref sig .tc := ⟨.hbm, 100, rfl⟩
abbrev main_v71 : Ref sig .tc := ⟨.hbm, 101, rfl⟩
abbrev main_cst_22 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_23 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_24 : Ref sig .tc := ⟨.hbm, 112, rfl⟩
abbrev main_v80 : Ref sig .tc := ⟨.hbm, 113, rfl⟩
abbrev main_v81 : Ref sig .tc := ⟨.hbm, 114, rfl⟩
abbrev main_cst_25 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_26 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_27 : Ref sig .tc := ⟨.hbm, 128, rfl⟩
abbrev main_v93 : Ref sig .tc := ⟨.hbm, 129, rfl⟩
abbrev main_v94 : Ref sig .tc := ⟨.hbm, 130, rfl⟩
abbrev main_cst_28 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_29 : Ref sig .tc := ⟨.hbm, 137, rfl⟩
abbrev main_v100 : Ref sig .tc := ⟨.hbm, 138, rfl⟩
abbrev main_v101 : Ref sig .tc := ⟨.hbm, 139, rfl⟩
abbrev main_cst_30 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_31 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_32 : Ref sig .tc := ⟨.hbm, 159, rfl⟩
abbrev main_v119 : Ref sig .tc := ⟨.hbm, 160, rfl⟩
abbrev main_v120 : Ref sig .tc := ⟨.hbm, 161, rfl⟩
abbrev main_cst_33 : Ref sig .tc := ⟨.hbm, 162, rfl⟩
abbrev main_v121 : Ref sig .tc := ⟨.hbm, 163, rfl⟩
abbrev main_v122 : Ref sig .tc := ⟨.hbm, 164, rfl⟩
abbrev main_cst_34 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩

abbrev nD : Nat := 1
abbrev τ : Topo := Topo.v7x

variable {F : FTy → Type} [FloatOps F]
-- ==== Dh1.lean ====
abbrev S4096x8192 : Shape := ⟨2, ![4096, 8192]⟩
abbrev S2048x8192 : Shape := ⟨2, ![2048, 8192]⟩
abbrev S4096x2048 : Shape := ⟨2, ![4096, 2048]⟩
abbrev S1x2048 : Shape := ⟨2, ![1, 2048]⟩
abbrev S2048x8x1024 : Shape := ⟨3, ![2048, 8, 1024]⟩
abbrev S8x2048x1024 : Shape := ⟨3, ![8, 2048, 1024]⟩
abbrev S512x1024 : Shape := ⟨2, ![512, 1024]⟩
abbrev S1x2048x1024 : Shape := ⟨3, ![1, 2048, 1024]⟩
abbrev S512x2048 : Shape := ⟨2, ![512, 2048]⟩
abbrev S2048x1024 : Shape := ⟨2, ![2048, 1024]⟩
abbrev S512 : Shape := ⟨1, ![512]⟩
abbrev S512x1 : Shape := ⟨2, ![512, 1]⟩
abbrev S2048 : Shape := ⟨1, ![2048]⟩

abbrev nBuf : Space → Nat
  | .hbm => 13
  | .vmem => 16
  | .smem => 0
  | _ => 0

abbrev bufTy : (tb : Table) → Fin (tcTables nBuf tb) → BufTy
  | .hbm, ⟨0, _⟩ => ⟨S4096x8192, .f32⟩
  | .hbm, ⟨1, _⟩ => ⟨S2048x8192, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S2048x8192, .bf16⟩
  | .hbm, ⟨6, _⟩ => ⟨S2048x8x1024, .bf16⟩
  | .hbm, ⟨7, _⟩ => ⟨S8x2048x1024, .bf16⟩
  | .hbm, ⟨8, _⟩ => ⟨S4096x8192, .bf16⟩
  | .hbm, ⟨9, _⟩ => ⟨S4096x2048, .f32⟩
  | .hbm, ⟨10, _⟩ => ⟨S4096x2048, .bf16⟩
  | .hbm, ⟨11, _⟩ => ⟨S1x2048, .f32⟩
  | .hbm, ⟨12, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | .local _ .vmem, ⟨14, _⟩ => ⟨S1x2048, .f32⟩
  | .local _ .vmem, ⟨15, _⟩ => ⟨S512x2048, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c0_i32_12 : BitVec 32 := 0#32
  let v17 : BitVec 1 := Scalar.cmpi .eq arg0 c0_i32_12
  let v66 : BitVec 32 := Scalar.extui v17
  let c0_i32_35 : BitVec 32 := 0#32
  let v67 : BitVec 1 := Scalar.cmpi .ne v66 c0_i32_35
  v67

def k0_cond4 (i : grid0.Coords) : BitVec 1 :=
  let arg0 : BitVec 32 := BitVec.ofNat 32 (i 0).val
  let c0_i32_12 : BitVec 32 := 0#32
  let v17 : BitVec 1 := Scalar.cmpi .eq arg0 c0_i32_12
  let v_true : BitVec 1 := 1#1
  let v68 : BitVec 1 := Scalar.xori v17 v_true
  let v69 : BitVec 32 := Scalar.extui v68
  let c0_i32_36 : BitVec 32 := 0#32
  let v70 : BitVec 1 := Scalar.cmpi .ne v69 c0_i32_36
  v70

def k0_cond5 (i : grid0.Coords) : BitVec 1 :=
  let arg0 : BitVec 32 := BitVec.ofNat 32 (i 0).val
  let c0_i32_12 : BitVec 32 := 0#32
  let v17 : BitVec 1 := Scalar.cmpi .eq arg0 c0_i32_12
  let v71 : BitVec 32 := Scalar.extui v17
  let c0_i32_37 : BitVec 32 := 0#32
  let v72 : BitVec 1 := Scalar.cmpi .ne v71 c0_i32_37
  v72

def k0_cond6 (i : grid0.Coords) : BitVec 1 :=
  let arg0 : BitVec 32 := BitVec.ofNat 32 (i 0).val
  let c0_i32_12 : BitVec 32 := 0#32
  let v17 : BitVec 1 := Scalar.cmpi .eq arg0 c0_i32_12
  let true_38 : BitVec 1 := 1#1
  let v73 : BitVec 1 := Scalar.xori v17 true_38
  let v74 : BitVec 32 := Scalar.extui v73
  let c0_i32_39 : BitVec 32 := 0#32
  let v75 : BitVec 1 := Scalar.cmpi .ne v74 c0_i32_39
  v75

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== Dh1RefIdeal.lean ====
abbrev S4096x8192 : Shape := ⟨2, ![4096, 8192]⟩
abbrev S2048x8192 : Shape := ⟨2, ![2048, 8192]⟩
abbrev S4096x2048 : Shape := ⟨2, ![4096, 2048]⟩
abbrev S1x2048 : Shape := ⟨2, ![1, 2048]⟩
abbrev S_ : Shape := ⟨0, ![]⟩
abbrev S2048 : Shape := ⟨1, ![2048]⟩
abbrev S4096 : Shape := ⟨1, ![4096]⟩
abbrev S4096x1 : Shape := ⟨2, ![4096, 1]⟩

abbrev nBuf : Space → Nat
  | .hbm => 101
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S2048x8192, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S2048, .f32⟩
  | .hbm, ⟨8, _⟩ => ⟨S2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S4096x8192, .f32⟩
  | .hbm, ⟨46, _⟩ => ⟨S_, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S_, .f32⟩
  | .hbm, ⟨58, _⟩ => ⟨S2048, .f32⟩
  | .hbm, ⟨59, _⟩ => ⟨S4096x2048, .f32⟩
  | .hbm, ⟨60, _⟩ => ⟨S_, .f32⟩
  | .hbm, ⟨61, _⟩ => ⟨S2048, .f32⟩
  | .hbm, ⟨62, _⟩ => ⟨S1x2048, .f32⟩
  | .hbm, ⟨63, _⟩ => ⟨S4096x2048, .f32⟩
  | .hbm, ⟨64, _⟩ => ⟨S4096x2048, .f32⟩
  | .hbm, ⟨65, _⟩ => ⟨S_, .f32⟩
  | .hbm, ⟨66, _⟩ => ⟨S2048, .f32⟩
  | .hbm, ⟨67, _⟩ => ⟨S4096x2048, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x2048, .f32⟩
  | .hbm, ⟨72, _⟩ => ⟨S4096x2048, .f32⟩
  | .hbm, ⟨73, _⟩ => ⟨S4096x1, .f32⟩
  | .hbm, ⟨74, _⟩ => ⟨S4096x2048, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x2048, .f32⟩
  | .hbm, ⟨84, _⟩ => ⟨S4096x2048, .f32⟩
  | .hbm, ⟨85, _⟩ => ⟨S4096x2048, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x2048, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S_, .f32⟩
  | .hbm, ⟨95, _⟩ => ⟨S4096, .f32⟩
  | .hbm, ⟨96, _⟩ => ⟨S4096x2048, .f32⟩
  | .hbm, ⟨97, _⟩ => ⟨S4096x2048, .f32⟩
  | .hbm, ⟨98, _⟩ => ⟨S1x2048, .f32⟩
  | .hbm, ⟨99, _⟩ => ⟨S1x2048, .f32⟩
  | .hbm, ⟨100, _⟩ => ⟨S4096x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_18 : Ref sig .tc := ⟨.hbm, 91, rfl⟩
abbrev main_v67 : Ref sig .tc := ⟨.hbm, 92, rfl⟩
abbrev main_v68 : Ref sig .tc := ⟨.hbm, 93, rfl⟩
abbrev main_cst_19 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== Dh0.lean ====
abbrev S4096x4096 : Shape := ⟨2, ![4096, 4096]⟩
abbrev S2048x4096 : Shape := ⟨2, ![2048, 4096]⟩
abbrev S4096x2048 : Shape := ⟨2, ![4096, 2048]⟩
abbrev S2048 : Shape := ⟨1, ![2048]⟩
abbrev S4096x1024 : Shape := ⟨2, ![4096, 1024]⟩
abbrev S1x4096x1024 : Shape := ⟨3, ![1, 4096, 1024]⟩
abbrev S4x4096x1024 : Shape := ⟨3, ![4, 4096, 1024]⟩
abbrev S2048x8x512 : Shape := ⟨3, ![2048, 8, 512]⟩
abbrev S8x2048x512 : Shape := ⟨3, ![8, 2048, 512]⟩
abbrev S1x2048 : Shape := ⟨2, ![1, 2048]⟩
abbrev S1x512x1024 : Shape := ⟨3, ![1, 512, 1024]⟩
abbrev S2x2048x512 : Shape := ⟨3, ![2, 2048, 512]⟩
abbrev S512x2048 : Shape := ⟨2, ![512, 2048]⟩
abbrev S1x512x512 : Shape := ⟨3, ![1, 512, 512]⟩
abbrev S512x512 : Shape := ⟨2, ![512, 512]⟩
abbrev S1x2048x512 : Shape := ⟨3, ![1, 2048, 512]⟩
abbrev S2048x512 : Shape := ⟨2, ![2048, 512]⟩
abbrev S512 : Shape := ⟨1, ![512]⟩
abbrev S512x1 : Shape := ⟨2, ![512, 1]⟩

abbrev nBuf : Space → Nat
  | .hbm => 22
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S2048x4096, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x4096, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S1x4096x1024, .bf16⟩
  | .hbm, ⟨11, _⟩ => ⟨S1x4096x1024, .bf16⟩
  | .hbm, ⟨12, _⟩ => ⟨S1x4096x1024, .bf16⟩
  | .hbm, ⟨13, _⟩ => ⟨S1x4096x1024, .bf16⟩
  | .hbm, ⟨14, _⟩ => ⟨S4x4096x1024, .bf16⟩
  | .hbm, ⟨15, _⟩ => ⟨S2048x4096, .bf16⟩
  | .hbm, ⟨16, _⟩ => ⟨S2048x8x512, .bf16⟩
  | .hbm, ⟨17, _⟩ => ⟨S8x2048x512, .bf16⟩
  | .hbm, ⟨18, _⟩ => ⟨S1x2048, .f32⟩
  | .hbm, ⟨19, _⟩ => ⟨S4096x2048, .f32⟩
  | .hbm, ⟨20, _⟩ => ⟨S1x2048, .f32⟩
  | .hbm, ⟨21, _⟩ => ⟨S1x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S2x2048x512, .bf16⟩
  | .local _ .vmem, ⟨3, _⟩ => ⟨S2x2048x512, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S1x2048, .f32⟩
  | .local _ .vmem, ⟨13, _⟩ => ⟨S512x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_15 : BitVec 32 := 0#32
  let v21 : BitVec 1 := Scalar.cmpi .ne v20 c0_i32_15
  v21

def k0_cond3 (i : grid0.Coords) : BitVec 1 :=
  let arg0 : BitVec 32 := BitVec.ofNat 32 (i 0).val
  let c0_i32_18 : BitVec 32 := 0#32
  let v23 : BitVec 1 := Scalar.cmpi .eq arg0 c0_i32_18
  let v71 : BitVec 32 := Scalar.extui v23
  let c0_i32_39 : BitVec 32 := 0#32
  let v72 : BitVec 1 := Scalar.cmpi .ne v71 c0_i32_39
  v72

def k0_cond4 (i : grid0.Coords) : BitVec 1 :=
  let arg0 : BitVec 32 := BitVec.ofNat 32 (i 0).val
  let c0_i32_18 : BitVec 32 := 0#32
  let v23 : BitVec 1 := Scalar.cmpi .eq arg0 c0_i32_18
  let v_true : BitVec 1 := 1#1
  let v73 : BitVec 1 := Scalar.xori v23 v_true
  let v74 : BitVec 32 := Scalar.extui v73
  let c0_i32_40 : BitVec 32 := 0#32
  let v75 : BitVec 1 := Scalar.cmpi .ne v74 c0_i32_40
  v75

def k0_cond5 (i : grid0.Coords) : BitVec 1 :=
  let arg0 : BitVec 32 := BitVec.ofNat 32 (i 0).val
  let c0_i32_18 : BitVec 32 := 0#32
  let v23 : BitVec 1 := Scalar.cmpi .eq arg0 c0_i32_18
  let v76 : BitVec 32 := Scalar.extui v23
  let c0_i32_41 : BitVec 32 := 0#32
  let v77 : BitVec 1 := Scalar.cmpi .ne v76 c0_i32_41
  v77

def k0_cond6 (i : grid0.Coords) : BitVec 1 :=
  let arg0 : BitVec 32 := BitVec.ofNat 32 (i 0).val
  let c0_i32_18 : BitVec 32 := 0#32
  let v23 : BitVec 1 := Scalar.cmpi .eq arg0 c0_i32_18
  let true_42 : BitVec 1 := 1#1
  let v78 : BitVec 1 := Scalar.xori v23 true_42
  let v79 : BitVec 32 := Scalar.extui v78
  let c0_i32_43 : BitVec 32 := 0#32
  let v80 : BitVec 1 := Scalar.cmpi .ne v79 c0_i32_43
  v80

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c4_i32 : BitVec 32 := 4#32
  let c0_i32 : BitVec 32 := 0#32
  let v1 : BitVec 1 := Scalar.cmpi .eq c4_i32 c0_i32
  let c1_i32_0 : BitVec 32 := 1#32
  let v2 : BitVec 32 := Scalar.select v1 c1_i32_0 c4_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  let c0_i32_6 : BitVec 32 := 0#32
  ![v10.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Dh0RefIdeal.lean ====
abbrev S4096x4096 : Shape := ⟨2, ![4096, 4096]⟩
abbrev S2048x4096 : Shape := ⟨2, ![2048, 4096]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 98
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S2048x4096, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S_, .f32⟩
  | .hbm, ⟨6, _⟩ => ⟨S2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x2048, .f32⟩
  | .hbm, ⟨36, _⟩ => ⟨S4096x2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x4096, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S_, .f32⟩
  | .hbm, ⟨56, _⟩ => ⟨S2048, .f32⟩
  | .hbm, ⟨57, _⟩ => ⟨S4096x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S4096x2048, .f32⟩
  | .hbm, ⟨62, _⟩ => ⟨S4096x2048, .f32⟩
  | .hbm, ⟨63, _⟩ => ⟨S_, .f32⟩
  | .hbm, ⟨64, _⟩ => ⟨S2048, .f32⟩
  | .hbm, ⟨65, _⟩ => ⟨S4096x2048, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x2048, .f32⟩
  | .hbm, ⟨70, _⟩ => ⟨S4096x2048, .f32⟩
  | .hbm, ⟨71, _⟩ => ⟨S4096x1, .f32⟩
  | .hbm, ⟨72, _⟩ => ⟨S4096x2048, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096, .f32⟩
  | .hbm, ⟨81, _⟩ => ⟨S4096x2048, .f32⟩
  | .hbm, ⟨82, _⟩ => ⟨S4096x2048, .f32⟩
  | .hbm, ⟨83, _⟩ => ⟨S4096x2048, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x2048, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x2048, .f32⟩
  | .hbm, ⟨95, _⟩ => ⟨S4096x2048, .f32⟩
  | .hbm, ⟨96, _⟩ => ⟨S1x2048, .f32⟩
  | .hbm, ⟨97, _⟩ => ⟨S1x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_18 : Ref sig .tc := ⟨.hbm, 89, rfl⟩
abbrev main_v65 : Ref sig .tc := ⟨.hbm, 90, rfl⟩
abbrev main_v66 : Ref sig .tc := ⟨.hbm, 91, rfl⟩
abbrev main_cst_19 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== RsFf1.lean ====
abbrev S4 : Shape := ⟨1, ![4]⟩
abbrev S8x2048x1024 : Shape := ⟨3, ![8, 2048, 1024]⟩
abbrev S4x2048x1024 : Shape := ⟨3, ![4, 2048, 1024]⟩
abbrev S2048x1024 : Shape := ⟨2, ![2048, 1024]⟩
abbrev S1x512x1024 : Shape := ⟨3, ![1, 512, 1024]⟩
abbrev S1 : Shape := ⟨1, ![1]⟩
abbrev S512x1024 : Shape := ⟨2, ![512, 1024]⟩

abbrev nBuf : Space → Nat
  | .hbm => 10
  | .vmem => 24
  | .smem => 1
  | _ => 0

abbrev bufTy : (tb : Table) → Fin (tcTables nBuf tb) → BufTy
  | .hbm, ⟨0, _⟩ => ⟨S8x2048x1024, .f32⟩
  | .hbm, ⟨1, _⟩ => ⟨S4x2048x1024, .f32⟩
  | .hbm, ⟨2, _⟩ => ⟨S4x2048x1024, .bf16⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .smem, ⟨0, _⟩ => ⟨S4, .i32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RsFf1RefIdeal.lean ====
abbrev S4 : Shape := ⟨1, ![4]⟩
abbrev S8x2048x1024 : Shape := ⟨3, ![8, 2048, 1024]⟩
abbrev S4x2048x1024 : Shape := ⟨3, ![4, 2048, 1024]⟩
abbrev S2048x1024 : Shape := ⟨2, ![2048, 1024]⟩
abbrev S8 : Shape := ⟨1, ![8]⟩
abbrev S1 : Shape := ⟨1, ![1]⟩
abbrev S_ : Shape := ⟨0, ![]⟩
abbrev S8x1x1 : Shape := ⟨3, ![8, 1, 1]⟩
abbrev S1x2048x1024 : Shape := ⟨3, ![1, 2048, 1024]⟩

abbrev nBuf : Space → Nat
  | .hbm => 68
  | .vmem => 0
  | .smem => 0
  | _ => 0

abbrev bufTy : (tb : Table) → Fin (tcTables nBuf tb) → BufTy
  | .hbm, ⟨0, _⟩ => ⟨S4, .i32⟩
  | .hbm, ⟨1, _⟩ => ⟨S8x2048x1024, .f32⟩
  | .hbm, ⟨2, _⟩ => ⟨S4x2048x1024, .f32⟩
  | .hbm, ⟨3, _⟩ => ⟨S4x2048x1024, .bf16⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S8, .i32⟩
  | .hbm, ⟨8, _⟩ => ⟨S1, .i32⟩
  | .hbm, ⟨9, _⟩ => ⟨S_, .i32⟩
  | .hbm, ⟨10, _⟩ => ⟨S8, .i32⟩
  | .hbm, ⟨11, _⟩ => ⟨S8, .i1⟩
  | .hbm, ⟨12, _⟩ => ⟨S8x1x1, .i1⟩
  | .hbm, ⟨13, _⟩ => ⟨S_, .f32⟩
  | .hbm, ⟨14, _⟩ => ⟨S_, .f32⟩
  | .hbm, ⟨15, _⟩ => ⟨S8x2048x1024, .i1⟩
  | .hbm, ⟨16, _⟩ => ⟨S8x2048x1024, .f32⟩
  | .hbm, ⟨17, _⟩ => ⟨S8x2048x1024, .f32⟩
  | .hbm, ⟨18, _⟩ => ⟨S_, .f32⟩
  | .hbm, ⟨19, _⟩ => ⟨S2048x1024, .f32⟩
  | .hbm, ⟨20, _⟩ => ⟨S1x2048x1024, .f32⟩
  | .hbm, ⟨21, _⟩ => ⟨S2048x1024, .f32⟩
  | .hbm, ⟨22, _⟩ => ⟨S2048x1024, .f32⟩
  | .hbm, ⟨23, _⟩ => ⟨S1x2048x1024, .bf16⟩
  | .hbm, ⟨24, _⟩ => ⟨S2048x1024, .bf16⟩
  | .hbm, ⟨25, _⟩ => ⟨S2048x1024, .f32⟩
  | .hbm, ⟨26, _⟩ => ⟨S2048x1024, .f32⟩
  | .hbm, ⟨27, _⟩ => ⟨S1x2048x1024, .bf16⟩
  | .hbm, ⟨28, _⟩ => ⟨S2048x1024, .bf16⟩
  | .hbm, ⟨29, _⟩ => ⟨S2048x1024, .f32⟩
  | .hbm, ⟨30, _⟩ => ⟨S2048x1024, .f32⟩
  | .hbm, ⟨31, _⟩ => ⟨S1x2048x1024, .bf16⟩
  | .hbm, ⟨32, _⟩ => ⟨S2048x1024, .bf16⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S2048x1024, .f32⟩
  | .hbm, ⟨67, _⟩ => ⟨S2048x1024, .f32⟩
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== RsFf2.lean ====
abbrev S4 : Shape := ⟨1, ![4]⟩
abbrev S8x1024x2048 : Shape := ⟨3, ![8, 1024, 2048]⟩
abbrev S4x1024x2048 : Shape := ⟨3, ![4, 1024, 2048]⟩
abbrev S1024x2048 : Shape := ⟨2, ![1024, 2048]⟩
abbrev S1x256x2048 : Shape := ⟨3, ![1, 256, 2048]⟩
abbrev S1 : Shape := ⟨1, ![1]⟩
abbrev S256x2048 : Shape := ⟨2, ![256, 2048]⟩

abbrev nBuf : Space → Nat
  | .hbm => 10
  | .vmem => 24
  | .smem => 1
  | _ => 0

abbrev bufTy : (tb : Table) → Fin (tcTables nBuf tb) → BufTy
  | .hbm, ⟨0, _⟩ => ⟨S8x1024x2048, .f32⟩
  | .hbm, ⟨1, _⟩ => ⟨S4x1024x2048, .f32⟩
  | .hbm, ⟨2, _⟩ => ⟨S4x1024x2048, .bf16⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x2048, .bf16⟩
  | .local _ .vmem, ⟨9, _⟩ => ⟨S1x256x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .smem, ⟨0, _⟩ => ⟨S4, .i32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RsFf2RefIdeal.lean ====
abbrev S4 : Shape := ⟨1, ![4]⟩
abbrev S8x1024x2048 : Shape := ⟨3, ![8, 1024, 2048]⟩
abbrev S4x1024x2048 : Shape := ⟨3, ![4, 1024, 2048]⟩
abbrev S1024x2048 : Shape := ⟨2, ![1024, 2048]⟩
abbrev S8 : Shape := ⟨1, ![8]⟩
abbrev S1 : Shape := ⟨1, ![1]⟩
abbrev S_ : Shape := ⟨0, ![]⟩
abbrev S8x1x1 : Shape := ⟨3, ![8, 1, 1]⟩
abbrev S1x1024x2048 : Shape := ⟨3, ![1, 1024, 2048]⟩

abbrev nBuf : Space → Nat
  | .hbm => 68
  | .vmem => 0
  | .smem => 0
  | _ => 0

abbrev bufTy : (tb : Table) → Fin (tcTables nBuf tb) → BufTy
  | .hbm, ⟨0, _⟩ => ⟨S4, .i32⟩
  | .hbm, ⟨1, _⟩ => ⟨S8x1024x2048, .f32⟩
  | .hbm, ⟨2, _⟩ => ⟨S4x1024x2048, .f32⟩
  | .hbm, ⟨3, _⟩ => ⟨S4x1024x2048, .bf16⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S8, .i32⟩
  | .hbm, ⟨8, _⟩ => ⟨S1, .i32⟩
  | .hbm, ⟨9, _⟩ => ⟨S_, .i32⟩
  | .hbm, ⟨10, _⟩ => ⟨S8, .i32⟩
  | .hbm, ⟨11, _⟩ => ⟨S8, .i1⟩
  | .hbm, ⟨12, _⟩ => ⟨S8x1x1, .i1⟩
  | .hbm, ⟨13, _⟩ => ⟨S_, .f32⟩
  | .hbm, ⟨14, _⟩ => ⟨S_, .f32⟩
  | .hbm, ⟨15, _⟩ => ⟨S8x1024x2048, .i1⟩
  | .hbm, ⟨16, _⟩ => ⟨S8x1024x2048, .f32⟩
  | .hbm, ⟨17, _⟩ => ⟨S8x1024x2048, .f32⟩
  | .hbm, ⟨18, _⟩ => ⟨S_, .f32⟩
  | .hbm, ⟨19, _⟩ => ⟨S1024x2048, .f32⟩
  | .hbm, ⟨20, _⟩ => ⟨S1x1024x2048, .f32⟩
  | .hbm, ⟨21, _⟩ => ⟨S1024x2048, .f32⟩
  | .hbm, ⟨22, _⟩ => ⟨S1024x2048, .f32⟩
  | .hbm, ⟨23, _⟩ => ⟨S1x1024x2048, .bf16⟩
  | .hbm, ⟨24, _⟩ => ⟨S1024x2048, .bf16⟩
  | .hbm, ⟨25, _⟩ => ⟨S1024x2048, .f32⟩
  | .hbm, ⟨26, _⟩ => ⟨S1024x2048, .f32⟩
  | .hbm, ⟨27, _⟩ => ⟨S1x1024x2048, .bf16⟩
  | .hbm, ⟨28, _⟩ => ⟨S1024x2048, .bf16⟩
  | .hbm, ⟨29, _⟩ => ⟨S1024x2048, .f32⟩
  | .hbm, ⟨30, _⟩ => ⟨S1024x2048, .f32⟩
  | .hbm, ⟨31, _⟩ => ⟨S1x1024x2048, .bf16⟩
  | .hbm, ⟨32, _⟩ => ⟨S1024x2048, .bf16⟩
  | .hbm, ⟨33, _⟩ => ⟨S1024x2048, .f32⟩
  | .hbm, ⟨34, _⟩ => ⟨S1024x2048, .f32⟩
  | .hbm, ⟨35, _⟩ => ⟨S_, .f32⟩
  | .hbm, ⟨36, _⟩ => ⟨S1024x2048, .f32⟩
  | .hbm, ⟨37, _⟩ => ⟨S1024x2048, .f32⟩
  | .hbm, ⟨38, _⟩ => ⟨S_, .f32⟩
  | .hbm, ⟨39, _⟩ => ⟨S1024x2048, .f32⟩
  | .hbm, ⟨40, _⟩ => ⟨S1024x2048, .f32⟩
  | .hbm, ⟨41, _⟩ => ⟨S1024x2048, .f32⟩
  | .hbm, ⟨42, _⟩ => ⟨S_, .f32⟩
  | .hbm, ⟨43, _⟩ => ⟨S1024x2048, .f32⟩
  | .hbm, ⟨44, _⟩ => ⟨S1024x2048, .f32⟩
  | .hbm, ⟨45, _⟩ => ⟨S1024x2048, .f32⟩
  | .hbm, ⟨46, _⟩ => ⟨S_, .f32⟩
  | .hbm, ⟨47, _⟩ => ⟨S1024x2048, .f32⟩
  | .hbm, ⟨48, _⟩ => ⟨S1024x2048, .f32⟩
  | .hbm, ⟨49, _⟩ => ⟨S1024x2048, .f32⟩
  | .hbm, ⟨50, _⟩ => ⟨S_, .f32⟩
  | .hbm, ⟨51, _⟩ => ⟨S1024x2048, .f32⟩
  | .hbm, ⟨52, _⟩ => ⟨S1024x2048, .f32⟩
  | .hbm, ⟨53, _⟩ => ⟨S_, .f32⟩
  | .hbm, ⟨54, _⟩ => ⟨S1024x2048, .f32⟩
  | .hbm, ⟨55, _⟩ => ⟨S1024x2048, .f32⟩
  | .hbm, ⟨56, _⟩ => ⟨S1024x2048, .f32⟩
  | .hbm, ⟨57, _⟩ => ⟨S_, .f32⟩
  | .hbm, ⟨58, _⟩ => ⟨S1024x2048, .f32⟩
  | .hbm, ⟨59, _⟩ => ⟨S1024x2048, .f32⟩
  | .hbm, ⟨60, _⟩ => ⟨S1024x2048, .f32⟩
  | .hbm, ⟨61, _⟩ => ⟨S_, .f32⟩
  | .hbm, ⟨62, _⟩ => ⟨S1024x2048, .f32⟩
  | .hbm, ⟨63, _⟩ => ⟨S1024x2048, .f32⟩
  | .hbm, ⟨64, _⟩ => ⟨S1024x2048, .f32⟩
  | .hbm, ⟨65, _⟩ => ⟨S_, .f32⟩
  | .hbm, ⟨66, _⟩ => ⟨S1024x2048, .f32⟩
  | .hbm, ⟨67, _⟩ => ⟨S1024x2048, .f32⟩
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== RsOut.lean ====
abbrev S4 : Shape := ⟨1, ![4]⟩
abbrev S8x256x2048 : Shape := ⟨3, ![8, 256, 2048]⟩
abbrev S4x256x2048 : Shape := ⟨3, ![4, 256, 2048]⟩
abbrev S256x2048 : Shape := ⟨2, ![256, 2048]⟩
abbrev S1x256x2048 : Shape := ⟨3, ![1, 256, 2048]⟩
abbrev S1 : Shape := ⟨1, ![1]⟩

abbrev nBuf : Space → Nat
  | .hbm => 10
  | .vmem => 12
  | .smem => 1
  | _ => 0

abbrev bufTy : (tb : Table) → Fin (tcTables nBuf tb) → BufTy
  | .hbm, ⟨0, _⟩ => ⟨S8x256x2048, .f32⟩
  | .hbm, ⟨1, _⟩ => ⟨S4x256x2048, .f32⟩
  | .hbm, ⟨2, _⟩ => ⟨S4x256x2048, .bf16⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .smem, ⟨0, _⟩ => ⟨S4, .i32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== RsOutRefIdeal.lean ====
abbrev S4 : Shape := ⟨1, ![4]⟩
abbrev S8x256x2048 : Shape := ⟨3, ![8, 256, 2048]⟩
abbrev S4x256x2048 : Shape := ⟨3, ![4, 256, 2048]⟩
abbrev S256x2048 : Shape := ⟨2, ![256, 2048]⟩
abbrev S8 : Shape := ⟨1, ![8]⟩
abbrev S1 : Shape := ⟨1, ![1]⟩
abbrev S_ : Shape := ⟨0, ![]⟩
abbrev S8x1x1 : Shape := ⟨3, ![8, 1, 1]⟩
abbrev S1x256x2048 : Shape := ⟨3, ![1, 256, 2048]⟩

abbrev nBuf : Space → Nat
  | .hbm => 68
  | .vmem => 0
  | .smem => 0
  | _ => 0

abbrev bufTy : (tb : Table) → Fin (tcTables nBuf tb) → BufTy
  | .hbm, ⟨0, _⟩ => ⟨S4, .i32⟩
  | .hbm, ⟨1, _⟩ => ⟨S8x256x2048, .f32⟩
  | .hbm, ⟨2, _⟩ => ⟨S4x256x2048, .f32⟩
  | .hbm, ⟨3, _⟩ => ⟨S4x256x2048, .bf16⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S8, .i32⟩
  | .hbm, ⟨8, _⟩ => ⟨S1, .i32⟩
  | .hbm, ⟨9, _⟩ => ⟨S_, .i32⟩
  | .hbm, ⟨10, _⟩ => ⟨S8, .i32⟩
  | .hbm, ⟨11, _⟩ => ⟨S8, .i1⟩
  | .hbm, ⟨12, _⟩ => ⟨S8x1x1, .i1⟩
  | .hbm, ⟨13, _⟩ => ⟨S_, .f32⟩
  | .hbm, ⟨14, _⟩ => ⟨S_, .f32⟩
  | .hbm, ⟨15, _⟩ => ⟨S8x256x2048, .i1⟩
  | .hbm, ⟨16, _⟩ => ⟨S8x256x2048, .f32⟩
  | .hbm, ⟨17, _⟩ => ⟨S8x256x2048, .f32⟩
  | .hbm, ⟨18, _⟩ => ⟨S_, .f32⟩
  | .hbm, ⟨19, _⟩ => ⟨S256x2048, .f32⟩
  | .hbm, ⟨20, _⟩ => ⟨S1x256x2048, .f32⟩
  | .hbm, ⟨21, _⟩ => ⟨S256x2048, .f32⟩
  | .hbm, ⟨22, _⟩ => ⟨S256x2048, .f32⟩
  | .hbm, ⟨23, _⟩ => ⟨S1x256x2048, .bf16⟩
  | .hbm, ⟨24, _⟩ => ⟨S256x2048, .bf16⟩
  | .hbm, ⟨25, _⟩ => ⟨S256x2048, .f32⟩
  | .hbm, ⟨26, _⟩ => ⟨S256x2048, .f32⟩
  | .hbm, ⟨27, _⟩ => ⟨S1x256x2048, .bf16⟩
  | .hbm, ⟨28, _⟩ => ⟨S256x2048, .bf16⟩
  | .hbm, ⟨29, _⟩ => ⟨S256x2048, .f32⟩
  | .hbm, ⟨30, _⟩ => ⟨S256x2048, .f32⟩
  | .hbm, ⟨31, _⟩ => ⟨S1x256x2048, .bf16⟩
  | .hbm, ⟨32, _⟩ => ⟨S256x2048, .bf16⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S256x2048, .f32⟩
  | .hbm, ⟨40, _⟩ => ⟨S256x2048, .f32⟩
  | .hbm, ⟨41, _⟩ => ⟨S256x2048, .f32⟩
  | .hbm, ⟨42, _⟩ => ⟨S_, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S_, .f32⟩
  | .hbm, ⟨47, _⟩ => ⟨S256x2048, .f32⟩
  | .hbm, ⟨48, _⟩ => ⟨S256x2048, .f32⟩
  | .hbm, ⟨49, _⟩ => ⟨S256x2048, .f32⟩
  | .hbm, ⟨50, _⟩ => ⟨S_, .f32⟩
  | .hbm, ⟨51, _⟩ => ⟨S256x2048, .f32⟩
  | .hbm, ⟨52, _⟩ => ⟨S256x2048, .f32⟩
  | .hbm, ⟨53, _⟩ => ⟨S_, .f32⟩
  | .hbm, ⟨54, _⟩ => ⟨S256x2048, .f32⟩
  | .hbm, ⟨55, _⟩ => ⟨S256x2048, .f32⟩
  | .hbm, ⟨56, _⟩ => ⟨S256x2048, .f32⟩
  | .hbm, ⟨57, _⟩ => ⟨S_, .f32⟩
  | .hbm, ⟨58, _⟩ => ⟨S256x2048, .f32⟩
  | .hbm, ⟨59, _⟩ => ⟨S256x2048, .f32⟩
  | .hbm, ⟨60, _⟩ => ⟨S256x2048, .f32⟩
  | .hbm, ⟨61, _⟩ => ⟨S_, .f32⟩
  | .hbm, ⟨62, _⟩ => ⟨S256x2048, .f32⟩
  | .hbm, ⟨63, _⟩ => ⟨S256x2048, .f32⟩
  | .hbm, ⟨64, _⟩ => ⟨S256x2048, .f32⟩
  | .hbm, ⟨65, _⟩ => ⟨S_, .f32⟩
  | .hbm, ⟨66, _⟩ => ⟨S256x2048, .f32⟩
  | .hbm, ⟨67, _⟩ => ⟨S256x2048, .f32⟩
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== RsIn.lean ====
abbrev S4 : Shape := ⟨1, ![4]⟩
abbrev S8x2048x512 : Shape := ⟨3, ![8, 2048, 512]⟩
abbrev S4x2048x512 : Shape := ⟨3, ![4, 2048, 512]⟩
abbrev S2048x512 : Shape := ⟨2, ![2048, 512]⟩
abbrev S1x1024x512 : Shape := ⟨3, ![1, 1024, 512]⟩
abbrev S1 : Shape := ⟨1, ![1]⟩
abbrev S1024x512 : Shape := ⟨2, ![1024, 512]⟩

abbrev nBuf : Space → Nat
  | .hbm => 10
  | .vmem => 24
  | .smem => 1
  | _ => 0

abbrev bufTy : (tb : Table) → Fin (tcTables nBuf tb) → BufTy
  | .hbm, ⟨0, _⟩ => ⟨S8x2048x512, .f32⟩
  | .hbm, ⟨1, _⟩ => ⟨S4x2048x512, .f32⟩
  | .hbm, ⟨2, _⟩ => ⟨S4x2048x512, .bf16⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .smem, ⟨0, _⟩ => ⟨S4, .i32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RsInRefIdeal.lean ====
abbrev S4 : Shape := ⟨1, ![4]⟩
abbrev S8x2048x512 : Shape := ⟨3, ![8, 2048, 512]⟩
abbrev S4x2048x512 : Shape := ⟨3, ![4, 2048, 512]⟩
abbrev S2048x512 : Shape := ⟨2, ![2048, 512]⟩
abbrev S8 : Shape := ⟨1, ![8]⟩
abbrev S1 : Shape := ⟨1, ![1]⟩
abbrev S_ : Shape := ⟨0, ![]⟩
abbrev S8x1x1 : Shape := ⟨3, ![8, 1, 1]⟩
abbrev S1x2048x512 : Shape := ⟨3, ![1, 2048, 512]⟩

abbrev nBuf : Space → Nat
  | .hbm => 68
  | .vmem => 0
  | .smem => 0
  | _ => 0

abbrev bufTy : (tb : Table) → Fin (tcTables nBuf tb) → BufTy
  | .hbm, ⟨0, _⟩ => ⟨S4, .i32⟩
  | .hbm, ⟨1, _⟩ => ⟨S8x2048x512, .f32⟩
  | .hbm, ⟨2, _⟩ => ⟨S4x2048x512, .f32⟩
  | .hbm, ⟨3, _⟩ => ⟨S4x2048x512, .bf16⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S8, .i32⟩
  | .hbm, ⟨8, _⟩ => ⟨S1, .i32⟩
  | .hbm, ⟨9, _⟩ => ⟨S_, .i32⟩
  | .hbm, ⟨10, _⟩ => ⟨S8, .i32⟩
  | .hbm, ⟨11, _⟩ => ⟨S8, .i1⟩
  | .hbm, ⟨12, _⟩ => ⟨S8x1x1, .i1⟩
  | .hbm, ⟨13, _⟩ => ⟨S_, .f32⟩
  | .hbm, ⟨14, _⟩ => ⟨S_, .f32⟩
  | .hbm, ⟨15, _⟩ => ⟨S8x2048x512, .i1⟩
  | .hbm, ⟨16, _⟩ => ⟨S8x2048x512, .f32⟩
  | .hbm, ⟨17, _⟩ => ⟨S8x2048x512, .f32⟩
  | .hbm, ⟨18, _⟩ => ⟨S_, .f32⟩
  | .hbm, ⟨19, _⟩ => ⟨S2048x512, .f32⟩
  | .hbm, ⟨20, _⟩ => ⟨S1x2048x512, .f32⟩
  | .hbm, ⟨21, _⟩ => ⟨S2048x512, .f32⟩
  | .hbm, ⟨22, _⟩ => ⟨S2048x512, .f32⟩
  | .hbm, ⟨23, _⟩ => ⟨S1x2048x512, .bf16⟩
  | .hbm, ⟨24, _⟩ => ⟨S2048x512, .bf16⟩
  | .hbm, ⟨25, _⟩ => ⟨S2048x512, .f32⟩
  | .hbm, ⟨26, _⟩ => ⟨S2048x512, .f32⟩
  | .hbm, ⟨27, _⟩ => ⟨S1x2048x512, .bf16⟩
  | .hbm, ⟨28, _⟩ => ⟨S2048x512, .bf16⟩
  | .hbm, ⟨29, _⟩ => ⟨S2048x512, .f32⟩
  | .hbm, ⟨30, _⟩ => ⟨S2048x512, .f32⟩
  | .hbm, ⟨31, _⟩ => ⟨S1x2048x512, .bf16⟩
  | .hbm, ⟨32, _⟩ => ⟨S2048x512, .bf16⟩
  | .hbm, ⟨33, _⟩ => ⟨S2048x512, .f32⟩
  | .hbm, ⟨34, _⟩ => ⟨S2048x512, .f32⟩
  | .hbm, ⟨35, _⟩ => ⟨S_, .f32⟩
  | .hbm, ⟨36, _⟩ => ⟨S2048x512, .f32⟩
  | .hbm, ⟨37, _⟩ => ⟨S2048x512, .f32⟩
  | .hbm, ⟨38, _⟩ => ⟨S_, .f32⟩
  | .hbm, ⟨39, _⟩ => ⟨S2048x512, .f32⟩
  | .hbm, ⟨40, _⟩ => ⟨S2048x512, .f32⟩
  | .hbm, ⟨41, _⟩ => ⟨S2048x512, .f32⟩
  | .hbm, ⟨42, _⟩ => ⟨S_, .f32⟩
  | .hbm, ⟨43, _⟩ => ⟨S2048x512, .f32⟩
  | .hbm, ⟨44, _⟩ => ⟨S2048x512, .f32⟩
  | .hbm, ⟨45, _⟩ => ⟨S2048x512, .f32⟩
  | .hbm, ⟨46, _⟩ => ⟨S_, .f32⟩
  | .hbm, ⟨47, _⟩ => ⟨S2048x512, .f32⟩
  | .hbm, ⟨48, _⟩ => ⟨S2048x512, .f32⟩
  | .hbm, ⟨49, _⟩ => ⟨S2048x512, .f32⟩
  | .hbm, ⟨50, _⟩ => ⟨S_, .f32⟩
  | .hbm, ⟨51, _⟩ => ⟨S2048x512, .f32⟩
  | .hbm, ⟨52, _⟩ => ⟨S2048x512, .f32⟩
  | .hbm, ⟨53, _⟩ => ⟨S_, .f32⟩
  | .hbm, ⟨54, _⟩ => ⟨S2048x512, .f32⟩
  | .hbm, ⟨55, _⟩ => ⟨S2048x512, .f32⟩
  | .hbm, ⟨56, _⟩ => ⟨S2048x512, .f32⟩
  | .hbm, ⟨57, _⟩ => ⟨S_, .f32⟩
  | .hbm, ⟨58, _⟩ => ⟨S2048x512, .f32⟩
  | .hbm, ⟨59, _⟩ => ⟨S2048x512, .f32⟩
  | .hbm, ⟨60, _⟩ => ⟨S2048x512, .f32⟩
  | .hbm, ⟨61, _⟩ => ⟨S_, .f32⟩
  | .hbm, ⟨62, _⟩ => ⟨S2048x512, .f32⟩
  | .hbm, ⟨63, _⟩ => ⟨S2048x512, .f32⟩
  | .hbm, ⟨64, _⟩ => ⟨S2048x512, .f32⟩
  | .hbm, ⟨65, _⟩ => ⟨S_, .f32⟩
  | .hbm, ⟨66, _⟩ => ⟨S2048x512, .f32⟩
  | .hbm, ⟨67, _⟩ => ⟨S2048x512, .f32⟩
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== RsPool.lean ====
abbrev S4 : Shape := ⟨1, ![4]⟩
abbrev S8x128x256 : Shape := ⟨3, ![8, 128, 256]⟩
abbrev S4x128x256 : Shape := ⟨3, ![4, 128, 256]⟩
abbrev S128x256 : Shape := ⟨2, ![128, 256]⟩
abbrev S1x128x256 : Shape := ⟨3, ![1, 128, 256]⟩
abbrev S1 : Shape := ⟨1, ![1]⟩

abbrev nBuf : Space → Nat
  | .hbm => 10
  | .vmem => 12
  | .smem => 1
  | _ => 0

abbrev bufTy : (tb : Table) → Fin (tcTables nBuf tb) → BufTy
  | .hbm, ⟨0, _⟩ => ⟨S8x128x256, .f32⟩
  | .hbm, ⟨1, _⟩ => ⟨S4x128x256, .f32⟩
  | .hbm, ⟨2, _⟩ => ⟨S4x128x256, .bf16⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x256, .f32⟩
  | .hbm, ⟨9, _⟩ => ⟨S128x256, .f32⟩
  | .local _ .vmem, ⟨0, _⟩ => ⟨S1x128x256, .f32⟩
  | .local _ .vmem, ⟨1, _⟩ => ⟨S1x128x256, .f32⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .smem, ⟨0, _⟩ => ⟨S4, .i32⟩
  | _, _ => ⟨S8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== RsPoolRefIdeal.lean ====
abbrev S4 : Shape := ⟨1, ![4]⟩
abbrev S8x128x256 : Shape := ⟨3, ![8, 128, 256]⟩
abbrev S4x128x256 : Shape := ⟨3, ![4, 128, 256]⟩
abbrev S128x256 : Shape := ⟨2, ![128, 256]⟩
abbrev S8 : Shape := ⟨1, ![8]⟩
abbrev S1 : Shape := ⟨1, ![1]⟩
abbrev S_ : Shape := ⟨0, ![]⟩
abbrev S8x1x1 : Shape := ⟨3, ![8, 1, 1]⟩
abbrev S1x128x256 : Shape := ⟨3, ![1, 128, 256]⟩

abbrev nBuf : Space → Nat
  | .hbm => 68
  | .vmem => 0
  | .smem => 0
  | _ => 0

abbrev bufTy : (tb : Table) → Fin (tcTables nBuf tb) → BufTy
  | .hbm, ⟨0, _⟩ => ⟨S4, .i32⟩
  | .hbm, ⟨1, _⟩ => ⟨S8x128x256, .f32⟩
  | .hbm, ⟨2, _⟩ => ⟨S4x128x256, .f32⟩
  | .hbm, ⟨3, _⟩ => ⟨S4x128x256, .bf16⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S8, .i32⟩
  | .hbm, ⟨8, _⟩ => ⟨S1, .i32⟩
  | .hbm, ⟨9, _⟩ => ⟨S_, .i32⟩
  | .hbm, ⟨10, _⟩ => ⟨S8, .i32⟩
  | .hbm, ⟨11, _⟩ => ⟨S8, .i1⟩
  | .hbm, ⟨12, _⟩ => ⟨S8x1x1, .i1⟩
  | .hbm, ⟨13, _⟩ => ⟨S_, .f32⟩
  | .hbm, ⟨14, _⟩ => ⟨S_, .f32⟩
  | .hbm, ⟨15, _⟩ => ⟨S8x128x256, .i1⟩
  | .hbm, ⟨16, _⟩ => ⟨S8x128x256, .f32⟩
  | .hbm, ⟨17, _⟩ => ⟨S8x128x256, .f32⟩
  | .hbm, ⟨18, _⟩ => ⟨S_, .f32⟩
  | .hbm, ⟨19, _⟩ => ⟨S128x256, .f32⟩
  | .hbm, ⟨20, _⟩ => ⟨S1x128x256, .f32⟩
  | .hbm, ⟨21, _⟩ => ⟨S128x256, .f32⟩
  | .hbm, ⟨22, _⟩ => ⟨S128x256, .f32⟩
  | .hbm, ⟨23, _⟩ => ⟨S1x128x256, .bf16⟩
  | .hbm, ⟨24, _⟩ => ⟨S128x256, .bf16⟩
  | .hbm, ⟨25, _⟩ => ⟨S128x256, .f32⟩
  | .hbm, ⟨26, _⟩ => ⟨S128x256, .f32⟩
  | .hbm, ⟨27, _⟩ => ⟨S1x128x256, .bf16⟩
  | .hbm, ⟨28, _⟩ => ⟨S128x256, .bf16⟩
  | .hbm, ⟨29, _⟩ => ⟨S128x256, .f32⟩
  | .hbm, ⟨30, _⟩ => ⟨S128x256, .f32⟩
  | .hbm, ⟨31, _⟩ => ⟨S1x128x256, .bf16⟩
  | .hbm, ⟨32, _⟩ => ⟨S128x256, .bf16⟩
  | .hbm, ⟨33, _⟩ => ⟨S128x256, .f32⟩
  | .hbm, ⟨34, _⟩ => ⟨S128x256, .f32⟩
  | .hbm, ⟨35, _⟩ => ⟨S_, .f32⟩
  | .hbm, ⟨36, _⟩ => ⟨S128x256, .f32⟩
  | .hbm, ⟨37, _⟩ => ⟨S128x256, .f32⟩
  | .hbm, ⟨38, _⟩ => ⟨S_, .f32⟩
  | .hbm, ⟨39, _⟩ => ⟨S128x256, .f32⟩
  | .hbm, ⟨40, _⟩ => ⟨S128x256, .f32⟩
  | .hbm, ⟨41, _⟩ => ⟨S128x256, .f32⟩
  | .hbm, ⟨42, _⟩ => ⟨S_, .f32⟩
  | .hbm, ⟨43, _⟩ => ⟨S128x256, .f32⟩
  | .hbm, ⟨44, _⟩ => ⟨S128x256, .f32⟩
  | .hbm, ⟨45, _⟩ => ⟨S128x256, .f32⟩
  | .hbm, ⟨46, _⟩ => ⟨S_, .f32⟩
  | .hbm, ⟨47, _⟩ => ⟨S128x256, .f32⟩
  | .hbm, ⟨48, _⟩ => ⟨S128x256, .f32⟩
  | .hbm, ⟨49, _⟩ => ⟨S128x256, .f32⟩
  | .hbm, ⟨50, _⟩ => ⟨S_, .f32⟩
  | .hbm, ⟨51, _⟩ => ⟨S128x256, .f32⟩
  | .hbm, ⟨52, _⟩ => ⟨S128x256, .f32⟩
  | .hbm, ⟨53, _⟩ => ⟨S_, .f32⟩
  | .hbm, ⟨54, _⟩ => ⟨S128x256, .f32⟩
  | .hbm, ⟨55, _⟩ => ⟨S128x256, .f32⟩
  | .hbm, ⟨56, _⟩ => ⟨S128x256, .f32⟩
  | .hbm, ⟨57, _⟩ => ⟨S_, .f32⟩
  | .hbm, ⟨58, _⟩ => ⟨S128x256, .f32⟩
  | .hbm, ⟨59, _⟩ => ⟨S128x256, .f32⟩
  | .hbm, ⟨60, _⟩ => ⟨S128x256, .f32⟩
  | .hbm, ⟨61, _⟩ => ⟨S_, .f32⟩
  | .hbm, ⟨62, _⟩ => ⟨S128x256, .f32⟩
  | .hbm, ⟨63, _⟩ => ⟨S128x256, .f32⟩
  | .hbm, ⟨64, _⟩ => ⟨S128x256, .f32⟩
  | .hbm, ⟨65, _⟩ => ⟨S_, .f32⟩
  | .hbm, ⟨66, _⟩ => ⟨S128x256, .f32⟩
  | .hbm, ⟨67, _⟩ => ⟨S128x256, .f32⟩
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== Proof.Dff1.lean ====
/- The gradient through relu² and the second MLP product, tile by tile, and its column sums, are the reference's. -/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a grid point takes: its first coordinate picks the shard of 1024 columns, its second
    the group of 1024 tokens. -/
theorem idx : ∀ t : Fin cfg0.N, win0_0.index t = ![t.val % 4, 0] ∧ win0_1.index t = ![t.val / 4, 0, 0]
    ∧ win0_2.index t = ![t.val % 4, t.val / 4] ∧ win0_3.index t = ![t.val % 4, t.val / 4] ∧ win0_4.index t = ![0, t.val / 4] :=
  (by decide +kernel : ∀ t : Fin grid0.N, _)

abbrev A0 := (⟨S4096x2048, .f32⟩ : BufTy).Contents (Elt Ideal)
abbrev A1 := (⟨S8192x2048, .f32⟩ : BufTy).Contents (Elt Ideal)
abbrev A2 := (⟨S4096x8192, .f32⟩ : BufTy).Contents (Elt Ideal)
abbrev A3 := (⟨S8192, .f32⟩ : BufTy).Contents (Elt Ideal)

/-- Twice the positive part, times `a`, is what the two derivative rules give: `a` times twice the positive part where
    the number is positive, zero elsewhere. -/
theorem relu_sq (a b x : EReal) : (if 0 < x then a * (b * max x 0) else 0) = a * (b * max x 0) := by
  split
  · rfl
  · next h => rw [max_eq_right (not_lt.mp h), mul_zero, mul_zero]

/-- One entry of the gradient. -/
def df (x0 : A0) (x1 : A1) (x2 : A2) (x3 : A3) (t : Fin 4096) (f : Fin 8192) : EReal :=
  (∑ k : Fin 2048, x0 (ix2 t k) * x1 (ix2 f k)) * (Ideal.ofBits .f32 0x40000000#32 * max (x2 (ix2 t f) + x3 (ix1 f)) 0)

open Cert.ReferenceIdeal.Read in
/-- The reference's gradient, entry by entry. -/
theorem ref_df (x0 : A0) (x1 : A1) (x2 : A2) (x3 : A3) (i : S4096x8192.Idx) :
    val_main_v14 (F := Ideal) x0 x1 x2 x3 i = df x0 x1 x2 x3 (i 0) (i 1) := by
  unfold val_main_v14 val_main_v5 val_main_v12 val_main_v13 val_main_v9 val_main_v11 val_main_v3 val_main_v2 val_main_v1 val_main_v0 val_main_call0_v0 val_main_v4 val_main_v8 val_main_cst val_main_cst_1 val_main_cst_2 val_main_call0_cst
  idx_vars i
  pointwise
  exact relu_sq _ _ _

/-- The same after the rounding to bf16, which is the identity over the reals. -/
theorem ref_dfb (x0 : A0) (x1 : A1) (x2 : A2) (x3 : A3) (i : S4096x8192.Idx) :
    Cert.ReferenceIdeal.Read.val_main_v18 (F := Ideal) x0 x1 x2 x3 i = df x0 x1 x2 x3 (i 0) (i 1) := by
  rw [← ref_df]
  rfl

open Cert.ReferenceIdeal.Read in
/-- The reference's sum over the tokens. -/
theorem ref_db (x0 : A0) (x1 : A1) (x2 : A2) (x3 : A3) (i : S1x8192.Idx) :
    val_main_v19 (F := Ideal) x0 x1 x2 x3 i = ∑ t : Fin 4096, df x0 x1 x2 x3 t (i 1) := by
  unfold val_main_v19 val_main_v17 val_main_v16 val_main_v15 val_main_cst_3 val_main_cst_4
  idx_vars i
  pointwise
  rw [Fin.sum_univ_eq_sum_range (fun _ => _) 1, Finset.sum_range_one]
  exact Fin.sum_fin_congr fun t => ref_df x0 x1 x2 x3 _

/-- The first MLP product with its bias added. -/
def biased (x2 : FVec Ideal S4096x8192 .f32) (x3 : FVec Ideal S8192 .f32) : FVec Ideal S4096x8192 .f32 :=
  addf x2 (broadcastInDim S4096x8192 ![0, 1] bcast_S1x8192_S4096x8192_0_1 (broadcastInDim S1x8192 ![1] bcast_S8192_S1x8192_1 x3))

theorem biased_apply (x2 : FVec Ideal S4096x8192 .f32) (x3 : FVec Ideal S8192 .f32) (i : S4096x8192.Idx) : biased x2 x3 i = (x2 i + x3 (ix1 (i 1)) : EReal) := by
  idx_vars i
  pointwise [biased]

/-- What the host code hands the kernel for the rectifier. -/
theorem v2 (c : Dev nD) : V m c main_v2 = biased (m ((c : Thread nD τ).loc main_arg2)) (m ((c : Thread nD τ).loc main_arg3)) := by
  show StableHlo.after hostOps0 _ (Proc.devRef .tc main_v2) = _
  after_results
  rfl

/-- Equal coordinates, equal entries. -/
theorem df_congr (x0 : A0) (x1 : A1) (x2 : A2) (x3 : A3) {t t' : Fin 4096} {f f' : Fin 8192} (ht : t.val = t'.val) (hf : f.val = f'.val) :
    df x0 x1 x2 x3 t f = df x0 x1 x2 x3 t' f' := by
  rw [Fin.ext ht, Fin.ext hf]

/-- One entry of a tile of the gradient. -/
theorem pay1 (c : Dev nD) (t : Fin cfg0.N) (y : S1024x1024.Idx) :
    k0_pay1 (iblk m c 0 t) (iblk m c 1 t) (iblk m c 2 t) y
      = df (m ((c : Thread nD τ).loc main_arg0)) (m ((c : Thread nD τ).loc main_arg1)) (m ((c : Thread nD τ).loc main_arg2)) (m ((c : Thread nD τ).loc main_arg3))
        ⟨t.val % 4 * 1024 + (y 0).val, by have h : (y 0).val < 1024 := (y 0).isLt; omega⟩
        ⟨t.val / 4 * 1024 + (y 1).val, by have h : (y 1).val < 1024 := (y 1).isLt; have : t.val < 32 := t.isLt; omega⟩ := by
  unfold df
  idx_vars y
  pointwise [k0_pay1]
  obtain ⟨e0, e1, e2, e3, e4⟩ := idx t
  blk_point [iblk, V, e0, e1, e2]
  rw [v2, biased_apply]
  refine congrArg₂ _ (congrArg₂ _ ?_ ?_) rfl
  · blk_ext [e2]
  · blk_ext [e2]

/-- A tile's sums over its tokens. -/
theorem pay3 (a : Vec Ideal S1024x2048 .bf16) (b : Vec Ideal S1x1024x2048 .bf16) (f : Vec Ideal S1024x1024 .f32) (j : S1x1024.Idx) :
    k0_pay3 a b f j = ∑ r : Fin 1024, k0_pay1 a b f (ix2 r (j 1)) := by
  idx_vars j
  pointwise [k0_pay3]

/-- The running sums are kept by addition. -/
theorem pay4 (a : Vec Ideal S1024x2048 .bf16) (b : Vec Ideal S1x1024x2048 .bf16) (f : Vec Ideal S1024x1024 .f32) (v : Vec Ideal S1x1024 .f32) (j : S1x1024.Idx) :
    k0_pay4 a b f v j = (v j : EReal) + k0_pay3 a b f j := by
  idx_vars j
  pointwise [k0_pay4]

/-- The tiles fill the reference's gradient. -/
theorem final3 (c : Dev nD) : (dats m 0 c).arrAt 3 cfg0.N
    = Cert.ReferenceIdeal.Read.val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  rw [after0_3]
  have key : (outsAt0 m c t.val t.isLt).1 y = k0_pay1 (iblk m c 0 t) (iblk m c 1 t) (iblk m c 2 t) y := by
    by_cases h : t.val % 4 = 0
    · rw [outsAt0_A m c t h (by omega)]; frame_out; rfl
    · rw [outsAt0_B m c t h (by omega)]; frame_out; rfl
  rw [key, pay1]
  rw [ref_dfb]
  obtain ⟨e0, e1, e2, e3, e4⟩ := idx t
  have em : (win0_3.blk t).view.emb y = ix2 ⟨t.val % 4 * 1024 + (y 0).val, by have h : (y 0).val < 1024 := (y 0).isLt; omega⟩
        ⟨t.val / 4 * 1024 + (y 1).val, by have h : (y 1).val < 1024 := (y 1).isLt; have : t.val < 32 := t.isLt; omega⟩ := by
    blk_ext [e3]
  rw [em]
  rfl

/-- The tiles fill the reference's sums. -/
theorem final4 (c : Dev nD) : (dats m 0 c).arrAt 4 cfg0.N
    = Cert.ReferenceIdeal.Read.val_main_v19 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have hr := (flush0_4 t).mp hf
  blk_simp
  rw [after0_4]
  rw [ref_db]
  have acc := Pipeline.eq_sum_fin_of_reset_step_apply_of_flush (fun n h => (outsAt0 m c n h).2) 4 0
    (fun s : Fin cfg0.N => fun j => ∑ r : Fin 1024, k0_pay1 (iblk m c 0 s) (iblk m c 1 s) (iblk m c 2 s) (ix2 r (j 1)))
    (by
      intro t h0 j
      rw [outsAt0_A m c t h0 (by omega)]
      frame_out
      rw [show (0 : S1x1024.Idx → EReal) j = 0 from rfl, zero_add]
      exact pay3 _ _ _ j)
    (by
      intro t h0 j
      rw [outsAt0_B m c t h0 (by omega)]
      frame_out
      refine (pay4 _ _ _ _ j).trans ?_
      rw [pay3]) t hr y
  rw [acc, show (0 : S1x1024.Idx → EReal) y = 0 from rfl, zero_add]
  simp only [pay1]
  obtain ⟨e0, e1, e2, e3, e4⟩ := idx t
  refine Fin.sum_mul_add_congr fun s r h => ?_
  have hs : s.val < 4 := s.isLt
  refine df_congr _ _ _ _ ?_ ?_
  · show (4 * (t.val / 4) + s.val) % 4 * 1024 + r.val = s.val * 1024 + r.val
    omega
  · have em : (win0_4.blk t).view.emb y = ix2 0 ⟨t.val / 4 * 1024 + (y 1).val, by have h : (y 1).val < 1024 := (y 1).isLt; have : t.val < 32 := t.isLt; omega⟩ := by
      blk_ext [e4]
    show (4 * (t.val / 4) + s.val) / 4 * 1024 + (y 1).val = ((win0_4.blk t).view.emb y 1).val
    rw [em]
    show (4 * (t.val / 4) + s.val) / 4 * 1024 + (y 1).val = t.val / 4 * 1024 + (y 1).val
    omega

theorem tie : Cert.algebraic_KernelIdeal_ReferenceIdeal := by
  intro m g m' g' _ ha
  refine ⟨fun c => Cert.ReferenceIdeal.Read.val_main_v18 (F := Ideal) (m ((c : Thread nD τ).loc main_arg0)) (m ((c : Thread nD τ).loc main_arg1)) (m ((c : Thread nD τ).loc main_arg2)) (m ((c : Thread nD τ).loc main_arg3)),
    fun c => Cert.ReferenceIdeal.Read.val_main_v19 (F := Ideal) (m ((c : Thread nD τ).loc main_arg0)) (m ((c : Thread nD τ).loc main_arg1)) (m ((c : Thread nD τ).loc main_arg2)) (m ((c : Thread nD τ).loc main_arg3)), ?_, ?_⟩
  · refine (θ_run defs _ _).mono (fun r h c => ?_) (Value.run_blocks (F := Ideal) m g)
    exact ⟨(h c).1.trans (final3 m c), (h c).2.1.trans (final4 m c), (h c).2.2⟩
  · refine (θ_run Cert.ReferenceIdeal.defs _ _).mono (fun r h c => ?_) (Cert.ReferenceIdeal.Value.run (F := Ideal) m' g')
    obtain ⟨a0, a1, a2, a3⟩ := ha c
    refine ⟨(h c).1.trans ?_, (h c).2.1.trans ?_, (h c).2.2⟩
    · rw [a0, a1, a2, a3]; rfl
    · rw [a0, a1, a2, a3]; rfl

/-- The reference runs, leaves its arguments as they are, and has no counter to leave standing. -/
theorem refFrame : Cert.quiescent_ReferenceIdeal := fun m ρ _ =>
  (θ_run _ _ _).mono (fun r h => ⟨fun c => (h c).2.2, sem_eq_zero_of_no_sems rfl r.2⟩) (Cert.ReferenceIdeal.Value.run (F := Ideal) m ρ)

end Cert.KernelIdeal.Hand

end
-- ==== Proof.Dw2.lean ====
/- The weight gradient of the second MLP product, tile by tile, is the reference's transposed product. -/
module

public import proofs.«01_k».proof.Defs
public import proofs.«01_k».proof.Proof.Gen.Dw2Ideal.Value
public import proofs.«01_k».proof.Proof.Gen.Dw2RefIdeal.Run
public import proofs.«01_k».proof.Proof.Gen.Dw2RefIdeal.Read
public import Idealize.ShloMosaic.Lib.Pipeline.ValueKit
public import Idealize.ShloMosaic.Lib.Pointwise

@[expose] public section

set_option maxRecDepth 16384

noncomputable section

namespace Cert.Dw2Ideal.Hand

open Cert.Dw2Ideal Cert.Dw2Ideal.Gen Idealize.ShloMosaic Idealize.ShloMosaic.TcCoe Idealize.SL.Sem
open Idealize.ShloMosaic.Pipeline (Dat)

variable (m : (ℓ : Loc nD τ sig) → Buf (Elt Ideal) ℓ)

/-- Which block of each array a grid point takes: its first coordinate picks the group of 1024 rows of the
    weight, its second the group of 1024 columns. -/
theorem idx : ∀ t : Fin cfg0.N, win0_0.index t = ![0, (grid0.coords t 0).val] ∧ win0_1.index t = ![0, (grid0.coords t 1).val]
    ∧ win0_2.index t = ![(grid0.coords t 0).val, 0, (grid0.coords t 1).val] :=
  (by decide +kernel : ∀ t : Fin grid0.N, _)

/-- The reference's value of the two arguments. -/
abbrev grad (x : (⟨S4096x8192, .f32⟩ : BufTy).Contents (Elt Ideal)) (d : (⟨S4096x2048, .f32⟩ : BufTy).Contents (Elt Ideal)) :
    (⟨S8x1024x2048, .f32⟩ : BufTy).Contents (Elt Ideal) :=
  Cert.Dw2RefIdeal.Read.val_main_v4 (F := Ideal) x d

/-- Each of its entries is a sum over the tokens. -/
theorem grad_apply (x : (⟨S4096x8192, .f32⟩ : BufTy).Contents (Elt Ideal)) (d : (⟨S4096x2048, .f32⟩ : BufTy).Contents (Elt Ideal))
    (i : S8x1024x2048.Idx) : grad x d i = ∑ t : Fin 4096, d (ix2 t (i 2)) * x (ix2 t ⟨(i 0).val * 1024 + (i 1).val, by
      have h0 : (i 0).val < 8 := (i 0).isLt
      have h1 : (i 1).val < 1024 := (i 1).isLt
      show _ < 8192; omega⟩) := by
  unfold grad Cert.Dw2RefIdeal.Read.val_main_v4 Cert.Dw2RefIdeal.Read.val_main_v3 Cert.Dw2RefIdeal.Read.val_main_v2
  idx_vars i
  pointwise

/-- The array that the tiles leave is the reference's value. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]; frame_out
  rw [grad_apply]
  idx_vars y
  pointwise [k0_pay1]
  refine Fin.sum_fin_congr fun k => ?_
  rw [mul_comm]
  obtain ⟨e0, e1, e2⟩ := idx t
  blk_point [iblk, V, e0, e1, e2]

/-- Both programs end with that value in the result. -/
theorem tie : Cert.algebraic_Dw2Ideal_Dw2RefIdeal := by
  intro m g m' g' _ ha
  refine ⟨fun c => grad (m ((c : Thread nD τ).loc main_arg0)) (m ((c : Thread nD τ).loc main_arg1)), ?_, ?_⟩
  · exact (θ_run defs _ _).mono (fun r h c => ⟨(h c).1.trans (final m c), (h c).2⟩) (Value.run_blocks (F := Ideal) m g)
  · refine (θ_run Cert.Dw2RefIdeal.defs _ _).mono (fun r h c => ⟨?_, (h c).2⟩) (Cert.Dw2RefIdeal.Value.run (F := Ideal) m' g')
    rw [(h c).1, (ha c).1, (ha c).2]
    rfl

/-- The reference runs, leaves its arguments as they are, and has no counter to leave standing. -/
theorem refFrame : Cert.quiescent_Dw2RefIdeal := fun m ρ _ =>
  (θ_run _ _ _).mono (fun r h => ⟨fun c => (h c).2, sem_eq_zero_of_no_sems rfl r.2⟩) (Cert.Dw2RefIdeal.Value.run (F := Ideal) m ρ)

end Cert.Dw2Ideal.Hand

end
-- ==== Proof.Dw1.lean ====
/- The weight gradient of the first MLP product, tile by tile, is the reference's transposed product. -/
module

public import proofs.«01_k».proof.Defs
public import proofs.«01_k».proof.Proof.Gen.Dw1Ideal.Value
public import proofs.«01_k».proof.Proof.Gen.Dw1RefIdeal.Run
public import proofs.«01_k».proof.Proof.Gen.Dw1RefIdeal.Read
public import Idealize.ShloMosaic.Lib.Pipeline.ValueKit
public import Idealize.ShloMosaic.Lib.Pointwise

@[expose] public section

set_option maxRecDepth 16384

noncomputable section

namespace Cert.Dw1Ideal.Hand

open Cert.Dw1Ideal Cert.Dw1Ideal.Gen Idealize.ShloMosaic Idealize.ShloMosaic.TcCoe Idealize.SL.Sem
open Idealize.ShloMosaic.Pipeline (Dat)

variable (m : (ℓ : Loc nD τ sig) → Buf (Elt Ideal) ℓ)

/-- Which block of each array a grid point takes: its first coordinate picks the group of 1024 rows of the
    weight, its second the shard of 1024 columns. -/
theorem idx : ∀ t : Fin cfg0.N, win0_0.index t = ![0, (grid0.coords t 0).val] ∧ win0_1.index t = ![0, (grid0.coords t 1).val]
    ∧ win0_2.index t = ![(grid0.coords t 1).val, (grid0.coords t 0).val, 0] :=
  (by decide +kernel : ∀ t : Fin grid0.N, _)

/-- The reference's value of the two arguments. -/
abbrev grad (x : (⟨S4096x2048, .f32⟩ : BufTy).Contents (Elt Ideal)) (d : (⟨S4096x8192, .f32⟩ : BufTy).Contents (Elt Ideal)) :
    (⟨S8x2048x1024, .f32⟩ : BufTy).Contents (Elt Ideal) :=
  Cert.Dw1RefIdeal.Read.val_main_v5 (F := Ideal) x d

/-- Each of its entries is a sum over the tokens. -/
theorem grad_apply (x : (⟨S4096x2048, .f32⟩ : BufTy).Contents (Elt Ideal)) (d : (⟨S4096x8192, .f32⟩ : BufTy).Contents (Elt Ideal))
    (i : S8x2048x1024.Idx) : grad x d i = ∑ t : Fin 4096, d (ix2 t ⟨(i 0).val * 1024 + (i 2).val, by
      have h0 : (i 0).val < 8 := (i 0).isLt
      have h1 : (i 2).val < 1024 := (i 2).isLt
      show _ < 8192; omega⟩) * x (ix2 t (i 1)) := by
  unfold grad Cert.Dw1RefIdeal.Read.val_main_v5 Cert.Dw1RefIdeal.Read.val_main_v4 Cert.Dw1RefIdeal.Read.val_main_v3 Cert.Dw1RefIdeal.Read.val_main_v2
  idx_vars i
  pointwise

/-- The array that the tiles leave is the reference's value. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]; frame_out
  rw [grad_apply]
  idx_vars y
  pointwise [k0_pay1]
  refine Fin.sum_fin_congr fun k => ?_
  rw [mul_comm]
  obtain ⟨e0, e1, e2⟩ := idx t
  blk_point [iblk, V, e0, e1, e2]

/-- Both programs end with that value in the result. -/
theorem tie : Cert.algebraic_Dw1Ideal_Dw1RefIdeal := by
  intro m g m' g' _ ha
  refine ⟨fun c => grad (m ((c : Thread nD τ).loc main_arg0)) (m ((c : Thread nD τ).loc main_arg1)), ?_, ?_⟩
  · exact (θ_run defs _ _).mono (fun r h c => ⟨(h c).1.trans (final m c), (h c).2⟩) (Value.run_blocks (F := Ideal) m g)
  · refine (θ_run Cert.Dw1RefIdeal.defs _ _).mono (fun r h c => ⟨?_, (h c).2⟩) (Cert.Dw1RefIdeal.Value.run (F := Ideal) m' g')
    rw [(h c).1, (ha c).1, (ha c).2]
    rfl

/-- The reference runs, leaves its arguments as they are, and has no counter to leave standing. -/
theorem refFrame : Cert.quiescent_Dw1RefIdeal := fun m ρ _ =>
  (θ_run _ _ _).mono (fun r h => ⟨fun c => (h c).2, sem_eq_zero_of_no_sems rfl r.2⟩) (Cert.Dw1RefIdeal.Value.run (F := Ideal) m ρ)

end Cert.Dw1Ideal.Hand

end
-- ==== Proof.Dwout.lean ====
/- The weight gradient of the attention block's output product, tile by tile, is the reference's transposed product. -/
module

public import proofs.«01_k».proof.Defs
public import proofs.«01_k».proof.Proof.Gen.DwoutIdeal.Value
public import proofs.«01_k».proof.Proof.Gen.DwoutRefIdeal.Run
public import proofs.«01_k».proof.Proof.Gen.DwoutRefIdeal.Read
public import Idealize.ShloMosaic.Lib.Pipeline.ValueKit
public import Idealize.ShloMosaic.Lib.Pointwise

@[expose] public section

set_option maxRecDepth 16384

noncomputable section

namespace Cert.DwoutIdeal.Hand

open Cert.DwoutIdeal Cert.DwoutIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a grid point takes: its first coordinate picks the group of 1024 rows of the
    weight, its second the group of 1024 columns. -/
theorem idx : ∀ t : Fin cfg0.N, win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- The reference's value of the two arguments. -/
abbrev grad (x : (⟨S4096x2048, .f32⟩ : BufTy).Contents (Elt Ideal)) (d : (⟨S4096x2048, .f32⟩ : BufTy).Contents (Elt Ideal)) :
    (⟨S2048x2048, .f32⟩ : BufTy).Contents (Elt Ideal) :=
  Cert.DwoutRefIdeal.Read.val_main_v3 (F := Ideal) x d

/-- Each of its entries is a sum over the tokens. -/
theorem grad_apply (x : (⟨S4096x2048, .f32⟩ : BufTy).Contents (Elt Ideal)) (d : (⟨S4096x2048, .f32⟩ : BufTy).Contents (Elt Ideal))
    (i : S2048x2048.Idx) : grad x d i = ∑ t : Fin 4096, d (ix2 t (i 1)) * x (ix2 t (i 0)) := by
  unfold grad Cert.DwoutRefIdeal.Read.val_main_v3 Cert.DwoutRefIdeal.Read.val_main_v2
  idx_vars i
  pointwise

/-- The array that the tiles leave is the reference's value. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]; frame_out
  rw [grad_apply]
  idx_vars y
  pointwise [k0_pay1]
  refine Fin.sum_fin_congr fun k => ?_
  rw [mul_comm]
  obtain ⟨e0, e1, e2⟩ := idx t
  blk_point [iblk, V, e0, e1, e2]

/-- Both programs end with that value in the result. -/
theorem tie : Cert.algebraic_DwoutIdeal_DwoutRefIdeal := by
  intro m g m' g' _ ha
  refine ⟨fun c => grad (m ((c : Thread nD τ).loc main_arg0)) (m ((c : Thread nD τ).loc main_arg1)), ?_, ?_⟩
  · exact (θ_run defs _ _).mono (fun r h c => ⟨(h c).1.trans (final m c), (h c).2⟩) (Value.run_blocks (F := Ideal) m g)
  · refine (θ_run Cert.DwoutRefIdeal.defs _ _).mono (fun r h c => ⟨?_, (h c).2⟩) (Cert.DwoutRefIdeal.Value.run (F := Ideal) m' g')
    rw [(h c).1, (ha c).1, (ha c).2]
    rfl

/-- The reference runs, leaves its arguments as they are, and has no counter to leave standing. -/
theorem refFrame : Cert.quiescent_DwoutRefIdeal := fun m ρ _ =>
  (θ_run _ _ _).mono (fun r h => ⟨fun c => (h c).2, sem_eq_zero_of_no_sems rfl r.2⟩) (Cert.DwoutRefIdeal.Value.run (F := Ideal) m ρ)

end Cert.DwoutIdeal.Hand

end
-- ==== Proof.DmixAtt.lean ====
/- The gradient of the mixer's output through the output projection, tile by tile, is the reference's. -/
module

public import proofs.«01_k».proof.Defs
public import proofs.«01_k».proof.Proof.Gen.DmixAttIdeal.Value
public import proofs.«01_k».proof.Proof.Gen.DmixAttRefIdeal.Run
public import proofs.«01_k».proof.Proof.Gen.DmixAttRefIdeal.Read
public import Idealize.ShloMosaic.Lib.Pipeline.ValueKit
public import Idealize.ShloMosaic.Lib.Pointwise

@[expose] public section

set_option maxRecDepth 16384

noncomputable section

namespace Cert.DmixAttIdeal.Hand

open Cert.DmixAttIdeal Cert.DmixAttIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a grid point takes. -/
theorem idx : ∀ t : Fin cfg0.N, win0_0.index t = ![t.val, 0] ∧ win0_1.index t = ![1, 0] ∧ win0_2.index t = ![t.val, 0] :=
  (by decide +kernel : ∀ t : Fin grid0.N, _)

/-- An entry of the reference's value is a sum over the model's features. -/
theorem ref_apply (x : FVec Ideal S4096x2048 .f32) (w : FVec Ideal S2048x2048 .f32) (i : S4096x1024.Idx) :
    Cert.DmixAttRefIdeal.Read.val_main_v4 (F := Ideal) x w i = ∑ k : Fin 2048, x (ix2 (i 0) k) * w (ix2 ⟨1024 + (i 1).val, by have h : (i 1).val < 1024 := (i 1).isLt; omega⟩ k) := by
  unfold Cert.DmixAttRefIdeal.Read.val_main_v4 Cert.DmixAttRefIdeal.Read.val_main_v3 Cert.DmixAttRefIdeal.Read.val_main_v2
  idx_vars i
  pointwise

/-- The tiles fill the reference's value. -/
theorem final2 (c : Dev nD) : (dats m 0 c).arrAt 2 cfg0.N
    = Cert.DmixAttRefIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  rw [ref_apply]
  idx_vars y
  pointwise [k0_pay1]
  refine Fin.sum_fin_congr fun k => ?_
  obtain ⟨e0, e1, e2⟩ := idx t
  blk_point [iblk, V, e0, e1, e2]

/-- Both programs end with the same values in the results. -/
theorem tie : Cert.algebraic_DmixAttIdeal_DmixAttRefIdeal := by
  intro m g m' g' _ ha
  refine ⟨fun c => Cert.DmixAttRefIdeal.Read.val_main_v4 (F := Ideal) (m ((c : Thread nD τ).loc main_arg0)) (m ((c : Thread nD τ).loc main_arg1)), ?_, ?_⟩
  · refine (θ_run defs _ _).mono (fun r h c => ?_) (Value.run_blocks (F := Ideal) m g)
    exact ⟨((h c).1).trans (final2 m c), (h c).2⟩
  · refine (θ_run Cert.DmixAttRefIdeal.defs _ _).mono (fun r h c => ?_) (Cert.DmixAttRefIdeal.Value.run (F := Ideal) m' g')
    obtain ⟨a0, a1⟩ := ha c
    refine ⟨(h c).1.trans ?_, (h c).2⟩
    · rw [a0, a1]; rfl

/-- The reference runs, leaves its arguments as they are, and has no counter to leave standing. -/
theorem refFrame : Cert.quiescent_DmixAttRefIdeal := fun m ρ _ =>
  (θ_run _ _ _).mono (fun r h => ⟨fun c => (h c).2, sem_eq_zero_of_no_sems rfl r.2⟩) (Cert.DmixAttRefIdeal.Value.run (F := Ideal) m ρ)

end Cert.DmixAttIdeal.Hand

end
-- ==== Proof.DmixPool.lean ====
/- The gradient of the mixer's output through the output projection, tile by tile, is the reference's. -/
module

public import proofs.«01_k».proof.Defs
public import proofs.«01_k».proof.Proof.Gen.DmixPoolIdeal.Value
public import proofs.«01_k».proof.Proof.Gen.DmixPoolRefIdeal.Run
public import proofs.«01_k».proof.Proof.Gen.DmixPoolRefIdeal.Read
public import Idealize.ShloMosaic.Lib.Pipeline.ValueKit
public import Idealize.ShloMosaic.Lib.Pointwise

@[expose] public section

set_option maxRecDepth 16384

noncomputable section

namespace Cert.DmixPoolIdeal.Hand

open Cert.DmixPoolIdeal Cert.DmixPoolIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a grid point takes. -/
theorem idx : ∀ t : Fin cfg0.N, win0_0.index t = ![t.val, 0] ∧ win0_1.index t = ![0, 0] ∧ win0_2.index t = ![t.val, 0] :=
  (by decide +kernel : ∀ t : Fin grid0.N, _)

/-- An entry of the reference's value is a sum over the model's features. -/
theorem ref_apply (x : FVec Ideal S4096x2048 .f32) (w : FVec Ideal S2048x2048 .f32) (i : S4096x1024.Idx) :
    Cert.DmixPoolRefIdeal.Read.val_main_v3 (F := Ideal) x w i = ∑ k : Fin 2048, x (ix2 (i 0) k) * w (ix2 ⟨0 + (i 1).val, by have h : (i 1).val < 1024 := (i 1).isLt; omega⟩ k) := by
  unfold Cert.DmixPoolRefIdeal.Read.val_main_v3 Cert.DmixPoolRefIdeal.Read.val_main_v2
  idx_vars i
  pointwise

/-- The tiles fill the reference's value. -/
theorem final2 (c : Dev nD) : (dats m 0 c).arrAt 2 cfg0.N
    = Cert.DmixPoolRefIdeal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  rw [ref_apply]
  idx_vars y
  pointwise [k0_pay1]
  refine Fin.sum_fin_congr fun k => ?_
  obtain ⟨e0, e1, e2⟩ := idx t
  blk_point [iblk, V, e0, e1, e2]

/-- Both programs end with the same values in the results. -/
theorem tie : Cert.algebraic_DmixPoolIdeal_DmixPoolRefIdeal := by
  intro m g m' g' _ ha
  refine ⟨fun c => Cert.DmixPoolRefIdeal.Read.val_main_v3 (F := Ideal) (m ((c : Thread nD τ).loc main_arg0)) (m ((c : Thread nD τ).loc main_arg1)), ?_, ?_⟩
  · refine (θ_run defs _ _).mono (fun r h c => ?_) (Value.run_blocks (F := Ideal) m g)
    exact ⟨((h c).1).trans (final2 m c), (h c).2⟩
  · refine (θ_run Cert.DmixPoolRefIdeal.defs _ _).mono (fun r h c => ?_) (Cert.DmixPoolRefIdeal.Value.run (F := Ideal) m' g')
    obtain ⟨a0, a1⟩ := ha c
    refine ⟨(h c).1.trans ?_, (h c).2⟩
    · rw [a0, a1]; rfl

/-- The reference runs, leaves its arguments as they are, and has no counter to leave standing. -/
theorem refFrame : Cert.quiescent_DmixPoolRefIdeal := fun m ρ _ =>
  (θ_run _ _ _).mono (fun r h => ⟨fun c => (h c).2, sem_eq_zero_of_no_sems rfl r.2⟩) (Cert.DmixPoolRefIdeal.Value.run (F := Ideal) m ρ)

end Cert.DmixPoolIdeal.Hand

end
-- ==== Proof.Dwin.lean ====
/- The gradient of the input projection's weight, tile by tile, is the reference's. -/
module

public import proofs.«01_k».proof.Defs
public import proofs.«01_k».proof.Proof.Gen.DwinIdeal.Value
public import proofs.«01_k».proof.Proof.Gen.DwinRefIdeal.Run
public import proofs.«01_k».proof.Proof.Gen.DwinRefIdeal.Read
public import Idealize.ShloMosaic.Lib.Pipeline.ValueKit
public import Idealize.ShloMosaic.Lib.Pointwise

@[expose] public section

set_option maxRecDepth 16384

noncomputable section

namespace Cert.DwinIdeal.Hand

open Cert.DwinIdeal Cert.DwinIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a grid point takes. -/
theorem idx : ∀ t : Fin cfg0.N, win0_0.index t = ![0, t.val / 8] ∧ win0_1.index t = ![(t.val % 8 / 2 + 3) % 4, 0, t.val % 8 % 2] ∧ win0_2.index t = ![t.val % 8, t.val / 8, 0] :=
  (by decide +kernel : ∀ t : Fin grid0.N, _)

/-- The gradient of the four parts of the mixer's input, in the order in which the kernel takes them. -/
def stacked (d : FVec Ideal S4096x4096 .f32) : FVec Ideal S4x4096x1024 .bf16 :=
  concatenate S4x4096x1024 0
    [⟨S1x4096x1024, broadcastInDim S1x4096x1024 ![1, 2] bcast_S4096x1024_S1x4096x1024_1_2 (extractStridedSlice S4096x1024 ![0, 1024] (truncf .bf16 d bitsLt_bf16_f32) slices_S4096x4096_S4096x1024_0_1024)⟩,
     ⟨S1x4096x1024, broadcastInDim S1x4096x1024 ![1, 2] bcast_S4096x1024_S1x4096x1024_1_2 (extractStridedSlice S4096x1024 ![0, 2048] (truncf .bf16 d bitsLt_bf16_f32) slices_S4096x4096_S4096x1024_0_2048)⟩,
     ⟨S1x4096x1024, broadcastInDim S1x4096x1024 ![1, 2] bcast_S4096x1024_S1x4096x1024_1_2 (extractStridedSlice S4096x1024 ![0, 3072] (truncf .bf16 d bitsLt_bf16_f32) slices_S4096x4096_S4096x1024_0_3072)⟩,
     ⟨S1x4096x1024, broadcastInDim S1x4096x1024 ![1, 2] bcast_S4096x1024_S1x4096x1024_1_2 (extractStridedSlice S4096x1024 ![0, 0] (truncf .bf16 d bitsLt_bf16_f32) slices_S4096x4096_S4096x1024_0_0)⟩]
    concatenates_S1x4096x1024_S1x4096x1024_S1x4096x1024_S1x4096x1024_S4x4096x1024_d0

/-- Part `q` of the stack is part `q + 1`, counted around, of the columns. -/
theorem stacked_apply (d : FVec Ideal S4096x4096 .f32) (i : S4x4096x1024.Idx) :
    stacked d i = d (ix2 (i 1) ⟨((i 0).val + 1) % 4 * 1024 + (i 2).val, by have h2 : (i 2).val < 1024 := (i 2).isLt; omega⟩) := by
  idx_vars i
  match i0 with
  | ⟨0, _⟩ => pointwise [stacked]
  | ⟨1, _⟩ => pointwise [stacked]
  | ⟨2, _⟩ => pointwise [stacked]
  | ⟨3, _⟩ => pointwise [stacked]

/-- What the host code hands the kernel. -/
theorem host_stack (c : Dev nD) : V m c main_v9 = stacked (m ((c : Thread nD τ).loc main_arg1)) := by
  show StableHlo.after hostOps0 _ (Proc.devRef .tc main_v9) = _
  after_results
  rfl

/-- An entry of the reference's value is a sum over the tokens. -/
theorem ref_apply (x : FVec Ideal S4096x2048 .f32) (d : FVec Ideal S4096x4096 .f32) (i : S8x2048x512.Idx) :
    Cert.DwinRefIdeal.Read.val_main_v5 (F := Ideal) x d i = ∑ k : Fin 4096, d (ix2 k ⟨(i 0).val * 512 + (i 2).val, by
      have h0 : (i 0).val < 8 := (i 0).isLt
      have h2 : (i 2).val < 512 := (i 2).isLt
      omega⟩) * x (ix2 k (i 1)) := by
  unfold Cert.DwinRefIdeal.Read.val_main_v5 Cert.DwinRefIdeal.Read.val_main_v4 Cert.DwinRefIdeal.Read.val_main_v3 Cert.DwinRefIdeal.Read.val_main_v2
  idx_vars i
  pointwise

/-- One entry of a tile of the kernel. -/
theorem pay_apply (x : FVec Ideal S4096x1024 .bf16) (d : FVec Ideal S1x4096x512 .bf16) (i : S1x1024x512.Idx) :
    k0_pay1 (F := Ideal) x d i = ∑ k : Fin 4096, x (ix2 k (i 1)) * d (ix3 0 k (i 2)) := by
  idx_vars i
  pointwise [k0_pay1]

/-- Equal columns, equal entries. -/
theorem entry (d : FVec Ideal S4096x4096 .f32) (k : Fin 4096) {a b : Fin 4096} (h : a.val = b.val) : d (ix2 k a) = d (ix2 k b) := by
  rw [Fin.ext h]

/-- The column of the four parts' gradient that a grid point's block holds. -/
theorem blk1 (c : Dev nD) (t : Fin cfg0.N) (k : Fin 4096) (j : Fin 512) :
    iblk m c 1 t (ix3 0 k j) = (m ((c : Thread nD τ).loc main_arg1)) (ix2 k ⟨t.val % 8 * 512 + j.val, by omega⟩) := by
  obtain ⟨e0, e1, e2⟩ := idx t
  have em : (win0_1.blk t).view.emb (ix3 0 k j) = ix3 ⟨(t.val % 8 / 2 + 3) % 4, by omega⟩ k ⟨t.val % 8 % 2 * 512 + j.val, by omega⟩ := by
    blk_ext [e1]
  show V m c main_v9 ((win0_1.blk t).view.emb (ix3 0 k j)) = _
  rw [em, host_stack, stacked_apply]
  refine entry _ k ?_
  show ((t.val % 8 / 2 + 3) % 4 + 1) % 4 * 1024 + (t.val % 8 % 2 * 512 + j.val) = t.val % 8 * 512 + j.val
  omega

/-- The tiles fill the reference's value. -/
theorem final2 (c : Dev nD) : (dats m 0 c).arrAt 2 cfg0.N
    = Cert.DwinRefIdeal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  rw [ref_apply, pay_apply]
  have ht : t.val < 16 := t.isLt
  have em : (win0_2.blk t).view.emb y = ix3 ⟨t.val % 8, by omega⟩ ⟨t.val / 8 * 1024 + (y 1).val, by have h : (y 1).val < 1024 := (y 1).isLt; omega⟩ (y 2) := by
    obtain ⟨e0, e1, e2⟩ := idx t
    blk_ext [e2]
  rw [em]
  refine Fin.sum_fin_congr fun k => ?_
  rw [mul_comm]
  refine congrArg₂ _ ?_ ?_
  · exact blk1 m c t k (y 2)
  · obtain ⟨e0, e1, e2⟩ := idx t
    idx_vars y
    blk_point [iblk, V, e0]

/-- Both programs end with the same values in the results. -/
theorem tie : Cert.algebraic_DwinIdeal_DwinRefIdeal := by
  intro m g m' g' _ ha
  refine ⟨fun c => Cert.DwinRefIdeal.Read.val_main_v5 (F := Ideal) (m ((c : Thread nD τ).loc main_arg0)) (m ((c : Thread nD τ).loc main_arg1)), ?_, ?_⟩
  · refine (θ_run defs _ _).mono (fun r h c => ?_) (Value.run_blocks (F := Ideal) m g)
    exact ⟨((h c).1).trans (final2 m c), (h c).2⟩
  · refine (θ_run Cert.DwinRefIdeal.defs _ _).mono (fun r h c => ?_) (Cert.DwinRefIdeal.Value.run (F := Ideal) m' g')
    obtain ⟨a0, a1⟩ := ha c
    refine ⟨(h c).1.trans ?_, (h c).2⟩
    · rw [a0, a1]; rfl

/-- The reference runs, leaves its arguments as they are, and has no counter to leave standing. -/
theorem refFrame : Cert.quiescent_DwinRefIdeal := fun m ρ _ =>
  (θ_run _ _ _).mono (fun r h => ⟨fun c => (h c).2, sem_eq_zero_of_no_sems rfl r.2⟩) (Cert.DwinRefIdeal.Value.run (F := Ideal) m ρ)

end Cert.DwinIdeal.Hand

end
-- ==== Proof.Ff1.lean ====
/- The first MLP layer and its squared rectifier, tile by tile, are the reference's. -/
module

public import proofs.«01_k».proof.Defs
public import proofs.«01_k».proof.Proof.Gen.Ff1Ideal.Value
public import proofs.«01_k».proof.Proof.Gen.Ff1RefIdeal.Run
public import proofs.«01_k».proof.Proof.Gen.Ff1RefIdeal.Read
public import Idealize.ShloMosaic.Lib.Pipeline.ValueKit
public import Idealize.ShloMosaic.Lib.Pointwise

@[expose] public section

set_option maxRecDepth 16384

noncomputable section

namespace Cert.Ff1Ideal.Hand

open Cert.Ff1Ideal Cert.Ff1Ideal.Gen Idealize.ShloMosaic Idealize.ShloMosaic.TcCoe Idealize.SL.Sem
open Idealize.ShloMosaic.Pipeline (Dat)

variable (m : (ℓ : Loc nD τ sig) → Buf (Elt Ideal) ℓ)

/-- Which block of each array a grid point takes. -/
theorem idx : ∀ t : Fin cfg0.N, win0_0.index t = ![t.val / 16, 0] ∧ win0_1.index t = ![t.val % 16 / 2, 0, t.val % 16 % 2] ∧ win0_2.index t = ![0, t.val % 16] ∧ win0_3.index t = ![t.val / 16, t.val % 16] ∧ win0_4.index t = ![t.val / 16, t.val % 16] :=
  (by decide +kernel : ∀ t : Fin grid0.N, _)

/-- The tiles fill the reference's value. -/
theorem final3 (c : Dev nD) : (dats m 0 c).arrAt 3 cfg0.N
    = Cert.Ff1RefIdeal.Read.val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  idx_vars y
  unfold Cert.Ff1RefIdeal.Read.val_main_v4 Cert.Ff1RefIdeal.Read.val_main_v0 Cert.Ff1RefIdeal.Read.val_main_v3 Cert.Ff1RefIdeal.Read.val_main_v2 Cert.Ff1RefIdeal.Read.val_main_v1
  pointwise [k0_pay1]
  obtain ⟨e0, e1, e2, e3, e4⟩ := idx t
  blk_point [iblk, V, e0, e1, e2, e3, e4]

/-- The tiles fill the reference's value. -/
theorem final4 (c : Dev nD) : (dats m 0 c).arrAt 4 cfg0.N
    = Cert.Ff1RefIdeal.Read.val_main_v7 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]; frame_out
  idx_vars y
  unfold Cert.Ff1RefIdeal.Read.val_main_v7 Cert.Ff1RefIdeal.Read.val_main_v6 Cert.Ff1RefIdeal.Read.val_main_v5 Cert.Ff1RefIdeal.Read.val_main_v4 Cert.Ff1RefIdeal.Read.val_main_call0_v0 Cert.Ff1RefIdeal.Read.val_main_v0 Cert.Ff1RefIdeal.Read.val_main_v3 Cert.Ff1RefIdeal.Read.val_main_call0_cst Cert.Ff1RefIdeal.Read.val_main_v2 Cert.Ff1RefIdeal.Read.val_main_v1
  pointwise [k0_pay2, k0_pay1]
  obtain ⟨e0, e1, e2, e3, e4⟩ := idx t
  blk_point [iblk, V, e0, e1, e2, e3, e4]

/-- Both programs end with the same values in the results. -/
theorem tie : Cert.algebraic_Ff1Ideal_Ff1RefIdeal := by
  intro m g m' g' _ ha
  refine ⟨fun c => Cert.Ff1RefIdeal.Read.val_main_v4 (F := Ideal) (m ((c : Thread nD τ).loc main_arg0)) (m ((c : Thread nD τ).loc main_arg1)) (m ((c : Thread nD τ).loc main_arg2)),
    fun c => Cert.Ff1RefIdeal.Read.val_main_v7 (F := Ideal) (m ((c : Thread nD τ).loc main_arg0)) (m ((c : Thread nD τ).loc main_arg1)) (m ((c : Thread nD τ).loc main_arg2)), ?_, ?_⟩
  · refine (θ_run defs _ _).mono (fun r h c => ?_) (Value.run_blocks (F := Ideal) m g)
    exact ⟨((h c).1).trans (final3 m c), ((h c).2.1).trans (final4 m c), (h c).2.2⟩
  · refine (θ_run Cert.Ff1RefIdeal.defs _ _).mono (fun r h c => ?_) (Cert.Ff1RefIdeal.Value.run (F := Ideal) m' g')
    obtain ⟨a0, a1, a2⟩ := ha c
    refine ⟨(h c).1.trans ?_, (h c).2.1.trans ?_, (h c).2.2⟩
    · rw [a0, a1, a2]; rfl
    · rw [a0, a1, a2]; rfl

/-- The reference runs, leaves its arguments as they are, and has no counter to leave standing. -/
theorem refFrame : Cert.quiescent_Ff1RefIdeal := fun m ρ _ =>
  (θ_run _ _ _).mono (fun r h => ⟨fun c => (h c).2.2, sem_eq_zero_of_no_sems rfl r.2⟩) (Cert.Ff1RefIdeal.Value.run (F := Ideal) m ρ)

end Cert.Ff1Ideal.Hand

end
-- ==== Proof.Upool.lean ====
/- A part of the input projection, tile by tile, is the reference's. -/
module

public import proofs.«01_k».proof.Defs
public import proofs.«01_k».proof.Proof.Gen.UpoolIdeal.Value
public import proofs.«01_k».proof.Proof.Gen.UpoolRefIdeal.Run
public import proofs.«01_k».proof.Proof.Gen.UpoolRefIdeal.Read
public import Idealize.ShloMosaic.Lib.Pipeline.ValueKit
public import Idealize.ShloMosaic.Lib.Pointwise

@[expose] public section

set_option maxRecDepth 16384

noncomputable section

namespace Cert.UpoolIdeal.Hand

open Cert.UpoolIdeal Cert.UpoolIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a grid point takes. -/
theorem idx : ∀ t : Fin cfg0.N, win0_0.index t = ![t.val / 2, 0] ∧ win0_1.index t = ![t.val % 2 + 0, 0, 0] ∧ win0_2.index t = ![t.val / 2, t.val % 2] :=
  (by decide +kernel : ∀ t : Fin grid0.N, _)

/-- An entry of the reference's value is a sum over the model's features. -/
theorem ref_apply (x : FVec Ideal S4096x2048 .f32) (w : FVec Ideal S2048x4096 .f32) (i : S4096x1024.Idx) :
    Cert.UpoolRefIdeal.Read.val_main_v1 (F := Ideal) x w i = ∑ k : Fin 2048, x (ix2 (i 0) k) * w (ix2 k ⟨0 + (i 1).val, by have h : (i 1).val < 1024 := (i 1).isLt; omega⟩) := by
  unfold Cert.UpoolRefIdeal.Read.val_main_v1 Cert.UpoolRefIdeal.Read.val_main_v0
  idx_vars i
  pointwise

/-- The tiles fill the reference's value. -/
theorem final2 (c : Dev nD) : (dats m 0 c).arrAt 2 cfg0.N
    = Cert.UpoolRefIdeal.Read.val_main_v1 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  rw [ref_apply]
  idx_vars y
  pointwise [k0_pay1]
  refine Fin.sum_fin_congr fun k => ?_
  obtain ⟨e0, e1, e2⟩ := idx t
  blk_point [iblk, V, e0, e1, e2]

/-- Both programs end with the same values in the results. -/
theorem tie : Cert.algebraic_UpoolIdeal_UpoolRefIdeal := by
  intro m g m' g' _ ha
  refine ⟨fun c => Cert.UpoolRefIdeal.Read.val_main_v1 (F := Ideal) (m ((c : Thread nD τ).loc main_arg0)) (m ((c : Thread nD τ).loc main_arg1)), ?_, ?_⟩
  · refine (θ_run defs _ _).mono (fun r h c => ?_) (Value.run_blocks (F := Ideal) m g)
    exact ⟨((h c).1).trans (final2 m c), (h c).2⟩
  · refine (θ_run Cert.UpoolRefIdeal.defs _ _).mono (fun r h c => ?_) (Cert.UpoolRefIdeal.Value.run (F := Ideal) m' g')
    obtain ⟨a0, a1⟩ := ha c
    refine ⟨(h c).1.trans ?_, (h c).2⟩
    · rw [a0, a1]; rfl

/-- The reference runs, leaves its arguments as they are, and has no counter to leave standing. -/
theorem refFrame : Cert.quiescent_UpoolRefIdeal := fun m ρ _ =>
  (θ_run _ _ _).mono (fun r h => ⟨fun c => (h c).2, sem_eq_zero_of_no_sems rfl r.2⟩) (Cert.UpoolRefIdeal.Value.run (F := Ideal) m ρ)

end Cert.UpoolIdeal.Hand

end
-- ==== Proof.Uqkv.lean ====
/- A part of the input projection, tile by tile, is the reference's. -/
module

public import proofs.«01_k».proof.Defs
public import proofs.«01_k».proof.Proof.Gen.UqkvIdeal.Value
public import proofs.«01_k».proof.Proof.Gen.UqkvRefIdeal.Run
public import proofs.«01_k».proof.Proof.Gen.UqkvRefIdeal.Read
public import Idealize.ShloMosaic.Lib.Pipeline.ValueKit
public import Idealize.ShloMosaic.Lib.Pointwise

@[expose] public section

set_option maxRecDepth 16384

noncomputable section

namespace Cert.UqkvIdeal.Hand

open Cert.UqkvIdeal Cert.UqkvIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a grid point takes. -/
theorem idx : ∀ t : Fin cfg0.N, win0_0.index t = ![t.val / 6, 0] ∧ win0_1.index t = ![t.val % 6 + 2, 0, 0] ∧ win0_2.index t = ![t.val / 6, t.val % 6] :=
  (by decide +kernel : ∀ t : Fin grid0.N, _)

/-- An entry of the reference's value is a sum over the model's features. -/
theorem ref_apply (x : FVec Ideal S4096x2048 .f32) (w : FVec Ideal S2048x4096 .f32) (i : S4096x3072.Idx) :
    Cert.UqkvRefIdeal.Read.val_main_v2 (F := Ideal) x w i = ∑ k : Fin 2048, x (ix2 (i 0) k) * w (ix2 k ⟨1024 + (i 1).val, by have h : (i 1).val < 3072 := (i 1).isLt; omega⟩) := by
  unfold Cert.UqkvRefIdeal.Read.val_main_v2 Cert.UqkvRefIdeal.Read.val_main_v1 Cert.UqkvRefIdeal.Read.val_main_v0
  idx_vars i
  pointwise

/-- The tiles fill the reference's value. -/
theorem final2 (c : Dev nD) : (dats m 0 c).arrAt 2 cfg0.N
    = Cert.UqkvRefIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  rw [ref_apply]
  idx_vars y
  pointwise [k0_pay1]
  refine Fin.sum_fin_congr fun k => ?_
  obtain ⟨e0, e1, e2⟩ := idx t
  blk_point [iblk, V, e0, e1, e2]

/-- Both programs end with the same values in the results. -/
theorem tie : Cert.algebraic_UqkvIdeal_UqkvRefIdeal := by
  intro m g m' g' _ ha
  refine ⟨fun c => Cert.UqkvRefIdeal.Read.val_main_v2 (F := Ideal) (m ((c : Thread nD τ).loc main_arg0)) (m ((c : Thread nD τ).loc main_arg1)), ?_, ?_⟩
  · refine (θ_run defs _ _).mono (fun r h c => ?_) (Value.run_blocks (F := Ideal) m g)
    exact ⟨((h c).1).trans (final2 m c), (h c).2⟩
  · refine (θ_run Cert.UqkvRefIdeal.defs _ _).mono (fun r h c => ?_) (Cert.UqkvRefIdeal.Value.run (F := Ideal) m' g')
    obtain ⟨a0, a1⟩ := ha c
    refine ⟨(h c).1.trans ?_, (h c).2⟩
    · rw [a0, a1]; rfl

/-- The reference runs, leaves its arguments as they are, and has no counter to leave standing. -/
theorem refFrame : Cert.quiescent_UqkvRefIdeal := fun m ρ _ =>
  (θ_run _ _ _).mono (fun r h => ⟨fun c => (h c).2, sem_eq_zero_of_no_sems rfl r.2⟩) (Cert.UqkvRefIdeal.Value.run (F := Ideal) m ρ)

end Cert.UqkvIdeal.Hand

end
-- ==== Proof.Norm.lean ====
/- The layer norm of one row of 2048 numbers, the gradient through it in two spellings, and that they agree on real
   numbers. -/
module

public import Idealize.ShloMosaic.PureOps.Ideal.Laws
public import Idealize.ShloMosaic.Lib.IdealHost

@[expose] public section

noncomputable section

namespace Cert.Norm

open Idealize.ShloMosaic

/-- An extended real that is a real number. -/
def Re (x : EReal) : Prop := ∃ r : ℝ, x = (r : EReal)

theorem Re.of_lt {x : EReal} (h : max x (-x) < ⊤) : Re x := by
  induction x with
  | bot => simp at h
  | top => simp at h
  | coe r => exact ⟨r, rfl⟩

theorem Re.add {x y : EReal} : Re x → Re y → Re (x + y) := by
  rintro ⟨a, rfl⟩ ⟨b, rfl⟩; exact ⟨a + b, (EReal.coe_add a b).symm⟩

theorem Re.mul {x y : EReal} : Re x → Re y → Re (x * y) := by
  rintro ⟨a, rfl⟩ ⟨b, rfl⟩; exact ⟨a * b, (EReal.coe_mul a b).symm⟩

theorem Re.sub {x y : EReal} : Re x → Re y → Re (x - y) := by
  rintro ⟨a, rfl⟩ ⟨b, rfl⟩; exact ⟨a - b, (EReal.coe_sub a b).symm⟩

/-- The sum of real numbers, taken among the extended reals. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

theorem Re.sum {ι : Type} (s : Finset ι) {f : ι → EReal} (h : ∀ k, Re (f k)) : Re (∑ k ∈ s, f k) := by
  choose g hg using h
  exact ⟨∑ k ∈ s, g k, by rw [← sum_coe]; exact Finset.sum_congr rfl fun k _ => hg k⟩

/-- The row's length, as the programs write it. -/
abbrev N : EReal := Ideal.ofBits .f32 0x45000000#32
/-- What is added to the variance. -/
abbrev eps : EReal := Ideal.ofBits .f32 0x3727C5AC#32

theorem N_eq : N = ((2048 : ℝ) : EReal) := by
  simp [N, Ideal.ofBits, Ideal.ieee, -EReal.coe_mul]; norm_num

theorem eps_eq : eps = ((10995116 / 2 ^ 40 : ℝ) : EReal) := by
  simp [eps, Ideal.ofBits, Ideal.ieee, -EReal.coe_mul]; norm_num

theorem eps_pos : ∃ e : ℝ, 0 < e ∧ eps = (e : EReal) := ⟨_, by positivity, eps_eq⟩

theorem two_eq : Ideal.ofBits .f32 0x40000000#32 = ((2 : ℝ) : EReal) := by
  simp [Ideal.ofBits, Ideal.ieee, -EReal.coe_mul]; norm_num

theorem neg_half_eq : Ideal.ofBits .f32 0xBF000000#32 = ((-(1 / 2) : ℝ) : EReal) := by
  simp [Ideal.ofBits, Ideal.ieee, -EReal.coe_mul]; norm_num

theorem half_eq : Ideal.ofBits .f32 0x3F000000#32 = ((1 / 2 : ℝ) : EReal) := by
  simp [Ideal.ofBits, Ideal.ieee, -EReal.coe_mul]; norm_num

abbrev Row := Fin 2048 → EReal

def mean (r : Row) : EReal := Ideal.div (∑ k, r k) N
def cen (r : Row) (k : Fin 2048) : EReal := r k - mean r
def vare (r : Row) : EReal := Ideal.div (∑ k, cen r k * cen r k) N + eps
def rstd (r : Row) : EReal := Ideal.rsqrt (vare r)
def xhat (r : Row) (k : Fin 2048) : EReal := cen r k * rstd r

/-- The gradient with respect to the row, as the kernel writes it. -/
def back (r w : Row) (k : Fin 2048) : EReal :=
  rstd r * (w k - mean w - xhat r k * mean (fun k => w k * xhat r k))

/-- What the two derivative rules through the variance give at the row, before twice the centred entry. -/
def sc (r w : Row) : EReal :=
  Ideal.div ((∑ k, cen r k * w k) * (Ideal.ofBits .f32 0xBF000000#32 * Ideal.div (rstd r) (vare r))) N

/-- The gradient with respect to the row, as the derivative rules of the reference's lines write it. -/
def backR (r w : Row) (k : Fin 2048) : EReal :=
  w k * rstd r + sc r w * (Ideal.ofBits .f32 0x40000000#32 * cen r k)
    + Ideal.div ((∑ k, -(w k * rstd r)) + ∑ k, -(sc r w * (Ideal.ofBits .f32 0x40000000#32 * cen r k))) N

theorem div_N (x : EReal) : Ideal.div x N = x * ((1 / 2048 : ℝ) : EReal) := by
  rw [N_eq, Ideal.div_coe (by norm_num : (2048 : ℝ) ≠ 0)]

section Real

variable (f g : Fin 2048 → ℝ)

def μ : ℝ := (∑ k, f k) * (1 / 2048)

theorem mean_coe : mean (fun k => ((f k : ℝ) : EReal)) = ((μ f : ℝ) : EReal) := by
  unfold mean μ
  rw [div_N, sum_coe, ← EReal.coe_mul]

theorem cen_coe (k : Fin 2048) : cen (fun k => ((f k : ℝ) : EReal)) k = ((f k - μ f : ℝ) : EReal) := by
  unfold cen
  rw [mean_coe, ← EReal.coe_sub]

theorem vare_coe : ∃ V : ℝ, 0 < V ∧ vare (fun k => ((f k : ℝ) : EReal)) = (V : EReal) := by
  obtain ⟨e, he, hE⟩ := eps_pos
  refine ⟨(∑ k, (f k - μ f) * (f k - μ f)) * (1 / 2048) + e, ?_, ?_⟩
  · have : 0 ≤ ∑ k, (f k - μ f) * (f k - μ f) := Finset.sum_nonneg fun k _ => mul_self_nonneg _
    positivity
  · unfold vare
    simp only [cen_coe, ← EReal.coe_mul]
    rw [div_N, sum_coe, hE, ← EReal.coe_mul, ← EReal.coe_add]

theorem sum_cen : ∑ k, (f k - μ f) = 0 := by
  rw [Finset.sum_sub_distrib, Finset.sum_const, Finset.card_univ, Fintype.card_fin, nsmul_eq_mul, μ]
  push_cast
  ring

theorem rstd_coe {V : ℝ} (hV : 0 < V) (h : vare (fun k => ((f k : ℝ) : EReal)) = (V : EReal)) :
    rstd (fun k => ((f k : ℝ) : EReal)) = (((Real.sqrt V)⁻¹ : ℝ) : EReal) := by
  unfold rstd
  rw [h]
  show (if V < 0 then ⊥ else if V = 0 then ⊤ else (((Real.sqrt V)⁻¹ : ℝ) : EReal)) = _
  rw [if_neg hV.not_gt, if_neg hV.ne']

end Real

theorem Re.mean {r : Row} (hr : ∀ k, Re (r k)) : Re (mean r) := by
  choose f hf using hr
  obtain rfl : r = fun k => ((f k : ℝ) : EReal) := funext hf
  exact ⟨_, mean_coe f⟩

theorem Re.rstd {r : Row} (hr : ∀ k, Re (r k)) : Re (rstd r) := by
  choose f hf using hr
  obtain rfl : r = fun k => ((f k : ℝ) : EReal) := funext hf
  obtain ⟨V, hV, h⟩ := vare_coe f
  exact ⟨_, rstd_coe f hV h⟩

theorem Re.xhat {r : Row} (hr : ∀ k, Re (r k)) (k : Fin 2048) : Re (xhat r k) :=
  ((hr k).sub (Re.mean hr)).mul (Re.rstd hr)

theorem Re.back {r w : Row} (hr : ∀ k, Re (r k)) (hw : ∀ k, Re (w k)) (k : Fin 2048) : Re (back r w k) :=
  (Re.rstd hr).mul ((((hw k).sub (Re.mean hw))).sub ((Re.xhat hr k).mul (Re.mean fun k => (hw k).mul (Re.xhat hr k))))

/-- On real rows the two spellings of the gradient agree. -/
theorem back_eq {r w : Row} (hr : ∀ k, Re (r k)) (hw : ∀ k, Re (w k)) (k : Fin 2048) : back r w k = backR r w k := by
  choose f hf using hr
  choose g hg using hw
  obtain rfl : r = fun k => ((f k : ℝ) : EReal) := funext hf
  obtain rfl : w = fun k => ((g k : ℝ) : EReal) := funext hg
  obtain ⟨V, hV, h⟩ := vare_coe f
  have hR := rstd_coe f hV h
  have hVV : Ideal.div (((Real.sqrt V)⁻¹ : ℝ) : EReal) ((V : ℝ) : EReal) = (((Real.sqrt V)⁻¹ * (1 / V) : ℝ) : EReal) := by
    rw [Ideal.div_coe hV.ne', ← EReal.coe_mul]
  have hS : sc (fun k => ((f k : ℝ) : EReal)) (fun k => ((g k : ℝ) : EReal))
      = (((∑ k, (f k - μ f) * g k) * (-(1 / 2) * ((Real.sqrt V)⁻¹ * (1 / V))) * (1 / 2048) : ℝ) : EReal) := by
    unfold sc
    rw [hR, h, hVV, div_N, neg_half_eq]
    simp only [cen_coe, ← EReal.coe_mul]
    rw [sum_coe, ← EReal.coe_mul, ← EReal.coe_mul]
  set R := (Real.sqrt V)⁻¹ with hRdef
  have hRR : R * R * V = 1 := by
    have : Real.sqrt V ≠ 0 := (Real.sqrt_pos.mpr hV).ne'
    have h2 := Real.mul_self_sqrt hV.le
    rw [hRdef]
    field_simp
    rw [pow_two, h2]
  unfold back backR xhat
  rw [hR, hS, two_eq, div_N]
  simp only [cen_coe, ← EReal.coe_mul, ← EReal.coe_neg]
  rw [mean_coe, mean_coe, sum_coe, sum_coe]
  simp only [← EReal.coe_mul, ← EReal.coe_add, ← EReal.coe_sub]
  congr 1
  have h1 : (1 / V) = R * R := by field_simp; linarith
  rw [h1]
  set S := ∑ k, (f k - μ f) * g k with hSdef
  have hm : μ (fun k => g k * ((f k - μ f) * R)) = S * R * (1 / 2048) := by
    have : ∑ k, g k * ((f k - μ f) * R) = S * R := by
      rw [hSdef, Finset.sum_mul]
      exact Finset.sum_congr rfl fun k _ => by ring
    rw [μ, this]
  have hn : ∑ k, -(g k * R) = -(μ g * 2048 * R) := by
    rw [Finset.sum_neg_distrib, ← Finset.sum_mul, μ]; ring
  have hz : ∀ c : ℝ, ∑ k, -(c * (2 * (f k - μ f))) = 0 := by
    intro c
    rw [Finset.sum_neg_distrib, ← Finset.mul_sum, ← Finset.mul_sum, sum_cen]; ring
  rw [hm, hn, hz]
  ring

end Cert.Norm

end
-- ==== Proof.Mix.lean ====
/- The output projection with its residual and the layer norm after it, tile by tile, are the reference's. -/
module

public import proofs.«01_k».proof.Defs
public import proofs.«01_k».proof.Proof.Gen.MixIdeal.Value
public import proofs.«01_k».proof.Proof.Gen.MixRefIdeal.Run
public import proofs.«01_k».proof.Proof.Gen.MixRefIdeal.Read
public import Idealize.ShloMosaic.Lib.Pipeline.ValueKit
public import Idealize.ShloMosaic.Lib.Pointwise
public import proofs.«01_k».proof.Proof.Norm

@[expose] public section

set_option maxRecDepth 16384

noncomputable section

namespace Cert.MixIdeal.Hand

open Cert.MixIdeal Cert.MixIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a grid point takes. -/
theorem idx : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N, _)

/-- The sum the norm is taken of: the residual, scaled, and the projected mixer. -/
def res (x : FVec Ideal S4096x2048 .f32) (w : FVec Ideal S2048x2048 .f32) (h : FVec Ideal S4096x2048 .f32) (t : Fin 4096) (k : Fin 2048) : EReal :=
  Ideal.ofBits .f32 0x3F9837F0#32 * h (ix2 t k) + ∑ j : Fin 2048, x (ix2 t j) * w (ix2 j k)

/-- The reference's sum. -/
theorem ref_res (x : FVec Ideal S4096x2048 .f32) (w : FVec Ideal S2048x2048 .f32) (h : FVec Ideal S4096x2048 .f32) (i : S4096x2048.Idx) :
    Cert.MixRefIdeal.Read.val_main_v3 (F := Ideal) x w h i = res x w h (i 0) (i 1) := by
  unfold Cert.MixRefIdeal.Read.val_main_v3 Cert.MixRefIdeal.Read.val_main_v2 Cert.MixRefIdeal.Read.val_main_v1 Cert.MixRefIdeal.Read.val_main_v0 Cert.MixRefIdeal.Read.val_main_cst res
  idx_vars i
  pointwise

/-- An entry of the norm. -/
def normed (x : FVec Ideal S4096x2048 .f32) (w : FVec Ideal S2048x2048 .f32) (h : FVec Ideal S4096x2048 .f32) (g b : FVec Ideal S1x2048 .f32) (t : Fin 4096) (k : Fin 2048) : EReal :=
  Norm.xhat (res x w h t) k * g (ix2 0 k) + b (ix2 0 k)

/-- The reference's normed rows. -/
theorem ref_apply (x : FVec Ideal S4096x2048 .f32) (w : FVec Ideal S2048x2048 .f32) (h : FVec Ideal S4096x2048 .f32) (g b : FVec Ideal S1x2048 .f32) (i : S4096x2048.Idx) :
    Cert.MixRefIdeal.Read.val_main_v29 (F := Ideal) x w h g b i
      = normed x w h g b (i 0) (i 1) := by
  unfold normed Cert.MixRefIdeal.Read.val_main_v29 Cert.MixRefIdeal.Read.val_main_v28 Cert.MixRefIdeal.Read.val_main_v27 Cert.MixRefIdeal.Read.val_main_v26 Cert.MixRefIdeal.Read.val_main_v25 Cert.MixRefIdeal.Read.val_main_v24 Cert.MixRefIdeal.Read.val_main_v23 Cert.MixRefIdeal.Read.val_main_v22 Cert.MixRefIdeal.Read.val_main_v21 Cert.MixRefIdeal.Read.val_main_v20 Cert.MixRefIdeal.Read.val_main_v19 Cert.MixRefIdeal.Read.val_main_cst_4 Cert.MixRefIdeal.Read.val_main_v18 Cert.MixRefIdeal.Read.val_main_v17 Cert.MixRefIdeal.Read.val_main_v16 Cert.MixRefIdeal.Read.val_main_v15 Cert.MixRefIdeal.Read.val_main_cst_3 Cert.MixRefIdeal.Read.val_main_v14 Cert.MixRefIdeal.Read.val_main_v13 Cert.MixRefIdeal.Read.val_main_cst_2 Cert.MixRefIdeal.Read.val_main_v12 Cert.MixRefIdeal.Read.val_main_v11 Cert.MixRefIdeal.Read.val_main_v10 Cert.MixRefIdeal.Read.val_main_v9 Cert.MixRefIdeal.Read.val_main_v8 Cert.MixRefIdeal.Read.val_main_cst_1 Cert.MixRefIdeal.Read.val_main_v7 Cert.MixRefIdeal.Read.val_main_v6 Cert.MixRefIdeal.Read.val_main_cst_0 Cert.MixRefIdeal.Read.val_main_v5 Cert.MixRefIdeal.Read.val_main_v4
  idx_vars i
  pointwise [Norm.xhat, Norm.rstd, Norm.vare, Norm.cen, Norm.mean, ref_res]

/-- The kernel's sum in one tile. -/
theorem pay1_apply (x : FVec Ideal S256x2048 .bf16) (w : FVec Ideal S2048x2048 .bf16) (h : FVec Ideal S256x2048 .f32) (i : S256x2048.Idx) :
    k0_pay1 (F := Ideal) x w h i = Ideal.ofBits .f32 0x3F9837F0#32 * h i + ∑ j : Fin 2048, x (ix2 (i 0) j) * w (ix2 j (i 1)) := by
  idx_vars i
  pointwise [k0_pay1]

/-- The kernel's normed rows in one tile. -/
theorem pay2_apply (x : FVec Ideal S256x2048 .bf16) (w : FVec Ideal S2048x2048 .bf16) (h : FVec Ideal S256x2048 .f32) (g b : FVec Ideal S1x2048 .f32) (i : S256x2048.Idx) :
    k0_pay2 (F := Ideal) x w h g b i
      = Norm.xhat (fun k => k0_pay1 (F := Ideal) x w h (ix2 (i 0) k)) (i 1) * g (ix2 0 (i 1)) + b (ix2 0 (i 1)) := by
  idx_vars i
  pointwise [k0_pay2, Norm.xhat, Norm.rstd, Norm.vare, Norm.cen, Norm.mean]

/-- A row of the sum in a tile is the array's. -/
theorem row (c : Dev nD) (t : Fin cfg0.N) (r : Fin 256) (k : Fin 2048) :
    k0_pay1 (F := Ideal) (iblk m c 0 t) (iblk m c 1 t) (iblk m c 2 t) (ix2 r k)
      = res (m ((c : Thread nD τ).loc main_arg0)) (m ((c : Thread nD τ).loc main_arg1)) (m ((c : Thread nD τ).loc main_arg2)) ⟨t.val * 256 + r.val, by have : t.val < 16 := t.isLt; omega⟩ k := by
  rw [pay1_apply]
  unfold res
  obtain ⟨e0, e1, e2, e3, e4, e5, e6, e7⟩ := idx t
  blk_point [iblk, V, e0, e1, e2]

/-- An entry of a tile of the norm is the array's. -/
theorem out (c : Dev nD) (t : Fin cfg0.N) (y : S256x2048.Idx) :
    k0_pay2 (F := Ideal) (iblk m c 0 t) (iblk m c 1 t) (iblk m c 2 t) (iblk m c 3 t) (iblk m c 4 t) y
      = normed (m ((c : Thread nD τ).loc main_arg0)) (m ((c : Thread nD τ).loc main_arg1)) (m ((c : Thread nD τ).loc main_arg2)) (m ((c : Thread nD τ).loc main_arg3)) (m ((c : Thread nD τ).loc main_arg4)) ⟨t.val * 256 + (y 0).val, by have h : (y 0).val < 256 := (y 0).isLt; have : t.val < 16 := t.isLt; omega⟩ (y 1) := by
  rw [pay2_apply]
  unfold normed
  obtain ⟨e0, e1, e2, e3, e4, e5, e6, e7⟩ := idx t
  refine congrArg₂ _ (congrArg₂ _ (congrArg (fun f => Norm.xhat f (y 1)) (funext fun k => row m c t (y 0) k)) ?_) ?_
  · idx_vars y
    blk_point [iblk, V, e3]
  · idx_vars y
    blk_point [iblk, V, e4]

/-- The rounding to bf16 is the identity over the reals. -/
theorem pay3_apply (x : FVec Ideal S256x2048 .bf16) (w : FVec Ideal S2048x2048 .bf16) (h : FVec Ideal S256x2048 .f32) (g b : FVec Ideal S1x2048 .f32) (i : S256x2048.Idx) :
    k0_pay3 (F := Ideal) x w h g b i = k0_pay2 (F := Ideal) x w h g b i := rfl

/-- The same of the reference. -/
theorem ref_applyb (x : FVec Ideal S4096x2048 .f32) (w : FVec Ideal S2048x2048 .f32) (h : FVec Ideal S4096x2048 .f32) (g b : FVec Ideal S1x2048 .f32) (i : S4096x2048.Idx) :
    Cert.MixRefIdeal.Read.val_main_v30 (F := Ideal) x w h g b i = normed x w h g b (i 0) (i 1) := by
  rw [← ref_apply]
  rfl

/-- The tiles fill the reference's value. -/
theorem final5 (c : Dev nD) : (dats m 0 c).arrAt 5 cfg0.N
    = Cert.MixRefIdeal.Read.val_main_v3 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]; frame_out
  rw [ref_res]
  have em : (win0_5.blk t).view.emb y = ix2 ⟨t.val * 256 + (y 0).val, by have h : (y 0).val < 256 := (y 0).isLt; have : t.val < 16 := t.isLt; omega⟩ (y 1) := by
    obtain ⟨e0, e1, e2, e3, e4, e5, e6, e7⟩ := idx t
    blk_ext [e5]
  rw [em]
  idx_vars y
  exact row m c t y0 y1

/-- The tiles fill the reference's value. -/
theorem final6 (c : Dev nD) : (dats m 0 c).arrAt 6 cfg0.N
    = Cert.MixRefIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]; frame_out
  rw [out]
  rw [ref_apply]
  have em : (win0_6.blk t).view.emb y = ix2 ⟨t.val * 256 + (y 0).val, by have h : (y 0).val < 256 := (y 0).isLt; have : t.val < 16 := t.isLt; omega⟩ (y 1) := by
    obtain ⟨e0, e1, e2, e3, e4, e5, e6, e7⟩ := idx t
    blk_ext [e6]
  rw [em]
  rfl

/-- The tiles fill the reference's value. -/
theorem final7 (c : Dev nD) : (dats m 0 c).arrAt 7 cfg0.N
    = Cert.MixRefIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]; frame_out
  rw [pay3_apply, out]
  rw [ref_applyb]
  have em : (win0_7.blk t).view.emb y = ix2 ⟨t.val * 256 + (y 0).val, by have h : (y 0).val < 256 := (y 0).isLt; have : t.val < 16 := t.isLt; omega⟩ (y 1) := by
    obtain ⟨e0, e1, e2, e3, e4, e5, e6, e7⟩ := idx t
    blk_ext [e7]
  rw [em]
  rfl

/-- Both programs end with the same values in the results. -/
theorem tie : Cert.algebraic_MixIdeal_MixRefIdeal := by
  intro m g m' g' _ ha
  refine ⟨fun c => Cert.MixRefIdeal.Read.val_main_v3 (F := Ideal) (m ((c : Thread nD τ).loc main_arg0)) (m ((c : Thread nD τ).loc main_arg1)) (m ((c : Thread nD τ).loc main_arg2)),
    fun c => Cert.MixRefIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c => Cert.MixRefIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · refine (θ_run defs _ _).mono (fun r h c => ?_) (Value.run_blocks (F := Ideal) m g)
    exact ⟨((h c).1).trans (final5 m c), ((h c).2.1).trans (final6 m c), ((h c).2.2.1).trans (final7 m c), (h c).2.2.2⟩
  · refine (θ_run Cert.MixRefIdeal.defs _ _).mono (fun r h c => ?_) (Cert.MixRefIdeal.Value.run (F := Ideal) m' g')
    obtain ⟨a0, a1, a2, a3, a4⟩ := ha c
    refine ⟨(h c).1.trans ?_, (h c).2.1.trans ?_, (h c).2.2.1.trans ?_, (h c).2.2.2⟩
    · rw [a0, a1, a2]; rfl
    · rw [a0, a1, a2, a3, a4]; rfl
    · rw [a0, a1, a2, a3, a4]; rfl

/-- The reference runs, leaves its arguments as they are, and has no counter to leave standing. -/
theorem refFrame : Cert.quiescent_MixRefIdeal := fun m ρ _ =>
  (θ_run _ _ _).mono (fun r h => ⟨fun c => (h c).2.2.2, sem_eq_zero_of_no_sems rfl r.2⟩) (Cert.MixRefIdeal.Value.run (F := Ideal) m ρ)

end Cert.MixIdeal.Hand

end
-- ==== Proof.LnIn.lean ====
/- The layer norm of the step's input, tile by tile, is the reference's. -/
module

public import proofs.«01_k».proof.Defs
public import proofs.«01_k».proof.Proof.Gen.LnInIdeal.Value
public import proofs.«01_k».proof.Proof.Gen.LnInRefIdeal.Run
public import proofs.«01_k».proof.Proof.Gen.LnInRefIdeal.Read
public import Idealize.ShloMosaic.Lib.Pipeline.ValueKit
public import Idealize.ShloMosaic.Lib.Pointwise
public import proofs.«01_k».proof.Proof.Norm

@[expose] public section

set_option maxRecDepth 16384

noncomputable section

namespace Cert.LnInIdeal.Hand

open Cert.LnInIdeal Cert.LnInIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a grid point takes. -/
theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

/-- The reference's normed rows. -/
theorem ref_apply (x : FVec Ideal S4096x2048 .f32) (g b : FVec Ideal S2048 .f32) (i : S4096x2048.Idx) :
    Cert.LnInRefIdeal.Read.val_main_v23 (F := Ideal) x g b i
      = Norm.xhat (fun k => x (ix2 (i 0) k)) (i 1) * g (ix1 (i 1)) + b (ix1 (i 1)) := by
  unfold Cert.LnInRefIdeal.Read.val_main_v23 Cert.LnInRefIdeal.Read.val_main_v22 Cert.LnInRefIdeal.Read.val_main_v21 Cert.LnInRefIdeal.Read.val_main_v20 Cert.LnInRefIdeal.Read.val_main_v19 Cert.LnInRefIdeal.Read.val_main_v18 Cert.LnInRefIdeal.Read.val_main_v17 Cert.LnInRefIdeal.Read.val_main_v16 Cert.LnInRefIdeal.Read.val_main_v15 Cert.LnInRefIdeal.Read.val_main_v14 Cert.LnInRefIdeal.Read.val_main_v13 Cert.LnInRefIdeal.Read.val_main_cst_3 Cert.LnInRefIdeal.Read.val_main_v12 Cert.LnInRefIdeal.Read.val_main_v11 Cert.LnInRefIdeal.Read.val_main_v10 Cert.LnInRefIdeal.Read.val_main_v9 Cert.LnInRefIdeal.Read.val_main_cst_2 Cert.LnInRefIdeal.Read.val_main_v8 Cert.LnInRefIdeal.Read.val_main_v7 Cert.LnInRefIdeal.Read.val_main_cst_1 Cert.LnInRefIdeal.Read.val_main_v6 Cert.LnInRefIdeal.Read.val_main_v5 Cert.LnInRefIdeal.Read.val_main_v4 Cert.LnInRefIdeal.Read.val_main_v3 Cert.LnInRefIdeal.Read.val_main_v2 Cert.LnInRefIdeal.Read.val_main_cst_0 Cert.LnInRefIdeal.Read.val_main_v1 Cert.LnInRefIdeal.Read.val_main_v0 Cert.LnInRefIdeal.Read.val_main_cst
  idx_vars i
  pointwise [Norm.xhat, Norm.rstd, Norm.vare, Norm.cen, Norm.mean]

/-- The kernel's, in one tile. -/
theorem pay_apply (x : FVec Ideal S1024x2048 .f32) (g b : FVec Ideal S1x2048 .f32) (i : S1024x2048.Idx) :
    k0_pay1 (F := Ideal) x g b i
      = Norm.xhat (fun k => x (ix2 (i 0) k)) (i 1) * g (ix2 0 (i 1)) + b (ix2 0 (i 1)) := by
  idx_vars i
  pointwise [k0_pay1, Norm.xhat, Norm.rstd, Norm.vare, Norm.cen, Norm.mean]

/-- The tiles fill the reference's value. -/
theorem final3 (c : Dev nD) : (dats m 0 c).arrAt 3 cfg0.N
    = Cert.LnInRefIdeal.Read.val_main_v23 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  show k0_pay1 (F := Ideal) _ _ _ y = Cert.LnInRefIdeal.Read.val_main_v23 (F := Ideal) _ _ _ _
  rw [ref_apply, pay_apply]
  idx_vars y
  obtain ⟨e0, e1, e2, e3, e4⟩ := idx t
  blk_point [iblk, V, e0, e1, e2, e3, e4]

/-- The tiles fill the reference's value. -/
theorem final4 (c : Dev nD) : (dats m 0 c).arrAt 4 cfg0.N
    = Cert.LnInRefIdeal.Read.val_main_v24 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]; frame_out
  show k0_pay1 (F := Ideal) _ _ _ y = Cert.LnInRefIdeal.Read.val_main_v23 (F := Ideal) _ _ _ _
  rw [ref_apply, pay_apply]
  idx_vars y
  obtain ⟨e0, e1, e2, e3, e4⟩ := idx t
  blk_point [iblk, V, e0, e1, e2, e3, e4]

/-- Both programs end with the same values in the results. -/
theorem tie : Cert.algebraic_LnInIdeal_LnInRefIdeal := by
  intro m g m' g' _ ha
  refine ⟨fun c => Cert.LnInRefIdeal.Read.val_main_v23 (F := Ideal) (m ((c : Thread nD τ).loc main_arg0)) (m ((c : Thread nD τ).loc main_arg1)) (m ((c : Thread nD τ).loc main_arg2)),
    fun c => Cert.LnInRefIdeal.Read.val_main_v24 (F := Ideal) (m ((c : Thread nD τ).loc main_arg0)) (m ((c : Thread nD τ).loc main_arg1)) (m ((c : Thread nD τ).loc main_arg2)), ?_, ?_⟩
  · refine (θ_run defs _ _).mono (fun r h c => ?_) (Value.run_blocks (F := Ideal) m g)
    exact ⟨((h c).1).trans (final3 m c), ((h c).2.1).trans (final4 m c), (h c).2.2⟩
  · refine (θ_run Cert.LnInRefIdeal.defs _ _).mono (fun r h c => ?_) (Cert.LnInRefIdeal.Value.run (F := Ideal) m' g')
    obtain ⟨a0, a1, a2⟩ := ha c
    refine ⟨(h c).1.trans ?_, (h c).2.1.trans ?_, (h c).2.2⟩
    · rw [a0, a1, a2]; rfl
    · rw [a0, a1, a2]; rfl

/-- The reference runs, leaves its arguments as they are, and has no counter to leave standing. -/
theorem refFrame : Cert.quiescent_LnInRefIdeal := fun m ρ _ =>
  (θ_run _ _ _).mono (fun r h => ⟨fun c => (h c).2.2, sem_eq_zero_of_no_sems rfl r.2⟩) (Cert.LnInRefIdeal.Value.run (F := Ideal) m ρ)

end Cert.LnInIdeal.Hand

end
-- ==== Proof.SmallPack.lean ====
/- The small arrays packed into the rows of one array, and where each of their entries lies. -/
module

public import proofs.«01_k».proof.Defs
public import proofs.«01_k».proof.Proof.Gen.SmallIdeal.Frame
public import Idealize.ShloMosaic.Lib.Pipeline.ValueKit
public import Idealize.ShloMosaic.Lib.Pointwise

@[expose] public section

set_option maxRecDepth 16384

noncomputable section

namespace Cert.SmallIdeal.Hand

open Cert.SmallIdeal Cert.SmallIdeal.Gen Idealize.ShloMosaic Idealize.ShloMosaic.TcCoe Idealize.SL.Sem
open Idealize.ShloMosaic.Pipeline (Dat)

variable (m : (ℓ : Loc nD τ sig) → Buf (Elt Ideal) ℓ)

/-- The host code's packing of nine small arrays: each in its rows, zeros around them. -/
def pack (a0 : FVec Ideal S2048 .f32) (a1 : FVec Ideal S2048 .f32) (a2 : FVec Ideal S1x4x32 .f32) (a3 : FVec Ideal S1x2048 .f32) (a4 : FVec Ideal S1x2048 .f32) (a5 : FVec Ideal S1x8192 .f32) (a6 : FVec Ideal S1x2048 .f32) (a7 : FVec Ideal S1x2048 .f32) (a8 : FVec Ideal S1x2048 .f32) : FVec Ideal S16x2048 .f32 :=
  concatenate S16x2048 0 [⟨S1x2048, (broadcastInDim S1x2048 ![] bcast_S_S1x2048 (constant S_ .f32 0x00000000#32) : FVec Ideal S1x2048 .f32)⟩, ⟨S1x2048, shapeCast S1x2048 a0 shapeCasts_S2048_S1x2048⟩, ⟨S1x2048, shapeCast S1x2048 a1 shapeCasts_S2048_S1x2048⟩, ⟨S1x2048, a3⟩, ⟨S1x2048, a4⟩, ⟨S1x2048, a6⟩, ⟨S1x2048, a7⟩, ⟨S1x2048, a8⟩, ⟨S4x2048, shapeCast S4x2048 a5 shapeCasts_S1x8192_S4x2048⟩, ⟨S1x2048, pad S1x2048 ![0, 0] ![0, 1920] ![0, 0] (shapeCast S1x128 a2 shapeCasts_S1x4x32_S1x128) (sitofp .f32 (constantI S_ 32 0#32) : FVec Ideal S_ .f32) pads_S1x128_S1x2048_000_019200 h_S_⟩, ⟨S3x2048, (broadcastInDim S3x2048 ![] bcast_S_S3x2048 (constant S_ .f32 0x00000000#32) : FVec Ideal S3x2048 .f32)⟩] concatenates_S1x2048_S1x2048_S1x2048_S1x2048_S1x2048_S1x2048_S1x2048_S1x2048_S4x2048_S1x2048_S3x2048_S16x2048_d0

/-- The row of the first layer norm's scale. -/
theorem pack0 (a0 : FVec Ideal S2048 .f32) (a1 : FVec Ideal S2048 .f32) (a2 : FVec Ideal S1x4x32 .f32) (a3 : FVec Ideal S1x2048 .f32) (a4 : FVec Ideal S1x2048 .f32) (a5 : FVec Ideal S1x8192 .f32) (a6 : FVec Ideal S1x2048 .f32) (a7 : FVec Ideal S1x2048 .f32) (a8 : FVec Ideal S1x2048 .f32) (k : Fin 2048) : pack a0 a1 a2 a3 a4 a5 a6 a7 a8 (ix2 1 k : S16x2048.Idx) = a0 (ix1 k) := by
  pointwise [pack]

/-- The row of the first layer norm's offset. -/
theorem pack1 (a0 : FVec Ideal S2048 .f32) (a1 : FVec Ideal S2048 .f32) (a2 : FVec Ideal S1x4x32 .f32) (a3 : FVec Ideal S1x2048 .f32) (a4 : FVec Ideal S1x2048 .f32) (a5 : FVec Ideal S1x8192 .f32) (a6 : FVec Ideal S1x2048 .f32) (a7 : FVec Ideal S1x2048 .f32) (a8 : FVec Ideal S1x2048 .f32) (k : Fin 2048) : pack a0 a1 a2 a3 a4 a5 a6 a7 a8 (ix2 2 k : S16x2048.Idx) = a1 (ix1 k) := by
  pointwise [pack]

/-- The pooling scales. -/
theorem pack2 (a0 : FVec Ideal S2048 .f32) (a1 : FVec Ideal S2048 .f32) (a2 : FVec Ideal S1x4x32 .f32) (a3 : FVec Ideal S1x2048 .f32) (a4 : FVec Ideal S1x2048 .f32) (a5 : FVec Ideal S1x8192 .f32) (a6 : FVec Ideal S1x2048 .f32) (a7 : FVec Ideal S1x2048 .f32) (a8 : FVec Ideal S1x2048 .f32) (g : Fin 4) (k : Fin 32) : pack a0 a1 a2 a3 a4 a5 a6 a7 a8 (ix2 12 ⟨g.val * 32 + k.val, by omega⟩ : S16x2048.Idx) = a2 (ix3 0 g k) := by
  pointwise [pack]
  rw [dif_pos (by omega)]

/-- The row of the middle layer norm's scale. -/
theorem pack3 (a0 : FVec Ideal S2048 .f32) (a1 : FVec Ideal S2048 .f32) (a2 : FVec Ideal S1x4x32 .f32) (a3 : FVec Ideal S1x2048 .f32) (a4 : FVec Ideal S1x2048 .f32) (a5 : FVec Ideal S1x8192 .f32) (a6 : FVec Ideal S1x2048 .f32) (a7 : FVec Ideal S1x2048 .f32) (a8 : FVec Ideal S1x2048 .f32) (k : Fin 2048) : pack a0 a1 a2 a3 a4 a5 a6 a7 a8 (ix2 3 k : S16x2048.Idx) = a3 (ix2 0 k) := by
  pointwise [pack]

/-- The row of the middle layer norm's offset. -/
theorem pack4 (a0 : FVec Ideal S2048 .f32) (a1 : FVec Ideal S2048 .f32) (a2 : FVec Ideal S1x4x32 .f32) (a3 : FVec Ideal S1x2048 .f32) (a4 : FVec Ideal S1x2048 .f32) (a5 : FVec Ideal S1x8192 .f32) (a6 : FVec Ideal S1x2048 .f32) (a7 : FVec Ideal S1x2048 .f32) (a8 : FVec Ideal S1x2048 .f32) (k : Fin 2048) : pack a0 a1 a2 a3 a4 a5 a6 a7 a8 (ix2 4 k : S16x2048.Idx) = a4 (ix2 0 k) := by
  pointwise [pack]

/-- The first bias, in four rows. -/
theorem pack5 (a0 : FVec Ideal S2048 .f32) (a1 : FVec Ideal S2048 .f32) (a2 : FVec Ideal S1x4x32 .f32) (a3 : FVec Ideal S1x2048 .f32) (a4 : FVec Ideal S1x2048 .f32) (a5 : FVec Ideal S1x8192 .f32) (a6 : FVec Ideal S1x2048 .f32) (a7 : FVec Ideal S1x2048 .f32) (a8 : FVec Ideal S1x2048 .f32) (k : Fin 8192) : pack a0 a1 a2 a3 a4 a5 a6 a7 a8 (ix2 ⟨8 + k.val / 2048, by omega⟩ ⟨k.val % 2048, by omega⟩ : S16x2048.Idx) = a5 (ix2 0 k) := by
  pointwise [pack]
  rw [dif_neg (by omega), dif_neg (by omega), dif_neg (by omega), dif_neg (by omega), dif_neg (by omega), dif_neg (by omega), dif_neg (by omega), dif_neg (by omega), dif_pos (by omega)]

/-- The row of the second bias. -/
theorem pack6 (a0 : FVec Ideal S2048 .f32) (a1 : FVec Ideal S2048 .f32) (a2 : FVec Ideal S1x4x32 .f32) (a3 : FVec Ideal S1x2048 .f32) (a4 : FVec Ideal S1x2048 .f32) (a5 : FVec Ideal S1x8192 .f32) (a6 : FVec Ideal S1x2048 .f32) (a7 : FVec Ideal S1x2048 .f32) (a8 : FVec Ideal S1x2048 .f32) (k : Fin 2048) : pack a0 a1 a2 a3 a4 a5 a6 a7 a8 (ix2 5 k : S16x2048.Idx) = a6 (ix2 0 k) := by
  pointwise [pack]

/-- The row of the last layer norm's scale. -/
theorem pack7 (a0 : FVec Ideal S2048 .f32) (a1 : FVec Ideal S2048 .f32) (a2 : FVec Ideal S1x4x32 .f32) (a3 : FVec Ideal S1x2048 .f32) (a4 : FVec Ideal S1x2048 .f32) (a5 : FVec Ideal S1x8192 .f32) (a6 : FVec Ideal S1x2048 .f32) (a7 : FVec Ideal S1x2048 .f32) (a8 : FVec Ideal S1x2048 .f32) (k : Fin 2048) : pack a0 a1 a2 a3 a4 a5 a6 a7 a8 (ix2 6 k : S16x2048.Idx) = a7 (ix2 0 k) := by
  pointwise [pack]

/-- The row of the last layer norm's offset. -/
theorem pack8 (a0 : FVec Ideal S2048 .f32) (a1 : FVec Ideal S2048 .f32) (a2 : FVec Ideal S1x4x32 .f32) (a3 : FVec Ideal S1x2048 .f32) (a4 : FVec Ideal S1x2048 .f32) (a5 : FVec Ideal S1x8192 .f32) (a6 : FVec Ideal S1x2048 .f32) (a7 : FVec Ideal S1x2048 .f32) (a8 : FVec Ideal S1x2048 .f32) (k : Fin 2048) : pack a0 a1 a2 a3 a4 a5 a6 a7 a8 (ix2 7 k : S16x2048.Idx) = a8 (ix2 0 k) := by
  pointwise [pack]

/-- What the host code hands the kernel. -/
theorem packed0 (c : Dev nD) : V m c main_v7 = pack (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after (List.flatten [hostOps0, hostOps0_1, hostOps0_2, hostOps0_3, hostOps0_4, hostOps0_5, hostOps0_6, hostOps0_7, hostOps0_8]) _ (Proc.devRef .tc main_v7) = _
  simp only [List.flatten_cons, List.flatten_nil, List.append_nil, List.cons_append, List.nil_append]
  after_results
  rfl

/-- What the host code hands the kernel. -/
theorem packed1 (c : Dev nD) : V m c main_v15 = pack (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  show StableHlo.after (List.flatten [hostOps0, hostOps0_1, hostOps0_2, hostOps0_3, hostOps0_4, hostOps0_5, hostOps0_6, hostOps0_7, hostOps0_8]) _ (Proc.devRef .tc main_v15) = _
  simp only [List.flatten_cons, List.flatten_nil, List.append_nil, List.cons_append, List.nil_append]
  after_results
  rfl

/-- What the host code hands the kernel. -/
theorem packed2 (c : Dev nD) : V m c main_v23 = pack (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  show StableHlo.after (List.flatten [hostOps0, hostOps0_1, hostOps0_2, hostOps0_3, hostOps0_4, hostOps0_5, hostOps0_6, hostOps0_7, hostOps0_8]) _ (Proc.devRef .tc main_v23) = _
  simp only [List.flatten_cons, List.flatten_nil, List.append_nil, List.cons_append, List.nil_append]
  after_results
  rfl

/-- What the host code hands the kernel. -/
theorem packed3 (c : Dev nD) : V m c main_v31 = pack (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) := by
  show StableHlo.after (List.flatten [hostOps0, hostOps0_1, hostOps0_2, hostOps0_3, hostOps0_4, hostOps0_5, hostOps0_6, hostOps0_7, hostOps0_8]) _ (Proc.devRef .tc main_v31) = _
  simp only [List.flatten_cons, List.flatten_nil, List.append_nil, List.cons_append, List.nil_append]
  after_results
  rfl

end Cert.SmallIdeal.Hand

end
-- ==== Proof.SmallStep.lean ====
/- What the optimiser's call leaves in its three output arrays, and what the host code reads out of them. -/
module

public import proofs.«01_k».proof.Defs
public import proofs.«01_k».proof.Proof.Gen.SmallIdeal.Frame
public import Idealize.ShloMosaic.Lib.Pipeline.ValueKit
public import Idealize.ShloMosaic.Lib.Pointwise

@[expose] public section

set_option maxRecDepth 16384

noncomputable section

namespace Cert.SmallIdeal.Hand

open Cert.SmallIdeal Cert.SmallIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a grid point takes. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

set_option maxHeartbeats 1600000 in
/-- The packed update. -/
theorem final4 (c : Dev nD) : (dats m 0 c).arrAt 4 cfg0.N = k0_pay4 (V m c main_v7) (V m c main_v15) (V m c main_v23) (V m c main_v31) := by
  refine (dats m 0 c).arrAt_eq_of_covers 4 _ (by decide +kernel) fun t hf y => ?_
  blk_simp
  rw [after0_4]; frame_out
  idx_vars y
  pointwise [k0_pay4, k0_pay3, k0_pay2, k0_pay1]
  obtain ⟨e0, e1, e2, e3, e4, e5, e6⟩ := idx t
  blk_point [iblk, V, e0, e1, e2, e3, e4, e5, e6]

set_option maxHeartbeats 1600000 in
/-- The packed first moment. -/
theorem final5 (c : Dev nD) : (dats m 0 c).arrAt 5 cfg0.N = k0_pay2 (V m c main_v15) (V m c main_v23) := by
  refine (dats m 0 c).arrAt_eq_of_covers 5 _ (by decide +kernel) fun t hf y => ?_
  blk_simp
  rw [after0_5]; frame_out
  idx_vars y
  pointwise [k0_pay2, k0_pay1]
  obtain ⟨e0, e1, e2, e3, e4, e5, e6⟩ := idx t
  blk_point [iblk, V, e0, e1, e2, e3, e4, e5, e6]

set_option maxHeartbeats 1600000 in
/-- The packed second moment. -/
theorem final6 (c : Dev nD) : (dats m 0 c).arrAt 6 cfg0.N = k0_pay3 (V m c main_v15) (V m c main_v31) := by
  refine (dats m 0 c).arrAt_eq_of_covers 6 _ (by decide +kernel) fun t hf y => ?_
  blk_simp
  rw [after0_6]; frame_out
  idx_vars y
  pointwise [k0_pay3, k0_pay1]
  obtain ⟨e0, e1, e2, e3, e4, e5, e6⟩ := idx t
  blk_point [iblk, V, e0, e1, e2, e3, e4, e5, e6]

theorem arr4 (c : Dev nD) : Pipeline.withArrays spec0 c (V0 m c) (fun w => (dats m 0 c).arrAt w cfg0.N) (Proc.devRef .tc main_v32_0) = (dats m 0 c).arrAt 4 cfg0.N :=
  Pipeline.withArrays_arr spec0 (by decide +kernel) c _ _ 4

theorem tail37 (c : Dev nD) : Pipeline.afterTail₀ cfgs (dats m) 0 (V0 m) [hostOps1] c main_v37 = shapeCast S2048 (extractStridedSlice S1x2048 ![1, 0] ((dats m 0 c).arrAt 4 cfg0.N : FVec Ideal S16x2048 .f32) slices_S16x2048_S1x2048_1_0) shapeCasts_S1x2048_S2048 := by
  rw [← arr4]
  show StableHlo.after (List.flatten [hostOps1]) (Pipeline.withArrays spec0 c (V0 m c) (fun w => (dats m 0 c).arrAt w cfg0.N)) (Proc.devRef .tc main_v37) = _
  generalize Pipeline.withArrays spec0 c (V0 m c) (fun w => (dats m 0 c).arrAt w cfg0.N) = W
  simp only [List.flatten_cons, List.flatten_nil, List.append_nil]
  after_results
  rfl

theorem tail39 (c : Dev nD) : Pipeline.afterTail₀ cfgs (dats m) 0 (V0 m) [hostOps1] c main_v39 = shapeCast S2048 (extractStridedSlice S1x2048 ![2, 0] ((dats m 0 c).arrAt 4 cfg0.N : FVec Ideal S16x2048 .f32) slices_S16x2048_S1x2048_2_0) shapeCasts_S1x2048_S2048 := by
  rw [← arr4]
  show StableHlo.after (List.flatten [hostOps1]) (Pipeline.withArrays spec0 c (V0 m c) (fun w => (dats m 0 c).arrAt w cfg0.N)) (Proc.devRef .tc main_v39) = _
  generalize Pipeline.withArrays spec0 c (V0 m c) (fun w => (dats m 0 c).arrAt w cfg0.N) = W
  simp only [List.flatten_cons, List.flatten_nil, List.append_nil]
  after_results
  rfl

theorem tail35 (c : Dev nD) : Pipeline.afterTail₀ cfgs (dats m) 0 (V0 m) [hostOps1] c main_v35 = shapeCast S1x4x32 (shapeCast S128 (extractStridedSlice S1x128 ![12, 0] ((dats m 0 c).arrAt 4 cfg0.N : FVec Ideal S16x2048 .f32) slices_S16x2048_S1x128_12_0) shapeCasts_S1x128_S128) shapeCasts_S128_S1x4x32 := by
  rw [← arr4]
  show StableHlo.after (List.flatten [hostOps1]) (Pipeline.withArrays spec0 c (V0 m c) (fun w => (dats m 0 c).arrAt w cfg0.N)) (Proc.devRef .tc main_v35) = _
  generalize Pipeline.withArrays spec0 c (V0 m c) (fun w => (dats m 0 c).arrAt w cfg0.N) = W
  simp only [List.flatten_cons, List.flatten_nil, List.append_nil]
  after_results
  rfl

theorem tail40 (c : Dev nD) : Pipeline.afterTail₀ cfgs (dats m) 0 (V0 m) [hostOps1] c main_v40 = extractStridedSlice S1x2048 ![3, 0] ((dats m 0 c).arrAt 4 cfg0.N : FVec Ideal S16x2048 .f32) slices_S16x2048_S1x2048_3_0 := by
  rw [← arr4]
  show StableHlo.after (List.flatten [hostOps1]) (Pipeline.withArrays spec0 c (V0 m c) (fun w => (dats m 0 c).arrAt w cfg0.N)) (Proc.devRef .tc main_v40) = _
  generalize Pipeline.withArrays spec0 c (V0 m c) (fun w => (dats m 0 c).arrAt w cfg0.N) = W
  simp only [List.flatten_cons, List.flatten_nil, List.append_nil]
  after_results

theorem tail41 (c : Dev nD) : Pipeline.afterTail₀ cfgs (dats m) 0 (V0 m) [hostOps1] c main_v41 = extractStridedSlice S1x2048 ![4, 0] ((dats m 0 c).arrAt 4 cfg0.N : FVec Ideal S16x2048 .f32) slices_S16x2048_S1x2048_4_0 := by
  rw [← arr4]
  show StableHlo.after (List.flatten [hostOps1]) (Pipeline.withArrays spec0 c (V0 m c) (fun w => (dats m 0 c).arrAt w cfg0.N)) (Proc.devRef .tc main_v41) = _
  generalize Pipeline.withArrays spec0 c (V0 m c) (fun w => (dats m 0 c).arrAt w cfg0.N) = W
  simp only [List.flatten_cons, List.flatten_nil, List.append_nil]
  after_results

theorem tail46 (c : Dev nD) : Pipeline.afterTail₀ cfgs (dats m) 0 (V0 m) [hostOps1] c main_v46 = shapeCast S1x8192 (extractStridedSlice S4x2048 ![8, 0] ((dats m 0 c).arrAt 4 cfg0.N : FVec Ideal S16x2048 .f32) slices_S16x2048_S4x2048_8_0) shapeCasts_S4x2048_S1x8192 := by
  rw [← arr4]
  show StableHlo.after (List.flatten [hostOps1]) (Pipeline.withArrays spec0 c (V0 m c) (fun w => (dats m 0 c).arrAt w cfg0.N)) (Proc.devRef .tc main_v46) = _
  generalize Pipeline.withArrays spec0 c (V0 m c) (fun w => (dats m 0 c).arrAt w cfg0.N) = W
  simp only [List.flatten_cons, List.flatten_nil, List.append_nil]
  after_results
  rfl

theorem tail42 (c : Dev nD) : Pipeline.afterTail₀ cfgs (dats m) 0 (V0 m) [hostOps1] c main_v42 = extractStridedSlice S1x2048 ![5, 0] ((dats m 0 c).arrAt 4 cfg0.N : FVec Ideal S16x2048 .f32) slices_S16x2048_S1x2048_5_0 := by
  rw [← arr4]
  show StableHlo.after (List.flatten [hostOps1]) (Pipeline.withArrays spec0 c (V0 m c) (fun w => (dats m 0 c).arrAt w cfg0.N)) (Proc.devRef .tc main_v42) = _
  generalize Pipeline.withArrays spec0 c (V0 m c) (fun w => (dats m 0 c).arrAt w cfg0.N) = W
  simp only [List.flatten_cons, List.flatten_nil, List.append_nil]
  after_results

theorem tail43 (c : Dev nD) : Pipeline.afterTail₀ cfgs (dats m) 0 (V0 m) [hostOps1] c main_v43 = extractStridedSlice S1x2048 ![6, 0] ((dats m 0 c).arrAt 4 cfg0.N : FVec Ideal S16x2048 .f32) slices_S16x2048_S1x2048_6_0 := by
  rw [← arr4]
  show StableHlo.after (List.flatten [hostOps1]) (Pipeline.withArrays spec0 c (V0 m c) (fun w => (dats m 0 c).arrAt w cfg0.N)) (Proc.devRef .tc main_v43) = _
  generalize Pipeline.withArrays spec0 c (V0 m c) (fun w => (dats m 0 c).arrAt w cfg0.N) = W
  simp only [List.flatten_cons, List.flatten_nil, List.append_nil]
  after_results

theorem tail44 (c : Dev nD) : Pipeline.afterTail₀ cfgs (dats m) 0 (V0 m) [hostOps1] c main_v44 = extractStridedSlice S1x2048 ![7, 0] ((dats m 0 c).arrAt 4 cfg0.N : FVec Ideal S16x2048 .f32) slices_S16x2048_S1x2048_7_0 := by
  rw [← arr4]
  show StableHlo.after (List.flatten [hostOps1]) (Pipeline.withArrays spec0 c (V0 m c) (fun w => (dats m 0 c).arrAt w cfg0.N)) (Proc.devRef .tc main_v44) = _
  generalize Pipeline.withArrays spec0 c (V0 m c) (fun w => (dats m 0 c).arrAt w cfg0.N) = W
  simp only [List.flatten_cons, List.flatten_nil, List.append_nil]
  after_results

theorem arr5 (c : Dev nD) : Pipeline.withArrays spec0 c (V0 m c) (fun w => (dats m 0 c).arrAt w cfg0.N) (Proc.devRef .tc main_v32_1) = (dats m 0 c).arrAt 5 cfg0.N :=
  Pipeline.withArrays_arr spec0 (by decide +kernel) c _ _ 5

theorem tail51 (c : Dev nD) : Pipeline.afterTail₀ cfgs (dats m) 0 (V0 m) [hostOps1] c main_v51 = shapeCast S2048 (extractStridedSlice S1x2048 ![1, 0] ((dats m 0 c).arrAt 5 cfg0.N : FVec Ideal S16x2048 .f32) slices_S16x2048_S1x2048_1_0) shapeCasts_S1x2048_S2048 := by
  rw [← arr5]
  show StableHlo.after (List.flatten [hostOps1]) (Pipeline.withArrays spec0 c (V0 m c) (fun w => (dats m 0 c).arrAt w cfg0.N)) (Proc.devRef .tc main_v51) = _
  generalize Pipeline.withArrays spec0 c (V0 m c) (fun w => (dats m 0 c).arrAt w cfg0.N) = W
  simp only [List.flatten_cons, List.flatten_nil, List.append_nil]
  after_results
  rfl

theorem tail53 (c : Dev nD) : Pipeline.afterTail₀ cfgs (dats m) 0 (V0 m) [hostOps1] c main_v53 = shapeCast S2048 (extractStridedSlice S1x2048 ![2, 0] ((dats m 0 c).arrAt 5 cfg0.N : FVec Ideal S16x2048 .f32) slices_S16x2048_S1x2048_2_0) shapeCasts_S1x2048_S2048 := by
  rw [← arr5]
  show StableHlo.after (List.flatten [hostOps1]) (Pipeline.withArrays spec0 c (V0 m c) (fun w => (dats m 0 c).arrAt w cfg0.N)) (Proc.devRef .tc main_v53) = _
  generalize Pipeline.withArrays spec0 c (V0 m c) (fun w => (dats m 0 c).arrAt w cfg0.N) = W
  simp only [List.flatten_cons, List.flatten_nil, List.append_nil]
  after_results
  rfl

theorem tail49 (c : Dev nD) : Pipeline.afterTail₀ cfgs (dats m) 0 (V0 m) [hostOps1] c main_v49 = shapeCast S1x4x32 (shapeCast S128 (extractStridedSlice S1x128 ![12, 0] ((dats m 0 c).arrAt 5 cfg0.N : FVec Ideal S16x2048 .f32) slices_S16x2048_S1x128_12_0) shapeCasts_S1x128_S128) shapeCasts_S128_S1x4x32 := by
  rw [← arr5]
  show StableHlo.after (List.flatten [hostOps1]) (Pipeline.withArrays spec0 c (V0 m c) (fun w => (dats m 0 c).arrAt w cfg0.N)) (Proc.devRef .tc main_v49) = _
  generalize Pipeline.withArrays spec0 c (V0 m c) (fun w => (dats m 0 c).arrAt w cfg0.N) = W
  simp only [List.flatten_cons, List.flatten_nil, List.append_nil]
  after_results
  rfl

theorem tail54 (c : Dev nD) : Pipeline.afterTail₀ cfgs (dats m) 0 (V0 m) [hostOps1] c main_v54 = extractStridedSlice S1x2048 ![3, 0] ((dats m 0 c).arrAt 5 cfg0.N : FVec Ideal S16x2048 .f32) slices_S16x2048_S1x2048_3_0 := by
  rw [← arr5]
  show StableHlo.after (List.flatten [hostOps1]) (Pipeline.withArrays spec0 c (V0 m c) (fun w => (dats m 0 c).arrAt w cfg0.N)) (Proc.devRef .tc main_v54) = _
  generalize Pipeline.withArrays spec0 c (V0 m c) (fun w => (dats m 0 c).arrAt w cfg0.N) = W
  simp only [List.flatten_cons, List.flatten_nil, List.append_nil]
  after_results

theorem tail55 (c : Dev nD) : Pipeline.afterTail₀ cfgs (dats m) 0 (V0 m) [hostOps1] c main_v55 = extractStridedSlice S1x2048 ![4, 0] ((dats m 0 c).arrAt 5 cfg0.N : FVec Ideal S16x2048 .f32) slices_S16x2048_S1x2048_4_0 := by
  rw [← arr5]
  show StableHlo.after (List.flatten [hostOps1]) (Pipeline.withArrays spec0 c (V0 m c) (fun w => (dats m 0 c).arrAt w cfg0.N)) (Proc.devRef .tc main_v55) = _
  generalize Pipeline.withArrays spec0 c (V0 m c) (fun w => (dats m 0 c).arrAt w cfg0.N) = W
  simp only [List.flatten_cons, List.flatten_nil, List.append_nil]
  after_results

theorem tail60 (c : Dev nD) : Pipeline.afterTail₀ cfgs (dats m) 0 (V0 m) [hostOps1] c main_v60 = shapeCast S1x8192 (extractStridedSlice S4x2048 ![8, 0] ((dats m 0 c).arrAt 5 cfg0.N : FVec Ideal S16x2048 .f32) slices_S16x2048_S4x2048_8_0) shapeCasts_S4x2048_S1x8192 := by
  rw [← arr5]
  show StableHlo.after (List.flatten [hostOps1]) (Pipeline.withArrays spec0 c (V0 m c) (fun w => (dats m 0 c).arrAt w cfg0.N)) (Proc.devRef .tc main_v60) = _
  generalize Pipeline.withArrays spec0 c (V0 m c) (fun w => (dats m 0 c).arrAt w cfg0.N) = W
  simp only [List.flatten_cons, List.flatten_nil, List.append_nil]
  after_results
  rfl

theorem tail56 (c : Dev nD) : Pipeline.afterTail₀ cfgs (dats m) 0 (V0 m) [hostOps1] c main_v56 = extractStridedSlice S1x2048 ![5, 0] ((dats m 0 c).arrAt 5 cfg0.N : FVec Ideal S16x2048 .f32) slices_S16x2048_S1x2048_5_0 := by
  rw [← arr5]
  show StableHlo.after (List.flatten [hostOps1]) (Pipeline.withArrays spec0 c (V0 m c) (fun w => (dats m 0 c).arrAt w cfg0.N)) (Proc.devRef .tc main_v56) = _
  generalize Pipeline.withArrays spec0 c (V0 m c) (fun w => (dats m 0 c).arrAt w cfg0.N) = W
  simp only [List.flatten_cons, List.flatten_nil, List.append_nil]
  after_results

theorem tail57 (c : Dev nD) : Pipeline.afterTail₀ cfgs (dats m) 0 (V0 m) [hostOps1] c main_v57 = extractStridedSlice S1x2048 ![6, 0] ((dats m 0 c).arrAt 5 cfg0.N : FVec Ideal S16x2048 .f32) slices_S16x2048_S1x2048_6_0 := by
  rw [← arr5]
  show StableHlo.after (List.flatten [hostOps1]) (Pipeline.withArrays spec0 c (V0 m c) (fun w => (dats m 0 c).arrAt w cfg0.N)) (Proc.devRef .tc main_v57) = _
  generalize Pipeline.withArrays spec0 c (V0 m c) (fun w => (dats m 0 c).arrAt w cfg0.N) = W
  simp only [List.flatten_cons, List.flatten_nil, List.append_nil]
  after_results

theorem tail58 (c : Dev nD) : Pipeline.afterTail₀ cfgs (dats m) 0 (V0 m) [hostOps1] c main_v58 = extractStridedSlice S1x2048 ![7, 0] ((dats m 0 c).arrAt 5 cfg0.N : FVec Ideal S16x2048 .f32) slices_S16x2048_S1x2048_7_0 := by
  rw [← arr5]
  show StableHlo.after (List.flatten [hostOps1]) (Pipeline.withArrays spec0 c (V0 m c) (fun w => (dats m 0 c).arrAt w cfg0.N)) (Proc.devRef .tc main_v58) = _
  generalize Pipeline.withArrays spec0 c (V0 m c) (fun w => (dats m 0 c).arrAt w cfg0.N) = W
  simp only [List.flatten_cons, List.flatten_nil, List.append_nil]
  after_results

theorem arr6 (c : Dev nD) : Pipeline.withArrays spec0 c (V0 m c) (fun w => (dats m 0 c).arrAt w cfg0.N) (Proc.devRef .tc main_v32_2) = (dats m 0 c).arrAt 6 cfg0.N :=
  Pipeline.withArrays_arr spec0 (by decide +kernel) c _ _ 6

theorem tail65 (c : Dev nD) : Pipeline.afterTail₀ cfgs (dats m) 0 (V0 m) [hostOps1] c main_v65 = shapeCast S2048 (extractStridedSlice S1x2048 ![1, 0] ((dats m 0 c).arrAt 6 cfg0.N : FVec Ideal S16x2048 .f32) slices_S16x2048_S1x2048_1_0) shapeCasts_S1x2048_S2048 := by
  rw [← arr6]
  show StableHlo.after (List.flatten [hostOps1]) (Pipeline.withArrays spec0 c (V0 m c) (fun w => (dats m 0 c).arrAt w cfg0.N)) (Proc.devRef .tc main_v65) = _
  generalize Pipeline.withArrays spec0 c (V0 m c) (fun w => (dats m 0 c).arrAt w cfg0.N) = W
  simp only [List.flatten_cons, List.flatten_nil, List.append_nil]
  after_results
  rfl

theorem tail67 (c : Dev nD) : Pipeline.afterTail₀ cfgs (dats m) 0 (V0 m) [hostOps1] c main_v67 = shapeCast S2048 (extractStridedSlice S1x2048 ![2, 0] ((dats m 0 c).arrAt 6 cfg0.N : FVec Ideal S16x2048 .f32) slices_S16x2048_S1x2048_2_0) shapeCasts_S1x2048_S2048 := by
  rw [← arr6]
  show StableHlo.after (List.flatten [hostOps1]) (Pipeline.withArrays spec0 c (V0 m c) (fun w => (dats m 0 c).arrAt w cfg0.N)) (Proc.devRef .tc main_v67) = _
  generalize Pipeline.withArrays spec0 c (V0 m c) (fun w => (dats m 0 c).arrAt w cfg0.N) = W
  simp only [List.flatten_cons, List.flatten_nil, List.append_nil]
  after_results
  rfl

theorem tail63 (c : Dev nD) : Pipeline.afterTail₀ cfgs (dats m) 0 (V0 m) [hostOps1] c main_v63 = shapeCast S1x4x32 (shapeCast S128 (extractStridedSlice S1x128 ![12, 0] ((dats m 0 c).arrAt 6 cfg0.N : FVec Ideal S16x2048 .f32) slices_S16x2048_S1x128_12_0) shapeCasts_S1x128_S128) shapeCasts_S128_S1x4x32 := by
  rw [← arr6]
  show StableHlo.after (List.flatten [hostOps1]) (Pipeline.withArrays spec0 c (V0 m c) (fun w => (dats m 0 c).arrAt w cfg0.N)) (Proc.devRef .tc main_v63) = _
  generalize Pipeline.withArrays spec0 c (V0 m c) (fun w => (dats m 0 c).arrAt w cfg0.N) = W
  simp only [List.flatten_cons, List.flatten_nil, List.append_nil]
  after_results
  rfl

theorem tail68 (c : Dev nD) : Pipeline.afterTail₀ cfgs (dats m) 0 (V0 m) [hostOps1] c main_v68 = extractStridedSlice S1x2048 ![3, 0] ((dats m 0 c).arrAt 6 cfg0.N : FVec Ideal S16x2048 .f32) slices_S16x2048_S1x2048_3_0 := by
  rw [← arr6]
  show StableHlo.after (List.flatten [hostOps1]) (Pipeline.withArrays spec0 c (V0 m c) (fun w => (dats m 0 c).arrAt w cfg0.N)) (Proc.devRef .tc main_v68) = _
  generalize Pipeline.withArrays spec0 c (V0 m c) (fun w => (dats m 0 c).arrAt w cfg0.N) = W
  simp only [List.flatten_cons, List.flatten_nil, List.append_nil]
  after_results

theorem tail69 (c : Dev nD) : Pipeline.afterTail₀ cfgs (dats m) 0 (V0 m) [hostOps1] c main_v69 = extractStridedSlice S1x2048 ![4, 0] ((dats m 0 c).arrAt 6 cfg0.N : FVec Ideal S16x2048 .f32) slices_S16x2048_S1x2048_4_0 := by
  rw [← arr6]
  show StableHlo.after (List.flatten [hostOps1]) (Pipeline.withArrays spec0 c (V0 m c) (fun w => (dats m 0 c).arrAt w cfg0.N)) (Proc.devRef .tc main_v69) = _
  generalize Pipeline.withArrays spec0 c (V0 m c) (fun w => (dats m 0 c).arrAt w cfg0.N) = W
  simp only [List.flatten_cons, List.flatten_nil, List.append_nil]
  after_results

theorem tail74 (c : Dev nD) : Pipeline.afterTail₀ cfgs (dats m) 0 (V0 m) [hostOps1] c main_v74 = shapeCast S1x8192 (extractStridedSlice S4x2048 ![8, 0] ((dats m 0 c).arrAt 6 cfg0.N : FVec Ideal S16x2048 .f32) slices_S16x2048_S4x2048_8_0) shapeCasts_S4x2048_S1x8192 := by
  rw [← arr6]
  show StableHlo.after (List.flatten [hostOps1]) (Pipeline.withArrays spec0 c (V0 m c) (fun w => (dats m 0 c).arrAt w cfg0.N)) (Proc.devRef .tc main_v74) = _
  generalize Pipeline.withArrays spec0 c (V0 m c) (fun w => (dats m 0 c).arrAt w cfg0.N) = W
  simp only [List.flatten_cons, List.flatten_nil, List.append_nil]
  after_results
  rfl

theorem tail70 (c : Dev nD) : Pipeline.afterTail₀ cfgs (dats m) 0 (V0 m) [hostOps1] c main_v70 = extractStridedSlice S1x2048 ![5, 0] ((dats m 0 c).arrAt 6 cfg0.N : FVec Ideal S16x2048 .f32) slices_S16x2048_S1x2048_5_0 := by
  rw [← arr6]
  show StableHlo.after (List.flatten [hostOps1]) (Pipeline.withArrays spec0 c (V0 m c) (fun w => (dats m 0 c).arrAt w cfg0.N)) (Proc.devRef .tc main_v70) = _
  generalize Pipeline.withArrays spec0 c (V0 m c) (fun w => (dats m 0 c).arrAt w cfg0.N) = W
  simp only [List.flatten_cons, List.flatten_nil, List.append_nil]
  after_results

theorem tail71 (c : Dev nD) : Pipeline.afterTail₀ cfgs (dats m) 0 (V0 m) [hostOps1] c main_v71 = extractStridedSlice S1x2048 ![6, 0] ((dats m 0 c).arrAt 6 cfg0.N : FVec Ideal S16x2048 .f32) slices_S16x2048_S1x2048_6_0 := by
  rw [← arr6]
  show StableHlo.after (List.flatten [hostOps1]) (Pipeline.withArrays spec0 c (V0 m c) (fun w => (dats m 0 c).arrAt w cfg0.N)) (Proc.devRef .tc main_v71) = _
  generalize Pipeline.withArrays spec0 c (V0 m c) (fun w => (dats m 0 c).arrAt w cfg0.N) = W
  simp only [List.flatten_cons, List.flatten_nil, List.append_nil]
  after_results

theorem tail72 (c : Dev nD) : Pipeline.afterTail₀ cfgs (dats m) 0 (V0 m) [hostOps1] c main_v72 = extractStridedSlice S1x2048 ![7, 0] ((dats m 0 c).arrAt 6 cfg0.N : FVec Ideal S16x2048 .f32) slices_S16x2048_S1x2048_7_0 := by
  rw [← arr6]
  show StableHlo.after (List.flatten [hostOps1]) (Pipeline.withArrays spec0 c (V0 m c) (fun w => (dats m 0 c).arrAt w cfg0.N)) (Proc.devRef .tc main_v72) = _
  generalize Pipeline.withArrays spec0 c (V0 m c) (fun w => (dats m 0 c).arrAt w cfg0.N) = W
  simp only [List.flatten_cons, List.flatten_nil, List.append_nil]
  after_results

end Cert.SmallIdeal.Hand

end
-- ==== Proof.SmallUpdate.lean ====
/- The update read out of the packed array, parameter by parameter. -/
module

public import proofs.«01_k».proof.Defs
public import proofs.«01_k».proof.Proof.Gen.SmallIdeal.Frame
public import Idealize.ShloMosaic.Lib.Pipeline.ValueKit
public import Idealize.ShloMosaic.Lib.Pointwise
public import proofs.«01_k».proof.Proof.Gen.SmallRefIdeal.Read

@[expose] public section

set_option maxRecDepth 16384

noncomputable section

namespace Cert.SmallIdeal.Hand

open Cert.SmallIdeal Cert.SmallIdeal.Gen Idealize.ShloMosaic Idealize.ShloMosaic.TcCoe Idealize.SL.Sem
open Idealize.ShloMosaic.Pipeline (Dat)

/-- The row of the first layer norm's scale: what is read out is the reference's. -/
theorem read0_0 (W G M V : FVec Ideal S16x2048 .f32) (w g m v : FVec Ideal S2048 .f32)
    (hw : ∀ (k : Fin 2048), W (ix2 1 k : S16x2048.Idx) = w (ix1 k)) (hg : ∀ (k : Fin 2048), G (ix2 1 k : S16x2048.Idx) = g (ix1 k)) (hm : ∀ (k : Fin 2048), M (ix2 1 k : S16x2048.Idx) = m (ix1 k)) (hv : ∀ (k : Fin 2048), V (ix2 1 k : S16x2048.Idx) = v (ix1 k)) :
    (shapeCast S2048 (extractStridedSlice S1x2048 ![1, 0] (k0_pay4 W G M V) slices_S16x2048_S1x2048_1_0) shapeCasts_S1x2048_S2048 : FVec Ideal S2048 .f32) = Cert.SmallRefIdeal.Read.val_main_v23 (F := Ideal) w g m v := by
  funext y
  idx_vars y
  unfold Cert.SmallRefIdeal.Read.val_main_v23 Cert.SmallRefIdeal.Read.val_main_v22 Cert.SmallRefIdeal.Read.val_main_cst_7 Cert.SmallRefIdeal.Read.val_main_v21 Cert.SmallRefIdeal.Read.val_main_v20 Cert.SmallRefIdeal.Read.val_main_v19 Cert.SmallRefIdeal.Read.val_main_cst_6 Cert.SmallRefIdeal.Read.val_main_v18 Cert.SmallRefIdeal.Read.val_main_v17 Cert.SmallRefIdeal.Read.val_main_v16 Cert.SmallRefIdeal.Read.val_main_cst_5 Cert.SmallRefIdeal.Read.val_main_v15 Cert.SmallRefIdeal.Read.val_main_v14 Cert.SmallRefIdeal.Read.val_main_v13 Cert.SmallRefIdeal.Read.val_main_cst_4 Cert.SmallRefIdeal.Read.val_main_v12 Cert.SmallRefIdeal.Read.val_main_v11 Cert.SmallRefIdeal.Read.val_main_cst_3 Cert.SmallRefIdeal.Read.val_main_v10 Cert.SmallRefIdeal.Read.val_main_v9 Cert.SmallRefIdeal.Read.val_main_v8 Cert.SmallRefIdeal.Read.val_main_cst_2 Cert.SmallRefIdeal.Read.val_main_v7 Cert.SmallRefIdeal.Read.val_main_v6 Cert.SmallRefIdeal.Read.val_main_v5 Cert.SmallRefIdeal.Read.val_main_cst_1 Cert.SmallRefIdeal.Read.val_main_v4 Cert.SmallRefIdeal.Read.val_main_v3 Cert.SmallRefIdeal.Read.val_main_v2 Cert.SmallRefIdeal.Read.val_main_cst_0 Cert.SmallRefIdeal.Read.val_main_v1 Cert.SmallRefIdeal.Read.val_main_v0 Cert.SmallRefIdeal.Read.val_main_cst
  pointwise [k0_pay4, k0_pay3, k0_pay2, k0_pay1, hw, hg, hm, hv]

/-- The row of the first layer norm's offset: what is read out is the reference's. -/
theorem read0_1 (W G M V : FVec Ideal S16x2048 .f32) (w g m v : FVec Ideal S2048 .f32)
    (hw : ∀ (k : Fin 2048), W (ix2 2 k : S16x2048.Idx) = w (ix1 k)) (hg : ∀ (k : Fin 2048), G (ix2 2 k : S16x2048.Idx) = g (ix1 k)) (hm : ∀ (k : Fin 2048), M (ix2 2 k : S16x2048.Idx) = m (ix1 k)) (hv : ∀ (k : Fin 2048), V (ix2 2 k : S16x2048.Idx) = v (ix1 k)) :
    (shapeCast S2048 (extractStridedSlice S1x2048 ![2, 0] (k0_pay4 W G M V) slices_S16x2048_S1x2048_2_0) shapeCasts_S1x2048_S2048 : FVec Ideal S2048 .f32) = Cert.SmallRefIdeal.Read.val_main_v47 (F := Ideal) w g m v := by
  funext y
  idx_vars y
  unfold Cert.SmallRefIdeal.Read.val_main_v47 Cert.SmallRefIdeal.Read.val_main_v46 Cert.SmallRefIdeal.Read.val_main_cst_16 Cert.SmallRefIdeal.Read.val_main_v45 Cert.SmallRefIdeal.Read.val_main_v44 Cert.SmallRefIdeal.Read.val_main_v43 Cert.SmallRefIdeal.Read.val_main_cst_15 Cert.SmallRefIdeal.Read.val_main_v42 Cert.SmallRefIdeal.Read.val_main_v41 Cert.SmallRefIdeal.Read.val_main_v40 Cert.SmallRefIdeal.Read.val_main_cst_14 Cert.SmallRefIdeal.Read.val_main_v39 Cert.SmallRefIdeal.Read.val_main_v38 Cert.SmallRefIdeal.Read.val_main_v37 Cert.SmallRefIdeal.Read.val_main_cst_13 Cert.SmallRefIdeal.Read.val_main_v36 Cert.SmallRefIdeal.Read.val_main_v35 Cert.SmallRefIdeal.Read.val_main_cst_12 Cert.SmallRefIdeal.Read.val_main_v34 Cert.SmallRefIdeal.Read.val_main_v33 Cert.SmallRefIdeal.Read.val_main_v32 Cert.SmallRefIdeal.Read.val_main_cst_11 Cert.SmallRefIdeal.Read.val_main_v31 Cert.SmallRefIdeal.Read.val_main_v30 Cert.SmallRefIdeal.Read.val_main_v29 Cert.SmallRefIdeal.Read.val_main_cst_10 Cert.SmallRefIdeal.Read.val_main_v28 Cert.SmallRefIdeal.Read.val_main_v27 Cert.SmallRefIdeal.Read.val_main_v26 Cert.SmallRefIdeal.Read.val_main_cst_9 Cert.SmallRefIdeal.Read.val_main_v25 Cert.SmallRefIdeal.Read.val_main_v24 Cert.SmallRefIdeal.Read.val_main_cst_8
  pointwise [k0_pay4, k0_pay3, k0_pay2, k0_pay1, hw, hg, hm, hv]

/-- The pooling scales: what is read out is the reference's. -/
theorem read0_2 (W G M V : FVec Ideal S16x2048 .f32) (w g m v : FVec Ideal S1x4x32 .f32)
    (hw : ∀ (i : Fin 4) (k : Fin 32), W (ix2 12 ⟨i.val * 32 + k.val, by omega⟩ : S16x2048.Idx) = w (ix3 0 i k)) (hg : ∀ (i : Fin 4) (k : Fin 32), G (ix2 12 ⟨i.val * 32 + k.val, by omega⟩ : S16x2048.Idx) = g (ix3 0 i k)) (hm : ∀ (i : Fin 4) (k : Fin 32), M (ix2 12 ⟨i.val * 32 + k.val, by omega⟩ : S16x2048.Idx) = m (ix3 0 i k)) (hv : ∀ (i : Fin 4) (k : Fin 32), V (ix2 12 ⟨i.val * 32 + k.val, by omega⟩ : S16x2048.Idx) = v (ix3 0 i k)) :
    (shapeCast S1x4x32 (shapeCast S128 (extractStridedSlice S1x128 ![12, 0] (k0_pay4 W G M V) slices_S16x2048_S1x128_12_0) shapeCasts_S1x128_S128) shapeCasts_S128_S1x4x32 : FVec Ideal S1x4x32 .f32) = Cert.SmallRefIdeal.Read.val_main_v71 (F := Ideal) w g m v := by
  funext y
  idx_vars y
  obtain rfl : y0 = 0 := Subsingleton.elim _ _
  unfold Cert.SmallRefIdeal.Read.val_main_v71 Cert.SmallRefIdeal.Read.val_main_v70 Cert.SmallRefIdeal.Read.val_main_cst_25 Cert.SmallRefIdeal.Read.val_main_v69 Cert.SmallRefIdeal.Read.val_main_v68 Cert.SmallRefIdeal.Read.val_main_v67 Cert.SmallRefIdeal.Read.val_main_cst_24 Cert.SmallRefIdeal.Read.val_main_v66 Cert.SmallRefIdeal.Read.val_main_v65 Cert.SmallRefIdeal.Read.val_main_v64 Cert.SmallRefIdeal.Read.val_main_cst_23 Cert.SmallRefIdeal.Read.val_main_v63 Cert.SmallRefIdeal.Read.val_main_v62 Cert.SmallRefIdeal.Read.val_main_v61 Cert.SmallRefIdeal.Read.val_main_cst_22 Cert.SmallRefIdeal.Read.val_main_v60 Cert.SmallRefIdeal.Read.val_main_v59 Cert.SmallRefIdeal.Read.val_main_cst_21 Cert.SmallRefIdeal.Read.val_main_v58 Cert.SmallRefIdeal.Read.val_main_v57 Cert.SmallRefIdeal.Read.val_main_v56 Cert.SmallRefIdeal.Read.val_main_cst_20 Cert.SmallRefIdeal.Read.val_main_v55 Cert.SmallRefIdeal.Read.val_main_v54 Cert.SmallRefIdeal.Read.val_main_v53 Cert.SmallRefIdeal.Read.val_main_cst_19 Cert.SmallRefIdeal.Read.val_main_v52 Cert.SmallRefIdeal.Read.val_main_v51 Cert.SmallRefIdeal.Read.val_main_v50 Cert.SmallRefIdeal.Read.val_main_cst_18 Cert.SmallRefIdeal.Read.val_main_v49 Cert.SmallRefIdeal.Read.val_main_v48 Cert.SmallRefIdeal.Read.val_main_cst_17
  pointwise [k0_pay4, k0_pay3, k0_pay2, k0_pay1, hw, hg, hm, hv]

/-- The row of the middle layer norm's scale: what is read out is the reference's. -/
theorem read0_3 (W G M V : FVec Ideal S16x2048 .f32) (w g m v : FVec Ideal S1x2048 .f32)
    (hw : ∀ (k : Fin 2048), W (ix2 3 k : S16x2048.Idx) = w (ix2 0 k)) (hg : ∀ (k : Fin 2048), G (ix2 3 k : S16x2048.Idx) = g (ix2 0 k)) (hm : ∀ (k : Fin 2048), M (ix2 3 k : S16x2048.Idx) = m (ix2 0 k)) (hv : ∀ (k : Fin 2048), V (ix2 3 k : S16x2048.Idx) = v (ix2 0 k)) :
    (extractStridedSlice S1x2048 ![3, 0] (k0_pay4 W G M V) slices_S16x2048_S1x2048_3_0 : FVec Ideal S1x2048 .f32) = Cert.SmallRefIdeal.Read.val_main_v95 (F := Ideal) w g m v := by
  funext y
  idx_vars y
  obtain rfl : y0 = 0 := Subsingleton.elim _ _
  unfold Cert.SmallRefIdeal.Read.val_main_v95 Cert.SmallRefIdeal.Read.val_main_v94 Cert.SmallRefIdeal.Read.val_main_cst_34 Cert.SmallRefIdeal.Read.val_main_v93 Cert.SmallRefIdeal.Read.val_main_v92 Cert.SmallRefIdeal.Read.val_main_v91 Cert.SmallRefIdeal.Read.val_main_cst_33 Cert.SmallRefIdeal.Read.val_main_v90 Cert.SmallRefIdeal.Read.val_main_v89 Cert.SmallRefIdeal.Read.val_main_v88 Cert.SmallRefIdeal.Read.val_main_cst_32 Cert.SmallRefIdeal.Read.val_main_v87 Cert.SmallRefIdeal.Read.val_main_v86 Cert.SmallRefIdeal.Read.val_main_v85 Cert.SmallRefIdeal.Read.val_main_cst_31 Cert.SmallRefIdeal.Read.val_main_v84 Cert.SmallRefIdeal.Read.val_main_v83 Cert.SmallRefIdeal.Read.val_main_cst_30 Cert.SmallRefIdeal.Read.val_main_v82 Cert.SmallRefIdeal.Read.val_main_v81 Cert.SmallRefIdeal.Read.val_main_v80 Cert.SmallRefIdeal.Read.val_main_cst_29 Cert.SmallRefIdeal.Read.val_main_v79 Cert.SmallRefIdeal.Read.val_main_v78 Cert.SmallRefIdeal.Read.val_main_v77 Cert.SmallRefIdeal.Read.val_main_cst_28 Cert.SmallRefIdeal.Read.val_main_v76 Cert.SmallRefIdeal.Read.val_main_v75 Cert.SmallRefIdeal.Read.val_main_v74 Cert.SmallRefIdeal.Read.val_main_cst_27 Cert.SmallRefIdeal.Read.val_main_v73 Cert.SmallRefIdeal.Read.val_main_v72 Cert.SmallRefIdeal.Read.val_main_cst_26
  pointwise [k0_pay4, k0_pay3, k0_pay2, k0_pay1, hw, hg, hm, hv]

/-- The row of the middle layer norm's offset: what is read out is the reference's. -/
theorem read0_4 (W G M V : FVec Ideal S16x2048 .f32) (w g m v : FVec Ideal S1x2048 .f32)
    (hw : ∀ (k : Fin 2048), W (ix2 4 k : S16x2048.Idx) = w (ix2 0 k)) (hg : ∀ (k : Fin 2048), G (ix2 4 k : S16x2048.Idx) = g (ix2 0 k)) (hm : ∀ (k : Fin 2048), M (ix2 4 k : S16x2048.Idx) = m (ix2 0 k)) (hv : ∀ (k : Fin 2048), V (ix2 4 k : S16x2048.Idx) = v (ix2 0 k)) :
    (extractStridedSlice S1x2048 ![4, 0] (k0_pay4 W G M V) slices_S16x2048_S1x2048_4_0 : FVec Ideal S1x2048 .f32) = Cert.SmallRefIdeal.Read.val_main_v119 (F := Ideal) w g m v := by
  funext y
  idx_vars y
  obtain rfl : y0 = 0 := Subsingleton.elim _ _
  unfold Cert.SmallRefIdeal.Read.val_main_v119 Cert.SmallRefIdeal.Read.val_main_v118 Cert.SmallRefIdeal.Read.val_main_cst_43 Cert.SmallRefIdeal.Read.val_main_v117 Cert.SmallRefIdeal.Read.val_main_v116 Cert.SmallRefIdeal.Read.val_main_v115 Cert.SmallRefIdeal.Read.val_main_cst_42 Cert.SmallRefIdeal.Read.val_main_v114 Cert.SmallRefIdeal.Read.val_main_v113 Cert.SmallRefIdeal.Read.val_main_v112 Cert.SmallRefIdeal.Read.val_main_cst_41 Cert.SmallRefIdeal.Read.val_main_v111 Cert.SmallRefIdeal.Read.val_main_v110 Cert.SmallRefIdeal.Read.val_main_v109 Cert.SmallRefIdeal.Read.val_main_cst_40 Cert.SmallRefIdeal.Read.val_main_v108 Cert.SmallRefIdeal.Read.val_main_v107 Cert.SmallRefIdeal.Read.val_main_cst_39 Cert.SmallRefIdeal.Read.val_main_v106 Cert.SmallRefIdeal.Read.val_main_v105 Cert.SmallRefIdeal.Read.val_main_v104 Cert.SmallRefIdeal.Read.val_main_cst_38 Cert.SmallRefIdeal.Read.val_main_v103 Cert.SmallRefIdeal.Read.val_main_v102 Cert.SmallRefIdeal.Read.val_main_v101 Cert.SmallRefIdeal.Read.val_main_cst_37 Cert.SmallRefIdeal.Read.val_main_v100 Cert.SmallRefIdeal.Read.val_main_v99 Cert.SmallRefIdeal.Read.val_main_v98 Cert.SmallRefIdeal.Read.val_main_cst_36 Cert.SmallRefIdeal.Read.val_main_v97 Cert.SmallRefIdeal.Read.val_main_v96 Cert.SmallRefIdeal.Read.val_main_cst_35
  pointwise [k0_pay4, k0_pay3, k0_pay2, k0_pay1, hw, hg, hm, hv]

/-- The first bias, in four rows: what is read out is the reference's. -/
theorem read0_5 (W G M V : FVec Ideal S16x2048 .f32) (w g m v : FVec Ideal S1x8192 .f32)
    (hw : ∀ (k : Fin 8192), W (ix2 ⟨8 + k.val / 2048, by omega⟩ ⟨k.val % 2048, by omega⟩ : S16x2048.Idx) = w (ix2 0 k)) (hg : ∀ (k : Fin 8192), G (ix2 ⟨8 + k.val / 2048, by omega⟩ ⟨k.val % 2048, by omega⟩ : S16x2048.Idx) = g (ix2 0 k)) (hm : ∀ (k : Fin 8192), M (ix2 ⟨8 + k.val / 2048, by omega⟩ ⟨k.val % 2048, by omega⟩ : S16x2048.Idx) = m (ix2 0 k)) (hv : ∀ (k : Fin 8192), V (ix2 ⟨8 + k.val / 2048, by omega⟩ ⟨k.val % 2048, by omega⟩ : S16x2048.Idx) = v (ix2 0 k)) :
    (shapeCast S1x8192 (extractStridedSlice S4x2048 ![8, 0] (k0_pay4 W G M V) slices_S16x2048_S4x2048_8_0) shapeCasts_S4x2048_S1x8192 : FVec Ideal S1x8192 .f32) = Cert.SmallRefIdeal.Read.val_main_v143 (F := Ideal) w g m v := by
  funext y
  idx_vars y
  obtain rfl : y0 = 0 := Subsingleton.elim _ _
  unfold Cert.SmallRefIdeal.Read.val_main_v143 Cert.SmallRefIdeal.Read.val_main_v142 Cert.SmallRefIdeal.Read.val_main_cst_52 Cert.SmallRefIdeal.Read.val_main_v141 Cert.SmallRefIdeal.Read.val_main_v140 Cert.SmallRefIdeal.Read.val_main_v139 Cert.SmallRefIdeal.Read.val_main_cst_51 Cert.SmallRefIdeal.Read.val_main_v138 Cert.SmallRefIdeal.Read.val_main_v137 Cert.SmallRefIdeal.Read.val_main_v136 Cert.SmallRefIdeal.Read.val_main_cst_50 Cert.SmallRefIdeal.Read.val_main_v135 Cert.SmallRefIdeal.Read.val_main_v134 Cert.SmallRefIdeal.Read.val_main_v133 Cert.SmallRefIdeal.Read.val_main_cst_49 Cert.SmallRefIdeal.Read.val_main_v132 Cert.SmallRefIdeal.Read.val_main_v131 Cert.SmallRefIdeal.Read.val_main_cst_48 Cert.SmallRefIdeal.Read.val_main_v130 Cert.SmallRefIdeal.Read.val_main_v129 Cert.SmallRefIdeal.Read.val_main_v128 Cert.SmallRefIdeal.Read.val_main_cst_47 Cert.SmallRefIdeal.Read.val_main_v127 Cert.SmallRefIdeal.Read.val_main_v126 Cert.SmallRefIdeal.Read.val_main_v125 Cert.SmallRefIdeal.Read.val_main_cst_46 Cert.SmallRefIdeal.Read.val_main_v124 Cert.SmallRefIdeal.Read.val_main_v123 Cert.SmallRefIdeal.Read.val_main_v122 Cert.SmallRefIdeal.Read.val_main_cst_45 Cert.SmallRefIdeal.Read.val_main_v121 Cert.SmallRefIdeal.Read.val_main_v120 Cert.SmallRefIdeal.Read.val_main_cst_44
  pointwise [k0_pay4, k0_pay3, k0_pay2, k0_pay1, hw, hg, hm, hv]

/-- The row of the second bias: what is read out is the reference's. -/
theorem read0_6 (W G M V : FVec Ideal S16x2048 .f32) (w g m v : FVec Ideal S1x2048 .f32)
    (hw : ∀ (k : Fin 2048), W (ix2 5 k : S16x2048.Idx) = w (ix2 0 k)) (hg : ∀ (k : Fin 2048), G (ix2 5 k : S16x2048.Idx) = g (ix2 0 k)) (hm : ∀ (k : Fin 2048), M (ix2 5 k : S16x2048.Idx) = m (ix2 0 k)) (hv : ∀ (k : Fin 2048), V (ix2 5 k : S16x2048.Idx) = v (ix2 0 k)) :
    (extractStridedSlice S1x2048 ![5, 0] (k0_pay4 W G M V) slices_S16x2048_S1x2048_5_0 : FVec Ideal S1x2048 .f32) = Cert.SmallRefIdeal.Read.val_main_v167 (F := Ideal) w g m v := by
  funext y
  idx_vars y
  obtain rfl : y0 = 0 := Subsingleton.elim _ _
  unfold Cert.SmallRefIdeal.Read.val_main_v167 Cert.SmallRefIdeal.Read.val_main_v166 Cert.SmallRefIdeal.Read.val_main_cst_61 Cert.SmallRefIdeal.Read.val_main_v165 Cert.SmallRefIdeal.Read.val_main_v164 Cert.SmallRefIdeal.Read.val_main_v163 Cert.SmallRefIdeal.Read.val_main_cst_60 Cert.SmallRefIdeal.Read.val_main_v162 Cert.SmallRefIdeal.Read.val_main_v161 Cert.SmallRefIdeal.Read.val_main_v160 Cert.SmallRefIdeal.Read.val_main_cst_59 Cert.SmallRefIdeal.Read.val_main_v159 Cert.SmallRefIdeal.Read.val_main_v158 Cert.SmallRefIdeal.Read.val_main_v157 Cert.SmallRefIdeal.Read.val_main_cst_58 Cert.SmallRefIdeal.Read.val_main_v156 Cert.SmallRefIdeal.Read.val_main_v155 Cert.SmallRefIdeal.Read.val_main_cst_57 Cert.SmallRefIdeal.Read.val_main_v154 Cert.SmallRefIdeal.Read.val_main_v153 Cert.SmallRefIdeal.Read.val_main_v152 Cert.SmallRefIdeal.Read.val_main_cst_56 Cert.SmallRefIdeal.Read.val_main_v151 Cert.SmallRefIdeal.Read.val_main_v150 Cert.SmallRefIdeal.Read.val_main_v149 Cert.SmallRefIdeal.Read.val_main_cst_55 Cert.SmallRefIdeal.Read.val_main_v148 Cert.SmallRefIdeal.Read.val_main_v147 Cert.SmallRefIdeal.Read.val_main_v146 Cert.SmallRefIdeal.Read.val_main_cst_54 Cert.SmallRefIdeal.Read.val_main_v145 Cert.SmallRefIdeal.Read.val_main_v144 Cert.SmallRefIdeal.Read.val_main_cst_53
  pointwise [k0_pay4, k0_pay3, k0_pay2, k0_pay1, hw, hg, hm, hv]

/-- The row of the last layer norm's scale: what is read out is the reference's. -/
theorem read0_7 (W G M V : FVec Ideal S16x2048 .f32) (w g m v : FVec Ideal S1x2048 .f32)
    (hw : ∀ (k : Fin 2048), W (ix2 6 k : S16x2048.Idx) = w (ix2 0 k)) (hg : ∀ (k : Fin 2048), G (ix2 6 k : S16x2048.Idx) = g (ix2 0 k)) (hm : ∀ (k : Fin 2048), M (ix2 6 k : S16x2048.Idx) = m (ix2 0 k)) (hv : ∀ (k : Fin 2048), V (ix2 6 k : S16x2048.Idx) = v (ix2 0 k)) :
    (extractStridedSlice S1x2048 ![6, 0] (k0_pay4 W G M V) slices_S16x2048_S1x2048_6_0 : FVec Ideal S1x2048 .f32) = Cert.SmallRefIdeal.Read.val_main_v191 (F := Ideal) w g m v := by
  funext y
  idx_vars y
  obtain rfl : y0 = 0 := Subsingleton.elim _ _
  unfold Cert.SmallRefIdeal.Read.val_main_v191 Cert.SmallRefIdeal.Read.val_main_v190 Cert.SmallRefIdeal.Read.val_main_cst_70 Cert.SmallRefIdeal.Read.val_main_v189 Cert.SmallRefIdeal.Read.val_main_v188 Cert.SmallRefIdeal.Read.val_main_v187 Cert.SmallRefIdeal.Read.val_main_cst_69 Cert.SmallRefIdeal.Read.val_main_v186 Cert.SmallRefIdeal.Read.val_main_v185 Cert.SmallRefIdeal.Read.val_main_v184 Cert.SmallRefIdeal.Read.val_main_cst_68 Cert.SmallRefIdeal.Read.val_main_v183 Cert.SmallRefIdeal.Read.val_main_v182 Cert.SmallRefIdeal.Read.val_main_v181 Cert.SmallRefIdeal.Read.val_main_cst_67 Cert.SmallRefIdeal.Read.val_main_v180 Cert.SmallRefIdeal.Read.val_main_v179 Cert.SmallRefIdeal.Read.val_main_cst_66 Cert.SmallRefIdeal.Read.val_main_v178 Cert.SmallRefIdeal.Read.val_main_v177 Cert.SmallRefIdeal.Read.val_main_v176 Cert.SmallRefIdeal.Read.val_main_cst_65 Cert.SmallRefIdeal.Read.val_main_v175 Cert.SmallRefIdeal.Read.val_main_v174 Cert.SmallRefIdeal.Read.val_main_v173 Cert.SmallRefIdeal.Read.val_main_cst_64 Cert.SmallRefIdeal.Read.val_main_v172 Cert.SmallRefIdeal.Read.val_main_v171 Cert.SmallRefIdeal.Read.val_main_v170 Cert.SmallRefIdeal.Read.val_main_cst_63 Cert.SmallRefIdeal.Read.val_main_v169 Cert.SmallRefIdeal.Read.val_main_v168 Cert.SmallRefIdeal.Read.val_main_cst_62
  pointwise [k0_pay4, k0_pay3, k0_pay2, k0_pay1, hw, hg, hm, hv]

/-- The row of the last layer norm's offset: what is read out is the reference's. -/
theorem read0_8 (W G M V : FVec Ideal S16x2048 .f32) (w g m v : FVec Ideal S1x2048 .f32)
    (hw : ∀ (k : Fin 2048), W (ix2 7 k : S16x2048.Idx) = w (ix2 0 k)) (hg : ∀ (k : Fin 2048), G (ix2 7 k : S16x2048.Idx) = g (ix2 0 k)) (hm : ∀ (k : Fin 2048), M (ix2 7 k : S16x2048.Idx) = m (ix2 0 k)) (hv : ∀ (k : Fin 2048), V (ix2 7 k : S16x2048.Idx) = v (ix2 0 k)) :
    (extractStridedSlice S1x2048 ![7, 0] (k0_pay4 W G M V) slices_S16x2048_S1x2048_7_0 : FVec Ideal S1x2048 .f32) = Cert.SmallRefIdeal.Read.val_main_v215 (F := Ideal) w g m v := by
  funext y
  idx_vars y
  obtain rfl : y0 = 0 := Subsingleton.elim _ _
  unfold Cert.SmallRefIdeal.Read.val_main_v215 Cert.SmallRefIdeal.Read.val_main_v214 Cert.SmallRefIdeal.Read.val_main_cst_79 Cert.SmallRefIdeal.Read.val_main_v213 Cert.SmallRefIdeal.Read.val_main_v212 Cert.SmallRefIdeal.Read.val_main_v211 Cert.SmallRefIdeal.Read.val_main_cst_78 Cert.SmallRefIdeal.Read.val_main_v210 Cert.SmallRefIdeal.Read.val_main_v209 Cert.SmallRefIdeal.Read.val_main_v208 Cert.SmallRefIdeal.Read.val_main_cst_77 Cert.SmallRefIdeal.Read.val_main_v207 Cert.SmallRefIdeal.Read.val_main_v206 Cert.SmallRefIdeal.Read.val_main_v205 Cert.SmallRefIdeal.Read.val_main_cst_76 Cert.SmallRefIdeal.Read.val_main_v204 Cert.SmallRefIdeal.Read.val_main_v203 Cert.SmallRefIdeal.Read.val_main_cst_75 Cert.SmallRefIdeal.Read.val_main_v202 Cert.SmallRefIdeal.Read.val_main_v201 Cert.SmallRefIdeal.Read.val_main_v200 Cert.SmallRefIdeal.Read.val_main_cst_74 Cert.SmallRefIdeal.Read.val_main_v199 Cert.SmallRefIdeal.Read.val_main_v198 Cert.SmallRefIdeal.Read.val_main_v197 Cert.SmallRefIdeal.Read.val_main_cst_73 Cert.SmallRefIdeal.Read.val_main_v196 Cert.SmallRefIdeal.Read.val_main_v195 Cert.SmallRefIdeal.Read.val_main_v194 Cert.SmallRefIdeal.Read.val_main_cst_72 Cert.SmallRefIdeal.Read.val_main_v193 Cert.SmallRefIdeal.Read.val_main_v192 Cert.SmallRefIdeal.Read.val_main_cst_71
  pointwise [k0_pay4, k0_pay3, k0_pay2, k0_pay1, hw, hg, hm, hv]

end Cert.SmallIdeal.Hand

end
-- ==== Proof.SmallFirst.lean ====
/- The first moment read out of the packed array, parameter by parameter. -/
module

public import proofs.«01_k».proof.Defs
public import proofs.«01_k».proof.Proof.Gen.SmallIdeal.Frame
public import Idealize.ShloMosaic.Lib.Pipeline.ValueKit
public import Idealize.ShloMosaic.Lib.Pointwise
public import proofs.«01_k».proof.Proof.Gen.SmallRefIdeal.Read

@[expose] public section

set_option maxRecDepth 16384

noncomputable section

namespace Cert.SmallIdeal.Hand

open Cert.SmallIdeal Cert.SmallIdeal.Gen Idealize.ShloMosaic Idealize.ShloMosaic.TcCoe Idealize.SL.Sem
open Idealize.ShloMosaic.Pipeline (Dat)

/-- The row of the first layer norm's scale: what is read out is the reference's. -/
theorem read1_0 (G M : FVec Ideal S16x2048 .f32) (g m : FVec Ideal S2048 .f32)
    (hg : ∀ (k : Fin 2048), G (ix2 1 k : S16x2048.Idx) = g (ix1 k)) (hm : ∀ (k : Fin 2048), M (ix2 1 k : S16x2048.Idx) = m (ix1 k)) :
    (shapeCast S2048 (extractStridedSlice S1x2048 ![1, 0] (k0_pay2 G M) slices_S16x2048_S1x2048_1_0) shapeCasts_S1x2048_S2048 : FVec Ideal S2048 .f32) = Cert.SmallRefIdeal.Read.val_main_v4 (F := Ideal) g m := by
  funext y
  idx_vars y
  unfold Cert.SmallRefIdeal.Read.val_main_v4 Cert.SmallRefIdeal.Read.val_main_v3 Cert.SmallRefIdeal.Read.val_main_v2 Cert.SmallRefIdeal.Read.val_main_cst_0 Cert.SmallRefIdeal.Read.val_main_v1 Cert.SmallRefIdeal.Read.val_main_v0 Cert.SmallRefIdeal.Read.val_main_cst
  pointwise [k0_pay2, k0_pay1, hg, hm]

/-- The row of the first layer norm's offset: what is read out is the reference's. -/
theorem read1_1 (G M : FVec Ideal S16x2048 .f32) (g m : FVec Ideal S2048 .f32)
    (hg : ∀ (k : Fin 2048), G (ix2 2 k : S16x2048.Idx) = g (ix1 k)) (hm : ∀ (k : Fin 2048), M (ix2 2 k : S16x2048.Idx) = m (ix1 k)) :
    (shapeCast S2048 (extractStridedSlice S1x2048 ![2, 0] (k0_pay2 G M) slices_S16x2048_S1x2048_2_0) shapeCasts_S1x2048_S2048 : FVec Ideal S2048 .f32) = Cert.SmallRefIdeal.Read.val_main_v28 (F := Ideal) g m := by
  funext y
  idx_vars y
  unfold Cert.SmallRefIdeal.Read.val_main_v28 Cert.SmallRefIdeal.Read.val_main_v27 Cert.SmallRefIdeal.Read.val_main_v26 Cert.SmallRefIdeal.Read.val_main_cst_9 Cert.SmallRefIdeal.Read.val_main_v25 Cert.SmallRefIdeal.Read.val_main_v24 Cert.SmallRefIdeal.Read.val_main_cst_8
  pointwise [k0_pay2, k0_pay1, hg, hm]

/-- The pooling scales: what is read out is the reference's. -/
theorem read1_2 (G M : FVec Ideal S16x2048 .f32) (g m : FVec Ideal S1x4x32 .f32)
    (hg : ∀ (i : Fin 4) (k : Fin 32), G (ix2 12 ⟨i.val * 32 + k.val, by omega⟩ : S16x2048.Idx) = g (ix3 0 i k)) (hm : ∀ (i : Fin 4) (k : Fin 32), M (ix2 12 ⟨i.val * 32 + k.val, by omega⟩ : S16x2048.Idx) = m (ix3 0 i k)) :
    (shapeCast S1x4x32 (shapeCast S128 (extractStridedSlice S1x128 ![12, 0] (k0_pay2 G M) slices_S16x2048_S1x128_12_0) shapeCasts_S1x128_S128) shapeCasts_S128_S1x4x32 : FVec Ideal S1x4x32 .f32) = Cert.SmallRefIdeal.Read.val_main_v52 (F := Ideal) g m := by
  funext y
  idx_vars y
  obtain rfl : y0 = 0 := Subsingleton.elim _ _
  unfold Cert.SmallRefIdeal.Read.val_main_v52 Cert.SmallRefIdeal.Read.val_main_v51 Cert.SmallRefIdeal.Read.val_main_v50 Cert.SmallRefIdeal.Read.val_main_cst_18 Cert.SmallRefIdeal.Read.val_main_v49 Cert.SmallRefIdeal.Read.val_main_v48 Cert.SmallRefIdeal.Read.val_main_cst_17
  pointwise [k0_pay2, k0_pay1, hg, hm]

/-- The row of the middle layer norm's scale: what is read out is the reference's. -/
theorem read1_3 (G M : FVec Ideal S16x2048 .f32) (g m : FVec Ideal S1x2048 .f32)
    (hg : ∀ (k : Fin 2048), G (ix2 3 k : S16x2048.Idx) = g (ix2 0 k)) (hm : ∀ (k : Fin 2048), M (ix2 3 k : S16x2048.Idx) = m (ix2 0 k)) :
    (extractStridedSlice S1x2048 ![3, 0] (k0_pay2 G M) slices_S16x2048_S1x2048_3_0 : FVec Ideal S1x2048 .f32) = Cert.SmallRefIdeal.Read.val_main_v76 (F := Ideal) g m := by
  funext y
  idx_vars y
  obtain rfl : y0 = 0 := Subsingleton.elim _ _
  unfold Cert.SmallRefIdeal.Read.val_main_v76 Cert.SmallRefIdeal.Read.val_main_v75 Cert.SmallRefIdeal.Read.val_main_v74 Cert.SmallRefIdeal.Read.val_main_cst_27 Cert.SmallRefIdeal.Read.val_main_v73 Cert.SmallRefIdeal.Read.val_main_v72 Cert.SmallRefIdeal.Read.val_main_cst_26
  pointwise [k0_pay2, k0_pay1, hg, hm]

/-- The row of the middle layer norm's offset: what is read out is the reference's. -/
theorem read1_4 (G M : FVec Ideal S16x2048 .f32) (g m : FVec Ideal S1x2048 .f32)
    (hg : ∀ (k : Fin 2048), G (ix2 4 k : S16x2048.Idx) = g (ix2 0 k)) (hm : ∀ (k : Fin 2048), M (ix2 4 k : S16x2048.Idx) = m (ix2 0 k)) :
    (extractStridedSlice S1x2048 ![4, 0] (k0_pay2 G M) slices_S16x2048_S1x2048_4_0 : FVec Ideal S1x2048 .f32) = Cert.SmallRefIdeal.Read.val_main_v100 (F := Ideal) g m := by
  funext y
  idx_vars y
  obtain rfl : y0 = 0 := Subsingleton.elim _ _
  unfold Cert.SmallRefIdeal.Read.val_main_v100 Cert.SmallRefIdeal.Read.val_main_v99 Cert.SmallRefIdeal.Read.val_main_v98 Cert.SmallRefIdeal.Read.val_main_cst_36 Cert.SmallRefIdeal.Read.val_main_v97 Cert.SmallRefIdeal.Read.val_main_v96 Cert.SmallRefIdeal.Read.val_main_cst_35
  pointwise [k0_pay2, k0_pay1, hg, hm]

/-- The first bias, in four rows: what is read out is the reference's. -/
theorem read1_5 (G M : FVec Ideal S16x2048 .f32) (g m : FVec Ideal S1x8192 .f32)
    (hg : ∀ (k : Fin 8192), G (ix2 ⟨8 + k.val / 2048, by omega⟩ ⟨k.val % 2048, by omega⟩ : S16x2048.Idx) = g (ix2 0 k)) (hm : ∀ (k : Fin 8192), M (ix2 ⟨8 + k.val / 2048, by omega⟩ ⟨k.val % 2048, by omega⟩ : S16x2048.Idx) = m (ix2 0 k)) :
    (shapeCast S1x8192 (extractStridedSlice S4x2048 ![8, 0] (k0_pay2 G M) slices_S16x2048_S4x2048_8_0) shapeCasts_S4x2048_S1x8192 : FVec Ideal S1x8192 .f32) = Cert.SmallRefIdeal.Read.val_main_v124 (F := Ideal) g m := by
  funext y
  idx_vars y
  obtain rfl : y0 = 0 := Subsingleton.elim _ _
  unfold Cert.SmallRefIdeal.Read.val_main_v124 Cert.SmallRefIdeal.Read.val_main_v123 Cert.SmallRefIdeal.Read.val_main_v122 Cert.SmallRefIdeal.Read.val_main_cst_45 Cert.SmallRefIdeal.Read.val_main_v121 Cert.SmallRefIdeal.Read.val_main_v120 Cert.SmallRefIdeal.Read.val_main_cst_44
  pointwise [k0_pay2, k0_pay1, hg, hm]

/-- The row of the second bias: what is read out is the reference's. -/
theorem read1_6 (G M : FVec Ideal S16x2048 .f32) (g m : FVec Ideal S1x2048 .f32)
    (hg : ∀ (k : Fin 2048), G (ix2 5 k : S16x2048.Idx) = g (ix2 0 k)) (hm : ∀ (k : Fin 2048), M (ix2 5 k : S16x2048.Idx) = m (ix2 0 k)) :
    (extractStridedSlice S1x2048 ![5, 0] (k0_pay2 G M) slices_S16x2048_S1x2048_5_0 : FVec Ideal S1x2048 .f32) = Cert.SmallRefIdeal.Read.val_main_v148 (F := Ideal) g m := by
  funext y
  idx_vars y
  obtain rfl : y0 = 0 := Subsingleton.elim _ _
  unfold Cert.SmallRefIdeal.Read.val_main_v148 Cert.SmallRefIdeal.Read.val_main_v147 Cert.SmallRefIdeal.Read.val_main_v146 Cert.SmallRefIdeal.Read.val_main_cst_54 Cert.SmallRefIdeal.Read.val_main_v145 Cert.SmallRefIdeal.Read.val_main_v144 Cert.SmallRefIdeal.Read.val_main_cst_53
  pointwise [k0_pay2, k0_pay1, hg, hm]

/-- The row of the last layer norm's scale: what is read out is the reference's. -/
theorem read1_7 (G M : FVec Ideal S16x2048 .f32) (g m : FVec Ideal S1x2048 .f32)
    (hg : ∀ (k : Fin 2048), G (ix2 6 k : S16x2048.Idx) = g (ix2 0 k)) (hm : ∀ (k : Fin 2048), M (ix2 6 k : S16x2048.Idx) = m (ix2 0 k)) :
    (extractStridedSlice S1x2048 ![6, 0] (k0_pay2 G M) slices_S16x2048_S1x2048_6_0 : FVec Ideal S1x2048 .f32) = Cert.SmallRefIdeal.Read.val_main_v172 (F := Ideal) g m := by
  funext y
  idx_vars y
  obtain rfl : y0 = 0 := Subsingleton.elim _ _
  unfold Cert.SmallRefIdeal.Read.val_main_v172 Cert.SmallRefIdeal.Read.val_main_v171 Cert.SmallRefIdeal.Read.val_main_v170 Cert.SmallRefIdeal.Read.val_main_cst_63 Cert.SmallRefIdeal.Read.val_main_v169 Cert.SmallRefIdeal.Read.val_main_v168 Cert.SmallRefIdeal.Read.val_main_cst_62
  pointwise [k0_pay2, k0_pay1, hg, hm]

/-- The row of the last layer norm's offset: what is read out is the reference's. -/
theorem read1_8 (G M : FVec Ideal S16x2048 .f32) (g m : FVec Ideal S1x2048 .f32)
    (hg : ∀ (k : Fin 2048), G (ix2 7 k : S16x2048.Idx) = g (ix2 0 k)) (hm : ∀ (k : Fin 2048), M (ix2 7 k : S16x2048.Idx) = m (ix2 0 k)) :
    (extractStridedSlice S1x2048 ![7, 0] (k0_pay2 G M) slices_S16x2048_S1x2048_7_0 : FVec Ideal S1x2048 .f32) = Cert.SmallRefIdeal.Read.val_main_v196 (F := Ideal) g m := by
  funext y
  idx_vars y
  obtain rfl : y0 = 0 := Subsingleton.elim _ _
  unfold Cert.SmallRefIdeal.Read.val_main_v196 Cert.SmallRefIdeal.Read.val_main_v195 Cert.SmallRefIdeal.Read.val_main_v194 Cert.SmallRefIdeal.Read.val_main_cst_72 Cert.SmallRefIdeal.Read.val_main_v193 Cert.SmallRefIdeal.Read.val_main_v192 Cert.SmallRefIdeal.Read.val_main_cst_71
  pointwise [k0_pay2, k0_pay1, hg, hm]

end Cert.SmallIdeal.Hand

end
-- ==== Proof.SmallSecond.lean ====
/- The second moment read out of the packed array, parameter by parameter. -/
module

public import proofs.«01_k».proof.Defs
public import proofs.«01_k».proof.Proof.Gen.SmallIdeal.Frame
public import Idealize.ShloMosaic.Lib.Pipeline.ValueKit
public import Idealize.ShloMosaic.Lib.Pointwise
public import proofs.«01_k».proof.Proof.Gen.SmallRefIdeal.Read

@[expose] public section

set_option maxRecDepth 16384

noncomputable section

namespace Cert.SmallIdeal.Hand

open Cert.SmallIdeal Cert.SmallIdeal.Gen Idealize.ShloMosaic Idealize.ShloMosaic.TcCoe Idealize.SL.Sem
open Idealize.ShloMosaic.Pipeline (Dat)

/-- The row of the first layer norm's scale: what is read out is the reference's. -/
theorem read2_0 (G V : FVec Ideal S16x2048 .f32) (g v : FVec Ideal S2048 .f32)
    (hg : ∀ (k : Fin 2048), G (ix2 1 k : S16x2048.Idx) = g (ix1 k)) (hv : ∀ (k : Fin 2048), V (ix2 1 k : S16x2048.Idx) = v (ix1 k)) :
    (shapeCast S2048 (extractStridedSlice S1x2048 ![1, 0] (k0_pay3 G V) slices_S16x2048_S1x2048_1_0) shapeCasts_S1x2048_S2048 : FVec Ideal S2048 .f32) = Cert.SmallRefIdeal.Read.val_main_v10 (F := Ideal) g v := by
  funext y
  idx_vars y
  unfold Cert.SmallRefIdeal.Read.val_main_v10 Cert.SmallRefIdeal.Read.val_main_v9 Cert.SmallRefIdeal.Read.val_main_v8 Cert.SmallRefIdeal.Read.val_main_cst_2 Cert.SmallRefIdeal.Read.val_main_v7 Cert.SmallRefIdeal.Read.val_main_v6 Cert.SmallRefIdeal.Read.val_main_v5 Cert.SmallRefIdeal.Read.val_main_cst_1
  pointwise [k0_pay3, k0_pay1, hg, hv]

/-- The row of the first layer norm's offset: what is read out is the reference's. -/
theorem read2_1 (G V : FVec Ideal S16x2048 .f32) (g v : FVec Ideal S2048 .f32)
    (hg : ∀ (k : Fin 2048), G (ix2 2 k : S16x2048.Idx) = g (ix1 k)) (hv : ∀ (k : Fin 2048), V (ix2 2 k : S16x2048.Idx) = v (ix1 k)) :
    (shapeCast S2048 (extractStridedSlice S1x2048 ![2, 0] (k0_pay3 G V) slices_S16x2048_S1x2048_2_0) shapeCasts_S1x2048_S2048 : FVec Ideal S2048 .f32) = Cert.SmallRefIdeal.Read.val_main_v34 (F := Ideal) g v := by
  funext y
  idx_vars y
  unfold Cert.SmallRefIdeal.Read.val_main_v34 Cert.SmallRefIdeal.Read.val_main_v33 Cert.SmallRefIdeal.Read.val_main_v32 Cert.SmallRefIdeal.Read.val_main_cst_11 Cert.SmallRefIdeal.Read.val_main_v31 Cert.SmallRefIdeal.Read.val_main_v30 Cert.SmallRefIdeal.Read.val_main_v29 Cert.SmallRefIdeal.Read.val_main_cst_10
  pointwise [k0_pay3, k0_pay1, hg, hv]

/-- The pooling scales: what is read out is the reference's. -/
theorem read2_2 (G V : FVec Ideal S16x2048 .f32) (g v : FVec Ideal S1x4x32 .f32)
    (hg : ∀ (i : Fin 4) (k : Fin 32), G (ix2 12 ⟨i.val * 32 + k.val, by omega⟩ : S16x2048.Idx) = g (ix3 0 i k)) (hv : ∀ (i : Fin 4) (k : Fin 32), V (ix2 12 ⟨i.val * 32 + k.val, by omega⟩ : S16x2048.Idx) = v (ix3 0 i k)) :
    (shapeCast S1x4x32 (shapeCast S128 (extractStridedSlice S1x128 ![12, 0] (k0_pay3 G V) slices_S16x2048_S1x128_12_0) shapeCasts_S1x128_S128) shapeCasts_S128_S1x4x32 : FVec Ideal S1x4x32 .f32) = Cert.SmallRefIdeal.Read.val_main_v58 (F := Ideal) g v := by
  funext y
  idx_vars y
  obtain rfl : y0 = 0 := Subsingleton.elim _ _
  unfold Cert.SmallRefIdeal.Read.val_main_v58 Cert.SmallRefIdeal.Read.val_main_v57 Cert.SmallRefIdeal.Read.val_main_v56 Cert.SmallRefIdeal.Read.val_main_cst_20 Cert.SmallRefIdeal.Read.val_main_v55 Cert.SmallRefIdeal.Read.val_main_v54 Cert.SmallRefIdeal.Read.val_main_v53 Cert.SmallRefIdeal.Read.val_main_cst_19
  pointwise [k0_pay3, k0_pay1, hg, hv]

/-- The row of the middle layer norm's scale: what is read out is the reference's. -/
theorem read2_3 (G V : FVec Ideal S16x2048 .f32) (g v : FVec Ideal S1x2048 .f32)
    (hg : ∀ (k : Fin 2048), G (ix2 3 k : S16x2048.Idx) = g (ix2 0 k)) (hv : ∀ (k : Fin 2048), V (ix2 3 k : S16x2048.Idx) = v (ix2 0 k)) :
    (extractStridedSlice S1x2048 ![3, 0] (k0_pay3 G V) slices_S16x2048_S1x2048_3_0 : FVec Ideal S1x2048 .f32) = Cert.SmallRefIdeal.Read.val_main_v82 (F := Ideal) g v := by
  funext y
  idx_vars y
  obtain rfl : y0 = 0 := Subsingleton.elim _ _
  unfold Cert.SmallRefIdeal.Read.val_main_v82 Cert.SmallRefIdeal.Read.val_main_v81 Cert.SmallRefIdeal.Read.val_main_v80 Cert.SmallRefIdeal.Read.val_main_cst_29 Cert.SmallRefIdeal.Read.val_main_v79 Cert.SmallRefIdeal.Read.val_main_v78 Cert.SmallRefIdeal.Read.val_main_v77 Cert.SmallRefIdeal.Read.val_main_cst_28
  pointwise [k0_pay3, k0_pay1, hg, hv]

/-- The row of the middle layer norm's offset: what is read out is the reference's. -/
theorem read2_4 (G V : FVec Ideal S16x2048 .f32) (g v : FVec Ideal S1x2048 .f32)
    (hg : ∀ (k : Fin 2048), G (ix2 4 k : S16x2048.Idx) = g (ix2 0 k)) (hv : ∀ (k : Fin 2048), V (ix2 4 k : S16x2048.Idx) = v (ix2 0 k)) :
    (extractStridedSlice S1x2048 ![4, 0] (k0_pay3 G V) slices_S16x2048_S1x2048_4_0 : FVec Ideal S1x2048 .f32) = Cert.SmallRefIdeal.Read.val_main_v106 (F := Ideal) g v := by
  funext y
  idx_vars y
  obtain rfl : y0 = 0 := Subsingleton.elim _ _
  unfold Cert.SmallRefIdeal.Read.val_main_v106 Cert.SmallRefIdeal.Read.val_main_v105 Cert.SmallRefIdeal.Read.val_main_v104 Cert.SmallRefIdeal.Read.val_main_cst_38 Cert.SmallRefIdeal.Read.val_main_v103 Cert.SmallRefIdeal.Read.val_main_v102 Cert.SmallRefIdeal.Read.val_main_v101 Cert.SmallRefIdeal.Read.val_main_cst_37
  pointwise [k0_pay3, k0_pay1, hg, hv]

/-- The first bias, in four rows: what is read out is the reference's. -/
theorem read2_5 (G V : FVec Ideal S16x2048 .f32) (g v : FVec Ideal S1x8192 .f32)
    (hg : ∀ (k : Fin 8192), G (ix2 ⟨8 + k.val / 2048, by omega⟩ ⟨k.val % 2048, by omega⟩ : S16x2048.Idx) = g (ix2 0 k)) (hv : ∀ (k : Fin 8192), V (ix2 ⟨8 + k.val / 2048, by omega⟩ ⟨k.val % 2048, by omega⟩ : S16x2048.Idx) = v (ix2 0 k)) :
    (shapeCast S1x8192 (extractStridedSlice S4x2048 ![8, 0] (k0_pay3 G V) slices_S16x2048_S4x2048_8_0) shapeCasts_S4x2048_S1x8192 : FVec Ideal S1x8192 .f32) = Cert.SmallRefIdeal.Read.val_main_v130 (F := Ideal) g v := by
  funext y
  idx_vars y
  obtain rfl : y0 = 0 := Subsingleton.elim _ _
  unfold Cert.SmallRefIdeal.Read.val_main_v130 Cert.SmallRefIdeal.Read.val_main_v129 Cert.SmallRefIdeal.Read.val_main_v128 Cert.SmallRefIdeal.Read.val_main_cst_47 Cert.SmallRefIdeal.Read.val_main_v127 Cert.SmallRefIdeal.Read.val_main_v126 Cert.SmallRefIdeal.Read.val_main_v125 Cert.SmallRefIdeal.Read.val_main_cst_46
  pointwise [k0_pay3, k0_pay1, hg, hv]

/-- The row of the second bias: what is read out is the reference's. -/
theorem read2_6 (G V : FVec Ideal S16x2048 .f32) (g v : FVec Ideal S1x2048 .f32)
    (hg : ∀ (k : Fin 2048), G (ix2 5 k : S16x2048.Idx) = g (ix2 0 k)) (hv : ∀ (k : Fin 2048), V (ix2 5 k : S16x2048.Idx) = v (ix2 0 k)) :
    (extractStridedSlice S1x2048 ![5, 0] (k0_pay3 G V) slices_S16x2048_S1x2048_5_0 : FVec Ideal S1x2048 .f32) = Cert.SmallRefIdeal.Read.val_main_v154 (F := Ideal) g v := by
  funext y
  idx_vars y
  obtain rfl : y0 = 0 := Subsingleton.elim _ _
  unfold Cert.SmallRefIdeal.Read.val_main_v154 Cert.SmallRefIdeal.Read.val_main_v153 Cert.SmallRefIdeal.Read.val_main_v152 Cert.SmallRefIdeal.Read.val_main_cst_56 Cert.SmallRefIdeal.Read.val_main_v151 Cert.SmallRefIdeal.Read.val_main_v150 Cert.SmallRefIdeal.Read.val_main_v149 Cert.SmallRefIdeal.Read.val_main_cst_55
  pointwise [k0_pay3, k0_pay1, hg, hv]

/-- The row of the last layer norm's scale: what is read out is the reference's. -/
theorem read2_7 (G V : FVec Ideal S16x2048 .f32) (g v : FVec Ideal S1x2048 .f32)
    (hg : ∀ (k : Fin 2048), G (ix2 6 k : S16x2048.Idx) = g (ix2 0 k)) (hv : ∀ (k : Fin 2048), V (ix2 6 k : S16x2048.Idx) = v (ix2 0 k)) :
    (extractStridedSlice S1x2048 ![6, 0] (k0_pay3 G V) slices_S16x2048_S1x2048_6_0 : FVec Ideal S1x2048 .f32) = Cert.SmallRefIdeal.Read.val_main_v178 (F := Ideal) g v := by
  funext y
  idx_vars y
  obtain rfl : y0 = 0 := Subsingleton.elim _ _
  unfold Cert.SmallRefIdeal.Read.val_main_v178 Cert.SmallRefIdeal.Read.val_main_v177 Cert.SmallRefIdeal.Read.val_main_v176 Cert.SmallRefIdeal.Read.val_main_cst_65 Cert.SmallRefIdeal.Read.val_main_v175 Cert.SmallRefIdeal.Read.val_main_v174 Cert.SmallRefIdeal.Read.val_main_v173 Cert.SmallRefIdeal.Read.val_main_cst_64
  pointwise [k0_pay3, k0_pay1, hg, hv]

/-- The row of the last layer norm's offset: what is read out is the reference's. -/
theorem read2_8 (G V : FVec Ideal S16x2048 .f32) (g v : FVec Ideal S1x2048 .f32)
    (hg : ∀ (k : Fin 2048), G (ix2 7 k : S16x2048.Idx) = g (ix2 0 k)) (hv : ∀ (k : Fin 2048), V (ix2 7 k : S16x2048.Idx) = v (ix2 0 k)) :
    (extractStridedSlice S1x2048 ![7, 0] (k0_pay3 G V) slices_S16x2048_S1x2048_7_0 : FVec Ideal S1x2048 .f32) = Cert.SmallRefIdeal.Read.val_main_v202 (F := Ideal) g v := by
  funext y
  idx_vars y
  obtain rfl : y0 = 0 := Subsingleton.elim _ _
  unfold Cert.SmallRefIdeal.Read.val_main_v202 Cert.SmallRefIdeal.Read.val_main_v201 Cert.SmallRefIdeal.Read.val_main_v200 Cert.SmallRefIdeal.Read.val_main_cst_74 Cert.SmallRefIdeal.Read.val_main_v199 Cert.SmallRefIdeal.Read.val_main_v198 Cert.SmallRefIdeal.Read.val_main_v197 Cert.SmallRefIdeal.Read.val_main_cst_73
  pointwise [k0_pay3, k0_pay1, hg, hv]

end Cert.SmallIdeal.Hand

end
-- ==== Proof.Small.lean ====
/- The optimiser's step on the small arrays is the reference's. -/
module

public import proofs.«01_k».proof.Defs
public import proofs.«01_k».proof.Proof.Gen.SmallIdeal.Frame
public import Idealize.ShloMosaic.Lib.Pipeline.ValueKit
public import Idealize.ShloMosaic.Lib.Pointwise
public import proofs.«01_k».proof.Proof.Gen.SmallRefIdeal.Run
public import proofs.«01_k».proof.Proof.Gen.SmallRefIdeal.Read
public import proofs.«01_k».proof.Proof.SmallPack
public import proofs.«01_k».proof.Proof.SmallStep
public import proofs.«01_k».proof.Proof.SmallUpdate
public import proofs.«01_k».proof.Proof.SmallFirst
public import proofs.«01_k».proof.Proof.SmallSecond

@[expose] public section

set_option maxRecDepth 16384

noncomputable section

namespace Cert.SmallIdeal.Hand

open Cert.SmallIdeal Cert.SmallIdeal.Gen Idealize.ShloMosaic Idealize.ShloMosaic.TcCoe Idealize.SL.Sem
open Idealize.ShloMosaic.Pipeline (Dat)

variable (m : (ℓ : Loc nD τ sig) → Buf (Elt Ideal) ℓ)

/-- The update of the row of the first layer norm's scale. -/
theorem out37 (c : Dev nD) : Pipeline.afterTail₀ cfgs (dats m) 0 (V0 m) [hostOps1] c main_v37 = Cert.SmallRefIdeal.Read.val_main_v23 (F := Ideal) (m ((c : Thread nD τ).loc main_arg0)) (m ((c : Thread nD τ).loc main_arg9)) (m ((c : Thread nD τ).loc main_arg18)) (m ((c : Thread nD τ).loc main_arg27)) := by
  rw [tail37, final4, packed0, packed1, packed2, packed3]
  exact read0_0 _ _ _ _ _ _ _ _ (fun k => pack0 _ _ _ _ _ _ _ _ _ k) (fun k => pack0 _ _ _ _ _ _ _ _ _ k) (fun k => pack0 _ _ _ _ _ _ _ _ _ k) (fun k => pack0 _ _ _ _ _ _ _ _ _ k)

/-- The update of the row of the first layer norm's offset. -/
theorem out39 (c : Dev nD) : Pipeline.afterTail₀ cfgs (dats m) 0 (V0 m) [hostOps1] c main_v39 = Cert.SmallRefIdeal.Read.val_main_v47 (F := Ideal) (m ((c : Thread nD τ).loc main_arg1)) (m ((c : Thread nD τ).loc main_arg10)) (m ((c : Thread nD τ).loc main_arg19)) (m ((c : Thread nD τ).loc main_arg28)) := by
  rw [tail39, final4, packed0, packed1, packed2, packed3]
  exact read0_1 _ _ _ _ _ _ _ _ (fun k => pack1 _ _ _ _ _ _ _ _ _ k) (fun k => pack1 _ _ _ _ _ _ _ _ _ k) (fun k => pack1 _ _ _ _ _ _ _ _ _ k) (fun k => pack1 _ _ _ _ _ _ _ _ _ k)

/-- The update of the pooling scales. -/
theorem out35 (c : Dev nD) : Pipeline.afterTail₀ cfgs (dats m) 0 (V0 m) [hostOps1] c main_v35 = Cert.SmallRefIdeal.Read.val_main_v71 (F := Ideal) (m ((c : Thread nD τ).loc main_arg2)) (m ((c : Thread nD τ).loc main_arg11)) (m ((c : Thread nD τ).loc main_arg20)) (m ((c : Thread nD τ).loc main_arg29)) := by
  rw [tail35, final4, packed0, packed1, packed2, packed3]
  exact read0_2 _ _ _ _ _ _ _ _ (fun g k => pack2 _ _ _ _ _ _ _ _ _ g k) (fun g k => pack2 _ _ _ _ _ _ _ _ _ g k) (fun g k => pack2 _ _ _ _ _ _ _ _ _ g k) (fun g k => pack2 _ _ _ _ _ _ _ _ _ g k)

/-- The update of the row of the middle layer norm's scale. -/
theorem out40 (c : Dev nD) : Pipeline.afterTail₀ cfgs (dats m) 0 (V0 m) [hostOps1] c main_v40 = Cert.SmallRefIdeal.Read.val_main_v95 (F := Ideal) (m ((c : Thread nD τ).loc main_arg3)) (m ((c : Thread nD τ).loc main_arg12)) (m ((c : Thread nD τ).loc main_arg21)) (m ((c : Thread nD τ).loc main_arg30)) := by
  rw [tail40, final4, packed0, packed1, packed2, packed3]
  exact read0_3 _ _ _ _ _ _ _ _ (fun k => pack3 _ _ _ _ _ _ _ _ _ k) (fun k => pack3 _ _ _ _ _ _ _ _ _ k) (fun k => pack3 _ _ _ _ _ _ _ _ _ k) (fun k => pack3 _ _ _ _ _ _ _ _ _ k)

/-- The update of the row of the middle layer norm's offset. -/
theorem out41 (c : Dev nD) : Pipeline.afterTail₀ cfgs (dats m) 0 (V0 m) [hostOps1] c main_v41 = Cert.SmallRefIdeal.Read.val_main_v119 (F := Ideal) (m ((c : Thread nD τ).loc main_arg4)) (m ((c : Thread nD τ).loc main_arg13)) (m ((c : Thread nD τ).loc main_arg22)) (m ((c : Thread nD τ).loc main_arg31)) := by
  rw [tail41, final4, packed0, packed1, packed2, packed3]
  exact read0_4 _ _ _ _ _ _ _ _ (fun k => pack4 _ _ _ _ _ _ _ _ _ k) (fun k => pack4 _ _ _ _ _ _ _ _ _ k) (fun k => pack4 _ _ _ _ _ _ _ _ _ k) (fun k => pack4 _ _ _ _ _ _ _ _ _ k)

/-- The update of the first bias, in four rows. -/
theorem out46 (c : Dev nD) : Pipeline.afterTail₀ cfgs (dats m) 0 (V0 m) [hostOps1] c main_v46 = Cert.SmallRefIdeal.Read.val_main_v143 (F := Ideal) (m ((c : Thread nD τ).loc main_arg5)) (m ((c : Thread nD τ).loc main_arg14)) (m ((c : Thread nD τ).loc main_arg23)) (m ((c : Thread nD τ).loc main_arg32)) := by
  rw [tail46, final4, packed0, packed1, packed2, packed3]
  exact read0_5 _ _ _ _ _ _ _ _ (fun k => pack5 _ _ _ _ _ _ _ _ _ k) (fun k => pack5 _ _ _ _ _ _ _ _ _ k) (fun k => pack5 _ _ _ _ _ _ _ _ _ k) (fun k => pack5 _ _ _ _ _ _ _ _ _ k)

/-- The update of the row of the second bias. -/
theorem out42 (c : Dev nD) : Pipeline.afterTail₀ cfgs (dats m) 0 (V0 m) [hostOps1] c main_v42 = Cert.SmallRefIdeal.Read.val_main_v167 (F := Ideal) (m ((c : Thread nD τ).loc main_arg6)) (m ((c : Thread nD τ).loc main_arg15)) (m ((c : Thread nD τ).loc main_arg24)) (m ((c : Thread nD τ).loc main_arg33)) := by
  rw [tail42, final4, packed0, packed1, packed2, packed3]
  exact read0_6 _ _ _ _ _ _ _ _ (fun k => pack6 _ _ _ _ _ _ _ _ _ k) (fun k => pack6 _ _ _ _ _ _ _ _ _ k) (fun k => pack6 _ _ _ _ _ _ _ _ _ k) (fun k => pack6 _ _ _ _ _ _ _ _ _ k)

/-- The update of the row of the last layer norm's scale. -/
theorem out43 (c : Dev nD) : Pipeline.afterTail₀ cfgs (dats m) 0 (V0 m) [hostOps1] c main_v43 = Cert.SmallRefIdeal.Read.val_main_v191 (F := Ideal) (m ((c : Thread nD τ).loc main_arg7)) (m ((c : Thread nD τ).loc main_arg16)) (m ((c : Thread nD τ).loc main_arg25)) (m ((c : Thread nD τ).loc main_arg34)) := by
  rw [tail43, final4, packed0, packed1, packed2, packed3]
  exact read0_7 _ _ _ _ _ _ _ _ (fun k => pack7 _ _ _ _ _ _ _ _ _ k) (fun k => pack7 _ _ _ _ _ _ _ _ _ k) (fun k => pack7 _ _ _ _ _ _ _ _ _ k) (fun k => pack7 _ _ _ _ _ _ _ _ _ k)

/-- The update of the row of the last layer norm's offset. -/
theorem out44 (c : Dev nD) : Pipeline.afterTail₀ cfgs (dats m) 0 (V0 m) [hostOps1] c main_v44 = Cert.SmallRefIdeal.Read.val_main_v215 (F := Ideal) (m ((c : Thread nD τ).loc main_arg8)) (m ((c : Thread nD τ).loc main_arg17)) (m ((c : Thread nD τ).loc main_arg26)) (m ((c : Thread nD τ).loc main_arg35)) := by
  rw [tail44, final4, packed0, packed1, packed2, packed3]
  exact read0_8 _ _ _ _ _ _ _ _ (fun k => pack8 _ _ _ _ _ _ _ _ _ k) (fun k => pack8 _ _ _ _ _ _ _ _ _ k) (fun k => pack8 _ _ _ _ _ _ _ _ _ k) (fun k => pack8 _ _ _ _ _ _ _ _ _ k)

/-- The first moment of the row of the first layer norm's scale. -/
theorem out51 (c : Dev nD) : Pipeline.afterTail₀ cfgs (dats m) 0 (V0 m) [hostOps1] c main_v51 = Cert.SmallRefIdeal.Read.val_main_v4 (F := Ideal) (m ((c : Thread nD τ).loc main_arg9)) (m ((c : Thread nD τ).loc main_arg18)) := by
  rw [tail51, final5, packed1, packed2]
  exact read1_0 _ _ _ _ (fun k => pack0 _ _ _ _ _ _ _ _ _ k) (fun k => pack0 _ _ _ _ _ _ _ _ _ k)

/-- The first moment of the row of the first layer norm's offset. -/
theorem out53 (c : Dev nD) : Pipeline.afterTail₀ cfgs (dats m) 0 (V0 m) [hostOps1] c main_v53 = Cert.SmallRefIdeal.Read.val_main_v28 (F := Ideal) (m ((c : Thread nD τ).loc main_arg10)) (m ((c : Thread nD τ).loc main_arg19)) := by
  rw [tail53, final5, packed1, packed2]
  exact read1_1 _ _ _ _ (fun k => pack1 _ _ _ _ _ _ _ _ _ k) (fun k => pack1 _ _ _ _ _ _ _ _ _ k)

/-- The first moment of the pooling scales. -/
theorem out49 (c : Dev nD) : Pipeline.afterTail₀ cfgs (dats m) 0 (V0 m) [hostOps1] c main_v49 = Cert.SmallRefIdeal.Read.val_main_v52 (F := Ideal) (m ((c : Thread nD τ).loc main_arg11)) (m ((c : Thread nD τ).loc main_arg20)) := by
  rw [tail49, final5, packed1, packed2]
  exact read1_2 _ _ _ _ (fun g k => pack2 _ _ _ _ _ _ _ _ _ g k) (fun g k => pack2 _ _ _ _ _ _ _ _ _ g k)

/-- The first moment of the row of the middle layer norm's scale. -/
theorem out54 (c : Dev nD) : Pipeline.afterTail₀ cfgs (dats m) 0 (V0 m) [hostOps1] c main_v54 = Cert.SmallRefIdeal.Read.val_main_v76 (F := Ideal) (m ((c : Thread nD τ).loc main_arg12)) (m ((c : Thread nD τ).loc main_arg21)) := by
  rw [tail54, final5, packed1, packed2]
  exact read1_3 _ _ _ _ (fun k => pack3 _ _ _ _ _ _ _ _ _ k) (fun k => pack3 _ _ _ _ _ _ _ _ _ k)

/-- The first moment of the row of the middle layer norm's offset. -/
theorem out55 (c : Dev nD) : Pipeline.afterTail₀ cfgs (dats m) 0 (V0 m) [hostOps1] c main_v55 = Cert.SmallRefIdeal.Read.val_main_v100 (F := Ideal) (m ((c : Thread nD τ).loc main_arg13)) (m ((c : Thread nD τ).loc main_arg22)) := by
  rw [tail55, final5, packed1, packed2]
  exact read1_4 _ _ _ _ (fun k => pack4 _ _ _ _ _ _ _ _ _ k) (fun k => pack4 _ _ _ _ _ _ _ _ _ k)

/-- The first moment of the first bias, in four rows. -/
theorem out60 (c : Dev nD) : Pipeline.afterTail₀ cfgs (dats m) 0 (V0 m) [hostOps1] c main_v60 = Cert.SmallRefIdeal.Read.val_main_v124 (F := Ideal) (m ((c : Thread nD τ).loc main_arg14)) (m ((c : Thread nD τ).loc main_arg23)) := by
  rw [tail60, final5, packed1, packed2]
  exact read1_5 _ _ _ _ (fun k => pack5 _ _ _ _ _ _ _ _ _ k) (fun k => pack5 _ _ _ _ _ _ _ _ _ k)

/-- The first moment of the row of the second bias. -/
theorem out56 (c : Dev nD) : Pipeline.afterTail₀ cfgs (dats m) 0 (V0 m) [hostOps1] c main_v56 = Cert.SmallRefIdeal.Read.val_main_v148 (F := Ideal) (m ((c : Thread nD τ).loc main_arg15)) (m ((c : Thread nD τ).loc main_arg24)) := by
  rw [tail56, final5, packed1, packed2]
  exact read1_6 _ _ _ _ (fun k => pack6 _ _ _ _ _ _ _ _ _ k) (fun k => pack6 _ _ _ _ _ _ _ _ _ k)

/-- The first moment of the row of the last layer norm's scale. -/
theorem out57 (c : Dev nD) : Pipeline.afterTail₀ cfgs (dats m) 0 (V0 m) [hostOps1] c main_v57 = Cert.SmallRefIdeal.Read.val_main_v172 (F := Ideal) (m ((c : Thread nD τ).loc main_arg16)) (m ((c : Thread nD τ).loc main_arg25)) := by
  rw [tail57, final5, packed1, packed2]
  exact read1_7 _ _ _ _ (fun k => pack7 _ _ _ _ _ _ _ _ _ k) (fun k => pack7 _ _ _ _ _ _ _ _ _ k)

/-- The first moment of the row of the last layer norm's offset. -/
theorem out58 (c : Dev nD) : Pipeline.afterTail₀ cfgs (dats m) 0 (V0 m) [hostOps1] c main_v58 = Cert.SmallRefIdeal.Read.val_main_v196 (F := Ideal) (m ((c : Thread nD τ).loc main_arg17)) (m ((c : Thread nD τ).loc main_arg26)) := by
  rw [tail58, final5, packed1, packed2]
  exact read1_8 _ _ _ _ (fun k => pack8 _ _ _ _ _ _ _ _ _ k) (fun k => pack8 _ _ _ _ _ _ _ _ _ k)

/-- The second moment of the row of the first layer norm's scale. -/
theorem out65 (c : Dev nD) : Pipeline.afterTail₀ cfgs (dats m) 0 (V0 m) [hostOps1] c main_v65 = Cert.SmallRefIdeal.Read.val_main_v10 (F := Ideal) (m ((c : Thread nD τ).loc main_arg9)) (m ((c : Thread nD τ).loc main_arg27)) := by
  rw [tail65, final6, packed1, packed3]
  exact read2_0 _ _ _ _ (fun k => pack0 _ _ _ _ _ _ _ _ _ k) (fun k => pack0 _ _ _ _ _ _ _ _ _ k)

/-- The second moment of the row of the first layer norm's offset. -/
theorem out67 (c : Dev nD) : Pipeline.afterTail₀ cfgs (dats m) 0 (V0 m) [hostOps1] c main_v67 = Cert.SmallRefIdeal.Read.val_main_v34 (F := Ideal) (m ((c : Thread nD τ).loc main_arg10)) (m ((c : Thread nD τ).loc main_arg28)) := by
  rw [tail67, final6, packed1, packed3]
  exact read2_1 _ _ _ _ (fun k => pack1 _ _ _ _ _ _ _ _ _ k) (fun k => pack1 _ _ _ _ _ _ _ _ _ k)

/-- The second moment of the pooling scales. -/
theorem out63 (c : Dev nD) : Pipeline.afterTail₀ cfgs (dats m) 0 (V0 m) [hostOps1] c main_v63 = Cert.SmallRefIdeal.Read.val_main_v58 (F := Ideal) (m ((c : Thread nD τ).loc main_arg11)) (m ((c : Thread nD τ).loc main_arg29)) := by
  rw [tail63, final6, packed1, packed3]
  exact read2_2 _ _ _ _ (fun g k => pack2 _ _ _ _ _ _ _ _ _ g k) (fun g k => pack2 _ _ _ _ _ _ _ _ _ g k)

/-- The second moment of the row of the middle layer norm's scale. -/
theorem out68 (c : Dev nD) : Pipeline.afterTail₀ cfgs (dats m) 0 (V0 m) [hostOps1] c main_v68 = Cert.SmallRefIdeal.Read.val_main_v82 (F := Ideal) (m ((c : Thread nD τ).loc main_arg12)) (m ((c : Thread nD τ).loc main_arg30)) := by
  rw [tail68, final6, packed1, packed3]
  exact read2_3 _ _ _ _ (fun k => pack3 _ _ _ _ _ _ _ _ _ k) (fun k => pack3 _ _ _ _ _ _ _ _ _ k)

/-- The second moment of the row of the middle layer norm's offset. -/
theorem out69 (c : Dev nD) : Pipeline.afterTail₀ cfgs (dats m) 0 (V0 m) [hostOps1] c main_v69 = Cert.SmallRefIdeal.Read.val_main_v106 (F := Ideal) (m ((c : Thread nD τ).loc main_arg13)) (m ((c : Thread nD τ).loc main_arg31)) := by
  rw [tail69, final6, packed1, packed3]
  exact read2_4 _ _ _ _ (fun k => pack4 _ _ _ _ _ _ _ _ _ k) (fun k => pack4 _ _ _ _ _ _ _ _ _ k)

/-- The second moment of the first bias, in four rows. -/
theorem out74 (c : Dev nD) : Pipeline.afterTail₀ cfgs (dats m) 0 (V0 m) [hostOps1] c main_v74 = Cert.SmallRefIdeal.Read.val_main_v130 (F := Ideal) (m ((c : Thread nD τ).loc main_arg14)) (m ((c : Thread nD τ).loc main_arg32)) := by
  rw [tail74, final6, packed1, packed3]
  exact read2_5 _ _ _ _ (fun k => pack5 _ _ _ _ _ _ _ _ _ k) (fun k => pack5 _ _ _ _ _ _ _ _ _ k)

/-- The second moment of the row of the second bias. -/
theorem out70 (c : Dev nD) : Pipeline.afterTail₀ cfgs (dats m) 0 (V0 m) [hostOps1] c main_v70 = Cert.SmallRefIdeal.Read.val_main_v154 (F := Ideal) (m ((c : Thread nD τ).loc main_arg15)) (m ((c : Thread nD τ).loc main_arg33)) := by
  rw [tail70, final6, packed1, packed3]
  exact read2_6 _ _ _ _ (fun k => pack6 _ _ _ _ _ _ _ _ _ k) (fun k => pack6 _ _ _ _ _ _ _ _ _ k)

/-- The second moment of the row of the last layer norm's scale. -/
theorem out71 (c : Dev nD) : Pipeline.afterTail₀ cfgs (dats m) 0 (V0 m) [hostOps1] c main_v71 = Cert.SmallRefIdeal.Read.val_main_v178 (F := Ideal) (m ((c : Thread nD τ).loc main_arg16)) (m ((c : Thread nD τ).loc main_arg34)) := by
  rw [tail71, final6, packed1, packed3]
  exact read2_7 _ _ _ _ (fun k => pack7 _ _ _ _ _ _ _ _ _ k) (fun k => pack7 _ _ _ _ _ _ _ _ _ k)

/-- The second moment of the row of the last layer norm's offset. -/
theorem out72 (c : Dev nD) : Pipeline.afterTail₀ cfgs (dats m) 0 (V0 m) [hostOps1] c main_v72 = Cert.SmallRefIdeal.Read.val_main_v202 (F := Ideal) (m ((c : Thread nD τ).loc main_arg17)) (m ((c : Thread nD τ).loc main_arg35)) := by
  rw [tail72, final6, packed1, packed3]
  exact read2_8 _ _ _ _ (fun k => pack8 _ _ _ _ _ _ _ _ _ k) (fun k => pack8 _ _ _ _ _ _ _ _ _ k)

/-- Both programs end with the same values in the results. -/
theorem tie : Cert.algebraic_SmallIdeal_SmallRefIdeal := by
  intro m g m' g' _ ha
  refine ⟨fun c => Cert.SmallRefIdeal.Read.val_main_v23 (F := Ideal) (m ((c : Thread nD τ).loc main_arg0)) (m ((c : Thread nD τ).loc main_arg9)) (m ((c : Thread nD τ).loc main_arg18)) (m ((c : Thread nD τ).loc main_arg27)),
    fun c => Cert.SmallRefIdeal.Read.val_main_v47 (F := Ideal) (m ((c : Thread nD τ).loc main_arg1)) (m ((c : Thread nD τ).loc main_arg10)) (m ((c : Thread nD τ).loc main_arg19)) (m ((c : Thread nD τ).loc main_arg28)),
    fun c => Cert.SmallRefIdeal.Read.val_main_v71 (F := Ideal) (m ((c : Thread nD τ).loc main_arg2)) (m ((c : Thread nD τ).loc main_arg11)) (m ((c : Thread nD τ).loc main_arg20)) (m ((c : Thread nD τ).loc main_arg29)),
    fun c => Cert.SmallRefIdeal.Read.val_main_v95 (F := Ideal) (m ((c : Thread nD τ).loc main_arg3)) (m ((c : Thread nD τ).loc main_arg12)) (m ((c : Thread nD τ).loc main_arg21)) (m ((c : Thread nD τ).loc main_arg30)),
    fun c => Cert.SmallRefIdeal.Read.val_main_v119 (F := Ideal) (m ((c : Thread nD τ).loc main_arg4)) (m ((c : Thread nD τ).loc main_arg13)) (m ((c : Thread nD τ).loc main_arg22)) (m ((c : Thread nD τ).loc main_arg31)),
    fun c => Cert.SmallRefIdeal.Read.val_main_v143 (F := Ideal) (m ((c : Thread nD τ).loc main_arg5)) (m ((c : Thread nD τ).loc main_arg14)) (m ((c : Thread nD τ).loc main_arg23)) (m ((c : Thread nD τ).loc main_arg32)),
    fun c => Cert.SmallRefIdeal.Read.val_main_v167 (F := Ideal) (m ((c : Thread nD τ).loc main_arg6)) (m ((c : Thread nD τ).loc main_arg15)) (m ((c : Thread nD τ).loc main_arg24)) (m ((c : Thread nD τ).loc main_arg33)),
    fun c => Cert.SmallRefIdeal.Read.val_main_v191 (F := Ideal) (m ((c : Thread nD τ).loc main_arg7)) (m ((c : Thread nD τ).loc main_arg16)) (m ((c : Thread nD τ).loc main_arg25)) (m ((c : Thread nD τ).loc main_arg34)),
    fun c => Cert.SmallRefIdeal.Read.val_main_v215 (F := Ideal) (m ((c : Thread nD τ).loc main_arg8)) (m ((c : Thread nD τ).loc main_arg17)) (m ((c : Thread nD τ).loc main_arg26)) (m ((c : Thread nD τ).loc main_arg35)),
    fun c => Cert.SmallRefIdeal.Read.val_main_v4 (F := Ideal) (m ((c : Thread nD τ).loc main_arg9)) (m ((c : Thread nD τ).loc main_arg18)),
    fun c => Cert.SmallRefIdeal.Read.val_main_v28 (F := Ideal) (m ((c : Thread nD τ).loc main_arg10)) (m ((c : Thread nD τ).loc main_arg19)),
    fun c => Cert.SmallRefIdeal.Read.val_main_v52 (F := Ideal) (m ((c : Thread nD τ).loc main_arg11)) (m ((c : Thread nD τ).loc main_arg20)),
    fun c => Cert.SmallRefIdeal.Read.val_main_v76 (F := Ideal) (m ((c : Thread nD τ).loc main_arg12)) (m ((c : Thread nD τ).loc main_arg21)),
    fun c => Cert.SmallRefIdeal.Read.val_main_v100 (F := Ideal) (m ((c : Thread nD τ).loc main_arg13)) (m ((c : Thread nD τ).loc main_arg22)),
    fun c => Cert.SmallRefIdeal.Read.val_main_v124 (F := Ideal) (m ((c : Thread nD τ).loc main_arg14)) (m ((c : Thread nD τ).loc main_arg23)),
    fun c => Cert.SmallRefIdeal.Read.val_main_v148 (F := Ideal) (m ((c : Thread nD τ).loc main_arg15)) (m ((c : Thread nD τ).loc main_arg24)),
    fun c => Cert.SmallRefIdeal.Read.val_main_v172 (F := Ideal) (m ((c : Thread nD τ).loc main_arg16)) (m ((c : Thread nD τ).loc main_arg25)),
    fun c => Cert.SmallRefIdeal.Read.val_main_v196 (F := Ideal) (m ((c : Thread nD τ).loc main_arg17)) (m ((c : Thread nD τ).loc main_arg26)),
    fun c => Cert.SmallRefIdeal.Read.val_main_v10 (F := Ideal) (m ((c : Thread nD τ).loc main_arg9)) (m ((c : Thread nD τ).loc main_arg27)),
    fun c => Cert.SmallRefIdeal.Read.val_main_v34 (F := Ideal) (m ((c : Thread nD τ).loc main_arg10)) (m ((c : Thread nD τ).loc main_arg28)),
    fun c => Cert.SmallRefIdeal.Read.val_main_v58 (F := Ideal) (m ((c : Thread nD τ).loc main_arg11)) (m ((c : Thread nD τ).loc main_arg29)),
    fun c => Cert.SmallRefIdeal.Read.val_main_v82 (F := Ideal) (m ((c : Thread nD τ).loc main_arg12)) (m ((c : Thread nD τ).loc main_arg30)),
    fun c => Cert.SmallRefIdeal.Read.val_main_v106 (F := Ideal) (m ((c : Thread nD τ).loc main_arg13)) (m ((c : Thread nD τ).loc main_arg31)),
    fun c => Cert.SmallRefIdeal.Read.val_main_v130 (F := Ideal) (m ((c : Thread nD τ).loc main_arg14)) (m ((c : Thread nD τ).loc main_arg32)),
    fun c => Cert.SmallRefIdeal.Read.val_main_v154 (F := Ideal) (m ((c : Thread nD τ).loc main_arg15)) (m ((c : Thread nD τ).loc main_arg33)),
    fun c => Cert.SmallRefIdeal.Read.val_main_v178 (F := Ideal) (m ((c : Thread nD τ).loc main_arg16)) (m ((c : Thread nD τ).loc main_arg34)),
    fun c => Cert.SmallRefIdeal.Read.val_main_v202 (F := Ideal) (m ((c : Thread nD τ).loc main_arg17)) (m ((c : Thread nD τ).loc main_arg35)), ?_, ?_⟩
  · refine (θ_run defs _ _).mono (fun r h c => ?_) (θ_run_and (run_main (F := Ideal) m g) (unchanged (F := Ideal) m g))
    have hb := (h.1 c).2
    exact ⟨(hb main_v37 (Pipeline.mem_restRefs_of main_v37 (by decide) (by decide))).trans (out37 m c),
      (hb main_v39 (Pipeline.mem_restRefs_of main_v39 (by decide) (by decide))).trans (out39 m c),
      (hb main_v35 (Pipeline.mem_restRefs_of main_v35 (by decide) (by decide))).trans (out35 m c),
      (hb main_v40 (Pipeline.mem_restRefs_of main_v40 (by decide) (by decide))).trans (out40 m c),
      (hb main_v41 (Pipeline.mem_restRefs_of main_v41 (by decide) (by decide))).trans (out41 m c),
      (hb main_v46 (Pipeline.mem_restRefs_of main_v46 (by decide) (by decide))).trans (out46 m c),
      (hb main_v42 (Pipeline.mem_restRefs_of main_v42 (by decide) (by decide))).trans (out42 m c),
      (hb main_v43 (Pipeline.mem_restRefs_of main_v43 (by decide) (by decide))).trans (out43 m c),
      (hb main_v44 (Pipeline.mem_restRefs_of main_v44 (by decide) (by decide))).trans (out44 m c),
      (hb main_v51 (Pipeline.mem_restRefs_of main_v51 (by decide) (by decide))).trans (out51 m c),
      (hb main_v53 (Pipeline.mem_restRefs_of main_v53 (by decide) (by decide))).trans (out53 m c),
      (hb main_v49 (Pipeline.mem_restRefs_of main_v49 (by decide) (by decide))).trans (out49 m c),
      (hb main_v54 (Pipeline.mem_restRefs_of main_v54 (by decide) (by decide))).trans (out54 m c),
      (hb main_v55 (Pipeline.mem_restRefs_of main_v55 (by decide) (by decide))).trans (out55 m c),
      (hb main_v60 (Pipeline.mem_restRefs_of main_v60 (by decide) (by decide))).trans (out60 m c),
      (hb main_v56 (Pipeline.mem_restRefs_of main_v56 (by decide) (by decide))).trans (out56 m c),
      (hb main_v57 (Pipeline.mem_restRefs_of main_v57 (by decide) (by decide))).trans (out57 m c),
      (hb main_v58 (Pipeline.mem_restRefs_of main_v58 (by decide) (by decide))).trans (out58 m c),
      (hb main_v65 (Pipeline.mem_restRefs_of main_v65 (by decide) (by decide))).trans (out65 m c),
      (hb main_v67 (Pipeline.mem_restRefs_of main_v67 (by decide) (by decide))).trans (out67 m c),
      (hb main_v63 (Pipeline.mem_restRefs_of main_v63 (by decide) (by decide))).trans (out63 m c),
      (hb main_v68 (Pipeline.mem_restRefs_of main_v68 (by decide) (by decide))).trans (out68 m c),
      (hb main_v69 (Pipeline.mem_restRefs_of main_v69 (by decide) (by decide))).trans (out69 m c),
      (hb main_v74 (Pipeline.mem_restRefs_of main_v74 (by decide) (by decide))).trans (out74 m c),
      (hb main_v70 (Pipeline.mem_restRefs_of main_v70 (by decide) (by decide))).trans (out70 m c),
      (hb main_v71 (Pipeline.mem_restRefs_of main_v71 (by decide) (by decide))).trans (out71 m c),
      (hb main_v72 (Pipeline.mem_restRefs_of main_v72 (by decide) (by decide))).trans (out72 m c),
      h.2 c⟩
  · refine (θ_run Cert.SmallRefIdeal.defs _ _).mono (fun r h c => ?_) (Cert.SmallRefIdeal.Value.run (F := Ideal) m' g')
    obtain ⟨a0, a1, a2, a3, a4, a5, a6, a7, a8, a9, a10, a11, a12, a13, a14, a15, a16, a17, a18, a19, a20, a21, a22, a23, a24, a25, a26, a27, a28, a29, a30, a31, a32, a33, a34, a35⟩ := ha c
    obtain ⟨h0, h1, h2, h3, h4, h5, h6, h7, h8, h9, h10, h11, h12, h13, h14, h15, h16, h17, h18, h19, h20, h21, h22, h23, h24, h25, h26, hr⟩ := h c
    refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, h16.trans ?_, h17.trans ?_, h18.trans ?_, h19.trans ?_, h20.trans ?_, h21.trans ?_, h22.trans ?_, h23.trans ?_, h24.trans ?_, h25.trans ?_, h26.trans ?_, hr⟩
    · beta_reduce; rw [← a0, ← a9, ← a18, ← a27]; rfl
    · beta_reduce; rw [← a1, ← a10, ← a19, ← a28]; rfl
    · beta_reduce; rw [← a2, ← a11, ← a20, ← a29]; rfl
    · beta_reduce; rw [← a3, ← a12, ← a21, ← a30]; rfl
    · beta_reduce; rw [← a4, ← a13, ← a22, ← a31]; rfl
    · beta_reduce; rw [← a5, ← a14, ← a23, ← a32]; rfl
    · beta_reduce; rw [← a6, ← a15, ← a24, ← a33]; rfl
    · beta_reduce; rw [← a7, ← a16, ← a25, ← a34]; rfl
    · beta_reduce; rw [← a8, ← a17, ← a26, ← a35]; rfl
    · beta_reduce; rw [← a9, ← a18]; rfl
    · beta_reduce; rw [← a10, ← a19]; rfl
    · beta_reduce; rw [← a11, ← a20]; rfl
    · beta_reduce; rw [← a12, ← a21]; rfl
    · beta_reduce; rw [← a13, ← a22]; rfl
    · beta_reduce; rw [← a14, ← a23]; rfl
    · beta_reduce; rw [← a15, ← a24]; rfl
    · beta_reduce; rw [← a16, ← a25]; rfl
    · beta_reduce; rw [← a17, ← a26]; rfl
    · beta_reduce; rw [← a9, ← a27]; rfl
    · beta_reduce; rw [← a10, ← a28]; rfl
    · beta_reduce; rw [← a11, ← a29]; rfl
    · beta_reduce; rw [← a12, ← a30]; rfl
    · beta_reduce; rw [← a13, ← a31]; rfl
    · beta_reduce; rw [← a14, ← a32]; rfl
    · beta_reduce; rw [← a15, ← a33]; rfl
    · beta_reduce; rw [← a16, ← a34]; rfl
    · beta_reduce; rw [← a17, ← a35]; rfl

/-- The reference runs, leaves its arguments as they are, and has no counter to leave standing. -/
theorem refFrame : Cert.quiescent_SmallRefIdeal := fun m ρ _ =>
  (θ_run _ _ _).mono (fun r h => ⟨fun c => (h c).2.2.2.2.2.2.2.2.2.2.2.2.2.2.2.2.2.2.2.2.2.2.2.2.2.2.2, sem_eq_zero_of_no_sems rfl r.2⟩) (Cert.SmallRefIdeal.Value.run (F := Ideal) m ρ)

end Cert.SmallIdeal.Hand

end
-- ==== Proof.Ff2Ref.lean ====
/- The reference of the second MLP product, the last layer norm, the loss and the gradient at the norm's input, entry by entry. -/
module

public import proofs.«01_k».proof.Defs
public import proofs.«01_k».proof.Proof.Gen.Ff2Ideal.Frame
public import proofs.«01_k».proof.Proof.Gen.Ff2RefIdeal.Run
public import proofs.«01_k».proof.Proof.Gen.Ff2RefIdeal.Read
public import Idealize.ShloMosaic.Lib.Pipeline.ValueKit
public import Idealize.ShloMosaic.Lib.Pointwise
public import proofs.«01_k».proof.Proof.Norm

@[expose] public section

set_option maxRecDepth 16384

noncomputable section

namespace Cert.Ff2Ideal.Hand

open Cert.Ff2Ideal Cert.Ff2Ideal.Gen Idealize.ShloMosaic Idealize.ShloMosaic.TcCoe Idealize.SL.Sem
open Idealize.ShloMosaic.Pipeline (Dat)

/-- A row of the layer norm's input: the scaled residual, the MLP product and its offset. -/
def row (x0 : FVec Ideal S4096x8192 .f32) (x1 : FVec Ideal S8192x2048 .f32) (x2 : FVec Ideal S4096x2048 .f32) (x4 : FVec Ideal S1x2048 .f32) (t : Fin 4096) : Norm.Row := fun k =>
  Ideal.ofBits .f32 0x3F9837F0#32 * x2 (ix2 t k) + ((∑ f : Fin 8192, x0 (ix2 t f) * x1 (ix2 f k)) + x4 (ix2 0 k))

/-- How far the layer norm's output is from the target. -/
def err (x0 : FVec Ideal S4096x8192 .f32) (x1 : FVec Ideal S8192x2048 .f32) (x2 : FVec Ideal S4096x2048 .f32) (x3 : FVec Ideal S4096x2048 .f32) (x4 : FVec Ideal S1x2048 .f32) (x5 x6 : FVec Ideal S1x2048 .f32) (t : Fin 4096) (k : Fin 2048) : EReal :=
  Norm.xhat (row x0 x1 x2 x4 t) k * x5 (ix2 0 k) + x6 (ix2 0 k) - x3 (ix2 t k)

/-- The loss's gradient at the layer norm's output. -/
def dy (x0 : FVec Ideal S4096x8192 .f32) (x1 : FVec Ideal S8192x2048 .f32) (x2 : FVec Ideal S4096x2048 .f32) (x3 : FVec Ideal S4096x2048 .f32) (x4 : FVec Ideal S1x2048 .f32) (x5 x6 : FVec Ideal S1x2048 .f32) (t : Fin 4096) (k : Fin 2048) : EReal := err x0 x1 x2 x3 x4 x5 x6 t k * Ideal.ofBits .f32 0x3A000000#32

/-- A row of it, times the scale. -/
def dxh (x0 : FVec Ideal S4096x8192 .f32) (x1 : FVec Ideal S8192x2048 .f32) (x2 : FVec Ideal S4096x2048 .f32) (x3 : FVec Ideal S4096x2048 .f32) (x4 : FVec Ideal S1x2048 .f32) (x5 x6 : FVec Ideal S1x2048 .f32) (t : Fin 4096) : Norm.Row := fun k => dy x0 x1 x2 x3 x4 x5 x6 t k * x5 (ix2 0 k)

/-- The reference's factor of the gradient is the kernel's. -/
theorem factor (e : EReal) : Ideal.div (Ideal.ofBits .f32 0x3F000000#32 * Ideal.ofBits .f32 0x3F800000#32) Norm.N * (Ideal.ofBits .f32 0x40000000#32 * e)
    = e * Ideal.ofBits .f32 0x3A000000#32 := by
  rw [Norm.div_N, Norm.half_eq, Norm.two_eq, ← mul_assoc, mul_comm _ e]
  congr 1
  have h1 : Ideal.ofBits .f32 0x3F800000#32 = ((1 : ℝ) : EReal) := by simp [Ideal.ofBits, Ideal.ieee, -EReal.coe_mul]; norm_num
  have h2 : Ideal.ofBits .f32 0x3A000000#32 = ((1 / 2048 : ℝ) : EReal) := by simp [Ideal.ofBits, Ideal.ieee, -EReal.coe_mul]; norm_num
  rw [h1, h2, ← EReal.coe_mul, ← EReal.coe_mul, ← EReal.coe_mul]
  norm_num

theorem ref_row (x0 : FVec Ideal S4096x8192 .f32) (x1 : FVec Ideal S8192x2048 .f32) (x2 : FVec Ideal S4096x2048 .f32) (x4 : FVec Ideal S1x2048 .f32) (i : S4096x2048.Idx) : Cert.Ff2RefIdeal.Read.val_main_v5 (F := Ideal) x0 x1 x2 x4 i = row x0 x1 x2 x4 (i 0) (i 1) := by
  unfold Cert.Ff2RefIdeal.Read.val_main_v5 Cert.Ff2RefIdeal.Read.val_main_v4 Cert.Ff2RefIdeal.Read.val_main_v3 Cert.Ff2RefIdeal.Read.val_main_v2 Cert.Ff2RefIdeal.Read.val_main_v1 Cert.Ff2RefIdeal.Read.val_main_cst Cert.Ff2RefIdeal.Read.val_main_v0 row
  idx_vars i
  pointwise

theorem ref_cen (x0 : FVec Ideal S4096x8192 .f32) (x1 : FVec Ideal S8192x2048 .f32) (x2 : FVec Ideal S4096x2048 .f32) (x4 : FVec Ideal S1x2048 .f32) (i : S4096x2048.Idx) : Cert.Ff2RefIdeal.Read.val_main_v13 (F := Ideal) x0 x1 x2 x4 i = Norm.cen (row x0 x1 x2 x4 (i 0)) (i 1) := by
  unfold Cert.Ff2RefIdeal.Read.val_main_v13 Cert.Ff2RefIdeal.Read.val_main_v12 Cert.Ff2RefIdeal.Read.val_main_v11 Cert.Ff2RefIdeal.Read.val_main_v10 Cert.Ff2RefIdeal.Read.val_main_cst_1 Cert.Ff2RefIdeal.Read.val_main_v9 Cert.Ff2RefIdeal.Read.val_main_v8 Cert.Ff2RefIdeal.Read.val_main_cst_0
  idx_vars i
  pointwise [Norm.cen, Norm.mean, ref_row]

theorem ref_cen2 (x0 : FVec Ideal S4096x8192 .f32) (x1 : FVec Ideal S8192x2048 .f32) (x2 : FVec Ideal S4096x2048 .f32) (x4 : FVec Ideal S1x2048 .f32) (i : S4096x2048.Idx) : Cert.Ff2RefIdeal.Read.val_main_v22 (F := Ideal) x0 x1 x2 x4 i = Norm.cen (row x0 x1 x2 x4 (i 0)) (i 1) := by
  rw [← ref_cen]
  rfl

theorem ref_var (x0 : FVec Ideal S4096x8192 .f32) (x1 : FVec Ideal S8192x2048 .f32) (x2 : FVec Ideal S4096x2048 .f32) (x4 : FVec Ideal S1x2048 .f32) (i : Cert.Ff2RefIdeal.S4096x1.Idx) : Cert.Ff2RefIdeal.Read.val_main_v24 (F := Ideal) x0 x1 x2 x4 i = Norm.vare (row x0 x1 x2 x4 (i 0)) := by
  unfold Cert.Ff2RefIdeal.Read.val_main_v24 Cert.Ff2RefIdeal.Read.val_main_v23 Cert.Ff2RefIdeal.Read.val_main_cst_5 Cert.Ff2RefIdeal.Read.val_main_v20 Cert.Ff2RefIdeal.Read.val_main_v19 Cert.Ff2RefIdeal.Read.val_main_cst_4 Cert.Ff2RefIdeal.Read.val_main_v18 Cert.Ff2RefIdeal.Read.val_main_v17 Cert.Ff2RefIdeal.Read.val_main_cst_3 Cert.Ff2RefIdeal.Read.val_main_v14
  idx_vars i
  pointwise [Norm.vare, ref_cen]

theorem ref_rstd (x0 : FVec Ideal S4096x8192 .f32) (x1 : FVec Ideal S8192x2048 .f32) (x2 : FVec Ideal S4096x2048 .f32) (x4 : FVec Ideal S1x2048 .f32) (i : Cert.Ff2RefIdeal.S4096x1.Idx) : Cert.Ff2RefIdeal.Read.val_main_v25 (F := Ideal) x0 x1 x2 x4 i = Norm.rstd (row x0 x1 x2 x4 (i 0)) := by
  unfold Cert.Ff2RefIdeal.Read.val_main_v25
  idx_vars i
  pointwise [Norm.rstd, ref_var]

theorem ref_xhat (x0 : FVec Ideal S4096x8192 .f32) (x1 : FVec Ideal S8192x2048 .f32) (x2 : FVec Ideal S4096x2048 .f32) (x4 : FVec Ideal S1x2048 .f32) (i : S4096x2048.Idx) : Cert.Ff2RefIdeal.Read.val_main_v30 (F := Ideal) x0 x1 x2 x4 i = Norm.xhat (row x0 x1 x2 x4 (i 0)) (i 1) := by
  unfold Cert.Ff2RefIdeal.Read.val_main_v30 Cert.Ff2RefIdeal.Read.val_main_v29
  idx_vars i
  pointwise [Norm.xhat, ref_cen2, ref_rstd]

theorem ref_err (x0 : FVec Ideal S4096x8192 .f32) (x1 : FVec Ideal S8192x2048 .f32) (x2 : FVec Ideal S4096x2048 .f32) (x3 : FVec Ideal S4096x2048 .f32) (x4 : FVec Ideal S1x2048 .f32) (x5 x6 : FVec Ideal S1x2048 .f32) (i : S4096x2048.Idx) : Cert.Ff2RefIdeal.Read.val_main_v37 (F := Ideal) x0 x1 x2 x3 x4 x5 x6 i = err x0 x1 x2 x3 x4 x5 x6 (i 0) (i 1) := by
  unfold Cert.Ff2RefIdeal.Read.val_main_v37 Cert.Ff2RefIdeal.Read.val_main_v36 Cert.Ff2RefIdeal.Read.val_main_v35 Cert.Ff2RefIdeal.Read.val_main_v34 Cert.Ff2RefIdeal.Read.val_main_v33 Cert.Ff2RefIdeal.Read.val_main_v32 Cert.Ff2RefIdeal.Read.val_main_v31 Cert.Ff2RefIdeal.Read.val_main_v7 Cert.Ff2RefIdeal.Read.val_main_v6
  idx_vars i
  pointwise [err, ref_xhat]

theorem ref_err2 (x0 : FVec Ideal S4096x8192 .f32) (x1 : FVec Ideal S8192x2048 .f32) (x2 : FVec Ideal S4096x2048 .f32) (x3 : FVec Ideal S4096x2048 .f32) (x4 : FVec Ideal S1x2048 .f32) (x5 x6 : FVec Ideal S1x2048 .f32) (i : S4096x2048.Idx) : Cert.Ff2RefIdeal.Read.val_main_v117 (F := Ideal) x0 x1 x2 x3 x4 x5 x6 i = err x0 x1 x2 x3 x4 x5 x6 (i 0) (i 1) := by
  rw [← ref_err]
  rfl

theorem ref_dy (x0 : FVec Ideal S4096x8192 .f32) (x1 : FVec Ideal S8192x2048 .f32) (x2 : FVec Ideal S4096x2048 .f32) (x3 : FVec Ideal S4096x2048 .f32) (x4 : FVec Ideal S1x2048 .f32) (x5 x6 : FVec Ideal S1x2048 .f32) (i : S4096x2048.Idx) : Cert.Ff2RefIdeal.Read.val_main_v51 (F := Ideal) x0 x1 x2 x3 x4 x5 x6 i = dy x0 x1 x2 x3 x4 x5 x6 (i 0) (i 1) := by
  unfold Cert.Ff2RefIdeal.Read.val_main_v51 Cert.Ff2RefIdeal.Read.val_main_v50 Cert.Ff2RefIdeal.Read.val_main_v49 Cert.Ff2RefIdeal.Read.val_main_v48 Cert.Ff2RefIdeal.Read.val_main_cst_14 Cert.Ff2RefIdeal.Read.val_main_v47 Cert.Ff2RefIdeal.Read.val_main_v46 Cert.Ff2RefIdeal.Read.val_main_cst_13 Cert.Ff2RefIdeal.Read.val_main_cst_12 Cert.Ff2RefIdeal.Read.val_main_v40 Cert.Ff2RefIdeal.Read.val_main_v39 Cert.Ff2RefIdeal.Read.val_main_cst_7 dy
  rw [← factor]
  idx_vars i
  pointwise [ref_err]

theorem ref_dxh (x0 : FVec Ideal S4096x8192 .f32) (x1 : FVec Ideal S8192x2048 .f32) (x2 : FVec Ideal S4096x2048 .f32) (x3 : FVec Ideal S4096x2048 .f32) (x4 : FVec Ideal S1x2048 .f32) (x5 x6 : FVec Ideal S1x2048 .f32) (i : S4096x2048.Idx) : Cert.Ff2RefIdeal.Read.val_main_v59 (F := Ideal) x0 x1 x2 x3 x4 x5 x6 i = dxh x0 x1 x2 x3 x4 x5 x6 (i 0) (i 1) := by
  unfold Cert.Ff2RefIdeal.Read.val_main_v59 Cert.Ff2RefIdeal.Read.val_main_v58 Cert.Ff2RefIdeal.Read.val_main_v31 Cert.Ff2RefIdeal.Read.val_main_v6
  idx_vars i
  pointwise [dxh, ref_dy]

/-- The gradient's part with the inverse deviation kept fixed. -/
theorem ref_v65 (x0 : FVec Ideal S4096x8192 .f32) (x1 : FVec Ideal S8192x2048 .f32) (x2 : FVec Ideal S4096x2048 .f32) (x3 : FVec Ideal S4096x2048 .f32) (x4 : FVec Ideal S1x2048 .f32) (x5 x6 : FVec Ideal S1x2048 .f32) (i : S4096x2048.Idx) : Cert.Ff2RefIdeal.Read.val_main_v65 (F := Ideal) x0 x1 x2 x3 x4 x5 x6 i
    = dxh x0 x1 x2 x3 x4 x5 x6 (i 0) (i 1) * Norm.rstd (row x0 x1 x2 x4 (i 0)) := by
  unfold Cert.Ff2RefIdeal.Read.val_main_v65 Cert.Ff2RefIdeal.Read.val_main_v64
  idx_vars i
  pointwise [ref_dxh, ref_rstd]

/-- The gradient at the variance. -/
theorem ref_sc (x0 : FVec Ideal S4096x8192 .f32) (x1 : FVec Ideal S8192x2048 .f32) (x2 : FVec Ideal S4096x2048 .f32) (x3 : FVec Ideal S4096x2048 .f32) (x4 : FVec Ideal S1x2048 .f32) (x5 x6 : FVec Ideal S1x2048 .f32) (i : Cert.Ff2RefIdeal.S4096.Idx) : Cert.Ff2RefIdeal.Read.val_main_v72 (F := Ideal) x0 x1 x2 x3 x4 x5 x6 i
    = Norm.sc (row x0 x1 x2 x4 (i 0)) (dxh x0 x1 x2 x3 x4 x5 x6 (i 0)) := by
  unfold Cert.Ff2RefIdeal.Read.val_main_v72 Cert.Ff2RefIdeal.Read.val_main_cst_22 Cert.Ff2RefIdeal.Read.val_main_v71 Cert.Ff2RefIdeal.Read.val_main_v70 Cert.Ff2RefIdeal.Read.val_main_cst_21 Cert.Ff2RefIdeal.Read.val_main_v66 Cert.Ff2RefIdeal.Read.val_main_v63 Cert.Ff2RefIdeal.Read.val_main_v62 Cert.Ff2RefIdeal.Read.val_main_cst_19 Cert.Ff2RefIdeal.Read.val_main_v61 Cert.Ff2RefIdeal.Read.val_main_v28 Cert.Ff2RefIdeal.Read.val_main_v27 Cert.Ff2RefIdeal.Read.val_main_cst_6 Cert.Ff2RefIdeal.Read.val_main_v26
  idx_vars i
  pointwise [Norm.sc, ref_dxh, ref_rstd, ref_var, ref_cen2]
  rw [Fin.sum_univ_eq_sum_range (fun _ => _) 1, Finset.sum_range_one]

/-- The gradient's part through the variance. -/
theorem ref_v74 (x0 : FVec Ideal S4096x8192 .f32) (x1 : FVec Ideal S8192x2048 .f32) (x2 : FVec Ideal S4096x2048 .f32) (x3 : FVec Ideal S4096x2048 .f32) (x4 : FVec Ideal S1x2048 .f32) (x5 x6 : FVec Ideal S1x2048 .f32) (i : S4096x2048.Idx) : Cert.Ff2RefIdeal.Read.val_main_v74 (F := Ideal) x0 x1 x2 x3 x4 x5 x6 i
    = Norm.sc (row x0 x1 x2 x4 (i 0)) (dxh x0 x1 x2 x3 x4 x5 x6 (i 0)) * (Ideal.ofBits .f32 0x40000000#32 * Norm.cen (row x0 x1 x2 x4 (i 0)) (i 1)) := by
  unfold Cert.Ff2RefIdeal.Read.val_main_v74 Cert.Ff2RefIdeal.Read.val_main_v73 Cert.Ff2RefIdeal.Read.val_main_v16 Cert.Ff2RefIdeal.Read.val_main_v15 Cert.Ff2RefIdeal.Read.val_main_cst_2
  idx_vars i
  pointwise [ref_sc, ref_cen]

/-- The gradient at the mean. -/
theorem ref_v82 (x0 : FVec Ideal S4096x8192 .f32) (x1 : FVec Ideal S8192x2048 .f32) (x2 : FVec Ideal S4096x2048 .f32) (x3 : FVec Ideal S4096x2048 .f32) (x4 : FVec Ideal S1x2048 .f32) (x5 x6 : FVec Ideal S1x2048 .f32) (i : Cert.Ff2RefIdeal.S4096.Idx) : Cert.Ff2RefIdeal.Read.val_main_v82 (F := Ideal) x0 x1 x2 x3 x4 x5 x6 i
    = Ideal.div ((∑ k, -(dxh x0 x1 x2 x3 x4 x5 x6 (i 0) k * Norm.rstd (row x0 x1 x2 x4 (i 0)))) + ∑ k, -(Norm.sc (row x0 x1 x2 x4 (i 0)) (dxh x0 x1 x2 x3 x4 x5 x6 (i 0)) * (Ideal.ofBits .f32 0x40000000#32 * Norm.cen (row x0 x1 x2 x4 (i 0)) k))) Norm.N := by
  unfold Cert.Ff2RefIdeal.Read.val_main_v82 Cert.Ff2RefIdeal.Read.val_main_cst_25 Cert.Ff2RefIdeal.Read.val_main_v81 Cert.Ff2RefIdeal.Read.val_main_v80 Cert.Ff2RefIdeal.Read.val_main_cst_24 Cert.Ff2RefIdeal.Read.val_main_v79 Cert.Ff2RefIdeal.Read.val_main_v77 Cert.Ff2RefIdeal.Read.val_main_v76 Cert.Ff2RefIdeal.Read.val_main_cst_23 Cert.Ff2RefIdeal.Read.val_main_v75 Cert.Ff2RefIdeal.Read.val_main_v69 Cert.Ff2RefIdeal.Read.val_main_v68 Cert.Ff2RefIdeal.Read.val_main_cst_20 Cert.Ff2RefIdeal.Read.val_main_v67
  idx_vars i
  pointwise [ref_v65, ref_v74]
  rw [Fin.sum_univ_eq_sum_range (fun _ => _) 1, Finset.sum_range_one]

/-- The reference's gradient at the layer norm's input. -/
theorem ref_dr (x0 : FVec Ideal S4096x8192 .f32) (x1 : FVec Ideal S8192x2048 .f32) (x2 : FVec Ideal S4096x2048 .f32) (x3 : FVec Ideal S4096x2048 .f32) (x4 : FVec Ideal S1x2048 .f32) (x5 x6 : FVec Ideal S1x2048 .f32) (i : S4096x2048.Idx) : Cert.Ff2RefIdeal.Read.val_main_v84 (F := Ideal) x0 x1 x2 x3 x4 x5 x6 i
    = Norm.backR (row x0 x1 x2 x4 (i 0)) (dxh x0 x1 x2 x3 x4 x5 x6 (i 0)) (i 1) := by
  unfold Cert.Ff2RefIdeal.Read.val_main_v84 Cert.Ff2RefIdeal.Read.val_main_v83 Cert.Ff2RefIdeal.Read.val_main_v78
  idx_vars i
  pointwise [ref_v65, ref_v74, ref_v82, Norm.backR]

/-- The same after the rounding to bf16, which is the identity over the reals. -/
theorem ref_drb (x0 : FVec Ideal S4096x8192 .f32) (x1 : FVec Ideal S8192x2048 .f32) (x2 : FVec Ideal S4096x2048 .f32) (x3 : FVec Ideal S4096x2048 .f32) (x4 : FVec Ideal S1x2048 .f32) (x5 x6 : FVec Ideal S1x2048 .f32) (i : S4096x2048.Idx) : Cert.Ff2RefIdeal.Read.val_main_v125 (F := Ideal) x0 x1 x2 x3 x4 x5 x6 i
    = Norm.backR (row x0 x1 x2 x4 (i 0)) (dxh x0 x1 x2 x3 x4 x5 x6 (i 0)) (i 1) := by
  rw [← ref_dr]
  rfl

/-- The reference's gradient of the scale. -/
theorem ref_dg (x0 : FVec Ideal S4096x8192 .f32) (x1 : FVec Ideal S8192x2048 .f32) (x2 : FVec Ideal S4096x2048 .f32) (x3 : FVec Ideal S4096x2048 .f32) (x4 : FVec Ideal S1x2048 .f32) (x5 x6 : FVec Ideal S1x2048 .f32) (i : S1x2048.Idx) : Cert.Ff2RefIdeal.Read.val_main_v86 (F := Ideal) x0 x1 x2 x3 x4 x5 x6 i
    = ∑ t : Fin 4096, Norm.xhat (row x0 x1 x2 x4 t) (i 1) * dy x0 x1 x2 x3 x4 x5 x6 t (i 1) := by
  unfold Cert.Ff2RefIdeal.Read.val_main_v86 Cert.Ff2RefIdeal.Read.val_main_v60 Cert.Ff2RefIdeal.Read.val_main_cst_18 Cert.Ff2RefIdeal.Read.val_main_v57 Cert.Ff2RefIdeal.Read.val_main_v56 Cert.Ff2RefIdeal.Read.val_main_cst_17 Cert.Ff2RefIdeal.Read.val_main_v55
  idx_vars i
  pointwise [ref_xhat, ref_dy]
  rw [Fin.sum_univ_eq_sum_range (fun _ => _) 1, Finset.sum_range_one]

/-- The reference's gradient of the offset. -/
theorem ref_db (x0 : FVec Ideal S4096x8192 .f32) (x1 : FVec Ideal S8192x2048 .f32) (x2 : FVec Ideal S4096x2048 .f32) (x3 : FVec Ideal S4096x2048 .f32) (x4 : FVec Ideal S1x2048 .f32) (x5 x6 : FVec Ideal S1x2048 .f32) (i : S1x2048.Idx) : Cert.Ff2RefIdeal.Read.val_main_v85 (F := Ideal) x0 x1 x2 x3 x4 x5 x6 i
    = ∑ t : Fin 4096, dy x0 x1 x2 x3 x4 x5 x6 t (i 1) := by
  unfold Cert.Ff2RefIdeal.Read.val_main_v85 Cert.Ff2RefIdeal.Read.val_main_v54 Cert.Ff2RefIdeal.Read.val_main_cst_16 Cert.Ff2RefIdeal.Read.val_main_v53 Cert.Ff2RefIdeal.Read.val_main_v52 Cert.Ff2RefIdeal.Read.val_main_cst_15
  idx_vars i
  pointwise [ref_dy]
  rw [Fin.sum_univ_eq_sum_range (fun _ => _) 1, Finset.sum_range_one]

/-- The reference's gradient of the product's offset. -/
theorem ref_dbf (x0 : FVec Ideal S4096x8192 .f32) (x1 : FVec Ideal S8192x2048 .f32) (x2 : FVec Ideal S4096x2048 .f32) (x3 : FVec Ideal S4096x2048 .f32) (x4 : FVec Ideal S1x2048 .f32) (x5 x6 : FVec Ideal S1x2048 .f32) (i : S1x2048.Idx) : Cert.Ff2RefIdeal.Read.val_main_v90 (F := Ideal) x0 x1 x2 x3 x4 x5 x6 i
    = ∑ t : Fin 4096, Norm.backR (row x0 x1 x2 x4 t) (dxh x0 x1 x2 x3 x4 x5 x6 t) (i 1) := by
  unfold Cert.Ff2RefIdeal.Read.val_main_v90 Cert.Ff2RefIdeal.Read.val_main_v89 Cert.Ff2RefIdeal.Read.val_main_cst_26
  idx_vars i
  pointwise [ref_dr]

/-- The reference's loss, column by column. -/
theorem ref_loss (x0 : FVec Ideal S4096x8192 .f32) (x1 : FVec Ideal S8192x2048 .f32) (x2 : FVec Ideal S4096x2048 .f32) (x3 : FVec Ideal S4096x2048 .f32) (x4 : FVec Ideal S1x2048 .f32) (x5 x6 : FVec Ideal S1x2048 .f32) (i : S1x2048.Idx) : Cert.Ff2RefIdeal.Read.val_main_v124 (F := Ideal) x0 x1 x2 x3 x4 x5 x6 i
    = Ideal.div (Ideal.ofBits .f32 0x3F000000#32 * ∑ t : Fin 4096, err x0 x1 x2 x3 x4 x5 x6 t (i 1) * err x0 x1 x2 x3 x4 x5 x6 t (i 1)) Norm.N := by
  unfold Cert.Ff2RefIdeal.Read.val_main_v124 Cert.Ff2RefIdeal.Read.val_main_v123 Cert.Ff2RefIdeal.Read.val_main_cst_34 Cert.Ff2RefIdeal.Read.val_main_v122 Cert.Ff2RefIdeal.Read.val_main_v121 Cert.Ff2RefIdeal.Read.val_main_cst_33 Cert.Ff2RefIdeal.Read.val_main_v120 Cert.Ff2RefIdeal.Read.val_main_v119 Cert.Ff2RefIdeal.Read.val_main_cst_32 Cert.Ff2RefIdeal.Read.val_main_v118
  idx_vars i
  pointwise [ref_err2]

end Cert.Ff2Ideal.Hand

end
-- ==== Proof.Rows.lean ====
/- Sums kept over the grid's outer steps, each added at the last of its inner steps. -/
module

public import Mathlib.Data.EReal.Basic
public import Mathlib.Algebra.BigOperators.Fin

@[expose] public section

namespace Cert.Rows

/-- What an output holds when each outer step's term is added at the last of its `J` inner steps. -/
theorem kept {ι : Type} (J N : ℕ) (hJ : J = 8 ∨ J = 4) (f : (n : ℕ) → n < N → ι → EReal) (T : ℕ → ι → EReal)
    (first : ∀ t : Fin N, t.val % J = J - 1 → t.val < J → ∀ j, f t.val t.isLt j = T 0 j)
    (next : ∀ (t : Fin N) (h : t.val - 1 < N), t.val % J = J - 1 → J ≤ t.val → ∀ j, f t.val t.isLt j = f (t.val - 1) h j + T (t.val / J) j)
    (keep : ∀ (t : Fin N) (h : t.val - 1 < N), t.val ≠ 0 → t.val % J ≠ J - 1 → ∀ j, f t.val t.isLt j = f (t.val - 1) h j) :
    ∀ (n : ℕ) (h : n < N) (_ : J - 1 ≤ n) (j : ι), f n h j = ∑ s ∈ Finset.range ((n + 1) / J), T s j := by
  intro n
  induction n with
  | zero => intro h hn j; omega
  | succ n ih =>
    intro h hn j
    by_cases hm : (n + 1) % J = J - 1
    · by_cases hl : n + 1 < J
      · rw [first ⟨n + 1, h⟩ hm hl j]
        have e : (n + 1 + 1) / J = 1 := by rcases hJ with rfl | rfl <;> omega
        rw [e, Finset.sum_range_one]
      · have e : (n + 1 + 1) / J = (n + 1) / J + 1 := by rcases hJ with rfl | rfl <;> omega
        rw [next ⟨n + 1, h⟩ (by show n < N; omega) hm (by show J ≤ n + 1; omega) j, e, Finset.sum_range_succ]
        exact congrArg (· + _) (ih (by omega) (by rcases hJ with rfl | rfl <;> omega) j)
    · have e : (n + 1 + 1) / J = (n + 1) / J := by rcases hJ with rfl | rfl <;> omega
      rw [keep ⟨n + 1, h⟩ (by show n < N; omega) (by show n + 1 ≠ 0; omega) hm j, e]
      exact ih (by omega) (by rcases hJ with rfl | rfl <;> omega) j

end Cert.Rows

end
-- ==== Proof.Finite.lean ====
/- What a precondition asking every entry of an array to be finite gives. -/
module

public import Idealize.ShloMosaic.Lib.ReduceAll
public import Idealize.ShloMosaic.Lib.KernelVsHost
public import proofs.«01_k».proof.Proof.Norm

@[expose] public section

noncomputable section

namespace Cert.Finite

open Idealize.ShloMosaic

instance : Subsingleton (⟨0, ![]⟩ : Shape).Idx := ⟨fun a b => funext fun i => i.elim0⟩

/-- An entry less than infinity in size is a real number. -/
theorem one (x : EReal) (h : Ideal.cmp .olt (max x (-x)) (Ideal.ofBits .f32 0x7F800000#32) = 1#1) : Norm.Re x := by
  have htop : Ideal.ofBits .f32 0x7F800000#32 = ⊤ := by simp [Ideal.ofBits, Ideal.ieee]
  rw [htop] at h
  unfold Ideal.cmp at h
  refine Norm.Re.of_lt ?_
  by_contra hn
  simp [hn] at h

/-- All entries at once. -/
theorem all {s : Shape} {axes : List (Fin s.rank)} (x : FVec Ideal s .f32) (hb : (⟨0, ![]⟩ : Shape).BroadcastsInDim s (![] : Fin 0 → Fin s.rank))
    (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .f32 0x7F800000#32))) (constantI ⟨0, ![]⟩ 1 1#1) h hu j = 1#1)
    (i : s.Idx) : Norm.Re (x i) :=
  one (x i) (Host.reduce_andi_all _ _ h hu j e i)

/-- The weight of the residual path is a real number. -/
theorem alpha : Norm.Re (Ideal.ofBits .f32 0x3F9837F0#32) := by
  refine ⟨(9975792 * (2 ^ 23)⁻¹ : ℝ), ?_⟩
  simp [Ideal.ofBits, Ideal.ieee]

theorem inv_eq : Ideal.ofBits .f32 0x3A000000#32 = ((1 / 2048 : ℝ) : EReal) := by
  simp [Ideal.ofBits, Ideal.ieee, -EReal.coe_mul]; norm_num

theorem half_inv_eq : Ideal.ofBits .f32 0x39800000#32 = ((1 / 4096 : ℝ) : EReal) := by
  simp [Ideal.ofBits, Ideal.ieee, -EReal.coe_mul]; norm_num

theorem inv_N : Norm.Re (Ideal.ofBits .f32 0x3A000000#32) := ⟨_, inv_eq⟩

/-- A sum of real numbers, scaled, is the sum of the scaled numbers. -/
theorem sum_scale {n : ℕ} (f : Fin n → EReal) (h : ∀ k, Norm.Re (f k)) :
    (∑ k, f k) * Ideal.ofBits .f32 0x39800000#32 = ∑ k, f k * Ideal.ofBits .f32 0x39800000#32 := by
  choose g hg using h
  obtain rfl : f = fun k => ((g k : ℝ) : EReal) := funext hg
  simp only [half_inv_eq, Norm.sum_coe, ← EReal.coe_mul, Finset.sum_mul]

/-- Half the mean over 2048, of a sum of real numbers, is the sum of the scaled numbers. -/
theorem half_mean {n : ℕ} (f : Fin n → EReal) (h : ∀ k, Norm.Re (f k)) :
    Ideal.div (Ideal.ofBits .f32 0x3F000000#32 * ∑ k, f k) Norm.N = ∑ k, f k * Ideal.ofBits .f32 0x39800000#32 := by
  rw [← sum_scale f h, Norm.div_N, Norm.half_eq, half_inv_eq, mul_comm _ (∑ k, f k), mul_assoc, ← EReal.coe_mul]
  congr 2
  norm_num

end Cert.Finite

end
-- ==== Proof.Ff2.lean ====
/- The second MLP product, the last layer norm, the loss and the gradient at the norm's input, tile by tile, are the reference's. -/
module

public import proofs.«01_k».proof.Defs
public import proofs.«01_k».proof.Proof.Gen.Ff2Ideal.Value
public import proofs.«01_k».proof.Proof.Gen.Ff2RefIdeal.Run
public import proofs.«01_k».proof.Proof.Gen.Ff2RefIdeal.Read
public import Idealize.ShloMosaic.Lib.Pipeline.ValueKit
public import Idealize.ShloMosaic.Lib.Pointwise
public import proofs.«01_k».proof.Proof.Ff2Ref
public import proofs.«01_k».proof.Proof.Rows
public import proofs.«01_k».proof.Proof.Finite
public import Idealize.ShloMosaic.Lib.Pipeline.ReadBack
public import proofs.«01_k».proof.Proof.Gen.Pre_ff2_finite

@[expose] public section

set_option maxRecDepth 16384

noncomputable section

namespace Cert.Ff2Ideal.Hand

open Cert.Ff2Ideal Cert.Ff2Ideal.Gen Idealize.ShloMosaic Idealize.ShloMosaic.TcCoe Idealize.SL.Sem
open Idealize.ShloMosaic.Pipeline (Dat)

variable (m : (ℓ : Loc nD τ sig) → Buf (Elt Ideal) ℓ)

/-- Which block of each array a grid point takes: eight points in turn go over the shards for one group of 512 tokens. -/
theorem idx : ∀ t : Fin cfg0.N, win0_0.index t = ![t.val / 8, t.val % 8] ∧ win0_1.index t = ![t.val % 8, 0, 0] ∧ win0_2.index t = ![t.val / 8, 0] ∧ win0_3.index t = ![t.val / 8, 0] ∧ win0_4.index t = ![0, 0] ∧ win0_5.index t = ![0, 0] ∧ win0_6.index t = ![0, 0] ∧ win0_7.index t = ![t.val / 8, 0] ∧ win0_8.index t = ![t.val / 8, 0] ∧ win0_9.index t = ![0, 0] ∧ win0_10.index t = ![0, 0] ∧ win0_11.index t = ![0, 0] ∧ win0_12.index t = ![0, 0] :=
  (by decide +kernel : ∀ t : Fin grid0.N, _)

/-- The token a row of a tile holds. -/
abbrev tok (t : Fin cfg0.N) (r : Fin 512) : Fin 4096 := ⟨t.val / 8 * 512 + r.val, by have : t.val < 64 := t.isLt; omega⟩

/-- A product is added to what is there. -/
theorem pay2_apply (v : FVec Ideal S512x2048 .f32) (a : FVec Ideal S512x1024 .bf16) (b : FVec Ideal S1x1024x2048 .bf16) (i : S512x2048.Idx) :
    k0_pay2 (F := Ideal) v a b i = v i + ∑ e : Fin 1024, a (ix2 (i 0) e) * b (ix3 0 e (i 1)) := by
  idx_vars i
  pointwise [k0_pay2]

theorem pay1_apply (i : S512x2048.Idx) : k0_pay1 (F := Ideal) i = 0 := by
  idx_vars i
  pointwise [k0_pay1]

/-- A row of a tile of the norm's input. -/
def trow (v x : FVec Ideal S512x2048 .f32) (b : FVec Ideal S1x2048 .f32) (r : Fin 512) : Norm.Row := fun k =>
  Ideal.ofBits .f32 0x3F9837F0#32 * x (ix2 r k) + (v (ix2 r k) + b (ix2 0 k))

theorem pay6_apply (v x : FVec Ideal S512x2048 .f32) (b : FVec Ideal S1x2048 .f32) (i : S512x2048.Idx) : k0_pay6 (F := Ideal) v x b i = Norm.cen (trow v x b (i 0)) (i 1) := by
  idx_vars i
  pointwise [k0_pay6, Norm.cen, Norm.mean, trow]

theorem pay7_apply (v x : FVec Ideal S512x2048 .f32) (b : FVec Ideal S1x2048 .f32) (i : S512x1.Idx) : k0_pay7 (F := Ideal) v x b i = Norm.rstd (trow v x b (i 0)) := by
  idx_vars i
  pointwise [k0_pay7, Norm.rstd, Norm.vare, pay6_apply]

theorem pay8_apply (v x : FVec Ideal S512x2048 .f32) (b : FVec Ideal S1x2048 .f32) (i : S512x2048.Idx) : k0_pay8 (F := Ideal) v x b i = Norm.xhat (trow v x b (i 0)) (i 1) := by
  idx_vars i
  pointwise [k0_pay8, Norm.xhat, pay6_apply, pay7_apply]

theorem pay9_apply (v x : FVec Ideal S512x2048 .f32) (b g o : FVec Ideal S1x2048 .f32) (w : FVec Ideal S512x2048 .f32) (i : S512x2048.Idx) :
    k0_pay9 (F := Ideal) v x b g o w i = Norm.xhat (trow v x b (i 0)) (i 1) * g (ix2 0 (i 1)) + o (ix2 0 (i 1)) - w i := by
  idx_vars i
  pointwise [k0_pay9, pay8_apply]

theorem pay10_apply (v x : FVec Ideal S512x2048 .f32) (b g o : FVec Ideal S1x2048 .f32) (w : FVec Ideal S512x2048 .f32) (i : S512x2048.Idx) :
    k0_pay10 (F := Ideal) v x b g o w i = k0_pay9 (F := Ideal) v x b g o w i * Ideal.ofBits .f32 0x3A000000#32 := by
  idx_vars i
  pointwise [k0_pay10]

theorem pay11_apply (v x : FVec Ideal S512x2048 .f32) (b g o : FVec Ideal S1x2048 .f32) (w : FVec Ideal S512x2048 .f32) (h : FVec Ideal S1x2048 .f32) (i : S512x2048.Idx) :
    k0_pay11 (F := Ideal) v x b g o w h i = k0_pay10 (F := Ideal) v x b g o w i * h (ix2 0 (i 1)) := by
  idx_vars i
  pointwise [k0_pay11]

/-- The gradient through the norm in one tile. -/
theorem back_apply (v x : FVec Ideal S512x2048 .f32) (b : FVec Ideal S1x2048 .f32) (w : FVec Ideal S512x2048 .f32) (i : S512x2048.Idx) :
    k0_pay12 (F := Ideal) (k0_pay7 v x b) (k0_pay8 v x b) w i = Norm.back (trow v x b (i 0)) (fun k => w (ix2 (i 0) k)) (i 1) := by
  idx_vars i
  pointwise [k0_pay12, Norm.back, Norm.mean, pay7_apply, pay8_apply]

/-- A tile's part of the loss. -/
theorem pay4_apply (e : FVec Ideal S512x2048 .f32) (i : S1x2048.Idx) :
    k0_pay4 (F := Ideal) e i = (∑ r : Fin 512, e (ix2 r (i 1)) * e (ix2 r (i 1))) * Ideal.ofBits .f32 0x39800000#32 := by
  idx_vars i
  pointwise [k0_pay4]

/-- A tile's part of the gradient of the scale. -/
theorem pay13_apply (x y : FVec Ideal S512x2048 .f32) (i : S1x2048.Idx) :
    k0_pay13 (F := Ideal) x y i = ∑ r : Fin 512, y (ix2 r (i 1)) * x (ix2 r (i 1)) := by
  idx_vars i
  pointwise [k0_pay13]

/-- A tile's part of the gradient of the offset. -/
theorem pay14_apply (y : FVec Ideal S512x2048 .f32) (i : S1x2048.Idx) : k0_pay14 (F := Ideal) y i = ∑ r : Fin 512, y (ix2 r (i 1)) := by
  idx_vars i
  pointwise [k0_pay14]

/-- A tile's part of the gradient of the product's offset. -/
theorem pay18_apply (u : FVec Ideal S512x1 .f32) (x y : FVec Ideal S512x2048 .f32) (i : S1x2048.Idx) :
    k0_pay18 (F := Ideal) u x y i = ∑ r : Fin 512, k0_pay12 (F := Ideal) u x y (ix2 r (i 1)) := by
  idx_vars i
  pointwise [k0_pay18]

theorem pay3_apply (x v : FVec Ideal S1x2048 .f32) (i : S1x2048.Idx) : k0_pay3 (F := Ideal) x v i = v i + x i := by
  idx_vars i
  pointwise [k0_pay3]

theorem pay5_apply (e : FVec Ideal S512x2048 .f32) (v : FVec Ideal S1x2048 .f32) (i : S1x2048.Idx) : k0_pay5 (F := Ideal) e v i = v i + k0_pay4 (F := Ideal) e i := by
  idx_vars i
  pointwise [k0_pay5]

theorem pay16_apply (x y : FVec Ideal S512x2048 .f32) (v : FVec Ideal S1x2048 .f32) (i : S1x2048.Idx) : k0_pay16 (F := Ideal) x y v i = v i + k0_pay13 (F := Ideal) x y i := by
  idx_vars i
  pointwise [k0_pay16]

theorem pay17_apply (y : FVec Ideal S512x2048 .f32) (v : FVec Ideal S1x2048 .f32) (i : S1x2048.Idx) : k0_pay17 (F := Ideal) y v i = v i + k0_pay14 (F := Ideal) y i := by
  idx_vars i
  pointwise [k0_pay17]

/-- One tile's product. -/
def prod (a : FVec Ideal S512x1024 .bf16) (b : FVec Ideal S1x1024x2048 .bf16) (i : S512x2048.Idx) : EReal :=
  ∑ e : Fin 1024, a (ix2 (i 0) e) * b (ix3 0 e (i 1))

/-- One grid point's product. -/
def part (c : Dev nD) (t : Fin cfg0.N) (i : S512x2048.Idx) : EReal := prod (iblk m c 0 t) (iblk m c 1 t) i

/-- An entry of the whole product. -/
def full (x0 : FVec Ideal S4096x8192 .f32) (x1 : FVec Ideal S8192x2048 .f32) (t : Fin 4096) (k : Fin 2048) : EReal :=
  ∑ f : Fin 8192, x0 (ix2 t f) * x1 (ix2 f k)

theorem scr_first (c : Dev nD) (t : Fin cfg0.N) (h0 : t.val % 8 = 0) (i : S512x2048.Idx) :
    (outsAt0 m c t.val t.isLt).2.2.2.2.2.2 i = 0 + part m c t i := by
  rw [outsAt0_A m c t h0 (by omega)]
  frame_out
  refine (pay2_apply _ _ _ i).trans ?_
  rw [pay1_apply]
  rfl

theorem scr_next (c : Dev nD) (t : Fin cfg0.N) (h0 : ¬t.val % 8 = 0) (i : S512x2048.Idx) :
    (outsAt0 m c t.val t.isLt).2.2.2.2.2.2 i = (outsAt0 m c (t.val - 1) (Nat.lt_of_le_of_lt (Nat.sub_le _ _) t.isLt)).2.2.2.2.2.2 i + part m c t i := by
  by_cases h1 : t.val % 8 = 7
  · by_cases h : t.val < 8
    · rw [outsAt0_C m c t (by omega) h1 h (by omega) h (by omega) h (by omega) h (by omega) ]
      frame_out
      rw [read_unread_whole]
      exact pay2_apply _ _ _ i
    · rw [outsAt0_D m c t (by omega) h1 h (by omega) h (by omega) h (by omega) h (by omega) ]
      frame_out
      rw [read_unread_whole]
      exact pay2_apply _ _ _ i
  · rw [outsAt0_B m c t h0 h1]
    frame_out
    rw [read_unread_whole]
    exact pay2_apply _ _ _ i

theorem scr (c : Dev nD) (t : Fin cfg0.N) (h1 : t.val % 8 = 7) (i : S512x2048.Idx) :
    (outsAt0 m c t.val t.isLt).2.2.2.2.2.2 i = full (m ((c : Thread nD τ).loc main_arg0)) (m ((c : Thread nD τ).loc main_arg1)) (tok t (i 0)) (i 1) := by
  have acc := Pipeline.eq_sum_fin_of_reset_step_apply_of_flush (fun n h => (outsAt0 m c n h).2.2.2.2.2.2) 8 (fun _ => (0 : EReal)) (part m c)
    (fun t h0 i => scr_first m c t h0 i) (fun t h0 i => scr_next m c t h0 i) t h1 i
  refine acc.trans ?_
  rw [zero_add]
  unfold part prod full
  refine Fin.sum_mul_add_congr fun s r h => ?_
  have hs : s.val < 8 := s.isLt
  obtain ⟨e0, e1, e2, e3, e4, e5, e6, e7, e8, e9, e10, e11, e12⟩ := idx ⟨8 * (t.val / 8) + s.val, Pipeline.run_point_lt t h1 s⟩
  have q : (8 * (t.val / 8) + s.val) / 8 = t.val / 8 := by omega
  have p : (8 * (t.val / 8) + s.val) % 8 = s.val := by omega
  idx_vars i
  refine congrArg₂ _ ?_ ?_
  · blk_point [iblk, V, e0]
  · blk_point [iblk, V, e1]

theorem last7 (c : Dev nD) (t : Fin cfg0.N) (h1 : t.val % 8 = 7) :
    (outsAt0 m c t.val t.isLt).1 = k0_pay12 (F := Ideal) (k0_pay7 (outsAt0 m c t.val t.isLt).2.2.2.2.2.2 (iblk m c 2 t) (iblk m c 4 t)) (k0_pay8 (outsAt0 m c t.val t.isLt).2.2.2.2.2.2 (iblk m c 2 t) (iblk m c 4 t)) (k0_pay11 (outsAt0 m c t.val t.isLt).2.2.2.2.2.2 (iblk m c 2 t) (iblk m c 4 t) (iblk m c 5 t) (iblk m c 6 t) (iblk m c 3 t) (iblk m c 5 t)) := by
  by_cases h : t.val < 8
  · rw [outsAt0_C m c t (by omega) h1 h (by omega) h (by omega) h (by omega) h (by omega) ]
    frame_out
  · rw [outsAt0_D m c t (by omega) h1 h (by omega) h (by omega) h (by omega) h (by omega) ]
    frame_out

theorem last8 (c : Dev nD) (t : Fin cfg0.N) (h1 : t.val % 8 = 7) :
    (outsAt0 m c t.val t.isLt).2.1 = k0_pay15 (F := Ideal) (k0_pay7 (outsAt0 m c t.val t.isLt).2.2.2.2.2.2 (iblk m c 2 t) (iblk m c 4 t)) (k0_pay8 (outsAt0 m c t.val t.isLt).2.2.2.2.2.2 (iblk m c 2 t) (iblk m c 4 t)) (k0_pay11 (outsAt0 m c t.val t.isLt).2.2.2.2.2.2 (iblk m c 2 t) (iblk m c 4 t) (iblk m c 5 t) (iblk m c 6 t) (iblk m c 3 t) (iblk m c 5 t)) := by
  by_cases h : t.val < 8
  · rw [outsAt0_C m c t (by omega) h1 h (by omega) h (by omega) h (by omega) h (by omega) ]
    frame_out
  · rw [outsAt0_D m c t (by omega) h1 h (by omega) h (by omega) h (by omega) h (by omega) ]
    frame_out

theorem first9 (c : Dev nD) (t : Fin cfg0.N) (h1 : t.val % 8 = 7) (h : t.val < 8) :
    (outsAt0 m c t.val t.isLt).2.2.1 = k0_pay13 (F := Ideal) (k0_pay8 (outsAt0 m c t.val t.isLt).2.2.2.2.2.2 (iblk m c 2 t) (iblk m c 4 t)) (k0_pay10 (outsAt0 m c t.val t.isLt).2.2.2.2.2.2 (iblk m c 2 t) (iblk m c 4 t) (iblk m c 5 t) (iblk m c 6 t) (iblk m c 3 t)) := by
  rw [outsAt0_C m c t (by omega) h1 h (by omega) h (by omega) h (by omega) h (by omega) ]
  frame_out

theorem next9 (c : Dev nD) (t : Fin cfg0.N) (h1 : t.val % 8 = 7) (h : ¬t.val < 8) (hp : t.val - 1 < cfg0.N) :
    (outsAt0 m c t.val t.isLt).2.2.1 = k0_pay16 (F := Ideal) (k0_pay8 (outsAt0 m c t.val t.isLt).2.2.2.2.2.2 (iblk m c 2 t) (iblk m c 4 t)) (k0_pay10 (outsAt0 m c t.val t.isLt).2.2.2.2.2.2 (iblk m c 2 t) (iblk m c 4 t) (iblk m c 5 t) (iblk m c 6 t) (iblk m c 3 t)) (outsAt0 m c (t.val - 1) hp).2.2.1 := by
  rw [outsAt0_D m c t (by omega) h1 h (by omega) h (by omega) h (by omega) h (by omega) ]
  frame_out

theorem keep9 (c : Dev nD) (t : Fin cfg0.N) (h1 : t.val % 8 ≠ 7) (hp : t.val - 1 < cfg0.N) :
    (outsAt0 m c t.val t.isLt).2.2.1 = (outsAt0 m c (t.val - 1) hp).2.2.1 := by
  by_cases h0 : t.val % 8 = 0
  · rw [outsAt0_A m c t h0 h1]
    dsimp only
    unfold out0_A_9
    rfl
  · rw [outsAt0_B m c t h0 h1]
    dsimp only
    unfold out0_B_9
    rfl

theorem first10 (c : Dev nD) (t : Fin cfg0.N) (h1 : t.val % 8 = 7) (h : t.val < 8) :
    (outsAt0 m c t.val t.isLt).2.2.2.1 = k0_pay14 (F := Ideal) (k0_pay10 (outsAt0 m c t.val t.isLt).2.2.2.2.2.2 (iblk m c 2 t) (iblk m c 4 t) (iblk m c 5 t) (iblk m c 6 t) (iblk m c 3 t)) := by
  rw [outsAt0_C m c t (by omega) h1 h (by omega) h (by omega) h (by omega) h (by omega) ]
  frame_out

theorem next10 (c : Dev nD) (t : Fin cfg0.N) (h1 : t.val % 8 = 7) (h : ¬t.val < 8) (hp : t.val - 1 < cfg0.N) :
    (outsAt0 m c t.val t.isLt).2.2.2.1 = k0_pay17 (F := Ideal) (k0_pay10 (outsAt0 m c t.val t.isLt).2.2.2.2.2.2 (iblk m c 2 t) (iblk m c 4 t) (iblk m c 5 t) (iblk m c 6 t) (iblk m c 3 t)) (outsAt0 m c (t.val - 1) hp).2.2.2.1 := by
  rw [outsAt0_D m c t (by omega) h1 h (by omega) h (by omega) h (by omega) h (by omega) ]
  frame_out

theorem keep10 (c : Dev nD) (t : Fin cfg0.N) (h1 : t.val % 8 ≠ 7) (hp : t.val - 1 < cfg0.N) :
    (outsAt0 m c t.val t.isLt).2.2.2.1 = (outsAt0 m c (t.val - 1) hp).2.2.2.1 := by
  by_cases h0 : t.val % 8 = 0
  · rw [outsAt0_A m c t h0 h1]
    dsimp only
    unfold out0_A_10
    rfl
  · rw [outsAt0_B m c t h0 h1]
    dsimp only
    unfold out0_B_10
    rfl

theorem first11 (c : Dev nD) (t : Fin cfg0.N) (h1 : t.val % 8 = 7) (h : t.val < 8) :
    (outsAt0 m c t.val t.isLt).2.2.2.2.1 = k0_pay18 (F := Ideal) (k0_pay7 (outsAt0 m c t.val t.isLt).2.2.2.2.2.2 (iblk m c 2 t) (iblk m c 4 t)) (k0_pay8 (outsAt0 m c t.val t.isLt).2.2.2.2.2.2 (iblk m c 2 t) (iblk m c 4 t)) (k0_pay11 (outsAt0 m c t.val t.isLt).2.2.2.2.2.2 (iblk m c 2 t) (iblk m c 4 t) (iblk m c 5 t) (iblk m c 6 t) (iblk m c 3 t) (iblk m c 5 t)) := by
  rw [outsAt0_C m c t (by omega) h1 h (by omega) h (by omega) h (by omega) h (by omega) ]
  frame_out

theorem next11 (c : Dev nD) (t : Fin cfg0.N) (h1 : t.val % 8 = 7) (h : ¬t.val < 8) (hp : t.val - 1 < cfg0.N) :
    (outsAt0 m c t.val t.isLt).2.2.2.2.1 = k0_pay3 (F := Ideal) (k0_pay18 (F := Ideal) (k0_pay7 (outsAt0 m c t.val t.isLt).2.2.2.2.2.2 (iblk m c 2 t) (iblk m c 4 t)) (k0_pay8 (outsAt0 m c t.val t.isLt).2.2.2.2.2.2 (iblk m c 2 t) (iblk m c 4 t)) (k0_pay11 (outsAt0 m c t.val t.isLt).2.2.2.2.2.2 (iblk m c 2 t) (iblk m c 4 t) (iblk m c 5 t) (iblk m c 6 t) (iblk m c 3 t) (iblk m c 5 t))) (outsAt0 m c (t.val - 1) hp).2.2.2.2.1 := by
  rw [outsAt0_D m c t (by omega) h1 h (by omega) h (by omega) h (by omega) h (by omega) ]
  frame_out

theorem keep11 (c : Dev nD) (t : Fin cfg0.N) (h1 : t.val % 8 ≠ 7) (hp : t.val - 1 < cfg0.N) :
    (outsAt0 m c t.val t.isLt).2.2.2.2.1 = (outsAt0 m c (t.val - 1) hp).2.2.2.2.1 := by
  by_cases h0 : t.val % 8 = 0
  · rw [outsAt0_A m c t h0 h1]
    dsimp only
    unfold out0_A_11
    rfl
  · rw [outsAt0_B m c t h0 h1]
    dsimp only
    unfold out0_B_11
    rfl

theorem first12 (c : Dev nD) (t : Fin cfg0.N) (h1 : t.val % 8 = 7) (h : t.val < 8) :
    (outsAt0 m c t.val t.isLt).2.2.2.2.2.1 = k0_pay4 (F := Ideal) (k0_pay9 (outsAt0 m c t.val t.isLt).2.2.2.2.2.2 (iblk m c 2 t) (iblk m c 4 t) (iblk m c 5 t) (iblk m c 6 t) (iblk m c 3 t)) := by
  rw [outsAt0_C m c t (by omega) h1 h (by omega) h (by omega) h (by omega) h (by omega) ]
  frame_out

theorem next12 (c : Dev nD) (t : Fin cfg0.N) (h1 : t.val % 8 = 7) (h : ¬t.val < 8) (hp : t.val - 1 < cfg0.N) :
    (outsAt0 m c t.val t.isLt).2.2.2.2.2.1 = k0_pay5 (F := Ideal) (k0_pay9 (outsAt0 m c t.val t.isLt).2.2.2.2.2.2 (iblk m c 2 t) (iblk m c 4 t) (iblk m c 5 t) (iblk m c 6 t) (iblk m c 3 t)) (outsAt0 m c (t.val - 1) hp).2.2.2.2.2.1 := by
  rw [outsAt0_D m c t (by omega) h1 h (by omega) h (by omega) h (by omega) h (by omega) ]
  frame_out

theorem keep12 (c : Dev nD) (t : Fin cfg0.N) (h1 : t.val % 8 ≠ 7) (hp : t.val - 1 < cfg0.N) :
    (outsAt0 m c t.val t.isLt).2.2.2.2.2.1 = (outsAt0 m c (t.val - 1) hp).2.2.2.2.2.1 := by
  by_cases h0 : t.val % 8 = 0
  · rw [outsAt0_A m c t h0 h1]
    dsimp only
    unfold out0_A_12
    rfl
  · rw [outsAt0_B m c t h0 h1]
    dsimp only
    unfold out0_B_12
    rfl

/-- A tile's row of the norm's input is the array's. -/
theorem in_row (c : Dev nD) (t : Fin cfg0.N) (h1 : t.val % 8 = 7) (r : Fin 512) :
    trow (outsAt0 m c t.val t.isLt).2.2.2.2.2.2 (iblk m c 2 t) (iblk m c 4 t) r = row (m ((c : Thread nD τ).loc main_arg0)) (m ((c : Thread nD τ).loc main_arg1)) (m ((c : Thread nD τ).loc main_arg2)) (m ((c : Thread nD τ).loc main_arg4)) (tok t r) := by
  funext k
  unfold trow row
  rw [scr m c t h1]
  obtain ⟨e0, e1, e2, e3, e4, e5, e6, e7, e8, e9, e10, e11, e12⟩ := idx t
  refine congrArg₂ _ (congrArg₂ _ rfl ?_) (congrArg₂ _ rfl ?_)
  · blk_point [iblk, V, e2]
  · blk_point [iblk, V, e4]

theorem g_row (c : Dev nD) (t : Fin cfg0.N) (k : Fin 2048) :
    (iblk m c 5 t : FVec Ideal S1x2048 .f32) (ix2 0 k) = ((m ((c : Thread nD τ).loc main_arg5)) : FVec Ideal S1x2048 .f32) (ix2 0 k) := by
  obtain ⟨e0, e1, e2, e3, e4, e5, e6, e7, e8, e9, e10, e11, e12⟩ := idx t
  blk_point [iblk, V, e5]

theorem b_row (c : Dev nD) (t : Fin cfg0.N) (k : Fin 2048) :
    (iblk m c 6 t : FVec Ideal S1x2048 .f32) (ix2 0 k) = ((m ((c : Thread nD τ).loc main_arg6)) : FVec Ideal S1x2048 .f32) (ix2 0 k) := by
  obtain ⟨e0, e1, e2, e3, e4, e5, e6, e7, e8, e9, e10, e11, e12⟩ := idx t
  blk_point [iblk, V, e6]

theorem t_row (c : Dev nD) (t : Fin cfg0.N) (r : Fin 512) (k : Fin 2048) :
    (iblk m c 3 t : FVec Ideal S512x2048 .f32) (ix2 r k) = ((m ((c : Thread nD τ).loc main_arg3)) : FVec Ideal S4096x2048 .f32) (ix2 (tok t r) k) := by
  obtain ⟨e0, e1, e2, e3, e4, e5, e6, e7, e8, e9, e10, e11, e12⟩ := idx t
  blk_point [iblk, V, e3]

/-- A tile's distance from the target is the array's. -/
theorem err_row (c : Dev nD) (t : Fin cfg0.N) (h1 : t.val % 8 = 7) (r : Fin 512) (k : Fin 2048) :
    k0_pay9 (F := Ideal) (outsAt0 m c t.val t.isLt).2.2.2.2.2.2 (iblk m c 2 t) (iblk m c 4 t) (iblk m c 5 t) (iblk m c 6 t) (iblk m c 3 t) (ix2 r k) = err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (tok t r) k := by
  refine (pay9_apply _ _ _ _ _ _ _).trans ?_
  unfold err
  refine congrArg₂ _ (congrArg₂ _ (congrArg₂ _ ?_ (g_row m c t k)) (b_row m c t k)) (t_row m c t r k)
  exact congrArg (fun f => Norm.xhat f k) (in_row m c t h1 r)

theorem dy_row (c : Dev nD) (t : Fin cfg0.N) (h1 : t.val % 8 = 7) (r : Fin 512) (k : Fin 2048) :
    k0_pay10 (F := Ideal) (outsAt0 m c t.val t.isLt).2.2.2.2.2.2 (iblk m c 2 t) (iblk m c 4 t) (iblk m c 5 t) (iblk m c 6 t) (iblk m c 3 t) (ix2 r k) = dy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (tok t r) k := by
  refine (pay10_apply _ _ _ _ _ _ _).trans ?_
  unfold dy
  exact congrArg₂ _ (err_row m c t h1 r k) rfl

theorem dxh_row (c : Dev nD) (t : Fin cfg0.N) (h1 : t.val % 8 = 7) (r : Fin 512) :
    (fun k => k0_pay11 (F := Ideal) (outsAt0 m c t.val t.isLt).2.2.2.2.2.2 (iblk m c 2 t) (iblk m c 4 t) (iblk m c 5 t) (iblk m c 6 t) (iblk m c 3 t) (iblk m c 5 t) (ix2 r k)) = dxh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (tok t r) := by
  funext k
  refine (pay11_apply _ _ _ _ _ _ _ _).trans ?_
  unfold dxh
  exact congrArg₂ _ (dy_row m c t h1 r k) (g_row m c t k)

/-- An entry of a tile of the gradient. -/
theorem back_row (c : Dev nD) (t : Fin cfg0.N) (h1 : t.val % 8 = 7) (y : S512x2048.Idx) :
    k0_pay12 (F := Ideal) (k0_pay7 (outsAt0 m c t.val t.isLt).2.2.2.2.2.2 (iblk m c 2 t) (iblk m c 4 t)) (k0_pay8 (outsAt0 m c t.val t.isLt).2.2.2.2.2.2 (iblk m c 2 t) (iblk m c 4 t)) (k0_pay11 (outsAt0 m c t.val t.isLt).2.2.2.2.2.2 (iblk m c 2 t) (iblk m c 4 t) (iblk m c 5 t) (iblk m c 6 t) (iblk m c 3 t) (iblk m c 5 t)) y = Norm.back (row (m ((c : Thread nD τ).loc main_arg0)) (m ((c : Thread nD τ).loc main_arg1)) (m ((c : Thread nD τ).loc main_arg2)) (m ((c : Thread nD τ).loc main_arg4)) (tok t (y 0))) (dxh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (tok t (y 0))) (y 1) := by
  refine (back_apply _ _ _ _ _).trans ?_
  exact congrArg₂ (fun f w => Norm.back f w (y 1)) (in_row m c t h1 (y 0)) (dxh_row m c t h1 (y 0))

theorem out7 (c : Dev nD) (t : Fin cfg0.N) (h1 : t.val % 8 = 7) (y : S512x2048.Idx) :
    (outsAt0 m c t.val t.isLt).1 y = Norm.back (row (m ((c : Thread nD τ).loc main_arg0)) (m ((c : Thread nD τ).loc main_arg1)) (m ((c : Thread nD τ).loc main_arg2)) (m ((c : Thread nD τ).loc main_arg4)) (tok t (y 0))) (dxh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (tok t (y 0))) (y 1) := by
  rw [last7 m c t h1]
  exact back_row m c t h1 y

theorem out8 (c : Dev nD) (t : Fin cfg0.N) (h1 : t.val % 8 = 7) (y : S512x2048.Idx) :
    (outsAt0 m c t.val t.isLt).2.1 y = Norm.back (row (m ((c : Thread nD τ).loc main_arg0)) (m ((c : Thread nD τ).loc main_arg1)) (m ((c : Thread nD τ).loc main_arg2)) (m ((c : Thread nD τ).loc main_arg4)) (tok t (y 0))) (dxh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (tok t (y 0))) (y 1) := by
  rw [← back_row m c t h1, last8 m c t h1]
  rfl

/-- One group of 512 tokens' part of the gradient of the scale. -/
def dgPart (c : Dev nD) (s : ℕ) (j : S1x2048.Idx) : EReal :=
  (∑ r : Fin 512, if h : s < 8 then Norm.xhat (row (m ((c : Thread nD τ).loc main_arg0)) (m ((c : Thread nD τ).loc main_arg1)) (m ((c : Thread nD τ).loc main_arg2)) (m ((c : Thread nD τ).loc main_arg4)) ⟨s * 512 + r.val, by omega⟩) (j 1) * dy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨s * 512 + r.val, by omega⟩ (j 1) else 0)

theorem tile9 (c : Dev nD) (t : Fin cfg0.N) (h1 : t.val % 8 = 7) (j : S1x2048.Idx) :
    k0_pay13 (F := Ideal) (k0_pay8 (outsAt0 m c t.val t.isLt).2.2.2.2.2.2 (iblk m c 2 t) (iblk m c 4 t)) (k0_pay10 (outsAt0 m c t.val t.isLt).2.2.2.2.2.2 (iblk m c 2 t) (iblk m c 4 t) (iblk m c 5 t) (iblk m c 6 t) (iblk m c 3 t)) j = dgPart m c (t.val / 8) j := by
  refine (pay13_apply _ _ _).trans ?_
  unfold dgPart
  have hN : t.val < 64 := t.isLt
  refine Fin.sum_fin_congr fun r => ?_
  rw [dif_pos (by omega), mul_comm]
  refine congrArg₂ _ ?_ ?_
  · refine (pay8_apply _ _ _ _).trans ?_
    exact congrArg (fun f => Norm.xhat f (j 1)) (in_row m c t h1 r)
  · exact dy_row m c t h1 r (j 1)

/-- The sum over the groups, after the last point. -/
theorem groups9 (c : Dev nD) (t : Fin cfg0.N) (h : t.val % 64 = 63) (j : S1x2048.Idx) :
    (outsAt0 m c t.val t.isLt).2.2.1 j = ∑ s : Fin 8, dgPart m c s.val j := by
  have hN : t.val < 64 := t.isLt
  refine (Rows.kept 8 cfg0.N (.inl rfl) (fun n h => (outsAt0 m c n h).2.2.1) (dgPart m c)
    (fun t h1 hl j => ?_) (fun t hp h1 hl j => ?_) (fun t hp _ h1 j => ?_) t.val t.isLt (by omega) j).trans ?_
  · rw [first9 m c t h1 hl, tile9 m c t h1]
    exact congrArg (fun n => dgPart m c n j) (by omega)
  · rw [next9 m c t h1 (by omega) hp]
    refine (pay16_apply _ _ _ _).trans ?_
    rw [tile9 m c t h1]
  · exact congrFun (keep9 m c t h1 hp) j
  · rw [show (t.val + 1) / 8 = 8 from by omega, Finset.sum_range]

/-- The sum over all tokens. -/
theorem sum9 (c : Dev nD) (t : Fin cfg0.N) (h : t.val % 64 = 63) (j : S1x2048.Idx) :
    (outsAt0 m c t.val t.isLt).2.2.1 j = ∑ k : Fin 4096, Norm.xhat (row (m ((c : Thread nD τ).loc main_arg0)) (m ((c : Thread nD τ).loc main_arg1)) (m ((c : Thread nD τ).loc main_arg2)) (m ((c : Thread nD τ).loc main_arg4)) k) (j 1) * dy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) k (j 1) := by
  refine (groups9 m c t h j).trans ?_
  unfold dgPart
  refine Fin.sum_mul_add_congr fun s r h => ?_
  rw [dif_pos s.isLt]

/-- One group of 512 tokens' part of the gradient of the offset. -/
def dbPart (c : Dev nD) (s : ℕ) (j : S1x2048.Idx) : EReal :=
  (∑ r : Fin 512, if h : s < 8 then dy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨s * 512 + r.val, by omega⟩ (j 1) else 0)

theorem tile10 (c : Dev nD) (t : Fin cfg0.N) (h1 : t.val % 8 = 7) (j : S1x2048.Idx) :
    k0_pay14 (F := Ideal) (k0_pay10 (outsAt0 m c t.val t.isLt).2.2.2.2.2.2 (iblk m c 2 t) (iblk m c 4 t) (iblk m c 5 t) (iblk m c 6 t) (iblk m c 3 t)) j = dbPart m c (t.val / 8) j := by
  refine (pay14_apply _ _).trans ?_
  unfold dbPart
  have hN : t.val < 64 := t.isLt
  refine Fin.sum_fin_congr fun r => ?_
  rw [dif_pos (by omega)]
  exact dy_row m c t h1 r (j 1)

/-- The sum over the groups, after the last point. -/
theorem groups10 (c : Dev nD) (t : Fin cfg0.N) (h : t.val % 64 = 63) (j : S1x2048.Idx) :
    (outsAt0 m c t.val t.isLt).2.2.2.1 j = ∑ s : Fin 8, dbPart m c s.val j := by
  have hN : t.val < 64 := t.isLt
  refine (Rows.kept 8 cfg0.N (.inl rfl) (fun n h => (outsAt0 m c n h).2.2.2.1) (dbPart m c)
    (fun t h1 hl j => ?_) (fun t hp h1 hl j => ?_) (fun t hp _ h1 j => ?_) t.val t.isLt (by omega) j).trans ?_
  · rw [first10 m c t h1 hl, tile10 m c t h1]
    exact congrArg (fun n => dbPart m c n j) (by omega)
  · rw [next10 m c t h1 (by omega) hp]
    refine (pay17_apply _ _ _).trans ?_
    rw [tile10 m c t h1]
  · exact congrFun (keep10 m c t h1 hp) j
  · rw [show (t.val + 1) / 8 = 8 from by omega, Finset.sum_range]

/-- The sum over all tokens. -/
theorem sum10 (c : Dev nD) (t : Fin cfg0.N) (h : t.val % 64 = 63) (j : S1x2048.Idx) :
    (outsAt0 m c t.val t.isLt).2.2.2.1 j = ∑ k : Fin 4096, dy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) k (j 1) := by
  refine (groups10 m c t h j).trans ?_
  unfold dbPart
  refine Fin.sum_mul_add_congr fun s r h => ?_
  rw [dif_pos s.isLt]

/-- One group of 512 tokens' part of the gradient of the product's offset. -/
def dbfPart (c : Dev nD) (s : ℕ) (j : S1x2048.Idx) : EReal :=
  (∑ r : Fin 512, if h : s < 8 then Norm.back (row (m ((c : Thread nD τ).loc main_arg0)) (m ((c : Thread nD τ).loc main_arg1)) (m ((c : Thread nD τ).loc main_arg2)) (m ((c : Thread nD τ).loc main_arg4)) ⟨s * 512 + r.val, by omega⟩) (dxh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨s * 512 + r.val, by omega⟩) (j 1) else 0)

theorem tile11 (c : Dev nD) (t : Fin cfg0.N) (h1 : t.val % 8 = 7) (j : S1x2048.Idx) :
    k0_pay18 (F := Ideal) (k0_pay7 (outsAt0 m c t.val t.isLt).2.2.2.2.2.2 (iblk m c 2 t) (iblk m c 4 t)) (k0_pay8 (outsAt0 m c t.val t.isLt).2.2.2.2.2.2 (iblk m c 2 t) (iblk m c 4 t)) (k0_pay11 (outsAt0 m c t.val t.isLt).2.2.2.2.2.2 (iblk m c 2 t) (iblk m c 4 t) (iblk m c 5 t) (iblk m c 6 t) (iblk m c 3 t) (iblk m c 5 t)) j = dbfPart m c (t.val / 8) j := by
  refine (pay18_apply _ _ _ _).trans ?_
  unfold dbfPart
  have hN : t.val < 64 := t.isLt
  refine Fin.sum_fin_congr fun r => ?_
  rw [dif_pos (by omega)]
  exact back_row m c t h1 (ix2 r (j 1))

/-- The sum over the groups, after the last point. -/
theorem groups11 (c : Dev nD) (t : Fin cfg0.N) (h : t.val % 64 = 63) (j : S1x2048.Idx) :
    (outsAt0 m c t.val t.isLt).2.2.2.2.1 j = ∑ s : Fin 8, dbfPart m c s.val j := by
  have hN : t.val < 64 := t.isLt
  refine (Rows.kept 8 cfg0.N (.inl rfl) (fun n h => (outsAt0 m c n h).2.2.2.2.1) (dbfPart m c)
    (fun t h1 hl j => ?_) (fun t hp h1 hl j => ?_) (fun t hp _ h1 j => ?_) t.val t.isLt (by omega) j).trans ?_
  · rw [first11 m c t h1 hl, tile11 m c t h1]
    exact congrArg (fun n => dbfPart m c n j) (by omega)
  · rw [next11 m c t h1 (by omega) hp]
    refine (pay3_apply _ _ _).trans ?_
    rw [tile11 m c t h1]
  · exact congrFun (keep11 m c t h1 hp) j
  · rw [show (t.val + 1) / 8 = 8 from by omega, Finset.sum_range]

/-- The sum over all tokens. -/
theorem sum11 (c : Dev nD) (t : Fin cfg0.N) (h : t.val % 64 = 63) (j : S1x2048.Idx) :
    (outsAt0 m c t.val t.isLt).2.2.2.2.1 j = ∑ k : Fin 4096, Norm.back (row (m ((c : Thread nD τ).loc main_arg0)) (m ((c : Thread nD τ).loc main_arg1)) (m ((c : Thread nD τ).loc main_arg2)) (m ((c : Thread nD τ).loc main_arg4)) k) (dxh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) k) (j 1) := by
  refine (groups11 m c t h j).trans ?_
  unfold dbfPart
  refine Fin.sum_mul_add_congr fun s r h => ?_
  rw [dif_pos s.isLt]

/-- One group of 512 tokens' part of the loss. -/
def lossPart (c : Dev nD) (s : ℕ) (j : S1x2048.Idx) : EReal :=
  (∑ r : Fin 512, if h : s < 8 then err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨s * 512 + r.val, by omega⟩ (j 1) * err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨s * 512 + r.val, by omega⟩ (j 1) else 0) * Ideal.ofBits .f32 0x39800000#32

theorem tile12 (c : Dev nD) (t : Fin cfg0.N) (h1 : t.val % 8 = 7) (j : S1x2048.Idx) :
    k0_pay4 (F := Ideal) (k0_pay9 (outsAt0 m c t.val t.isLt).2.2.2.2.2.2 (iblk m c 2 t) (iblk m c 4 t) (iblk m c 5 t) (iblk m c 6 t) (iblk m c 3 t)) j = lossPart m c (t.val / 8) j := by
  refine (pay4_apply _ _).trans ?_
  unfold lossPart
  have hN : t.val < 64 := t.isLt
  refine congrArg₂ _ (Fin.sum_fin_congr fun r => ?_) rfl
  rw [dif_pos (by omega)]
  exact congrArg₂ _ (err_row m c t h1 r (j 1)) (err_row m c t h1 r (j 1))

/-- The sum over the groups, after the last point. -/
theorem groups12 (c : Dev nD) (t : Fin cfg0.N) (h : t.val % 64 = 63) (j : S1x2048.Idx) :
    (outsAt0 m c t.val t.isLt).2.2.2.2.2.1 j = ∑ s : Fin 8, lossPart m c s.val j := by
  have hN : t.val < 64 := t.isLt
  refine (Rows.kept 8 cfg0.N (.inl rfl) (fun n h => (outsAt0 m c n h).2.2.2.2.2.1) (lossPart m c)
    (fun t h1 hl j => ?_) (fun t hp h1 hl j => ?_) (fun t hp _ h1 j => ?_) t.val t.isLt (by omega) j).trans ?_
  · rw [first12 m c t h1 hl, tile12 m c t h1]
    exact congrArg (fun n => lossPart m c n j) (by omega)
  · rw [next12 m c t h1 (by omega) hp]
    refine (pay5_apply _ _ _).trans ?_
    rw [tile12 m c t h1]
  · exact congrFun (keep12 m c t h1 hp) j
  · rw [show (t.val + 1) / 8 = 8 from by omega, Finset.sum_range]

/-- Every argument is finite. -/
theorem finite (hp : Cert.Pre_Ff2Ideal_ff2_finite m) (c : Dev nD) :
    (∀ i : S4096x8192.Idx, Norm.Re (((m ((c : Thread nD τ).loc main_arg0)) : FVec Ideal S4096x8192 .f32) i)) ∧ (∀ i : S8192x2048.Idx, Norm.Re (((m ((c : Thread nD τ).loc main_arg1)) : FVec Ideal S8192x2048 .f32) i)) ∧ (∀ i : S4096x2048.Idx, Norm.Re (((m ((c : Thread nD τ).loc main_arg2)) : FVec Ideal S4096x2048 .f32) i)) ∧ (∀ i : S4096x2048.Idx, Norm.Re (((m ((c : Thread nD τ).loc main_arg3)) : FVec Ideal S4096x2048 .f32) i)) ∧ (∀ i : S1x2048.Idx, Norm.Re (((m ((c : Thread nD τ).loc main_arg4)) : FVec Ideal S1x2048 .f32) i)) ∧ (∀ i : S1x2048.Idx, Norm.Re (((m ((c : Thread nD τ).loc main_arg5)) : FVec Ideal S1x2048 .f32) i)) ∧ (∀ i : S1x2048.Idx, Norm.Re (((m ((c : Thread nD τ).loc main_arg6)) : FVec Ideal S1x2048 .f32) i)) := by
  have h := congrFun (hp c) (fun a => Fin.elim0 a)
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨Finite.all _ _ _ _ _ h0, Finite.all _ _ _ _ _ h1, Finite.all _ _ _ _ _ h2, Finite.all _ _ _ _ _ h3, Finite.all _ _ _ _ _ h4, Finite.all _ _ _ _ _ h5, Finite.all _ _ _ _ _ h6⟩

theorem re_row (hp : Cert.Pre_Ff2Ideal_ff2_finite m) (c : Dev nD) (t : Fin 4096) (k : Fin 2048) : Norm.Re (row (m ((c : Thread nD τ).loc main_arg0)) (m ((c : Thread nD τ).loc main_arg1)) (m ((c : Thread nD τ).loc main_arg2)) (m ((c : Thread nD τ).loc main_arg4)) t k) := by
  obtain ⟨h0, h1, h2, h3, h4, h5, h6⟩ := finite m hp c
  unfold row
  exact (Finite.alpha.mul (h2 _)).add ((Norm.Re.sum _ fun f => (h0 _).mul (h1 _)).add (h4 _))

theorem re_err (hp : Cert.Pre_Ff2Ideal_ff2_finite m) (c : Dev nD) (t : Fin 4096) (k : Fin 2048) : Norm.Re (err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) t k) := by
  obtain ⟨h0, h1, h2, h3, h4, h5, h6⟩ := finite m hp c
  unfold err
  exact (((Norm.Re.xhat (re_row m hp c t) k).mul (h5 _)).add (h6 _)).sub (h3 _)

/-- On finite arguments the two spellings of the gradient through the norm agree. -/
theorem agree (hp : Cert.Pre_Ff2Ideal_ff2_finite m) (c : Dev nD) (t : Fin 4096) (k : Fin 2048) :
    Norm.back (row (m ((c : Thread nD τ).loc main_arg0)) (m ((c : Thread nD τ).loc main_arg1)) (m ((c : Thread nD τ).loc main_arg2)) (m ((c : Thread nD τ).loc main_arg4)) t) (dxh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) t) k = Norm.backR (row (m ((c : Thread nD τ).loc main_arg0)) (m ((c : Thread nD τ).loc main_arg1)) (m ((c : Thread nD τ).loc main_arg2)) (m ((c : Thread nD τ).loc main_arg4)) t) (dxh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) t) k := by
  obtain ⟨h0, h1, h2, h3, h4, h5, h6⟩ := finite m hp c
  refine Norm.back_eq (re_row m hp c t) (fun k => ?_) k
  unfold dxh dy
  exact ((re_err m hp c t k).mul Finite.inv_N).mul (h5 _)

/-- The loss, scaled in each group, is the whole scaled once. -/
theorem sum12 (hp : Cert.Pre_Ff2Ideal_ff2_finite m) (c : Dev nD) (t : Fin cfg0.N) (h : t.val % 64 = 63) (j : S1x2048.Idx) :
    (outsAt0 m c t.val t.isLt).2.2.2.2.2.1 j = Ideal.div (Ideal.ofBits .f32 0x3F000000#32 * ∑ k : Fin 4096, err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) k (j 1) * err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) k (j 1)) Norm.N := by
  rw [Finite.half_mean _ fun k => (re_err m hp c k (j 1)).mul (re_err m hp c k (j 1))]
  refine (groups12 m c t h j).trans ?_
  unfold lossPart
  have e : ∀ s : Fin 8, (∑ r : Fin 512, if h : s.val < 8 then err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨s.val * 512 + r.val, by omega⟩ (j 1) * err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨s.val * 512 + r.val, by omega⟩ (j 1) else 0) * Ideal.ofBits .f32 0x39800000#32
      = ∑ r : Fin 512, err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨s.val * 512 + r.val, by omega⟩ (j 1) * err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨s.val * 512 + r.val, by omega⟩ (j 1) * Ideal.ofBits .f32 0x39800000#32 := fun s => by
    rw [Finite.sum_scale _ fun r => ?_]
    · refine Fin.sum_fin_congr fun r => ?_
      rw [dif_pos s.isLt]
    · rw [dif_pos s.isLt]
      exact (re_err m hp c _ _).mul (re_err m hp c _ _)
  refine (Fin.sum_fin_congr e).trans ?_
  refine Fin.sum_mul_add_congr fun s r h => ?_
  rfl

/-- The tiles fill the reference's value. -/
theorem final7 (hp : Cert.Pre_Ff2Ideal_ff2_finite m) (c : Dev nD) : (dats m 0 c).arrAt 7 cfg0.N
    = Cert.Ff2RefIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  have h1 : t.val % 8 = 7 := (flush0_7 t).1 hf
  have em : (win0_7.blk t).view.emb y = ix2 (tok t (y 0)) (y 1) := by
    obtain ⟨e0, e1, e2, e3, e4, e5, e6, e7, e8, e9, e10, e11, e12⟩ := idx t
    blk_ext [e7]
  rw [ref_dr, em]
  exact (out7 m c t h1 y).trans (agree m hp c _ _)

/-- The tiles fill the reference's value. -/
theorem final8 (hp : Cert.Pre_Ff2Ideal_ff2_finite m) (c : Dev nD) : (dats m 0 c).arrAt 8 cfg0.N
    = Cert.Ff2RefIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  have h1 : t.val % 8 = 7 := (flush0_8 t).1 hf
  have em : (win0_8.blk t).view.emb y = ix2 (tok t (y 0)) (y 1) := by
    obtain ⟨e0, e1, e2, e3, e4, e5, e6, e7, e8, e9, e10, e11, e12⟩ := idx t
    blk_ext [e8]
  rw [ref_drb, em]
  exact (out8 m c t h1 y).trans (agree m hp c _ _)

/-- The one block holds the reference's value. -/
theorem final9 (c : Dev nD) : (dats m 0 c).arrAt 9 cfg0.N
    = Cert.Ff2RefIdeal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]
  have h1 : t.val % 64 = 63 := (flush0_9 t).1 hf
  have em : (win0_9.blk t).view.emb y = ix2 (y 0) (y 1) := by
    obtain ⟨e0, e1, e2, e3, e4, e5, e6, e7, e8, e9, e10, e11, e12⟩ := idx t
    blk_ext [e9]
  rw [ref_dg, em]
  exact sum9 m c t h1 y

/-- The one block holds the reference's value. -/
theorem final10 (c : Dev nD) : (dats m 0 c).arrAt 10 cfg0.N
    = Cert.Ff2RefIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  blk_simp
  rw [after0_10]
  have h1 : t.val % 64 = 63 := (flush0_10 t).1 hf
  have em : (win0_10.blk t).view.emb y = ix2 (y 0) (y 1) := by
    obtain ⟨e0, e1, e2, e3, e4, e5, e6, e7, e8, e9, e10, e11, e12⟩ := idx t
    blk_ext [e10]
  rw [ref_db, em]
  exact sum10 m c t h1 y

/-- The one block holds the reference's value. -/
theorem final11 (hp : Cert.Pre_Ff2Ideal_ff2_finite m) (c : Dev nD) : (dats m 0 c).arrAt 11 cfg0.N
    = Cert.Ff2RefIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t hf y => ?_
  blk_simp
  rw [after0_11]
  have h1 : t.val % 64 = 63 := (flush0_11 t).1 hf
  have em : (win0_11.blk t).view.emb y = ix2 (y 0) (y 1) := by
    obtain ⟨e0, e1, e2, e3, e4, e5, e6, e7, e8, e9, e10, e11, e12⟩ := idx t
    blk_ext [e11]
  rw [ref_dbf, em]
  exact (sum11 m c t h1 y).trans (Fin.sum_fin_congr fun k => agree m hp c _ _)

/-- The one block holds the reference's value. -/
theorem final12 (hp : Cert.Pre_Ff2Ideal_ff2_finite m) (c : Dev nD) : (dats m 0 c).arrAt 12 cfg0.N
    = Cert.Ff2RefIdeal.Read.val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t hf y => ?_
  blk_simp
  rw [after0_12]
  have h1 : t.val % 64 = 63 := (flush0_12 t).1 hf
  have em : (win0_12.blk t).view.emb y = ix2 (y 0) (y 1) := by
    obtain ⟨e0, e1, e2, e3, e4, e5, e6, e7, e8, e9, e10, e11, e12⟩ := idx t
    blk_ext [e12]
  rw [ref_loss, em]
  exact sum12 m hp c t h1 y

/-- Both programs end with the same values in the results. -/
theorem tie : Cert.algebraic_Ff2Ideal_Ff2RefIdeal_pre_ff2_finite := by
  intro m g m' g' hp ha
  refine ⟨fun c => Cert.Ff2RefIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
    fun c => Cert.Ff2RefIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
    fun c => Cert.Ff2RefIdeal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
    fun c => Cert.Ff2RefIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
    fun c => Cert.Ff2RefIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
    fun c => Cert.Ff2RefIdeal.Read.val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), ?_, ?_⟩
  · refine (θ_run defs _ _).mono (fun r h c => ?_) (Value.run_blocks (F := Ideal) m g)
    exact ⟨((h c).1).trans (final7 m hp c), ((h c).2.1).trans (final8 m hp c), ((h c).2.2.1).trans (final9 m c), ((h c).2.2.2.1).trans (final10 m c), ((h c).2.2.2.2.1).trans (final11 m hp c), ((h c).2.2.2.2.2.1).trans (final12 m hp c), (h c).2.2.2.2.2.2⟩
  · refine (θ_run Cert.Ff2RefIdeal.defs _ _).mono (fun r h c => ?_) (Cert.Ff2RefIdeal.Value.run (F := Ideal) m' g')
    obtain ⟨a0, a1, a2, a3, a4, a5, a6⟩ := ha c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
    · refine (Cert.Ff2RefIdeal.Read.val_main_v84_eq m' c).trans ?_; rw [a0, a1, a2, a3, a4, a5, a6]
    · refine (Cert.Ff2RefIdeal.Read.val_main_v125_eq m' c).trans ?_; rw [a0, a1, a2, a3, a4, a5, a6]
    · refine (Cert.Ff2RefIdeal.Read.val_main_v86_eq m' c).trans ?_; rw [a0, a1, a2, a3, a4, a5, a6]
    · refine (Cert.Ff2RefIdeal.Read.val_main_v85_eq m' c).trans ?_; rw [a0, a1, a2, a3, a4, a5, a6]
    · refine (Cert.Ff2RefIdeal.Read.val_main_v90_eq m' c).trans ?_; rw [a0, a1, a2, a3, a4, a5, a6]
    · refine (Cert.Ff2RefIdeal.Read.val_main_v124_eq m' c).trans ?_; rw [a0, a1, a2, a3, a4, a5, a6]

/-- The reference runs, leaves its arguments as they are, and has no counter to leave standing. -/
theorem refFrame : Cert.quiescent_Ff2RefIdeal := fun m ρ _ =>
  (θ_run _ _ _).mono (fun r h => ⟨fun c => (h c).2.2.2.2.2.2, sem_eq_zero_of_no_sems rfl r.2⟩) (Cert.Ff2RefIdeal.Value.run (F := Ideal) m ρ)

/-- The same under the precondition. -/
theorem refFramePre : Cert.quiescent_Ff2RefIdeal_pre_ff2_finite := fun m ρ _ => refFrame m ρ trivial

end Cert.Ff2Ideal.Hand

end
-- ==== Proof.Dh1Ref.lean ====
/- The reference of the gradient through the first MLP product and the middle layer norm, entry by entry. -/
module

public import proofs.«01_k».proof.Defs
public import proofs.«01_k».proof.Proof.Gen.Dh1Ideal.Frame
public import proofs.«01_k».proof.Proof.Gen.Dh1RefIdeal.Run
public import proofs.«01_k».proof.Proof.Gen.Dh1RefIdeal.Read
public import Idealize.ShloMosaic.Lib.Pipeline.ValueKit
public import Idealize.ShloMosaic.Lib.Pointwise
public import proofs.«01_k».proof.Proof.Norm

@[expose] public section

set_option maxRecDepth 16384

noncomputable section

namespace Cert.Dh1Ideal.Hand

open Cert.Dh1Ideal Cert.Dh1Ideal.Gen Idealize.ShloMosaic Idealize.ShloMosaic.TcCoe Idealize.SL.Sem
open Idealize.ShloMosaic.Pipeline (Dat)

/-- The gradient at the layer norm's output: the scaled residual's and the MLP product's. -/
def dy (x0 : FVec Ideal S4096x8192 .f32) (x1 : FVec Ideal S2048x8192 .f32) (x2 : FVec Ideal S4096x2048 .f32) (t : Fin 4096) (k : Fin 2048) : EReal :=
  Ideal.ofBits .f32 0x3F9837F0#32 * x2 (ix2 t k) + ∑ f : Fin 8192, x0 (ix2 t f) * x1 (ix2 k f)

/-- A row of the layer norm's input. -/
def row (x3 : FVec Ideal S4096x2048 .f32) (t : Fin 4096) : Norm.Row := fun k => x3 (ix2 t k)

/-- A row of the gradient at the layer norm's output, times the scale. -/
def dxh (x0 : FVec Ideal S4096x8192 .f32) (x1 : FVec Ideal S2048x8192 .f32) (x2 : FVec Ideal S4096x2048 .f32) (x4 : FVec Ideal S1x2048 .f32) (t : Fin 4096) : Norm.Row := fun k => dy x0 x1 x2 t k * x4 (ix2 0 k)

theorem ref_dy (x0 : FVec Ideal S4096x8192 .f32) (x1 : FVec Ideal S2048x8192 .f32) (x2 : FVec Ideal S4096x2048 .f32) (i : S4096x2048.Idx) : Cert.Dh1RefIdeal.Read.val_main_v38 (F := Ideal) x0 x1 x2 i = dy x0 x1 x2 (i 0) (i 1) := by
  unfold Cert.Dh1RefIdeal.Read.val_main_v38 Cert.Dh1RefIdeal.Read.val_main_v37 Cert.Dh1RefIdeal.Read.val_main_v36 Cert.Dh1RefIdeal.Read.val_main_v35 Cert.Dh1RefIdeal.Read.val_main_cst_8 dy
  idx_vars i
  pointwise

theorem ref_cen (x3 : FVec Ideal S4096x2048 .f32) (i : S4096x2048.Idx) : Cert.Dh1RefIdeal.Read.val_main_v8 (F := Ideal) x3 i = Norm.cen (row x3 (i 0)) (i 1) := by
  unfold Cert.Dh1RefIdeal.Read.val_main_v8 Cert.Dh1RefIdeal.Read.val_main_v7 Cert.Dh1RefIdeal.Read.val_main_v6 Cert.Dh1RefIdeal.Read.val_main_v5 Cert.Dh1RefIdeal.Read.val_main_cst_1 Cert.Dh1RefIdeal.Read.val_main_v4 Cert.Dh1RefIdeal.Read.val_main_v3 Cert.Dh1RefIdeal.Read.val_main_cst_0
  idx_vars i
  pointwise [Norm.cen, Norm.mean, row]

theorem ref_cen2 (x3 : FVec Ideal S4096x2048 .f32) (i : S4096x2048.Idx) : Cert.Dh1RefIdeal.Read.val_main_v17 (F := Ideal) x3 i = Norm.cen (row x3 (i 0)) (i 1) := by
  rw [← ref_cen]
  rfl

theorem ref_var (x3 : FVec Ideal S4096x2048 .f32) (i : Cert.Dh1RefIdeal.S4096x1.Idx) : Cert.Dh1RefIdeal.Read.val_main_v19 (F := Ideal) x3 i = Norm.vare (row x3 (i 0)) := by
  unfold Cert.Dh1RefIdeal.Read.val_main_v19 Cert.Dh1RefIdeal.Read.val_main_v18 Cert.Dh1RefIdeal.Read.val_main_cst_5 Cert.Dh1RefIdeal.Read.val_main_v15 Cert.Dh1RefIdeal.Read.val_main_v14 Cert.Dh1RefIdeal.Read.val_main_cst_4 Cert.Dh1RefIdeal.Read.val_main_v13 Cert.Dh1RefIdeal.Read.val_main_v12 Cert.Dh1RefIdeal.Read.val_main_cst_3 Cert.Dh1RefIdeal.Read.val_main_v9
  idx_vars i
  pointwise [Norm.vare, ref_cen]

theorem ref_rstd (x3 : FVec Ideal S4096x2048 .f32) (i : Cert.Dh1RefIdeal.S4096x1.Idx) : Cert.Dh1RefIdeal.Read.val_main_v20 (F := Ideal) x3 i = Norm.rstd (row x3 (i 0)) := by
  unfold Cert.Dh1RefIdeal.Read.val_main_v20
  idx_vars i
  pointwise [Norm.rstd, ref_var]

theorem ref_xhat (x3 : FVec Ideal S4096x2048 .f32) (i : S4096x2048.Idx) : Cert.Dh1RefIdeal.Read.val_main_v25 (F := Ideal) x3 i = Norm.xhat (row x3 (i 0)) (i 1) := by
  unfold Cert.Dh1RefIdeal.Read.val_main_v25 Cert.Dh1RefIdeal.Read.val_main_v24
  idx_vars i
  pointwise [Norm.xhat, ref_cen2, ref_rstd]

theorem ref_dxh (x0 : FVec Ideal S4096x8192 .f32) (x1 : FVec Ideal S2048x8192 .f32) (x2 : FVec Ideal S4096x2048 .f32) (x4 : FVec Ideal S1x2048 .f32) (i : S4096x2048.Idx) : Cert.Dh1RefIdeal.Read.val_main_v46 (F := Ideal) x0 x1 x2 x4 i = dxh x0 x1 x2 x4 (i 0) (i 1) := by
  unfold Cert.Dh1RefIdeal.Read.val_main_v46 Cert.Dh1RefIdeal.Read.val_main_v45 Cert.Dh1RefIdeal.Read.val_main_v26 Cert.Dh1RefIdeal.Read.val_main_v1
  idx_vars i
  pointwise [dxh, ref_dy]

/-- The gradient's part with the inverse deviation kept fixed. -/
theorem ref_v52 (x0 : FVec Ideal S4096x8192 .f32) (x1 : FVec Ideal S2048x8192 .f32) (x2 : FVec Ideal S4096x2048 .f32) (x3 : FVec Ideal S4096x2048 .f32) (x4 : FVec Ideal S1x2048 .f32) (i : S4096x2048.Idx) : Cert.Dh1RefIdeal.Read.val_main_v52 (F := Ideal) x0 x1 x2 x3 x4 i
    = dxh x0 x1 x2 x4 (i 0) (i 1) * Norm.rstd (row x3 (i 0)) := by
  unfold Cert.Dh1RefIdeal.Read.val_main_v52 Cert.Dh1RefIdeal.Read.val_main_v51
  idx_vars i
  pointwise [ref_dxh, ref_rstd]

/-- The gradient at the variance. -/
theorem ref_sc (x0 : FVec Ideal S4096x8192 .f32) (x1 : FVec Ideal S2048x8192 .f32) (x2 : FVec Ideal S4096x2048 .f32) (x3 : FVec Ideal S4096x2048 .f32) (x4 : FVec Ideal S1x2048 .f32) (i : Cert.Dh1RefIdeal.S4096.Idx) : Cert.Dh1RefIdeal.Read.val_main_v59 (F := Ideal) x0 x1 x2 x3 x4 i
    = Norm.sc (row x3 (i 0)) (dxh x0 x1 x2 x4 (i 0)) := by
  unfold Cert.Dh1RefIdeal.Read.val_main_v59 Cert.Dh1RefIdeal.Read.val_main_cst_16 Cert.Dh1RefIdeal.Read.val_main_v58 Cert.Dh1RefIdeal.Read.val_main_v57 Cert.Dh1RefIdeal.Read.val_main_cst_15 Cert.Dh1RefIdeal.Read.val_main_v53 Cert.Dh1RefIdeal.Read.val_main_v50 Cert.Dh1RefIdeal.Read.val_main_v49 Cert.Dh1RefIdeal.Read.val_main_cst_13 Cert.Dh1RefIdeal.Read.val_main_v48 Cert.Dh1RefIdeal.Read.val_main_v23 Cert.Dh1RefIdeal.Read.val_main_v22 Cert.Dh1RefIdeal.Read.val_main_cst_6 Cert.Dh1RefIdeal.Read.val_main_v21
  idx_vars i
  pointwise [Norm.sc, ref_dxh, ref_rstd, ref_var, ref_cen2]
  rw [Fin.sum_univ_eq_sum_range (fun _ => _) 1, Finset.sum_range_one]

/-- The gradient's part through the variance. -/
theorem ref_v61 (x0 : FVec Ideal S4096x8192 .f32) (x1 : FVec Ideal S2048x8192 .f32) (x2 : FVec Ideal S4096x2048 .f32) (x3 : FVec Ideal S4096x2048 .f32) (x4 : FVec Ideal S1x2048 .f32) (i : S4096x2048.Idx) : Cert.Dh1RefIdeal.Read.val_main_v61 (F := Ideal) x0 x1 x2 x3 x4 i
    = Norm.sc (row x3 (i 0)) (dxh x0 x1 x2 x4 (i 0)) * (Ideal.ofBits .f32 0x40000000#32 * Norm.cen (row x3 (i 0)) (i 1)) := by
  unfold Cert.Dh1RefIdeal.Read.val_main_v61 Cert.Dh1RefIdeal.Read.val_main_v60 Cert.Dh1RefIdeal.Read.val_main_v11 Cert.Dh1RefIdeal.Read.val_main_v10 Cert.Dh1RefIdeal.Read.val_main_cst_2
  idx_vars i
  pointwise [ref_sc, ref_cen]

/-- The gradient at the mean. -/
theorem ref_v69 (x0 : FVec Ideal S4096x8192 .f32) (x1 : FVec Ideal S2048x8192 .f32) (x2 : FVec Ideal S4096x2048 .f32) (x3 : FVec Ideal S4096x2048 .f32) (x4 : FVec Ideal S1x2048 .f32) (i : Cert.Dh1RefIdeal.S4096.Idx) : Cert.Dh1RefIdeal.Read.val_main_v69 (F := Ideal) x0 x1 x2 x3 x4 i
    = Ideal.div ((∑ k, -(dxh x0 x1 x2 x4 (i 0) k * Norm.rstd (row x3 (i 0)))) + ∑ k, -(Norm.sc (row x3 (i 0)) (dxh x0 x1 x2 x4 (i 0)) * (Ideal.ofBits .f32 0x40000000#32 * Norm.cen (row x3 (i 0)) k))) Norm.N := by
  unfold Cert.Dh1RefIdeal.Read.val_main_v69 Cert.Dh1RefIdeal.Read.val_main_cst_19 Cert.Dh1RefIdeal.Read.val_main_v68 Cert.Dh1RefIdeal.Read.val_main_v67 Cert.Dh1RefIdeal.Read.val_main_cst_18 Cert.Dh1RefIdeal.Read.val_main_v66 Cert.Dh1RefIdeal.Read.val_main_v64 Cert.Dh1RefIdeal.Read.val_main_v63 Cert.Dh1RefIdeal.Read.val_main_cst_17 Cert.Dh1RefIdeal.Read.val_main_v62 Cert.Dh1RefIdeal.Read.val_main_v56 Cert.Dh1RefIdeal.Read.val_main_v55 Cert.Dh1RefIdeal.Read.val_main_cst_14 Cert.Dh1RefIdeal.Read.val_main_v54
  idx_vars i
  pointwise [ref_v52, ref_v61]
  rw [Fin.sum_univ_eq_sum_range (fun _ => _) 1, Finset.sum_range_one]

/-- The reference's gradient at the layer norm's input. -/
theorem ref_dr (x0 : FVec Ideal S4096x8192 .f32) (x1 : FVec Ideal S2048x8192 .f32) (x2 : FVec Ideal S4096x2048 .f32) (x3 : FVec Ideal S4096x2048 .f32) (x4 : FVec Ideal S1x2048 .f32) (i : S4096x2048.Idx) : Cert.Dh1RefIdeal.Read.val_main_v71 (F := Ideal) x0 x1 x2 x3 x4 i
    = Norm.backR (row x3 (i 0)) (dxh x0 x1 x2 x4 (i 0)) (i 1) := by
  unfold Cert.Dh1RefIdeal.Read.val_main_v71 Cert.Dh1RefIdeal.Read.val_main_v70 Cert.Dh1RefIdeal.Read.val_main_v65
  idx_vars i
  pointwise [ref_v52, ref_v61, ref_v69, Norm.backR]

/-- The same after the rounding to bf16, which is the identity over the reals. -/
theorem ref_drb (x0 : FVec Ideal S4096x8192 .f32) (x1 : FVec Ideal S2048x8192 .f32) (x2 : FVec Ideal S4096x2048 .f32) (x3 : FVec Ideal S4096x2048 .f32) (x4 : FVec Ideal S1x2048 .f32) (i : S4096x2048.Idx) : Cert.Dh1RefIdeal.Read.val_main_v74 (F := Ideal) x0 x1 x2 x3 x4 i
    = Norm.backR (row x3 (i 0)) (dxh x0 x1 x2 x4 (i 0)) (i 1) := by
  rw [← ref_dr]
  rfl

/-- The reference's gradient of the scale. -/
theorem ref_dg (x0 : FVec Ideal S4096x8192 .f32) (x1 : FVec Ideal S2048x8192 .f32) (x2 : FVec Ideal S4096x2048 .f32) (x3 : FVec Ideal S4096x2048 .f32) (i : S1x2048.Idx) : Cert.Dh1RefIdeal.Read.val_main_v73 (F := Ideal) x0 x1 x2 x3 i
    = ∑ t : Fin 4096, Norm.xhat (row x3 t) (i 1) * dy x0 x1 x2 t (i 1) := by
  unfold Cert.Dh1RefIdeal.Read.val_main_v73 Cert.Dh1RefIdeal.Read.val_main_v47 Cert.Dh1RefIdeal.Read.val_main_cst_12 Cert.Dh1RefIdeal.Read.val_main_v44 Cert.Dh1RefIdeal.Read.val_main_v43 Cert.Dh1RefIdeal.Read.val_main_cst_11 Cert.Dh1RefIdeal.Read.val_main_v42
  idx_vars i
  pointwise [ref_xhat, ref_dy]
  rw [Fin.sum_univ_eq_sum_range (fun _ => _) 1, Finset.sum_range_one]

/-- The reference's gradient of the offset. -/
theorem ref_db (x0 : FVec Ideal S4096x8192 .f32) (x1 : FVec Ideal S2048x8192 .f32) (x2 : FVec Ideal S4096x2048 .f32) (i : S1x2048.Idx) : Cert.Dh1RefIdeal.Read.val_main_v72 (F := Ideal) x0 x1 x2 i
    = ∑ t : Fin 4096, dy x0 x1 x2 t (i 1) := by
  unfold Cert.Dh1RefIdeal.Read.val_main_v72 Cert.Dh1RefIdeal.Read.val_main_v41 Cert.Dh1RefIdeal.Read.val_main_cst_10 Cert.Dh1RefIdeal.Read.val_main_v40 Cert.Dh1RefIdeal.Read.val_main_v39 Cert.Dh1RefIdeal.Read.val_main_cst_9
  idx_vars i
  pointwise [ref_dy]
  rw [Fin.sum_univ_eq_sum_range (fun _ => _) 1, Finset.sum_range_one]

end Cert.Dh1Ideal.Hand

end
-- ==== Proof.Dh1.lean ====
/- The gradient through the first MLP product and the middle layer norm, tile by tile, is the reference's. -/
module

public import proofs.«01_k».proof.Defs
public import proofs.«01_k».proof.Proof.Gen.Dh1Ideal.Value
public import proofs.«01_k».proof.Proof.Gen.Dh1RefIdeal.Run
public import proofs.«01_k».proof.Proof.Gen.Dh1RefIdeal.Read
public import Idealize.ShloMosaic.Lib.Pipeline.ValueKit
public import Idealize.ShloMosaic.Lib.Pointwise
public import proofs.«01_k».proof.Proof.Dh1Ref
public import proofs.«01_k».proof.Proof.Rows
public import proofs.«01_k».proof.Proof.Finite
public import Idealize.ShloMosaic.Lib.Pipeline.ReadBack
public import proofs.«01_k».proof.Proof.Gen.Pre_dh1_finite

@[expose] public section

set_option maxRecDepth 16384

noncomputable section

namespace Cert.Dh1Ideal.Hand

open Cert.Dh1Ideal Cert.Dh1Ideal.Gen Idealize.ShloMosaic Idealize.ShloMosaic.TcCoe Idealize.SL.Sem
open Idealize.ShloMosaic.Pipeline (Dat)

variable (m : (ℓ : Loc nD τ sig) → Buf (Elt Ideal) ℓ)

/-- Which block of each array a grid point takes: eight points in turn go over the shards for one group of 512 tokens. -/
theorem idx : ∀ t : Fin cfg0.N, win0_0.index t = ![t.val / 8, t.val % 8] ∧ win0_1.index t = ![t.val % 8, 0, 0] ∧ win0_2.index t = ![t.val / 8, 0] ∧ win0_3.index t = ![t.val / 8, 0] ∧ win0_4.index t = ![0, 0] ∧ win0_5.index t = ![t.val / 8, 0] ∧ win0_6.index t = ![t.val / 8, 0] ∧ win0_7.index t = ![0, 0] ∧ win0_8.index t = ![0, 0] :=
  (by decide +kernel : ∀ t : Fin grid0.N, _)

/-- The token a row of a tile holds. -/
abbrev tok (t : Fin cfg0.N) (r : Fin 512) : Fin 4096 := ⟨t.val / 8 * 512 + r.val, by have : t.val < 64 := t.isLt; omega⟩

/-- A product is added to what is there. -/
theorem pay2_apply (v : FVec Ideal S512x2048 .f32) (a : FVec Ideal S512x1024 .bf16) (b : FVec Ideal S1x2048x1024 .bf16) (i : S512x2048.Idx) :
    k0_pay2 (F := Ideal) v a b i = v i + ∑ e : Fin 1024, a (ix2 (i 0) e) * b (ix3 0 (i 1) e) := by
  idx_vars i
  pointwise [k0_pay2]

theorem pay1_apply (i : S512x2048.Idx) : k0_pay1 (F := Ideal) i = 0 := by
  idx_vars i
  pointwise [k0_pay1]

theorem pay9_apply (v : FVec Ideal S512x2048 .f32) (i : S512x2048.Idx) : k0_pay9 (F := Ideal) v i = Norm.cen (fun k => v (ix2 (i 0) k)) (i 1) := by
  idx_vars i
  pointwise [k0_pay9, Norm.cen, Norm.mean]

theorem pay10_apply (v : FVec Ideal S512x2048 .f32) (i : S512x1.Idx) : k0_pay10 (F := Ideal) v i = Norm.rstd (fun k => v (ix2 (i 0) k)) := by
  idx_vars i
  pointwise [k0_pay10, Norm.rstd, Norm.vare, pay9_apply]

theorem pay11_apply (v : FVec Ideal S512x2048 .f32) (i : S512x2048.Idx) : k0_pay11 (F := Ideal) v i = Norm.xhat (fun k => v (ix2 (i 0) k)) (i 1) := by
  idx_vars i
  pointwise [k0_pay11, Norm.xhat, pay9_apply, pay10_apply]

theorem pay12_apply (v w : FVec Ideal S512x2048 .f32) (i : S512x2048.Idx) : k0_pay12 (F := Ideal) v w i = Ideal.ofBits .f32 0x3F9837F0#32 * w i + v i := by
  idx_vars i
  pointwise [k0_pay12]

/-- The gradient through the norm in one tile. -/
theorem back_apply (v x w : FVec Ideal S512x2048 .f32) (g : FVec Ideal S1x2048 .f32) (i : S512x2048.Idx) :
    k0_pay3 (F := Ideal) (k0_pay13 v x w g) (k0_pay14 x) i
      = Norm.back (fun k => x (ix2 (i 0) k)) (fun k => k0_pay12 (F := Ideal) v w (ix2 (i 0) k) * g (ix2 0 k)) (i 1) := by
  idx_vars i
  pointwise [k0_pay3, k0_pay13, k0_pay14, Norm.back, Norm.mean, pay11_apply, pay10_apply]

/-- A tile's part of the gradient of the scale. -/
theorem pay4_apply (x y : FVec Ideal S512x2048 .f32) (i : S1x2048.Idx) :
    k0_pay4 (F := Ideal) x y i = ∑ r : Fin 512, y (ix2 r (i 1)) * x (ix2 r (i 1)) := by
  idx_vars i
  pointwise [k0_pay4]

/-- A tile's part of the gradient of the offset. -/
theorem pay5_apply (y : FVec Ideal S512x2048 .f32) (i : S1x2048.Idx) : k0_pay5 (F := Ideal) y i = ∑ r : Fin 512, y (ix2 r (i 1)) := by
  idx_vars i
  pointwise [k0_pay5]

theorem pay7_apply (x y : FVec Ideal S512x2048 .f32) (v : FVec Ideal S1x2048 .f32) (i : S1x2048.Idx) :
    k0_pay7 (F := Ideal) x y v i = v i + k0_pay4 (F := Ideal) x y i := by
  idx_vars i
  pointwise [k0_pay7]

theorem pay8_apply (y : FVec Ideal S512x2048 .f32) (v : FVec Ideal S1x2048 .f32) (i : S1x2048.Idx) :
    k0_pay8 (F := Ideal) y v i = v i + k0_pay5 (F := Ideal) y i := by
  idx_vars i
  pointwise [k0_pay8]

/-- One tile's product. -/
def prod (a : FVec Ideal S512x1024 .bf16) (b : FVec Ideal S1x2048x1024 .bf16) (i : S512x2048.Idx) : EReal :=
  ∑ e : Fin 1024, a (ix2 (i 0) e) * b (ix3 0 (i 1) e)

/-- One grid point's product. -/
def part (c : Dev nD) (t : Fin cfg0.N) (i : S512x2048.Idx) : EReal := prod (iblk m c 0 t) (iblk m c 1 t) i

/-- An entry of the whole product. -/
def full (x0 : FVec Ideal S4096x8192 .f32) (x1 : FVec Ideal S2048x8192 .f32) (t : Fin 4096) (k : Fin 2048) : EReal :=
  ∑ f : Fin 8192, x0 (ix2 t f) * x1 (ix2 k f)

theorem scr_first (c : Dev nD) (t : Fin cfg0.N) (h0 : t.val % 8 = 0) (i : S512x2048.Idx) :
    (outsAt0 m c t.val t.isLt).2.2.2.2 i = 0 + part m c t i := by
  rw [outsAt0_A m c t h0 (by omega)]
  frame_out
  refine (pay2_apply _ _ _ i).trans ?_
  rw [pay1_apply]
  rfl

theorem scr_next (c : Dev nD) (t : Fin cfg0.N) (h0 : ¬t.val % 8 = 0) (i : S512x2048.Idx) :
    (outsAt0 m c t.val t.isLt).2.2.2.2 i = (outsAt0 m c (t.val - 1) (Nat.lt_of_le_of_lt (Nat.sub_le _ _) t.isLt)).2.2.2.2 i + part m c t i := by
  by_cases h1 : t.val % 8 = 7
  · by_cases h : t.val < 8
    · rw [outsAt0_C m c t h0 h1 h (by omega) h (by omega)]
      frame_out
      rw [read_unread_whole]
      exact pay2_apply _ _ _ i
    · rw [outsAt0_D m c t h0 h1 h (by omega) h (by omega)]
      frame_out
      rw [read_unread_whole]
      exact pay2_apply _ _ _ i
  · rw [outsAt0_B m c t h0 h1]
    frame_out
    rw [read_unread_whole]
    exact pay2_apply _ _ _ i

theorem scr (c : Dev nD) (t : Fin cfg0.N) (h1 : t.val % 8 = 7) (i : S512x2048.Idx) :
    (outsAt0 m c t.val t.isLt).2.2.2.2 i = full (m ((c : Thread nD τ).loc main_arg0)) (m ((c : Thread nD τ).loc main_arg1)) (tok t (i 0)) (i 1) := by
  have acc := Pipeline.eq_sum_fin_of_reset_step_apply_of_flush (fun n h => (outsAt0 m c n h).2.2.2.2) 8 (fun _ => (0 : EReal)) (part m c)
    (fun t h0 i => scr_first m c t h0 i) (fun t h0 i => scr_next m c t h0 i) t h1 i
  refine acc.trans ?_
  rw [zero_add]
  unfold part prod full
  refine Fin.sum_mul_add_congr fun s r h => ?_
  have hs : s.val < 8 := s.isLt
  obtain ⟨e0, e1, e2, e3, e4, e5, e6, e7, e8⟩ := idx ⟨8 * (t.val / 8) + s.val, Pipeline.run_point_lt t h1 s⟩
  have q : (8 * (t.val / 8) + s.val) / 8 = t.val / 8 := by omega
  have p : (8 * (t.val / 8) + s.val) % 8 = s.val := by omega
  idx_vars i
  refine congrArg₂ _ ?_ ?_
  · blk_point [iblk, V, e0]
  · blk_point [iblk, V, e1]

/-- What the last of a group's points leaves. -/
theorem last5 (c : Dev nD) (t : Fin cfg0.N) (h1 : t.val % 8 = 7) :
    (outsAt0 m c t.val t.isLt).1 = k0_pay3 (F := Ideal) (k0_pay13 (outsAt0 m c t.val t.isLt).2.2.2.2 (iblk m c 3 t) (iblk m c 2 t) (iblk m c 4 t)) (k0_pay14 (iblk m c 3 t)) := by
  by_cases h : t.val < 8
  · rw [outsAt0_C m c t (by omega) h1 h (by omega) h (by omega)]
    frame_out
  · rw [outsAt0_D m c t (by omega) h1 h (by omega) h (by omega)]
    frame_out

theorem last6 (c : Dev nD) (t : Fin cfg0.N) (h1 : t.val % 8 = 7) :
    (outsAt0 m c t.val t.isLt).2.1 = k0_pay6 (F := Ideal) (k0_pay13 (outsAt0 m c t.val t.isLt).2.2.2.2 (iblk m c 3 t) (iblk m c 2 t) (iblk m c 4 t)) (k0_pay14 (iblk m c 3 t)) := by
  by_cases h : t.val < 8
  · rw [outsAt0_C m c t (by omega) h1 h (by omega) h (by omega)]
    frame_out
  · rw [outsAt0_D m c t (by omega) h1 h (by omega) h (by omega)]
    frame_out

theorem first7 (c : Dev nD) (t : Fin cfg0.N) (h1 : t.val % 8 = 7) (h : t.val < 8) :
    (outsAt0 m c t.val t.isLt).2.2.1 = k0_pay4 (F := Ideal) (k0_pay11 (iblk m c 3 t)) (k0_pay12 (outsAt0 m c t.val t.isLt).2.2.2.2 (iblk m c 2 t)) := by
  rw [outsAt0_C m c t (by omega) h1 h (by omega) h (by omega)]
  frame_out

theorem next7 (c : Dev nD) (t : Fin cfg0.N) (h1 : t.val % 8 = 7) (h : ¬t.val < 8) (hp : t.val - 1 < cfg0.N) :
    (outsAt0 m c t.val t.isLt).2.2.1 = k0_pay7 (F := Ideal) (k0_pay11 (iblk m c 3 t)) (k0_pay12 (outsAt0 m c t.val t.isLt).2.2.2.2 (iblk m c 2 t)) (outsAt0 m c (t.val - 1) hp).2.2.1 := by
  rw [outsAt0_D m c t (by omega) h1 h (by omega) h (by omega)]
  frame_out

theorem first8 (c : Dev nD) (t : Fin cfg0.N) (h1 : t.val % 8 = 7) (h : t.val < 8) :
    (outsAt0 m c t.val t.isLt).2.2.2.1 = k0_pay5 (F := Ideal) (k0_pay12 (outsAt0 m c t.val t.isLt).2.2.2.2 (iblk m c 2 t)) := by
  rw [outsAt0_C m c t (by omega) h1 h (by omega) h (by omega)]
  frame_out

theorem next8 (c : Dev nD) (t : Fin cfg0.N) (h1 : t.val % 8 = 7) (h : ¬t.val < 8) (hp : t.val - 1 < cfg0.N) :
    (outsAt0 m c t.val t.isLt).2.2.2.1 = k0_pay8 (F := Ideal) (k0_pay12 (outsAt0 m c t.val t.isLt).2.2.2.2 (iblk m c 2 t)) (outsAt0 m c (t.val - 1) hp).2.2.2.1 := by
  rw [outsAt0_D m c t (by omega) h1 h (by omega) h (by omega)]
  frame_out

/-- The other points leave the sums as they are. -/
theorem keep7 (c : Dev nD) (t : Fin cfg0.N) (h1 : t.val % 8 ≠ 7) (hp : t.val - 1 < cfg0.N) :
    (outsAt0 m c t.val t.isLt).2.2.1 = (outsAt0 m c (t.val - 1) hp).2.2.1 := by
  by_cases h0 : t.val % 8 = 0
  · rw [outsAt0_A m c t h0 h1]
    dsimp only
    unfold out0_A_7
    rfl
  · rw [outsAt0_B m c t h0 h1]
    dsimp only
    unfold out0_B_7
    rfl

theorem keep8 (c : Dev nD) (t : Fin cfg0.N) (h1 : t.val % 8 ≠ 7) (hp : t.val - 1 < cfg0.N) :
    (outsAt0 m c t.val t.isLt).2.2.2.1 = (outsAt0 m c (t.val - 1) hp).2.2.2.1 := by
  by_cases h0 : t.val % 8 = 0
  · rw [outsAt0_A m c t h0 h1]
    dsimp only
    unfold out0_A_8
    rfl
  · rw [outsAt0_B m c t h0 h1]
    dsimp only
    unfold out0_B_8
    rfl

/-- A tile's row of the gradient at the norm's output is the array's. -/
theorem dy_row (c : Dev nD) (t : Fin cfg0.N) (h1 : t.val % 8 = 7) (r : Fin 512) (k : Fin 2048) :
    k0_pay12 (F := Ideal) (outsAt0 m c t.val t.isLt).2.2.2.2 (iblk m c 2 t) (ix2 r k) = dy (m ((c : Thread nD τ).loc main_arg0)) (m ((c : Thread nD τ).loc main_arg1)) (m ((c : Thread nD τ).loc main_arg2)) (tok t r) k := by
  refine (pay12_apply _ _ _).trans ?_
  rw [scr m c t h1]
  unfold dy
  refine congrArg₂ _ (congrArg₂ _ rfl ?_) rfl
  obtain ⟨e0, e1, e2, e3, e4, e5, e6, e7, e8⟩ := idx t
  blk_point [iblk, V, e2]

/-- A tile's row of the norm's input is the array's. -/
theorem in_row (c : Dev nD) (t : Fin cfg0.N) (r : Fin 512) :
    (fun k => (iblk m c 3 t : FVec Ideal S512x2048 .f32) (ix2 r k)) = row (m ((c : Thread nD τ).loc main_arg3)) (tok t r) := by
  funext k
  unfold row
  obtain ⟨e0, e1, e2, e3, e4, e5, e6, e7, e8⟩ := idx t
  blk_point [iblk, V, e3]

theorem g_row (c : Dev nD) (t : Fin cfg0.N) (k : Fin 2048) :
    (iblk m c 4 t : FVec Ideal S1x2048 .f32) (ix2 0 k) = ((m ((c : Thread nD τ).loc main_arg4)) : FVec Ideal S1x2048 .f32) (ix2 0 k) := by
  obtain ⟨e0, e1, e2, e3, e4, e5, e6, e7, e8⟩ := idx t
  blk_point [iblk, V, e4]

/-- An entry of a tile of the gradient. -/
theorem out5 (c : Dev nD) (t : Fin cfg0.N) (h1 : t.val % 8 = 7) (y : S512x2048.Idx) :
    (outsAt0 m c t.val t.isLt).1 y = Norm.back (row (m ((c : Thread nD τ).loc main_arg3)) (tok t (y 0))) (dxh (m ((c : Thread nD τ).loc main_arg0)) (m ((c : Thread nD τ).loc main_arg1)) (m ((c : Thread nD τ).loc main_arg2)) (m ((c : Thread nD τ).loc main_arg4)) (tok t (y 0))) (y 1) := by
  rw [last5 m c t h1]
  refine (back_apply _ _ _ _ _).trans ?_
  refine congrArg₂ (fun f w => Norm.back f w (y 1)) (in_row m c t (y 0)) (funext fun k => ?_)
  unfold dxh
  exact congrArg₂ _ (dy_row m c t h1 (y 0) k) (g_row m c t k)

theorem out6 (c : Dev nD) (t : Fin cfg0.N) (h1 : t.val % 8 = 7) (y : S512x2048.Idx) :
    (outsAt0 m c t.val t.isLt).2.1 y = Norm.back (row (m ((c : Thread nD τ).loc main_arg3)) (tok t (y 0))) (dxh (m ((c : Thread nD τ).loc main_arg0)) (m ((c : Thread nD τ).loc main_arg1)) (m ((c : Thread nD τ).loc main_arg2)) (m ((c : Thread nD τ).loc main_arg4)) (tok t (y 0))) (y 1) := by
  rw [← out5 m c t h1, last6 m c t h1, last5 m c t h1]
  rfl

/-- The group of 512 tokens' part of the gradient of the scale. -/
def dgPart (c : Dev nD) (s : ℕ) (j : S1x2048.Idx) : EReal :=
  ∑ r : Fin 512, if h : s < 8 then Norm.xhat (row (m ((c : Thread nD τ).loc main_arg3)) ⟨s * 512 + r.val, by omega⟩) (j 1) * dy (m ((c : Thread nD τ).loc main_arg0)) (m ((c : Thread nD τ).loc main_arg1)) (m ((c : Thread nD τ).loc main_arg2)) ⟨s * 512 + r.val, by omega⟩ (j 1) else 0

def dbPart (c : Dev nD) (s : ℕ) (j : S1x2048.Idx) : EReal :=
  ∑ r : Fin 512, if h : s < 8 then dy (m ((c : Thread nD τ).loc main_arg0)) (m ((c : Thread nD τ).loc main_arg1)) (m ((c : Thread nD τ).loc main_arg2)) ⟨s * 512 + r.val, by omega⟩ (j 1) else 0

theorem tile7 (c : Dev nD) (t : Fin cfg0.N) (h1 : t.val % 8 = 7) (j : S1x2048.Idx) :
    k0_pay4 (F := Ideal) (k0_pay11 (iblk m c 3 t)) (k0_pay12 (outsAt0 m c t.val t.isLt).2.2.2.2 (iblk m c 2 t)) j = dgPart m c (t.val / 8) j := by
  refine (pay4_apply _ _ _).trans ?_
  unfold dgPart
  have hN : t.val < 64 := t.isLt
  refine Fin.sum_fin_congr fun r => ?_
  rw [dif_pos (by omega), mul_comm]
  refine congrArg₂ _ ?_ ?_
  · refine (pay11_apply _ _).trans ?_
    exact congrArg (fun f => Norm.xhat f (j 1)) (in_row m c t r)
  · exact dy_row m c t h1 r (j 1)

theorem tile8 (c : Dev nD) (t : Fin cfg0.N) (h1 : t.val % 8 = 7) (j : S1x2048.Idx) :
    k0_pay5 (F := Ideal) (k0_pay12 (outsAt0 m c t.val t.isLt).2.2.2.2 (iblk m c 2 t)) j = dbPart m c (t.val / 8) j := by
  refine (pay5_apply _ _).trans ?_
  unfold dbPart
  have hN : t.val < 64 := t.isLt
  refine Fin.sum_fin_congr fun r => ?_
  rw [dif_pos (by omega)]
  exact dy_row m c t h1 r (j 1)

/-- The sums over all tokens, after the last point. -/
theorem sum7 (c : Dev nD) (t : Fin cfg0.N) (h : t.val % 64 = 63) (j : S1x2048.Idx) :
    (outsAt0 m c t.val t.isLt).2.2.1 j = ∑ k : Fin 4096, Norm.xhat (row (m ((c : Thread nD τ).loc main_arg3)) k) (j 1) * dy (m ((c : Thread nD τ).loc main_arg0)) (m ((c : Thread nD τ).loc main_arg1)) (m ((c : Thread nD τ).loc main_arg2)) k (j 1) := by
  have hN : t.val < 64 := t.isLt
  refine (Rows.kept 8 cfg0.N (.inl rfl) (fun n h => (outsAt0 m c n h).2.2.1) (dgPart m c)
    (fun t h1 hl j => ?_) (fun t hp h1 hl j => ?_) (fun t hp _ h1 j => ?_) t.val t.isLt (by omega) j).trans ?_
  · rw [first7 m c t h1 hl, tile7 m c t h1]
    exact congrArg (fun n => dgPart m c n j) (by omega)
  · rw [next7 m c t h1 (by omega) hp]
    refine (pay7_apply _ _ _ _).trans ?_
    rw [tile7 m c t h1]
  · exact congrFun (keep7 m c t h1 hp) j
  · rw [show (t.val + 1) / 8 = 8 from by omega, Finset.sum_range]
    unfold dgPart
    refine Fin.sum_mul_add_congr fun s r h => ?_
    rw [dif_pos s.isLt]

theorem sum8 (c : Dev nD) (t : Fin cfg0.N) (h : t.val % 64 = 63) (j : S1x2048.Idx) :
    (outsAt0 m c t.val t.isLt).2.2.2.1 j = ∑ k : Fin 4096, dy (m ((c : Thread nD τ).loc main_arg0)) (m ((c : Thread nD τ).loc main_arg1)) (m ((c : Thread nD τ).loc main_arg2)) k (j 1) := by
  have hN : t.val < 64 := t.isLt
  refine (Rows.kept 8 cfg0.N (.inl rfl) (fun n h => (outsAt0 m c n h).2.2.2.1) (dbPart m c)
    (fun t h1 hl j => ?_) (fun t hp h1 hl j => ?_) (fun t hp _ h1 j => ?_) t.val t.isLt (by omega) j).trans ?_
  · rw [first8 m c t h1 hl, tile8 m c t h1]
    exact congrArg (fun n => dbPart m c n j) (by omega)
  · rw [next8 m c t h1 (by omega) hp]
    refine (pay8_apply _ _ _).trans ?_
    rw [tile8 m c t h1]
  · exact congrFun (keep8 m c t h1 hp) j
  · rw [show (t.val + 1) / 8 = 8 from by omega, Finset.sum_range]
    unfold dbPart
    refine Fin.sum_mul_add_congr fun s r h => ?_
    rw [dif_pos s.isLt]

/-- Every argument is finite. -/
theorem finite (hp : Cert.Pre_Dh1Ideal_dh1_finite m) (c : Dev nD) :
    (∀ i : S4096x8192.Idx, Norm.Re (((m ((c : Thread nD τ).loc main_arg0)) : FVec Ideal S4096x8192 .f32) i)) ∧ (∀ i : S2048x8192.Idx, Norm.Re (((m ((c : Thread nD τ).loc main_arg1)) : FVec Ideal S2048x8192 .f32) i))
    ∧ (∀ i : S4096x2048.Idx, Norm.Re (((m ((c : Thread nD τ).loc main_arg2)) : FVec Ideal S4096x2048 .f32) i)) ∧ (∀ i : S4096x2048.Idx, Norm.Re (((m ((c : Thread nD τ).loc main_arg3)) : FVec Ideal S4096x2048 .f32) i))
    ∧ (∀ i : S1x2048.Idx, Norm.Re (((m ((c : Thread nD τ).loc main_arg4)) : FVec Ideal S1x2048 .f32) i)) := by
  have h := congrFun (hp c) (fun a => Fin.elim0 a)
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨Finite.all _ _ _ _ _ h0, Finite.all _ _ _ _ _ h1, Finite.all _ _ _ _ _ h2, Finite.all _ _ _ _ _ h3, Finite.all _ _ _ _ _ h4⟩

/-- On finite arguments the two spellings of the gradient through the norm agree. -/
theorem agree (hp : Cert.Pre_Dh1Ideal_dh1_finite m) (c : Dev nD) (t : Fin 4096) (k : Fin 2048) :
    Norm.back (row (m ((c : Thread nD τ).loc main_arg3)) t) (dxh (m ((c : Thread nD τ).loc main_arg0)) (m ((c : Thread nD τ).loc main_arg1)) (m ((c : Thread nD τ).loc main_arg2)) (m ((c : Thread nD τ).loc main_arg4)) t) k = Norm.backR (row (m ((c : Thread nD τ).loc main_arg3)) t) (dxh (m ((c : Thread nD τ).loc main_arg0)) (m ((c : Thread nD τ).loc main_arg1)) (m ((c : Thread nD τ).loc main_arg2)) (m ((c : Thread nD τ).loc main_arg4)) t) k := by
  obtain ⟨h0, h1, h2, h3, h4⟩ := finite m hp c
  refine Norm.back_eq (fun k => h3 _) (fun k => ?_) k
  unfold dxh dy
  exact (((Finite.alpha.mul (h2 _))).add (Norm.Re.sum _ fun f => (h0 _).mul (h1 _))).mul (h4 _)

/-- The tiles fill the reference's value. -/
theorem final5 (hp : Cert.Pre_Dh1Ideal_dh1_finite m) (c : Dev nD) : (dats m 0 c).arrAt 5 cfg0.N
    = Cert.Dh1RefIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have h1 : t.val % 8 = 7 := (flush0_5 t).1 hf
  have em : (win0_5.blk t).view.emb y = ix2 (tok t (y 0)) (y 1) := by
    obtain ⟨e0, e1, e2, e3, e4, e5, e6, e7, e8⟩ := idx t
    blk_ext [e5]
  rw [ref_dr, em]
  exact (out5 m c t h1 y).trans (agree m hp c _ _)

/-- The tiles fill the reference's value. -/
theorem final6 (hp : Cert.Pre_Dh1Ideal_dh1_finite m) (c : Dev nD) : (dats m 0 c).arrAt 6 cfg0.N
    = Cert.Dh1RefIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have h1 : t.val % 8 = 7 := (flush0_6 t).1 hf
  have em : (win0_6.blk t).view.emb y = ix2 (tok t (y 0)) (y 1) := by
    obtain ⟨e0, e1, e2, e3, e4, e5, e6, e7, e8⟩ := idx t
    blk_ext [e6]
  rw [ref_drb, em]
  exact (out6 m c t h1 y).trans (agree m hp c _ _)

/-- The one block holds the reference's value. -/
theorem final7 (c : Dev nD) : (dats m 0 c).arrAt 7 cfg0.N
    = Cert.Dh1RefIdeal.Read.val_main_v73 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  have h1 : t.val % 64 = 63 := (flush0_7 t).1 hf
  have em : (win0_7.blk t).view.emb y = ix2 (y 0) (y 1) := by
    obtain ⟨e0, e1, e2, e3, e4, e5, e6, e7, e8⟩ := idx t
    blk_ext [e7]
  rw [ref_dg, em]
  exact sum7 m c t h1 y

/-- The one block holds the reference's value. -/
theorem final8 (c : Dev nD) : (dats m 0 c).arrAt 8 cfg0.N
    = Cert.Dh1RefIdeal.Read.val_main_v72 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  have h1 : t.val % 64 = 63 := (flush0_8 t).1 hf
  have em : (win0_8.blk t).view.emb y = ix2 (y 0) (y 1) := by
    obtain ⟨e0, e1, e2, e3, e4, e5, e6, e7, e8⟩ := idx t
    blk_ext [e8]
  rw [ref_db, em]
  exact sum8 m c t h1 y

/-- Both programs end with the same values in the results. -/
theorem tie : Cert.algebraic_Dh1Ideal_Dh1RefIdeal_pre_dh1_finite := by
  intro m g m' g' hp ha
  refine ⟨fun c => Cert.Dh1RefIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c => Cert.Dh1RefIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c => Cert.Dh1RefIdeal.Read.val_main_v73 (F := Ideal) (m ((c : Thread nD τ).loc main_arg0)) (m ((c : Thread nD τ).loc main_arg1)) (m ((c : Thread nD τ).loc main_arg2)) (m ((c : Thread nD τ).loc main_arg3)),
    fun c => Cert.Dh1RefIdeal.Read.val_main_v72 (F := Ideal) (m ((c : Thread nD τ).loc main_arg0)) (m ((c : Thread nD τ).loc main_arg1)) (m ((c : Thread nD τ).loc main_arg2)), ?_, ?_⟩
  · refine (θ_run defs _ _).mono (fun r h c => ?_) (Value.run_blocks (F := Ideal) m g)
    exact ⟨((h c).1).trans (final5 m hp c), ((h c).2.1).trans (final6 m hp c), ((h c).2.2.1).trans (final7 m c), ((h c).2.2.2.1).trans (final8 m c), (h c).2.2.2.2⟩
  · refine (θ_run Cert.Dh1RefIdeal.defs _ _).mono (fun r h c => ?_) (Cert.Dh1RefIdeal.Value.run (F := Ideal) m' g')
    obtain ⟨a0, a1, a2, a3, a4⟩ := ha c
    refine ⟨(h c).1.trans ?_, (h c).2.1.trans ?_, (h c).2.2.1.trans ?_, (h c).2.2.2.1.trans ?_, (h c).2.2.2.2⟩
    · refine (Cert.Dh1RefIdeal.Read.val_main_v71_eq m' c).trans ?_; rw [a0, a1, a2, a3, a4]
    · refine (Cert.Dh1RefIdeal.Read.val_main_v74_eq m' c).trans ?_; rw [a0, a1, a2, a3, a4]
    · refine (Cert.Dh1RefIdeal.Read.val_main_v73_eq _ _ _ _).trans ?_; rw [a0, a1, a2, a3]
    · refine (Cert.Dh1RefIdeal.Read.val_main_v72_eq _ _ _).trans ?_; rw [a0, a1, a2]

/-- The reference runs, leaves its arguments as they are, and has no counter to leave standing. -/
theorem refFrame : Cert.quiescent_Dh1RefIdeal := fun m ρ _ =>
  (θ_run _ _ _).mono (fun r h => ⟨fun c => (h c).2.2.2.2, sem_eq_zero_of_no_sems rfl r.2⟩) (Cert.Dh1RefIdeal.Value.run (F := Ideal) m ρ)

/-- The same under the precondition. -/
theorem refFramePre : Cert.quiescent_Dh1RefIdeal_pre_dh1_finite := fun m ρ _ => refFrame m ρ trivial

end Cert.Dh1Ideal.Hand

end
-- ==== Proof.Dh0Ref.lean ====
/- The reference of the gradient through the input projection and the first layer norm, entry by entry. -/
module

public import proofs.«01_k».proof.Defs
public import proofs.«01_k».proof.Proof.Gen.Dh0Ideal.Frame
public import proofs.«01_k».proof.Proof.Gen.Dh0RefIdeal.Run
public import proofs.«01_k».proof.Proof.Gen.Dh0RefIdeal.Read
public import Idealize.ShloMosaic.Lib.Pipeline.ValueKit
public import Idealize.ShloMosaic.Lib.Pointwise
public import proofs.«01_k».proof.Proof.Norm

@[expose] public section

set_option maxRecDepth 16384

noncomputable section

namespace Cert.Dh0Ideal.Hand

open Cert.Dh0Ideal Cert.Dh0Ideal.Gen Idealize.ShloMosaic Idealize.ShloMosaic.TcCoe Idealize.SL.Sem
open Idealize.ShloMosaic.Pipeline (Dat)

/-- The gradient at the layer norm's output: the scaled residual's and the input projection's. -/
def dy (x0 : FVec Ideal S4096x4096 .f32) (x1 : FVec Ideal S2048x4096 .f32) (x2 : FVec Ideal S4096x2048 .f32) (t : Fin 4096) (k : Fin 2048) : EReal :=
  Ideal.ofBits .f32 0x3F9837F0#32 * x2 (ix2 t k) + ∑ f : Fin 4096, x0 (ix2 t f) * x1 (ix2 k f)

/-- A row of the layer norm's input. -/
def row (x3 : FVec Ideal S4096x2048 .f32) (t : Fin 4096) : Norm.Row := fun k => x3 (ix2 t k)

/-- A row of the gradient at the layer norm's output, times the scale. -/
def dxh (x0 : FVec Ideal S4096x4096 .f32) (x1 : FVec Ideal S2048x4096 .f32) (x2 : FVec Ideal S4096x2048 .f32) (x4 : FVec Ideal S2048 .f32) (t : Fin 4096) : Norm.Row := fun k => dy x0 x1 x2 t k * x4 (ix1 k)

theorem ref_dy (x0 : FVec Ideal S4096x4096 .f32) (x1 : FVec Ideal S2048x4096 .f32) (x2 : FVec Ideal S4096x2048 .f32) (i : S4096x2048.Idx) : Cert.Dh0RefIdeal.Read.val_main_v36 (F := Ideal) x0 x1 x2 i = dy x0 x1 x2 (i 0) (i 1) := by
  unfold Cert.Dh0RefIdeal.Read.val_main_v36 Cert.Dh0RefIdeal.Read.val_main_v35 Cert.Dh0RefIdeal.Read.val_main_v34 Cert.Dh0RefIdeal.Read.val_main_v33 Cert.Dh0RefIdeal.Read.val_main_cst_8 dy
  idx_vars i
  pointwise

theorem ref_cen (x3 : FVec Ideal S4096x2048 .f32) (i : S4096x2048.Idx) : Cert.Dh0RefIdeal.Read.val_main_v6 (F := Ideal) x3 i = Norm.cen (row x3 (i 0)) (i 1) := by
  unfold Cert.Dh0RefIdeal.Read.val_main_v6 Cert.Dh0RefIdeal.Read.val_main_v5 Cert.Dh0RefIdeal.Read.val_main_v4 Cert.Dh0RefIdeal.Read.val_main_v3 Cert.Dh0RefIdeal.Read.val_main_cst_1 Cert.Dh0RefIdeal.Read.val_main_v2 Cert.Dh0RefIdeal.Read.val_main_v1 Cert.Dh0RefIdeal.Read.val_main_cst_0
  idx_vars i
  pointwise [Norm.cen, Norm.mean, row]

theorem ref_cen2 (x3 : FVec Ideal S4096x2048 .f32) (i : S4096x2048.Idx) : Cert.Dh0RefIdeal.Read.val_main_v15 (F := Ideal) x3 i = Norm.cen (row x3 (i 0)) (i 1) := by
  rw [← ref_cen]
  rfl

theorem ref_var (x3 : FVec Ideal S4096x2048 .f32) (i : Cert.Dh0RefIdeal.S4096x1.Idx) : Cert.Dh0RefIdeal.Read.val_main_v17 (F := Ideal) x3 i = Norm.vare (row x3 (i 0)) := by
  unfold Cert.Dh0RefIdeal.Read.val_main_v17 Cert.Dh0RefIdeal.Read.val_main_v16 Cert.Dh0RefIdeal.Read.val_main_cst_5 Cert.Dh0RefIdeal.Read.val_main_v13 Cert.Dh0RefIdeal.Read.val_main_v12 Cert.Dh0RefIdeal.Read.val_main_cst_4 Cert.Dh0RefIdeal.Read.val_main_v11 Cert.Dh0RefIdeal.Read.val_main_v10 Cert.Dh0RefIdeal.Read.val_main_cst_3 Cert.Dh0RefIdeal.Read.val_main_v7
  idx_vars i
  pointwise [Norm.vare, ref_cen]

theorem ref_rstd (x3 : FVec Ideal S4096x2048 .f32) (i : Cert.Dh0RefIdeal.S4096x1.Idx) : Cert.Dh0RefIdeal.Read.val_main_v18 (F := Ideal) x3 i = Norm.rstd (row x3 (i 0)) := by
  unfold Cert.Dh0RefIdeal.Read.val_main_v18
  idx_vars i
  pointwise [Norm.rstd, ref_var]

theorem ref_xhat (x3 : FVec Ideal S4096x2048 .f32) (i : S4096x2048.Idx) : Cert.Dh0RefIdeal.Read.val_main_v23 (F := Ideal) x3 i = Norm.xhat (row x3 (i 0)) (i 1) := by
  unfold Cert.Dh0RefIdeal.Read.val_main_v23 Cert.Dh0RefIdeal.Read.val_main_v22
  idx_vars i
  pointwise [Norm.xhat, ref_cen2, ref_rstd]

theorem ref_dxh (x0 : FVec Ideal S4096x4096 .f32) (x1 : FVec Ideal S2048x4096 .f32) (x2 : FVec Ideal S4096x2048 .f32) (x4 : FVec Ideal S2048 .f32) (i : S4096x2048.Idx) : Cert.Dh0RefIdeal.Read.val_main_v44 (F := Ideal) x0 x1 x2 x4 i = dxh x0 x1 x2 x4 (i 0) (i 1) := by
  unfold Cert.Dh0RefIdeal.Read.val_main_v44 Cert.Dh0RefIdeal.Read.val_main_v43 Cert.Dh0RefIdeal.Read.val_main_v24
  idx_vars i
  pointwise [dxh, ref_dy]

/-- The gradient's part with the inverse deviation kept fixed. -/
theorem ref_fix (x0 : FVec Ideal S4096x4096 .f32) (x1 : FVec Ideal S2048x4096 .f32) (x2 : FVec Ideal S4096x2048 .f32) (x3 : FVec Ideal S4096x2048 .f32) (x4 : FVec Ideal S2048 .f32) (i : S4096x2048.Idx) : Cert.Dh0RefIdeal.Read.val_main_v50 (F := Ideal) x0 x1 x2 x3 x4 i
    = dxh x0 x1 x2 x4 (i 0) (i 1) * Norm.rstd (row x3 (i 0)) := by
  unfold Cert.Dh0RefIdeal.Read.val_main_v50 Cert.Dh0RefIdeal.Read.val_main_v49
  idx_vars i
  pointwise [ref_dxh, ref_rstd]

/-- The gradient at the variance. -/
theorem ref_sc (x0 : FVec Ideal S4096x4096 .f32) (x1 : FVec Ideal S2048x4096 .f32) (x2 : FVec Ideal S4096x2048 .f32) (x3 : FVec Ideal S4096x2048 .f32) (x4 : FVec Ideal S2048 .f32) (i : Cert.Dh0RefIdeal.S4096.Idx) : Cert.Dh0RefIdeal.Read.val_main_v57 (F := Ideal) x0 x1 x2 x3 x4 i
    = Norm.sc (row x3 (i 0)) (dxh x0 x1 x2 x4 (i 0)) := by
  unfold Cert.Dh0RefIdeal.Read.val_main_v57 Cert.Dh0RefIdeal.Read.val_main_cst_16 Cert.Dh0RefIdeal.Read.val_main_v56 Cert.Dh0RefIdeal.Read.val_main_v55 Cert.Dh0RefIdeal.Read.val_main_cst_15 Cert.Dh0RefIdeal.Read.val_main_v51 Cert.Dh0RefIdeal.Read.val_main_v48 Cert.Dh0RefIdeal.Read.val_main_v47 Cert.Dh0RefIdeal.Read.val_main_cst_13 Cert.Dh0RefIdeal.Read.val_main_v46 Cert.Dh0RefIdeal.Read.val_main_v21 Cert.Dh0RefIdeal.Read.val_main_v20 Cert.Dh0RefIdeal.Read.val_main_cst_6 Cert.Dh0RefIdeal.Read.val_main_v19
  idx_vars i
  pointwise [Norm.sc, ref_dxh, ref_rstd, ref_var, ref_cen2]
  rw [Fin.sum_univ_eq_sum_range (fun _ => _) 1, Finset.sum_range_one]

/-- The gradient's part through the variance. -/
theorem ref_var_part (x0 : FVec Ideal S4096x4096 .f32) (x1 : FVec Ideal S2048x4096 .f32) (x2 : FVec Ideal S4096x2048 .f32) (x3 : FVec Ideal S4096x2048 .f32) (x4 : FVec Ideal S2048 .f32) (i : S4096x2048.Idx) : Cert.Dh0RefIdeal.Read.val_main_v59 (F := Ideal) x0 x1 x2 x3 x4 i
    = Norm.sc (row x3 (i 0)) (dxh x0 x1 x2 x4 (i 0)) * (Ideal.ofBits .f32 0x40000000#32 * Norm.cen (row x3 (i 0)) (i 1)) := by
  unfold Cert.Dh0RefIdeal.Read.val_main_v59 Cert.Dh0RefIdeal.Read.val_main_v58 Cert.Dh0RefIdeal.Read.val_main_v9 Cert.Dh0RefIdeal.Read.val_main_v8 Cert.Dh0RefIdeal.Read.val_main_cst_2
  idx_vars i
  pointwise [ref_sc, ref_cen]

/-- The gradient at the mean. -/
theorem ref_mean_part (x0 : FVec Ideal S4096x4096 .f32) (x1 : FVec Ideal S2048x4096 .f32) (x2 : FVec Ideal S4096x2048 .f32) (x3 : FVec Ideal S4096x2048 .f32) (x4 : FVec Ideal S2048 .f32) (i : Cert.Dh0RefIdeal.S4096.Idx) : Cert.Dh0RefIdeal.Read.val_main_v67 (F := Ideal) x0 x1 x2 x3 x4 i
    = Ideal.div ((∑ k, -(dxh x0 x1 x2 x4 (i 0) k * Norm.rstd (row x3 (i 0)))) + ∑ k, -(Norm.sc (row x3 (i 0)) (dxh x0 x1 x2 x4 (i 0)) * (Ideal.ofBits .f32 0x40000000#32 * Norm.cen (row x3 (i 0)) k))) Norm.N := by
  unfold Cert.Dh0RefIdeal.Read.val_main_v67 Cert.Dh0RefIdeal.Read.val_main_cst_19 Cert.Dh0RefIdeal.Read.val_main_v66 Cert.Dh0RefIdeal.Read.val_main_v65 Cert.Dh0RefIdeal.Read.val_main_cst_18 Cert.Dh0RefIdeal.Read.val_main_v64 Cert.Dh0RefIdeal.Read.val_main_v62 Cert.Dh0RefIdeal.Read.val_main_v61 Cert.Dh0RefIdeal.Read.val_main_cst_17 Cert.Dh0RefIdeal.Read.val_main_v60 Cert.Dh0RefIdeal.Read.val_main_v54 Cert.Dh0RefIdeal.Read.val_main_v53 Cert.Dh0RefIdeal.Read.val_main_cst_14 Cert.Dh0RefIdeal.Read.val_main_v52
  idx_vars i
  pointwise [ref_fix, ref_var_part]
  rw [Fin.sum_univ_eq_sum_range (fun _ => _) 1, Finset.sum_range_one]

/-- The reference's gradient at the layer norm's input. -/
theorem ref_dr (x0 : FVec Ideal S4096x4096 .f32) (x1 : FVec Ideal S2048x4096 .f32) (x2 : FVec Ideal S4096x2048 .f32) (x3 : FVec Ideal S4096x2048 .f32) (x4 : FVec Ideal S2048 .f32) (i : S4096x2048.Idx) : Cert.Dh0RefIdeal.Read.val_main_v69 (F := Ideal) x0 x1 x2 x3 x4 i
    = Norm.backR (row x3 (i 0)) (dxh x0 x1 x2 x4 (i 0)) (i 1) := by
  unfold Cert.Dh0RefIdeal.Read.val_main_v69 Cert.Dh0RefIdeal.Read.val_main_v68 Cert.Dh0RefIdeal.Read.val_main_v63
  idx_vars i
  pointwise [ref_fix, ref_var_part, ref_mean_part, Norm.backR]

/-- The reference's gradient of the scale. -/
theorem ref_dg (x0 : FVec Ideal S4096x4096 .f32) (x1 : FVec Ideal S2048x4096 .f32) (x2 : FVec Ideal S4096x2048 .f32) (x3 : FVec Ideal S4096x2048 .f32) (i : S1x2048.Idx) : Cert.Dh0RefIdeal.Read.val_main_v70 (F := Ideal) x0 x1 x2 x3 i
    = ∑ t : Fin 4096, Norm.xhat (row x3 t) (i 1) * dy x0 x1 x2 t (i 1) := by
  unfold Cert.Dh0RefIdeal.Read.val_main_v70 Cert.Dh0RefIdeal.Read.val_main_v45 Cert.Dh0RefIdeal.Read.val_main_cst_12 Cert.Dh0RefIdeal.Read.val_main_v42 Cert.Dh0RefIdeal.Read.val_main_v41 Cert.Dh0RefIdeal.Read.val_main_cst_11 Cert.Dh0RefIdeal.Read.val_main_v40
  idx_vars i
  pointwise [ref_xhat, ref_dy]
  rw [Fin.sum_univ_eq_sum_range (fun _ => _) 1, Finset.sum_range_one]

/-- The reference's gradient of the offset. -/
theorem ref_db (x0 : FVec Ideal S4096x4096 .f32) (x1 : FVec Ideal S2048x4096 .f32) (x2 : FVec Ideal S4096x2048 .f32) (i : S1x2048.Idx) : Cert.Dh0RefIdeal.Read.val_main_v71 (F := Ideal) x0 x1 x2 i
    = ∑ t : Fin 4096, dy x0 x1 x2 t (i 1) := by
  unfold Cert.Dh0RefIdeal.Read.val_main_v71 Cert.Dh0RefIdeal.Read.val_main_v39 Cert.Dh0RefIdeal.Read.val_main_cst_10 Cert.Dh0RefIdeal.Read.val_main_v38 Cert.Dh0RefIdeal.Read.val_main_v37 Cert.Dh0RefIdeal.Read.val_main_cst_9
  idx_vars i
  pointwise [ref_dy]
  rw [Fin.sum_univ_eq_sum_range (fun _ => _) 1, Finset.sum_range_one]

end Cert.Dh0Ideal.Hand

end
-- ==== Proof.Dh0.lean ====
/- The gradient through the input projection and the first layer norm, tile by tile, is the reference's. -/
module

public import proofs.«01_k».proof.Defs
public import proofs.«01_k».proof.Proof.Gen.Dh0Ideal.Value
public import proofs.«01_k».proof.Proof.Gen.Dh0RefIdeal.Run
public import proofs.«01_k».proof.Proof.Gen.Dh0RefIdeal.Read
public import Idealize.ShloMosaic.Lib.Pipeline.ValueKit
public import Idealize.ShloMosaic.Lib.Pointwise
public import proofs.«01_k».proof.Proof.Dh0Ref
public import proofs.«01_k».proof.Proof.Rows
public import proofs.«01_k».proof.Proof.Finite
public import Idealize.ShloMosaic.Lib.Pipeline.ReadBack
public import proofs.«01_k».proof.Proof.Gen.Pre_dh0_finite

@[expose] public section

set_option maxRecDepth 16384

noncomputable section

namespace Cert.Dh0Ideal.Hand

open Cert.Dh0Ideal Cert.Dh0Ideal.Gen Idealize.ShloMosaic Idealize.ShloMosaic.TcCoe Idealize.SL.Sem
open Idealize.ShloMosaic.Pipeline (Dat)

variable (m : (ℓ : Loc nD τ sig) → Buf (Elt Ideal) ℓ)

/-- Which block of each array a grid point takes: four points in turn go over the pairs of shards, starting from the second, for one group of 512 tokens. -/
theorem idx : ∀ t : Fin cfg0.N, win0_0.index t = ![t.val % 4, t.val / 4, 0] ∧ win0_1.index t = ![(t.val % 4 + 1) % 4, 0, 0] ∧ win0_2.index t = ![t.val / 4, 0] ∧ win0_3.index t = ![t.val / 4, 0] ∧ win0_4.index t = ![0, 0] ∧ win0_5.index t = ![t.val / 4, 0] ∧ win0_6.index t = ![0, 0] ∧ win0_7.index t = ![0, 0] :=
  (by decide +kernel : ∀ t : Fin grid0.N, _)

/-- The token a row of a tile holds. -/
abbrev tok (t : Fin cfg0.N) (r : Fin 512) : Fin 4096 := ⟨t.val / 4 * 512 + r.val, by have : t.val < 32 := t.isLt; omega⟩

/-- The gradient of the four parts of the mixer's input, in the order in which the kernel takes them. -/
def stacked (d : FVec Ideal S4096x4096 .f32) : FVec Ideal S4x4096x1024 .bf16 :=
  concatenate S4x4096x1024 0
    [⟨S1x4096x1024, broadcastInDim S1x4096x1024 ![1, 2] bcast_S4096x1024_S1x4096x1024_1_2 (extractStridedSlice S4096x1024 ![0, 1024] (truncf .bf16 d bitsLt_bf16_f32) slices_S4096x4096_S4096x1024_0_1024)⟩,
     ⟨S1x4096x1024, broadcastInDim S1x4096x1024 ![1, 2] bcast_S4096x1024_S1x4096x1024_1_2 (extractStridedSlice S4096x1024 ![0, 2048] (truncf .bf16 d bitsLt_bf16_f32) slices_S4096x4096_S4096x1024_0_2048)⟩,
     ⟨S1x4096x1024, broadcastInDim S1x4096x1024 ![1, 2] bcast_S4096x1024_S1x4096x1024_1_2 (extractStridedSlice S4096x1024 ![0, 3072] (truncf .bf16 d bitsLt_bf16_f32) slices_S4096x4096_S4096x1024_0_3072)⟩,
     ⟨S1x4096x1024, broadcastInDim S1x4096x1024 ![1, 2] bcast_S4096x1024_S1x4096x1024_1_2 (extractStridedSlice S4096x1024 ![0, 0] (truncf .bf16 d bitsLt_bf16_f32) slices_S4096x4096_S4096x1024_0_0)⟩]
    concatenates_S1x4096x1024_S1x4096x1024_S1x4096x1024_S1x4096x1024_S4x4096x1024_d0

/-- Part `q` of the stack is part `q + 1`, counted around, of the columns. -/
theorem stacked_apply (d : FVec Ideal S4096x4096 .f32) (i : S4x4096x1024.Idx) :
    stacked d i = d (ix2 (i 1) ⟨((i 0).val + 1) % 4 * 1024 + (i 2).val, by have h2 : (i 2).val < 1024 := (i 2).isLt; omega⟩) := by
  idx_vars i
  match i0 with
  | ⟨0, _⟩ => pointwise [stacked]
  | ⟨1, _⟩ => pointwise [stacked]
  | ⟨2, _⟩ => pointwise [stacked]
  | ⟨3, _⟩ => pointwise [stacked]

/-- What the host code hands the kernel. -/
theorem host_stack (c : Dev nD) : V m c main_v9 = stacked (m ((c : Thread nD τ).loc main_arg0)) := by
  show StableHlo.after hostOps0 _ (Proc.devRef .tc main_v9) = _
  after_results
  rfl

/-- Two products are added to what is there. -/
theorem pay2_apply (v : FVec Ideal S512x2048 .f32) (a : FVec Ideal S1x512x512 .bf16) (b : FVec Ideal S1x2048x512 .bf16) (a' : FVec Ideal S1x512x512 .bf16) (b' : FVec Ideal S1x2048x512 .bf16) (i : S512x2048.Idx) :
    k0_pay2 (F := Ideal) v a b a' b' i = v i + ((∑ e : Fin 512, a (ix3 0 (i 0) e) * b (ix3 0 (i 1) e)) + ∑ e : Fin 512, a' (ix3 0 (i 0) e) * b' (ix3 0 (i 1) e)) := by
  idx_vars i
  pointwise [k0_pay2]

theorem pay1_apply (i : S512x2048.Idx) : k0_pay1 (F := Ideal) i = 0 := by
  idx_vars i
  pointwise [k0_pay1]

theorem pay8_apply (v : FVec Ideal S512x2048 .f32) (i : S512x2048.Idx) : k0_pay8 (F := Ideal) v i = Norm.cen (fun k => v (ix2 (i 0) k)) (i 1) := by
  idx_vars i
  pointwise [k0_pay8, Norm.cen, Norm.mean]

theorem pay9_apply (v : FVec Ideal S512x2048 .f32) (i : S512x1.Idx) : k0_pay9 (F := Ideal) v i = Norm.rstd (fun k => v (ix2 (i 0) k)) := by
  idx_vars i
  pointwise [k0_pay9, Norm.rstd, Norm.vare, pay8_apply]

theorem pay10_apply (v : FVec Ideal S512x2048 .f32) (i : S512x2048.Idx) : k0_pay10 (F := Ideal) v i = Norm.xhat (fun k => v (ix2 (i 0) k)) (i 1) := by
  idx_vars i
  pointwise [k0_pay10, Norm.xhat, pay8_apply, pay9_apply]

theorem pay11_apply (v w : FVec Ideal S512x2048 .f32) (i : S512x2048.Idx) : k0_pay11 (F := Ideal) v w i = Ideal.ofBits .f32 0x3F9837F0#32 * w i + v i := by
  idx_vars i
  pointwise [k0_pay11]

/-- The gradient through the norm in one tile. -/
theorem back_apply (v x w : FVec Ideal S512x2048 .f32) (g : FVec Ideal S1x2048 .f32) (i : S512x2048.Idx) :
    k0_pay3 (F := Ideal) (k0_pay9 x) (k0_pay12 v x w g) i
      = Norm.back (fun k => x (ix2 (i 0) k)) (fun k => k0_pay11 (F := Ideal) v w (ix2 (i 0) k) * g (ix2 0 k)) (i 1) := by
  idx_vars i
  pointwise [k0_pay3, k0_pay12, Norm.back, Norm.mean, pay10_apply, pay9_apply]

/-- A tile's part of the gradient of the scale. -/
theorem pay4_apply (x y : FVec Ideal S512x2048 .f32) (i : S1x2048.Idx) :
    k0_pay4 (F := Ideal) x y i = ∑ r : Fin 512, y (ix2 r (i 1)) * x (ix2 r (i 1)) := by
  idx_vars i
  pointwise [k0_pay4]

/-- A tile's part of the gradient of the offset. -/
theorem pay5_apply (y : FVec Ideal S512x2048 .f32) (i : S1x2048.Idx) : k0_pay5 (F := Ideal) y i = ∑ r : Fin 512, y (ix2 r (i 1)) := by
  idx_vars i
  pointwise [k0_pay5]

theorem pay6_apply (x y : FVec Ideal S512x2048 .f32) (v : FVec Ideal S1x2048 .f32) (i : S1x2048.Idx) :
    k0_pay6 (F := Ideal) x y v i = v i + k0_pay4 (F := Ideal) x y i := by
  idx_vars i
  pointwise [k0_pay6]

theorem pay7_apply (y : FVec Ideal S512x2048 .f32) (v : FVec Ideal S1x2048 .f32) (i : S1x2048.Idx) :
    k0_pay7 (F := Ideal) y v i = v i + k0_pay5 (F := Ideal) y i := by
  idx_vars i
  pointwise [k0_pay7]

/-- The four rectangles that a point reads. -/
theorem ld_a0 (a : FVec Ideal S1x512x1024 .bf16) (r e : Fin 512) :
    View.ld (Val := Elt Ideal) (S := S1x512x1024) (e' := .bf16) a (Rect.unit ![0, 0, 0] ![1, 512, 512] inb_S1x512x1024_S1x512x512_0_0_0) (ix3 0 r e) = a (ix3 0 r ⟨e.val, by omega⟩) := by
  refine View.ld_unit_apply_of (Val := Elt Ideal) (S := S1x512x1024) (e := .bf16) a _ _ _ _ _ fun q => ?_
  match q with
  | ⟨0, _⟩ => rfl
  | ⟨1, _⟩ => exact (Nat.zero_add _).symm
  | ⟨2, _⟩ => exact (Nat.zero_add _).symm

theorem ld_a1 (a : FVec Ideal S1x512x1024 .bf16) (r e : Fin 512) :
    View.ld (Val := Elt Ideal) (S := S1x512x1024) (e' := .bf16) a (Rect.unit ![0, 0, 512] ![1, 512, 512] inb_S1x512x1024_S1x512x512_0_0_512) (ix3 0 r e) = a (ix3 0 r ⟨512 + e.val, by omega⟩) := by
  refine View.ld_unit_apply_of (Val := Elt Ideal) (S := S1x512x1024) (e := .bf16) a _ _ _ _ _ fun q => ?_
  match q with
  | ⟨0, _⟩ => rfl
  | ⟨1, _⟩ => exact (Nat.zero_add _).symm
  | ⟨2, _⟩ => exact rfl

theorem ld_b0 (b : FVec Ideal S2x2048x512 .bf16) (k : Fin 2048) (e : Fin 512) :
    View.ld (Val := Elt Ideal) (S := S2x2048x512) (e' := .bf16) b (Rect.unit ![0, 0, 0] ![1, 2048, 512] inb_S2x2048x512_S1x2048x512_0_0_0) (ix3 0 k e) = b (ix3 0 k e) := by
  refine View.ld_unit_apply_of (Val := Elt Ideal) (S := S2x2048x512) (e := .bf16) b _ _ _ _ _ fun q => ?_
  match q with
  | ⟨0, _⟩ => rfl
  | ⟨1, _⟩ => exact (Nat.zero_add _).symm
  | ⟨2, _⟩ => exact (Nat.zero_add _).symm

theorem ld_b1 (b : FVec Ideal S2x2048x512 .bf16) (k : Fin 2048) (e : Fin 512) :
    View.ld (Val := Elt Ideal) (S := S2x2048x512) (e' := .bf16) b (Rect.unit ![1, 0, 0] ![1, 2048, 512] inb_S2x2048x512_S1x2048x512_1_0_0) (ix3 0 k e) = b (ix3 1 k e) := by
  refine View.ld_unit_apply_of (Val := Elt Ideal) (S := S2x2048x512) (e := .bf16) b _ _ _ _ _ fun q => ?_
  match q with
  | ⟨0, _⟩ => rfl
  | ⟨1, _⟩ => exact (Nat.zero_add _).symm
  | ⟨2, _⟩ => exact (Nat.zero_add _).symm

/-- One tile's products. -/
def prod (a : FVec Ideal S1x512x1024 .bf16) (b : FVec Ideal S2x2048x512 .bf16) (i : S512x2048.Idx) : EReal :=
  (∑ e : Fin 512, a (ix3 0 (i 0) ⟨e.val, by omega⟩) * b (ix3 0 (i 1) e)) + ∑ e : Fin 512, a (ix3 0 (i 0) ⟨512 + e.val, by omega⟩) * b (ix3 1 (i 1) e)

/-- A point adds its products to what is there. -/
theorem step_apply (v : FVec Ideal S512x2048 .f32) (a : FVec Ideal S1x512x1024 .bf16) (b : FVec Ideal S2x2048x512 .bf16) (i : S512x2048.Idx) :
    k0_pay2 (F := Ideal) v (View.ld (Val := Elt Ideal) (S := S1x512x1024) (e' := .bf16) a (Rect.unit ![0, 0, 0] ![1, 512, 512] inb_S1x512x1024_S1x512x512_0_0_0))
      (View.ld (Val := Elt Ideal) (S := S2x2048x512) (e' := .bf16) b (Rect.unit ![0, 0, 0] ![1, 2048, 512] inb_S2x2048x512_S1x2048x512_0_0_0))
      (View.ld (Val := Elt Ideal) (S := S1x512x1024) (e' := .bf16) a (Rect.unit ![0, 0, 512] ![1, 512, 512] inb_S1x512x1024_S1x512x512_0_0_512))
      (View.ld (Val := Elt Ideal) (S := S2x2048x512) (e' := .bf16) b (Rect.unit ![1, 0, 0] ![1, 2048, 512] inb_S2x2048x512_S1x2048x512_1_0_0)) i = v i + prod a b i := by
  refine (pay2_apply _ _ _ _ _ i).trans ?_
  unfold prod
  refine congrArg₂ _ rfl (congrArg₂ _ (Fin.sum_fin_congr fun e => ?_) (Fin.sum_fin_congr fun e => ?_))
  · exact congrArg₂ _ (ld_a0 a _ e) (ld_b0 b _ e)
  · exact congrArg₂ _ (ld_a1 a _ e) (ld_b1 b _ e)

/-- One grid point's products. -/
def part (c : Dev nD) (t : Fin cfg0.N) (i : S512x2048.Idx) : EReal := prod (iblk m c 0 t) (iblk m c 1 t) i

/-- An entry of the whole product. -/
def full (x0 : FVec Ideal S4096x4096 .f32) (x1 : FVec Ideal S2048x4096 .f32) (t : Fin 4096) (k : Fin 2048) : EReal :=
  ∑ f : Fin 4096, x0 (ix2 t f) * x1 (ix2 k f)

/-- A shard's part of it. -/
def chunk (x0 : FVec Ideal S4096x4096 .f32) (x1 : FVec Ideal S2048x4096 .f32) (t : Fin 4096) (k : Fin 2048) (s : ℕ) : EReal :=
  ∑ e : Fin 512, if h : s < 8 then x0 (ix2 t ⟨s * 512 + e.val, by omega⟩) * x1 (ix2 k ⟨s * 512 + e.val, by omega⟩) else 0

theorem full_chunks (x0 : FVec Ideal S4096x4096 .f32) (x1 : FVec Ideal S2048x4096 .f32) (t : Fin 4096) (k : Fin 2048) :
    full x0 x1 t k = ∑ s : Fin 8, chunk x0 x1 t k s.val := by
  symm
  unfold full chunk
  refine Fin.sum_mul_add_congr fun s r h => ?_
  rw [dif_pos s.isLt]

/-- The shards in the kernel's order. -/
theorem full_pairs (x0 : FVec Ideal S4096x4096 .f32) (x1 : FVec Ideal S2048x4096 .f32) (t : Fin 4096) (k : Fin 2048) :
    ∑ s : Fin 4, (chunk x0 x1 t k ((s.val + 1) % 4 * 2) + chunk x0 x1 t k ((s.val + 1) % 4 * 2 + 1)) = full x0 x1 t k := by
  rw [full_chunks, Fin.sum_univ_four, Fin.sum_univ_eight]
  show (chunk x0 x1 t k 2 + chunk x0 x1 t k 3) + (chunk x0 x1 t k 4 + chunk x0 x1 t k 5) + (chunk x0 x1 t k 6 + chunk x0 x1 t k 7) + (chunk x0 x1 t k 0 + chunk x0 x1 t k 1)
    = chunk x0 x1 t k 0 + chunk x0 x1 t k 1 + chunk x0 x1 t k 2 + chunk x0 x1 t k 3 + chunk x0 x1 t k 4 + chunk x0 x1 t k 5 + chunk x0 x1 t k 6 + chunk x0 x1 t k 7
  ac_rfl

/-- Equal columns, equal entries. -/
theorem entry (d : FVec Ideal S4096x4096 .f32) (k : Fin 4096) {a b : Fin 4096} (h : a.val = b.val) : d (ix2 k a) = d (ix2 k b) := by
  rw [Fin.ext h]

/-- The columns of the gradient that a grid point's block holds. -/
theorem blk0 (c : Dev nD) (t : Fin cfg0.N) (r : Fin 512) (e : Fin 1024) :
    (iblk m c 0 t : FVec Ideal S1x512x1024 .bf16) (ix3 0 r e) = ((m ((c : Thread nD τ).loc main_arg0)) : FVec Ideal S4096x4096 .f32) (ix2 (tok t r) ⟨(t.val % 4 + 1) % 4 * 1024 + e.val, by omega⟩) := by
  obtain ⟨e0, e1, e2, e3, e4, e5, e6, e7⟩ := idx t
  have ht : t.val < 32 := t.isLt
  have em : (win0_0.blk t).view.emb (ix3 0 r e) = ix3 ⟨t.val % 4, by omega⟩ (tok t r) e := by
    blk_ext [e0]
  show V m c main_v9 ((win0_0.blk t).view.emb (ix3 0 r e)) = _
  rw [em, host_stack, stacked_apply]
  exact entry _ _ rfl

/-- The columns of the weight that a grid point's block holds. -/
theorem blk1 (c : Dev nD) (t : Fin cfg0.N) (h : Fin 2) (k : Fin 2048) (e : Fin 512) :
    (iblk m c 1 t : FVec Ideal S2x2048x512 .bf16) (ix3 h k e) = ((m ((c : Thread nD τ).loc main_arg1)) : FVec Ideal S2048x4096 .f32) (ix2 k ⟨((t.val % 4 + 1) % 4 * 2 + h.val) * 512 + e.val, by omega⟩) := by
  obtain ⟨e0, e1, e2, e3, e4, e5, e6, e7⟩ := idx t
  blk_point [iblk, V, e1]

/-- A point's products are two shards' parts. -/
theorem part_eq (c : Dev nD) (t : Fin cfg0.N) (i : S512x2048.Idx) :
    part m c t i = chunk (m ((c : Thread nD τ).loc main_arg0)) (m ((c : Thread nD τ).loc main_arg1)) (tok t (i 0)) (i 1) ((t.val % 4 + 1) % 4 * 2) + chunk (m ((c : Thread nD τ).loc main_arg0)) (m ((c : Thread nD τ).loc main_arg1)) (tok t (i 0)) (i 1) ((t.val % 4 + 1) % 4 * 2 + 1) := by
  unfold part prod chunk
  refine congrArg₂ _ (Fin.sum_fin_congr fun e => ?_) (Fin.sum_fin_congr fun e => ?_)
  · rw [dif_pos (by omega)]
    refine congrArg₂ _ ((blk0 m c t (i 0) _).trans (entry _ _ ?_)) ((blk1 m c t 0 (i 1) e).trans ?_)
    · show (t.val % 4 + 1) % 4 * 1024 + e.val = (t.val % 4 + 1) % 4 * 2 * 512 + e.val
      omega
    · rfl
  · rw [dif_pos (by omega)]
    refine congrArg₂ _ ((blk0 m c t (i 0) _).trans (entry _ _ ?_)) ((blk1 m c t 1 (i 1) e).trans ?_)
    · show (t.val % 4 + 1) % 4 * 1024 + (512 + e.val) = ((t.val % 4 + 1) % 4 * 2 + 1) * 512 + e.val
      omega
    · rfl

theorem scr_first (c : Dev nD) (t : Fin cfg0.N) (h0 : t.val % 4 = 0) (i : S512x2048.Idx) :
    (outsAt0 m c t.val t.isLt).2.2.2 i = 0 + part m c t i := by
  rw [outsAt0_A m c t h0 (by omega)]
  frame_out
  refine (step_apply _ (iblk m c 0 t) (iblk m c 1 t) i).trans ?_
  rw [pay1_apply]
  rfl

theorem scr_next (c : Dev nD) (t : Fin cfg0.N) (h0 : ¬t.val % 4 = 0) (i : S512x2048.Idx) :
    (outsAt0 m c t.val t.isLt).2.2.2 i = (outsAt0 m c (t.val - 1) (Nat.lt_of_le_of_lt (Nat.sub_le _ _) t.isLt)).2.2.2 i + part m c t i := by
  by_cases h1 : t.val % 4 = 3
  · by_cases h : t.val < 4
    · rw [outsAt0_C m c t h0 h1 h (by omega) h (by omega)]
      frame_out
      rw [read_unread_whole]
      exact step_apply _ (iblk m c 0 t) (iblk m c 1 t) i
    · rw [outsAt0_D m c t h0 h1 h (by omega) h (by omega)]
      frame_out
      rw [read_unread_whole]
      exact step_apply _ (iblk m c 0 t) (iblk m c 1 t) i
  · rw [outsAt0_B m c t h0 h1]
    frame_out
    rw [read_unread_whole]
    exact step_apply _ (iblk m c 0 t) (iblk m c 1 t) i

theorem scr (c : Dev nD) (t : Fin cfg0.N) (h1 : t.val % 4 = 3) (i : S512x2048.Idx) :
    (outsAt0 m c t.val t.isLt).2.2.2 i = full (m ((c : Thread nD τ).loc main_arg0)) (m ((c : Thread nD τ).loc main_arg1)) (tok t (i 0)) (i 1) := by
  have acc := Pipeline.eq_sum_fin_of_reset_step_apply_of_flush (fun n h => (outsAt0 m c n h).2.2.2) 4 (fun _ => (0 : EReal)) (part m c)
    (fun t h0 i => scr_first m c t h0 i) (fun t h0 i => scr_next m c t h0 i) t h1 i
  refine acc.trans ?_
  rw [zero_add]
  refine Eq.trans ?_ (full_pairs _ _ _ _)
  refine Fin.sum_fin_congr fun s => ?_
  rw [part_eq]
  have hs : s.val < 4 := s.isLt
  have q : tok ⟨4 * (t.val / 4) + s.val, Pipeline.run_point_lt t h1 s⟩ (i 0) = tok t (i 0) := Fin.ext (by
    show (4 * (t.val / 4) + s.val) / 4 * 512 + (i 0).val = t.val / 4 * 512 + (i 0).val
    omega)
  have p : (4 * (t.val / 4) + s.val) % 4 = s.val := by omega
  rw [q]
  show chunk _ _ _ _ (((4 * (t.val / 4) + s.val) % 4 + 1) % 4 * 2) + chunk _ _ _ _ (((4 * (t.val / 4) + s.val) % 4 + 1) % 4 * 2 + 1) = _
  rw [p]

/-- What the last of a group's points leaves. -/
theorem last5 (c : Dev nD) (t : Fin cfg0.N) (h1 : t.val % 4 = 3) :
    (outsAt0 m c t.val t.isLt).1 = k0_pay3 (F := Ideal) (k0_pay9 (iblk m c 3 t)) (k0_pay12 (outsAt0 m c t.val t.isLt).2.2.2 (iblk m c 3 t) (iblk m c 2 t) (iblk m c 4 t)) := by
  by_cases h : t.val < 4
  · rw [outsAt0_C m c t (by omega) h1 h (by omega) h (by omega)]
    frame_out
  · rw [outsAt0_D m c t (by omega) h1 h (by omega) h (by omega)]
    frame_out

theorem first6 (c : Dev nD) (t : Fin cfg0.N) (h1 : t.val % 4 = 3) (h : t.val < 4) :
    (outsAt0 m c t.val t.isLt).2.1 = k0_pay4 (F := Ideal) (k0_pay10 (iblk m c 3 t)) (k0_pay11 (outsAt0 m c t.val t.isLt).2.2.2 (iblk m c 2 t)) := by
  rw [outsAt0_C m c t (by omega) h1 h (by omega) h (by omega)]
  frame_out

theorem next6 (c : Dev nD) (t : Fin cfg0.N) (h1 : t.val % 4 = 3) (h : ¬t.val < 4) (hp : t.val - 1 < cfg0.N) :
    (outsAt0 m c t.val t.isLt).2.1 = k0_pay6 (F := Ideal) (k0_pay10 (iblk m c 3 t)) (k0_pay11 (outsAt0 m c t.val t.isLt).2.2.2 (iblk m c 2 t)) (outsAt0 m c (t.val - 1) hp).2.1 := by
  rw [outsAt0_D m c t (by omega) h1 h (by omega) h (by omega)]
  frame_out

theorem first7 (c : Dev nD) (t : Fin cfg0.N) (h1 : t.val % 4 = 3) (h : t.val < 4) :
    (outsAt0 m c t.val t.isLt).2.2.1 = k0_pay5 (F := Ideal) (k0_pay11 (outsAt0 m c t.val t.isLt).2.2.2 (iblk m c 2 t)) := by
  rw [outsAt0_C m c t (by omega) h1 h (by omega) h (by omega)]
  frame_out

theorem next7 (c : Dev nD) (t : Fin cfg0.N) (h1 : t.val % 4 = 3) (h : ¬t.val < 4) (hp : t.val - 1 < cfg0.N) :
    (outsAt0 m c t.val t.isLt).2.2.1 = k0_pay7 (F := Ideal) (k0_pay11 (outsAt0 m c t.val t.isLt).2.2.2 (iblk m c 2 t)) (outsAt0 m c (t.val - 1) hp).2.2.1 := by
  rw [outsAt0_D m c t (by omega) h1 h (by omega) h (by omega)]
  frame_out

/-- The other points leave the sums as they are. -/
theorem keep6 (c : Dev nD) (t : Fin cfg0.N) (h1 : t.val % 4 ≠ 3) (hp : t.val - 1 < cfg0.N) :
    (outsAt0 m c t.val t.isLt).2.1 = (outsAt0 m c (t.val - 1) hp).2.1 := by
  by_cases h0 : t.val % 4 = 0
  · rw [outsAt0_A m c t h0 h1]
    dsimp only
    unfold out0_A_6
    rfl
  · rw [outsAt0_B m c t h0 h1]
    dsimp only
    unfold out0_B_6
    rfl

theorem keep7 (c : Dev nD) (t : Fin cfg0.N) (h1 : t.val % 4 ≠ 3) (hp : t.val - 1 < cfg0.N) :
    (outsAt0 m c t.val t.isLt).2.2.1 = (outsAt0 m c (t.val - 1) hp).2.2.1 := by
  by_cases h0 : t.val % 4 = 0
  · rw [outsAt0_A m c t h0 h1]
    dsimp only
    unfold out0_A_7
    rfl
  · rw [outsAt0_B m c t h0 h1]
    dsimp only
    unfold out0_B_7
    rfl

/-- A tile's row of the gradient at the norm's output is the array's. -/
theorem dy_row (c : Dev nD) (t : Fin cfg0.N) (h1 : t.val % 4 = 3) (r : Fin 512) (k : Fin 2048) :
    k0_pay11 (F := Ideal) (outsAt0 m c t.val t.isLt).2.2.2 (iblk m c 2 t) (ix2 r k) = dy (m ((c : Thread nD τ).loc main_arg0)) (m ((c : Thread nD τ).loc main_arg1)) (m ((c : Thread nD τ).loc main_arg2)) (tok t r) k := by
  refine (pay11_apply _ _ _).trans ?_
  rw [scr m c t h1]
  unfold dy
  refine congrArg₂ _ (congrArg₂ _ rfl ?_) rfl
  obtain ⟨e0, e1, e2, e3, e4, e5, e6, e7⟩ := idx t
  blk_point [iblk, V, e2]

/-- A tile's row of the norm's input is the array's. -/
theorem in_row (c : Dev nD) (t : Fin cfg0.N) (r : Fin 512) :
    (fun k => (iblk m c 3 t : FVec Ideal S512x2048 .f32) (ix2 r k)) = row (m ((c : Thread nD τ).loc main_arg3)) (tok t r) := by
  funext k
  unfold row
  obtain ⟨e0, e1, e2, e3, e4, e5, e6, e7⟩ := idx t
  blk_point [iblk, V, e3]

theorem g_row (c : Dev nD) (t : Fin cfg0.N) (k : Fin 2048) :
    (iblk m c 4 t : FVec Ideal S1x2048 .f32) (ix2 0 k) = ((m ((c : Thread nD τ).loc main_arg4)) : FVec Ideal S2048 .f32) (ix1 k) := by
  obtain ⟨e0, e1, e2, e3, e4, e5, e6, e7⟩ := idx t
  blk_point [iblk, V, e4]

/-- An entry of a tile of the gradient. -/
theorem out5 (c : Dev nD) (t : Fin cfg0.N) (h1 : t.val % 4 = 3) (y : S512x2048.Idx) :
    (outsAt0 m c t.val t.isLt).1 y = Norm.back (row (m ((c : Thread nD τ).loc main_arg3)) (tok t (y 0))) (dxh (m ((c : Thread nD τ).loc main_arg0)) (m ((c : Thread nD τ).loc main_arg1)) (m ((c : Thread nD τ).loc main_arg2)) (m ((c : Thread nD τ).loc main_arg4)) (tok t (y 0))) (y 1) := by
  rw [last5 m c t h1]
  refine (back_apply _ _ _ _ _).trans ?_
  refine congrArg₂ (fun f w => Norm.back f w (y 1)) (in_row m c t (y 0)) (funext fun k => ?_)
  unfold dxh
  exact congrArg₂ _ (dy_row m c t h1 (y 0) k) (g_row m c t k)

/-- The group of 512 tokens' part of the gradient of the scale. -/
def dgPart (c : Dev nD) (s : ℕ) (j : S1x2048.Idx) : EReal :=
  ∑ r : Fin 512, if h : s < 8 then Norm.xhat (row (m ((c : Thread nD τ).loc main_arg3)) ⟨s * 512 + r.val, by omega⟩) (j 1) * dy (m ((c : Thread nD τ).loc main_arg0)) (m ((c : Thread nD τ).loc main_arg1)) (m ((c : Thread nD τ).loc main_arg2)) ⟨s * 512 + r.val, by omega⟩ (j 1) else 0

def dbPart (c : Dev nD) (s : ℕ) (j : S1x2048.Idx) : EReal :=
  ∑ r : Fin 512, if h : s < 8 then dy (m ((c : Thread nD τ).loc main_arg0)) (m ((c : Thread nD τ).loc main_arg1)) (m ((c : Thread nD τ).loc main_arg2)) ⟨s * 512 + r.val, by omega⟩ (j 1) else 0

theorem tile6 (c : Dev nD) (t : Fin cfg0.N) (h1 : t.val % 4 = 3) (j : S1x2048.Idx) :
    k0_pay4 (F := Ideal) (k0_pay10 (iblk m c 3 t)) (k0_pay11 (outsAt0 m c t.val t.isLt).2.2.2 (iblk m c 2 t)) j = dgPart m c (t.val / 4) j := by
  refine (pay4_apply _ _ _).trans ?_
  unfold dgPart
  have hN : t.val < 32 := t.isLt
  refine Fin.sum_fin_congr fun r => ?_
  rw [dif_pos (by omega), mul_comm]
  refine congrArg₂ _ ?_ ?_
  · refine (pay10_apply _ _).trans ?_
    exact congrArg (fun f => Norm.xhat f (j 1)) (in_row m c t r)
  · exact dy_row m c t h1 r (j 1)

theorem tile7 (c : Dev nD) (t : Fin cfg0.N) (h1 : t.val % 4 = 3) (j : S1x2048.Idx) :
    k0_pay5 (F := Ideal) (k0_pay11 (outsAt0 m c t.val t.isLt).2.2.2 (iblk m c 2 t)) j = dbPart m c (t.val / 4) j := by
  refine (pay5_apply _ _).trans ?_
  unfold dbPart
  have hN : t.val < 32 := t.isLt
  refine Fin.sum_fin_congr fun r => ?_
  rw [dif_pos (by omega)]
  exact dy_row m c t h1 r (j 1)

/-- The sums over all tokens, after the last point. -/
theorem sum6 (c : Dev nD) (t : Fin cfg0.N) (h : t.val % 32 = 31) (j : S1x2048.Idx) :
    (outsAt0 m c t.val t.isLt).2.1 j = ∑ k : Fin 4096, Norm.xhat (row (m ((c : Thread nD τ).loc main_arg3)) k) (j 1) * dy (m ((c : Thread nD τ).loc main_arg0)) (m ((c : Thread nD τ).loc main_arg1)) (m ((c : Thread nD τ).loc main_arg2)) k (j 1) := by
  have hN : t.val < 32 := t.isLt
  refine (Rows.kept 4 cfg0.N (.inr rfl) (fun n h => (outsAt0 m c n h).2.1) (dgPart m c)
    (fun t h1 hl j => ?_) (fun t hp h1 hl j => ?_) (fun t hp _ h1 j => ?_) t.val t.isLt (by omega) j).trans ?_
  · rw [first6 m c t h1 hl, tile6 m c t h1]
    exact congrArg (fun n => dgPart m c n j) (by omega)
  · rw [next6 m c t h1 (by omega) hp]
    refine (pay6_apply _ _ _ _).trans ?_
    rw [tile6 m c t h1]
  · exact congrFun (keep6 m c t h1 hp) j
  · rw [show (t.val + 1) / 4 = 8 from by omega, Finset.sum_range]
    unfold dgPart
    refine Fin.sum_mul_add_congr fun s r h => ?_
    rw [dif_pos s.isLt]

theorem sum7 (c : Dev nD) (t : Fin cfg0.N) (h : t.val % 32 = 31) (j : S1x2048.Idx) :
    (outsAt0 m c t.val t.isLt).2.2.1 j = ∑ k : Fin 4096, dy (m ((c : Thread nD τ).loc main_arg0)) (m ((c : Thread nD τ).loc main_arg1)) (m ((c : Thread nD τ).loc main_arg2)) k (j 1) := by
  have hN : t.val < 32 := t.isLt
  refine (Rows.kept 4 cfg0.N (.inr rfl) (fun n h => (outsAt0 m c n h).2.2.1) (dbPart m c)
    (fun t h1 hl j => ?_) (fun t hp h1 hl j => ?_) (fun t hp _ h1 j => ?_) t.val t.isLt (by omega) j).trans ?_
  · rw [first7 m c t h1 hl, tile7 m c t h1]
    exact congrArg (fun n => dbPart m c n j) (by omega)
  · rw [next7 m c t h1 (by omega) hp]
    refine (pay7_apply _ _ _).trans ?_
    rw [tile7 m c t h1]
  · exact congrFun (keep7 m c t h1 hp) j
  · rw [show (t.val + 1) / 4 = 8 from by omega, Finset.sum_range]
    unfold dbPart
    refine Fin.sum_mul_add_congr fun s r h => ?_
    rw [dif_pos s.isLt]

/-- Every argument is finite. -/
theorem finite (hp : Cert.Pre_Dh0Ideal_dh0_finite m) (c : Dev nD) :
    (∀ i : S4096x4096.Idx, Norm.Re (((m ((c : Thread nD τ).loc main_arg0)) : FVec Ideal S4096x4096 .f32) i)) ∧ (∀ i : S2048x4096.Idx, Norm.Re (((m ((c : Thread nD τ).loc main_arg1)) : FVec Ideal S2048x4096 .f32) i))
    ∧ (∀ i : S4096x2048.Idx, Norm.Re (((m ((c : Thread nD τ).loc main_arg2)) : FVec Ideal S4096x2048 .f32) i)) ∧ (∀ i : S4096x2048.Idx, Norm.Re (((m ((c : Thread nD τ).loc main_arg3)) : FVec Ideal S4096x2048 .f32) i))
    ∧ (∀ i : S2048.Idx, Norm.Re (((m ((c : Thread nD τ).loc main_arg4)) : FVec Ideal S2048 .f32) i)) := by
  have h := congrFun (hp c) (fun a => Fin.elim0 a)
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨Finite.all _ _ _ _ _ h0, Finite.all _ _ _ _ _ h1, Finite.all _ _ _ _ _ h2, Finite.all _ _ _ _ _ h3, Finite.all _ _ _ _ _ h4⟩

/-- On finite arguments the two spellings of the gradient through the norm agree. -/
theorem agree (hp : Cert.Pre_Dh0Ideal_dh0_finite m) (c : Dev nD) (t : Fin 4096) (k : Fin 2048) :
    Norm.back (row (m ((c : Thread nD τ).loc main_arg3)) t) (dxh (m ((c : Thread nD τ).loc main_arg0)) (m ((c : Thread nD τ).loc main_arg1)) (m ((c : Thread nD τ).loc main_arg2)) (m ((c : Thread nD τ).loc main_arg4)) t) k = Norm.backR (row (m ((c : Thread nD τ).loc main_arg3)) t) (dxh (m ((c : Thread nD τ).loc main_arg0)) (m ((c : Thread nD τ).loc main_arg1)) (m ((c : Thread nD τ).loc main_arg2)) (m ((c : Thread nD τ).loc main_arg4)) t) k := by
  obtain ⟨h0, h1, h2, h3, h4⟩ := finite m hp c
  refine Norm.back_eq (fun k => h3 _) (fun k => ?_) k
  unfold dxh dy
  exact (((Finite.alpha.mul (h2 _))).add (Norm.Re.sum _ fun f => (h0 _).mul (h1 _))).mul (h4 _)

/-- The tiles fill the reference's value. -/
theorem final5 (hp : Cert.Pre_Dh0Ideal_dh0_finite m) (c : Dev nD) : (dats m 0 c).arrAt 5 cfg0.N
    = Cert.Dh0RefIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have h1 : t.val % 4 = 3 := (flush0_5 t).1 hf
  have em : (win0_5.blk t).view.emb y = ix2 (tok t (y 0)) (y 1) := by
    obtain ⟨e0, e1, e2, e3, e4, e5, e6, e7⟩ := idx t
    blk_ext [e5]
  rw [ref_dr, em]
  exact (out5 m c t h1 y).trans (agree m hp c _ _)

/-- The one block holds the reference's value. -/
theorem final6 (c : Dev nD) : (dats m 0 c).arrAt 6 cfg0.N
    = Cert.Dh0RefIdeal.Read.val_main_v70 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  have h1 : t.val % 32 = 31 := (flush0_6 t).1 hf
  have em : (win0_6.blk t).view.emb y = ix2 (y 0) (y 1) := by
    obtain ⟨e0, e1, e2, e3, e4, e5, e6, e7⟩ := idx t
    blk_ext [e6]
  rw [ref_dg, em]
  exact sum6 m c t h1 y

/-- The one block holds the reference's value. -/
theorem final7 (c : Dev nD) : (dats m 0 c).arrAt 7 cfg0.N
    = Cert.Dh0RefIdeal.Read.val_main_v71 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  have h1 : t.val % 32 = 31 := (flush0_7 t).1 hf
  have em : (win0_7.blk t).view.emb y = ix2 (y 0) (y 1) := by
    obtain ⟨e0, e1, e2, e3, e4, e5, e6, e7⟩ := idx t
    blk_ext [e7]
  rw [ref_db, em]
  exact sum7 m c t h1 y

/-- Both programs end with the same values in the results. -/
theorem tie : Cert.algebraic_Dh0Ideal_Dh0RefIdeal_pre_dh0_finite := by
  intro m g m' g' hp ha
  refine ⟨fun c => Cert.Dh0RefIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c => Cert.Dh0RefIdeal.Read.val_main_v70 (F := Ideal) (m ((c : Thread nD τ).loc main_arg0)) (m ((c : Thread nD τ).loc main_arg1)) (m ((c : Thread nD τ).loc main_arg2)) (m ((c : Thread nD τ).loc main_arg3)),
    fun c => Cert.Dh0RefIdeal.Read.val_main_v71 (F := Ideal) (m ((c : Thread nD τ).loc main_arg0)) (m ((c : Thread nD τ).loc main_arg1)) (m ((c : Thread nD τ).loc main_arg2)), ?_, ?_⟩
  · refine (θ_run defs _ _).mono (fun r h c => ?_) (Value.run_blocks (F := Ideal) m g)
    exact ⟨((h c).1).trans (final5 m hp c), ((h c).2.1).trans (final6 m c), ((h c).2.2.1).trans (final7 m c), (h c).2.2.2⟩
  · refine (θ_run Cert.Dh0RefIdeal.defs _ _).mono (fun r h c => ?_) (Cert.Dh0RefIdeal.Value.run (F := Ideal) m' g')
    obtain ⟨a0, a1, a2, a3, a4⟩ := ha c
    refine ⟨(h c).1.trans ?_, (h c).2.1.trans ?_, (h c).2.2.1.trans ?_, (h c).2.2.2⟩
    · refine (Cert.Dh0RefIdeal.Read.val_main_v69_eq m' c).trans ?_; rw [a0, a1, a2, a3, a4]
    · refine (Cert.Dh0RefIdeal.Read.val_main_v70_eq _ _ _ _).trans ?_; rw [a0, a1, a2, a3]
    · refine (Cert.Dh0RefIdeal.Read.val_main_v71_eq _ _ _).trans ?_; rw [a0, a1, a2]

/-- The reference runs, leaves its arguments as they are, and has no counter to leave standing. -/
theorem refFrame : Cert.quiescent_Dh0RefIdeal := fun m ρ _ =>
  (θ_run _ _ _).mono (fun r h => ⟨fun c => (h c).2.2.2, sem_eq_zero_of_no_sems rfl r.2⟩) (Cert.Dh0RefIdeal.Value.run (F := Ideal) m ρ)

/-- The same under the precondition. -/
theorem refFramePre : Cert.quiescent_Dh0RefIdeal_pre_dh0_finite := fun m ρ _ => refFrame m ρ trivial

end Cert.Dh0Ideal.Hand

end
-- ==== Proof.RsFf1.lean ====
/- The optimiser step of one large weight: the gradient's parts are added up and the weight's update is taken. -/
module

public import proofs.«01_k».proof.Defs
public import proofs.«01_k».proof.Proof.Gen.RsFf1.Frame
public import proofs.«01_k».proof.Proof.Gen.RsFf1Ideal.Frame
public import proofs.«01_k».proof.Proof.Gen.Pre_rs_ff1_slot
public import proofs.«01_k».proof.Proof.Gen.RsFf1RefIdeal.Run
public import proofs.«01_k».proof.Proof.Gen.RsFf1RefIdeal.Read
public import Idealize.ShloMosaic.Lib.Pipeline.ValueKit
public import Idealize.ShloMosaic.Lib.Pointwise

@[expose] public section

set_option maxRecDepth 16384

noncomputable section

namespace Cert.RsFf1.Hand

open Cert.RsFf1 Cert.RsFf1.Gen Idealize.ShloMosaic Idealize.ShloMosaic.TcCoe Idealize.SL.Sem

/-- The precondition puts the table's first word among the eight slots. -/
theorem slot_lt (m : (ℓ : Loc nD τ sig) → Buf (Elt Bits) ℓ) (h : Cert.Pre_RsFf1 m) (k : S4.Idx) (hk : (k 0).val = 0) :
    (m (((0 : Dev nD) : Thread nD τ).loc main_arg0) k).toNat < 8 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have h0 := congrFun (h 0) (fun a => ⟨0, by obtain rfl : a = 0 := Subsingleton.elim _ _; exact Nat.zero_lt_one⟩)
  simp only [Cert.Pre_rs_ff1_slot.fn, constantI, broadcastInDim, cmpi, andi, andi_one, extractStridedSlice, ofBool_eq_one, IntOp.cmpi,
    BitVec.sle, BitVec.slt, decide_eq_true_eq] at h0
  obtain ⟨h1, h2⟩ := h0
  have at_k (P : BitVec 32 → Prop) (I : S4.Idx) (hP : P (m (((0 : Dev nD) : Thread nD τ).loc main_arg0) I)) (hI : (I 0).val = 0) :
      P (m (((0 : Dev nD) : Thread nD τ).loc main_arg0) k) := by
    have e : I = k := by
      funext a
      obtain rfl : a = 0 := Subsingleton.elim _ _
      exact Fin.ext (hI.trans hk.symm)
    exact e ▸ hP
  have h1' := at_k (fun w => (0#32).toInt ≤ w.toInt) _ (of_decide_eq_true h1) rfl
  have h2' := at_k (fun w => w.toInt < (8#32).toInt) _ (of_decide_eq_true h2) rfl
  generalize m (((0 : Dev nD) : Thread nD τ).loc main_arg0) k = w at h1' h2'
  simp only [BitVec.toInt, BitVec.toNat_ofNat] at h1' h2'
  have := w.isLt
  split at h1' <;> split at h2' <;> omega

/-- So the block the first window names is inside the array, at every grid point. -/
theorem ok_of_pre (m : (ℓ : Loc nD τ sig) → Buf (Elt Bits) ℓ) (h : Cert.Pre_RsFf1 m) : Ok m := by
  intro i
  refine ⟨fun a => ?_, Or.inl rfl⟩
  fin_cases a
  · show ((m (((0 : Dev nD) : Thread nD τ).loc main_arg0) ?k).toNat + 1) * 1 ≤ 8
    have hs := slot_lt m h ?k rfl
    omega
  · have hi : (i 0).val < 4 := (i 0).isLt
    show ((BitVec.ofNat 32 (i 0).val).toNat + 1) * 512 ≤ 2048
    rw [BitVec.toNat_ofNat, Nat.mod_eq_of_lt (by omega)]
    omega
  · exact Nat.le_refl _

end Cert.RsFf1.Hand

namespace Cert.RsFf1Ideal.Hand

open Cert.RsFf1Ideal Cert.RsFf1Ideal.Gen Idealize.ShloMosaic Idealize.ShloMosaic.TcCoe Idealize.SL.Sem

/-- The precondition puts the table's first word among the eight slots. -/
theorem slot_lt (m : (ℓ : Loc nD τ sig) → Buf (Elt Ideal) ℓ) (h : Cert.Pre_RsFf1Ideal m) (k : S4.Idx) (hk : (k 0).val = 0) :
    (m (((0 : Dev nD) : Thread nD τ).loc main_arg0) k).toNat < 8 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have h0 := congrFun (h 0) (fun a => ⟨0, by obtain rfl : a = 0 := Subsingleton.elim _ _; exact Nat.zero_lt_one⟩)
  simp only [Cert.Pre_rs_ff1_slot.fn, constantI, broadcastInDim, cmpi, andi, andi_one, extractStridedSlice, ofBool_eq_one, IntOp.cmpi,
    BitVec.sle, BitVec.slt, decide_eq_true_eq] at h0
  obtain ⟨h1, h2⟩ := h0
  have at_k (P : BitVec 32 → Prop) (I : S4.Idx) (hP : P (m (((0 : Dev nD) : Thread nD τ).loc main_arg0) I)) (hI : (I 0).val = 0) :
      P (m (((0 : Dev nD) : Thread nD τ).loc main_arg0) k) := by
    have e : I = k := by
      funext a
      obtain rfl : a = 0 := Subsingleton.elim _ _
      exact Fin.ext (hI.trans hk.symm)
    exact e ▸ hP
  have h1' := at_k (fun w => (0#32).toInt ≤ w.toInt) _ (of_decide_eq_true h1) rfl
  have h2' := at_k (fun w => w.toInt < (8#32).toInt) _ (of_decide_eq_true h2) rfl
  generalize m (((0 : Dev nD) : Thread nD τ).loc main_arg0) k = w at h1' h2'
  simp only [BitVec.toInt, BitVec.toNat_ofNat] at h1' h2'
  have := w.isLt
  split at h1' <;> split at h2' <;> omega

/-- So the block the first window names is inside the array, at every grid point. -/
theorem ok_of_pre (m : (ℓ : Loc nD τ sig) → Buf (Elt Ideal) ℓ) (h : Cert.Pre_RsFf1Ideal m) : Ok m := by
  intro i
  refine ⟨fun a => ?_, Or.inl rfl⟩
  fin_cases a
  · show ((m (((0 : Dev nD) : Thread nD τ).loc main_arg0) ?k).toNat + 1) * 1 ≤ 8
    have hs := slot_lt m h ?k rfl
    omega
  · have hi : (i 0).val < 4 := (i 0).isLt
    show ((BitVec.ofNat 32 (i 0).val).toNat + 1) * 512 ≤ 2048
    rw [BitVec.toNat_ofNat, Nat.mod_eq_of_lt (by omega)]
    omega
  · exact Nat.le_refl _

end Cert.RsFf1Ideal.Hand

namespace Cert.RsFf1Ideal.Hand

open Cert.RsFf1Ideal Cert.RsFf1Ideal.Gen Idealize.ShloMosaic Idealize.ShloMosaic.TcCoe Idealize.SL.Sem
open Idealize.ShloMosaic.Pipeline (Dat)

variable (m : (ℓ : Loc nD τ sig) → Buf (Elt Ideal) ℓ) (hO : Ok m)

/-- The row of the whole array that a row of a grid point's block is. -/
def row (t : Fin (cfgM m hO).N) (y : Fin 512) : Fin 2048 :=
  ⟨t.val * 512 + y.val, by have h1 : t.val < 4 := t.isLt; have h2 := y.isLt; omega⟩

/-- The slot the table's first word names. -/
def slot (h : Cert.Pre_RsFf1Ideal m) : Fin 8 :=
  ⟨(m (((0 : Dev nD) : Thread nD τ).loc main_arg0) (ix1 0 : S4.Idx)).toNat, slot_lt m h _ rfl⟩

theorem at1 : ∀ t : Fin grid0.N, cc0_transform_1 (grid0.coords t) = ![0, t.val, 0] := by decide +kernel

theorem at2 : ∀ t : Fin grid0.N, cc0_transform_2 (grid0.coords t) = ![1, t.val, 0] := by decide +kernel

theorem at3 : ∀ t : Fin grid0.N, cc0_transform_3 (grid0.coords t) = ![2, t.val, 0] := by decide +kernel

theorem at4 : ∀ t : Fin grid0.N, cc0_transform_4 (grid0.coords t) = ![3, t.val, 0] := by decide +kernel

theorem at5 : ∀ t : Fin grid0.N, cc0_transform_5 (grid0.coords t) = ![t.val, 0] := by decide +kernel

theorem at6 : ∀ t : Fin grid0.N, cc0_transform_6 (grid0.coords t) = ![t.val, 0] := by decide +kernel

theorem at7 : ∀ t : Fin grid0.N, cc0_transform_7 (grid0.coords t) = ![t.val, 0] := by decide +kernel

theorem at8 : ∀ t : Fin grid0.N, cc0_transform_8 (grid0.coords t) = ![t.val, 0] := by decide +kernel

theorem at9 : ∀ t : Fin grid0.N, cc0_transform_9 (grid0.coords t) = ![t.val, 0] := by decide +kernel

theorem at10 : ∀ t : Fin grid0.N, cc0_transform_10 (grid0.coords t) = ![t.val, 0] := by decide +kernel

theorem at11 : ∀ t : Fin grid0.N, cc0_transform_11 (grid0.coords t) = ![t.val, 0] := by decide +kernel

/-- The first input's block lies in the slot that the table names. -/
theorem emb0 (h : Cert.Pre_RsFf1Ideal m) (t : Fin (cfgM m hO).N) (y0 : Fin 512) (y1 : Fin 1024) :
    (((cfgM m hO).win 0).blk t).view.emb (ix3 0 y0 y1 : S1x512x1024.Idx) = (ix3 (slot m h) (row m hO t y0) y1 : S8x2048x1024.Idx) := by
  refine funext fun a => Fin.ext ?_
  refine (ValueKit.rect_emb_unit_val _ _ _ _ _ : _ = cc0_transform_0 inb_S4_S1_0 numel1_S1 (tbl m) (grid0.coords t) a * S1x512x1024.size a + _).trans ?_
  have e := congrFun (at1 t) 1
  fin_cases a
  · show (m (((0 : Dev nD) : Thread nD τ).loc main_arg0) _).toNat * 1 + 0 = (m (((0 : Dev nD) : Thread nD τ).loc main_arg0) _).toNat
    rw [Nat.mul_one, Nat.add_zero]
    congr 2
    refine funext fun (a : Fin 1) => ?_
    obtain rfl : a = 0 := Subsingleton.elim _ _
    rfl
  · exact congrArg (· * 512 + y0.val) e
  · show 0 * 1024 + y1.val = y1.val
    omega

theorem emb1 (t : Fin (cfgM m hO).N) (y0 : Fin 512) (y1 : Fin 1024) :
    (((cfgM m hO).win 1).blk t).view.emb (ix3 0 y0 y1 : S1x512x1024.Idx) = (ix3 0 (row m hO t y0) y1 : S4x2048x1024.Idx) := by
  refine funext fun a => Fin.ext ?_
  refine (ValueKit.rect_emb_unit_val _ _ _ _ _ : _ = cc0_transform_1 (grid0.coords t) a * S1x512x1024.size a + _).trans ?_
  rw [at1]
  fin_cases a
  · rfl
  · rfl
  · show 0 * 1024 + y1.val = y1.val
    omega

theorem emb2 (t : Fin (cfgM m hO).N) (y0 : Fin 512) (y1 : Fin 1024) :
    (((cfgM m hO).win 2).blk t).view.emb (ix3 0 y0 y1 : S1x512x1024.Idx) = (ix3 1 (row m hO t y0) y1 : S4x2048x1024.Idx) := by
  refine funext fun a => Fin.ext ?_
  refine (ValueKit.rect_emb_unit_val _ _ _ _ _ : _ = cc0_transform_2 (grid0.coords t) a * S1x512x1024.size a + _).trans ?_
  rw [at2]
  fin_cases a
  · rfl
  · rfl
  · show 0 * 1024 + y1.val = y1.val
    omega

theorem emb3 (t : Fin (cfgM m hO).N) (y0 : Fin 512) (y1 : Fin 1024) :
    (((cfgM m hO).win 3).blk t).view.emb (ix3 0 y0 y1 : S1x512x1024.Idx) = (ix3 2 (row m hO t y0) y1 : S4x2048x1024.Idx) := by
  refine funext fun a => Fin.ext ?_
  refine (ValueKit.rect_emb_unit_val _ _ _ _ _ : _ = cc0_transform_3 (grid0.coords t) a * S1x512x1024.size a + _).trans ?_
  rw [at3]
  fin_cases a
  · rfl
  · rfl
  · show 0 * 1024 + y1.val = y1.val
    omega

theorem emb4 (t : Fin (cfgM m hO).N) (y0 : Fin 512) (y1 : Fin 1024) :
    (((cfgM m hO).win 4).blk t).view.emb (ix3 0 y0 y1 : S1x512x1024.Idx) = (ix3 3 (row m hO t y0) y1 : S4x2048x1024.Idx) := by
  refine funext fun a => Fin.ext ?_
  refine (ValueKit.rect_emb_unit_val _ _ _ _ _ : _ = cc0_transform_4 (grid0.coords t) a * S1x512x1024.size a + _).trans ?_
  rw [at4]
  fin_cases a
  · rfl
  · rfl
  · show 0 * 1024 + y1.val = y1.val
    omega

theorem emb5 (t : Fin (cfgM m hO).N) (y0 : Fin 512) (y1 : Fin 1024) :
    (((cfgM m hO).win 5).blk t).view.emb (ix2 y0 y1 : S512x1024.Idx) = (ix2 (row m hO t y0) y1 : S2048x1024.Idx) := by
  refine funext fun a => Fin.ext ?_
  refine (ValueKit.rect_emb_unit_val _ _ _ _ _ : _ = cc0_transform_5 (grid0.coords t) a * S512x1024.size a + _).trans ?_
  rw [at5]
  fin_cases a
  · rfl
  · show 0 * 1024 + y1.val = y1.val
    omega

theorem emb6 (t : Fin (cfgM m hO).N) (y0 : Fin 512) (y1 : Fin 1024) :
    (((cfgM m hO).win 6).blk t).view.emb (ix2 y0 y1 : S512x1024.Idx) = (ix2 (row m hO t y0) y1 : S2048x1024.Idx) := by
  refine funext fun a => Fin.ext ?_
  refine (ValueKit.rect_emb_unit_val _ _ _ _ _ : _ = cc0_transform_6 (grid0.coords t) a * S512x1024.size a + _).trans ?_
  rw [at6]
  fin_cases a
  · rfl
  · show 0 * 1024 + y1.val = y1.val
    omega

theorem emb7 (t : Fin (cfgM m hO).N) (y0 : Fin 512) (y1 : Fin 1024) :
    (((cfgM m hO).win 7).blk t).view.emb (ix2 y0 y1 : S512x1024.Idx) = (ix2 (row m hO t y0) y1 : S2048x1024.Idx) := by
  refine funext fun a => Fin.ext ?_
  refine (ValueKit.rect_emb_unit_val _ _ _ _ _ : _ = cc0_transform_7 (grid0.coords t) a * S512x1024.size a + _).trans ?_
  rw [at7]
  fin_cases a
  · rfl
  · show 0 * 1024 + y1.val = y1.val
    omega

theorem emb8 (t : Fin (cfgM m hO).N) (y0 : Fin 512) (y1 : Fin 1024) :
    (((cfgM m hO).win 8).blk t).view.emb (ix2 y0 y1 : S512x1024.Idx) = (ix2 (row m hO t y0) y1 : S2048x1024.Idx) := by
  refine funext fun a => Fin.ext ?_
  refine (ValueKit.rect_emb_unit_val _ _ _ _ _ : _ = cc0_transform_8 (grid0.coords t) a * S512x1024.size a + _).trans ?_
  rw [at8]
  fin_cases a
  · rfl
  · show 0 * 1024 + y1.val = y1.val
    omega

theorem emb9 (t : Fin (cfgM m hO).N) (y0 : Fin 512) (y1 : Fin 1024) :
    (((cfgM m hO).win 9).blk t).view.emb (ix2 y0 y1 : S512x1024.Idx) = (ix2 (row m hO t y0) y1 : S2048x1024.Idx) := by
  refine funext fun a => Fin.ext ?_
  refine (ValueKit.rect_emb_unit_val _ _ _ _ _ : _ = cc0_transform_9 (grid0.coords t) a * S512x1024.size a + _).trans ?_
  rw [at9]
  fin_cases a
  · rfl
  · show 0 * 1024 + y1.val = y1.val
    omega

theorem emb10 (t : Fin (cfgM m hO).N) (y0 : Fin 512) (y1 : Fin 1024) :
    (((cfgM m hO).win 10).blk t).view.emb (ix2 y0 y1 : S512x1024.Idx) = (ix2 (row m hO t y0) y1 : S2048x1024.Idx) := by
  refine funext fun a => Fin.ext ?_
  refine (ValueKit.rect_emb_unit_val _ _ _ _ _ : _ = cc0_transform_10 (grid0.coords t) a * S512x1024.size a + _).trans ?_
  rw [at10]
  fin_cases a
  · rfl
  · show 0 * 1024 + y1.val = y1.val
    omega

theorem emb11 (t : Fin (cfgM m hO).N) (y0 : Fin 512) (y1 : Fin 1024) :
    (((cfgM m hO).win 11).blk t).view.emb (ix2 y0 y1 : S512x1024.Idx) = (ix2 (row m hO t y0) y1 : S2048x1024.Idx) := by
  refine funext fun a => Fin.ext ?_
  refine (ValueKit.rect_emb_unit_val _ _ _ _ _ : _ = cc0_transform_11 (grid0.coords t) a * S512x1024.size a + _).trans ?_
  rw [at11]
  fin_cases a
  · rfl
  · show 0 * 1024 + y1.val = y1.val
    omega

theorem in0 (h : Cert.Pre_RsFf1Ideal m) (c : Dev nD) (t : Fin (cfgM m hO).N) (y0 : Fin 512) (y1 : Fin 1024) :
    iblk m hO c 0 t (ix3 0 y0 y1 : S1x512x1024.Idx) = m ((c : Thread nD τ).loc main_arg1) (ix3 (slot m h) (row m hO t y0) y1) :=
  congrArg (m ((c : Thread nD τ).loc main_arg1)) (emb0 m hO h t y0 y1)

theorem in1 (c : Dev nD) (t : Fin (cfgM m hO).N) (y0 : Fin 512) (y1 : Fin 1024) :
    iblk m hO c 1 t (ix3 0 y0 y1 : S1x512x1024.Idx) = m ((c : Thread nD τ).loc main_arg2) (ix3 0 (row m hO t y0) y1) :=
  congrArg (m ((c : Thread nD τ).loc main_arg2)) (emb1 m hO t y0 y1)

theorem in2 (c : Dev nD) (t : Fin (cfgM m hO).N) (y0 : Fin 512) (y1 : Fin 1024) :
    iblk m hO c 2 t (ix3 0 y0 y1 : S1x512x1024.Idx) = m ((c : Thread nD τ).loc main_arg3) (ix3 1 (row m hO t y0) y1) :=
  congrArg (m ((c : Thread nD τ).loc main_arg3)) (emb2 m hO t y0 y1)

theorem in3 (c : Dev nD) (t : Fin (cfgM m hO).N) (y0 : Fin 512) (y1 : Fin 1024) :
    iblk m hO c 3 t (ix3 0 y0 y1 : S1x512x1024.Idx) = m ((c : Thread nD τ).loc main_arg3) (ix3 2 (row m hO t y0) y1) :=
  congrArg (m ((c : Thread nD τ).loc main_arg3)) (emb3 m hO t y0 y1)

theorem in4 (c : Dev nD) (t : Fin (cfgM m hO).N) (y0 : Fin 512) (y1 : Fin 1024) :
    iblk m hO c 4 t (ix3 0 y0 y1 : S1x512x1024.Idx) = m ((c : Thread nD τ).loc main_arg3) (ix3 3 (row m hO t y0) y1) :=
  congrArg (m ((c : Thread nD τ).loc main_arg3)) (emb4 m hO t y0 y1)

theorem in5 (c : Dev nD) (t : Fin (cfgM m hO).N) (y0 : Fin 512) (y1 : Fin 1024) :
    iblk m hO c 5 t (ix2 y0 y1 : S512x1024.Idx) = m ((c : Thread nD τ).loc main_arg4) (ix2 (row m hO t y0) y1) :=
  congrArg (m ((c : Thread nD τ).loc main_arg4)) (emb5 m hO t y0 y1)

theorem in6 (c : Dev nD) (t : Fin (cfgM m hO).N) (y0 : Fin 512) (y1 : Fin 1024) :
    iblk m hO c 6 t (ix2 y0 y1 : S512x1024.Idx) = m ((c : Thread nD τ).loc main_arg5) (ix2 (row m hO t y0) y1) :=
  congrArg (m ((c : Thread nD τ).loc main_arg5)) (emb6 m hO t y0 y1)

theorem in7 (c : Dev nD) (t : Fin (cfgM m hO).N) (y0 : Fin 512) (y1 : Fin 1024) :
    iblk m hO c 7 t (ix2 y0 y1 : S512x1024.Idx) = m ((c : Thread nD τ).loc main_arg6) (ix2 (row m hO t y0) y1) :=
  congrArg (m ((c : Thread nD τ).loc main_arg6)) (emb7 m hO t y0 y1)

theorem cov8 : ((cfgM m hO).win 8).Covers := by
  refine ⟨(by decide : ∀ a : Fin 2, 0 < S512x1024.size a), fun (β : (a : Fin 2) → Fin (((cfgM m hO).win 8).nblk a)) => ⟨⟨(β 0).val, lt_of_lt_of_eq (β 0).isLt (by show (2048 + 512 - 1) / 512 = 4; norm_num)⟩, flush0_8 _ _, fun a => ⟨?_, Or.inl rfl⟩⟩⟩
  refine (congrFun (at8 _) a).trans ?_
  have h1 : (β 1).val < 1 := lt_of_lt_of_eq (β 1).isLt (by show (1024 + 1024 - 1) / 1024 = 1; norm_num)
  fin_cases a
  · rfl
  · show 0 = (β 1).val
    omega

theorem cov9 : ((cfgM m hO).win 9).Covers := by
  refine ⟨(by decide : ∀ a : Fin 2, 0 < S512x1024.size a), fun (β : (a : Fin 2) → Fin (((cfgM m hO).win 9).nblk a)) => ⟨⟨(β 0).val, lt_of_lt_of_eq (β 0).isLt (by show (2048 + 512 - 1) / 512 = 4; norm_num)⟩, flush0_9 _ _, fun a => ⟨?_, Or.inl rfl⟩⟩⟩
  refine (congrFun (at9 _) a).trans ?_
  have h1 : (β 1).val < 1 := lt_of_lt_of_eq (β 1).isLt (by show (1024 + 1024 - 1) / 1024 = 1; norm_num)
  fin_cases a
  · rfl
  · show 0 = (β 1).val
    omega

theorem cov10 : ((cfgM m hO).win 10).Covers := by
  refine ⟨(by decide : ∀ a : Fin 2, 0 < S512x1024.size a), fun (β : (a : Fin 2) → Fin (((cfgM m hO).win 10).nblk a)) => ⟨⟨(β 0).val, lt_of_lt_of_eq (β 0).isLt (by show (2048 + 512 - 1) / 512 = 4; norm_num)⟩, flush0_10 _ _, fun a => ⟨?_, Or.inl rfl⟩⟩⟩
  refine (congrFun (at10 _) a).trans ?_
  have h1 : (β 1).val < 1 := lt_of_lt_of_eq (β 1).isLt (by show (1024 + 1024 - 1) / 1024 = 1; norm_num)
  fin_cases a
  · rfl
  · show 0 = (β 1).val
    omega

theorem cov11 : ((cfgM m hO).win 11).Covers := by
  refine ⟨(by decide : ∀ a : Fin 2, 0 < S512x1024.size a), fun (β : (a : Fin 2) → Fin (((cfgM m hO).win 11).nblk a)) => ⟨⟨(β 0).val, lt_of_lt_of_eq (β 0).isLt (by show (2048 + 512 - 1) / 512 = 4; norm_num)⟩, flush0_11 _ _, fun a => ⟨?_, Or.inl rfl⟩⟩⟩
  refine (congrFun (at11 _) a).trans ?_
  have h1 : (β 1).val < 1 := lt_of_lt_of_eq (β 1).isLt (by show (1024 + 1024 - 1) / 1024 = 1; norm_num)
  fin_cases a
  · rfl
  · show 0 = (β 1).val
    omega

/-- A choice made by comparing a slot's number with a word. -/
theorem sel (w : BitVec 32) (x : Fin 8) (a b : EReal) :
    Scalar.select (IntOp.cmpi CmpIPredicate.eq (BitVec.ofNat 32 x.val) w) a b = if x.val = w.toNat then a else b := by
  have hx : x.val % 2 ^ 32 = x.val := Nat.mod_eq_of_lt (by have := x.isLt; omega)
  by_cases e : x.val = w.toNat
  · have e' : BitVec.ofNat 32 x.val = w := BitVec.eq_of_toNat_eq (by rw [BitVec.toNat_ofNat, hx, e])
    simp [IntOp.cmpi, Scalar.select, e', e]
  · have e' : BitVec.ofNat 32 x.val ≠ w := fun h => e (by rw [← h, BitVec.toNat_ofNat, hx])
    have f : (BitVec.ofNat 32 x.val == w) = false := beq_eq_false_iff_ne.mpr e'
    simp [IntOp.cmpi, Scalar.select, f, e]

/-- The reference's sum over the eight slots, all but the named one masked, is the named one. -/
theorem own (h : Cert.Pre_RsFf1Ideal m) (i : Fin 2048) (j : Fin 1024) :
    Cert.RsFf1RefIdeal.Read.val_main_v7 (F := Ideal) (m (((0 : Dev nD) : Thread nD τ).loc main_arg0)) (m (((0 : Dev nD) : Thread nD τ).loc main_arg1)) (ix2 i j)
      = m (((0 : Dev nD) : Thread nD τ).loc main_arg1) (ix3 (slot m h) i j) := by
  unfold Cert.RsFf1RefIdeal.Read.val_main_v7 Cert.RsFf1RefIdeal.Read.val_main_v6 Cert.RsFf1RefIdeal.Read.val_main_call0_v2 Cert.RsFf1RefIdeal.Read.val_main_call0_v1 Cert.RsFf1RefIdeal.Read.val_main_call0_v0 Cert.RsFf1RefIdeal.Read.val_main_cst Cert.RsFf1RefIdeal.Read.val_main_cst_0 Cert.RsFf1RefIdeal.Read.val_main_v5 Cert.RsFf1RefIdeal.Read.val_main_v4 Cert.RsFf1RefIdeal.Read.val_main_v3 Cert.RsFf1RefIdeal.Read.val_main_v2 Cert.RsFf1RefIdeal.Read.val_main_v1 Cert.RsFf1RefIdeal.Read.val_main_v0
  pointwise
  have z : id (constant (F := Ideal) Cert.RsFf1RefIdeal.S_ FTy.f32 0#32) Idealize.ShloMosaic.ix0 = (0 : EReal) := by
    show constant (F := Ideal) Cert.RsFf1RefIdeal.S_ FTy.f32 0#32 Idealize.ShloMosaic.ix0 = _
    pointwise
  rw [z]
  refine (Finset.sum_eq_single (slot m h) (fun x _ hx => ?_) (fun hx => absurd (Finset.mem_univ _) hx)).trans ?_
  · exact (sel _ _ _ _).trans (if_neg fun e => hx (Fin.ext e))
  · exact (sel _ _ _ _).trans (if_pos rfl)

/-- The sum of a block's parts is the reference's gradient at the block's place. -/
theorem grad (h : Cert.Pre_RsFf1Ideal m) (c : Dev nD) (t : Fin (cfgM m hO).N) (y0 : Fin 512) (y1 : Fin 1024) :
    k0_pay2 (iblk m hO c 0 t) (iblk m hO c 1 t) (iblk m hO c 2 t) (iblk m hO c 3 t) (iblk m hO c 4 t) (ix2 y0 y1)
      = Cert.RsFf1RefIdeal.Read.val_main_v22 (F := Ideal) (m ((c : Thread nD τ).loc main_arg0)) (m ((c : Thread nD τ).loc main_arg1)) (m ((c : Thread nD τ).loc main_arg2)) (m ((c : Thread nD τ).loc main_arg3)) (ix2 (row m hO t y0) y1) := by
  obtain rfl : c = 0 := Subsingleton.elim _ _
  unfold Cert.RsFf1RefIdeal.Read.val_main_v22 Cert.RsFf1RefIdeal.Read.val_main_v21 Cert.RsFf1RefIdeal.Read.val_main_v20 Cert.RsFf1RefIdeal.Read.val_main_v19 Cert.RsFf1RefIdeal.Read.val_main_v18 Cert.RsFf1RefIdeal.Read.val_main_v17 Cert.RsFf1RefIdeal.Read.val_main_v16 Cert.RsFf1RefIdeal.Read.val_main_v15 Cert.RsFf1RefIdeal.Read.val_main_v14 Cert.RsFf1RefIdeal.Read.val_main_v13 Cert.RsFf1RefIdeal.Read.val_main_v12 Cert.RsFf1RefIdeal.Read.val_main_v11 Cert.RsFf1RefIdeal.Read.val_main_v10 Cert.RsFf1RefIdeal.Read.val_main_v9 Cert.RsFf1RefIdeal.Read.val_main_v8
  pointwise [k0_pay2, own m h, in0 m hO h, in1 m hO, in2 m hO, in3 m hO, in4 m hO]

/-- The mean's new block is the reference's at the block's place. -/
theorem mean (h : Cert.Pre_RsFf1Ideal m) (c : Dev nD) (t : Fin (cfgM m hO).N) (y0 : Fin 512) (y1 : Fin 1024) :
    k0_pay3 (iblk m hO c 0 t) (iblk m hO c 1 t) (iblk m hO c 2 t) (iblk m hO c 3 t) (iblk m hO c 4 t) (iblk m hO c 6 t) (ix2 y0 y1)
      = Cert.RsFf1RefIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix2 (row m hO t y0) y1) := by
  have hg := grad m hO h c t y0 y1
  unfold Cert.RsFf1RefIdeal.Read.val_main_v27 Cert.RsFf1RefIdeal.Read.val_main_v26 Cert.RsFf1RefIdeal.Read.val_main_v25 Cert.RsFf1RefIdeal.Read.val_main_cst_2 Cert.RsFf1RefIdeal.Read.val_main_v24 Cert.RsFf1RefIdeal.Read.val_main_v23 Cert.RsFf1RefIdeal.Read.val_main_cst_1
  pointwise [k0_pay3, hg, in6 m hO]

/-- The second moment's new block is the reference's at the block's place. -/
theorem moment (h : Cert.Pre_RsFf1Ideal m) (c : Dev nD) (t : Fin (cfgM m hO).N) (y0 : Fin 512) (y1 : Fin 1024) :
    k0_pay4 (iblk m hO c 0 t) (iblk m hO c 1 t) (iblk m hO c 2 t) (iblk m hO c 3 t) (iblk m hO c 4 t) (iblk m hO c 7 t) (ix2 y0 y1)
      = Cert.RsFf1RefIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (ix2 (row m hO t y0) y1) := by
  have hg := grad m hO h c t y0 y1
  unfold Cert.RsFf1RefIdeal.Read.val_main_v33 Cert.RsFf1RefIdeal.Read.val_main_v32 Cert.RsFf1RefIdeal.Read.val_main_v31 Cert.RsFf1RefIdeal.Read.val_main_cst_4 Cert.RsFf1RefIdeal.Read.val_main_v30 Cert.RsFf1RefIdeal.Read.val_main_v29 Cert.RsFf1RefIdeal.Read.val_main_v28 Cert.RsFf1RefIdeal.Read.val_main_cst_3
  pointwise [k0_pay4, hg, in7 m hO]

/-- The weight's update in a block is the reference's at the block's place. -/
theorem update (h : Cert.Pre_RsFf1Ideal m) (c : Dev nD) (t : Fin (cfgM m hO).N) (y0 : Fin 512) (y1 : Fin 1024) :
    k0_pay1 (iblk m hO c 5 t) (k0_pay4 (iblk m hO c 0 t) (iblk m hO c 1 t) (iblk m hO c 2 t) (iblk m hO c 3 t) (iblk m hO c 4 t) (iblk m hO c 7 t))
        (k0_pay5 (iblk m hO c 0 t) (iblk m hO c 1 t) (iblk m hO c 2 t) (iblk m hO c 3 t) (iblk m hO c 4 t) (iblk m hO c 6 t)) (ix2 y0 y1)
      = Cert.RsFf1RefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row m hO t y0) y1) := by
  have hm := mean m hO h c t y0 y1
  have hv := moment m hO h c t y0 y1
  unfold Cert.RsFf1RefIdeal.Read.val_main_v46 Cert.RsFf1RefIdeal.Read.val_main_v45 Cert.RsFf1RefIdeal.Read.val_main_cst_9 Cert.RsFf1RefIdeal.Read.val_main_v44 Cert.RsFf1RefIdeal.Read.val_main_v43 Cert.RsFf1RefIdeal.Read.val_main_v42 Cert.RsFf1RefIdeal.Read.val_main_cst_8 Cert.RsFf1RefIdeal.Read.val_main_v41 Cert.RsFf1RefIdeal.Read.val_main_v40 Cert.RsFf1RefIdeal.Read.val_main_v39 Cert.RsFf1RefIdeal.Read.val_main_cst_7 Cert.RsFf1RefIdeal.Read.val_main_v38 Cert.RsFf1RefIdeal.Read.val_main_v37 Cert.RsFf1RefIdeal.Read.val_main_v36 Cert.RsFf1RefIdeal.Read.val_main_cst_6 Cert.RsFf1RefIdeal.Read.val_main_v35 Cert.RsFf1RefIdeal.Read.val_main_v34 Cert.RsFf1RefIdeal.Read.val_main_cst_5
  pointwise [k0_pay1, k0_pay5, hm, hv, in5 m hO]

/-- What a grid point leaves in output window 8, from the blocks it reads. -/
theorem out8 (c : Dev nD) (t : Fin (cfgM m hO).N) (v0 : Vec Ideal S1x512x1024 .f32) (v1 : Vec Ideal S1x512x1024 .f32) (v2 : Vec Ideal S1x512x1024 .bf16) (v3 : Vec Ideal S1x512x1024 .bf16) (v4 : Vec Ideal S1x512x1024 .bf16) (v5 : Vec Ideal S512x1024 .f32) (v6 : Vec Ideal S512x1024 .f32) (v7 : Vec Ideal S512x1024 .f32) (y : S512x1024.Idx) :
    out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) v0 v1 v2 v3 v4 v5 v6 v7 (tbl m 0) y = k0_pay2 v0 v1 v2 v3 v4 y := by
  frame_out

/-- What a grid point leaves in output window 9, from the blocks it reads. -/
theorem out9 (c : Dev nD) (t : Fin (cfgM m hO).N) (v0 : Vec Ideal S1x512x1024 .f32) (v1 : Vec Ideal S1x512x1024 .f32) (v2 : Vec Ideal S1x512x1024 .bf16) (v3 : Vec Ideal S1x512x1024 .bf16) (v4 : Vec Ideal S1x512x1024 .bf16) (v5 : Vec Ideal S512x1024 .f32) (v6 : Vec Ideal S512x1024 .f32) (v7 : Vec Ideal S512x1024 .f32) (y : S512x1024.Idx) :
    out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) v0 v1 v2 v3 v4 v5 v6 v7 (tbl m 0) y = k0_pay1 v5 (k0_pay4 v0 v1 v2 v3 v4 v7) (k0_pay5 v0 v1 v2 v3 v4 v6) y := by
  frame_out

/-- What a grid point leaves in output window 10, from the blocks it reads. -/
theorem out10 (c : Dev nD) (t : Fin (cfgM m hO).N) (v0 : Vec Ideal S1x512x1024 .f32) (v1 : Vec Ideal S1x512x1024 .f32) (v2 : Vec Ideal S1x512x1024 .bf16) (v3 : Vec Ideal S1x512x1024 .bf16) (v4 : Vec Ideal S1x512x1024 .bf16) (v5 : Vec Ideal S512x1024 .f32) (v6 : Vec Ideal S512x1024 .f32) (v7 : Vec Ideal S512x1024 .f32) (y : S512x1024.Idx) :
    out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) v0 v1 v2 v3 v4 v5 v6 v7 (tbl m 0) y = k0_pay3 v0 v1 v2 v3 v4 v6 y := by
  frame_out

/-- What a grid point leaves in output window 11, from the blocks it reads. -/
theorem out11 (c : Dev nD) (t : Fin (cfgM m hO).N) (v0 : Vec Ideal S1x512x1024 .f32) (v1 : Vec Ideal S1x512x1024 .f32) (v2 : Vec Ideal S1x512x1024 .bf16) (v3 : Vec Ideal S1x512x1024 .bf16) (v4 : Vec Ideal S1x512x1024 .bf16) (v5 : Vec Ideal S512x1024 .f32) (v6 : Vec Ideal S512x1024 .f32) (v7 : Vec Ideal S512x1024 .f32) (y : S512x1024.Idx) :
    out0_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) v0 v1 v2 v3 v4 v5 v6 v7 (tbl m 0) y = k0_pay4 v0 v1 v2 v3 v4 v7 y := by
  frame_out

theorem left8 (c : Dev nD) (t : Fin (cfgM m hO).N) : (outsAt0 m hO c t).1 = k0_pay2 (iblk m hO c 0 t) (iblk m hO c 1 t) (iblk m hO c 2 t) (iblk m hO c 3 t) (iblk m hO c 4 t) := by
  have e := fun y => out8 m hO c t (iblk m hO c 0 t) (iblk m hO c 1 t) (iblk m hO c 2 t) (iblk m hO c 3 t) (iblk m hO c 4 t) (iblk m hO c 5 t) (iblk m hO c 6 t) (iblk m hO c 7 t) y
  unfold outsAt0
  dsimp only
  generalize iblk m hO c 0 t = B0 at *
  generalize iblk m hO c 1 t = B1 at *
  generalize iblk m hO c 2 t = B2 at *
  generalize iblk m hO c 3 t = B3 at *
  generalize iblk m hO c 4 t = B4 at *
  generalize iblk m hO c 5 t = B5 at *
  generalize iblk m hO c 6 t = B6 at *
  generalize iblk m hO c 7 t = B7 at *
  exact funext e

theorem left9 (c : Dev nD) (t : Fin (cfgM m hO).N) : (outsAt0 m hO c t).2.1 = k0_pay1 (iblk m hO c 5 t) (k0_pay4 (iblk m hO c 0 t) (iblk m hO c 1 t) (iblk m hO c 2 t) (iblk m hO c 3 t) (iblk m hO c 4 t) (iblk m hO c 7 t)) (k0_pay5 (iblk m hO c 0 t) (iblk m hO c 1 t) (iblk m hO c 2 t) (iblk m hO c 3 t) (iblk m hO c 4 t) (iblk m hO c 6 t)) := by
  have e := fun y => out9 m hO c t (iblk m hO c 0 t) (iblk m hO c 1 t) (iblk m hO c 2 t) (iblk m hO c 3 t) (iblk m hO c 4 t) (iblk m hO c 5 t) (iblk m hO c 6 t) (iblk m hO c 7 t) y
  unfold outsAt0
  dsimp only
  generalize iblk m hO c 0 t = B0 at *
  generalize iblk m hO c 1 t = B1 at *
  generalize iblk m hO c 2 t = B2 at *
  generalize iblk m hO c 3 t = B3 at *
  generalize iblk m hO c 4 t = B4 at *
  generalize iblk m hO c 5 t = B5 at *
  generalize iblk m hO c 6 t = B6 at *
  generalize iblk m hO c 7 t = B7 at *
  exact funext e

theorem left10 (c : Dev nD) (t : Fin (cfgM m hO).N) : (outsAt0 m hO c t).2.2.1 = k0_pay3 (iblk m hO c 0 t) (iblk m hO c 1 t) (iblk m hO c 2 t) (iblk m hO c 3 t) (iblk m hO c 4 t) (iblk m hO c 6 t) := by
  have e := fun y => out10 m hO c t (iblk m hO c 0 t) (iblk m hO c 1 t) (iblk m hO c 2 t) (iblk m hO c 3 t) (iblk m hO c 4 t) (iblk m hO c 5 t) (iblk m hO c 6 t) (iblk m hO c 7 t) y
  unfold outsAt0
  dsimp only
  generalize iblk m hO c 0 t = B0 at *
  generalize iblk m hO c 1 t = B1 at *
  generalize iblk m hO c 2 t = B2 at *
  generalize iblk m hO c 3 t = B3 at *
  generalize iblk m hO c 4 t = B4 at *
  generalize iblk m hO c 5 t = B5 at *
  generalize iblk m hO c 6 t = B6 at *
  generalize iblk m hO c 7 t = B7 at *
  exact funext e

theorem left11 (c : Dev nD) (t : Fin (cfgM m hO).N) : (outsAt0 m hO c t).2.2.2 = k0_pay4 (iblk m hO c 0 t) (iblk m hO c 1 t) (iblk m hO c 2 t) (iblk m hO c 3 t) (iblk m hO c 4 t) (iblk m hO c 7 t) := by
  have e := fun y => out11 m hO c t (iblk m hO c 0 t) (iblk m hO c 1 t) (iblk m hO c 2 t) (iblk m hO c 3 t) (iblk m hO c 4 t) (iblk m hO c 5 t) (iblk m hO c 6 t) (iblk m hO c 7 t) y
  unfold outsAt0
  dsimp only
  generalize iblk m hO c 0 t = B0 at *
  generalize iblk m hO c 1 t = B1 at *
  generalize iblk m hO c 2 t = B2 at *
  generalize iblk m hO c 3 t = B3 at *
  generalize iblk m hO c 4 t = B4 at *
  generalize iblk m hO c 5 t = B5 at *
  generalize iblk m hO c 6 t = B6 at *
  generalize iblk m hO c 7 t = B7 at *
  exact funext e

/-- The whole array of the gradient. -/
theorem final8 (h : Cert.Pre_RsFf1Ideal m) (c : Dev nD) :
    (dats m hO 0 c).arrAt 8 (cfgM m hO).N = Cert.RsFf1RefIdeal.Read.val_main_v22 (F := Ideal) (m ((c : Thread nD τ).loc main_arg0)) (m ((c : Thread nD τ).loc main_arg1)) (m ((c : Thread nD τ).loc main_arg2)) (m ((c : Thread nD τ).loc main_arg3)) := by
  refine (dats m hO 0 c).arrAt_eq_of_covers 8 _ (cov8 m hO) fun t hf (y : S512x1024.Idx) => ?_
  idx_vars y
  refine (congrFun ((after0_8 m hO c t).trans (left8 m hO c t)) _).trans ?_
  exact (grad m hO h c t _ _).trans (congrArg _ (emb8 m hO t _ _).symm)

/-- The whole array of the weight's update. -/
theorem final9 (h : Cert.Pre_RsFf1Ideal m) (c : Dev nD) :
    (dats m hO 0 c).arrAt 9 (cfgM m hO).N = Cert.RsFf1RefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m hO 0 c).arrAt_eq_of_covers 9 _ (cov9 m hO) fun t hf (y : S512x1024.Idx) => ?_
  idx_vars y
  refine (congrFun ((after0_9 m hO c t).trans (left9 m hO c t)) _).trans ?_
  exact (update m hO h c t _ _).trans (congrArg _ (emb9 m hO t _ _).symm)

/-- The whole array of the mean. -/
theorem final10 (h : Cert.Pre_RsFf1Ideal m) (c : Dev nD) :
    (dats m hO 0 c).arrAt 10 (cfgM m hO).N = Cert.RsFf1RefIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m hO 0 c).arrAt_eq_of_covers 10 _ (cov10 m hO) fun t hf (y : S512x1024.Idx) => ?_
  idx_vars y
  refine (congrFun ((after0_10 m hO c t).trans (left10 m hO c t)) _).trans ?_
  exact (mean m hO h c t _ _).trans (congrArg _ (emb10 m hO t _ _).symm)

/-- The whole array of the second moment. -/
theorem final11 (h : Cert.Pre_RsFf1Ideal m) (c : Dev nD) :
    (dats m hO 0 c).arrAt 11 (cfgM m hO).N = Cert.RsFf1RefIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m hO 0 c).arrAt_eq_of_covers 11 _ (cov11 m hO) fun t hf (y : S512x1024.Idx) => ?_
  idx_vars y
  refine (congrFun ((after0_11 m hO c t).trans (left11 m hO c t)) _).trans ?_
  exact (moment m hO h c t _ _).trans (congrArg _ (emb11 m hO t _ _).symm)

/-- Both programs end with the same values in the results. -/
theorem tie : Cert.algebraic_RsFf1Ideal_RsFf1RefIdeal := by
  intro m g m' g' hp ha
  have hO := ok_of_pre m hp
  refine ⟨fun c => Cert.RsFf1RefIdeal.Read.val_main_v22 (F := Ideal) (m ((c : Thread nD τ).loc main_arg0)) (m ((c : Thread nD τ).loc main_arg1)) (m ((c : Thread nD τ).loc main_arg2)) (m ((c : Thread nD τ).loc main_arg3)),
    fun c => Cert.RsFf1RefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
    fun c => Cert.RsFf1RefIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg5)),
    fun c => Cert.RsFf1RefIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg6)), ?_, ?_⟩
  · refine (θ_run defs _ _).mono (fun r h c => ?_) (θ_run_and (run_main m g hO) (unchanged m g hO))
    exact ⟨((h.1 c).1 8).trans (final8 m hO hp c), ((h.1 c).1 9).trans (final9 m hO hp c),
      ((h.1 c).1 10).trans (final10 m hO hp c), ((h.1 c).1 11).trans (final11 m hO hp c), h.2 c⟩
  · refine (θ_run Cert.RsFf1RefIdeal.defs _ _).mono (fun r h c => ?_) (Cert.RsFf1RefIdeal.Value.run (F := Ideal) m' g')
    obtain ⟨a0, a1, a2, a3, a4, a5, a6⟩ := ha c
    obtain ⟨h0, h1, h2, h3, hr⟩ := h c
    refine ⟨h0.trans ?_, h1.trans ?_, h2.trans ?_, h3.trans ?_, hr⟩
    · beta_reduce; rw [← a0, ← a1, ← a2, ← a3]; rfl
    · beta_reduce; rw [← a0, ← a1, ← a2, ← a3, ← a4, ← a5, ← a6]; rfl
    · beta_reduce; rw [← a0, ← a1, ← a2, ← a3, ← a5]; rfl
    · beta_reduce; rw [← a0, ← a1, ← a2, ← a3, ← a6]; rfl

/-- The reference runs, leaves its arguments as they are, and has no counter to leave standing. -/
theorem refFrame : Cert.quiescent_RsFf1RefIdeal := fun m ρ _ =>
  (θ_run _ _ _).mono (fun r h => ⟨fun c => (h c).2.2.2.2, sem_eq_zero_of_no_sems rfl r.2⟩) (Cert.RsFf1RefIdeal.Value.run (F := Ideal) m ρ)

/-- The same of the inputs that the precondition admits. -/
theorem refFramePre : Cert.quiescent_RsFf1RefIdeal_pre_rs_ff1_slot := fun m ρ _ => refFrame m ρ trivial

end Cert.RsFf1Ideal.Hand

end
-- ==== Proof.RsFf2.lean ====
/- The optimiser step of one large weight: the gradient's parts are added up and the weight's update is taken. -/
module

public import proofs.«01_k».proof.Defs
public import proofs.«01_k».proof.Proof.Gen.RsFf2.Frame
public import proofs.«01_k».proof.Proof.Gen.RsFf2Ideal.Frame
public import proofs.«01_k».proof.Proof.Gen.Pre_rs_ff2_slot
public import proofs.«01_k».proof.Proof.Gen.RsFf2RefIdeal.Run
public import proofs.«01_k».proof.Proof.Gen.RsFf2RefIdeal.Read
public import Idealize.ShloMosaic.Lib.Pipeline.ValueKit
public import Idealize.ShloMosaic.Lib.Pointwise

@[expose] public section

set_option maxRecDepth 16384

noncomputable section

namespace Cert.RsFf2.Hand

open Cert.RsFf2 Cert.RsFf2.Gen Idealize.ShloMosaic Idealize.ShloMosaic.TcCoe Idealize.SL.Sem

/-- The precondition puts the table's first word among the eight slots. -/
theorem slot_lt (m : (ℓ : Loc nD τ sig) → Buf (Elt Bits) ℓ) (h : Cert.Pre_RsFf2 m) (k : S4.Idx) (hk : (k 0).val = 0) :
    (m (((0 : Dev nD) : Thread nD τ).loc main_arg0) k).toNat < 8 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have h0 := congrFun (h 0) (fun a => ⟨0, by obtain rfl : a = 0 := Subsingleton.elim _ _; exact Nat.zero_lt_one⟩)
  simp only [Cert.Pre_rs_ff2_slot.fn, constantI, broadcastInDim, cmpi, andi, andi_one, extractStridedSlice, ofBool_eq_one, IntOp.cmpi,
    BitVec.sle, BitVec.slt, decide_eq_true_eq] at h0
  obtain ⟨h1, h2⟩ := h0
  have at_k (P : BitVec 32 → Prop) (I : S4.Idx) (hP : P (m (((0 : Dev nD) : Thread nD τ).loc main_arg0) I)) (hI : (I 0).val = 0) :
      P (m (((0 : Dev nD) : Thread nD τ).loc main_arg0) k) := by
    have e : I = k := by
      funext a
      obtain rfl : a = 0 := Subsingleton.elim _ _
      exact Fin.ext (hI.trans hk.symm)
    exact e ▸ hP
  have h1' := at_k (fun w => (0#32).toInt ≤ w.toInt) _ (of_decide_eq_true h1) rfl
  have h2' := at_k (fun w => w.toInt < (8#32).toInt) _ (of_decide_eq_true h2) rfl
  generalize m (((0 : Dev nD) : Thread nD τ).loc main_arg0) k = w at h1' h2'
  simp only [BitVec.toInt, BitVec.toNat_ofNat] at h1' h2'
  have := w.isLt
  split at h1' <;> split at h2' <;> omega

/-- So the block the first window names is inside the array, at every grid point. -/
theorem ok_of_pre (m : (ℓ : Loc nD τ sig) → Buf (Elt Bits) ℓ) (h : Cert.Pre_RsFf2 m) : Ok m := by
  intro i
  refine ⟨fun a => ?_, Or.inl rfl⟩
  fin_cases a
  · show ((m (((0 : Dev nD) : Thread nD τ).loc main_arg0) ?k).toNat + 1) * 1 ≤ 8
    have hs := slot_lt m h ?k rfl
    omega
  · have hi : (i 0).val < 4 := (i 0).isLt
    show ((BitVec.ofNat 32 (i 0).val).toNat + 1) * 256 ≤ 1024
    rw [BitVec.toNat_ofNat, Nat.mod_eq_of_lt (by omega)]
    omega
  · exact Nat.le_refl _

end Cert.RsFf2.Hand

namespace Cert.RsFf2Ideal.Hand

open Cert.RsFf2Ideal Cert.RsFf2Ideal.Gen Idealize.ShloMosaic Idealize.ShloMosaic.TcCoe Idealize.SL.Sem

/-- The precondition puts the table's first word among the eight slots. -/
theorem slot_lt (m : (ℓ : Loc nD τ sig) → Buf (Elt Ideal) ℓ) (h : Cert.Pre_RsFf2Ideal m) (k : S4.Idx) (hk : (k 0).val = 0) :
    (m (((0 : Dev nD) : Thread nD τ).loc main_arg0) k).toNat < 8 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have h0 := congrFun (h 0) (fun a => ⟨0, by obtain rfl : a = 0 := Subsingleton.elim _ _; exact Nat.zero_lt_one⟩)
  simp only [Cert.Pre_rs_ff2_slot.fn, constantI, broadcastInDim, cmpi, andi, andi_one, extractStridedSlice, ofBool_eq_one, IntOp.cmpi,
    BitVec.sle, BitVec.slt, decide_eq_true_eq] at h0
  obtain ⟨h1, h2⟩ := h0
  have at_k (P : BitVec 32 → Prop) (I : S4.Idx) (hP : P (m (((0 : Dev nD) : Thread nD τ).loc main_arg0) I)) (hI : (I 0).val = 0) :
      P (m (((0 : Dev nD) : Thread nD τ).loc main_arg0) k) := by
    have e : I = k := by
      funext a
      obtain rfl : a = 0 := Subsingleton.elim _ _
      exact Fin.ext (hI.trans hk.symm)
    exact e ▸ hP
  have h1' := at_k (fun w => (0#32).toInt ≤ w.toInt) _ (of_decide_eq_true h1) rfl
  have h2' := at_k (fun w => w.toInt < (8#32).toInt) _ (of_decide_eq_true h2) rfl
  generalize m (((0 : Dev nD) : Thread nD τ).loc main_arg0) k = w at h1' h2'
  simp only [BitVec.toInt, BitVec.toNat_ofNat] at h1' h2'
  have := w.isLt
  split at h1' <;> split at h2' <;> omega

/-- So the block the first window names is inside the array, at every grid point. -/
theorem ok_of_pre (m : (ℓ : Loc nD τ sig) → Buf (Elt Ideal) ℓ) (h : Cert.Pre_RsFf2Ideal m) : Ok m := by
  intro i
  refine ⟨fun a => ?_, Or.inl rfl⟩
  fin_cases a
  · show ((m (((0 : Dev nD) : Thread nD τ).loc main_arg0) ?k).toNat + 1) * 1 ≤ 8
    have hs := slot_lt m h ?k rfl
    omega
  · have hi : (i 0).val < 4 := (i 0).isLt
    show ((BitVec.ofNat 32 (i 0).val).toNat + 1) * 256 ≤ 1024
    rw [BitVec.toNat_ofNat, Nat.mod_eq_of_lt (by omega)]
    omega
  · exact Nat.le_refl _

end Cert.RsFf2Ideal.Hand

namespace Cert.RsFf2Ideal.Hand

open Cert.RsFf2Ideal Cert.RsFf2Ideal.Gen Idealize.ShloMosaic Idealize.ShloMosaic.TcCoe Idealize.SL.Sem
open Idealize.ShloMosaic.Pipeline (Dat)

variable (m : (ℓ : Loc nD τ sig) → Buf (Elt Ideal) ℓ) (hO : Ok m)

/-- The row of the whole array that a row of a grid point's block is. -/
def row (t : Fin (cfgM m hO).N) (y : Fin 256) : Fin 1024 :=
  ⟨t.val * 256 + y.val, by have h1 : t.val < 4 := t.isLt; have h2 := y.isLt; omega⟩

/-- The slot the table's first word names. -/
def slot (h : Cert.Pre_RsFf2Ideal m) : Fin 8 :=
  ⟨(m (((0 : Dev nD) : Thread nD τ).loc main_arg0) (ix1 0 : S4.Idx)).toNat, slot_lt m h _ rfl⟩

theorem at1 : ∀ t : Fin grid0.N, cc0_transform_1 (grid0.coords t) = ![0, t.val, 0] := by decide +kernel

theorem at2 : ∀ t : Fin grid0.N, cc0_transform_2 (grid0.coords t) = ![1, t.val, 0] := by decide +kernel

theorem at3 : ∀ t : Fin grid0.N, cc0_transform_3 (grid0.coords t) = ![2, t.val, 0] := by decide +kernel

theorem at4 : ∀ t : Fin grid0.N, cc0_transform_4 (grid0.coords t) = ![3, t.val, 0] := by decide +kernel

theorem at5 : ∀ t : Fin grid0.N, cc0_transform_5 (grid0.coords t) = ![t.val, 0] := by decide +kernel

theorem at6 : ∀ t : Fin grid0.N, cc0_transform_6 (grid0.coords t) = ![t.val, 0] := by decide +kernel

theorem at7 : ∀ t : Fin grid0.N, cc0_transform_7 (grid0.coords t) = ![t.val, 0] := by decide +kernel

theorem at8 : ∀ t : Fin grid0.N, cc0_transform_8 (grid0.coords t) = ![t.val, 0] := by decide +kernel

theorem at9 : ∀ t : Fin grid0.N, cc0_transform_9 (grid0.coords t) = ![t.val, 0] := by decide +kernel

theorem at10 : ∀ t : Fin grid0.N, cc0_transform_10 (grid0.coords t) = ![t.val, 0] := by decide +kernel

theorem at11 : ∀ t : Fin grid0.N, cc0_transform_11 (grid0.coords t) = ![t.val, 0] := by decide +kernel

/-- The first input's block lies in the slot that the table names. -/
theorem emb0 (h : Cert.Pre_RsFf2Ideal m) (t : Fin (cfgM m hO).N) (y0 : Fin 256) (y1 : Fin 2048) :
    (((cfgM m hO).win 0).blk t).view.emb (ix3 0 y0 y1 : S1x256x2048.Idx) = (ix3 (slot m h) (row m hO t y0) y1 : S8x1024x2048.Idx) := by
  refine funext fun a => Fin.ext ?_
  refine (ValueKit.rect_emb_unit_val _ _ _ _ _ : _ = cc0_transform_0 inb_S4_S1_0 numel1_S1 (tbl m) (grid0.coords t) a * S1x256x2048.size a + _).trans ?_
  have e := congrFun (at1 t) 1
  fin_cases a
  · show (m (((0 : Dev nD) : Thread nD τ).loc main_arg0) _).toNat * 1 + 0 = (m (((0 : Dev nD) : Thread nD τ).loc main_arg0) _).toNat
    rw [Nat.mul_one, Nat.add_zero]
    congr 2
    refine funext fun (a : Fin 1) => ?_
    obtain rfl : a = 0 := Subsingleton.elim _ _
    rfl
  · exact congrArg (· * 256 + y0.val) e
  · show 0 * 2048 + y1.val = y1.val
    omega

theorem emb1 (t : Fin (cfgM m hO).N) (y0 : Fin 256) (y1 : Fin 2048) :
    (((cfgM m hO).win 1).blk t).view.emb (ix3 0 y0 y1 : S1x256x2048.Idx) = (ix3 0 (row m hO t y0) y1 : S4x1024x2048.Idx) := by
  refine funext fun a => Fin.ext ?_
  refine (ValueKit.rect_emb_unit_val _ _ _ _ _ : _ = cc0_transform_1 (grid0.coords t) a * S1x256x2048.size a + _).trans ?_
  rw [at1]
  fin_cases a
  · rfl
  · rfl
  · show 0 * 2048 + y1.val = y1.val
    omega

theorem emb2 (t : Fin (cfgM m hO).N) (y0 : Fin 256) (y1 : Fin 2048) :
    (((cfgM m hO).win 2).blk t).view.emb (ix3 0 y0 y1 : S1x256x2048.Idx) = (ix3 1 (row m hO t y0) y1 : S4x1024x2048.Idx) := by
  refine funext fun a => Fin.ext ?_
  refine (ValueKit.rect_emb_unit_val _ _ _ _ _ : _ = cc0_transform_2 (grid0.coords t) a * S1x256x2048.size a + _).trans ?_
  rw [at2]
  fin_cases a
  · rfl
  · rfl
  · show 0 * 2048 + y1.val = y1.val
    omega

theorem emb3 (t : Fin (cfgM m hO).N) (y0 : Fin 256) (y1 : Fin 2048) :
    (((cfgM m hO).win 3).blk t).view.emb (ix3 0 y0 y1 : S1x256x2048.Idx) = (ix3 2 (row m hO t y0) y1 : S4x1024x2048.Idx) := by
  refine funext fun a => Fin.ext ?_
  refine (ValueKit.rect_emb_unit_val _ _ _ _ _ : _ = cc0_transform_3 (grid0.coords t) a * S1x256x2048.size a + _).trans ?_
  rw [at3]
  fin_cases a
  · rfl
  · rfl
  · show 0 * 2048 + y1.val = y1.val
    omega

theorem emb4 (t : Fin (cfgM m hO).N) (y0 : Fin 256) (y1 : Fin 2048) :
    (((cfgM m hO).win 4).blk t).view.emb (ix3 0 y0 y1 : S1x256x2048.Idx) = (ix3 3 (row m hO t y0) y1 : S4x1024x2048.Idx) := by
  refine funext fun a => Fin.ext ?_
  refine (ValueKit.rect_emb_unit_val _ _ _ _ _ : _ = cc0_transform_4 (grid0.coords t) a * S1x256x2048.size a + _).trans ?_
  rw [at4]
  fin_cases a
  · rfl
  · rfl
  · show 0 * 2048 + y1.val = y1.val
    omega

theorem emb5 (t : Fin (cfgM m hO).N) (y0 : Fin 256) (y1 : Fin 2048) :
    (((cfgM m hO).win 5).blk t).view.emb (ix2 y0 y1 : S256x2048.Idx) = (ix2 (row m hO t y0) y1 : S1024x2048.Idx) := by
  refine funext fun a => Fin.ext ?_
  refine (ValueKit.rect_emb_unit_val _ _ _ _ _ : _ = cc0_transform_5 (grid0.coords t) a * S256x2048.size a + _).trans ?_
  rw [at5]
  fin_cases a
  · rfl
  · show 0 * 2048 + y1.val = y1.val
    omega

theorem emb6 (t : Fin (cfgM m hO).N) (y0 : Fin 256) (y1 : Fin 2048) :
    (((cfgM m hO).win 6).blk t).view.emb (ix2 y0 y1 : S256x2048.Idx) = (ix2 (row m hO t y0) y1 : S1024x2048.Idx) := by
  refine funext fun a => Fin.ext ?_
  refine (ValueKit.rect_emb_unit_val _ _ _ _ _ : _ = cc0_transform_6 (grid0.coords t) a * S256x2048.size a + _).trans ?_
  rw [at6]
  fin_cases a
  · rfl
  · show 0 * 2048 + y1.val = y1.val
    omega

theorem emb7 (t : Fin (cfgM m hO).N) (y0 : Fin 256) (y1 : Fin 2048) :
    (((cfgM m hO).win 7).blk t).view.emb (ix2 y0 y1 : S256x2048.Idx) = (ix2 (row m hO t y0) y1 : S1024x2048.Idx) := by
  refine funext fun a => Fin.ext ?_
  refine (ValueKit.rect_emb_unit_val _ _ _ _ _ : _ = cc0_transform_7 (grid0.coords t) a * S256x2048.size a + _).trans ?_
  rw [at7]
  fin_cases a
  · rfl
  · show 0 * 2048 + y1.val = y1.val
    omega

theorem emb8 (t : Fin (cfgM m hO).N) (y0 : Fin 256) (y1 : Fin 2048) :
    (((cfgM m hO).win 8).blk t).view.emb (ix2 y0 y1 : S256x2048.Idx) = (ix2 (row m hO t y0) y1 : S1024x2048.Idx) := by
  refine funext fun a => Fin.ext ?_
  refine (ValueKit.rect_emb_unit_val _ _ _ _ _ : _ = cc0_transform_8 (grid0.coords t) a * S256x2048.size a + _).trans ?_
  rw [at8]
  fin_cases a
  · rfl
  · show 0 * 2048 + y1.val = y1.val
    omega

theorem emb9 (t : Fin (cfgM m hO).N) (y0 : Fin 256) (y1 : Fin 2048) :
    (((cfgM m hO).win 9).blk t).view.emb (ix2 y0 y1 : S256x2048.Idx) = (ix2 (row m hO t y0) y1 : S1024x2048.Idx) := by
  refine funext fun a => Fin.ext ?_
  refine (ValueKit.rect_emb_unit_val _ _ _ _ _ : _ = cc0_transform_9 (grid0.coords t) a * S256x2048.size a + _).trans ?_
  rw [at9]
  fin_cases a
  · rfl
  · show 0 * 2048 + y1.val = y1.val
    omega

theorem emb10 (t : Fin (cfgM m hO).N) (y0 : Fin 256) (y1 : Fin 2048) :
    (((cfgM m hO).win 10).blk t).view.emb (ix2 y0 y1 : S256x2048.Idx) = (ix2 (row m hO t y0) y1 : S1024x2048.Idx) := by
  refine funext fun a => Fin.ext ?_
  refine (ValueKit.rect_emb_unit_val _ _ _ _ _ : _ = cc0_transform_10 (grid0.coords t) a * S256x2048.size a + _).trans ?_
  rw [at10]
  fin_cases a
  · rfl
  · show 0 * 2048 + y1.val = y1.val
    omega

theorem emb11 (t : Fin (cfgM m hO).N) (y0 : Fin 256) (y1 : Fin 2048) :
    (((cfgM m hO).win 11).blk t).view.emb (ix2 y0 y1 : S256x2048.Idx) = (ix2 (row m hO t y0) y1 : S1024x2048.Idx) := by
  refine funext fun a => Fin.ext ?_
  refine (ValueKit.rect_emb_unit_val _ _ _ _ _ : _ = cc0_transform_11 (grid0.coords t) a * S256x2048.size a + _).trans ?_
  rw [at11]
  fin_cases a
  · rfl
  · show 0 * 2048 + y1.val = y1.val
    omega

theorem in0 (h : Cert.Pre_RsFf2Ideal m) (c : Dev nD) (t : Fin (cfgM m hO).N) (y0 : Fin 256) (y1 : Fin 2048) :
    iblk m hO c 0 t (ix3 0 y0 y1 : S1x256x2048.Idx) = m ((c : Thread nD τ).loc main_arg1) (ix3 (slot m h) (row m hO t y0) y1) :=
  congrArg (m ((c : Thread nD τ).loc main_arg1)) (emb0 m hO h t y0 y1)

theorem in1 (c : Dev nD) (t : Fin (cfgM m hO).N) (y0 : Fin 256) (y1 : Fin 2048) :
    iblk m hO c 1 t (ix3 0 y0 y1 : S1x256x2048.Idx) = m ((c : Thread nD τ).loc main_arg2) (ix3 0 (row m hO t y0) y1) :=
  congrArg (m ((c : Thread nD τ).loc main_arg2)) (emb1 m hO t y0 y1)

theorem in2 (c : Dev nD) (t : Fin (cfgM m hO).N) (y0 : Fin 256) (y1 : Fin 2048) :
    iblk m hO c 2 t (ix3 0 y0 y1 : S1x256x2048.Idx) = m ((c : Thread nD τ).loc main_arg3) (ix3 1 (row m hO t y0) y1) :=
  congrArg (m ((c : Thread nD τ).loc main_arg3)) (emb2 m hO t y0 y1)

theorem in3 (c : Dev nD) (t : Fin (cfgM m hO).N) (y0 : Fin 256) (y1 : Fin 2048) :
    iblk m hO c 3 t (ix3 0 y0 y1 : S1x256x2048.Idx) = m ((c : Thread nD τ).loc main_arg3) (ix3 2 (row m hO t y0) y1) :=
  congrArg (m ((c : Thread nD τ).loc main_arg3)) (emb3 m hO t y0 y1)

theorem in4 (c : Dev nD) (t : Fin (cfgM m hO).N) (y0 : Fin 256) (y1 : Fin 2048) :
    iblk m hO c 4 t (ix3 0 y0 y1 : S1x256x2048.Idx) = m ((c : Thread nD τ).loc main_arg3) (ix3 3 (row m hO t y0) y1) :=
  congrArg (m ((c : Thread nD τ).loc main_arg3)) (emb4 m hO t y0 y1)

theorem in5 (c : Dev nD) (t : Fin (cfgM m hO).N) (y0 : Fin 256) (y1 : Fin 2048) :
    iblk m hO c 5 t (ix2 y0 y1 : S256x2048.Idx) = m ((c : Thread nD τ).loc main_arg4) (ix2 (row m hO t y0) y1) :=
  congrArg (m ((c : Thread nD τ).loc main_arg4)) (emb5 m hO t y0 y1)

theorem in6 (c : Dev nD) (t : Fin (cfgM m hO).N) (y0 : Fin 256) (y1 : Fin 2048) :
    iblk m hO c 6 t (ix2 y0 y1 : S256x2048.Idx) = m ((c : Thread nD τ).loc main_arg5) (ix2 (row m hO t y0) y1) :=
  congrArg (m ((c : Thread nD τ).loc main_arg5)) (emb6 m hO t y0 y1)

theorem in7 (c : Dev nD) (t : Fin (cfgM m hO).N) (y0 : Fin 256) (y1 : Fin 2048) :
    iblk m hO c 7 t (ix2 y0 y1 : S256x2048.Idx) = m ((c : Thread nD τ).loc main_arg6) (ix2 (row m hO t y0) y1) :=
  congrArg (m ((c : Thread nD τ).loc main_arg6)) (emb7 m hO t y0 y1)

theorem cov8 : ((cfgM m hO).win 8).Covers := by
  refine ⟨(by decide : ∀ a : Fin 2, 0 < S256x2048.size a), fun (β : (a : Fin 2) → Fin (((cfgM m hO).win 8).nblk a)) => ⟨⟨(β 0).val, lt_of_lt_of_eq (β 0).isLt (by show (1024 + 256 - 1) / 256 = 4; norm_num)⟩, flush0_8 _ _, fun a => ⟨?_, Or.inl rfl⟩⟩⟩
  refine (congrFun (at8 _) a).trans ?_
  have h1 : (β 1).val < 1 := lt_of_lt_of_eq (β 1).isLt (by show (2048 + 2048 - 1) / 2048 = 1; norm_num)
  fin_cases a
  · rfl
  · show 0 = (β 1).val
    omega

theorem cov9 : ((cfgM m hO).win 9).Covers := by
  refine ⟨(by decide : ∀ a : Fin 2, 0 < S256x2048.size a), fun (β : (a : Fin 2) → Fin (((cfgM m hO).win 9).nblk a)) => ⟨⟨(β 0).val, lt_of_lt_of_eq (β 0).isLt (by show (1024 + 256 - 1) / 256 = 4; norm_num)⟩, flush0_9 _ _, fun a => ⟨?_, Or.inl rfl⟩⟩⟩
  refine (congrFun (at9 _) a).trans ?_
  have h1 : (β 1).val < 1 := lt_of_lt_of_eq (β 1).isLt (by show (2048 + 2048 - 1) / 2048 = 1; norm_num)
  fin_cases a
  · rfl
  · show 0 = (β 1).val
    omega

theorem cov10 : ((cfgM m hO).win 10).Covers := by
  refine ⟨(by decide : ∀ a : Fin 2, 0 < S256x2048.size a), fun (β : (a : Fin 2) → Fin (((cfgM m hO).win 10).nblk a)) => ⟨⟨(β 0).val, lt_of_lt_of_eq (β 0).isLt (by show (1024 + 256 - 1) / 256 = 4; norm_num)⟩, flush0_10 _ _, fun a => ⟨?_, Or.inl rfl⟩⟩⟩
  refine (congrFun (at10 _) a).trans ?_
  have h1 : (β 1).val < 1 := lt_of_lt_of_eq (β 1).isLt (by show (2048 + 2048 - 1) / 2048 = 1; norm_num)
  fin_cases a
  · rfl
  · show 0 = (β 1).val
    omega

theorem cov11 : ((cfgM m hO).win 11).Covers := by
  refine ⟨(by decide : ∀ a : Fin 2, 0 < S256x2048.size a), fun (β : (a : Fin 2) → Fin (((cfgM m hO).win 11).nblk a)) => ⟨⟨(β 0).val, lt_of_lt_of_eq (β 0).isLt (by show (1024 + 256 - 1) / 256 = 4; norm_num)⟩, flush0_11 _ _, fun a => ⟨?_, Or.inl rfl⟩⟩⟩
  refine (congrFun (at11 _) a).trans ?_
  have h1 : (β 1).val < 1 := lt_of_lt_of_eq (β 1).isLt (by show (2048 + 2048 - 1) / 2048 = 1; norm_num)
  fin_cases a
  · rfl
  · show 0 = (β 1).val
    omega

/-- A choice made by comparing a slot's number with a word. -/
theorem sel (w : BitVec 32) (x : Fin 8) (a b : EReal) :
    Scalar.select (IntOp.cmpi CmpIPredicate.eq (BitVec.ofNat 32 x.val) w) a b = if x.val = w.toNat then a else b := by
  have hx : x.val % 2 ^ 32 = x.val := Nat.mod_eq_of_lt (by have := x.isLt; omega)
  by_cases e : x.val = w.toNat
  · have e' : BitVec.ofNat 32 x.val = w := BitVec.eq_of_toNat_eq (by rw [BitVec.toNat_ofNat, hx, e])
    simp [IntOp.cmpi, Scalar.select, e', e]
  · have e' : BitVec.ofNat 32 x.val ≠ w := fun h => e (by rw [← h, BitVec.toNat_ofNat, hx])
    have f : (BitVec.ofNat 32 x.val == w) = false := beq_eq_false_iff_ne.mpr e'
    simp [IntOp.cmpi, Scalar.select, f, e]

/-- The reference's sum over the eight slots, all but the named one masked, is the named one. -/
theorem own (h : Cert.Pre_RsFf2Ideal m) (i : Fin 1024) (j : Fin 2048) :
    Cert.RsFf2RefIdeal.Read.val_main_v7 (F := Ideal) (m (((0 : Dev nD) : Thread nD τ).loc main_arg0)) (m (((0 : Dev nD) : Thread nD τ).loc main_arg1)) (ix2 i j)
      = m (((0 : Dev nD) : Thread nD τ).loc main_arg1) (ix3 (slot m h) i j) := by
  unfold Cert.RsFf2RefIdeal.Read.val_main_v7 Cert.RsFf2RefIdeal.Read.val_main_v6 Cert.RsFf2RefIdeal.Read.val_main_call0_v2 Cert.RsFf2RefIdeal.Read.val_main_call0_v1 Cert.RsFf2RefIdeal.Read.val_main_call0_v0 Cert.RsFf2RefIdeal.Read.val_main_cst Cert.RsFf2RefIdeal.Read.val_main_cst_0 Cert.RsFf2RefIdeal.Read.val_main_v5 Cert.RsFf2RefIdeal.Read.val_main_v4 Cert.RsFf2RefIdeal.Read.val_main_v3 Cert.RsFf2RefIdeal.Read.val_main_v2 Cert.RsFf2RefIdeal.Read.val_main_v1 Cert.RsFf2RefIdeal.Read.val_main_v0
  pointwise
  have z : id (constant (F := Ideal) Cert.RsFf2RefIdeal.S_ FTy.f32 0#32) Idealize.ShloMosaic.ix0 = (0 : EReal) := by
    show constant (F := Ideal) Cert.RsFf2RefIdeal.S_ FTy.f32 0#32 Idealize.ShloMosaic.ix0 = _
    pointwise
  rw [z]
  refine (Finset.sum_eq_single (slot m h) (fun x _ hx => ?_) (fun hx => absurd (Finset.mem_univ _) hx)).trans ?_
  · exact (sel _ _ _ _).trans (if_neg fun e => hx (Fin.ext e))
  · exact (sel _ _ _ _).trans (if_pos rfl)

/-- The sum of a block's parts is the reference's gradient at the block's place. -/
theorem grad (h : Cert.Pre_RsFf2Ideal m) (c : Dev nD) (t : Fin (cfgM m hO).N) (y0 : Fin 256) (y1 : Fin 2048) :
    k0_pay2 (iblk m hO c 0 t) (iblk m hO c 1 t) (iblk m hO c 2 t) (iblk m hO c 3 t) (iblk m hO c 4 t) (ix2 y0 y1)
      = Cert.RsFf2RefIdeal.Read.val_main_v22 (F := Ideal) (m ((c : Thread nD τ).loc main_arg0)) (m ((c : Thread nD τ).loc main_arg1)) (m ((c : Thread nD τ).loc main_arg2)) (m ((c : Thread nD τ).loc main_arg3)) (ix2 (row m hO t y0) y1) := by
  obtain rfl : c = 0 := Subsingleton.elim _ _
  unfold Cert.RsFf2RefIdeal.Read.val_main_v22 Cert.RsFf2RefIdeal.Read.val_main_v21 Cert.RsFf2RefIdeal.Read.val_main_v20 Cert.RsFf2RefIdeal.Read.val_main_v19 Cert.RsFf2RefIdeal.Read.val_main_v18 Cert.RsFf2RefIdeal.Read.val_main_v17 Cert.RsFf2RefIdeal.Read.val_main_v16 Cert.RsFf2RefIdeal.Read.val_main_v15 Cert.RsFf2RefIdeal.Read.val_main_v14 Cert.RsFf2RefIdeal.Read.val_main_v13 Cert.RsFf2RefIdeal.Read.val_main_v12 Cert.RsFf2RefIdeal.Read.val_main_v11 Cert.RsFf2RefIdeal.Read.val_main_v10 Cert.RsFf2RefIdeal.Read.val_main_v9 Cert.RsFf2RefIdeal.Read.val_main_v8
  pointwise [k0_pay2, own m h, in0 m hO h, in1 m hO, in2 m hO, in3 m hO, in4 m hO]

/-- The mean's new block is the reference's at the block's place. -/
theorem mean (h : Cert.Pre_RsFf2Ideal m) (c : Dev nD) (t : Fin (cfgM m hO).N) (y0 : Fin 256) (y1 : Fin 2048) :
    k0_pay3 (iblk m hO c 0 t) (iblk m hO c 1 t) (iblk m hO c 2 t) (iblk m hO c 3 t) (iblk m hO c 4 t) (iblk m hO c 6 t) (ix2 y0 y1)
      = Cert.RsFf2RefIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix2 (row m hO t y0) y1) := by
  have hg := grad m hO h c t y0 y1
  unfold Cert.RsFf2RefIdeal.Read.val_main_v27 Cert.RsFf2RefIdeal.Read.val_main_v26 Cert.RsFf2RefIdeal.Read.val_main_v25 Cert.RsFf2RefIdeal.Read.val_main_cst_2 Cert.RsFf2RefIdeal.Read.val_main_v24 Cert.RsFf2RefIdeal.Read.val_main_v23 Cert.RsFf2RefIdeal.Read.val_main_cst_1
  pointwise [k0_pay3, hg, in6 m hO]

/-- The second moment's new block is the reference's at the block's place. -/
theorem moment (h : Cert.Pre_RsFf2Ideal m) (c : Dev nD) (t : Fin (cfgM m hO).N) (y0 : Fin 256) (y1 : Fin 2048) :
    k0_pay4 (iblk m hO c 0 t) (iblk m hO c 1 t) (iblk m hO c 2 t) (iblk m hO c 3 t) (iblk m hO c 4 t) (iblk m hO c 7 t) (ix2 y0 y1)
      = Cert.RsFf2RefIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (ix2 (row m hO t y0) y1) := by
  have hg := grad m hO h c t y0 y1
  unfold Cert.RsFf2RefIdeal.Read.val_main_v33 Cert.RsFf2RefIdeal.Read.val_main_v32 Cert.RsFf2RefIdeal.Read.val_main_v31 Cert.RsFf2RefIdeal.Read.val_main_cst_4 Cert.RsFf2RefIdeal.Read.val_main_v30 Cert.RsFf2RefIdeal.Read.val_main_v29 Cert.RsFf2RefIdeal.Read.val_main_v28 Cert.RsFf2RefIdeal.Read.val_main_cst_3
  pointwise [k0_pay4, hg, in7 m hO]

/-- The weight's update in a block is the reference's at the block's place. -/
theorem update (h : Cert.Pre_RsFf2Ideal m) (c : Dev nD) (t : Fin (cfgM m hO).N) (y0 : Fin 256) (y1 : Fin 2048) :
    k0_pay1 (iblk m hO c 5 t) (k0_pay4 (iblk m hO c 0 t) (iblk m hO c 1 t) (iblk m hO c 2 t) (iblk m hO c 3 t) (iblk m hO c 4 t) (iblk m hO c 7 t))
        (k0_pay5 (iblk m hO c 0 t) (iblk m hO c 1 t) (iblk m hO c 2 t) (iblk m hO c 3 t) (iblk m hO c 4 t) (iblk m hO c 6 t)) (ix2 y0 y1)
      = Cert.RsFf2RefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row m hO t y0) y1) := by
  have hm := mean m hO h c t y0 y1
  have hv := moment m hO h c t y0 y1
  unfold Cert.RsFf2RefIdeal.Read.val_main_v46 Cert.RsFf2RefIdeal.Read.val_main_v45 Cert.RsFf2RefIdeal.Read.val_main_cst_9 Cert.RsFf2RefIdeal.Read.val_main_v44 Cert.RsFf2RefIdeal.Read.val_main_v43 Cert.RsFf2RefIdeal.Read.val_main_v42 Cert.RsFf2RefIdeal.Read.val_main_cst_8 Cert.RsFf2RefIdeal.Read.val_main_v41 Cert.RsFf2RefIdeal.Read.val_main_v40 Cert.RsFf2RefIdeal.Read.val_main_v39 Cert.RsFf2RefIdeal.Read.val_main_cst_7 Cert.RsFf2RefIdeal.Read.val_main_v38 Cert.RsFf2RefIdeal.Read.val_main_v37 Cert.RsFf2RefIdeal.Read.val_main_v36 Cert.RsFf2RefIdeal.Read.val_main_cst_6 Cert.RsFf2RefIdeal.Read.val_main_v35 Cert.RsFf2RefIdeal.Read.val_main_v34 Cert.RsFf2RefIdeal.Read.val_main_cst_5
  pointwise [k0_pay1, k0_pay5, hm, hv, in5 m hO]

/-- What a grid point leaves in output window 8, from the blocks it reads. -/
theorem out8 (c : Dev nD) (t : Fin (cfgM m hO).N) (v0 : Vec Ideal S1x256x2048 .f32) (v1 : Vec Ideal S1x256x2048 .f32) (v2 : Vec Ideal S1x256x2048 .bf16) (v3 : Vec Ideal S1x256x2048 .bf16) (v4 : Vec Ideal S1x256x2048 .bf16) (v5 : Vec Ideal S256x2048 .f32) (v6 : Vec Ideal S256x2048 .f32) (v7 : Vec Ideal S256x2048 .f32) (y : S256x2048.Idx) :
    out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) v0 v1 v2 v3 v4 v5 v6 v7 (tbl m 0) y = k0_pay2 v0 v1 v2 v3 v4 y := by
  frame_out

/-- What a grid point leaves in output window 9, from the blocks it reads. -/
theorem out9 (c : Dev nD) (t : Fin (cfgM m hO).N) (v0 : Vec Ideal S1x256x2048 .f32) (v1 : Vec Ideal S1x256x2048 .f32) (v2 : Vec Ideal S1x256x2048 .bf16) (v3 : Vec Ideal S1x256x2048 .bf16) (v4 : Vec Ideal S1x256x2048 .bf16) (v5 : Vec Ideal S256x2048 .f32) (v6 : Vec Ideal S256x2048 .f32) (v7 : Vec Ideal S256x2048 .f32) (y : S256x2048.Idx) :
    out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) v0 v1 v2 v3 v4 v5 v6 v7 (tbl m 0) y = k0_pay1 v5 (k0_pay4 v0 v1 v2 v3 v4 v7) (k0_pay5 v0 v1 v2 v3 v4 v6) y := by
  frame_out

/-- What a grid point leaves in output window 10, from the blocks it reads. -/
theorem out10 (c : Dev nD) (t : Fin (cfgM m hO).N) (v0 : Vec Ideal S1x256x2048 .f32) (v1 : Vec Ideal S1x256x2048 .f32) (v2 : Vec Ideal S1x256x2048 .bf16) (v3 : Vec Ideal S1x256x2048 .bf16) (v4 : Vec Ideal S1x256x2048 .bf16) (v5 : Vec Ideal S256x2048 .f32) (v6 : Vec Ideal S256x2048 .f32) (v7 : Vec Ideal S256x2048 .f32) (y : S256x2048.Idx) :
    out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) v0 v1 v2 v3 v4 v5 v6 v7 (tbl m 0) y = k0_pay3 v0 v1 v2 v3 v4 v6 y := by
  frame_out

/-- What a grid point leaves in output window 11, from the blocks it reads. -/
theorem out11 (c : Dev nD) (t : Fin (cfgM m hO).N) (v0 : Vec Ideal S1x256x2048 .f32) (v1 : Vec Ideal S1x256x2048 .f32) (v2 : Vec Ideal S1x256x2048 .bf16) (v3 : Vec Ideal S1x256x2048 .bf16) (v4 : Vec Ideal S1x256x2048 .bf16) (v5 : Vec Ideal S256x2048 .f32) (v6 : Vec Ideal S256x2048 .f32) (v7 : Vec Ideal S256x2048 .f32) (y : S256x2048.Idx) :
    out0_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) v0 v1 v2 v3 v4 v5 v6 v7 (tbl m 0) y = k0_pay4 v0 v1 v2 v3 v4 v7 y := by
  frame_out

theorem left8 (c : Dev nD) (t : Fin (cfgM m hO).N) : (outsAt0 m hO c t).1 = k0_pay2 (iblk m hO c 0 t) (iblk m hO c 1 t) (iblk m hO c 2 t) (iblk m hO c 3 t) (iblk m hO c 4 t) := by
  have e := fun y => out8 m hO c t (iblk m hO c 0 t) (iblk m hO c 1 t) (iblk m hO c 2 t) (iblk m hO c 3 t) (iblk m hO c 4 t) (iblk m hO c 5 t) (iblk m hO c 6 t) (iblk m hO c 7 t) y
  unfold outsAt0
  dsimp only
  generalize iblk m hO c 0 t = B0 at *
  generalize iblk m hO c 1 t = B1 at *
  generalize iblk m hO c 2 t = B2 at *
  generalize iblk m hO c 3 t = B3 at *
  generalize iblk m hO c 4 t = B4 at *
  generalize iblk m hO c 5 t = B5 at *
  generalize iblk m hO c 6 t = B6 at *
  generalize iblk m hO c 7 t = B7 at *
  exact funext e

theorem left9 (c : Dev nD) (t : Fin (cfgM m hO).N) : (outsAt0 m hO c t).2.1 = k0_pay1 (iblk m hO c 5 t) (k0_pay4 (iblk m hO c 0 t) (iblk m hO c 1 t) (iblk m hO c 2 t) (iblk m hO c 3 t) (iblk m hO c 4 t) (iblk m hO c 7 t)) (k0_pay5 (iblk m hO c 0 t) (iblk m hO c 1 t) (iblk m hO c 2 t) (iblk m hO c 3 t) (iblk m hO c 4 t) (iblk m hO c 6 t)) := by
  have e := fun y => out9 m hO c t (iblk m hO c 0 t) (iblk m hO c 1 t) (iblk m hO c 2 t) (iblk m hO c 3 t) (iblk m hO c 4 t) (iblk m hO c 5 t) (iblk m hO c 6 t) (iblk m hO c 7 t) y
  unfold outsAt0
  dsimp only
  generalize iblk m hO c 0 t = B0 at *
  generalize iblk m hO c 1 t = B1 at *
  generalize iblk m hO c 2 t = B2 at *
  generalize iblk m hO c 3 t = B3 at *
  generalize iblk m hO c 4 t = B4 at *
  generalize iblk m hO c 5 t = B5 at *
  generalize iblk m hO c 6 t = B6 at *
  generalize iblk m hO c 7 t = B7 at *
  exact funext e

theorem left10 (c : Dev nD) (t : Fin (cfgM m hO).N) : (outsAt0 m hO c t).2.2.1 = k0_pay3 (iblk m hO c 0 t) (iblk m hO c 1 t) (iblk m hO c 2 t) (iblk m hO c 3 t) (iblk m hO c 4 t) (iblk m hO c 6 t) := by
  have e := fun y => out10 m hO c t (iblk m hO c 0 t) (iblk m hO c 1 t) (iblk m hO c 2 t) (iblk m hO c 3 t) (iblk m hO c 4 t) (iblk m hO c 5 t) (iblk m hO c 6 t) (iblk m hO c 7 t) y
  unfold outsAt0
  dsimp only
  generalize iblk m hO c 0 t = B0 at *
  generalize iblk m hO c 1 t = B1 at *
  generalize iblk m hO c 2 t = B2 at *
  generalize iblk m hO c 3 t = B3 at *
  generalize iblk m hO c 4 t = B4 at *
  generalize iblk m hO c 5 t = B5 at *
  generalize iblk m hO c 6 t = B6 at *
  generalize iblk m hO c 7 t = B7 at *
  exact funext e

theorem left11 (c : Dev nD) (t : Fin (cfgM m hO).N) : (outsAt0 m hO c t).2.2.2 = k0_pay4 (iblk m hO c 0 t) (iblk m hO c 1 t) (iblk m hO c 2 t) (iblk m hO c 3 t) (iblk m hO c 4 t) (iblk m hO c 7 t) := by
  have e := fun y => out11 m hO c t (iblk m hO c 0 t) (iblk m hO c 1 t) (iblk m hO c 2 t) (iblk m hO c 3 t) (iblk m hO c 4 t) (iblk m hO c 5 t) (iblk m hO c 6 t) (iblk m hO c 7 t) y
  unfold outsAt0
  dsimp only
  generalize iblk m hO c 0 t = B0 at *
  generalize iblk m hO c 1 t = B1 at *
  generalize iblk m hO c 2 t = B2 at *
  generalize iblk m hO c 3 t = B3 at *
  generalize iblk m hO c 4 t = B4 at *
  generalize iblk m hO c 5 t = B5 at *
  generalize iblk m hO c 6 t = B6 at *
  generalize iblk m hO c 7 t = B7 at *
  exact funext e

/-- The whole array of the gradient. -/
theorem final8 (h : Cert.Pre_RsFf2Ideal m) (c : Dev nD) :
    (dats m hO 0 c).arrAt 8 (cfgM m hO).N = Cert.RsFf2RefIdeal.Read.val_main_v22 (F := Ideal) (m ((c : Thread nD τ).loc main_arg0)) (m ((c : Thread nD τ).loc main_arg1)) (m ((c : Thread nD τ).loc main_arg2)) (m ((c : Thread nD τ).loc main_arg3)) := by
  refine (dats m hO 0 c).arrAt_eq_of_covers 8 _ (cov8 m hO) fun t hf (y : S256x2048.Idx) => ?_
  idx_vars y
  refine (congrFun ((after0_8 m hO c t).trans (left8 m hO c t)) _).trans ?_
  exact (grad m hO h c t _ _).trans (congrArg _ (emb8 m hO t _ _).symm)

/-- The whole array of the weight's update. -/
theorem final9 (h : Cert.Pre_RsFf2Ideal m) (c : Dev nD) :
    (dats m hO 0 c).arrAt 9 (cfgM m hO).N = Cert.RsFf2RefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m hO 0 c).arrAt_eq_of_covers 9 _ (cov9 m hO) fun t hf (y : S256x2048.Idx) => ?_
  idx_vars y
  refine (congrFun ((after0_9 m hO c t).trans (left9 m hO c t)) _).trans ?_
  exact (update m hO h c t _ _).trans (congrArg _ (emb9 m hO t _ _).symm)

/-- The whole array of the mean. -/
theorem final10 (h : Cert.Pre_RsFf2Ideal m) (c : Dev nD) :
    (dats m hO 0 c).arrAt 10 (cfgM m hO).N = Cert.RsFf2RefIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m hO 0 c).arrAt_eq_of_covers 10 _ (cov10 m hO) fun t hf (y : S256x2048.Idx) => ?_
  idx_vars y
  refine (congrFun ((after0_10 m hO c t).trans (left10 m hO c t)) _).trans ?_
  exact (mean m hO h c t _ _).trans (congrArg _ (emb10 m hO t _ _).symm)

/-- The whole array of the second moment. -/
theorem final11 (h : Cert.Pre_RsFf2Ideal m) (c : Dev nD) :
    (dats m hO 0 c).arrAt 11 (cfgM m hO).N = Cert.RsFf2RefIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m hO 0 c).arrAt_eq_of_covers 11 _ (cov11 m hO) fun t hf (y : S256x2048.Idx) => ?_
  idx_vars y
  refine (congrFun ((after0_11 m hO c t).trans (left11 m hO c t)) _).trans ?_
  exact (moment m hO h c t _ _).trans (congrArg _ (emb11 m hO t _ _).symm)

/-- Both programs end with the same values in the results. -/
theorem tie : Cert.algebraic_RsFf2Ideal_RsFf2RefIdeal := by
  intro m g m' g' hp ha
  have hO := ok_of_pre m hp
  refine ⟨fun c => Cert.RsFf2RefIdeal.Read.val_main_v22 (F := Ideal) (m ((c : Thread nD τ).loc main_arg0)) (m ((c : Thread nD τ).loc main_arg1)) (m ((c : Thread nD τ).loc main_arg2)) (m ((c : Thread nD τ).loc main_arg3)),
    fun c => Cert.RsFf2RefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
    fun c => Cert.RsFf2RefIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg5)),
    fun c => Cert.RsFf2RefIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg6)), ?_, ?_⟩
  · refine (θ_run defs _ _).mono (fun r h c => ?_) (θ_run_and (run_main m g hO) (unchanged m g hO))
    exact ⟨((h.1 c).1 8).trans (final8 m hO hp c), ((h.1 c).1 9).trans (final9 m hO hp c),
      ((h.1 c).1 10).trans (final10 m hO hp c), ((h.1 c).1 11).trans (final11 m hO hp c), h.2 c⟩
  · refine (θ_run Cert.RsFf2RefIdeal.defs _ _).mono (fun r h c => ?_) (Cert.RsFf2RefIdeal.Value.run (F := Ideal) m' g')
    obtain ⟨a0, a1, a2, a3, a4, a5, a6⟩ := ha c
    obtain ⟨h0, h1, h2, h3, hr⟩ := h c
    refine ⟨h0.trans ?_, h1.trans ?_, h2.trans ?_, h3.trans ?_, hr⟩
    · beta_reduce; rw [← a0, ← a1, ← a2, ← a3]; rfl
    · beta_reduce; rw [← a0, ← a1, ← a2, ← a3, ← a4, ← a5, ← a6]; rfl
    · beta_reduce; rw [← a0, ← a1, ← a2, ← a3, ← a5]; rfl
    · beta_reduce; rw [← a0, ← a1, ← a2, ← a3, ← a6]; rfl

/-- The reference runs, leaves its arguments as they are, and has no counter to leave standing. -/
theorem refFrame : Cert.quiescent_RsFf2RefIdeal := fun m ρ _ =>
  (θ_run _ _ _).mono (fun r h => ⟨fun c => (h c).2.2.2.2, sem_eq_zero_of_no_sems rfl r.2⟩) (Cert.RsFf2RefIdeal.Value.run (F := Ideal) m ρ)

/-- The same of the inputs that the precondition admits. -/
theorem refFramePre : Cert.quiescent_RsFf2RefIdeal_pre_rs_ff2_slot := fun m ρ _ => refFrame m ρ trivial

end Cert.RsFf2Ideal.Hand

end
-- ==== Proof.RsOut.lean ====
/- The optimiser step of one large weight: the gradient's parts are added up and the weight's update is taken. -/
module

public import proofs.«01_k».proof.Defs
public import proofs.«01_k».proof.Proof.Gen.RsOut.Frame
public import proofs.«01_k».proof.Proof.Gen.RsOutIdeal.Frame
public import proofs.«01_k».proof.Proof.Gen.Pre_rs_out_slot
public import proofs.«01_k».proof.Proof.Gen.RsOutRefIdeal.Run
public import proofs.«01_k».proof.Proof.Gen.RsOutRefIdeal.Read
public import Idealize.ShloMosaic.Lib.Pipeline.ValueKit
public import Idealize.ShloMosaic.Lib.Pointwise

@[expose] public section

set_option maxRecDepth 16384

noncomputable section

namespace Cert.RsOut.Hand

open Cert.RsOut Cert.RsOut.Gen Idealize.ShloMosaic Idealize.ShloMosaic.TcCoe Idealize.SL.Sem

/-- The precondition puts the table's first word among the eight slots. -/
theorem slot_lt (m : (ℓ : Loc nD τ sig) → Buf (Elt Bits) ℓ) (h : Cert.Pre_RsOut m) (k : S4.Idx) (hk : (k 0).val = 0) :
    (m (((0 : Dev nD) : Thread nD τ).loc main_arg0) k).toNat < 8 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have h0 := congrFun (h 0) (fun a => ⟨0, by obtain rfl : a = 0 := Subsingleton.elim _ _; exact Nat.zero_lt_one⟩)
  simp only [Cert.Pre_rs_out_slot.fn, constantI, broadcastInDim, cmpi, andi, andi_one, extractStridedSlice, ofBool_eq_one, IntOp.cmpi,
    BitVec.sle, BitVec.slt, decide_eq_true_eq] at h0
  obtain ⟨h1, h2⟩ := h0
  have at_k (P : BitVec 32 → Prop) (I : S4.Idx) (hP : P (m (((0 : Dev nD) : Thread nD τ).loc main_arg0) I)) (hI : (I 0).val = 0) :
      P (m (((0 : Dev nD) : Thread nD τ).loc main_arg0) k) := by
    have e : I = k := by
      funext a
      obtain rfl : a = 0 := Subsingleton.elim _ _
      exact Fin.ext (hI.trans hk.symm)
    exact e ▸ hP
  have h1' := at_k (fun w => (0#32).toInt ≤ w.toInt) _ (of_decide_eq_true h1) rfl
  have h2' := at_k (fun w => w.toInt < (8#32).toInt) _ (of_decide_eq_true h2) rfl
  generalize m (((0 : Dev nD) : Thread nD τ).loc main_arg0) k = w at h1' h2'
  simp only [BitVec.toInt, BitVec.toNat_ofNat] at h1' h2'
  have := w.isLt
  split at h1' <;> split at h2' <;> omega

/-- So the block the first window names is inside the array, at every grid point. -/
theorem ok_of_pre (m : (ℓ : Loc nD τ sig) → Buf (Elt Bits) ℓ) (h : Cert.Pre_RsOut m) : Ok m := by
  intro i
  refine ⟨fun a => ?_, Or.inl rfl⟩
  fin_cases a
  · show ((m (((0 : Dev nD) : Thread nD τ).loc main_arg0) ?k).toNat + 1) * 1 ≤ 8
    have hs := slot_lt m h ?k rfl
    omega
  · have hi : (i 0).val < 1 := (i 0).isLt
    show ((BitVec.ofNat 32 (i 0).val).toNat + 1) * 256 ≤ 256
    rw [BitVec.toNat_ofNat, Nat.mod_eq_of_lt (by omega)]
    omega
  · exact Nat.le_refl _

end Cert.RsOut.Hand

namespace Cert.RsOutIdeal.Hand

open Cert.RsOutIdeal Cert.RsOutIdeal.Gen Idealize.ShloMosaic Idealize.ShloMosaic.TcCoe Idealize.SL.Sem

/-- The precondition puts the table's first word among the eight slots. -/
theorem slot_lt (m : (ℓ : Loc nD τ sig) → Buf (Elt Ideal) ℓ) (h : Cert.Pre_RsOutIdeal m) (k : S4.Idx) (hk : (k 0).val = 0) :
    (m (((0 : Dev nD) : Thread nD τ).loc main_arg0) k).toNat < 8 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have h0 := congrFun (h 0) (fun a => ⟨0, by obtain rfl : a = 0 := Subsingleton.elim _ _; exact Nat.zero_lt_one⟩)
  simp only [Cert.Pre_rs_out_slot.fn, constantI, broadcastInDim, cmpi, andi, andi_one, extractStridedSlice, ofBool_eq_one, IntOp.cmpi,
    BitVec.sle, BitVec.slt, decide_eq_true_eq] at h0
  obtain ⟨h1, h2⟩ := h0
  have at_k (P : BitVec 32 → Prop) (I : S4.Idx) (hP : P (m (((0 : Dev nD) : Thread nD τ).loc main_arg0) I)) (hI : (I 0).val = 0) :
      P (m (((0 : Dev nD) : Thread nD τ).loc main_arg0) k) := by
    have e : I = k := by
      funext a
      obtain rfl : a = 0 := Subsingleton.elim _ _
      exact Fin.ext (hI.trans hk.symm)
    exact e ▸ hP
  have h1' := at_k (fun w => (0#32).toInt ≤ w.toInt) _ (of_decide_eq_true h1) rfl
  have h2' := at_k (fun w => w.toInt < (8#32).toInt) _ (of_decide_eq_true h2) rfl
  generalize m (((0 : Dev nD) : Thread nD τ).loc main_arg0) k = w at h1' h2'
  simp only [BitVec.toInt, BitVec.toNat_ofNat] at h1' h2'
  have := w.isLt
  split at h1' <;> split at h2' <;> omega

/-- So the block the first window names is inside the array, at every grid point. -/
theorem ok_of_pre (m : (ℓ : Loc nD τ sig) → Buf (Elt Ideal) ℓ) (h : Cert.Pre_RsOutIdeal m) : Ok m := by
  intro i
  refine ⟨fun a => ?_, Or.inl rfl⟩
  fin_cases a
  · show ((m (((0 : Dev nD) : Thread nD τ).loc main_arg0) ?k).toNat + 1) * 1 ≤ 8
    have hs := slot_lt m h ?k rfl
    omega
  · have hi : (i 0).val < 1 := (i 0).isLt
    show ((BitVec.ofNat 32 (i 0).val).toNat + 1) * 256 ≤ 256
    rw [BitVec.toNat_ofNat, Nat.mod_eq_of_lt (by omega)]
    omega
  · exact Nat.le_refl _

end Cert.RsOutIdeal.Hand

namespace Cert.RsOutIdeal.Hand

open Cert.RsOutIdeal Cert.RsOutIdeal.Gen Idealize.ShloMosaic Idealize.ShloMosaic.TcCoe Idealize.SL.Sem
open Idealize.ShloMosaic.Pipeline (Dat)

variable (m : (ℓ : Loc nD τ sig) → Buf (Elt Ideal) ℓ) (hO : Ok m)

/-- The row of the whole array that a row of a grid point's block is. -/
def row (t : Fin (cfgM m hO).N) (y : Fin 256) : Fin 256 :=
  ⟨t.val * 256 + y.val, by have h1 : t.val < 1 := t.isLt; have h2 := y.isLt; omega⟩

/-- The slot the table's first word names. -/
def slot (h : Cert.Pre_RsOutIdeal m) : Fin 8 :=
  ⟨(m (((0 : Dev nD) : Thread nD τ).loc main_arg0) (ix1 0 : S4.Idx)).toNat, slot_lt m h _ rfl⟩

theorem at1 : ∀ t : Fin grid0.N, cc0_transform_1 (grid0.coords t) = ![0, t.val, 0] := by decide +kernel

theorem at2 : ∀ t : Fin grid0.N, cc0_transform_2 (grid0.coords t) = ![1, t.val, 0] := by decide +kernel

theorem at3 : ∀ t : Fin grid0.N, cc0_transform_3 (grid0.coords t) = ![2, t.val, 0] := by decide +kernel

theorem at4 : ∀ t : Fin grid0.N, cc0_transform_4 (grid0.coords t) = ![3, t.val, 0] := by decide +kernel

theorem at5 : ∀ t : Fin grid0.N, cc0_transform_5 (grid0.coords t) = ![t.val, 0] := by decide +kernel

theorem at6 : ∀ t : Fin grid0.N, cc0_transform_6 (grid0.coords t) = ![t.val, 0] := by decide +kernel

theorem at7 : ∀ t : Fin grid0.N, cc0_transform_7 (grid0.coords t) = ![t.val, 0] := by decide +kernel

theorem at8 : ∀ t : Fin grid0.N, cc0_transform_8 (grid0.coords t) = ![t.val, 0] := by decide +kernel

theorem at9 : ∀ t : Fin grid0.N, cc0_transform_9 (grid0.coords t) = ![t.val, 0] := by decide +kernel

theorem at10 : ∀ t : Fin grid0.N, cc0_transform_10 (grid0.coords t) = ![t.val, 0] := by decide +kernel

theorem at11 : ∀ t : Fin grid0.N, cc0_transform_11 (grid0.coords t) = ![t.val, 0] := by decide +kernel

/-- The first input's block lies in the slot that the table names. -/
theorem emb0 (h : Cert.Pre_RsOutIdeal m) (t : Fin (cfgM m hO).N) (y0 : Fin 256) (y1 : Fin 2048) :
    (((cfgM m hO).win 0).blk t).view.emb (ix3 0 y0 y1 : S1x256x2048.Idx) = (ix3 (slot m h) (row m hO t y0) y1 : S8x256x2048.Idx) := by
  refine funext fun a => Fin.ext ?_
  refine (ValueKit.rect_emb_unit_val _ _ _ _ _ : _ = cc0_transform_0 inb_S4_S1_0 numel1_S1 (tbl m) (grid0.coords t) a * S1x256x2048.size a + _).trans ?_
  have e := congrFun (at1 t) 1
  fin_cases a
  · show (m (((0 : Dev nD) : Thread nD τ).loc main_arg0) _).toNat * 1 + 0 = (m (((0 : Dev nD) : Thread nD τ).loc main_arg0) _).toNat
    rw [Nat.mul_one, Nat.add_zero]
    congr 2
    refine funext fun (a : Fin 1) => ?_
    obtain rfl : a = 0 := Subsingleton.elim _ _
    rfl
  · exact congrArg (· * 256 + y0.val) e
  · show 0 * 2048 + y1.val = y1.val
    omega

theorem emb1 (t : Fin (cfgM m hO).N) (y0 : Fin 256) (y1 : Fin 2048) :
    (((cfgM m hO).win 1).blk t).view.emb (ix3 0 y0 y1 : S1x256x2048.Idx) = (ix3 0 (row m hO t y0) y1 : S4x256x2048.Idx) := by
  refine funext fun a => Fin.ext ?_
  refine (ValueKit.rect_emb_unit_val _ _ _ _ _ : _ = cc0_transform_1 (grid0.coords t) a * S1x256x2048.size a + _).trans ?_
  rw [at1]
  fin_cases a
  · rfl
  · rfl
  · show 0 * 2048 + y1.val = y1.val
    omega

theorem emb2 (t : Fin (cfgM m hO).N) (y0 : Fin 256) (y1 : Fin 2048) :
    (((cfgM m hO).win 2).blk t).view.emb (ix3 0 y0 y1 : S1x256x2048.Idx) = (ix3 1 (row m hO t y0) y1 : S4x256x2048.Idx) := by
  refine funext fun a => Fin.ext ?_
  refine (ValueKit.rect_emb_unit_val _ _ _ _ _ : _ = cc0_transform_2 (grid0.coords t) a * S1x256x2048.size a + _).trans ?_
  rw [at2]
  fin_cases a
  · rfl
  · rfl
  · show 0 * 2048 + y1.val = y1.val
    omega

theorem emb3 (t : Fin (cfgM m hO).N) (y0 : Fin 256) (y1 : Fin 2048) :
    (((cfgM m hO).win 3).blk t).view.emb (ix3 0 y0 y1 : S1x256x2048.Idx) = (ix3 2 (row m hO t y0) y1 : S4x256x2048.Idx) := by
  refine funext fun a => Fin.ext ?_
  refine (ValueKit.rect_emb_unit_val _ _ _ _ _ : _ = cc0_transform_3 (grid0.coords t) a * S1x256x2048.size a + _).trans ?_
  rw [at3]
  fin_cases a
  · rfl
  · rfl
  · show 0 * 2048 + y1.val = y1.val
    omega

theorem emb4 (t : Fin (cfgM m hO).N) (y0 : Fin 256) (y1 : Fin 2048) :
    (((cfgM m hO).win 4).blk t).view.emb (ix3 0 y0 y1 : S1x256x2048.Idx) = (ix3 3 (row m hO t y0) y1 : S4x256x2048.Idx) := by
  refine funext fun a => Fin.ext ?_
  refine (ValueKit.rect_emb_unit_val _ _ _ _ _ : _ = cc0_transform_4 (grid0.coords t) a * S1x256x2048.size a + _).trans ?_
  rw [at4]
  fin_cases a
  · rfl
  · rfl
  · show 0 * 2048 + y1.val = y1.val
    omega

theorem emb5 (t : Fin (cfgM m hO).N) (y0 : Fin 256) (y1 : Fin 2048) :
    (((cfgM m hO).win 5).blk t).view.emb (ix2 y0 y1 : S256x2048.Idx) = (ix2 (row m hO t y0) y1 : S256x2048.Idx) := by
  refine funext fun a => Fin.ext ?_
  refine (ValueKit.rect_emb_unit_val _ _ _ _ _ : _ = cc0_transform_5 (grid0.coords t) a * S256x2048.size a + _).trans ?_
  rw [at5]
  fin_cases a
  · rfl
  · show 0 * 2048 + y1.val = y1.val
    omega

theorem emb6 (t : Fin (cfgM m hO).N) (y0 : Fin 256) (y1 : Fin 2048) :
    (((cfgM m hO).win 6).blk t).view.emb (ix2 y0 y1 : S256x2048.Idx) = (ix2 (row m hO t y0) y1 : S256x2048.Idx) := by
  refine funext fun a => Fin.ext ?_
  refine (ValueKit.rect_emb_unit_val _ _ _ _ _ : _ = cc0_transform_6 (grid0.coords t) a * S256x2048.size a + _).trans ?_
  rw [at6]
  fin_cases a
  · rfl
  · show 0 * 2048 + y1.val = y1.val
    omega

theorem emb7 (t : Fin (cfgM m hO).N) (y0 : Fin 256) (y1 : Fin 2048) :
    (((cfgM m hO).win 7).blk t).view.emb (ix2 y0 y1 : S256x2048.Idx) = (ix2 (row m hO t y0) y1 : S256x2048.Idx) := by
  refine funext fun a => Fin.ext ?_
  refine (ValueKit.rect_emb_unit_val _ _ _ _ _ : _ = cc0_transform_7 (grid0.coords t) a * S256x2048.size a + _).trans ?_
  rw [at7]
  fin_cases a
  · rfl
  · show 0 * 2048 + y1.val = y1.val
    omega

theorem emb8 (t : Fin (cfgM m hO).N) (y0 : Fin 256) (y1 : Fin 2048) :
    (((cfgM m hO).win 8).blk t).view.emb (ix2 y0 y1 : S256x2048.Idx) = (ix2 (row m hO t y0) y1 : S256x2048.Idx) := by
  refine funext fun a => Fin.ext ?_
  refine (ValueKit.rect_emb_unit_val _ _ _ _ _ : _ = cc0_transform_8 (grid0.coords t) a * S256x2048.size a + _).trans ?_
  rw [at8]
  fin_cases a
  · rfl
  · show 0 * 2048 + y1.val = y1.val
    omega

theorem emb9 (t : Fin (cfgM m hO).N) (y0 : Fin 256) (y1 : Fin 2048) :
    (((cfgM m hO).win 9).blk t).view.emb (ix2 y0 y1 : S256x2048.Idx) = (ix2 (row m hO t y0) y1 : S256x2048.Idx) := by
  refine funext fun a => Fin.ext ?_
  refine (ValueKit.rect_emb_unit_val _ _ _ _ _ : _ = cc0_transform_9 (grid0.coords t) a * S256x2048.size a + _).trans ?_
  rw [at9]
  fin_cases a
  · rfl
  · show 0 * 2048 + y1.val = y1.val
    omega

theorem emb10 (t : Fin (cfgM m hO).N) (y0 : Fin 256) (y1 : Fin 2048) :
    (((cfgM m hO).win 10).blk t).view.emb (ix2 y0 y1 : S256x2048.Idx) = (ix2 (row m hO t y0) y1 : S256x2048.Idx) := by
  refine funext fun a => Fin.ext ?_
  refine (ValueKit.rect_emb_unit_val _ _ _ _ _ : _ = cc0_transform_10 (grid0.coords t) a * S256x2048.size a + _).trans ?_
  rw [at10]
  fin_cases a
  · rfl
  · show 0 * 2048 + y1.val = y1.val
    omega

theorem emb11 (t : Fin (cfgM m hO).N) (y0 : Fin 256) (y1 : Fin 2048) :
    (((cfgM m hO).win 11).blk t).view.emb (ix2 y0 y1 : S256x2048.Idx) = (ix2 (row m hO t y0) y1 : S256x2048.Idx) := by
  refine funext fun a => Fin.ext ?_
  refine (ValueKit.rect_emb_unit_val _ _ _ _ _ : _ = cc0_transform_11 (grid0.coords t) a * S256x2048.size a + _).trans ?_
  rw [at11]
  fin_cases a
  · rfl
  · show 0 * 2048 + y1.val = y1.val
    omega

theorem in0 (h : Cert.Pre_RsOutIdeal m) (c : Dev nD) (t : Fin (cfgM m hO).N) (y0 : Fin 256) (y1 : Fin 2048) :
    iblk m hO c 0 t (ix3 0 y0 y1 : S1x256x2048.Idx) = m ((c : Thread nD τ).loc main_arg1) (ix3 (slot m h) (row m hO t y0) y1) :=
  congrArg (m ((c : Thread nD τ).loc main_arg1)) (emb0 m hO h t y0 y1)

theorem in1 (c : Dev nD) (t : Fin (cfgM m hO).N) (y0 : Fin 256) (y1 : Fin 2048) :
    iblk m hO c 1 t (ix3 0 y0 y1 : S1x256x2048.Idx) = m ((c : Thread nD τ).loc main_arg2) (ix3 0 (row m hO t y0) y1) :=
  congrArg (m ((c : Thread nD τ).loc main_arg2)) (emb1 m hO t y0 y1)

theorem in2 (c : Dev nD) (t : Fin (cfgM m hO).N) (y0 : Fin 256) (y1 : Fin 2048) :
    iblk m hO c 2 t (ix3 0 y0 y1 : S1x256x2048.Idx) = m ((c : Thread nD τ).loc main_arg3) (ix3 1 (row m hO t y0) y1) :=
  congrArg (m ((c : Thread nD τ).loc main_arg3)) (emb2 m hO t y0 y1)

theorem in3 (c : Dev nD) (t : Fin (cfgM m hO).N) (y0 : Fin 256) (y1 : Fin 2048) :
    iblk m hO c 3 t (ix3 0 y0 y1 : S1x256x2048.Idx) = m ((c : Thread nD τ).loc main_arg3) (ix3 2 (row m hO t y0) y1) :=
  congrArg (m ((c : Thread nD τ).loc main_arg3)) (emb3 m hO t y0 y1)

theorem in4 (c : Dev nD) (t : Fin (cfgM m hO).N) (y0 : Fin 256) (y1 : Fin 2048) :
    iblk m hO c 4 t (ix3 0 y0 y1 : S1x256x2048.Idx) = m ((c : Thread nD τ).loc main_arg3) (ix3 3 (row m hO t y0) y1) :=
  congrArg (m ((c : Thread nD τ).loc main_arg3)) (emb4 m hO t y0 y1)

theorem in5 (c : Dev nD) (t : Fin (cfgM m hO).N) (y0 : Fin 256) (y1 : Fin 2048) :
    iblk m hO c 5 t (ix2 y0 y1 : S256x2048.Idx) = m ((c : Thread nD τ).loc main_arg4) (ix2 (row m hO t y0) y1) :=
  congrArg (m ((c : Thread nD τ).loc main_arg4)) (emb5 m hO t y0 y1)

theorem in6 (c : Dev nD) (t : Fin (cfgM m hO).N) (y0 : Fin 256) (y1 : Fin 2048) :
    iblk m hO c 6 t (ix2 y0 y1 : S256x2048.Idx) = m ((c : Thread nD τ).loc main_arg5) (ix2 (row m hO t y0) y1) :=
  congrArg (m ((c : Thread nD τ).loc main_arg5)) (emb6 m hO t y0 y1)

theorem in7 (c : Dev nD) (t : Fin (cfgM m hO).N) (y0 : Fin 256) (y1 : Fin 2048) :
    iblk m hO c 7 t (ix2 y0 y1 : S256x2048.Idx) = m ((c : Thread nD τ).loc main_arg6) (ix2 (row m hO t y0) y1) :=
  congrArg (m ((c : Thread nD τ).loc main_arg6)) (emb7 m hO t y0 y1)

theorem cov8 : ((cfgM m hO).win 8).Covers := by
  refine ⟨(by decide : ∀ a : Fin 2, 0 < S256x2048.size a), fun (β : (a : Fin 2) → Fin (((cfgM m hO).win 8).nblk a)) => ⟨⟨(β 0).val, lt_of_lt_of_eq (β 0).isLt (by show (256 + 256 - 1) / 256 = 1; norm_num)⟩, flush0_8 _ _, fun a => ⟨?_, Or.inl rfl⟩⟩⟩
  refine (congrFun (at8 _) a).trans ?_
  have h1 : (β 1).val < 1 := lt_of_lt_of_eq (β 1).isLt (by show (2048 + 2048 - 1) / 2048 = 1; norm_num)
  fin_cases a
  · rfl
  · show 0 = (β 1).val
    omega

theorem cov9 : ((cfgM m hO).win 9).Covers := by
  refine ⟨(by decide : ∀ a : Fin 2, 0 < S256x2048.size a), fun (β : (a : Fin 2) → Fin (((cfgM m hO).win 9).nblk a)) => ⟨⟨(β 0).val, lt_of_lt_of_eq (β 0).isLt (by show (256 + 256 - 1) / 256 = 1; norm_num)⟩, flush0_9 _ _, fun a => ⟨?_, Or.inl rfl⟩⟩⟩
  refine (congrFun (at9 _) a).trans ?_
  have h1 : (β 1).val < 1 := lt_of_lt_of_eq (β 1).isLt (by show (2048 + 2048 - 1) / 2048 = 1; norm_num)
  fin_cases a
  · rfl
  · show 0 = (β 1).val
    omega

theorem cov10 : ((cfgM m hO).win 10).Covers := by
  refine ⟨(by decide : ∀ a : Fin 2, 0 < S256x2048.size a), fun (β : (a : Fin 2) → Fin (((cfgM m hO).win 10).nblk a)) => ⟨⟨(β 0).val, lt_of_lt_of_eq (β 0).isLt (by show (256 + 256 - 1) / 256 = 1; norm_num)⟩, flush0_10 _ _, fun a => ⟨?_, Or.inl rfl⟩⟩⟩
  refine (congrFun (at10 _) a).trans ?_
  have h1 : (β 1).val < 1 := lt_of_lt_of_eq (β 1).isLt (by show (2048 + 2048 - 1) / 2048 = 1; norm_num)
  fin_cases a
  · rfl
  · show 0 = (β 1).val
    omega

theorem cov11 : ((cfgM m hO).win 11).Covers := by
  refine ⟨(by decide : ∀ a : Fin 2, 0 < S256x2048.size a), fun (β : (a : Fin 2) → Fin (((cfgM m hO).win 11).nblk a)) => ⟨⟨(β 0).val, lt_of_lt_of_eq (β 0).isLt (by show (256 + 256 - 1) / 256 = 1; norm_num)⟩, flush0_11 _ _, fun a => ⟨?_, Or.inl rfl⟩⟩⟩
  refine (congrFun (at11 _) a).trans ?_
  have h1 : (β 1).val < 1 := lt_of_lt_of_eq (β 1).isLt (by show (2048 + 2048 - 1) / 2048 = 1; norm_num)
  fin_cases a
  · rfl
  · show 0 = (β 1).val
    omega

/-- A choice made by comparing a slot's number with a word. -/
theorem sel (w : BitVec 32) (x : Fin 8) (a b : EReal) :
    Scalar.select (IntOp.cmpi CmpIPredicate.eq (BitVec.ofNat 32 x.val) w) a b = if x.val = w.toNat then a else b := by
  have hx : x.val % 2 ^ 32 = x.val := Nat.mod_eq_of_lt (by have := x.isLt; omega)
  by_cases e : x.val = w.toNat
  · have e' : BitVec.ofNat 32 x.val = w := BitVec.eq_of_toNat_eq (by rw [BitVec.toNat_ofNat, hx, e])
    simp [IntOp.cmpi, Scalar.select, e', e]
  · have e' : BitVec.ofNat 32 x.val ≠ w := fun h => e (by rw [← h, BitVec.toNat_ofNat, hx])
    have f : (BitVec.ofNat 32 x.val == w) = false := beq_eq_false_iff_ne.mpr e'
    simp [IntOp.cmpi, Scalar.select, f, e]

/-- The reference's sum over the eight slots, all but the named one masked, is the named one. -/
theorem own (h : Cert.Pre_RsOutIdeal m) (i : Fin 256) (j : Fin 2048) :
    Cert.RsOutRefIdeal.Read.val_main_v7 (F := Ideal) (m (((0 : Dev nD) : Thread nD τ).loc main_arg0)) (m (((0 : Dev nD) : Thread nD τ).loc main_arg1)) (ix2 i j)
      = m (((0 : Dev nD) : Thread nD τ).loc main_arg1) (ix3 (slot m h) i j) := by
  unfold Cert.RsOutRefIdeal.Read.val_main_v7 Cert.RsOutRefIdeal.Read.val_main_v6 Cert.RsOutRefIdeal.Read.val_main_call0_v2 Cert.RsOutRefIdeal.Read.val_main_call0_v1 Cert.RsOutRefIdeal.Read.val_main_call0_v0 Cert.RsOutRefIdeal.Read.val_main_cst Cert.RsOutRefIdeal.Read.val_main_cst_0 Cert.RsOutRefIdeal.Read.val_main_v5 Cert.RsOutRefIdeal.Read.val_main_v4 Cert.RsOutRefIdeal.Read.val_main_v3 Cert.RsOutRefIdeal.Read.val_main_v2 Cert.RsOutRefIdeal.Read.val_main_v1 Cert.RsOutRefIdeal.Read.val_main_v0
  pointwise
  have z : id (constant (F := Ideal) Cert.RsOutRefIdeal.S_ FTy.f32 0#32) Idealize.ShloMosaic.ix0 = (0 : EReal) := by
    show constant (F := Ideal) Cert.RsOutRefIdeal.S_ FTy.f32 0#32 Idealize.ShloMosaic.ix0 = _
    pointwise
  rw [z]
  refine (Finset.sum_eq_single (slot m h) (fun x _ hx => ?_) (fun hx => absurd (Finset.mem_univ _) hx)).trans ?_
  · exact (sel _ _ _ _).trans (if_neg fun e => hx (Fin.ext e))
  · exact (sel _ _ _ _).trans (if_pos rfl)

/-- The sum of a block's parts is the reference's gradient at the block's place. -/
theorem grad (h : Cert.Pre_RsOutIdeal m) (c : Dev nD) (t : Fin (cfgM m hO).N) (y0 : Fin 256) (y1 : Fin 2048) :
    k0_pay2 (iblk m hO c 0 t) (iblk m hO c 1 t) (iblk m hO c 2 t) (iblk m hO c 3 t) (iblk m hO c 4 t) (ix2 y0 y1)
      = Cert.RsOutRefIdeal.Read.val_main_v22 (F := Ideal) (m ((c : Thread nD τ).loc main_arg0)) (m ((c : Thread nD τ).loc main_arg1)) (m ((c : Thread nD τ).loc main_arg2)) (m ((c : Thread nD τ).loc main_arg3)) (ix2 (row m hO t y0) y1) := by
  obtain rfl : c = 0 := Subsingleton.elim _ _
  unfold Cert.RsOutRefIdeal.Read.val_main_v22 Cert.RsOutRefIdeal.Read.val_main_v21 Cert.RsOutRefIdeal.Read.val_main_v20 Cert.RsOutRefIdeal.Read.val_main_v19 Cert.RsOutRefIdeal.Read.val_main_v18 Cert.RsOutRefIdeal.Read.val_main_v17 Cert.RsOutRefIdeal.Read.val_main_v16 Cert.RsOutRefIdeal.Read.val_main_v15 Cert.RsOutRefIdeal.Read.val_main_v14 Cert.RsOutRefIdeal.Read.val_main_v13 Cert.RsOutRefIdeal.Read.val_main_v12 Cert.RsOutRefIdeal.Read.val_main_v11 Cert.RsOutRefIdeal.Read.val_main_v10 Cert.RsOutRefIdeal.Read.val_main_v9 Cert.RsOutRefIdeal.Read.val_main_v8
  pointwise [k0_pay2, own m h, in0 m hO h, in1 m hO, in2 m hO, in3 m hO, in4 m hO]

/-- The mean's new block is the reference's at the block's place. -/
theorem mean (h : Cert.Pre_RsOutIdeal m) (c : Dev nD) (t : Fin (cfgM m hO).N) (y0 : Fin 256) (y1 : Fin 2048) :
    k0_pay3 (iblk m hO c 0 t) (iblk m hO c 1 t) (iblk m hO c 2 t) (iblk m hO c 3 t) (iblk m hO c 4 t) (iblk m hO c 6 t) (ix2 y0 y1)
      = Cert.RsOutRefIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix2 (row m hO t y0) y1) := by
  have hg := grad m hO h c t y0 y1
  unfold Cert.RsOutRefIdeal.Read.val_main_v27 Cert.RsOutRefIdeal.Read.val_main_v26 Cert.RsOutRefIdeal.Read.val_main_v25 Cert.RsOutRefIdeal.Read.val_main_cst_2 Cert.RsOutRefIdeal.Read.val_main_v24 Cert.RsOutRefIdeal.Read.val_main_v23 Cert.RsOutRefIdeal.Read.val_main_cst_1
  pointwise [k0_pay3, hg, in6 m hO]

/-- The second moment's new block is the reference's at the block's place. -/
theorem moment (h : Cert.Pre_RsOutIdeal m) (c : Dev nD) (t : Fin (cfgM m hO).N) (y0 : Fin 256) (y1 : Fin 2048) :
    k0_pay4 (iblk m hO c 0 t) (iblk m hO c 1 t) (iblk m hO c 2 t) (iblk m hO c 3 t) (iblk m hO c 4 t) (iblk m hO c 7 t) (ix2 y0 y1)
      = Cert.RsOutRefIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (ix2 (row m hO t y0) y1) := by
  have hg := grad m hO h c t y0 y1
  unfold Cert.RsOutRefIdeal.Read.val_main_v33 Cert.RsOutRefIdeal.Read.val_main_v32 Cert.RsOutRefIdeal.Read.val_main_v31 Cert.RsOutRefIdeal.Read.val_main_cst_4 Cert.RsOutRefIdeal.Read.val_main_v30 Cert.RsOutRefIdeal.Read.val_main_v29 Cert.RsOutRefIdeal.Read.val_main_v28 Cert.RsOutRefIdeal.Read.val_main_cst_3
  pointwise [k0_pay4, hg, in7 m hO]

/-- The weight's update in a block is the reference's at the block's place. -/
theorem update (h : Cert.Pre_RsOutIdeal m) (c : Dev nD) (t : Fin (cfgM m hO).N) (y0 : Fin 256) (y1 : Fin 2048) :
    k0_pay1 (iblk m hO c 5 t) (k0_pay4 (iblk m hO c 0 t) (iblk m hO c 1 t) (iblk m hO c 2 t) (iblk m hO c 3 t) (iblk m hO c 4 t) (iblk m hO c 7 t))
        (k0_pay5 (iblk m hO c 0 t) (iblk m hO c 1 t) (iblk m hO c 2 t) (iblk m hO c 3 t) (iblk m hO c 4 t) (iblk m hO c 6 t)) (ix2 y0 y1)
      = Cert.RsOutRefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row m hO t y0) y1) := by
  have hm := mean m hO h c t y0 y1
  have hv := moment m hO h c t y0 y1
  unfold Cert.RsOutRefIdeal.Read.val_main_v46 Cert.RsOutRefIdeal.Read.val_main_v45 Cert.RsOutRefIdeal.Read.val_main_cst_9 Cert.RsOutRefIdeal.Read.val_main_v44 Cert.RsOutRefIdeal.Read.val_main_v43 Cert.RsOutRefIdeal.Read.val_main_v42 Cert.RsOutRefIdeal.Read.val_main_cst_8 Cert.RsOutRefIdeal.Read.val_main_v41 Cert.RsOutRefIdeal.Read.val_main_v40 Cert.RsOutRefIdeal.Read.val_main_v39 Cert.RsOutRefIdeal.Read.val_main_cst_7 Cert.RsOutRefIdeal.Read.val_main_v38 Cert.RsOutRefIdeal.Read.val_main_v37 Cert.RsOutRefIdeal.Read.val_main_v36 Cert.RsOutRefIdeal.Read.val_main_cst_6 Cert.RsOutRefIdeal.Read.val_main_v35 Cert.RsOutRefIdeal.Read.val_main_v34 Cert.RsOutRefIdeal.Read.val_main_cst_5
  pointwise [k0_pay1, k0_pay5, hm, hv, in5 m hO]

/-- What a grid point leaves in output window 8, from the blocks it reads. -/
theorem out8 (c : Dev nD) (t : Fin (cfgM m hO).N) (v0 : Vec Ideal S1x256x2048 .f32) (v1 : Vec Ideal S1x256x2048 .f32) (v2 : Vec Ideal S1x256x2048 .bf16) (v3 : Vec Ideal S1x256x2048 .bf16) (v4 : Vec Ideal S1x256x2048 .bf16) (v5 : Vec Ideal S256x2048 .f32) (v6 : Vec Ideal S256x2048 .f32) (v7 : Vec Ideal S256x2048 .f32) (y : S256x2048.Idx) :
    out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) v0 v1 v2 v3 v4 v5 v6 v7 (tbl m 0) y = k0_pay2 v0 v1 v2 v3 v4 y := by
  frame_out

/-- What a grid point leaves in output window 9, from the blocks it reads. -/
theorem out9 (c : Dev nD) (t : Fin (cfgM m hO).N) (v0 : Vec Ideal S1x256x2048 .f32) (v1 : Vec Ideal S1x256x2048 .f32) (v2 : Vec Ideal S1x256x2048 .bf16) (v3 : Vec Ideal S1x256x2048 .bf16) (v4 : Vec Ideal S1x256x2048 .bf16) (v5 : Vec Ideal S256x2048 .f32) (v6 : Vec Ideal S256x2048 .f32) (v7 : Vec Ideal S256x2048 .f32) (y : S256x2048.Idx) :
    out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) v0 v1 v2 v3 v4 v5 v6 v7 (tbl m 0) y = k0_pay1 v5 (k0_pay4 v0 v1 v2 v3 v4 v7) (k0_pay5 v0 v1 v2 v3 v4 v6) y := by
  frame_out

/-- What a grid point leaves in output window 10, from the blocks it reads. -/
theorem out10 (c : Dev nD) (t : Fin (cfgM m hO).N) (v0 : Vec Ideal S1x256x2048 .f32) (v1 : Vec Ideal S1x256x2048 .f32) (v2 : Vec Ideal S1x256x2048 .bf16) (v3 : Vec Ideal S1x256x2048 .bf16) (v4 : Vec Ideal S1x256x2048 .bf16) (v5 : Vec Ideal S256x2048 .f32) (v6 : Vec Ideal S256x2048 .f32) (v7 : Vec Ideal S256x2048 .f32) (y : S256x2048.Idx) :
    out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) v0 v1 v2 v3 v4 v5 v6 v7 (tbl m 0) y = k0_pay3 v0 v1 v2 v3 v4 v6 y := by
  frame_out

/-- What a grid point leaves in output window 11, from the blocks it reads. -/
theorem out11 (c : Dev nD) (t : Fin (cfgM m hO).N) (v0 : Vec Ideal S1x256x2048 .f32) (v1 : Vec Ideal S1x256x2048 .f32) (v2 : Vec Ideal S1x256x2048 .bf16) (v3 : Vec Ideal S1x256x2048 .bf16) (v4 : Vec Ideal S1x256x2048 .bf16) (v5 : Vec Ideal S256x2048 .f32) (v6 : Vec Ideal S256x2048 .f32) (v7 : Vec Ideal S256x2048 .f32) (y : S256x2048.Idx) :
    out0_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) v0 v1 v2 v3 v4 v5 v6 v7 (tbl m 0) y = k0_pay4 v0 v1 v2 v3 v4 v7 y := by
  frame_out

theorem left8 (c : Dev nD) (t : Fin (cfgM m hO).N) : (outsAt0 m hO c t).1 = k0_pay2 (iblk m hO c 0 t) (iblk m hO c 1 t) (iblk m hO c 2 t) (iblk m hO c 3 t) (iblk m hO c 4 t) := by
  have e := fun y => out8 m hO c t (iblk m hO c 0 t) (iblk m hO c 1 t) (iblk m hO c 2 t) (iblk m hO c 3 t) (iblk m hO c 4 t) (iblk m hO c 5 t) (iblk m hO c 6 t) (iblk m hO c 7 t) y
  unfold outsAt0
  dsimp only
  generalize iblk m hO c 0 t = B0 at *
  generalize iblk m hO c 1 t = B1 at *
  generalize iblk m hO c 2 t = B2 at *
  generalize iblk m hO c 3 t = B3 at *
  generalize iblk m hO c 4 t = B4 at *
  generalize iblk m hO c 5 t = B5 at *
  generalize iblk m hO c 6 t = B6 at *
  generalize iblk m hO c 7 t = B7 at *
  exact funext e

theorem left9 (c : Dev nD) (t : Fin (cfgM m hO).N) : (outsAt0 m hO c t).2.1 = k0_pay1 (iblk m hO c 5 t) (k0_pay4 (iblk m hO c 0 t) (iblk m hO c 1 t) (iblk m hO c 2 t) (iblk m hO c 3 t) (iblk m hO c 4 t) (iblk m hO c 7 t)) (k0_pay5 (iblk m hO c 0 t) (iblk m hO c 1 t) (iblk m hO c 2 t) (iblk m hO c 3 t) (iblk m hO c 4 t) (iblk m hO c 6 t)) := by
  have e := fun y => out9 m hO c t (iblk m hO c 0 t) (iblk m hO c 1 t) (iblk m hO c 2 t) (iblk m hO c 3 t) (iblk m hO c 4 t) (iblk m hO c 5 t) (iblk m hO c 6 t) (iblk m hO c 7 t) y
  unfold outsAt0
  dsimp only
  generalize iblk m hO c 0 t = B0 at *
  generalize iblk m hO c 1 t = B1 at *
  generalize iblk m hO c 2 t = B2 at *
  generalize iblk m hO c 3 t = B3 at *
  generalize iblk m hO c 4 t = B4 at *
  generalize iblk m hO c 5 t = B5 at *
  generalize iblk m hO c 6 t = B6 at *
  generalize iblk m hO c 7 t = B7 at *
  exact funext e

theorem left10 (c : Dev nD) (t : Fin (cfgM m hO).N) : (outsAt0 m hO c t).2.2.1 = k0_pay3 (iblk m hO c 0 t) (iblk m hO c 1 t) (iblk m hO c 2 t) (iblk m hO c 3 t) (iblk m hO c 4 t) (iblk m hO c 6 t) := by
  have e := fun y => out10 m hO c t (iblk m hO c 0 t) (iblk m hO c 1 t) (iblk m hO c 2 t) (iblk m hO c 3 t) (iblk m hO c 4 t) (iblk m hO c 5 t) (iblk m hO c 6 t) (iblk m hO c 7 t) y
  unfold outsAt0
  dsimp only
  generalize iblk m hO c 0 t = B0 at *
  generalize iblk m hO c 1 t = B1 at *
  generalize iblk m hO c 2 t = B2 at *
  generalize iblk m hO c 3 t = B3 at *
  generalize iblk m hO c 4 t = B4 at *
  generalize iblk m hO c 5 t = B5 at *
  generalize iblk m hO c 6 t = B6 at *
  generalize iblk m hO c 7 t = B7 at *
  exact funext e

theorem left11 (c : Dev nD) (t : Fin (cfgM m hO).N) : (outsAt0 m hO c t).2.2.2 = k0_pay4 (iblk m hO c 0 t) (iblk m hO c 1 t) (iblk m hO c 2 t) (iblk m hO c 3 t) (iblk m hO c 4 t) (iblk m hO c 7 t) := by
  have e := fun y => out11 m hO c t (iblk m hO c 0 t) (iblk m hO c 1 t) (iblk m hO c 2 t) (iblk m hO c 3 t) (iblk m hO c 4 t) (iblk m hO c 5 t) (iblk m hO c 6 t) (iblk m hO c 7 t) y
  unfold outsAt0
  dsimp only
  generalize iblk m hO c 0 t = B0 at *
  generalize iblk m hO c 1 t = B1 at *
  generalize iblk m hO c 2 t = B2 at *
  generalize iblk m hO c 3 t = B3 at *
  generalize iblk m hO c 4 t = B4 at *
  generalize iblk m hO c 5 t = B5 at *
  generalize iblk m hO c 6 t = B6 at *
  generalize iblk m hO c 7 t = B7 at *
  exact funext e

/-- The whole array of the gradient. -/
theorem final8 (h : Cert.Pre_RsOutIdeal m) (c : Dev nD) :
    (dats m hO 0 c).arrAt 8 (cfgM m hO).N = Cert.RsOutRefIdeal.Read.val_main_v22 (F := Ideal) (m ((c : Thread nD τ).loc main_arg0)) (m ((c : Thread nD τ).loc main_arg1)) (m ((c : Thread nD τ).loc main_arg2)) (m ((c : Thread nD τ).loc main_arg3)) := by
  refine (dats m hO 0 c).arrAt_eq_of_covers 8 _ (cov8 m hO) fun t hf (y : S256x2048.Idx) => ?_
  idx_vars y
  refine (congrFun ((after0_8 m hO c t).trans (left8 m hO c t)) _).trans ?_
  exact (grad m hO h c t _ _).trans (congrArg _ (emb8 m hO t _ _).symm)

/-- The whole array of the weight's update. -/
theorem final9 (h : Cert.Pre_RsOutIdeal m) (c : Dev nD) :
    (dats m hO 0 c).arrAt 9 (cfgM m hO).N = Cert.RsOutRefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m hO 0 c).arrAt_eq_of_covers 9 _ (cov9 m hO) fun t hf (y : S256x2048.Idx) => ?_
  idx_vars y
  refine (congrFun ((after0_9 m hO c t).trans (left9 m hO c t)) _).trans ?_
  exact (update m hO h c t _ _).trans (congrArg _ (emb9 m hO t _ _).symm)

/-- The whole array of the mean. -/
theorem final10 (h : Cert.Pre_RsOutIdeal m) (c : Dev nD) :
    (dats m hO 0 c).arrAt 10 (cfgM m hO).N = Cert.RsOutRefIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m hO 0 c).arrAt_eq_of_covers 10 _ (cov10 m hO) fun t hf (y : S256x2048.Idx) => ?_
  idx_vars y
  refine (congrFun ((after0_10 m hO c t).trans (left10 m hO c t)) _).trans ?_
  exact (mean m hO h c t _ _).trans (congrArg _ (emb10 m hO t _ _).symm)

/-- The whole array of the second moment. -/
theorem final11 (h : Cert.Pre_RsOutIdeal m) (c : Dev nD) :
    (dats m hO 0 c).arrAt 11 (cfgM m hO).N = Cert.RsOutRefIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m hO 0 c).arrAt_eq_of_covers 11 _ (cov11 m hO) fun t hf (y : S256x2048.Idx) => ?_
  idx_vars y
  refine (congrFun ((after0_11 m hO c t).trans (left11 m hO c t)) _).trans ?_
  exact (moment m hO h c t _ _).trans (congrArg _ (emb11 m hO t _ _).symm)

/-- Both programs end with the same values in the results. -/
theorem tie : Cert.algebraic_RsOutIdeal_RsOutRefIdeal := by
  intro m g m' g' hp ha
  have hO := ok_of_pre m hp
  refine ⟨fun c => Cert.RsOutRefIdeal.Read.val_main_v22 (F := Ideal) (m ((c : Thread nD τ).loc main_arg0)) (m ((c : Thread nD τ).loc main_arg1)) (m ((c : Thread nD τ).loc main_arg2)) (m ((c : Thread nD τ).loc main_arg3)),
    fun c => Cert.RsOutRefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
    fun c => Cert.RsOutRefIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg5)),
    fun c => Cert.RsOutRefIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg6)), ?_, ?_⟩
  · refine (θ_run defs _ _).mono (fun r h c => ?_) (θ_run_and (run_main m g hO) (unchanged m g hO))
    exact ⟨((h.1 c).1 8).trans (final8 m hO hp c), ((h.1 c).1 9).trans (final9 m hO hp c),
      ((h.1 c).1 10).trans (final10 m hO hp c), ((h.1 c).1 11).trans (final11 m hO hp c), h.2 c⟩
  · refine (θ_run Cert.RsOutRefIdeal.defs _ _).mono (fun r h c => ?_) (Cert.RsOutRefIdeal.Value.run (F := Ideal) m' g')
    obtain ⟨a0, a1, a2, a3, a4, a5, a6⟩ := ha c
    obtain ⟨h0, h1, h2, h3, hr⟩ := h c
    refine ⟨h0.trans ?_, h1.trans ?_, h2.trans ?_, h3.trans ?_, hr⟩
    · beta_reduce; rw [← a0, ← a1, ← a2, ← a3]; rfl
    · beta_reduce; rw [← a0, ← a1, ← a2, ← a3, ← a4, ← a5, ← a6]; rfl
    · beta_reduce; rw [← a0, ← a1, ← a2, ← a3, ← a5]; rfl
    · beta_reduce; rw [← a0, ← a1, ← a2, ← a3, ← a6]; rfl

/-- The reference runs, leaves its arguments as they are, and has no counter to leave standing. -/
theorem refFrame : Cert.quiescent_RsOutRefIdeal := fun m ρ _ =>
  (θ_run _ _ _).mono (fun r h => ⟨fun c => (h c).2.2.2.2, sem_eq_zero_of_no_sems rfl r.2⟩) (Cert.RsOutRefIdeal.Value.run (F := Ideal) m ρ)

/-- The same of the inputs that the precondition admits. -/
theorem refFramePre : Cert.quiescent_RsOutRefIdeal_pre_rs_out_slot := fun m ρ _ => refFrame m ρ trivial

end Cert.RsOutIdeal.Hand

end
-- ==== Proof.RsIn.lean ====
/- The optimiser step of one large weight: the gradient's parts are added up and the weight's update is taken. -/
module

public import proofs.«01_k».proof.Defs
public import proofs.«01_k».proof.Proof.Gen.RsIn.Frame
public import proofs.«01_k».proof.Proof.Gen.RsInIdeal.Frame
public import proofs.«01_k».proof.Proof.Gen.Pre_rs_inp_slot
public import proofs.«01_k».proof.Proof.Gen.RsInRefIdeal.Run
public import proofs.«01_k».proof.Proof.Gen.RsInRefIdeal.Read
public import Idealize.ShloMosaic.Lib.Pipeline.ValueKit
public import Idealize.ShloMosaic.Lib.Pointwise

@[expose] public section

set_option maxRecDepth 16384

noncomputable section

namespace Cert.RsIn.Hand

open Cert.RsIn Cert.RsIn.Gen Idealize.ShloMosaic Idealize.ShloMosaic.TcCoe Idealize.SL.Sem

/-- The precondition puts the table's first word among the eight slots. -/
theorem slot_lt (m : (ℓ : Loc nD τ sig) → Buf (Elt Bits) ℓ) (h : Cert.Pre_RsIn m) (k : S4.Idx) (hk : (k 0).val = 0) :
    (m (((0 : Dev nD) : Thread nD τ).loc main_arg0) k).toNat < 8 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have h0 := congrFun (h 0) (fun a => ⟨0, by obtain rfl : a = 0 := Subsingleton.elim _ _; exact Nat.zero_lt_one⟩)
  simp only [Cert.Pre_rs_inp_slot.fn, constantI, broadcastInDim, cmpi, andi, andi_one, extractStridedSlice, ofBool_eq_one, IntOp.cmpi,
    BitVec.sle, BitVec.slt, decide_eq_true_eq] at h0
  obtain ⟨h1, h2⟩ := h0
  have at_k (P : BitVec 32 → Prop) (I : S4.Idx) (hP : P (m (((0 : Dev nD) : Thread nD τ).loc main_arg0) I)) (hI : (I 0).val = 0) :
      P (m (((0 : Dev nD) : Thread nD τ).loc main_arg0) k) := by
    have e : I = k := by
      funext a
      obtain rfl : a = 0 := Subsingleton.elim _ _
      exact Fin.ext (hI.trans hk.symm)
    exact e ▸ hP
  have h1' := at_k (fun w => (0#32).toInt ≤ w.toInt) _ (of_decide_eq_true h1) rfl
  have h2' := at_k (fun w => w.toInt < (8#32).toInt) _ (of_decide_eq_true h2) rfl
  generalize m (((0 : Dev nD) : Thread nD τ).loc main_arg0) k = w at h1' h2'
  simp only [BitVec.toInt, BitVec.toNat_ofNat] at h1' h2'
  have := w.isLt
  split at h1' <;> split at h2' <;> omega

/-- So the block the first window names is inside the array, at every grid point. -/
theorem ok_of_pre (m : (ℓ : Loc nD τ sig) → Buf (Elt Bits) ℓ) (h : Cert.Pre_RsIn m) : Ok m := by
  intro i
  refine ⟨fun a => ?_, Or.inl rfl⟩
  fin_cases a
  · show ((m (((0 : Dev nD) : Thread nD τ).loc main_arg0) ?k).toNat + 1) * 1 ≤ 8
    have hs := slot_lt m h ?k rfl
    omega
  · have hi : (i 0).val < 2 := (i 0).isLt
    show ((BitVec.ofNat 32 (i 0).val).toNat + 1) * 1024 ≤ 2048
    rw [BitVec.toNat_ofNat, Nat.mod_eq_of_lt (by omega)]
    omega
  · exact Nat.le_refl _

end Cert.RsIn.Hand

namespace Cert.RsInIdeal.Hand

open Cert.RsInIdeal Cert.RsInIdeal.Gen Idealize.ShloMosaic Idealize.ShloMosaic.TcCoe Idealize.SL.Sem

/-- The precondition puts the table's first word among the eight slots. -/
theorem slot_lt (m : (ℓ : Loc nD τ sig) → Buf (Elt Ideal) ℓ) (h : Cert.Pre_RsInIdeal m) (k : S4.Idx) (hk : (k 0).val = 0) :
    (m (((0 : Dev nD) : Thread nD τ).loc main_arg0) k).toNat < 8 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have h0 := congrFun (h 0) (fun a => ⟨0, by obtain rfl : a = 0 := Subsingleton.elim _ _; exact Nat.zero_lt_one⟩)
  simp only [Cert.Pre_rs_inp_slot.fn, constantI, broadcastInDim, cmpi, andi, andi_one, extractStridedSlice, ofBool_eq_one, IntOp.cmpi,
    BitVec.sle, BitVec.slt, decide_eq_true_eq] at h0
  obtain ⟨h1, h2⟩ := h0
  have at_k (P : BitVec 32 → Prop) (I : S4.Idx) (hP : P (m (((0 : Dev nD) : Thread nD τ).loc main_arg0) I)) (hI : (I 0).val = 0) :
      P (m (((0 : Dev nD) : Thread nD τ).loc main_arg0) k) := by
    have e : I = k := by
      funext a
      obtain rfl : a = 0 := Subsingleton.elim _ _
      exact Fin.ext (hI.trans hk.symm)
    exact e ▸ hP
  have h1' := at_k (fun w => (0#32).toInt ≤ w.toInt) _ (of_decide_eq_true h1) rfl
  have h2' := at_k (fun w => w.toInt < (8#32).toInt) _ (of_decide_eq_true h2) rfl
  generalize m (((0 : Dev nD) : Thread nD τ).loc main_arg0) k = w at h1' h2'
  simp only [BitVec.toInt, BitVec.toNat_ofNat] at h1' h2'
  have := w.isLt
  split at h1' <;> split at h2' <;> omega

/-- So the block the first window names is inside the array, at every grid point. -/
theorem ok_of_pre (m : (ℓ : Loc nD τ sig) → Buf (Elt Ideal) ℓ) (h : Cert.Pre_RsInIdeal m) : Ok m := by
  intro i
  refine ⟨fun a => ?_, Or.inl rfl⟩
  fin_cases a
  · show ((m (((0 : Dev nD) : Thread nD τ).loc main_arg0) ?k).toNat + 1) * 1 ≤ 8
    have hs := slot_lt m h ?k rfl
    omega
  · have hi : (i 0).val < 2 := (i 0).isLt
    show ((BitVec.ofNat 32 (i 0).val).toNat + 1) * 1024 ≤ 2048
    rw [BitVec.toNat_ofNat, Nat.mod_eq_of_lt (by omega)]
    omega
  · exact Nat.le_refl _

end Cert.RsInIdeal.Hand

namespace Cert.RsInIdeal.Hand

open Cert.RsInIdeal Cert.RsInIdeal.Gen Idealize.ShloMosaic Idealize.ShloMosaic.TcCoe Idealize.SL.Sem
open Idealize.ShloMosaic.Pipeline (Dat)

variable (m : (ℓ : Loc nD τ sig) → Buf (Elt Ideal) ℓ) (hO : Ok m)

/-- The row of the whole array that a row of a grid point's block is. -/
def row (t : Fin (cfgM m hO).N) (y : Fin 1024) : Fin 2048 :=
  ⟨t.val * 1024 + y.val, by have h1 : t.val < 2 := t.isLt; have h2 := y.isLt; omega⟩

/-- The slot the table's first word names. -/
def slot (h : Cert.Pre_RsInIdeal m) : Fin 8 :=
  ⟨(m (((0 : Dev nD) : Thread nD τ).loc main_arg0) (ix1 0 : S4.Idx)).toNat, slot_lt m h _ rfl⟩

theorem at1 : ∀ t : Fin grid0.N, cc0_transform_1 (grid0.coords t) = ![0, t.val, 0] := by decide +kernel

theorem at2 : ∀ t : Fin grid0.N, cc0_transform_2 (grid0.coords t) = ![1, t.val, 0] := by decide +kernel

theorem at3 : ∀ t : Fin grid0.N, cc0_transform_3 (grid0.coords t) = ![2, t.val, 0] := by decide +kernel

theorem at4 : ∀ t : Fin grid0.N, cc0_transform_4 (grid0.coords t) = ![3, t.val, 0] := by decide +kernel

theorem at5 : ∀ t : Fin grid0.N, cc0_transform_5 (grid0.coords t) = ![t.val, 0] := by decide +kernel

theorem at6 : ∀ t : Fin grid0.N, cc0_transform_6 (grid0.coords t) = ![t.val, 0] := by decide +kernel

theorem at7 : ∀ t : Fin grid0.N, cc0_transform_7 (grid0.coords t) = ![t.val, 0] := by decide +kernel

theorem at8 : ∀ t : Fin grid0.N, cc0_transform_8 (grid0.coords t) = ![t.val, 0] := by decide +kernel

theorem at9 : ∀ t : Fin grid0.N, cc0_transform_9 (grid0.coords t) = ![t.val, 0] := by decide +kernel

theorem at10 : ∀ t : Fin grid0.N, cc0_transform_10 (grid0.coords t) = ![t.val, 0] := by decide +kernel

theorem at11 : ∀ t : Fin grid0.N, cc0_transform_11 (grid0.coords t) = ![t.val, 0] := by decide +kernel

/-- The first input's block lies in the slot that the table names. -/
theorem emb0 (h : Cert.Pre_RsInIdeal m) (t : Fin (cfgM m hO).N) (y0 : Fin 1024) (y1 : Fin 512) :
    (((cfgM m hO).win 0).blk t).view.emb (ix3 0 y0 y1 : S1x1024x512.Idx) = (ix3 (slot m h) (row m hO t y0) y1 : S8x2048x512.Idx) := by
  refine funext fun a => Fin.ext ?_
  refine (ValueKit.rect_emb_unit_val _ _ _ _ _ : _ = cc0_transform_0 inb_S4_S1_0 numel1_S1 (tbl m) (grid0.coords t) a * S1x1024x512.size a + _).trans ?_
  have e := congrFun (at1 t) 1
  fin_cases a
  · show (m (((0 : Dev nD) : Thread nD τ).loc main_arg0) _).toNat * 1 + 0 = (m (((0 : Dev nD) : Thread nD τ).loc main_arg0) _).toNat
    rw [Nat.mul_one, Nat.add_zero]
    congr 2
    refine funext fun (a : Fin 1) => ?_
    obtain rfl : a = 0 := Subsingleton.elim _ _
    rfl
  · exact congrArg (· * 1024 + y0.val) e
  · show 0 * 512 + y1.val = y1.val
    omega

theorem emb1 (t : Fin (cfgM m hO).N) (y0 : Fin 1024) (y1 : Fin 512) :
    (((cfgM m hO).win 1).blk t).view.emb (ix3 0 y0 y1 : S1x1024x512.Idx) = (ix3 0 (row m hO t y0) y1 : S4x2048x512.Idx) := by
  refine funext fun a => Fin.ext ?_
  refine (ValueKit.rect_emb_unit_val _ _ _ _ _ : _ = cc0_transform_1 (grid0.coords t) a * S1x1024x512.size a + _).trans ?_
  rw [at1]
  fin_cases a
  · rfl
  · rfl
  · show 0 * 512 + y1.val = y1.val
    omega

theorem emb2 (t : Fin (cfgM m hO).N) (y0 : Fin 1024) (y1 : Fin 512) :
    (((cfgM m hO).win 2).blk t).view.emb (ix3 0 y0 y1 : S1x1024x512.Idx) = (ix3 1 (row m hO t y0) y1 : S4x2048x512.Idx) := by
  refine funext fun a => Fin.ext ?_
  refine (ValueKit.rect_emb_unit_val _ _ _ _ _ : _ = cc0_transform_2 (grid0.coords t) a * S1x1024x512.size a + _).trans ?_
  rw [at2]
  fin_cases a
  · rfl
  · rfl
  · show 0 * 512 + y1.val = y1.val
    omega

theorem emb3 (t : Fin (cfgM m hO).N) (y0 : Fin 1024) (y1 : Fin 512) :
    (((cfgM m hO).win 3).blk t).view.emb (ix3 0 y0 y1 : S1x1024x512.Idx) = (ix3 2 (row m hO t y0) y1 : S4x2048x512.Idx) := by
  refine funext fun a => Fin.ext ?_
  refine (ValueKit.rect_emb_unit_val _ _ _ _ _ : _ = cc0_transform_3 (grid0.coords t) a * S1x1024x512.size a + _).trans ?_
  rw [at3]
  fin_cases a
  · rfl
  · rfl
  · show 0 * 512 + y1.val = y1.val
    omega

theorem emb4 (t : Fin (cfgM m hO).N) (y0 : Fin 1024) (y1 : Fin 512) :
    (((cfgM m hO).win 4).blk t).view.emb (ix3 0 y0 y1 : S1x1024x512.Idx) = (ix3 3 (row m hO t y0) y1 : S4x2048x512.Idx) := by
  refine funext fun a => Fin.ext ?_
  refine (ValueKit.rect_emb_unit_val _ _ _ _ _ : _ = cc0_transform_4 (grid0.coords t) a * S1x1024x512.size a + _).trans ?_
  rw [at4]
  fin_cases a
  · rfl
  · rfl
  · show 0 * 512 + y1.val = y1.val
    omega

theorem emb5 (t : Fin (cfgM m hO).N) (y0 : Fin 1024) (y1 : Fin 512) :
    (((cfgM m hO).win 5).blk t).view.emb (ix2 y0 y1 : S1024x512.Idx) = (ix2 (row m hO t y0) y1 : S2048x512.Idx) := by
  refine funext fun a => Fin.ext ?_
  refine (ValueKit.rect_emb_unit_val _ _ _ _ _ : _ = cc0_transform_5 (grid0.coords t) a * S1024x512.size a + _).trans ?_
  rw [at5]
  fin_cases a
  · rfl
  · show 0 * 512 + y1.val = y1.val
    omega

theorem emb6 (t : Fin (cfgM m hO).N) (y0 : Fin 1024) (y1 : Fin 512) :
    (((cfgM m hO).win 6).blk t).view.emb (ix2 y0 y1 : S1024x512.Idx) = (ix2 (row m hO t y0) y1 : S2048x512.Idx) := by
  refine funext fun a => Fin.ext ?_
  refine (ValueKit.rect_emb_unit_val _ _ _ _ _ : _ = cc0_transform_6 (grid0.coords t) a * S1024x512.size a + _).trans ?_
  rw [at6]
  fin_cases a
  · rfl
  · show 0 * 512 + y1.val = y1.val
    omega

theorem emb7 (t : Fin (cfgM m hO).N) (y0 : Fin 1024) (y1 : Fin 512) :
    (((cfgM m hO).win 7).blk t).view.emb (ix2 y0 y1 : S1024x512.Idx) = (ix2 (row m hO t y0) y1 : S2048x512.Idx) := by
  refine funext fun a => Fin.ext ?_
  refine (ValueKit.rect_emb_unit_val _ _ _ _ _ : _ = cc0_transform_7 (grid0.coords t) a * S1024x512.size a + _).trans ?_
  rw [at7]
  fin_cases a
  · rfl
  · show 0 * 512 + y1.val = y1.val
    omega

theorem emb8 (t : Fin (cfgM m hO).N) (y0 : Fin 1024) (y1 : Fin 512) :
    (((cfgM m hO).win 8).blk t).view.emb (ix2 y0 y1 : S1024x512.Idx) = (ix2 (row m hO t y0) y1 : S2048x512.Idx) := by
  refine funext fun a => Fin.ext ?_
  refine (ValueKit.rect_emb_unit_val _ _ _ _ _ : _ = cc0_transform_8 (grid0.coords t) a * S1024x512.size a + _).trans ?_
  rw [at8]
  fin_cases a
  · rfl
  · show 0 * 512 + y1.val = y1.val
    omega

theorem emb9 (t : Fin (cfgM m hO).N) (y0 : Fin 1024) (y1 : Fin 512) :
    (((cfgM m hO).win 9).blk t).view.emb (ix2 y0 y1 : S1024x512.Idx) = (ix2 (row m hO t y0) y1 : S2048x512.Idx) := by
  refine funext fun a => Fin.ext ?_
  refine (ValueKit.rect_emb_unit_val _ _ _ _ _ : _ = cc0_transform_9 (grid0.coords t) a * S1024x512.size a + _).trans ?_
  rw [at9]
  fin_cases a
  · rfl
  · show 0 * 512 + y1.val = y1.val
    omega

theorem emb10 (t : Fin (cfgM m hO).N) (y0 : Fin 1024) (y1 : Fin 512) :
    (((cfgM m hO).win 10).blk t).view.emb (ix2 y0 y1 : S1024x512.Idx) = (ix2 (row m hO t y0) y1 : S2048x512.Idx) := by
  refine funext fun a => Fin.ext ?_
  refine (ValueKit.rect_emb_unit_val _ _ _ _ _ : _ = cc0_transform_10 (grid0.coords t) a * S1024x512.size a + _).trans ?_
  rw [at10]
  fin_cases a
  · rfl
  · show 0 * 512 + y1.val = y1.val
    omega

theorem emb11 (t : Fin (cfgM m hO).N) (y0 : Fin 1024) (y1 : Fin 512) :
    (((cfgM m hO).win 11).blk t).view.emb (ix2 y0 y1 : S1024x512.Idx) = (ix2 (row m hO t y0) y1 : S2048x512.Idx) := by
  refine funext fun a => Fin.ext ?_
  refine (ValueKit.rect_emb_unit_val _ _ _ _ _ : _ = cc0_transform_11 (grid0.coords t) a * S1024x512.size a + _).trans ?_
  rw [at11]
  fin_cases a
  · rfl
  · show 0 * 512 + y1.val = y1.val
    omega

theorem in0 (h : Cert.Pre_RsInIdeal m) (c : Dev nD) (t : Fin (cfgM m hO).N) (y0 : Fin 1024) (y1 : Fin 512) :
    iblk m hO c 0 t (ix3 0 y0 y1 : S1x1024x512.Idx) = m ((c : Thread nD τ).loc main_arg1) (ix3 (slot m h) (row m hO t y0) y1) :=
  congrArg (m ((c : Thread nD τ).loc main_arg1)) (emb0 m hO h t y0 y1)

theorem in1 (c : Dev nD) (t : Fin (cfgM m hO).N) (y0 : Fin 1024) (y1 : Fin 512) :
    iblk m hO c 1 t (ix3 0 y0 y1 : S1x1024x512.Idx) = m ((c : Thread nD τ).loc main_arg2) (ix3 0 (row m hO t y0) y1) :=
  congrArg (m ((c : Thread nD τ).loc main_arg2)) (emb1 m hO t y0 y1)

theorem in2 (c : Dev nD) (t : Fin (cfgM m hO).N) (y0 : Fin 1024) (y1 : Fin 512) :
    iblk m hO c 2 t (ix3 0 y0 y1 : S1x1024x512.Idx) = m ((c : Thread nD τ).loc main_arg3) (ix3 1 (row m hO t y0) y1) :=
  congrArg (m ((c : Thread nD τ).loc main_arg3)) (emb2 m hO t y0 y1)

theorem in3 (c : Dev nD) (t : Fin (cfgM m hO).N) (y0 : Fin 1024) (y1 : Fin 512) :
    iblk m hO c 3 t (ix3 0 y0 y1 : S1x1024x512.Idx) = m ((c : Thread nD τ).loc main_arg3) (ix3 2 (row m hO t y0) y1) :=
  congrArg (m ((c : Thread nD τ).loc main_arg3)) (emb3 m hO t y0 y1)

theorem in4 (c : Dev nD) (t : Fin (cfgM m hO).N) (y0 : Fin 1024) (y1 : Fin 512) :
    iblk m hO c 4 t (ix3 0 y0 y1 : S1x1024x512.Idx) = m ((c : Thread nD τ).loc main_arg3) (ix3 3 (row m hO t y0) y1) :=
  congrArg (m ((c : Thread nD τ).loc main_arg3)) (emb4 m hO t y0 y1)

theorem in5 (c : Dev nD) (t : Fin (cfgM m hO).N) (y0 : Fin 1024) (y1 : Fin 512) :
    iblk m hO c 5 t (ix2 y0 y1 : S1024x512.Idx) = m ((c : Thread nD τ).loc main_arg4) (ix2 (row m hO t y0) y1) :=
  congrArg (m ((c : Thread nD τ).loc main_arg4)) (emb5 m hO t y0 y1)

theorem in6 (c : Dev nD) (t : Fin (cfgM m hO).N) (y0 : Fin 1024) (y1 : Fin 512) :
    iblk m hO c 6 t (ix2 y0 y1 : S1024x512.Idx) = m ((c : Thread nD τ).loc main_arg5) (ix2 (row m hO t y0) y1) :=
  congrArg (m ((c : Thread nD τ).loc main_arg5)) (emb6 m hO t y0 y1)

theorem in7 (c : Dev nD) (t : Fin (cfgM m hO).N) (y0 : Fin 1024) (y1 : Fin 512) :
    iblk m hO c 7 t (ix2 y0 y1 : S1024x512.Idx) = m ((c : Thread nD τ).loc main_arg6) (ix2 (row m hO t y0) y1) :=
  congrArg (m ((c : Thread nD τ).loc main_arg6)) (emb7 m hO t y0 y1)

theorem cov8 : ((cfgM m hO).win 8).Covers := by
  refine ⟨(by decide : ∀ a : Fin 2, 0 < S1024x512.size a), fun (β : (a : Fin 2) → Fin (((cfgM m hO).win 8).nblk a)) => ⟨⟨(β 0).val, lt_of_lt_of_eq (β 0).isLt (by show (2048 + 1024 - 1) / 1024 = 2; norm_num)⟩, flush0_8 _ _, fun a => ⟨?_, Or.inl rfl⟩⟩⟩
  refine (congrFun (at8 _) a).trans ?_
  have h1 : (β 1).val < 1 := lt_of_lt_of_eq (β 1).isLt (by show (512 + 512 - 1) / 512 = 1; norm_num)
  fin_cases a
  · rfl
  · show 0 = (β 1).val
    omega

theorem cov9 : ((cfgM m hO).win 9).Covers := by
  refine ⟨(by decide : ∀ a : Fin 2, 0 < S1024x512.size a), fun (β : (a : Fin 2) → Fin (((cfgM m hO).win 9).nblk a)) => ⟨⟨(β 0).val, lt_of_lt_of_eq (β 0).isLt (by show (2048 + 1024 - 1) / 1024 = 2; norm_num)⟩, flush0_9 _ _, fun a => ⟨?_, Or.inl rfl⟩⟩⟩
  refine (congrFun (at9 _) a).trans ?_
  have h1 : (β 1).val < 1 := lt_of_lt_of_eq (β 1).isLt (by show (512 + 512 - 1) / 512 = 1; norm_num)
  fin_cases a
  · rfl
  · show 0 = (β 1).val
    omega

theorem cov10 : ((cfgM m hO).win 10).Covers := by
  refine ⟨(by decide : ∀ a : Fin 2, 0 < S1024x512.size a), fun (β : (a : Fin 2) → Fin (((cfgM m hO).win 10).nblk a)) => ⟨⟨(β 0).val, lt_of_lt_of_eq (β 0).isLt (by show (2048 + 1024 - 1) / 1024 = 2; norm_num)⟩, flush0_10 _ _, fun a => ⟨?_, Or.inl rfl⟩⟩⟩
  refine (congrFun (at10 _) a).trans ?_
  have h1 : (β 1).val < 1 := lt_of_lt_of_eq (β 1).isLt (by show (512 + 512 - 1) / 512 = 1; norm_num)
  fin_cases a
  · rfl
  · show 0 = (β 1).val
    omega

theorem cov11 : ((cfgM m hO).win 11).Covers := by
  refine ⟨(by decide : ∀ a : Fin 2, 0 < S1024x512.size a), fun (β : (a : Fin 2) → Fin (((cfgM m hO).win 11).nblk a)) => ⟨⟨(β 0).val, lt_of_lt_of_eq (β 0).isLt (by show (2048 + 1024 - 1) / 1024 = 2; norm_num)⟩, flush0_11 _ _, fun a => ⟨?_, Or.inl rfl⟩⟩⟩
  refine (congrFun (at11 _) a).trans ?_
  have h1 : (β 1).val < 1 := lt_of_lt_of_eq (β 1).isLt (by show (512 + 512 - 1) / 512 = 1; norm_num)
  fin_cases a
  · rfl
  · show 0 = (β 1).val
    omega

/-- A choice made by comparing a slot's number with a word. -/
theorem sel (w : BitVec 32) (x : Fin 8) (a b : EReal) :
    Scalar.select (IntOp.cmpi CmpIPredicate.eq (BitVec.ofNat 32 x.val) w) a b = if x.val = w.toNat then a else b := by
  have hx : x.val % 2 ^ 32 = x.val := Nat.mod_eq_of_lt (by have := x.isLt; omega)
  by_cases e : x.val = w.toNat
  · have e' : BitVec.ofNat 32 x.val = w := BitVec.eq_of_toNat_eq (by rw [BitVec.toNat_ofNat, hx, e])
    simp [IntOp.cmpi, Scalar.select, e', e]
  · have e' : BitVec.ofNat 32 x.val ≠ w := fun h => e (by rw [← h, BitVec.toNat_ofNat, hx])
    have f : (BitVec.ofNat 32 x.val == w) = false := beq_eq_false_iff_ne.mpr e'
    simp [IntOp.cmpi, Scalar.select, f, e]

/-- The reference's sum over the eight slots, all but the named one masked, is the named one. -/
theorem own (h : Cert.Pre_RsInIdeal m) (i : Fin 2048) (j : Fin 512) :
    Cert.RsInRefIdeal.Read.val_main_v7 (F := Ideal) (m (((0 : Dev nD) : Thread nD τ).loc main_arg0)) (m (((0 : Dev nD) : Thread nD τ).loc main_arg1)) (ix2 i j)
      = m (((0 : Dev nD) : Thread nD τ).loc main_arg1) (ix3 (slot m h) i j) := by
  unfold Cert.RsInRefIdeal.Read.val_main_v7 Cert.RsInRefIdeal.Read.val_main_v6 Cert.RsInRefIdeal.Read.val_main_call0_v2 Cert.RsInRefIdeal.Read.val_main_call0_v1 Cert.RsInRefIdeal.Read.val_main_call0_v0 Cert.RsInRefIdeal.Read.val_main_cst Cert.RsInRefIdeal.Read.val_main_cst_0 Cert.RsInRefIdeal.Read.val_main_v5 Cert.RsInRefIdeal.Read.val_main_v4 Cert.RsInRefIdeal.Read.val_main_v3 Cert.RsInRefIdeal.Read.val_main_v2 Cert.RsInRefIdeal.Read.val_main_v1 Cert.RsInRefIdeal.Read.val_main_v0
  pointwise
  have z : id (constant (F := Ideal) Cert.RsInRefIdeal.S_ FTy.f32 0#32) Idealize.ShloMosaic.ix0 = (0 : EReal) := by
    show constant (F := Ideal) Cert.RsInRefIdeal.S_ FTy.f32 0#32 Idealize.ShloMosaic.ix0 = _
    pointwise
  rw [z]
  refine (Finset.sum_eq_single (slot m h) (fun x _ hx => ?_) (fun hx => absurd (Finset.mem_univ _) hx)).trans ?_
  · exact (sel _ _ _ _).trans (if_neg fun e => hx (Fin.ext e))
  · exact (sel _ _ _ _).trans (if_pos rfl)

/-- The sum of a block's parts is the reference's gradient at the block's place. -/
theorem grad (h : Cert.Pre_RsInIdeal m) (c : Dev nD) (t : Fin (cfgM m hO).N) (y0 : Fin 1024) (y1 : Fin 512) :
    k0_pay2 (iblk m hO c 0 t) (iblk m hO c 1 t) (iblk m hO c 2 t) (iblk m hO c 3 t) (iblk m hO c 4 t) (ix2 y0 y1)
      = Cert.RsInRefIdeal.Read.val_main_v22 (F := Ideal) (m ((c : Thread nD τ).loc main_arg0)) (m ((c : Thread nD τ).loc main_arg1)) (m ((c : Thread nD τ).loc main_arg2)) (m ((c : Thread nD τ).loc main_arg3)) (ix2 (row m hO t y0) y1) := by
  obtain rfl : c = 0 := Subsingleton.elim _ _
  unfold Cert.RsInRefIdeal.Read.val_main_v22 Cert.RsInRefIdeal.Read.val_main_v21 Cert.RsInRefIdeal.Read.val_main_v20 Cert.RsInRefIdeal.Read.val_main_v19 Cert.RsInRefIdeal.Read.val_main_v18 Cert.RsInRefIdeal.Read.val_main_v17 Cert.RsInRefIdeal.Read.val_main_v16 Cert.RsInRefIdeal.Read.val_main_v15 Cert.RsInRefIdeal.Read.val_main_v14 Cert.RsInRefIdeal.Read.val_main_v13 Cert.RsInRefIdeal.Read.val_main_v12 Cert.RsInRefIdeal.Read.val_main_v11 Cert.RsInRefIdeal.Read.val_main_v10 Cert.RsInRefIdeal.Read.val_main_v9 Cert.RsInRefIdeal.Read.val_main_v8
  pointwise [k0_pay2, own m h, in0 m hO h, in1 m hO, in2 m hO, in3 m hO, in4 m hO]

/-- The mean's new block is the reference's at the block's place. -/
theorem mean (h : Cert.Pre_RsInIdeal m) (c : Dev nD) (t : Fin (cfgM m hO).N) (y0 : Fin 1024) (y1 : Fin 512) :
    k0_pay3 (iblk m hO c 0 t) (iblk m hO c 1 t) (iblk m hO c 2 t) (iblk m hO c 3 t) (iblk m hO c 4 t) (iblk m hO c 6 t) (ix2 y0 y1)
      = Cert.RsInRefIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix2 (row m hO t y0) y1) := by
  have hg := grad m hO h c t y0 y1
  unfold Cert.RsInRefIdeal.Read.val_main_v27 Cert.RsInRefIdeal.Read.val_main_v26 Cert.RsInRefIdeal.Read.val_main_v25 Cert.RsInRefIdeal.Read.val_main_cst_2 Cert.RsInRefIdeal.Read.val_main_v24 Cert.RsInRefIdeal.Read.val_main_v23 Cert.RsInRefIdeal.Read.val_main_cst_1
  pointwise [k0_pay3, hg, in6 m hO]

/-- The second moment's new block is the reference's at the block's place. -/
theorem moment (h : Cert.Pre_RsInIdeal m) (c : Dev nD) (t : Fin (cfgM m hO).N) (y0 : Fin 1024) (y1 : Fin 512) :
    k0_pay4 (iblk m hO c 0 t) (iblk m hO c 1 t) (iblk m hO c 2 t) (iblk m hO c 3 t) (iblk m hO c 4 t) (iblk m hO c 7 t) (ix2 y0 y1)
      = Cert.RsInRefIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (ix2 (row m hO t y0) y1) := by
  have hg := grad m hO h c t y0 y1
  unfold Cert.RsInRefIdeal.Read.val_main_v33 Cert.RsInRefIdeal.Read.val_main_v32 Cert.RsInRefIdeal.Read.val_main_v31 Cert.RsInRefIdeal.Read.val_main_cst_4 Cert.RsInRefIdeal.Read.val_main_v30 Cert.RsInRefIdeal.Read.val_main_v29 Cert.RsInRefIdeal.Read.val_main_v28 Cert.RsInRefIdeal.Read.val_main_cst_3
  pointwise [k0_pay4, hg, in7 m hO]

/-- The weight's update in a block is the reference's at the block's place. -/
theorem update (h : Cert.Pre_RsInIdeal m) (c : Dev nD) (t : Fin (cfgM m hO).N) (y0 : Fin 1024) (y1 : Fin 512) :
    k0_pay1 (iblk m hO c 5 t) (k0_pay4 (iblk m hO c 0 t) (iblk m hO c 1 t) (iblk m hO c 2 t) (iblk m hO c 3 t) (iblk m hO c 4 t) (iblk m hO c 7 t))
        (k0_pay5 (iblk m hO c 0 t) (iblk m hO c 1 t) (iblk m hO c 2 t) (iblk m hO c 3 t) (iblk m hO c 4 t) (iblk m hO c 6 t)) (ix2 y0 y1)
      = Cert.RsInRefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row m hO t y0) y1) := by
  have hm := mean m hO h c t y0 y1
  have hv := moment m hO h c t y0 y1
  unfold Cert.RsInRefIdeal.Read.val_main_v46 Cert.RsInRefIdeal.Read.val_main_v45 Cert.RsInRefIdeal.Read.val_main_cst_9 Cert.RsInRefIdeal.Read.val_main_v44 Cert.RsInRefIdeal.Read.val_main_v43 Cert.RsInRefIdeal.Read.val_main_v42 Cert.RsInRefIdeal.Read.val_main_cst_8 Cert.RsInRefIdeal.Read.val_main_v41 Cert.RsInRefIdeal.Read.val_main_v40 Cert.RsInRefIdeal.Read.val_main_v39 Cert.RsInRefIdeal.Read.val_main_cst_7 Cert.RsInRefIdeal.Read.val_main_v38 Cert.RsInRefIdeal.Read.val_main_v37 Cert.RsInRefIdeal.Read.val_main_v36 Cert.RsInRefIdeal.Read.val_main_cst_6 Cert.RsInRefIdeal.Read.val_main_v35 Cert.RsInRefIdeal.Read.val_main_v34 Cert.RsInRefIdeal.Read.val_main_cst_5
  pointwise [k0_pay1, k0_pay5, hm, hv, in5 m hO]

/-- What a grid point leaves in output window 8, from the blocks it reads. -/
theorem out8 (c : Dev nD) (t : Fin (cfgM m hO).N) (v0 : Vec Ideal S1x1024x512 .f32) (v1 : Vec Ideal S1x1024x512 .f32) (v2 : Vec Ideal S1x1024x512 .bf16) (v3 : Vec Ideal S1x1024x512 .bf16) (v4 : Vec Ideal S1x1024x512 .bf16) (v5 : Vec Ideal S1024x512 .f32) (v6 : Vec Ideal S1024x512 .f32) (v7 : Vec Ideal S1024x512 .f32) (y : S1024x512.Idx) :
    out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) v0 v1 v2 v3 v4 v5 v6 v7 (tbl m 0) y = k0_pay2 v0 v1 v2 v3 v4 y := by
  frame_out

/-- What a grid point leaves in output window 9, from the blocks it reads. -/
theorem out9 (c : Dev nD) (t : Fin (cfgM m hO).N) (v0 : Vec Ideal S1x1024x512 .f32) (v1 : Vec Ideal S1x1024x512 .f32) (v2 : Vec Ideal S1x1024x512 .bf16) (v3 : Vec Ideal S1x1024x512 .bf16) (v4 : Vec Ideal S1x1024x512 .bf16) (v5 : Vec Ideal S1024x512 .f32) (v6 : Vec Ideal S1024x512 .f32) (v7 : Vec Ideal S1024x512 .f32) (y : S1024x512.Idx) :
    out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) v0 v1 v2 v3 v4 v5 v6 v7 (tbl m 0) y = k0_pay1 v5 (k0_pay4 v0 v1 v2 v3 v4 v7) (k0_pay5 v0 v1 v2 v3 v4 v6) y := by
  frame_out

/-- What a grid point leaves in output window 10, from the blocks it reads. -/
theorem out10 (c : Dev nD) (t : Fin (cfgM m hO).N) (v0 : Vec Ideal S1x1024x512 .f32) (v1 : Vec Ideal S1x1024x512 .f32) (v2 : Vec Ideal S1x1024x512 .bf16) (v3 : Vec Ideal S1x1024x512 .bf16) (v4 : Vec Ideal S1x1024x512 .bf16) (v5 : Vec Ideal S1024x512 .f32) (v6 : Vec Ideal S1024x512 .f32) (v7 : Vec Ideal S1024x512 .f32) (y : S1024x512.Idx) :
    out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) v0 v1 v2 v3 v4 v5 v6 v7 (tbl m 0) y = k0_pay3 v0 v1 v2 v3 v4 v6 y := by
  frame_out

/-- What a grid point leaves in output window 11, from the blocks it reads. -/
theorem out11 (c : Dev nD) (t : Fin (cfgM m hO).N) (v0 : Vec Ideal S1x1024x512 .f32) (v1 : Vec Ideal S1x1024x512 .f32) (v2 : Vec Ideal S1x1024x512 .bf16) (v3 : Vec Ideal S1x1024x512 .bf16) (v4 : Vec Ideal S1x1024x512 .bf16) (v5 : Vec Ideal S1024x512 .f32) (v6 : Vec Ideal S1024x512 .f32) (v7 : Vec Ideal S1024x512 .f32) (y : S1024x512.Idx) :
    out0_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) v0 v1 v2 v3 v4 v5 v6 v7 (tbl m 0) y = k0_pay4 v0 v1 v2 v3 v4 v7 y := by
  frame_out

theorem left8 (c : Dev nD) (t : Fin (cfgM m hO).N) : (outsAt0 m hO c t).1 = k0_pay2 (iblk m hO c 0 t) (iblk m hO c 1 t) (iblk m hO c 2 t) (iblk m hO c 3 t) (iblk m hO c 4 t) := by
  have e := fun y => out8 m hO c t (iblk m hO c 0 t) (iblk m hO c 1 t) (iblk m hO c 2 t) (iblk m hO c 3 t) (iblk m hO c 4 t) (iblk m hO c 5 t) (iblk m hO c 6 t) (iblk m hO c 7 t) y
  unfold outsAt0
  dsimp only
  generalize iblk m hO c 0 t = B0 at *
  generalize iblk m hO c 1 t = B1 at *
  generalize iblk m hO c 2 t = B2 at *
  generalize iblk m hO c 3 t = B3 at *
  generalize iblk m hO c 4 t = B4 at *
  generalize iblk m hO c 5 t = B5 at *
  generalize iblk m hO c 6 t = B6 at *
  generalize iblk m hO c 7 t = B7 at *
  exact funext e

theorem left9 (c : Dev nD) (t : Fin (cfgM m hO).N) : (outsAt0 m hO c t).2.1 = k0_pay1 (iblk m hO c 5 t) (k0_pay4 (iblk m hO c 0 t) (iblk m hO c 1 t) (iblk m hO c 2 t) (iblk m hO c 3 t) (iblk m hO c 4 t) (iblk m hO c 7 t)) (k0_pay5 (iblk m hO c 0 t) (iblk m hO c 1 t) (iblk m hO c 2 t) (iblk m hO c 3 t) (iblk m hO c 4 t) (iblk m hO c 6 t)) := by
  have e := fun y => out9 m hO c t (iblk m hO c 0 t) (iblk m hO c 1 t) (iblk m hO c 2 t) (iblk m hO c 3 t) (iblk m hO c 4 t) (iblk m hO c 5 t) (iblk m hO c 6 t) (iblk m hO c 7 t) y
  unfold outsAt0
  dsimp only
  generalize iblk m hO c 0 t = B0 at *
  generalize iblk m hO c 1 t = B1 at *
  generalize iblk m hO c 2 t = B2 at *
  generalize iblk m hO c 3 t = B3 at *
  generalize iblk m hO c 4 t = B4 at *
  generalize iblk m hO c 5 t = B5 at *
  generalize iblk m hO c 6 t = B6 at *
  generalize iblk m hO c 7 t = B7 at *
  exact funext e

theorem left10 (c : Dev nD) (t : Fin (cfgM m hO).N) : (outsAt0 m hO c t).2.2.1 = k0_pay3 (iblk m hO c 0 t) (iblk m hO c 1 t) (iblk m hO c 2 t) (iblk m hO c 3 t) (iblk m hO c 4 t) (iblk m hO c 6 t) := by
  have e := fun y => out10 m hO c t (iblk m hO c 0 t) (iblk m hO c 1 t) (iblk m hO c 2 t) (iblk m hO c 3 t) (iblk m hO c 4 t) (iblk m hO c 5 t) (iblk m hO c 6 t) (iblk m hO c 7 t) y
  unfold outsAt0
  dsimp only
  generalize iblk m hO c 0 t = B0 at *
  generalize iblk m hO c 1 t = B1 at *
  generalize iblk m hO c 2 t = B2 at *
  generalize iblk m hO c 3 t = B3 at *
  generalize iblk m hO c 4 t = B4 at *
  generalize iblk m hO c 5 t = B5 at *
  generalize iblk m hO c 6 t = B6 at *
  generalize iblk m hO c 7 t = B7 at *
  exact funext e

theorem left11 (c : Dev nD) (t : Fin (cfgM m hO).N) : (outsAt0 m hO c t).2.2.2 = k0_pay4 (iblk m hO c 0 t) (iblk m hO c 1 t) (iblk m hO c 2 t) (iblk m hO c 3 t) (iblk m hO c 4 t) (iblk m hO c 7 t) := by
  have e := fun y => out11 m hO c t (iblk m hO c 0 t) (iblk m hO c 1 t) (iblk m hO c 2 t) (iblk m hO c 3 t) (iblk m hO c 4 t) (iblk m hO c 5 t) (iblk m hO c 6 t) (iblk m hO c 7 t) y
  unfold outsAt0
  dsimp only
  generalize iblk m hO c 0 t = B0 at *
  generalize iblk m hO c 1 t = B1 at *
  generalize iblk m hO c 2 t = B2 at *
  generalize iblk m hO c 3 t = B3 at *
  generalize iblk m hO c 4 t = B4 at *
  generalize iblk m hO c 5 t = B5 at *
  generalize iblk m hO c 6 t = B6 at *
  generalize iblk m hO c 7 t = B7 at *
  exact funext e

/-- The whole array of the gradient. -/
theorem final8 (h : Cert.Pre_RsInIdeal m) (c : Dev nD) :
    (dats m hO 0 c).arrAt 8 (cfgM m hO).N = Cert.RsInRefIdeal.Read.val_main_v22 (F := Ideal) (m ((c : Thread nD τ).loc main_arg0)) (m ((c : Thread nD τ).loc main_arg1)) (m ((c : Thread nD τ).loc main_arg2)) (m ((c : Thread nD τ).loc main_arg3)) := by
  refine (dats m hO 0 c).arrAt_eq_of_covers 8 _ (cov8 m hO) fun t hf (y : S1024x512.Idx) => ?_
  idx_vars y
  refine (congrFun ((after0_8 m hO c t).trans (left8 m hO c t)) _).trans ?_
  exact (grad m hO h c t _ _).trans (congrArg _ (emb8 m hO t _ _).symm)

/-- The whole array of the weight's update. -/
theorem final9 (h : Cert.Pre_RsInIdeal m) (c : Dev nD) :
    (dats m hO 0 c).arrAt 9 (cfgM m hO).N = Cert.RsInRefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m hO 0 c).arrAt_eq_of_covers 9 _ (cov9 m hO) fun t hf (y : S1024x512.Idx) => ?_
  idx_vars y
  refine (congrFun ((after0_9 m hO c t).trans (left9 m hO c t)) _).trans ?_
  exact (update m hO h c t _ _).trans (congrArg _ (emb9 m hO t _ _).symm)

/-- The whole array of the mean. -/
theorem final10 (h : Cert.Pre_RsInIdeal m) (c : Dev nD) :
    (dats m hO 0 c).arrAt 10 (cfgM m hO).N = Cert.RsInRefIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m hO 0 c).arrAt_eq_of_covers 10 _ (cov10 m hO) fun t hf (y : S1024x512.Idx) => ?_
  idx_vars y
  refine (congrFun ((after0_10 m hO c t).trans (left10 m hO c t)) _).trans ?_
  exact (mean m hO h c t _ _).trans (congrArg _ (emb10 m hO t _ _).symm)

/-- The whole array of the second moment. -/
theorem final11 (h : Cert.Pre_RsInIdeal m) (c : Dev nD) :
    (dats m hO 0 c).arrAt 11 (cfgM m hO).N = Cert.RsInRefIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m hO 0 c).arrAt_eq_of_covers 11 _ (cov11 m hO) fun t hf (y : S1024x512.Idx) => ?_
  idx_vars y
  refine (congrFun ((after0_11 m hO c t).trans (left11 m hO c t)) _).trans ?_
  exact (moment m hO h c t _ _).trans (congrArg _ (emb11 m hO t _ _).symm)

/-- Both programs end with the same values in the results. -/
theorem tie : Cert.algebraic_RsInIdeal_RsInRefIdeal := by
  intro m g m' g' hp ha
  have hO := ok_of_pre m hp
  refine ⟨fun c => Cert.RsInRefIdeal.Read.val_main_v22 (F := Ideal) (m ((c : Thread nD τ).loc main_arg0)) (m ((c : Thread nD τ).loc main_arg1)) (m ((c : Thread nD τ).loc main_arg2)) (m ((c : Thread nD τ).loc main_arg3)),
    fun c => Cert.RsInRefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
    fun c => Cert.RsInRefIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg5)),
    fun c => Cert.RsInRefIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg6)), ?_, ?_⟩
  · refine (θ_run defs _ _).mono (fun r h c => ?_) (θ_run_and (run_main m g hO) (unchanged m g hO))
    exact ⟨((h.1 c).1 8).trans (final8 m hO hp c), ((h.1 c).1 9).trans (final9 m hO hp c),
      ((h.1 c).1 10).trans (final10 m hO hp c), ((h.1 c).1 11).trans (final11 m hO hp c), h.2 c⟩
  · refine (θ_run Cert.RsInRefIdeal.defs _ _).mono (fun r h c => ?_) (Cert.RsInRefIdeal.Value.run (F := Ideal) m' g')
    obtain ⟨a0, a1, a2, a3, a4, a5, a6⟩ := ha c
    obtain ⟨h0, h1, h2, h3, hr⟩ := h c
    refine ⟨h0.trans ?_, h1.trans ?_, h2.trans ?_, h3.trans ?_, hr⟩
    · beta_reduce; rw [← a0, ← a1, ← a2, ← a3]; rfl
    · beta_reduce; rw [← a0, ← a1, ← a2, ← a3, ← a4, ← a5, ← a6]; rfl
    · beta_reduce; rw [← a0, ← a1, ← a2, ← a3, ← a5]; rfl
    · beta_reduce; rw [← a0, ← a1, ← a2, ← a3, ← a6]; rfl

/-- The reference runs, leaves its arguments as they are, and has no counter to leave standing. -/
theorem refFrame : Cert.quiescent_RsInRefIdeal := fun m ρ _ =>
  (θ_run _ _ _).mono (fun r h => ⟨fun c => (h c).2.2.2.2, sem_eq_zero_of_no_sems rfl r.2⟩) (Cert.RsInRefIdeal.Value.run (F := Ideal) m ρ)

/-- The same of the inputs that the precondition admits. -/
theorem refFramePre : Cert.quiescent_RsInRefIdeal_pre_rs_inp_slot := fun m ρ _ => refFrame m ρ trivial

end Cert.RsInIdeal.Hand

end
-- ==== Proof.RsPool.lean ====
/- The optimiser step of one large weight: the gradient's parts are added up and the weight's update is taken. -/
module

public import proofs.«01_k».proof.Defs
public import proofs.«01_k».proof.Proof.Gen.RsPool.Frame
public import proofs.«01_k».proof.Proof.Gen.RsPoolIdeal.Frame
public import proofs.«01_k».proof.Proof.Gen.Pre_rs_pool_slot
public import proofs.«01_k».proof.Proof.Gen.RsPoolRefIdeal.Run
public import proofs.«01_k».proof.Proof.Gen.RsPoolRefIdeal.Read
public import Idealize.ShloMosaic.Lib.Pipeline.ValueKit
public import Idealize.ShloMosaic.Lib.Pointwise

@[expose] public section

set_option maxRecDepth 16384

noncomputable section

namespace Cert.RsPool.Hand

open Cert.RsPool Cert.RsPool.Gen Idealize.ShloMosaic Idealize.ShloMosaic.TcCoe Idealize.SL.Sem

/-- The precondition puts the table's first word among the eight slots. -/
theorem slot_lt (m : (ℓ : Loc nD τ sig) → Buf (Elt Bits) ℓ) (h : Cert.Pre_RsPool m) (k : S4.Idx) (hk : (k 0).val = 0) :
    (m (((0 : Dev nD) : Thread nD τ).loc main_arg0) k).toNat < 8 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have h0 := congrFun (h 0) (fun a => ⟨0, by obtain rfl : a = 0 := Subsingleton.elim _ _; exact Nat.zero_lt_one⟩)
  simp only [Cert.Pre_rs_pool_slot.fn, constantI, broadcastInDim, cmpi, andi, andi_one, extractStridedSlice, ofBool_eq_one, IntOp.cmpi,
    BitVec.sle, BitVec.slt, decide_eq_true_eq] at h0
  obtain ⟨h1, h2⟩ := h0
  have at_k (P : BitVec 32 → Prop) (I : S4.Idx) (hP : P (m (((0 : Dev nD) : Thread nD τ).loc main_arg0) I)) (hI : (I 0).val = 0) :
      P (m (((0 : Dev nD) : Thread nD τ).loc main_arg0) k) := by
    have e : I = k := by
      funext a
      obtain rfl : a = 0 := Subsingleton.elim _ _
      exact Fin.ext (hI.trans hk.symm)
    exact e ▸ hP
  have h1' := at_k (fun w => (0#32).toInt ≤ w.toInt) _ (of_decide_eq_true h1) rfl
  have h2' := at_k (fun w => w.toInt < (8#32).toInt) _ (of_decide_eq_true h2) rfl
  generalize m (((0 : Dev nD) : Thread nD τ).loc main_arg0) k = w at h1' h2'
  simp only [BitVec.toInt, BitVec.toNat_ofNat] at h1' h2'
  have := w.isLt
  split at h1' <;> split at h2' <;> omega

/-- So the block the first window names is inside the array, at every grid point. -/
theorem ok_of_pre (m : (ℓ : Loc nD τ sig) → Buf (Elt Bits) ℓ) (h : Cert.Pre_RsPool m) : Ok m := by
  intro i
  refine ⟨fun a => ?_, Or.inl rfl⟩
  fin_cases a
  · show ((m (((0 : Dev nD) : Thread nD τ).loc main_arg0) ?k).toNat + 1) * 1 ≤ 8
    have hs := slot_lt m h ?k rfl
    omega
  · have hi : (i 0).val < 1 := (i 0).isLt
    show ((BitVec.ofNat 32 (i 0).val).toNat + 1) * 128 ≤ 128
    rw [BitVec.toNat_ofNat, Nat.mod_eq_of_lt (by omega)]
    omega
  · exact Nat.le_refl _

end Cert.RsPool.Hand

namespace Cert.RsPoolIdeal.Hand

open Cert.RsPoolIdeal Cert.RsPoolIdeal.Gen Idealize.ShloMosaic Idealize.ShloMosaic.TcCoe Idealize.SL.Sem

/-- The precondition puts the table's first word among the eight slots. -/
theorem slot_lt (m : (ℓ : Loc nD τ sig) → Buf (Elt Ideal) ℓ) (h : Cert.Pre_RsPoolIdeal m) (k : S4.Idx) (hk : (k 0).val = 0) :
    (m (((0 : Dev nD) : Thread nD τ).loc main_arg0) k).toNat < 8 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have h0 := congrFun (h 0) (fun a => ⟨0, by obtain rfl : a = 0 := Subsingleton.elim _ _; exact Nat.zero_lt_one⟩)
  simp only [Cert.Pre_rs_pool_slot.fn, constantI, broadcastInDim, cmpi, andi, andi_one, extractStridedSlice, ofBool_eq_one, IntOp.cmpi,
    BitVec.sle, BitVec.slt, decide_eq_true_eq] at h0
  obtain ⟨h1, h2⟩ := h0
  have at_k (P : BitVec 32 → Prop) (I : S4.Idx) (hP : P (m (((0 : Dev nD) : Thread nD τ).loc main_arg0) I)) (hI : (I 0).val = 0) :
      P (m (((0 : Dev nD) : Thread nD τ).loc main_arg0) k) := by
    have e : I = k := by
      funext a
      obtain rfl : a = 0 := Subsingleton.elim _ _
      exact Fin.ext (hI.trans hk.symm)
    exact e ▸ hP
  have h1' := at_k (fun w => (0#32).toInt ≤ w.toInt) _ (of_decide_eq_true h1) rfl
  have h2' := at_k (fun w => w.toInt < (8#32).toInt) _ (of_decide_eq_true h2) rfl
  generalize m (((0 : Dev nD) : Thread nD τ).loc main_arg0) k = w at h1' h2'
  simp only [BitVec.toInt, BitVec.toNat_ofNat] at h1' h2'
  have := w.isLt
  split at h1' <;> split at h2' <;> omega

/-- So the block the first window names is inside the array, at every grid point. -/
theorem ok_of_pre (m : (ℓ : Loc nD τ sig) → Buf (Elt Ideal) ℓ) (h : Cert.Pre_RsPoolIdeal m) : Ok m := by
  intro i
  refine ⟨fun a => ?_, Or.inl rfl⟩
  fin_cases a
  · show ((m (((0 : Dev nD) : Thread nD τ).loc main_arg0) ?k).toNat + 1) * 1 ≤ 8
    have hs := slot_lt m h ?k rfl
    omega
  · have hi : (i 0).val < 1 := (i 0).isLt
    show ((BitVec.ofNat 32 (i 0).val).toNat + 1) * 128 ≤ 128
    rw [BitVec.toNat_ofNat, Nat.mod_eq_of_lt (by omega)]
    omega
  · exact Nat.le_refl _

end Cert.RsPoolIdeal.Hand

namespace Cert.RsPoolIdeal.Hand

open Cert.RsPoolIdeal Cert.RsPoolIdeal.Gen Idealize.ShloMosaic Idealize.ShloMosaic.TcCoe Idealize.SL.Sem
open Idealize.ShloMosaic.Pipeline (Dat)

variable (m : (ℓ : Loc nD τ sig) → Buf (Elt Ideal) ℓ) (hO : Ok m)

/-- The row of the whole array that a row of a grid point's block is. -/
def row (t : Fin (cfgM m hO).N) (y : Fin 128) : Fin 128 :=
  ⟨t.val * 128 + y.val, by have h1 : t.val < 1 := t.isLt; have h2 := y.isLt; omega⟩

/-- The slot the table's first word names. -/
def slot (h : Cert.Pre_RsPoolIdeal m) : Fin 8 :=
  ⟨(m (((0 : Dev nD) : Thread nD τ).loc main_arg0) (ix1 0 : S4.Idx)).toNat, slot_lt m h _ rfl⟩

theorem at1 : ∀ t : Fin grid0.N, cc0_transform_1 (grid0.coords t) = ![0, t.val, 0] := by decide +kernel

theorem at2 : ∀ t : Fin grid0.N, cc0_transform_2 (grid0.coords t) = ![1, t.val, 0] := by decide +kernel

theorem at3 : ∀ t : Fin grid0.N, cc0_transform_3 (grid0.coords t) = ![2, t.val, 0] := by decide +kernel

theorem at4 : ∀ t : Fin grid0.N, cc0_transform_4 (grid0.coords t) = ![3, t.val, 0] := by decide +kernel

theorem at5 : ∀ t : Fin grid0.N, cc0_transform_5 (grid0.coords t) = ![t.val, 0] := by decide +kernel

theorem at6 : ∀ t : Fin grid0.N, cc0_transform_6 (grid0.coords t) = ![t.val, 0] := by decide +kernel

theorem at7 : ∀ t : Fin grid0.N, cc0_transform_7 (grid0.coords t) = ![t.val, 0] := by decide +kernel

theorem at8 : ∀ t : Fin grid0.N, cc0_transform_8 (grid0.coords t) = ![t.val, 0] := by decide +kernel

theorem at9 : ∀ t : Fin grid0.N, cc0_transform_9 (grid0.coords t) = ![t.val, 0] := by decide +kernel

theorem at10 : ∀ t : Fin grid0.N, cc0_transform_10 (grid0.coords t) = ![t.val, 0] := by decide +kernel

theorem at11 : ∀ t : Fin grid0.N, cc0_transform_11 (grid0.coords t) = ![t.val, 0] := by decide +kernel

/-- The first input's block lies in the slot that the table names. -/
theorem emb0 (h : Cert.Pre_RsPoolIdeal m) (t : Fin (cfgM m hO).N) (y0 : Fin 128) (y1 : Fin 256) :
    (((cfgM m hO).win 0).blk t).view.emb (ix3 0 y0 y1 : S1x128x256.Idx) = (ix3 (slot m h) (row m hO t y0) y1 : S8x128x256.Idx) := by
  refine funext fun a => Fin.ext ?_
  refine (ValueKit.rect_emb_unit_val _ _ _ _ _ : _ = cc0_transform_0 inb_S4_S1_0 numel1_S1 (tbl m) (grid0.coords t) a * S1x128x256.size a + _).trans ?_
  have e := congrFun (at1 t) 1
  fin_cases a
  · show (m (((0 : Dev nD) : Thread nD τ).loc main_arg0) _).toNat * 1 + 0 = (m (((0 : Dev nD) : Thread nD τ).loc main_arg0) _).toNat
    rw [Nat.mul_one, Nat.add_zero]
    congr 2
    refine funext fun (a : Fin 1) => ?_
    obtain rfl : a = 0 := Subsingleton.elim _ _
    rfl
  · exact congrArg (· * 128 + y0.val) e
  · show 0 * 256 + y1.val = y1.val
    omega

theorem emb1 (t : Fin (cfgM m hO).N) (y0 : Fin 128) (y1 : Fin 256) :
    (((cfgM m hO).win 1).blk t).view.emb (ix3 0 y0 y1 : S1x128x256.Idx) = (ix3 0 (row m hO t y0) y1 : S4x128x256.Idx) := by
  refine funext fun a => Fin.ext ?_
  refine (ValueKit.rect_emb_unit_val _ _ _ _ _ : _ = cc0_transform_1 (grid0.coords t) a * S1x128x256.size a + _).trans ?_
  rw [at1]
  fin_cases a
  · rfl
  · rfl
  · show 0 * 256 + y1.val = y1.val
    omega

theorem emb2 (t : Fin (cfgM m hO).N) (y0 : Fin 128) (y1 : Fin 256) :
    (((cfgM m hO).win 2).blk t).view.emb (ix3 0 y0 y1 : S1x128x256.Idx) = (ix3 1 (row m hO t y0) y1 : S4x128x256.Idx) := by
  refine funext fun a => Fin.ext ?_
  refine (ValueKit.rect_emb_unit_val _ _ _ _ _ : _ = cc0_transform_2 (grid0.coords t) a * S1x128x256.size a + _).trans ?_
  rw [at2]
  fin_cases a
  · rfl
  · rfl
  · show 0 * 256 + y1.val = y1.val
    omega

theorem emb3 (t : Fin (cfgM m hO).N) (y0 : Fin 128) (y1 : Fin 256) :
    (((cfgM m hO).win 3).blk t).view.emb (ix3 0 y0 y1 : S1x128x256.Idx) = (ix3 2 (row m hO t y0) y1 : S4x128x256.Idx) := by
  refine funext fun a => Fin.ext ?_
  refine (ValueKit.rect_emb_unit_val _ _ _ _ _ : _ = cc0_transform_3 (grid0.coords t) a * S1x128x256.size a + _).trans ?_
  rw [at3]
  fin_cases a
  · rfl
  · rfl
  · show 0 * 256 + y1.val = y1.val
    omega

theorem emb4 (t : Fin (cfgM m hO).N) (y0 : Fin 128) (y1 : Fin 256) :
    (((cfgM m hO).win 4).blk t).view.emb (ix3 0 y0 y1 : S1x128x256.Idx) = (ix3 3 (row m hO t y0) y1 : S4x128x256.Idx) := by
  refine funext fun a => Fin.ext ?_
  refine (ValueKit.rect_emb_unit_val _ _ _ _ _ : _ = cc0_transform_4 (grid0.coords t) a * S1x128x256.size a + _).trans ?_
  rw [at4]
  fin_cases a
  · rfl
  · rfl
  · show 0 * 256 + y1.val = y1.val
    omega

theorem emb5 (t : Fin (cfgM m hO).N) (y0 : Fin 128) (y1 : Fin 256) :
    (((cfgM m hO).win 5).blk t).view.emb (ix2 y0 y1 : S128x256.Idx) = (ix2 (row m hO t y0) y1 : S128x256.Idx) := by
  refine funext fun a => Fin.ext ?_
  refine (ValueKit.rect_emb_unit_val _ _ _ _ _ : _ = cc0_transform_5 (grid0.coords t) a * S128x256.size a + _).trans ?_
  rw [at5]
  fin_cases a
  · rfl
  · show 0 * 256 + y1.val = y1.val
    omega

theorem emb6 (t : Fin (cfgM m hO).N) (y0 : Fin 128) (y1 : Fin 256) :
    (((cfgM m hO).win 6).blk t).view.emb (ix2 y0 y1 : S128x256.Idx) = (ix2 (row m hO t y0) y1 : S128x256.Idx) := by
  refine funext fun a => Fin.ext ?_
  refine (ValueKit.rect_emb_unit_val _ _ _ _ _ : _ = cc0_transform_6 (grid0.coords t) a * S128x256.size a + _).trans ?_
  rw [at6]
  fin_cases a
  · rfl
  · show 0 * 256 + y1.val = y1.val
    omega

theorem emb7 (t : Fin (cfgM m hO).N) (y0 : Fin 128) (y1 : Fin 256) :
    (((cfgM m hO).win 7).blk t).view.emb (ix2 y0 y1 : S128x256.Idx) = (ix2 (row m hO t y0) y1 : S128x256.Idx) := by
  refine funext fun a => Fin.ext ?_
  refine (ValueKit.rect_emb_unit_val _ _ _ _ _ : _ = cc0_transform_7 (grid0.coords t) a * S128x256.size a + _).trans ?_
  rw [at7]
  fin_cases a
  · rfl
  · show 0 * 256 + y1.val = y1.val
    omega

theorem emb8 (t : Fin (cfgM m hO).N) (y0 : Fin 128) (y1 : Fin 256) :
    (((cfgM m hO).win 8).blk t).view.emb (ix2 y0 y1 : S128x256.Idx) = (ix2 (row m hO t y0) y1 : S128x256.Idx) := by
  refine funext fun a => Fin.ext ?_
  refine (ValueKit.rect_emb_unit_val _ _ _ _ _ : _ = cc0_transform_8 (grid0.coords t) a * S128x256.size a + _).trans ?_
  rw [at8]
  fin_cases a
  · rfl
  · show 0 * 256 + y1.val = y1.val
    omega

theorem emb9 (t : Fin (cfgM m hO).N) (y0 : Fin 128) (y1 : Fin 256) :
    (((cfgM m hO).win 9).blk t).view.emb (ix2 y0 y1 : S128x256.Idx) = (ix2 (row m hO t y0) y1 : S128x256.Idx) := by
  refine funext fun a => Fin.ext ?_
  refine (ValueKit.rect_emb_unit_val _ _ _ _ _ : _ = cc0_transform_9 (grid0.coords t) a * S128x256.size a + _).trans ?_
  rw [at9]
  fin_cases a
  · rfl
  · show 0 * 256 + y1.val = y1.val
    omega

theorem emb10 (t : Fin (cfgM m hO).N) (y0 : Fin 128) (y1 : Fin 256) :
    (((cfgM m hO).win 10).blk t).view.emb (ix2 y0 y1 : S128x256.Idx) = (ix2 (row m hO t y0) y1 : S128x256.Idx) := by
  refine funext fun a => Fin.ext ?_
  refine (ValueKit.rect_emb_unit_val _ _ _ _ _ : _ = cc0_transform_10 (grid0.coords t) a * S128x256.size a + _).trans ?_
  rw [at10]
  fin_cases a
  · rfl
  · show 0 * 256 + y1.val = y1.val
    omega

theorem emb11 (t : Fin (cfgM m hO).N) (y0 : Fin 128) (y1 : Fin 256) :
    (((cfgM m hO).win 11).blk t).view.emb (ix2 y0 y1 : S128x256.Idx) = (ix2 (row m hO t y0) y1 : S128x256.Idx) := by
  refine funext fun a => Fin.ext ?_
  refine (ValueKit.rect_emb_unit_val _ _ _ _ _ : _ = cc0_transform_11 (grid0.coords t) a * S128x256.size a + _).trans ?_
  rw [at11]
  fin_cases a
  · rfl
  · show 0 * 256 + y1.val = y1.val
    omega

theorem in0 (h : Cert.Pre_RsPoolIdeal m) (c : Dev nD) (t : Fin (cfgM m hO).N) (y0 : Fin 128) (y1 : Fin 256) :
    iblk m hO c 0 t (ix3 0 y0 y1 : S1x128x256.Idx) = m ((c : Thread nD τ).loc main_arg1) (ix3 (slot m h) (row m hO t y0) y1) :=
  congrArg (m ((c : Thread nD τ).loc main_arg1)) (emb0 m hO h t y0 y1)

theorem in1 (c : Dev nD) (t : Fin (cfgM m hO).N) (y0 : Fin 128) (y1 : Fin 256) :
    iblk m hO c 1 t (ix3 0 y0 y1 : S1x128x256.Idx) = m ((c : Thread nD τ).loc main_arg2) (ix3 0 (row m hO t y0) y1) :=
  congrArg (m ((c : Thread nD τ).loc main_arg2)) (emb1 m hO t y0 y1)

theorem in2 (c : Dev nD) (t : Fin (cfgM m hO).N) (y0 : Fin 128) (y1 : Fin 256) :
    iblk m hO c 2 t (ix3 0 y0 y1 : S1x128x256.Idx) = m ((c : Thread nD τ).loc main_arg3) (ix3 1 (row m hO t y0) y1) :=
  congrArg (m ((c : Thread nD τ).loc main_arg3)) (emb2 m hO t y0 y1)

theorem in3 (c : Dev nD) (t : Fin (cfgM m hO).N) (y0 : Fin 128) (y1 : Fin 256) :
    iblk m hO c 3 t (ix3 0 y0 y1 : S1x128x256.Idx) = m ((c : Thread nD τ).loc main_arg3) (ix3 2 (row m hO t y0) y1) :=
  congrArg (m ((c : Thread nD τ).loc main_arg3)) (emb3 m hO t y0 y1)

theorem in4 (c : Dev nD) (t : Fin (cfgM m hO).N) (y0 : Fin 128) (y1 : Fin 256) :
    iblk m hO c 4 t (ix3 0 y0 y1 : S1x128x256.Idx) = m ((c : Thread nD τ).loc main_arg3) (ix3 3 (row m hO t y0) y1) :=
  congrArg (m ((c : Thread nD τ).loc main_arg3)) (emb4 m hO t y0 y1)

theorem in5 (c : Dev nD) (t : Fin (cfgM m hO).N) (y0 : Fin 128) (y1 : Fin 256) :
    iblk m hO c 5 t (ix2 y0 y1 : S128x256.Idx) = m ((c : Thread nD τ).loc main_arg4) (ix2 (row m hO t y0) y1) :=
  congrArg (m ((c : Thread nD τ).loc main_arg4)) (emb5 m hO t y0 y1)

theorem in6 (c : Dev nD) (t : Fin (cfgM m hO).N) (y0 : Fin 128) (y1 : Fin 256) :
    iblk m hO c 6 t (ix2 y0 y1 : S128x256.Idx) = m ((c : Thread nD τ).loc main_arg5) (ix2 (row m hO t y0) y1) :=
  congrArg (m ((c : Thread nD τ).loc main_arg5)) (emb6 m hO t y0 y1)

theorem in7 (c : Dev nD) (t : Fin (cfgM m hO).N) (y0 : Fin 128) (y1 : Fin 256) :
    iblk m hO c 7 t (ix2 y0 y1 : S128x256.Idx) = m ((c : Thread nD τ).loc main_arg6) (ix2 (row m hO t y0) y1) :=
  congrArg (m ((c : Thread nD τ).loc main_arg6)) (emb7 m hO t y0 y1)

theorem cov8 : ((cfgM m hO).win 8).Covers := by
  refine ⟨(by decide : ∀ a : Fin 2, 0 < S128x256.size a), fun (β : (a : Fin 2) → Fin (((cfgM m hO).win 8).nblk a)) => ⟨⟨(β 0).val, lt_of_lt_of_eq (β 0).isLt (by show (128 + 128 - 1) / 128 = 1; norm_num)⟩, flush0_8 _ _, fun a => ⟨?_, Or.inl rfl⟩⟩⟩
  refine (congrFun (at8 _) a).trans ?_
  have h1 : (β 1).val < 1 := lt_of_lt_of_eq (β 1).isLt (by show (256 + 256 - 1) / 256 = 1; norm_num)
  fin_cases a
  · rfl
  · show 0 = (β 1).val
    omega

theorem cov9 : ((cfgM m hO).win 9).Covers := by
  refine ⟨(by decide : ∀ a : Fin 2, 0 < S128x256.size a), fun (β : (a : Fin 2) → Fin (((cfgM m hO).win 9).nblk a)) => ⟨⟨(β 0).val, lt_of_lt_of_eq (β 0).isLt (by show (128 + 128 - 1) / 128 = 1; norm_num)⟩, flush0_9 _ _, fun a => ⟨?_, Or.inl rfl⟩⟩⟩
  refine (congrFun (at9 _) a).trans ?_
  have h1 : (β 1).val < 1 := lt_of_lt_of_eq (β 1).isLt (by show (256 + 256 - 1) / 256 = 1; norm_num)
  fin_cases a
  · rfl
  · show 0 = (β 1).val
    omega

theorem cov10 : ((cfgM m hO).win 10).Covers := by
  refine ⟨(by decide : ∀ a : Fin 2, 0 < S128x256.size a), fun (β : (a : Fin 2) → Fin (((cfgM m hO).win 10).nblk a)) => ⟨⟨(β 0).val, lt_of_lt_of_eq (β 0).isLt (by show (128 + 128 - 1) / 128 = 1; norm_num)⟩, flush0_10 _ _, fun a => ⟨?_, Or.inl rfl⟩⟩⟩
  refine (congrFun (at10 _) a).trans ?_
  have h1 : (β 1).val < 1 := lt_of_lt_of_eq (β 1).isLt (by show (256 + 256 - 1) / 256 = 1; norm_num)
  fin_cases a
  · rfl
  · show 0 = (β 1).val
    omega

theorem cov11 : ((cfgM m hO).win 11).Covers := by
  refine ⟨(by decide : ∀ a : Fin 2, 0 < S128x256.size a), fun (β : (a : Fin 2) → Fin (((cfgM m hO).win 11).nblk a)) => ⟨⟨(β 0).val, lt_of_lt_of_eq (β 0).isLt (by show (128 + 128 - 1) / 128 = 1; norm_num)⟩, flush0_11 _ _, fun a => ⟨?_, Or.inl rfl⟩⟩⟩
  refine (congrFun (at11 _) a).trans ?_
  have h1 : (β 1).val < 1 := lt_of_lt_of_eq (β 1).isLt (by show (256 + 256 - 1) / 256 = 1; norm_num)
  fin_cases a
  · rfl
  · show 0 = (β 1).val
    omega

/-- A choice made by comparing a slot's number with a word. -/
theorem sel (w : BitVec 32) (x : Fin 8) (a b : EReal) :
    Scalar.select (IntOp.cmpi CmpIPredicate.eq (BitVec.ofNat 32 x.val) w) a b = if x.val = w.toNat then a else b := by
  have hx : x.val % 2 ^ 32 = x.val := Nat.mod_eq_of_lt (by have := x.isLt; omega)
  by_cases e : x.val = w.toNat
  · have e' : BitVec.ofNat 32 x.val = w := BitVec.eq_of_toNat_eq (by rw [BitVec.toNat_ofNat, hx, e])
    simp [IntOp.cmpi, Scalar.select, e', e]
  · have e' : BitVec.ofNat 32 x.val ≠ w := fun h => e (by rw [← h, BitVec.toNat_ofNat, hx])
    have f : (BitVec.ofNat 32 x.val == w) = false := beq_eq_false_iff_ne.mpr e'
    simp [IntOp.cmpi, Scalar.select, f, e]

/-- The reference's sum over the eight slots, all but the named one masked, is the named one. -/
theorem own (h : Cert.Pre_RsPoolIdeal m) (i : Fin 128) (j : Fin 256) :
    Cert.RsPoolRefIdeal.Read.val_main_v7 (F := Ideal) (m (((0 : Dev nD) : Thread nD τ).loc main_arg0)) (m (((0 : Dev nD) : Thread nD τ).loc main_arg1)) (ix2 i j)
      = m (((0 : Dev nD) : Thread nD τ).loc main_arg1) (ix3 (slot m h) i j) := by
  unfold Cert.RsPoolRefIdeal.Read.val_main_v7 Cert.RsPoolRefIdeal.Read.val_main_v6 Cert.RsPoolRefIdeal.Read.val_main_call0_v2 Cert.RsPoolRefIdeal.Read.val_main_call0_v1 Cert.RsPoolRefIdeal.Read.val_main_call0_v0 Cert.RsPoolRefIdeal.Read.val_main_cst Cert.RsPoolRefIdeal.Read.val_main_cst_0 Cert.RsPoolRefIdeal.Read.val_main_v5 Cert.RsPoolRefIdeal.Read.val_main_v4 Cert.RsPoolRefIdeal.Read.val_main_v3 Cert.RsPoolRefIdeal.Read.val_main_v2 Cert.RsPoolRefIdeal.Read.val_main_v1 Cert.RsPoolRefIdeal.Read.val_main_v0
  pointwise
  have z : id (constant (F := Ideal) Cert.RsPoolRefIdeal.S_ FTy.f32 0#32) Idealize.ShloMosaic.ix0 = (0 : EReal) := by
    show constant (F := Ideal) Cert.RsPoolRefIdeal.S_ FTy.f32 0#32 Idealize.ShloMosaic.ix0 = _
    pointwise
  rw [z]
  refine (Finset.sum_eq_single (slot m h) (fun x _ hx => ?_) (fun hx => absurd (Finset.mem_univ _) hx)).trans ?_
  · exact (sel _ _ _ _).trans (if_neg fun e => hx (Fin.ext e))
  · exact (sel _ _ _ _).trans (if_pos rfl)

/-- The sum of a block's parts is the reference's gradient at the block's place. -/
theorem grad (h : Cert.Pre_RsPoolIdeal m) (c : Dev nD) (t : Fin (cfgM m hO).N) (y0 : Fin 128) (y1 : Fin 256) :
    k0_pay2 (iblk m hO c 0 t) (iblk m hO c 1 t) (iblk m hO c 2 t) (iblk m hO c 3 t) (iblk m hO c 4 t) (ix2 y0 y1)
      = Cert.RsPoolRefIdeal.Read.val_main_v22 (F := Ideal) (m ((c : Thread nD τ).loc main_arg0)) (m ((c : Thread nD τ).loc main_arg1)) (m ((c : Thread nD τ).loc main_arg2)) (m ((c : Thread nD τ).loc main_arg3)) (ix2 (row m hO t y0) y1) := by
  obtain rfl : c = 0 := Subsingleton.elim _ _
  unfold Cert.RsPoolRefIdeal.Read.val_main_v22 Cert.RsPoolRefIdeal.Read.val_main_v21 Cert.RsPoolRefIdeal.Read.val_main_v20 Cert.RsPoolRefIdeal.Read.val_main_v19 Cert.RsPoolRefIdeal.Read.val_main_v18 Cert.RsPoolRefIdeal.Read.val_main_v17 Cert.RsPoolRefIdeal.Read.val_main_v16 Cert.RsPoolRefIdeal.Read.val_main_v15 Cert.RsPoolRefIdeal.Read.val_main_v14 Cert.RsPoolRefIdeal.Read.val_main_v13 Cert.RsPoolRefIdeal.Read.val_main_v12 Cert.RsPoolRefIdeal.Read.val_main_v11 Cert.RsPoolRefIdeal.Read.val_main_v10 Cert.RsPoolRefIdeal.Read.val_main_v9 Cert.RsPoolRefIdeal.Read.val_main_v8
  pointwise [k0_pay2, own m h, in0 m hO h, in1 m hO, in2 m hO, in3 m hO, in4 m hO]

/-- The mean's new block is the reference's at the block's place. -/
theorem mean (h : Cert.Pre_RsPoolIdeal m) (c : Dev nD) (t : Fin (cfgM m hO).N) (y0 : Fin 128) (y1 : Fin 256) :
    k0_pay3 (iblk m hO c 0 t) (iblk m hO c 1 t) (iblk m hO c 2 t) (iblk m hO c 3 t) (iblk m hO c 4 t) (iblk m hO c 6 t) (ix2 y0 y1)
      = Cert.RsPoolRefIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix2 (row m hO t y0) y1) := by
  have hg := grad m hO h c t y0 y1
  unfold Cert.RsPoolRefIdeal.Read.val_main_v27 Cert.RsPoolRefIdeal.Read.val_main_v26 Cert.RsPoolRefIdeal.Read.val_main_v25 Cert.RsPoolRefIdeal.Read.val_main_cst_2 Cert.RsPoolRefIdeal.Read.val_main_v24 Cert.RsPoolRefIdeal.Read.val_main_v23 Cert.RsPoolRefIdeal.Read.val_main_cst_1
  pointwise [k0_pay3, hg, in6 m hO]

/-- The second moment's new block is the reference's at the block's place. -/
theorem moment (h : Cert.Pre_RsPoolIdeal m) (c : Dev nD) (t : Fin (cfgM m hO).N) (y0 : Fin 128) (y1 : Fin 256) :
    k0_pay4 (iblk m hO c 0 t) (iblk m hO c 1 t) (iblk m hO c 2 t) (iblk m hO c 3 t) (iblk m hO c 4 t) (iblk m hO c 7 t) (ix2 y0 y1)
      = Cert.RsPoolRefIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (ix2 (row m hO t y0) y1) := by
  have hg := grad m hO h c t y0 y1
  unfold Cert.RsPoolRefIdeal.Read.val_main_v33 Cert.RsPoolRefIdeal.Read.val_main_v32 Cert.RsPoolRefIdeal.Read.val_main_v31 Cert.RsPoolRefIdeal.Read.val_main_cst_4 Cert.RsPoolRefIdeal.Read.val_main_v30 Cert.RsPoolRefIdeal.Read.val_main_v29 Cert.RsPoolRefIdeal.Read.val_main_v28 Cert.RsPoolRefIdeal.Read.val_main_cst_3
  pointwise [k0_pay4, hg, in7 m hO]

/-- The weight's update in a block is the reference's at the block's place. -/
theorem update (h : Cert.Pre_RsPoolIdeal m) (c : Dev nD) (t : Fin (cfgM m hO).N) (y0 : Fin 128) (y1 : Fin 256) :
    k0_pay1 (iblk m hO c 5 t) (k0_pay4 (iblk m hO c 0 t) (iblk m hO c 1 t) (iblk m hO c 2 t) (iblk m hO c 3 t) (iblk m hO c 4 t) (iblk m hO c 7 t))
        (k0_pay5 (iblk m hO c 0 t) (iblk m hO c 1 t) (iblk m hO c 2 t) (iblk m hO c 3 t) (iblk m hO c 4 t) (iblk m hO c 6 t)) (ix2 y0 y1)
      = Cert.RsPoolRefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row m hO t y0) y1) := by
  have hm := mean m hO h c t y0 y1
  have hv := moment m hO h c t y0 y1
  unfold Cert.RsPoolRefIdeal.Read.val_main_v46 Cert.RsPoolRefIdeal.Read.val_main_v45 Cert.RsPoolRefIdeal.Read.val_main_cst_9 Cert.RsPoolRefIdeal.Read.val_main_v44 Cert.RsPoolRefIdeal.Read.val_main_v43 Cert.RsPoolRefIdeal.Read.val_main_v42 Cert.RsPoolRefIdeal.Read.val_main_cst_8 Cert.RsPoolRefIdeal.Read.val_main_v41 Cert.RsPoolRefIdeal.Read.val_main_v40 Cert.RsPoolRefIdeal.Read.val_main_v39 Cert.RsPoolRefIdeal.Read.val_main_cst_7 Cert.RsPoolRefIdeal.Read.val_main_v38 Cert.RsPoolRefIdeal.Read.val_main_v37 Cert.RsPoolRefIdeal.Read.val_main_v36 Cert.RsPoolRefIdeal.Read.val_main_cst_6 Cert.RsPoolRefIdeal.Read.val_main_v35 Cert.RsPoolRefIdeal.Read.val_main_v34 Cert.RsPoolRefIdeal.Read.val_main_cst_5
  pointwise [k0_pay1, k0_pay5, hm, hv, in5 m hO]

/-- What a grid point leaves in output window 8, from the blocks it reads. -/
theorem out8 (c : Dev nD) (t : Fin (cfgM m hO).N) (v0 : Vec Ideal S1x128x256 .f32) (v1 : Vec Ideal S1x128x256 .f32) (v2 : Vec Ideal S1x128x256 .bf16) (v3 : Vec Ideal S1x128x256 .bf16) (v4 : Vec Ideal S1x128x256 .bf16) (v5 : Vec Ideal S128x256 .f32) (v6 : Vec Ideal S128x256 .f32) (v7 : Vec Ideal S128x256 .f32) (y : S128x256.Idx) :
    out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) v0 v1 v2 v3 v4 v5 v6 v7 (tbl m 0) y = k0_pay2 v0 v1 v2 v3 v4 y := by
  frame_out

/-- What a grid point leaves in output window 9, from the blocks it reads. -/
theorem out9 (c : Dev nD) (t : Fin (cfgM m hO).N) (v0 : Vec Ideal S1x128x256 .f32) (v1 : Vec Ideal S1x128x256 .f32) (v2 : Vec Ideal S1x128x256 .bf16) (v3 : Vec Ideal S1x128x256 .bf16) (v4 : Vec Ideal S1x128x256 .bf16) (v5 : Vec Ideal S128x256 .f32) (v6 : Vec Ideal S128x256 .f32) (v7 : Vec Ideal S128x256 .f32) (y : S128x256.Idx) :
    out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) v0 v1 v2 v3 v4 v5 v6 v7 (tbl m 0) y = k0_pay1 v5 (k0_pay4 v0 v1 v2 v3 v4 v7) (k0_pay5 v0 v1 v2 v3 v4 v6) y := by
  frame_out

/-- What a grid point leaves in output window 10, from the blocks it reads. -/
theorem out10 (c : Dev nD) (t : Fin (cfgM m hO).N) (v0 : Vec Ideal S1x128x256 .f32) (v1 : Vec Ideal S1x128x256 .f32) (v2 : Vec Ideal S1x128x256 .bf16) (v3 : Vec Ideal S1x128x256 .bf16) (v4 : Vec Ideal S1x128x256 .bf16) (v5 : Vec Ideal S128x256 .f32) (v6 : Vec Ideal S128x256 .f32) (v7 : Vec Ideal S128x256 .f32) (y : S128x256.Idx) :
    out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) v0 v1 v2 v3 v4 v5 v6 v7 (tbl m 0) y = k0_pay3 v0 v1 v2 v3 v4 v6 y := by
  frame_out

/-- What a grid point leaves in output window 11, from the blocks it reads. -/
theorem out11 (c : Dev nD) (t : Fin (cfgM m hO).N) (v0 : Vec Ideal S1x128x256 .f32) (v1 : Vec Ideal S1x128x256 .f32) (v2 : Vec Ideal S1x128x256 .bf16) (v3 : Vec Ideal S1x128x256 .bf16) (v4 : Vec Ideal S1x128x256 .bf16) (v5 : Vec Ideal S128x256 .f32) (v6 : Vec Ideal S128x256 .f32) (v7 : Vec Ideal S128x256 .f32) (y : S128x256.Idx) :
    out0_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) v0 v1 v2 v3 v4 v5 v6 v7 (tbl m 0) y = k0_pay4 v0 v1 v2 v3 v4 v7 y := by
  frame_out

theorem left8 (c : Dev nD) (t : Fin (cfgM m hO).N) : (outsAt0 m hO c t).1 = k0_pay2 (iblk m hO c 0 t) (iblk m hO c 1 t) (iblk m hO c 2 t) (iblk m hO c 3 t) (iblk m hO c 4 t) := by
  have e := fun y => out8 m hO c t (iblk m hO c 0 t) (iblk m hO c 1 t) (iblk m hO c 2 t) (iblk m hO c 3 t) (iblk m hO c 4 t) (iblk m hO c 5 t) (iblk m hO c 6 t) (iblk m hO c 7 t) y
  unfold outsAt0
  dsimp only
  generalize iblk m hO c 0 t = B0 at *
  generalize iblk m hO c 1 t = B1 at *
  generalize iblk m hO c 2 t = B2 at *
  generalize iblk m hO c 3 t = B3 at *
  generalize iblk m hO c 4 t = B4 at *
  generalize iblk m hO c 5 t = B5 at *
  generalize iblk m hO c 6 t = B6 at *
  generalize iblk m hO c 7 t = B7 at *
  exact funext e

theorem left9 (c : Dev nD) (t : Fin (cfgM m hO).N) : (outsAt0 m hO c t).2.1 = k0_pay1 (iblk m hO c 5 t) (k0_pay4 (iblk m hO c 0 t) (iblk m hO c 1 t) (iblk m hO c 2 t) (iblk m hO c 3 t) (iblk m hO c 4 t) (iblk m hO c 7 t)) (k0_pay5 (iblk m hO c 0 t) (iblk m hO c 1 t) (iblk m hO c 2 t) (iblk m hO c 3 t) (iblk m hO c 4 t) (iblk m hO c 6 t)) := by
  have e := fun y => out9 m hO c t (iblk m hO c 0 t) (iblk m hO c 1 t) (iblk m hO c 2 t) (iblk m hO c 3 t) (iblk m hO c 4 t) (iblk m hO c 5 t) (iblk m hO c 6 t) (iblk m hO c 7 t) y
  unfold outsAt0
  dsimp only
  generalize iblk m hO c 0 t = B0 at *
  generalize iblk m hO c 1 t = B1 at *
  generalize iblk m hO c 2 t = B2 at *
  generalize iblk m hO c 3 t = B3 at *
  generalize iblk m hO c 4 t = B4 at *
  generalize iblk m hO c 5 t = B5 at *
  generalize iblk m hO c 6 t = B6 at *
  generalize iblk m hO c 7 t = B7 at *
  exact funext e

theorem left10 (c : Dev nD) (t : Fin (cfgM m hO).N) : (outsAt0 m hO c t).2.2.1 = k0_pay3 (iblk m hO c 0 t) (iblk m hO c 1 t) (iblk m hO c 2 t) (iblk m hO c 3 t) (iblk m hO c 4 t) (iblk m hO c 6 t) := by
  have e := fun y => out10 m hO c t (iblk m hO c 0 t) (iblk m hO c 1 t) (iblk m hO c 2 t) (iblk m hO c 3 t) (iblk m hO c 4 t) (iblk m hO c 5 t) (iblk m hO c 6 t) (iblk m hO c 7 t) y
  unfold outsAt0
  dsimp only
  generalize iblk m hO c 0 t = B0 at *
  generalize iblk m hO c 1 t = B1 at *
  generalize iblk m hO c 2 t = B2 at *
  generalize iblk m hO c 3 t = B3 at *
  generalize iblk m hO c 4 t = B4 at *
  generalize iblk m hO c 5 t = B5 at *
  generalize iblk m hO c 6 t = B6 at *
  generalize iblk m hO c 7 t = B7 at *
  exact funext e

theorem left11 (c : Dev nD) (t : Fin (cfgM m hO).N) : (outsAt0 m hO c t).2.2.2 = k0_pay4 (iblk m hO c 0 t) (iblk m hO c 1 t) (iblk m hO c 2 t) (iblk m hO c 3 t) (iblk m hO c 4 t) (iblk m hO c 7 t) := by
  have e := fun y => out11 m hO c t (iblk m hO c 0 t) (iblk m hO c 1 t) (iblk m hO c 2 t) (iblk m hO c 3 t) (iblk m hO c 4 t) (iblk m hO c 5 t) (iblk m hO c 6 t) (iblk m hO c 7 t) y
  unfold outsAt0
  dsimp only
  generalize iblk m hO c 0 t = B0 at *
  generalize iblk m hO c 1 t = B1 at *
  generalize iblk m hO c 2 t = B2 at *
  generalize iblk m hO c 3 t = B3 at *
  generalize iblk m hO c 4 t = B4 at *
  generalize iblk m hO c 5 t = B5 at *
  generalize iblk m hO c 6 t = B6 at *
  generalize iblk m hO c 7 t = B7 at *
  exact funext e

/-- The whole array of the gradient. -/
theorem final8 (h : Cert.Pre_RsPoolIdeal m) (c : Dev nD) :
    (dats m hO 0 c).arrAt 8 (cfgM m hO).N = Cert.RsPoolRefIdeal.Read.val_main_v22 (F := Ideal) (m ((c : Thread nD τ).loc main_arg0)) (m ((c : Thread nD τ).loc main_arg1)) (m ((c : Thread nD τ).loc main_arg2)) (m ((c : Thread nD τ).loc main_arg3)) := by
  refine (dats m hO 0 c).arrAt_eq_of_covers 8 _ (cov8 m hO) fun t hf (y : S128x256.Idx) => ?_
  idx_vars y
  refine (congrFun ((after0_8 m hO c t).trans (left8 m hO c t)) _).trans ?_
  exact (grad m hO h c t _ _).trans (congrArg _ (emb8 m hO t _ _).symm)

/-- The whole array of the weight's update. -/
theorem final9 (h : Cert.Pre_RsPoolIdeal m) (c : Dev nD) :
    (dats m hO 0 c).arrAt 9 (cfgM m hO).N = Cert.RsPoolRefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m hO 0 c).arrAt_eq_of_covers 9 _ (cov9 m hO) fun t hf (y : S128x256.Idx) => ?_
  idx_vars y
  refine (congrFun ((after0_9 m hO c t).trans (left9 m hO c t)) _).trans ?_
  exact (update m hO h c t _ _).trans (congrArg _ (emb9 m hO t _ _).symm)

/-- The whole array of the mean. -/
theorem final10 (h : Cert.Pre_RsPoolIdeal m) (c : Dev nD) :
    (dats m hO 0 c).arrAt 10 (cfgM m hO).N = Cert.RsPoolRefIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m hO 0 c).arrAt_eq_of_covers 10 _ (cov10 m hO) fun t hf (y : S128x256.Idx) => ?_
  idx_vars y
  refine (congrFun ((after0_10 m hO c t).trans (left10 m hO c t)) _).trans ?_
  exact (mean m hO h c t _ _).trans (congrArg _ (emb10 m hO t _ _).symm)

/-- The whole array of the second moment. -/
theorem final11 (h : Cert.Pre_RsPoolIdeal m) (c : Dev nD) :
    (dats m hO 0 c).arrAt 11 (cfgM m hO).N = Cert.RsPoolRefIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m hO 0 c).arrAt_eq_of_covers 11 _ (cov11 m hO) fun t hf (y : S128x256.Idx) => ?_
  idx_vars y
  refine (congrFun ((after0_11 m hO c t).trans (left11 m hO c t)) _).trans ?_
  exact (moment m hO h c t _ _).trans (congrArg _ (emb11 m hO t _ _).symm)

/-- Both programs end with the same values in the results. -/
theorem tie : Cert.algebraic_RsPoolIdeal_RsPoolRefIdeal := by
  intro m g m' g' hp ha
  have hO := ok_of_pre m hp
  refine ⟨fun c => Cert.RsPoolRefIdeal.Read.val_main_v22 (F := Ideal) (m ((c : Thread nD τ).loc main_arg0)) (m ((c : Thread nD τ).loc main_arg1)) (m ((c : Thread nD τ).loc main_arg2)) (m ((c : Thread nD τ).loc main_arg3)),
    fun c => Cert.RsPoolRefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
    fun c => Cert.RsPoolRefIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg5)),
    fun c => Cert.RsPoolRefIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg6)), ?_, ?_⟩
  · refine (θ_run defs _ _).mono (fun r h c => ?_) (θ_run_and (run_main m g hO) (unchanged m g hO))
    exact ⟨((h.1 c).1 8).trans (final8 m hO hp c), ((h.1 c).1 9).trans (final9 m hO hp c),
      ((h.1 c).1 10).trans (final10 m hO hp c), ((h.1 c).1 11).trans (final11 m hO hp c), h.2 c⟩
  · refine (θ_run Cert.RsPoolRefIdeal.defs _ _).mono (fun r h c => ?_) (Cert.RsPoolRefIdeal.Value.run (F := Ideal) m' g')
    obtain ⟨a0, a1, a2, a3, a4, a5, a6⟩ := ha c
    obtain ⟨h0, h1, h2, h3, hr⟩ := h c
    refine ⟨h0.trans ?_, h1.trans ?_, h2.trans ?_, h3.trans ?_, hr⟩
    · beta_reduce; rw [← a0, ← a1, ← a2, ← a3]; rfl
    · beta_reduce; rw [← a0, ← a1, ← a2, ← a3, ← a4, ← a5, ← a6]; rfl
    · beta_reduce; rw [← a0, ← a1, ← a2, ← a3, ← a5]; rfl
    · beta_reduce; rw [← a0, ← a1, ← a2, ← a3, ← a6]; rfl

/-- The reference runs, leaves its arguments as they are, and has no counter to leave standing. -/
theorem refFrame : Cert.quiescent_RsPoolRefIdeal := fun m ρ _ =>
  (θ_run _ _ _).mono (fun r h => ⟨fun c => (h c).2.2.2.2, sem_eq_zero_of_no_sems rfl r.2⟩) (Cert.RsPoolRefIdeal.Value.run (F := Ideal) m ρ)

/-- The same of the inputs that the precondition admits. -/
theorem refFramePre : Cert.quiescent_RsPoolRefIdeal_pre_rs_pool_slot := fun m ρ _ => refFrame m ρ trivial

end Cert.RsPoolIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Dw2
public import proofs.«01_k».proof.Proof.Gen.Dw2.Skeleton
public import proofs.«01_k».proof.Proof.Gen.Dw2.Launch
public import proofs.«01_k».proof.Proof.Gen.Dw2.Points
public import proofs.«01_k».proof.Proof.Gen.Dw2.Frame
public import proofs.«01_k».proof.Proof.Gen.Dw2Ideal
public import proofs.«01_k».proof.Proof.Gen.Dw2Ideal.Skeleton
public import proofs.«01_k».proof.Proof.Gen.Dw2Ideal.Launch
public import proofs.«01_k».proof.Proof.Gen.Dw2Ideal.Points
public import proofs.«01_k».proof.Proof.Gen.Dw2Ideal.Frame
public import proofs.«01_k».proof.Proof.Gen.Dw2RefIdeal
public import proofs.«01_k».proof.Proof.Gen.Dw1
public import proofs.«01_k».proof.Proof.Gen.Dw1.Skeleton
public import proofs.«01_k».proof.Proof.Gen.Dw1.Launch
public import proofs.«01_k».proof.Proof.Gen.Dw1.Points
public import proofs.«01_k».proof.Proof.Gen.Dw1.Frame
public import proofs.«01_k».proof.Proof.Gen.Dw1Ideal
public import proofs.«01_k».proof.Proof.Gen.Dw1Ideal.Skeleton
public import proofs.«01_k».proof.Proof.Gen.Dw1Ideal.Launch
public import proofs.«01_k».proof.Proof.Gen.Dw1Ideal.Points
public import proofs.«01_k».proof.Proof.Gen.Dw1Ideal.Frame
public import proofs.«01_k».proof.Proof.Gen.Dw1RefIdeal
public import proofs.«01_k».proof.Proof.Gen.Dwout
public import proofs.«01_k».proof.Proof.Gen.Dwout.Skeleton
public import proofs.«01_k».proof.Proof.Gen.Dwout.Launch
public import proofs.«01_k».proof.Proof.Gen.Dwout.Points
public import proofs.«01_k».proof.Proof.Gen.Dwout.Frame
public import proofs.«01_k».proof.Proof.Gen.DwoutIdeal
public import proofs.«01_k».proof.Proof.Gen.DwoutIdeal.Skeleton
public import proofs.«01_k».proof.Proof.Gen.DwoutIdeal.Launch
public import proofs.«01_k».proof.Proof.Gen.DwoutIdeal.Points
public import proofs.«01_k».proof.Proof.Gen.DwoutIdeal.Frame
public import proofs.«01_k».proof.Proof.Gen.DwoutRefIdeal
public import proofs.«01_k».proof.Proof.Gen.DmixAtt
public import proofs.«01_k».proof.Proof.Gen.DmixAtt.Skeleton
public import proofs.«01_k».proof.Proof.Gen.DmixAtt.Launch
public import proofs.«01_k».proof.Proof.Gen.DmixAtt.Points
public import proofs.«01_k».proof.Proof.Gen.DmixAtt.Frame
public import proofs.«01_k».proof.Proof.Gen.DmixAttIdeal
public import proofs.«01_k».proof.Proof.Gen.DmixAttIdeal.Skeleton
public import proofs.«01_k».proof.Proof.Gen.DmixAttIdeal.Launch
public import proofs.«01_k».proof.Proof.Gen.DmixAttIdeal.Points
public import proofs.«01_k».proof.Proof.Gen.DmixAttIdeal.Frame
public import proofs.«01_k».proof.Proof.Gen.DmixAttRefIdeal
public import proofs.«01_k».proof.Proof.Gen.DmixPool
public import proofs.«01_k».proof.Proof.Gen.DmixPool.Skeleton
public import proofs.«01_k».proof.Proof.Gen.DmixPool.Launch
public import proofs.«01_k».proof.Proof.Gen.DmixPool.Points
public import proofs.«01_k».proof.Proof.Gen.DmixPool.Frame
public import proofs.«01_k».proof.Proof.Gen.DmixPoolIdeal
public import proofs.«01_k».proof.Proof.Gen.DmixPoolIdeal.Skeleton
public import proofs.«01_k».proof.Proof.Gen.DmixPoolIdeal.Launch
public import proofs.«01_k».proof.Proof.Gen.DmixPoolIdeal.Points
public import proofs.«01_k».proof.Proof.Gen.DmixPoolIdeal.Frame
public import proofs.«01_k».proof.Proof.Gen.DmixPoolRefIdeal
public import proofs.«01_k».proof.Proof.Gen.Dwin
public import proofs.«01_k».proof.Proof.Gen.Dwin.Skeleton
public import proofs.«01_k».proof.Proof.Gen.Dwin.Launch
public import proofs.«01_k».proof.Proof.Gen.Dwin.Points
public import proofs.«01_k».proof.Proof.Gen.Dwin.Frame
public import proofs.«01_k».proof.Proof.Gen.DwinIdeal
public import proofs.«01_k».proof.Proof.Gen.DwinIdeal.Skeleton
public import proofs.«01_k».proof.Proof.Gen.DwinIdeal.Launch
public import proofs.«01_k».proof.Proof.Gen.DwinIdeal.Points
public import proofs.«01_k».proof.Proof.Gen.DwinIdeal.Frame
public import proofs.«01_k».proof.Proof.Gen.DwinRefIdeal
public import proofs.«01_k».proof.Proof.Gen.Ff1
public import proofs.«01_k».proof.Proof.Gen.Ff1.Skeleton
public import proofs.«01_k».proof.Proof.Gen.Ff1.Launch
public import proofs.«01_k».proof.Proof.Gen.Ff1.Points
public import proofs.«01_k».proof.Proof.Gen.Ff1.Frame
public import proofs.«01_k».proof.Proof.Gen.Ff1Ideal
public import proofs.«01_k».proof.Proof.Gen.Ff1Ideal.Skeleton
public import proofs.«01_k».proof.Proof.Gen.Ff1Ideal.Launch
public import proofs.«01_k».proof.Proof.Gen.Ff1Ideal.Points
public import proofs.«01_k».proof.Proof.Gen.Ff1Ideal.Frame
public import proofs.«01_k».proof.Proof.Gen.Ff1RefIdeal
public import proofs.«01_k».proof.Proof.Gen.Upool
public import proofs.«01_k».proof.Proof.Gen.Upool.Skeleton
public import proofs.«01_k».proof.Proof.Gen.Upool.Launch
public import proofs.«01_k».proof.Proof.Gen.Upool.Points
public import proofs.«01_k».proof.Proof.Gen.Upool.Frame
public import proofs.«01_k».proof.Proof.Gen.UpoolIdeal
public import proofs.«01_k».proof.Proof.Gen.UpoolIdeal.Skeleton
public import proofs.«01_k».proof.Proof.Gen.UpoolIdeal.Launch
public import proofs.«01_k».proof.Proof.Gen.UpoolIdeal.Points
public import proofs.«01_k».proof.Proof.Gen.UpoolIdeal.Frame
public import proofs.«01_k».proof.Proof.Gen.UpoolRefIdeal
public import proofs.«01_k».proof.Proof.Gen.Uqkv
public import proofs.«01_k».proof.Proof.Gen.Uqkv.Skeleton
public import proofs.«01_k».proof.Proof.Gen.Uqkv.Launch
public import proofs.«01_k».proof.Proof.Gen.Uqkv.Points
public import proofs.«01_k».proof.Proof.Gen.Uqkv.Frame
public import proofs.«01_k».proof.Proof.Gen.UqkvIdeal
public import proofs.«01_k».proof.Proof.Gen.UqkvIdeal.Skeleton
public import proofs.«01_k».proof.Proof.Gen.UqkvIdeal.Launch
public import proofs.«01_k».proof.Proof.Gen.UqkvIdeal.Points
public import proofs.«01_k».proof.Proof.Gen.UqkvIdeal.Frame
public import proofs.«01_k».proof.Proof.Gen.UqkvRefIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.LnIn
public import proofs.«01_k».proof.Proof.Gen.LnIn.Skeleton
public import proofs.«01_k».proof.Proof.Gen.LnIn.Launch
public import proofs.«01_k».proof.Proof.Gen.LnIn.Points
public import proofs.«01_k».proof.Proof.Gen.LnIn.Frame
public import proofs.«01_k».proof.Proof.Gen.LnInIdeal
public import proofs.«01_k».proof.Proof.Gen.LnInIdeal.Skeleton
public import proofs.«01_k».proof.Proof.Gen.LnInIdeal.Launch
public import proofs.«01_k».proof.Proof.Gen.LnInIdeal.Points
public import proofs.«01_k».proof.Proof.Gen.LnInIdeal.Frame
public import proofs.«01_k».proof.Proof.Gen.LnInRefIdeal
public import proofs.«01_k».proof.Proof.Gen.Small
public import proofs.«01_k».proof.Proof.Gen.Small.Skeleton
public import proofs.«01_k».proof.Proof.Gen.Small.Launch
public import proofs.«01_k».proof.Proof.Gen.Small.Points
public import proofs.«01_k».proof.Proof.Gen.Small.Frame
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame
public import proofs.«01_k».proof.Proof.Gen.SmallRefIdeal
public import proofs.«01_k».proof.Proof.Gen.Ff2
public import proofs.«01_k».proof.Proof.Gen.Ff2.Skeleton
public import proofs.«01_k».proof.Proof.Gen.Ff2.Launch
public import proofs.«01_k».proof.Proof.Gen.Ff2.Points
public import proofs.«01_k».proof.Proof.Gen.Ff2.Frame
public import proofs.«01_k».proof.Proof.Gen.Ff2Ideal
public import proofs.«01_k».proof.Proof.Gen.Ff2Ideal.Skeleton
public import proofs.«01_k».proof.Proof.Gen.Ff2Ideal.Launch
public import proofs.«01_k».proof.Proof.Gen.Ff2Ideal.Points
public import proofs.«01_k».proof.Proof.Gen.Ff2Ideal.Frame
public import proofs.«01_k».proof.Proof.Gen.Ff2RefIdeal
public import proofs.«01_k».proof.Proof.Gen.Dh1
public import proofs.«01_k».proof.Proof.Gen.Dh1.Skeleton
public import proofs.«01_k».proof.Proof.Gen.Dh1.Launch
public import proofs.«01_k».proof.Proof.Gen.Dh1.Points
public import proofs.«01_k».proof.Proof.Gen.Dh1.Frame
public import proofs.«01_k».proof.Proof.Gen.Dh1Ideal
public import proofs.«01_k».proof.Proof.Gen.Dh1Ideal.Skeleton
public import proofs.«01_k».proof.Proof.Gen.Dh1Ideal.Launch
public import proofs.«01_k».proof.Proof.Gen.Dh1Ideal.Points
public import proofs.«01_k».proof.Proof.Gen.Dh1Ideal.Frame
public import proofs.«01_k».proof.Proof.Gen.Dh1RefIdeal
public import proofs.«01_k».proof.Proof.Gen.Dh0
public import proofs.«01_k».proof.Proof.Gen.Dh0.Skeleton
public import proofs.«01_k».proof.Proof.Gen.Dh0.Launch
public import proofs.«01_k».proof.Proof.Gen.Dh0.Points
public import proofs.«01_k».proof.Proof.Gen.Dh0.Frame
public import proofs.«01_k».proof.Proof.Gen.Dh0Ideal
public import proofs.«01_k».proof.Proof.Gen.Dh0Ideal.Skeleton
public import proofs.«01_k».proof.Proof.Gen.Dh0Ideal.Launch
public import proofs.«01_k».proof.Proof.Gen.Dh0Ideal.Points
public import proofs.«01_k».proof.Proof.Gen.Dh0Ideal.Frame
public import proofs.«01_k».proof.Proof.Gen.Dh0RefIdeal
public import proofs.«01_k».proof.Proof.Gen.RsFf1
public import proofs.«01_k».proof.Proof.Gen.RsFf1.Skeleton
public import proofs.«01_k».proof.Proof.Gen.RsFf1.Launch
public import proofs.«01_k».proof.Proof.Gen.RsFf1.Points
public import proofs.«01_k».proof.Proof.Gen.RsFf1.Frame
public import proofs.«01_k».proof.Proof.Gen.RsFf1Ideal
public import proofs.«01_k».proof.Proof.Gen.RsFf1Ideal.Skeleton
public import proofs.«01_k».proof.Proof.Gen.RsFf1Ideal.Launch
public import proofs.«01_k».proof.Proof.Gen.RsFf1Ideal.Points
public import proofs.«01_k».proof.Proof.Gen.RsFf1Ideal.Frame
public import proofs.«01_k».proof.Proof.Gen.RsFf1RefIdeal
public import proofs.«01_k».proof.Proof.Gen.RsFf2
public import proofs.«01_k».proof.Proof.Gen.RsFf2.Skeleton
public import proofs.«01_k».proof.Proof.Gen.RsFf2.Launch
public import proofs.«01_k».proof.Proof.Gen.RsFf2.Points
public import proofs.«01_k».proof.Proof.Gen.RsFf2.Frame
public import proofs.«01_k».proof.Proof.Gen.RsFf2Ideal
public import proofs.«01_k».proof.Proof.Gen.RsFf2Ideal.Skeleton
public import proofs.«01_k».proof.Proof.Gen.RsFf2Ideal.Launch
public import proofs.«01_k».proof.Proof.Gen.RsFf2Ideal.Points
public import proofs.«01_k».proof.Proof.Gen.RsFf2Ideal.Frame
public import proofs.«01_k».proof.Proof.Gen.RsFf2RefIdeal
public import proofs.«01_k».proof.Proof.Gen.RsOut
public import proofs.«01_k».proof.Proof.Gen.RsOut.Skeleton
public import proofs.«01_k».proof.Proof.Gen.RsOut.Launch
public import proofs.«01_k».proof.Proof.Gen.RsOut.Points
public import proofs.«01_k».proof.Proof.Gen.RsOut.Frame
public import proofs.«01_k».proof.Proof.Gen.RsOutIdeal
public import proofs.«01_k».proof.Proof.Gen.RsOutIdeal.Skeleton
public import proofs.«01_k».proof.Proof.Gen.RsOutIdeal.Launch
public import proofs.«01_k».proof.Proof.Gen.RsOutIdeal.Points
public import proofs.«01_k».proof.Proof.Gen.RsOutIdeal.Frame
public import proofs.«01_k».proof.Proof.Gen.RsOutRefIdeal
public import proofs.«01_k».proof.Proof.Gen.RsIn
public import proofs.«01_k».proof.Proof.Gen.RsIn.Skeleton
public import proofs.«01_k».proof.Proof.Gen.RsIn.Launch
public import proofs.«01_k».proof.Proof.Gen.RsIn.Points
public import proofs.«01_k».proof.Proof.Gen.RsIn.Frame
public import proofs.«01_k».proof.Proof.Gen.RsInIdeal
public import proofs.«01_k».proof.Proof.Gen.RsInIdeal.Skeleton
public import proofs.«01_k».proof.Proof.Gen.RsInIdeal.Launch
public import proofs.«01_k».proof.Proof.Gen.RsInIdeal.Points
public import proofs.«01_k».proof.Proof.Gen.RsInIdeal.Frame
public import proofs.«01_k».proof.Proof.Gen.RsInRefIdeal
public import proofs.«01_k».proof.Proof.Gen.RsPool
public import proofs.«01_k».proof.Proof.Gen.RsPool.Skeleton
public import proofs.«01_k».proof.Proof.Gen.RsPool.Launch
public import proofs.«01_k».proof.Proof.Gen.RsPool.Points
public import proofs.«01_k».proof.Proof.Gen.RsPool.Frame
public import proofs.«01_k».proof.Proof.Gen.RsPoolIdeal
public import proofs.«01_k».proof.Proof.Gen.RsPoolIdeal.Skeleton
public import proofs.«01_k».proof.Proof.Gen.RsPoolIdeal.Launch
public import proofs.«01_k».proof.Proof.Gen.RsPoolIdeal.Points
public import proofs.«01_k».proof.Proof.Gen.RsPoolIdeal.Frame
public import proofs.«01_k».proof.Proof.Gen.RsPoolRefIdeal
public import proofs.«01_k».proof.Proof.Gen.Pre_ff2_finite
public import proofs.«01_k».proof.Proof.Gen.Pre_dh1_finite
public import proofs.«01_k».proof.Proof.Gen.Pre_dh0_finite
public import proofs.«01_k».proof.Proof.Gen.Pre_rs_ff1_slot
public import proofs.«01_k».proof.Proof.Gen.Pre_rs_ff2_slot
public import proofs.«01_k».proof.Proof.Gen.Pre_rs_out_slot
public import proofs.«01_k».proof.Proof.Gen.Pre_rs_inp_slot
public import proofs.«01_k».proof.Proof.Gen.Pre_rs_pool_slot
public import proofs.«01_k».proof.Proof.Gen.Dh0Ideal.Value
public import proofs.«01_k».proof.Proof.Gen.Dh0RefIdeal.Run
public import proofs.«01_k».proof.Proof.Gen.Dh0RefIdeal.Read
public import proofs.«01_k».proof.Proof.Gen.Dh1Ideal.Value
public import proofs.«01_k».proof.Proof.Gen.Dh1RefIdeal.Run
public import proofs.«01_k».proof.Proof.Gen.Dh1RefIdeal.Read
public import proofs.«01_k».proof.Proof.Gen.DmixAttIdeal.Value
public import proofs.«01_k».proof.Proof.Gen.DmixAttRefIdeal.Run
public import proofs.«01_k».proof.Proof.Gen.DmixAttRefIdeal.Read
public import proofs.«01_k».proof.Proof.Gen.DmixPoolIdeal.Value
public import proofs.«01_k».proof.Proof.Gen.DmixPoolRefIdeal.Run
public import proofs.«01_k».proof.Proof.Gen.DmixPoolRefIdeal.Read
public import proofs.«01_k».proof.Proof.Gen.Dw1Ideal.Value
public import proofs.«01_k».proof.Proof.Gen.Dw1RefIdeal.Run
public import proofs.«01_k».proof.Proof.Gen.Dw1RefIdeal.Read
public import proofs.«01_k».proof.Proof.Gen.Dw2Ideal.Value
public import proofs.«01_k».proof.Proof.Gen.Dw2RefIdeal.Run
public import proofs.«01_k».proof.Proof.Gen.Dw2RefIdeal.Read
public import proofs.«01_k».proof.Proof.Gen.DwinIdeal.Value
public import proofs.«01_k».proof.Proof.Gen.DwinRefIdeal.Run
public import proofs.«01_k».proof.Proof.Gen.DwinRefIdeal.Read
public import proofs.«01_k».proof.Proof.Gen.DwoutIdeal.Value
public import proofs.«01_k».proof.Proof.Gen.DwoutRefIdeal.Run
public import proofs.«01_k».proof.Proof.Gen.DwoutRefIdeal.Read
public import proofs.«01_k».proof.Proof.Gen.Ff1Ideal.Value
public import proofs.«01_k».proof.Proof.Gen.Ff1RefIdeal.Run
public import proofs.«01_k».proof.Proof.Gen.Ff1RefIdeal.Read
public import proofs.«01_k».proof.Proof.Gen.Ff2Ideal.Value
public import proofs.«01_k».proof.Proof.Gen.Ff2RefIdeal.Run
public import proofs.«01_k».proof.Proof.Gen.Ff2RefIdeal.Read
public import proofs.«01_k».proof.Proof.Gen.KernelIdeal.Value
public import proofs.«01_k».proof.Proof.Gen.LnInIdeal.Value
public import proofs.«01_k».proof.Proof.Gen.LnInRefIdeal.Run
public import proofs.«01_k».proof.Proof.Gen.LnInRefIdeal.Read
public import proofs.«01_k».proof.Proof.Gen.MixIdeal.Value
public import proofs.«01_k».proof.Proof.Gen.MixRefIdeal.Run
public import proofs.«01_k».proof.Proof.Gen.MixRefIdeal.Read
public import proofs.«01_k».proof.Proof.Gen.ReferenceIdeal.Run
public import proofs.«01_k».proof.Proof.Gen.ReferenceIdeal.Read
public import proofs.«01_k».proof.Proof.Gen.RsFf1RefIdeal.Run
public import proofs.«01_k».proof.Proof.Gen.RsFf1RefIdeal.Read
public import proofs.«01_k».proof.Proof.Gen.RsFf2RefIdeal.Run
public import proofs.«01_k».proof.Proof.Gen.RsFf2RefIdeal.Read
public import proofs.«01_k».proof.Proof.Gen.RsInRefIdeal.Run
public import proofs.«01_k».proof.Proof.Gen.RsInRefIdeal.Read
public import proofs.«01_k».proof.Proof.Gen.RsOutRefIdeal.Run
public import proofs.«01_k».proof.Proof.Gen.RsOutRefIdeal.Read
public import proofs.«01_k».proof.Proof.Gen.RsPoolRefIdeal.Run
public import proofs.«01_k».proof.Proof.Gen.RsPoolRefIdeal.Read
public import proofs.«01_k».proof.Proof.Gen.SmallRefIdeal.Run
public import proofs.«01_k».proof.Proof.Gen.SmallRefIdeal.Read
public import proofs.«01_k».proof.Proof.Gen.UpoolIdeal.Value
public import proofs.«01_k».proof.Proof.Gen.UpoolRefIdeal.Run
public import proofs.«01_k».proof.Proof.Gen.UpoolRefIdeal.Read
public import proofs.«01_k».proof.Proof.Gen.UqkvIdeal.Value
public import proofs.«01_k».proof.Proof.Gen.UqkvRefIdeal.Run
public import proofs.«01_k».proof.Proof.Gen.UqkvRefIdeal.Read
public import proofs.«01_k».proof.Proof.Dff1
public import proofs.«01_k».proof.Proof.Dw2
public import proofs.«01_k».proof.Proof.Dw1
public import proofs.«01_k».proof.Proof.Dwout
public import proofs.«01_k».proof.Proof.DmixAtt
public import proofs.«01_k».proof.Proof.DmixPool
public import proofs.«01_k».proof.Proof.Dwin
public import proofs.«01_k».proof.Proof.Ff1
public import proofs.«01_k».proof.Proof.Upool
public import proofs.«01_k».proof.Proof.Uqkv
public import proofs.«01_k».proof.Proof.Mix
public import proofs.«01_k».proof.Proof.LnIn
public import proofs.«01_k».proof.Proof.Small
public import proofs.«01_k».proof.Proof.Ff2
public import proofs.«01_k».proof.Proof.Dh1
public import proofs.«01_k».proof.Proof.Dh0
public import proofs.«01_k».proof.Proof.RsFf1
public import proofs.«01_k».proof.Proof.RsFf2
public import proofs.«01_k».proof.Proof.RsOut
public import proofs.«01_k».proof.Proof.RsIn
public import proofs.«01_k».proof.Proof.RsPool
public import Idealize.ShloMosaic.Adequacy
public import Idealize.ShloMosaic.Init

@[expose] public section

noncomputable section

namespace Cert.Proof

open Idealize.ShloMosaic Idealize.SL.Sem Cert.Kernel

/-- Frames first, then for each call that nothing was rewritten and that it computes the reference's value. -/
theorem claim : Cert.Claim :=
  ⟨Cert.Kernel.Gen.facts, Cert.KernelIdeal.Gen.facts, Cert.ReferenceIdeal.Gen.facts, Cert.Dw2.Gen.facts, Cert.Dw2Ideal.Gen.facts, Cert.Dw2RefIdeal.Gen.facts, Cert.Dw1.Gen.facts, Cert.Dw1Ideal.Gen.facts, Cert.Dw1RefIdeal.Gen.facts, Cert.Dwout.Gen.facts, Cert.DwoutIdeal.Gen.facts, Cert.DwoutRefIdeal.Gen.facts, Cert.DmixAtt.Gen.facts, Cert.DmixAttIdeal.Gen.facts, Cert.DmixAttRefIdeal.Gen.facts, Cert.DmixPool.Gen.facts, Cert.DmixPoolIdeal.Gen.facts, Cert.DmixPoolRefIdeal.Gen.facts, Cert.Dwin.Gen.facts, Cert.DwinIdeal.Gen.facts, Cert.DwinRefIdeal.Gen.facts, Cert.Ff1.Gen.facts, Cert.Ff1Ideal.Gen.facts, Cert.Ff1RefIdeal.Gen.facts, Cert.Upool.Gen.facts, Cert.UpoolIdeal.Gen.facts, Cert.UpoolRefIdeal.Gen.facts, Cert.Uqkv.Gen.facts, Cert.UqkvIdeal.Gen.facts, Cert.UqkvRefIdeal.Gen.facts, Cert.Mix.Gen.facts, Cert.MixIdeal.Gen.facts, Cert.MixRefIdeal.Gen.facts, Cert.LnIn.Gen.facts, Cert.LnInIdeal.Gen.facts, Cert.LnInRefIdeal.Gen.facts, Cert.Small.Gen.facts, Cert.SmallIdeal.Gen.facts, Cert.SmallRefIdeal.Gen.facts, Cert.Ff2.Gen.facts, Cert.Ff2Ideal.Gen.facts, Cert.Ff2RefIdeal.Gen.facts, Cert.Dh1.Gen.facts, Cert.Dh1Ideal.Gen.facts, Cert.Dh1RefIdeal.Gen.facts, Cert.Dh0.Gen.facts, Cert.Dh0Ideal.Gen.facts, Cert.Dh0RefIdeal.Gen.facts, Cert.RsFf1.Gen.facts, Cert.RsFf1Ideal.Gen.facts, Cert.RsFf1RefIdeal.Gen.facts, Cert.RsFf2.Gen.facts, Cert.RsFf2Ideal.Gen.facts, Cert.RsFf2RefIdeal.Gen.facts, Cert.RsOut.Gen.facts, Cert.RsOutIdeal.Gen.facts, Cert.RsOutRefIdeal.Gen.facts, Cert.RsIn.Gen.facts, Cert.RsInIdeal.Gen.facts, Cert.RsInRefIdeal.Gen.facts, Cert.RsPool.Gen.facts, Cert.RsPoolIdeal.Gen.facts, Cert.RsPoolRefIdeal.Gen.facts, Cert.Pre_ff2_finite.Gen.facts, Cert.Pre_dh1_finite.Gen.facts, Cert.Pre_dh0_finite.Gen.facts, Cert.Pre_rs_ff1_slot.Gen.facts, Cert.Pre_rs_ff2_slot.Gen.facts, Cert.Pre_rs_out_slot.Gen.facts, Cert.Pre_rs_inp_slot.Gen.facts, Cert.Pre_rs_pool_slot.Gen.facts,
    fun m ρ _ => Cert.Kernel.Gen.frame m ρ,
    fun m ρ _ => Cert.KernelIdeal.Gen.frame m ρ,
    Cert.KernelIdeal.Hand.refFrame,
    fun m ρ _ => Cert.Dw2.Gen.frame m ρ,
    fun m ρ _ => Cert.Dw2Ideal.Gen.frame m ρ,
    Cert.Dw2Ideal.Hand.refFrame,
    fun m ρ _ => Cert.Dw1.Gen.frame m ρ,
    fun m ρ _ => Cert.Dw1Ideal.Gen.frame m ρ,
    Cert.Dw1Ideal.Hand.refFrame,
    fun m ρ _ => Cert.Dwout.Gen.frame m ρ,
    fun m ρ _ => Cert.DwoutIdeal.Gen.frame m ρ,
    Cert.DwoutIdeal.Hand.refFrame,
    fun m ρ _ => Cert.DmixAtt.Gen.frame m ρ,
    fun m ρ _ => Cert.DmixAttIdeal.Gen.frame m ρ,
    Cert.DmixAttIdeal.Hand.refFrame,
    fun m ρ _ => Cert.DmixPool.Gen.frame m ρ,
    fun m ρ _ => Cert.DmixPoolIdeal.Gen.frame m ρ,
    Cert.DmixPoolIdeal.Hand.refFrame,
    fun m ρ _ => Cert.Dwin.Gen.frame m ρ,
    fun m ρ _ => Cert.DwinIdeal.Gen.frame m ρ,
    Cert.DwinIdeal.Hand.refFrame,
    fun m ρ _ => Cert.Ff1.Gen.frame m ρ,
    fun m ρ _ => Cert.Ff1Ideal.Gen.frame m ρ,
    Cert.Ff1Ideal.Hand.refFrame,
    fun m ρ _ => Cert.Upool.Gen.frame m ρ,
    fun m ρ _ => Cert.UpoolIdeal.Gen.frame m ρ,
    Cert.UpoolIdeal.Hand.refFrame,
    fun m ρ _ => Cert.Uqkv.Gen.frame m ρ,
    fun m ρ _ => Cert.UqkvIdeal.Gen.frame m ρ,
    Cert.UqkvIdeal.Hand.refFrame,
    fun m ρ _ => Cert.Mix.Gen.frame m ρ,
    fun m ρ _ => Cert.MixIdeal.Gen.frame m ρ,
    Cert.MixIdeal.Hand.refFrame,
    fun m ρ _ => Cert.LnIn.Gen.frame m ρ,
    fun m ρ _ => Cert.LnInIdeal.Gen.frame m ρ,
    Cert.LnInIdeal.Hand.refFrame,
    fun m ρ _ => Cert.Small.Gen.frame m ρ,
    fun m ρ _ => Cert.SmallIdeal.Gen.frame m ρ,
    Cert.SmallIdeal.Hand.refFrame,
    fun m ρ _ => Cert.Ff2.Gen.frame m ρ,
    fun m ρ _ => Cert.Ff2Ideal.Gen.frame m ρ,
    fun m ρ _ => Cert.Ff2Ideal.Gen.frame m ρ,
    Cert.Ff2Ideal.Hand.refFrame,
    Cert.Ff2Ideal.Hand.refFramePre,
    fun m ρ _ => Cert.Dh1.Gen.frame m ρ,
    fun m ρ _ => Cert.Dh1Ideal.Gen.frame m ρ,
    fun m ρ _ => Cert.Dh1Ideal.Gen.frame m ρ,
    Cert.Dh1Ideal.Hand.refFrame,
    Cert.Dh1Ideal.Hand.refFramePre,
    fun m ρ _ => Cert.Dh0.Gen.frame m ρ,
    fun m ρ _ => Cert.Dh0Ideal.Gen.frame m ρ,
    fun m ρ _ => Cert.Dh0Ideal.Gen.frame m ρ,
    Cert.Dh0Ideal.Hand.refFrame,
    Cert.Dh0Ideal.Hand.refFramePre,
    fun m ρ h => Cert.RsFf1.Gen.frame m ρ (Cert.RsFf1.Hand.ok_of_pre m h),
    fun m ρ h => Cert.RsFf1Ideal.Gen.frame m ρ (Cert.RsFf1Ideal.Hand.ok_of_pre m h),
    Cert.RsFf1Ideal.Hand.refFrame,
    Cert.RsFf1Ideal.Hand.refFramePre,
    fun m ρ h => Cert.RsFf2.Gen.frame m ρ (Cert.RsFf2.Hand.ok_of_pre m h),
    fun m ρ h => Cert.RsFf2Ideal.Gen.frame m ρ (Cert.RsFf2Ideal.Hand.ok_of_pre m h),
    Cert.RsFf2Ideal.Hand.refFrame,
    Cert.RsFf2Ideal.Hand.refFramePre,
    fun m ρ h => Cert.RsOut.Gen.frame m ρ (Cert.RsOut.Hand.ok_of_pre m h),
    fun m ρ h => Cert.RsOutIdeal.Gen.frame m ρ (Cert.RsOutIdeal.Hand.ok_of_pre m h),
    Cert.RsOutIdeal.Hand.refFrame,
    Cert.RsOutIdeal.Hand.refFramePre,
    fun m ρ h => Cert.RsIn.Gen.frame m ρ (Cert.RsIn.Hand.ok_of_pre m h),
    fun m ρ h => Cert.RsInIdeal.Gen.frame m ρ (Cert.RsInIdeal.Hand.ok_of_pre m h),
    Cert.RsInIdeal.Hand.refFrame,
    Cert.RsInIdeal.Hand.refFramePre,
    fun m ρ h => Cert.RsPool.Gen.frame m ρ (Cert.RsPool.Hand.ok_of_pre m h),
    fun m ρ h => Cert.RsPoolIdeal.Gen.frame m ρ (Cert.RsPoolIdeal.Hand.ok_of_pre m h),
    Cert.RsPoolIdeal.Hand.refFrame,
    Cert.RsPoolIdeal.Hand.refFramePre,
    trivial,
    Cert.KernelIdeal.Hand.tie,
    trivial,
    Cert.Dw2Ideal.Hand.tie,
    trivial,
    Cert.Dw1Ideal.Hand.tie,
    trivial,
    Cert.DwoutIdeal.Hand.tie,
    trivial,
    Cert.DmixAttIdeal.Hand.tie,
    trivial,
    Cert.DmixPoolIdeal.Hand.tie,
    trivial,
    Cert.DwinIdeal.Hand.tie,
    trivial,
    Cert.Ff1Ideal.Hand.tie,
    trivial,
    Cert.UpoolIdeal.Hand.tie,
    trivial,
    Cert.UqkvIdeal.Hand.tie,
    trivial,
    Cert.MixIdeal.Hand.tie,
    trivial,
    Cert.LnInIdeal.Hand.tie,
    trivial,
    Cert.SmallIdeal.Hand.tie,
    trivial,
    Cert.Ff2Ideal.Hand.tie,
    trivial,
    Cert.Dh1Ideal.Hand.tie,
    trivial,
    Cert.Dh0Ideal.Hand.tie,
    trivial,
    Cert.RsFf1Ideal.Hand.tie,
    trivial,
    Cert.RsFf2Ideal.Hand.tie,
    trivial,
    Cert.RsOutIdeal.Hand.tie,
    trivial,
    Cert.RsInIdeal.Hand.tie,
    trivial,
    Cert.RsPoolIdeal.Hand.tie⟩

end Cert.Proof

end
